-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Dwdown (m : (ℓ : Loc Cert.Dwdown.nD Cert.Dwdown.τ Cert.Dwdown.sig) → Buf (Elt Bits) ℓ) : Prop :=
  True

def Pre_DwdownIdeal (m : (ℓ : Loc Cert.DwdownIdeal.nD Cert.DwdownIdeal.τ Cert.DwdownIdeal.sig) → Buf (Elt Ideal) ℓ) : Prop :=
  True

def Pre_DwdownRefIdeal (m : (ℓ : Loc Cert.DwdownRefIdeal.nD Cert.DwdownRefIdeal.τ Cert.DwdownRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dmid (m : (ℓ : Loc Cert.Dmid.nD Cert.Dmid.τ Cert.Dmid.sig) → Buf (Elt Bits) ℓ) : Prop :=
  True

def Pre_DmidIdeal (m : (ℓ : Loc Cert.DmidIdeal.nD Cert.DmidIdeal.τ Cert.DmidIdeal.sig) → Buf (Elt Ideal) ℓ) : Prop :=
  True

def Pre_DmidIdeal_finite_dmid [hPre_finite_dmid : Cert.Pre_finite_dmid.Facts] (m : (ℓ : Loc Cert.DmidIdeal.nD Cert.DmidIdeal.τ Cert.DmidIdeal.sig) → Buf (Elt Ideal) ℓ) : Prop :=
  ∀ c : Dev Cert.DmidIdeal.nD,
    (Cert.Pre_finite_dmid.fn (F := Ideal) (m ((c.tc : Thread Cert.DmidIdeal.nD Cert.DmidIdeal.τ).loc Cert.DmidIdeal.main_arg0)) (m ((c.tc : Thread Cert.DmidIdeal.nD Cert.DmidIdeal.τ).loc Cert.DmidIdeal.main_arg1)) (m ((c.tc : Thread Cert.DmidIdeal.nD Cert.DmidIdeal.τ).loc Cert.DmidIdeal.main_arg2))).1 = (fun _ => 1#1)
    ∧ (Cert.Pre_finite_dmid.fn (F := Ideal) (m ((c.tc : Thread Cert.DmidIdeal.nD Cert.DmidIdeal.τ).loc Cert.DmidIdeal.main_arg0)) (m ((c.tc : Thread Cert.DmidIdeal.nD Cert.DmidIdeal.τ).loc Cert.DmidIdeal.main_arg1)) (m ((c.tc : Thread Cert.DmidIdeal.nD Cert.DmidIdeal.τ).loc Cert.DmidIdeal.main_arg2))).2.1 = (fun _ => 1#1)
    ∧ (Cert.Pre_finite_dmid.fn (F := Ideal) (m ((c.tc : Thread Cert.DmidIdeal.nD Cert.DmidIdeal.τ).loc Cert.DmidIdeal.main_arg0)) (m ((c.tc : Thread Cert.DmidIdeal.nD Cert.DmidIdeal.τ).loc Cert.DmidIdeal.main_arg1)) (m ((c.tc : Thread Cert.DmidIdeal.nD Cert.DmidIdeal.τ).loc Cert.DmidIdeal.main_arg2))).2.2 = (fun _ => 1#1)

def Pre_DmidRefIdeal (m : (ℓ : Loc Cert.DmidRefIdeal.nD Cert.DmidRefIdeal.τ Cert.DmidRefIdeal.sig) → Buf (Elt Ideal) ℓ) : Prop :=
  True

def Pre_DmidRefIdeal_finite_dmid [hPre_finite_dmid : Cert.Pre_finite_dmid.Facts] (m : (ℓ : Loc Cert.DmidRefIdeal.nD Cert.DmidRefIdeal.τ Cert.DmidRefIdeal.sig) → Buf (Elt Ideal) ℓ) : Prop :=
  ∀ c : Dev Cert.DmidRefIdeal.nD,
    (Cert.Pre_finite_dmid.fn (F := Ideal) (m ((c.tc : Thread Cert.DmidRefIdeal.nD Cert.DmidRefIdeal.τ).loc Cert.DmidRefIdeal.main_arg0)) (m ((c.tc : Thread Cert.DmidRefIdeal.nD Cert.DmidRefIdeal.τ).loc Cert.DmidRefIdeal.main_arg1)) (m ((c.tc : Thread Cert.DmidRefIdeal.nD Cert.DmidRefIdeal.τ).loc Cert.DmidRefIdeal.main_arg2))).1 = (fun _ => 1#1)
    ∧ (Cert.Pre_finite_dmid.fn (F := Ideal) (m ((c.tc : Thread Cert.DmidRefIdeal.nD Cert.DmidRefIdeal.τ).loc Cert.DmidRefIdeal.main_arg0)) (m ((c.tc : Thread Cert.DmidRefIdeal.nD Cert.DmidRefIdeal.τ).loc Cert.DmidRefIdeal.main_arg1)) (m ((c.tc : Thread Cert.DmidRefIdeal.nD Cert.DmidRefIdeal.τ).loc Cert.DmidRefIdeal.main_arg2))).2.1 = (fun _ => 1#1)
    ∧ (Cert.Pre_finite_dmid.fn (F := Ideal) (m ((c.tc : Thread Cert.DmidRefIdeal.nD Cert.DmidRefIdeal.τ).loc Cert.DmidRefIdeal.main_arg0)) (m ((c.tc : Thread Cert.DmidRefIdeal.nD Cert.DmidRefIdeal.τ).loc Cert.DmidRefIdeal.main_arg1)) (m ((c.tc : Thread Cert.DmidRefIdeal.nD Cert.DmidRefIdeal.τ).loc Cert.DmidRefIdeal.main_arg2))).2.2 = (fun _ => 1#1)

def Pre_Dconv (m : (ℓ : Loc Cert.Dconv.nD Cert.Dconv.τ Cert.Dconv.sig) → Buf (Elt Bits) ℓ) : Prop :=
  True

def Pre_DconvIdeal (m : (ℓ : Loc Cert.DconvIdeal.nD Cert.DconvIdeal.τ Cert.DconvIdeal.sig) → Buf (Elt Ideal) ℓ) : Prop :=
  True

def Pre_DconvRefIdeal (m : (ℓ : Loc Cert.DconvRefIdeal.nD Cert.DconvRefIdeal.τ Cert.DconvRefIdeal.sig) → Buf (Elt Ideal) ℓ) : Prop :=
  True

def Pre_Dwup (m : (ℓ : Loc Cert.Dwup.nD Cert.Dwup.τ Cert.Dwup.sig) → Buf (Elt Bits) ℓ) : Prop :=
  True

def Pre_DwupIdeal (m : (ℓ : Loc Cert.DwupIdeal.nD Cert.DwupIdeal.τ Cert.DwupIdeal.sig) → Buf (Elt Ideal) ℓ) : Prop :=
  True

def Pre_DwupRefIdeal (m : (ℓ : Loc Cert.DwupRefIdeal.nD Cert.DwupRefIdeal.τ Cert.DwupRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormRefIdeal (m : (ℓ : Loc Cert.DnormRefIdeal.nD Cert.DnormRefIdeal.τ Cert.DnormRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dyout (m : (ℓ : Loc Cert.Dyout.nD Cert.Dyout.τ Cert.Dyout.sig) → Buf (Elt Bits) ℓ) : Prop :=
  True

def Pre_DyoutIdeal (m : (ℓ : Loc Cert.DyoutIdeal.nD Cert.DyoutIdeal.τ Cert.DyoutIdeal.sig) → Buf (Elt Ideal) ℓ) : Prop :=
  True

def Pre_DyoutRefIdeal (m : (ℓ : Loc Cert.DyoutRefIdeal.nD Cert.DyoutRefIdeal.τ Cert.DyoutRefIdeal.sig) → Buf (Elt Ideal) ℓ) : Prop :=
  True

def Pre_Dosb (m : (ℓ : Loc Cert.Dosb.nD Cert.Dosb.τ Cert.Dosb.sig) → Buf (Elt Bits) ℓ) : Prop :=
  True

def Pre_DosbIdeal (m : (ℓ : Loc Cert.DosbIdeal.nD Cert.DosbIdeal.τ Cert.DosbIdeal.sig) → Buf (Elt Ideal) ℓ) : Prop :=
  True

def Pre_DosbRefIdeal (m : (ℓ : Loc Cert.DosbRefIdeal.nD Cert.DosbRefIdeal.τ Cert.DosbRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dhin (m : (ℓ : Loc Cert.Dhin.nD Cert.Dhin.τ Cert.Dhin.sig) → Buf (Elt Bits) ℓ) : Prop :=
  True

def Pre_DhinIdeal (m : (ℓ : Loc Cert.DhinIdeal.nD Cert.DhinIdeal.τ Cert.DhinIdeal.sig) → Buf (Elt Ideal) ℓ) : Prop :=
  True

def Pre_DhinRefIdeal (m : (ℓ : Loc Cert.DhinRefIdeal.nD Cert.DhinRefIdeal.τ Cert.DhinRefIdeal.sig) → Buf (Elt Ideal) ℓ) : Prop :=
  True

def Pre_Dwkv (m : (ℓ : Loc Cert.Dwkv.nD Cert.Dwkv.τ Cert.Dwkv.sig) → Buf (Elt Bits) ℓ) : Prop :=
  True

def Pre_DwkvIdeal (m : (ℓ : Loc Cert.DwkvIdeal.nD Cert.DwkvIdeal.τ Cert.DwkvIdeal.sig) → Buf (Elt Ideal) ℓ) : Prop :=
  True

def Pre_DwkvRefIdeal (m : (ℓ : Loc Cert.DwkvRefIdeal.nD Cert.DwkvRefIdeal.τ Cert.DwkvRefIdeal.sig) → Buf (Elt Ideal) ℓ) : Prop :=
  True

def Pre_Dhkv (m : (ℓ : Loc Cert.Dhkv.nD Cert.Dhkv.τ Cert.Dhkv.sig) → Buf (Elt Bits) ℓ) : Prop :=
  True

def Pre_DhkvIdeal (m : (ℓ : Loc Cert.DhkvIdeal.nD Cert.DhkvIdeal.τ Cert.DhkvIdeal.sig) → Buf (Elt Ideal) ℓ) : Prop :=
  True

def Pre_DhkvRefIdeal (m : (ℓ : Loc Cert.DhkvRefIdeal.nD Cert.DhkvRefIdeal.τ Cert.DhkvRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Qp (m : (ℓ : Loc Cert.Qp.nD Cert.Qp.τ Cert.Qp.sig) → Buf (Elt Bits) ℓ) : Prop :=
  True

def Pre_QpIdeal (m : (ℓ : Loc Cert.QpIdeal.nD Cert.QpIdeal.τ Cert.QpIdeal.sig) → Buf (Elt Ideal) ℓ) : Prop :=
  True

def Pre_QpRefIdeal (m : (ℓ : Loc Cert.QpRefIdeal.nD Cert.QpRefIdeal.τ Cert.QpRefIdeal.sig) → Buf (Elt Ideal) ℓ) : Prop :=
  True

def Pre_Kvp (m : (ℓ : Loc Cert.Kvp.nD Cert.Kvp.τ Cert.Kvp.sig) → Buf (Elt Bits) ℓ) : Prop :=
  True

def Pre_KvpIdeal (m : (ℓ : Loc Cert.KvpIdeal.nD Cert.KvpIdeal.τ Cert.KvpIdeal.sig) → Buf (Elt Ideal) ℓ) : Prop :=
  True

def Pre_KvpRefIdeal (m : (ℓ : Loc Cert.KvpRefIdeal.nD Cert.KvpRefIdeal.τ Cert.KvpRefIdeal.sig) → Buf (Elt Ideal) ℓ) : Prop :=
  True

def Pre_Rnorm (m : (ℓ : Loc Cert.Rnorm.nD Cert.Rnorm.τ Cert.Rnorm.sig) → Buf (Elt Bits) ℓ) : Prop :=
  True

def Pre_RnormIdeal (m : (ℓ : Loc Cert.RnormIdeal.nD Cert.RnormIdeal.τ Cert.RnormIdeal.sig) → Buf (Elt Ideal) ℓ) : Prop :=
  True

def Pre_RnormRefIdeal (m : (ℓ : Loc Cert.RnormRefIdeal.nD Cert.RnormRefIdeal.τ Cert.RnormRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Qnorm (m : (ℓ : Loc Cert.Qnorm.nD Cert.Qnorm.τ Cert.Qnorm.sig) → Buf (Elt Bits) ℓ) : Prop :=
  True

def Pre_QnormIdeal (m : (ℓ : Loc Cert.QnormIdeal.nD Cert.QnormIdeal.τ Cert.QnormIdeal.sig) → Buf (Elt Ideal) ℓ) : Prop :=
  True

def Pre_QnormRefIdeal (m : (ℓ : Loc Cert.QnormRefIdeal.nD Cert.QnormRefIdeal.τ Cert.QnormRefIdeal.sig) → Buf (Elt Ideal) ℓ) : Prop :=
  True

def Pre_Kvpost (m : (ℓ : Loc Cert.Kvpost.nD Cert.Kvpost.τ Cert.Kvpost.sig) → Buf (Elt Bits) ℓ) : Prop :=
  True

def Pre_KvpostIdeal (m : (ℓ : Loc Cert.KvpostIdeal.nD Cert.KvpostIdeal.τ Cert.KvpostIdeal.sig) → Buf (Elt Ideal) ℓ) : Prop :=
  True

def Pre_KvpostRefIdeal (m : (ℓ : Loc Cert.KvpostRefIdeal.nD Cert.KvpostRefIdeal.τ Cert.KvpostRefIdeal.sig) → Buf (Elt Ideal) ℓ) : Prop :=
  True

def Pre_Dqnorm (m : (ℓ : Loc Cert.Dqnorm.nD Cert.Dqnorm.τ Cert.Dqnorm.sig) → Buf (Elt Bits) ℓ) : Prop :=
  True

def Pre_DqnormIdeal (m : (ℓ : Loc Cert.DqnormIdeal.nD Cert.DqnormIdeal.τ Cert.DqnormIdeal.sig) → Buf (Elt Ideal) ℓ) : Prop :=
  True

def Pre_DqnormRefIdeal (m : (ℓ : Loc Cert.DqnormRefIdeal.nD Cert.DqnormRefIdeal.τ Cert.DqnormRefIdeal.sig) → Buf (Elt Ideal) ℓ) : Prop :=
  True

def Pre_Dkvpost (m : (ℓ : Loc Cert.Dkvpost.nD Cert.Dkvpost.τ Cert.Dkvpost.sig) → Buf (Elt Bits) ℓ) : Prop :=
  True

def Pre_DkvpostIdeal (m : (ℓ : Loc Cert.DkvpostIdeal.nD Cert.DkvpostIdeal.τ Cert.DkvpostIdeal.sig) → Buf (Elt Ideal) ℓ) : Prop :=
  True

def Pre_DkvpostRefIdeal (m : (ℓ : Loc Cert.DkvpostRefIdeal.nD Cert.DkvpostRefIdeal.τ Cert.DkvpostRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Gpost (m : (ℓ : Loc Cert.Gpost.nD Cert.Gpost.τ Cert.Gpost.sig) → Buf (Elt Bits) ℓ) : Prop :=
  True

def Pre_GpostIdeal (m : (ℓ : Loc Cert.GpostIdeal.nD Cert.GpostIdeal.τ Cert.GpostIdeal.sig) → Buf (Elt Ideal) ℓ) : Prop :=
  True

def Pre_GpostRefIdeal (m : (ℓ : Loc Cert.GpostRefIdeal.nD Cert.GpostRefIdeal.τ Cert.GpostRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Adamr (m : (ℓ : Loc Cert.Adamr.nD Cert.Adamr.τ Cert.Adamr.sig) → Buf (Elt Bits) ℓ) : Prop :=
  True

def Pre_AdamrIdeal (m : (ℓ : Loc Cert.AdamrIdeal.nD Cert.AdamrIdeal.τ Cert.AdamrIdeal.sig) → Buf (Elt Ideal) ℓ) : Prop :=
  True

def Pre_AdamrRefIdeal (m : (ℓ : Loc Cert.AdamrRefIdeal.nD Cert.AdamrRefIdeal.τ Cert.AdamrRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dwdown [hDwdown : Cert.Dwdown.Facts] : Prop :=
  ∀ (m : (ℓ : Loc Cert.Dwdown.nD Cert.Dwdown.τ Cert.Dwdown.sig) → Buf (Elt Bits) ℓ) (g : Dev Cert.Dwdown.nD → PrngReg), Pre_Dwdown m →
    θ_run (Cert.Dwdown.defs (F := Bits)) (onTc (τ := Cert.Dwdown.τ) (Cert.Dwdown.main (F := Bits))) ⟨m, fun _ => 0, g⟩ (fun r => (∀ c : Dev Cert.Dwdown.nD,
      r.2.mem ((c.tc : Thread Cert.Dwdown.nD Cert.Dwdown.τ).loc Cert.Dwdown.main_arg0) = m ((c.tc : Thread Cert.Dwdown.nD Cert.Dwdown.τ).loc Cert.Dwdown.main_arg0)
      ∧ r.2.mem ((c.tc : Thread Cert.Dwdown.nD Cert.Dwdown.τ).loc Cert.Dwdown.main_arg1) = m ((c.tc : Thread Cert.Dwdown.nD Cert.Dwdown.τ).loc Cert.Dwdown.main_arg1))
      ∧ r.2.sem = fun _ => 0)

def quiescent_DwdownIdeal [hDwdownIdeal : Cert.DwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg), Pre_DwdownIdeal m →
    θ_run (Cert.DwdownIdeal.defs (F := Ideal)) (onTc (τ := Cert.DwdownIdeal.τ) (Cert.DwdownIdeal.main (F := Ideal))) ⟨m, fun _ => 0, g⟩ (fun r => (∀ c : Dev Cert.DwdownIdeal.nD,
      r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
      ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ r.2.sem = fun _ => 0)

def quiescent_DwdownRefIdeal [hDwdownRefIdeal : Cert.DwdownRefIdeal.Facts] : Prop :=
  ∀ (m : (ℓ : Loc Cert.DwdownRefIdeal.nD Cert.DwdownRefIdeal.τ Cert.DwdownRefIdeal.sig) → Buf (Elt Ideal) ℓ) (g : Dev Cert.DwdownRefIdeal.nD → PrngReg), Pre_DwdownRefIdeal m →
    θ_run (Cert.DwdownRefIdeal.defs (F := Ideal)) (onTc (τ := Cert.DwdownRefIdeal.τ) (Cert.DwdownRefIdeal.main (F := Ideal))) ⟨m, fun _ => 0, g⟩ (fun r => (∀ c : Dev Cert.DwdownRefIdeal.nD,
      r.2.mem ((c.tc : Thread Cert.DwdownRefIdeal.nD Cert.DwdownRefIdeal.τ).loc Cert.DwdownRefIdeal.main_arg0) = m ((c.tc : Thread Cert.DwdownRefIdeal.nD Cert.DwdownRefIdeal.τ).loc Cert.DwdownRefIdeal.main_arg0)
      ∧ r.2.mem ((c.tc : Thread Cert.DwdownRefIdeal.nD Cert.DwdownRefIdeal.τ).loc Cert.DwdownRefIdeal.main_arg1) = m ((c.tc : Thread Cert.DwdownRefIdeal.nD Cert.DwdownRefIdeal.τ).loc Cert.DwdownRefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Dmid [hDmid : Cert.Dmid.Facts] : Prop :=
  ∀ (m : (ℓ : Loc Cert.Dmid.nD Cert.Dmid.τ Cert.Dmid.sig) → Buf (Elt Bits) ℓ) (g : Dev Cert.Dmid.nD → PrngReg), Pre_Dmid m →
    θ_run (Cert.Dmid.defs (F := Bits)) (onTc (τ := Cert.Dmid.τ) (Cert.Dmid.main (F := Bits))) ⟨m, fun _ => 0, g⟩ (fun r => (∀ c : Dev Cert.Dmid.nD,
      r.2.mem ((c.tc : Thread Cert.Dmid.nD Cert.Dmid.τ).loc Cert.Dmid.main_arg0) = m ((c.tc : Thread Cert.Dmid.nD Cert.Dmid.τ).loc Cert.Dmid.main_arg0)
      ∧ r.2.mem ((c.tc : Thread Cert.Dmid.nD Cert.Dmid.τ).loc Cert.Dmid.main_arg1) = m ((c.tc : Thread Cert.Dmid.nD Cert.Dmid.τ).loc Cert.Dmid.main_arg1)
      ∧ r.2.mem ((c.tc : Thread Cert.Dmid.nD Cert.Dmid.τ).loc Cert.Dmid.main_arg2) = m ((c.tc : Thread Cert.Dmid.nD Cert.Dmid.τ).loc Cert.Dmid.main_arg2))
      ∧ r.2.sem = fun _ => 0)

def quiescent_DmidIdeal [hDmidIdeal : Cert.DmidIdeal.Facts] : Prop :=
  ∀ (m : (ℓ : Loc Cert.DmidIdeal.nD Cert.DmidIdeal.τ Cert.DmidIdeal.sig) → Buf (Elt Ideal) ℓ) (g : Dev Cert.DmidIdeal.nD → PrngReg), Pre_DmidIdeal m →
    θ_run (Cert.DmidIdeal.defs (F := Ideal)) (onTc (τ := Cert.DmidIdeal.τ) (Cert.DmidIdeal.main (F := Ideal))) ⟨m, fun _ => 0, g⟩ (fun r => (∀ c : Dev Cert.DmidIdeal.nD,
      r.2.mem ((c.tc : Thread Cert.DmidIdeal.nD Cert.DmidIdeal.τ).loc Cert.DmidIdeal.main_arg0) = m ((c.tc : Thread Cert.DmidIdeal.nD Cert.DmidIdeal.τ).loc Cert.DmidIdeal.main_arg0)
      ∧ r.2.mem ((c.tc : Thread Cert.DmidIdeal.nD Cert.DmidIdeal.τ).loc Cert.DmidIdeal.main_arg1) = m ((c.tc : Thread Cert.DmidIdeal.nD Cert.DmidIdeal.τ).loc Cert.DmidIdeal.main_arg1)
      ∧ r.2.mem ((c.tc : Thread Cert.DmidIdeal.nD Cert.DmidIdeal.τ).loc Cert.DmidIdeal.main_arg2) = m ((c.tc : Thread Cert.DmidIdeal.nD Cert.DmidIdeal.τ).loc Cert.DmidIdeal.main_arg2))
      ∧ r.2.sem = fun _ => 0)

def quiescent_DmidIdeal_pre_finite_dmid [hDmidIdeal : Cert.DmidIdeal.Facts] [hPre_finite_dmid : Cert.Pre_finite_dmid.Facts] : Prop :=
  ∀ (m : (ℓ : Loc Cert.DmidIdeal.nD Cert.DmidIdeal.τ Cert.DmidIdeal.sig) → Buf (Elt Ideal) ℓ) (g : Dev Cert.DmidIdeal.nD → PrngReg), Pre_DmidIdeal_finite_dmid m →
    θ_run (Cert.DmidIdeal.defs (F := Ideal)) (onTc (τ := Cert.DmidIdeal.τ) (Cert.DmidIdeal.main (F := Ideal))) ⟨m, fun _ => 0, g⟩ (fun r => (∀ c : Dev Cert.DmidIdeal.nD,
      r.2.mem ((c.tc : Thread Cert.DmidIdeal.nD Cert.DmidIdeal.τ).loc Cert.DmidIdeal.main_arg0) = m ((c.tc : Thread Cert.DmidIdeal.nD Cert.DmidIdeal.τ).loc Cert.DmidIdeal.main_arg0)
      ∧ r.2.mem ((c.tc : Thread Cert.DmidIdeal.nD Cert.DmidIdeal.τ).loc Cert.DmidIdeal.main_arg1) = m ((c.tc : Thread Cert.DmidIdeal.nD Cert.DmidIdeal.τ).loc Cert.DmidIdeal.main_arg1)
      ∧ r.2.mem ((c.tc : Thread Cert.DmidIdeal.nD Cert.DmidIdeal.τ).loc Cert.DmidIdeal.main_arg2) = m ((c.tc : Thread Cert.DmidIdeal.nD Cert.DmidIdeal.τ).loc Cert.DmidIdeal.main_arg2))
      ∧ r.2.sem = fun _ => 0)

def quiescent_DmidRefIdeal [hDmidRefIdeal : Cert.DmidRefIdeal.Facts] : Prop :=
  ∀ (m : (ℓ : Loc Cert.DmidRefIdeal.nD Cert.DmidRefIdeal.τ Cert.DmidRefIdeal.sig) → Buf (Elt Ideal) ℓ) (g : Dev Cert.DmidRefIdeal.nD → PrngReg), Pre_DmidRefIdeal m →
    θ_run (Cert.DmidRefIdeal.defs (F := Ideal)) (onTc (τ := Cert.DmidRefIdeal.τ) (Cert.DmidRefIdeal.main (F := Ideal))) ⟨m, fun _ => 0, g⟩ (fun r => (∀ c : Dev Cert.DmidRefIdeal.nD,
      r.2.mem ((c.tc : Thread Cert.DmidRefIdeal.nD Cert.DmidRefIdeal.τ).loc Cert.DmidRefIdeal.main_arg0) = m ((c.tc : Thread Cert.DmidRefIdeal.nD Cert.DmidRefIdeal.τ).loc Cert.DmidRefIdeal.main_arg0)
      ∧ r.2.mem ((c.tc : Thread Cert.DmidRefIdeal.nD Cert.DmidRefIdeal.τ).loc Cert.DmidRefIdeal.main_arg1) = m ((c.tc : Thread Cert.DmidRefIdeal.nD Cert.DmidRefIdeal.τ).loc Cert.DmidRefIdeal.main_arg1)
      ∧ r.2.mem ((c.tc : Thread Cert.DmidRefIdeal.nD Cert.DmidRefIdeal.τ).loc Cert.DmidRefIdeal.main_arg2) = m ((c.tc : Thread Cert.DmidRefIdeal.nD Cert.DmidRefIdeal.τ).loc Cert.DmidRefIdeal.main_arg2))
      ∧ r.2.sem = fun _ => 0)

def quiescent_DmidRefIdeal_pre_finite_dmid [hDmidRefIdeal : Cert.DmidRefIdeal.Facts] [hPre_finite_dmid : Cert.Pre_finite_dmid.Facts] : Prop :=
  ∀ (m : (ℓ : Loc Cert.DmidRefIdeal.nD Cert.DmidRefIdeal.τ Cert.DmidRefIdeal.sig) → Buf (Elt Ideal) ℓ) (g : Dev Cert.DmidRefIdeal.nD → PrngReg), Pre_DmidRefIdeal_finite_dmid m →
    θ_run (Cert.DmidRefIdeal.defs (F := Ideal)) (onTc (τ := Cert.DmidRefIdeal.τ) (Cert.DmidRefIdeal.main (F := Ideal))) ⟨m, fun _ => 0, g⟩ (fun r => (∀ c : Dev Cert.DmidRefIdeal.nD,
      r.2.mem ((c.tc : Thread Cert.DmidRefIdeal.nD Cert.DmidRefIdeal.τ).loc Cert.DmidRefIdeal.main_arg0) = m ((c.tc : Thread Cert.DmidRefIdeal.nD Cert.DmidRefIdeal.τ).loc Cert.DmidRefIdeal.main_arg0)
      ∧ r.2.mem ((c.tc : Thread Cert.DmidRefIdeal.nD Cert.DmidRefIdeal.τ).loc Cert.DmidRefIdeal.main_arg1) = m ((c.tc : Thread Cert.DmidRefIdeal.nD Cert.DmidRefIdeal.τ).loc Cert.DmidRefIdeal.main_arg1)
      ∧ r.2.mem ((c.tc : Thread Cert.DmidRefIdeal.nD Cert.DmidRefIdeal.τ).loc Cert.DmidRefIdeal.main_arg2) = m ((c.tc : Thread Cert.DmidRefIdeal.nD Cert.DmidRefIdeal.τ).loc Cert.DmidRefIdeal.main_arg2))
      ∧ r.2.sem = fun _ => 0)

def quiescent_Dconv [hDconv : Cert.Dconv.Facts] : Prop :=
  ∀ (m : (ℓ : Loc Cert.Dconv.nD Cert.Dconv.τ Cert.Dconv.sig) → Buf (Elt Bits) ℓ) (g : Dev Cert.Dconv.nD → PrngReg), Pre_Dconv m →
    θ_run (Cert.Dconv.defs (F := Bits)) (onTc (τ := Cert.Dconv.τ) (Cert.Dconv.main (F := Bits))) ⟨m, fun _ => 0, g⟩ (fun r => (∀ c : Dev Cert.Dconv.nD,
      r.2.mem ((c.tc : Thread Cert.Dconv.nD Cert.Dconv.τ).loc Cert.Dconv.main_arg0) = m ((c.tc : Thread Cert.Dconv.nD Cert.Dconv.τ).loc Cert.Dconv.main_arg0)
      ∧ r.2.mem ((c.tc : Thread Cert.Dconv.nD Cert.Dconv.τ).loc Cert.Dconv.main_arg1) = m ((c.tc : Thread Cert.Dconv.nD Cert.Dconv.τ).loc Cert.Dconv.main_arg1)
      ∧ r.2.mem ((c.tc : Thread Cert.Dconv.nD Cert.Dconv.τ).loc Cert.Dconv.main_arg2) = m ((c.tc : Thread Cert.Dconv.nD Cert.Dconv.τ).loc Cert.Dconv.main_arg2))
      ∧ r.2.sem = fun _ => 0)

def quiescent_DconvIdeal [hDconvIdeal : Cert.DconvIdeal.Facts] : Prop :=
  ∀ (m : (ℓ : Loc Cert.DconvIdeal.nD Cert.DconvIdeal.τ Cert.DconvIdeal.sig) → Buf (Elt Ideal) ℓ) (g : Dev Cert.DconvIdeal.nD → PrngReg), Pre_DconvIdeal m →
    θ_run (Cert.DconvIdeal.defs (F := Ideal)) (onTc (τ := Cert.DconvIdeal.τ) (Cert.DconvIdeal.main (F := Ideal))) ⟨m, fun _ => 0, g⟩ (fun r => (∀ c : Dev Cert.DconvIdeal.nD,
      r.2.mem ((c.tc : Thread Cert.DconvIdeal.nD Cert.DconvIdeal.τ).loc Cert.DconvIdeal.main_arg0) = m ((c.tc : Thread Cert.DconvIdeal.nD Cert.DconvIdeal.τ).loc Cert.DconvIdeal.main_arg0)
      ∧ r.2.mem ((c.tc : Thread Cert.DconvIdeal.nD Cert.DconvIdeal.τ).loc Cert.DconvIdeal.main_arg1) = m ((c.tc : Thread Cert.DconvIdeal.nD Cert.DconvIdeal.τ).loc Cert.DconvIdeal.main_arg1)
      ∧ r.2.mem ((c.tc : Thread Cert.DconvIdeal.nD Cert.DconvIdeal.τ).loc Cert.DconvIdeal.main_arg2) = m ((c.tc : Thread Cert.DconvIdeal.nD Cert.DconvIdeal.τ).loc Cert.DconvIdeal.main_arg2))
      ∧ r.2.sem = fun _ => 0)

def quiescent_DconvRefIdeal [hDconvRefIdeal : Cert.DconvRefIdeal.Facts] : Prop :=
  ∀ (m : (ℓ : Loc Cert.DconvRefIdeal.nD Cert.DconvRefIdeal.τ Cert.DconvRefIdeal.sig) → Buf (Elt Ideal) ℓ) (g : Dev Cert.DconvRefIdeal.nD → PrngReg), Pre_DconvRefIdeal m →
    θ_run (Cert.DconvRefIdeal.defs (F := Ideal)) (onTc (τ := Cert.DconvRefIdeal.τ) (Cert.DconvRefIdeal.main (F := Ideal))) ⟨m, fun _ => 0, g⟩ (fun r => (∀ c : Dev Cert.DconvRefIdeal.nD,
      r.2.mem ((c.tc : Thread Cert.DconvRefIdeal.nD Cert.DconvRefIdeal.τ).loc Cert.DconvRefIdeal.main_arg0) = m ((c.tc : Thread Cert.DconvRefIdeal.nD Cert.DconvRefIdeal.τ).loc Cert.DconvRefIdeal.main_arg0)
      ∧ r.2.mem ((c.tc : Thread Cert.DconvRefIdeal.nD Cert.DconvRefIdeal.τ).loc Cert.DconvRefIdeal.main_arg1) = m ((c.tc : Thread Cert.DconvRefIdeal.nD Cert.DconvRefIdeal.τ).loc Cert.DconvRefIdeal.main_arg1)
      ∧ r.2.mem ((c.tc : Thread Cert.DconvRefIdeal.nD Cert.DconvRefIdeal.τ).loc Cert.DconvRefIdeal.main_arg2) = m ((c.tc : Thread Cert.DconvRefIdeal.nD Cert.DconvRefIdeal.τ).loc Cert.DconvRefIdeal.main_arg2))
      ∧ r.2.sem = fun _ => 0)

def quiescent_Dwup [hDwup : Cert.Dwup.Facts] : Prop :=
  ∀ (m : (ℓ : Loc Cert.Dwup.nD Cert.Dwup.τ Cert.Dwup.sig) → Buf (Elt Bits) ℓ) (g : Dev Cert.Dwup.nD → PrngReg), Pre_Dwup m →
    θ_run (Cert.Dwup.defs (F := Bits)) (onTc (τ := Cert.Dwup.τ) (Cert.Dwup.main (F := Bits))) ⟨m, fun _ => 0, g⟩ (fun r => (∀ c : Dev Cert.Dwup.nD,
      r.2.mem ((c.tc : Thread Cert.Dwup.nD Cert.Dwup.τ).loc Cert.Dwup.main_arg0) = m ((c.tc : Thread Cert.Dwup.nD Cert.Dwup.τ).loc Cert.Dwup.main_arg0)
      ∧ r.2.mem ((c.tc : Thread Cert.Dwup.nD Cert.Dwup.τ).loc Cert.Dwup.main_arg1) = m ((c.tc : Thread Cert.Dwup.nD Cert.Dwup.τ).loc Cert.Dwup.main_arg1))
      ∧ r.2.sem = fun _ => 0)

def quiescent_DwupIdeal [hDwupIdeal : Cert.DwupIdeal.Facts] : Prop :=
  ∀ (m : (ℓ : Loc Cert.DwupIdeal.nD Cert.DwupIdeal.τ Cert.DwupIdeal.sig) → Buf (Elt Ideal) ℓ) (g : Dev Cert.DwupIdeal.nD → PrngReg), Pre_DwupIdeal m →
    θ_run (Cert.DwupIdeal.defs (F := Ideal)) (onTc (τ := Cert.DwupIdeal.τ) (Cert.DwupIdeal.main (F := Ideal))) ⟨m, fun _ => 0, g⟩ (fun r => (∀ c : Dev Cert.DwupIdeal.nD,
      r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
      ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ r.2.sem = fun _ => 0)

def quiescent_DwupRefIdeal [hDwupRefIdeal : Cert.DwupRefIdeal.Facts] : Prop :=
  ∀ (m : (ℓ : Loc Cert.DwupRefIdeal.nD Cert.DwupRefIdeal.τ Cert.DwupRefIdeal.sig) → Buf (Elt Ideal) ℓ) (g : Dev Cert.DwupRefIdeal.nD → PrngReg), Pre_DwupRefIdeal m →
    θ_run (Cert.DwupRefIdeal.defs (F := Ideal)) (onTc (τ := Cert.DwupRefIdeal.τ) (Cert.DwupRefIdeal.main (F := Ideal))) ⟨m, fun _ => 0, g⟩ (fun r => (∀ c : Dev Cert.DwupRefIdeal.nD,
      r.2.mem ((c.tc : Thread Cert.DwupRefIdeal.nD Cert.DwupRefIdeal.τ).loc Cert.DwupRefIdeal.main_arg0) = m ((c.tc : Thread Cert.DwupRefIdeal.nD Cert.DwupRefIdeal.τ).loc Cert.DwupRefIdeal.main_arg0)
      ∧ r.2.mem ((c.tc : Thread Cert.DwupRefIdeal.nD Cert.DwupRefIdeal.τ).loc Cert.DwupRefIdeal.main_arg1) = m ((c.tc : Thread Cert.DwupRefIdeal.nD Cert.DwupRefIdeal.τ).loc Cert.DwupRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2)
      ∧ r.2.mem ((c.tc : Thread Cert.Dnorm.nD Cert.Dnorm.τ).loc Cert.Dnorm.main_arg3) = m ((c.tc : Thread Cert.Dnorm.nD Cert.Dnorm.τ).loc Cert.Dnorm.main_arg3))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ r.2.sem = fun _ => 0)

def quiescent_DnormRefIdeal [hDnormRefIdeal : Cert.DnormRefIdeal.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1)
      ∧ r.2.mem ((c.tc : Thread Cert.DnormRefIdeal.nD Cert.DnormRefIdeal.τ).loc Cert.DnormRefIdeal.main_arg2) = m ((c.tc : Thread Cert.DnormRefIdeal.nD Cert.DnormRefIdeal.τ).loc Cert.DnormRefIdeal.main_arg2)
      ∧ r.2.mem ((c.tc : Thread Cert.DnormRefIdeal.nD Cert.DnormRefIdeal.τ).loc Cert.DnormRefIdeal.main_arg3) = m ((c.tc : Thread Cert.DnormRefIdeal.nD Cert.DnormRefIdeal.τ).loc Cert.DnormRefIdeal.main_arg3))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Dyout [hDyout : Cert.Dyout.Facts] : Prop :=
  ∀ (m : (ℓ : Loc Cert.Dyout.nD Cert.Dyout.τ Cert.Dyout.sig) → Buf (Elt Bits) ℓ) (g : Dev Cert.Dyout.nD → PrngReg), Pre_Dyout m →
    θ_run (Cert.Dyout.defs (F := Bits)) (onTc (τ := Cert.Dyout.τ) (Cert.Dyout.main (F := Bits))) ⟨m, fun _ => 0, g⟩ (fun r => (∀ c : Dev Cert.Dyout.nD,
      r.2.mem ((c.tc : Thread Cert.Dyout.nD Cert.Dyout.τ).loc Cert.Dyout.main_arg0) = m ((c.tc : Thread Cert.Dyout.nD Cert.Dyout.τ).loc Cert.Dyout.main_arg0)
      ∧ r.2.mem ((c.tc : Thread Cert.Dyout.nD Cert.Dyout.τ).loc Cert.Dyout.main_arg1) = m ((c.tc : Thread Cert.Dyout.nD Cert.Dyout.τ).loc Cert.Dyout.main_arg1))
      ∧ r.2.sem = fun _ => 0)

def quiescent_DyoutIdeal [hDyoutIdeal : Cert.DyoutIdeal.Facts] : Prop :=
  ∀ (m : (ℓ : Loc Cert.DyoutIdeal.nD Cert.DyoutIdeal.τ Cert.DyoutIdeal.sig) → Buf (Elt Ideal) ℓ) (g : Dev Cert.DyoutIdeal.nD → PrngReg), Pre_DyoutIdeal m →
    θ_run (Cert.DyoutIdeal.defs (F := Ideal)) (onTc (τ := Cert.DyoutIdeal.τ) (Cert.DyoutIdeal.main (F := Ideal))) ⟨m, fun _ => 0, g⟩ (fun r => (∀ c : Dev Cert.DyoutIdeal.nD,
      r.2.mem ((c.tc : Thread Cert.DyoutIdeal.nD Cert.DyoutIdeal.τ).loc Cert.DyoutIdeal.main_arg0) = m ((c.tc : Thread Cert.DyoutIdeal.nD Cert.DyoutIdeal.τ).loc Cert.DyoutIdeal.main_arg0)
      ∧ r.2.mem ((c.tc : Thread Cert.DyoutIdeal.nD Cert.DyoutIdeal.τ).loc Cert.DyoutIdeal.main_arg1) = m ((c.tc : Thread Cert.DyoutIdeal.nD Cert.DyoutIdeal.τ).loc Cert.DyoutIdeal.main_arg1))
      ∧ r.2.sem = fun _ => 0)

def quiescent_DyoutRefIdeal [hDyoutRefIdeal : Cert.DyoutRefIdeal.Facts] : Prop :=
  ∀ (m : (ℓ : Loc Cert.DyoutRefIdeal.nD Cert.DyoutRefIdeal.τ Cert.DyoutRefIdeal.sig) → Buf (Elt Ideal) ℓ) (g : Dev Cert.DyoutRefIdeal.nD → PrngReg), Pre_DyoutRefIdeal m →
    θ_run (Cert.DyoutRefIdeal.defs (F := Ideal)) (onTc (τ := Cert.DyoutRefIdeal.τ) (Cert.DyoutRefIdeal.main (F := Ideal))) ⟨m, fun _ => 0, g⟩ (fun r => (∀ c : Dev Cert.DyoutRefIdeal.nD,
      r.2.mem ((c.tc : Thread Cert.DyoutRefIdeal.nD Cert.DyoutRefIdeal.τ).loc Cert.DyoutRefIdeal.main_arg0) = m ((c.tc : Thread Cert.DyoutRefIdeal.nD Cert.DyoutRefIdeal.τ).loc Cert.DyoutRefIdeal.main_arg0)
      ∧ r.2.mem ((c.tc : Thread Cert.DyoutRefIdeal.nD Cert.DyoutRefIdeal.τ).loc Cert.DyoutRefIdeal.main_arg1) = m ((c.tc : Thread Cert.DyoutRefIdeal.nD Cert.DyoutRefIdeal.τ).loc Cert.DyoutRefIdeal.main_arg1))
      ∧ r.2.sem = fun _ => 0)

def quiescent_Dosb [hDosb : Cert.Dosb.Facts] : Prop :=
  ∀ (m : (ℓ : Loc Cert.Dosb.nD Cert.Dosb.τ Cert.Dosb.sig) → Buf (Elt Bits) ℓ) (g : Dev Cert.Dosb.nD → PrngReg), Pre_Dosb m →
    θ_run (Cert.Dosb.defs (F := Bits)) (onTc (τ := Cert.Dosb.τ) (Cert.Dosb.main (F := Bits))) ⟨m, fun _ => 0, g⟩ (fun r => (∀ c : Dev Cert.Dosb.nD,
      r.2.mem ((c.tc : Thread Cert.Dosb.nD Cert.Dosb.τ).loc Cert.Dosb.main_arg0) = m ((c.tc : Thread Cert.Dosb.nD Cert.Dosb.τ).loc Cert.Dosb.main_arg0)
      ∧ r.2.mem ((c.tc : Thread Cert.Dosb.nD Cert.Dosb.τ).loc Cert.Dosb.main_arg1) = m ((c.tc : Thread Cert.Dosb.nD Cert.Dosb.τ).loc Cert.Dosb.main_arg1))
      ∧ r.2.sem = fun _ => 0)

def quiescent_DosbIdeal [hDosbIdeal : Cert.DosbIdeal.Facts] : Prop :=
  ∀ (m : (ℓ : Loc Cert.DosbIdeal.nD Cert.DosbIdeal.τ Cert.DosbIdeal.sig) → Buf (Elt Ideal) ℓ) (g : Dev Cert.DosbIdeal.nD → PrngReg), Pre_DosbIdeal m →
    θ_run (Cert.DosbIdeal.defs (F := Ideal)) (onTc (τ := Cert.DosbIdeal.τ) (Cert.DosbIdeal.main (F := Ideal))) ⟨m, fun _ => 0, g⟩ (fun r => (∀ c : Dev Cert.DosbIdeal.nD,
      r.2.mem ((c.tc : Thread Cert.DosbIdeal.nD Cert.DosbIdeal.τ).loc Cert.DosbIdeal.main_arg0) = m ((c.tc : Thread Cert.DosbIdeal.nD Cert.DosbIdeal.τ).loc Cert.DosbIdeal.main_arg0)
      ∧ r.2.mem ((c.tc : Thread Cert.DosbIdeal.nD Cert.DosbIdeal.τ).loc Cert.DosbIdeal.main_arg1) = m ((c.tc : Thread Cert.DosbIdeal.nD Cert.DosbIdeal.τ).loc Cert.DosbIdeal.main_arg1))
      ∧ r.2.sem = fun _ => 0)

def quiescent_DosbRefIdeal [hDosbRefIdeal : Cert.DosbRefIdeal.Facts] : Prop :=
  ∀ (m : (ℓ : Loc Cert.DosbRefIdeal.nD Cert.DosbRefIdeal.τ Cert.DosbRefIdeal.sig) → Buf (Elt Ideal) ℓ) (g : Dev Cert.DosbRefIdeal.nD → PrngReg), Pre_DosbRefIdeal m →
    θ_run (Cert.DosbRefIdeal.defs (F := Ideal)) (onTc (τ := Cert.DosbRefIdeal.τ) (Cert.DosbRefIdeal.main (F := Ideal))) ⟨m, fun _ => 0, g⟩ (fun r => (∀ c : Dev Cert.DosbRefIdeal.nD,
      r.2.mem ((c.tc : Thread Cert.DosbRefIdeal.nD Cert.DosbRefIdeal.τ).loc Cert.DosbRefIdeal.main_arg0) = m ((c.tc : Thread Cert.DosbRefIdeal.nD Cert.DosbRefIdeal.τ).loc Cert.DosbRefIdeal.main_arg0)
      ∧ r.2.mem ((c.tc : Thread Cert.DosbRefIdeal.nD Cert.DosbRefIdeal.τ).loc Cert.DosbRefIdeal.main_arg1) = m ((c.tc : Thread Cert.DosbRefIdeal.nD Cert.DosbRefIdeal.τ).loc Cert.DosbRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dhin [hDhin : Cert.Dhin.Facts] : Prop :=
  ∀ (m : (ℓ : Loc Cert.Dhin.nD Cert.Dhin.τ Cert.Dhin.sig) → Buf (Elt Bits) ℓ) (g : Dev Cert.Dhin.nD → PrngReg), Pre_Dhin m →
    θ_run (Cert.Dhin.defs (F := Bits)) (onTc (τ := Cert.Dhin.τ) (Cert.Dhin.main (F := Bits))) ⟨m, fun _ => 0, g⟩ (fun r => (∀ c : Dev Cert.Dhin.nD,
      r.2.mem ((c.tc : Thread Cert.Dhin.nD Cert.Dhin.τ).loc Cert.Dhin.main_arg0) = m ((c.tc : Thread Cert.Dhin.nD Cert.Dhin.τ).loc Cert.Dhin.main_arg0)
      ∧ r.2.mem ((c.tc : Thread Cert.Dhin.nD Cert.Dhin.τ).loc Cert.Dhin.main_arg1) = m ((c.tc : Thread Cert.Dhin.nD Cert.Dhin.τ).loc Cert.Dhin.main_arg1))
      ∧ r.2.sem = fun _ => 0)

def quiescent_DhinIdeal [hDhinIdeal : Cert.DhinIdeal.Facts] : Prop :=
  ∀ (m : (ℓ : Loc Cert.DhinIdeal.nD Cert.DhinIdeal.τ Cert.DhinIdeal.sig) → Buf (Elt Ideal) ℓ) (g : Dev Cert.DhinIdeal.nD → PrngReg), Pre_DhinIdeal m →
    θ_run (Cert.DhinIdeal.defs (F := Ideal)) (onTc (τ := Cert.DhinIdeal.τ) (Cert.DhinIdeal.main (F := Ideal))) ⟨m, fun _ => 0, g⟩ (fun r => (∀ c : Dev Cert.DhinIdeal.nD,
      r.2.mem ((c.tc : Thread Cert.DhinIdeal.nD Cert.DhinIdeal.τ).loc Cert.DhinIdeal.main_arg0) = m ((c.tc : Thread Cert.DhinIdeal.nD Cert.DhinIdeal.τ).loc Cert.DhinIdeal.main_arg0)
      ∧ r.2.mem ((c.tc : Thread Cert.DhinIdeal.nD Cert.DhinIdeal.τ).loc Cert.DhinIdeal.main_arg1) = m ((c.tc : Thread Cert.DhinIdeal.nD Cert.DhinIdeal.τ).loc Cert.DhinIdeal.main_arg1))
      ∧ r.2.sem = fun _ => 0)

def quiescent_DhinRefIdeal [hDhinRefIdeal : Cert.DhinRefIdeal.Facts] : Prop :=
  ∀ (m : (ℓ : Loc Cert.DhinRefIdeal.nD Cert.DhinRefIdeal.τ Cert.DhinRefIdeal.sig) → Buf (Elt Ideal) ℓ) (g : Dev Cert.DhinRefIdeal.nD → PrngReg), Pre_DhinRefIdeal m →
    θ_run (Cert.DhinRefIdeal.defs (F := Ideal)) (onTc (τ := Cert.DhinRefIdeal.τ) (Cert.DhinRefIdeal.main (F := Ideal))) ⟨m, fun _ => 0, g⟩ (fun r => (∀ c : Dev Cert.DhinRefIdeal.nD,
      r.2.mem ((c.tc : Thread Cert.DhinRefIdeal.nD Cert.DhinRefIdeal.τ).loc Cert.DhinRefIdeal.main_arg0) = m ((c.tc : Thread Cert.DhinRefIdeal.nD Cert.DhinRefIdeal.τ).loc Cert.DhinRefIdeal.main_arg0)
      ∧ r.2.mem ((c.tc : Thread Cert.DhinRefIdeal.nD Cert.DhinRefIdeal.τ).loc Cert.DhinRefIdeal.main_arg1) = m ((c.tc : Thread Cert.DhinRefIdeal.nD Cert.DhinRefIdeal.τ).loc Cert.DhinRefIdeal.main_arg1))
      ∧ r.2.sem = fun _ => 0)

def quiescent_Dwkv [hDwkv : Cert.Dwkv.Facts] : Prop :=
  ∀ (m : (ℓ : Loc Cert.Dwkv.nD Cert.Dwkv.τ Cert.Dwkv.sig) → Buf (Elt Bits) ℓ) (g : Dev Cert.Dwkv.nD → PrngReg), Pre_Dwkv m →
    θ_run (Cert.Dwkv.defs (F := Bits)) (onTc (τ := Cert.Dwkv.τ) (Cert.Dwkv.main (F := Bits))) ⟨m, fun _ => 0, g⟩ (fun r => (∀ c : Dev Cert.Dwkv.nD,
      r.2.mem ((c.tc : Thread Cert.Dwkv.nD Cert.Dwkv.τ).loc Cert.Dwkv.main_arg0) = m ((c.tc : Thread Cert.Dwkv.nD Cert.Dwkv.τ).loc Cert.Dwkv.main_arg0)
      ∧ r.2.mem ((c.tc : Thread Cert.Dwkv.nD Cert.Dwkv.τ).loc Cert.Dwkv.main_arg1) = m ((c.tc : Thread Cert.Dwkv.nD Cert.Dwkv.τ).loc Cert.Dwkv.main_arg1))
      ∧ r.2.sem = fun _ => 0)

def quiescent_DwkvIdeal [hDwkvIdeal : Cert.DwkvIdeal.Facts] : Prop :=
  ∀ (m : (ℓ : Loc Cert.DwkvIdeal.nD Cert.DwkvIdeal.τ Cert.DwkvIdeal.sig) → Buf (Elt Ideal) ℓ) (g : Dev Cert.DwkvIdeal.nD → PrngReg), Pre_DwkvIdeal m →
    θ_run (Cert.DwkvIdeal.defs (F := Ideal)) (onTc (τ := Cert.DwkvIdeal.τ) (Cert.DwkvIdeal.main (F := Ideal))) ⟨m, fun _ => 0, g⟩ (fun r => (∀ c : Dev Cert.DwkvIdeal.nD,
      r.2.mem ((c.tc : Thread Cert.DwkvIdeal.nD Cert.DwkvIdeal.τ).loc Cert.DwkvIdeal.main_arg0) = m ((c.tc : Thread Cert.DwkvIdeal.nD Cert.DwkvIdeal.τ).loc Cert.DwkvIdeal.main_arg0)
      ∧ r.2.mem ((c.tc : Thread Cert.DwkvIdeal.nD Cert.DwkvIdeal.τ).loc Cert.DwkvIdeal.main_arg1) = m ((c.tc : Thread Cert.DwkvIdeal.nD Cert.DwkvIdeal.τ).loc Cert.DwkvIdeal.main_arg1))
      ∧ r.2.sem = fun _ => 0)

def quiescent_DwkvRefIdeal [hDwkvRefIdeal : Cert.DwkvRefIdeal.Facts] : Prop :=
  ∀ (m : (ℓ : Loc Cert.DwkvRefIdeal.nD Cert.DwkvRefIdeal.τ Cert.DwkvRefIdeal.sig) → Buf (Elt Ideal) ℓ) (g : Dev Cert.DwkvRefIdeal.nD → PrngReg), Pre_DwkvRefIdeal m →
    θ_run (Cert.DwkvRefIdeal.defs (F := Ideal)) (onTc (τ := Cert.DwkvRefIdeal.τ) (Cert.DwkvRefIdeal.main (F := Ideal))) ⟨m, fun _ => 0, g⟩ (fun r => (∀ c : Dev Cert.DwkvRefIdeal.nD,
      r.2.mem ((c.tc : Thread Cert.DwkvRefIdeal.nD Cert.DwkvRefIdeal.τ).loc Cert.DwkvRefIdeal.main_arg0) = m ((c.tc : Thread Cert.DwkvRefIdeal.nD Cert.DwkvRefIdeal.τ).loc Cert.DwkvRefIdeal.main_arg0)
      ∧ r.2.mem ((c.tc : Thread Cert.DwkvRefIdeal.nD Cert.DwkvRefIdeal.τ).loc Cert.DwkvRefIdeal.main_arg1) = m ((c.tc : Thread Cert.DwkvRefIdeal.nD Cert.DwkvRefIdeal.τ).loc Cert.DwkvRefIdeal.main_arg1))
      ∧ r.2.sem = fun _ => 0)

def quiescent_Dhkv [hDhkv : Cert.Dhkv.Facts] : Prop :=
  ∀ (m : (ℓ : Loc Cert.Dhkv.nD Cert.Dhkv.τ Cert.Dhkv.sig) → Buf (Elt Bits) ℓ) (g : Dev Cert.Dhkv.nD → PrngReg), Pre_Dhkv m →
    θ_run (Cert.Dhkv.defs (F := Bits)) (onTc (τ := Cert.Dhkv.τ) (Cert.Dhkv.main (F := Bits))) ⟨m, fun _ => 0, g⟩ (fun r => (∀ c : Dev Cert.Dhkv.nD,
      r.2.mem ((c.tc : Thread Cert.Dhkv.nD Cert.Dhkv.τ).loc Cert.Dhkv.main_arg0) = m ((c.tc : Thread Cert.Dhkv.nD Cert.Dhkv.τ).loc Cert.Dhkv.main_arg0)
      ∧ r.2.mem ((c.tc : Thread Cert.Dhkv.nD Cert.Dhkv.τ).loc Cert.Dhkv.main_arg1) = m ((c.tc : Thread Cert.Dhkv.nD Cert.Dhkv.τ).loc Cert.Dhkv.main_arg1))
      ∧ r.2.sem = fun _ => 0)

def quiescent_DhkvIdeal [hDhkvIdeal : Cert.DhkvIdeal.Facts] : Prop :=
  ∀ (m : (ℓ : Loc Cert.DhkvIdeal.nD Cert.DhkvIdeal.τ Cert.DhkvIdeal.sig) → Buf (Elt Ideal) ℓ) (g : Dev Cert.DhkvIdeal.nD → PrngReg), Pre_DhkvIdeal m →
    θ_run (Cert.DhkvIdeal.defs (F := Ideal)) (onTc (τ := Cert.DhkvIdeal.τ) (Cert.DhkvIdeal.main (F := Ideal))) ⟨m, fun _ => 0, g⟩ (fun r => (∀ c : Dev Cert.DhkvIdeal.nD,
      r.2.mem ((c.tc : Thread Cert.DhkvIdeal.nD Cert.DhkvIdeal.τ).loc Cert.DhkvIdeal.main_arg0) = m ((c.tc : Thread Cert.DhkvIdeal.nD Cert.DhkvIdeal.τ).loc Cert.DhkvIdeal.main_arg0)
      ∧ r.2.mem ((c.tc : Thread Cert.DhkvIdeal.nD Cert.DhkvIdeal.τ).loc Cert.DhkvIdeal.main_arg1) = m ((c.tc : Thread Cert.DhkvIdeal.nD Cert.DhkvIdeal.τ).loc Cert.DhkvIdeal.main_arg1))
      ∧ r.2.sem = fun _ => 0)

def quiescent_DhkvRefIdeal [hDhkvRefIdeal : Cert.DhkvRefIdeal.Facts] : Prop :=
  ∀ (m : (ℓ : Loc Cert.DhkvRefIdeal.nD Cert.DhkvRefIdeal.τ Cert.DhkvRefIdeal.sig) → Buf (Elt Ideal) ℓ) (g : Dev Cert.DhkvRefIdeal.nD → PrngReg), Pre_DhkvRefIdeal m →
    θ_run (Cert.DhkvRefIdeal.defs (F := Ideal)) (onTc (τ := Cert.DhkvRefIdeal.τ) (Cert.DhkvRefIdeal.main (F := Ideal))) ⟨m, fun _ => 0, g⟩ (fun r => (∀ c : Dev Cert.DhkvRefIdeal.nD,
      r.2.mem ((c.tc : Thread Cert.DhkvRefIdeal.nD Cert.DhkvRefIdeal.τ).loc Cert.DhkvRefIdeal.main_arg0) = m ((c.tc : Thread Cert.DhkvRefIdeal.nD Cert.DhkvRefIdeal.τ).loc Cert.DhkvRefIdeal.main_arg0)
      ∧ r.2.mem ((c.tc : Thread Cert.DhkvRefIdeal.nD Cert.DhkvRefIdeal.τ).loc Cert.DhkvRefIdeal.main_arg1) = m ((c.tc : Thread Cert.DhkvRefIdeal.nD Cert.DhkvRefIdeal.τ).loc Cert.DhkvRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2))
      ∧ r.2.sem = fun _ => 0)

def quiescent_Qp [hQp : Cert.Qp.Facts] : Prop :=
  ∀ (m : (ℓ : Loc Cert.Qp.nD Cert.Qp.τ Cert.Qp.sig) → Buf (Elt Bits) ℓ) (g : Dev Cert.Qp.nD → PrngReg), Pre_Qp m →
    θ_run (Cert.Qp.defs (F := Bits)) (onTc (τ := Cert.Qp.τ) (Cert.Qp.main (F := Bits))) ⟨m, fun _ => 0, g⟩ (fun r => (∀ c : Dev Cert.Qp.nD,
      r.2.mem ((c.tc : Thread Cert.Qp.nD Cert.Qp.τ).loc Cert.Qp.main_arg0) = m ((c.tc : Thread Cert.Qp.nD Cert.Qp.τ).loc Cert.Qp.main_arg0)
      ∧ r.2.mem ((c.tc : Thread Cert.Qp.nD Cert.Qp.τ).loc Cert.Qp.main_arg1) = m ((c.tc : Thread Cert.Qp.nD Cert.Qp.τ).loc Cert.Qp.main_arg1))
      ∧ r.2.sem = fun _ => 0)

def quiescent_QpIdeal [hQpIdeal : Cert.QpIdeal.Facts] : Prop :=
  ∀ (m : (ℓ : Loc Cert.QpIdeal.nD Cert.QpIdeal.τ Cert.QpIdeal.sig) → Buf (Elt Ideal) ℓ) (g : Dev Cert.QpIdeal.nD → PrngReg), Pre_QpIdeal m →
    θ_run (Cert.QpIdeal.defs (F := Ideal)) (onTc (τ := Cert.QpIdeal.τ) (Cert.QpIdeal.main (F := Ideal))) ⟨m, fun _ => 0, g⟩ (fun r => (∀ c : Dev Cert.QpIdeal.nD,
      r.2.mem ((c.tc : Thread Cert.QpIdeal.nD Cert.QpIdeal.τ).loc Cert.QpIdeal.main_arg0) = m ((c.tc : Thread Cert.QpIdeal.nD Cert.QpIdeal.τ).loc Cert.QpIdeal.main_arg0)
      ∧ r.2.mem ((c.tc : Thread Cert.QpIdeal.nD Cert.QpIdeal.τ).loc Cert.QpIdeal.main_arg1) = m ((c.tc : Thread Cert.QpIdeal.nD Cert.QpIdeal.τ).loc Cert.QpIdeal.main_arg1))
      ∧ r.2.sem = fun _ => 0)

def quiescent_QpRefIdeal [hQpRefIdeal : Cert.QpRefIdeal.Facts] : Prop :=
  ∀ (m : (ℓ : Loc Cert.QpRefIdeal.nD Cert.QpRefIdeal.τ Cert.QpRefIdeal.sig) → Buf (Elt Ideal) ℓ) (g : Dev Cert.QpRefIdeal.nD → PrngReg), Pre_QpRefIdeal m →
    θ_run (Cert.QpRefIdeal.defs (F := Ideal)) (onTc (τ := Cert.QpRefIdeal.τ) (Cert.QpRefIdeal.main (F := Ideal))) ⟨m, fun _ => 0, g⟩ (fun r => (∀ c : Dev Cert.QpRefIdeal.nD,
      r.2.mem ((c.tc : Thread Cert.QpRefIdeal.nD Cert.QpRefIdeal.τ).loc Cert.QpRefIdeal.main_arg0) = m ((c.tc : Thread Cert.QpRefIdeal.nD Cert.QpRefIdeal.τ).loc Cert.QpRefIdeal.main_arg0)
      ∧ r.2.mem ((c.tc : Thread Cert.QpRefIdeal.nD Cert.QpRefIdeal.τ).loc Cert.QpRefIdeal.main_arg1) = m ((c.tc : Thread Cert.QpRefIdeal.nD Cert.QpRefIdeal.τ).loc Cert.QpRefIdeal.main_arg1))
      ∧ r.2.sem = fun _ => 0)

def quiescent_Kvp [hKvp : Cert.Kvp.Facts] : Prop :=
  ∀ (m : (ℓ : Loc Cert.Kvp.nD Cert.Kvp.τ Cert.Kvp.sig) → Buf (Elt Bits) ℓ) (g : Dev Cert.Kvp.nD → PrngReg), Pre_Kvp m →
    θ_run (Cert.Kvp.defs (F := Bits)) (onTc (τ := Cert.Kvp.τ) (Cert.Kvp.main (F := Bits))) ⟨m, fun _ => 0, g⟩ (fun r => (∀ c : Dev Cert.Kvp.nD,
      r.2.mem ((c.tc : Thread Cert.Kvp.nD Cert.Kvp.τ).loc Cert.Kvp.main_arg0) = m ((c.tc : Thread Cert.Kvp.nD Cert.Kvp.τ).loc Cert.Kvp.main_arg0)
      ∧ r.2.mem ((c.tc : Thread Cert.Kvp.nD Cert.Kvp.τ).loc Cert.Kvp.main_arg1) = m ((c.tc : Thread Cert.Kvp.nD Cert.Kvp.τ).loc Cert.Kvp.main_arg1))
      ∧ r.2.sem = fun _ => 0)

def quiescent_KvpIdeal [hKvpIdeal : Cert.KvpIdeal.Facts] : Prop :=
  ∀ (m : (ℓ : Loc Cert.KvpIdeal.nD Cert.KvpIdeal.τ Cert.KvpIdeal.sig) → Buf (Elt Ideal) ℓ) (g : Dev Cert.KvpIdeal.nD → PrngReg), Pre_KvpIdeal m →
    θ_run (Cert.KvpIdeal.defs (F := Ideal)) (onTc (τ := Cert.KvpIdeal.τ) (Cert.KvpIdeal.main (F := Ideal))) ⟨m, fun _ => 0, g⟩ (fun r => (∀ c : Dev Cert.KvpIdeal.nD,
      r.2.mem ((c.tc : Thread Cert.KvpIdeal.nD Cert.KvpIdeal.τ).loc Cert.KvpIdeal.main_arg0) = m ((c.tc : Thread Cert.KvpIdeal.nD Cert.KvpIdeal.τ).loc Cert.KvpIdeal.main_arg0)
      ∧ r.2.mem ((c.tc : Thread Cert.KvpIdeal.nD Cert.KvpIdeal.τ).loc Cert.KvpIdeal.main_arg1) = m ((c.tc : Thread Cert.KvpIdeal.nD Cert.KvpIdeal.τ).loc Cert.KvpIdeal.main_arg1))
      ∧ r.2.sem = fun _ => 0)

def quiescent_KvpRefIdeal [hKvpRefIdeal : Cert.KvpRefIdeal.Facts] : Prop :=
  ∀ (m : (ℓ : Loc Cert.KvpRefIdeal.nD Cert.KvpRefIdeal.τ Cert.KvpRefIdeal.sig) → Buf (Elt Ideal) ℓ) (g : Dev Cert.KvpRefIdeal.nD → PrngReg), Pre_KvpRefIdeal m →
    θ_run (Cert.KvpRefIdeal.defs (F := Ideal)) (onTc (τ := Cert.KvpRefIdeal.τ) (Cert.KvpRefIdeal.main (F := Ideal))) ⟨m, fun _ => 0, g⟩ (fun r => (∀ c : Dev Cert.KvpRefIdeal.nD,
      r.2.mem ((c.tc : Thread Cert.KvpRefIdeal.nD Cert.KvpRefIdeal.τ).loc Cert.KvpRefIdeal.main_arg0) = m ((c.tc : Thread Cert.KvpRefIdeal.nD Cert.KvpRefIdeal.τ).loc Cert.KvpRefIdeal.main_arg0)
      ∧ r.2.mem ((c.tc : Thread Cert.KvpRefIdeal.nD Cert.KvpRefIdeal.τ).loc Cert.KvpRefIdeal.main_arg1) = m ((c.tc : Thread Cert.KvpRefIdeal.nD Cert.KvpRefIdeal.τ).loc Cert.KvpRefIdeal.main_arg1))
      ∧ r.2.sem = fun _ => 0)

def quiescent_Rnorm [hRnorm : Cert.Rnorm.Facts] : Prop :=
  ∀ (m : (ℓ : Loc Cert.Rnorm.nD Cert.Rnorm.τ Cert.Rnorm.sig) → Buf (Elt Bits) ℓ) (g : Dev Cert.Rnorm.nD → PrngReg), Pre_Rnorm m →
    θ_run (Cert.Rnorm.defs (F := Bits)) (onTc (τ := Cert.Rnorm.τ) (Cert.Rnorm.main (F := Bits))) ⟨m, fun _ => 0, g⟩ (fun r => (∀ c : Dev Cert.Rnorm.nD,
      r.2.mem ((c.tc : Thread Cert.Rnorm.nD Cert.Rnorm.τ).loc Cert.Rnorm.main_arg0) = m ((c.tc : Thread Cert.Rnorm.nD Cert.Rnorm.τ).loc Cert.Rnorm.main_arg0)
      ∧ r.2.mem ((c.tc : Thread Cert.Rnorm.nD Cert.Rnorm.τ).loc Cert.Rnorm.main_arg1) = m ((c.tc : Thread Cert.Rnorm.nD Cert.Rnorm.τ).loc Cert.Rnorm.main_arg1))
      ∧ r.2.sem = fun _ => 0)

def quiescent_RnormIdeal [hRnormIdeal : Cert.RnormIdeal.Facts] : Prop :=
  ∀ (m : (ℓ : Loc Cert.RnormIdeal.nD Cert.RnormIdeal.τ Cert.RnormIdeal.sig) → Buf (Elt Ideal) ℓ) (g : Dev Cert.RnormIdeal.nD → PrngReg), Pre_RnormIdeal m →
    θ_run (Cert.RnormIdeal.defs (F := Ideal)) (onTc (τ := Cert.RnormIdeal.τ) (Cert.RnormIdeal.main (F := Ideal))) ⟨m, fun _ => 0, g⟩ (fun r => (∀ c : Dev Cert.RnormIdeal.nD,
      r.2.mem ((c.tc : Thread Cert.RnormIdeal.nD Cert.RnormIdeal.τ).loc Cert.RnormIdeal.main_arg0) = m ((c.tc : Thread Cert.RnormIdeal.nD Cert.RnormIdeal.τ).loc Cert.RnormIdeal.main_arg0)
      ∧ r.2.mem ((c.tc : Thread Cert.RnormIdeal.nD Cert.RnormIdeal.τ).loc Cert.RnormIdeal.main_arg1) = m ((c.tc : Thread Cert.RnormIdeal.nD Cert.RnormIdeal.τ).loc Cert.RnormIdeal.main_arg1))
      ∧ r.2.sem = fun _ => 0)

def quiescent_RnormRefIdeal [hRnormRefIdeal : Cert.RnormRefIdeal.Facts] : Prop :=
  ∀ (m : (ℓ : Loc Cert.RnormRefIdeal.nD Cert.RnormRefIdeal.τ Cert.RnormRefIdeal.sig) → Buf (Elt Ideal) ℓ) (g : Dev Cert.RnormRefIdeal.nD → PrngReg), Pre_RnormRefIdeal m →
    θ_run (Cert.RnormRefIdeal.defs (F := Ideal)) (onTc (τ := Cert.RnormRefIdeal.τ) (Cert.RnormRefIdeal.main (F := Ideal))) ⟨m, fun _ => 0, g⟩ (fun r => (∀ c : Dev Cert.RnormRefIdeal.nD,
      r.2.mem ((c.tc : Thread Cert.RnormRefIdeal.nD Cert.RnormRefIdeal.τ).loc Cert.RnormRefIdeal.main_arg0) = m ((c.tc : Thread Cert.RnormRefIdeal.nD Cert.RnormRefIdeal.τ).loc Cert.RnormRefIdeal.main_arg0)
      ∧ r.2.mem ((c.tc : Thread Cert.RnormRefIdeal.nD Cert.RnormRefIdeal.τ).loc Cert.RnormRefIdeal.main_arg1) = m ((c.tc : Thread Cert.RnormRefIdeal.nD Cert.RnormRefIdeal.τ).loc Cert.RnormRefIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Qnorm [hQnorm : Cert.Qnorm.Facts] : Prop :=
  ∀ (m : (ℓ : Loc Cert.Qnorm.nD Cert.Qnorm.τ Cert.Qnorm.sig) → Buf (Elt Bits) ℓ) (g : Dev Cert.Qnorm.nD → PrngReg), Pre_Qnorm m →
    θ_run (Cert.Qnorm.defs (F := Bits)) (onTc (τ := Cert.Qnorm.τ) (Cert.Qnorm.main (F := Bits))) ⟨m, fun _ => 0, g⟩ (fun r => (∀ c : Dev Cert.Qnorm.nD,
      r.2.mem ((c.tc : Thread Cert.Qnorm.nD Cert.Qnorm.τ).loc Cert.Qnorm.main_arg0) = m ((c.tc : Thread Cert.Qnorm.nD Cert.Qnorm.τ).loc Cert.Qnorm.main_arg0)
      ∧ r.2.mem ((c.tc : Thread Cert.Qnorm.nD Cert.Qnorm.τ).loc Cert.Qnorm.main_arg1) = m ((c.tc : Thread Cert.Qnorm.nD Cert.Qnorm.τ).loc Cert.Qnorm.main_arg1))
      ∧ r.2.sem = fun _ => 0)

def quiescent_QnormIdeal [hQnormIdeal : Cert.QnormIdeal.Facts] : Prop :=
  ∀ (m : (ℓ : Loc Cert.QnormIdeal.nD Cert.QnormIdeal.τ Cert.QnormIdeal.sig) → Buf (Elt Ideal) ℓ) (g : Dev Cert.QnormIdeal.nD → PrngReg), Pre_QnormIdeal m →
    θ_run (Cert.QnormIdeal.defs (F := Ideal)) (onTc (τ := Cert.QnormIdeal.τ) (Cert.QnormIdeal.main (F := Ideal))) ⟨m, fun _ => 0, g⟩ (fun r => (∀ c : Dev Cert.QnormIdeal.nD,
      r.2.mem ((c.tc : Thread Cert.QnormIdeal.nD Cert.QnormIdeal.τ).loc Cert.QnormIdeal.main_arg0) = m ((c.tc : Thread Cert.QnormIdeal.nD Cert.QnormIdeal.τ).loc Cert.QnormIdeal.main_arg0)
      ∧ r.2.mem ((c.tc : Thread Cert.QnormIdeal.nD Cert.QnormIdeal.τ).loc Cert.QnormIdeal.main_arg1) = m ((c.tc : Thread Cert.QnormIdeal.nD Cert.QnormIdeal.τ).loc Cert.QnormIdeal.main_arg1))
      ∧ r.2.sem = fun _ => 0)

def quiescent_QnormRefIdeal [hQnormRefIdeal : Cert.QnormRefIdeal.Facts] : Prop :=
  ∀ (m : (ℓ : Loc Cert.QnormRefIdeal.nD Cert.QnormRefIdeal.τ Cert.QnormRefIdeal.sig) → Buf (Elt Ideal) ℓ) (g : Dev Cert.QnormRefIdeal.nD → PrngReg), Pre_QnormRefIdeal m →
    θ_run (Cert.QnormRefIdeal.defs (F := Ideal)) (onTc (τ := Cert.QnormRefIdeal.τ) (Cert.QnormRefIdeal.main (F := Ideal))) ⟨m, fun _ => 0, g⟩ (fun r => (∀ c : Dev Cert.QnormRefIdeal.nD,
      r.2.mem ((c.tc : Thread Cert.QnormRefIdeal.nD Cert.QnormRefIdeal.τ).loc Cert.QnormRefIdeal.main_arg0) = m ((c.tc : Thread Cert.QnormRefIdeal.nD Cert.QnormRefIdeal.τ).loc Cert.QnormRefIdeal.main_arg0)
      ∧ r.2.mem ((c.tc : Thread Cert.QnormRefIdeal.nD Cert.QnormRefIdeal.τ).loc Cert.QnormRefIdeal.main_arg1) = m ((c.tc : Thread Cert.QnormRefIdeal.nD Cert.QnormRefIdeal.τ).loc Cert.QnormRefIdeal.main_arg1))
      ∧ r.2.sem = fun _ => 0)

def quiescent_Kvpost [hKvpost : Cert.Kvpost.Facts] : Prop :=
  ∀ (m : (ℓ : Loc Cert.Kvpost.nD Cert.Kvpost.τ Cert.Kvpost.sig) → Buf (Elt Bits) ℓ) (g : Dev Cert.Kvpost.nD → PrngReg), Pre_Kvpost m →
    θ_run (Cert.Kvpost.defs (F := Bits)) (onTc (τ := Cert.Kvpost.τ) (Cert.Kvpost.main (F := Bits))) ⟨m, fun _ => 0, g⟩ (fun r => (∀ c : Dev Cert.Kvpost.nD,
      r.2.mem ((c.tc : Thread Cert.Kvpost.nD Cert.Kvpost.τ).loc Cert.Kvpost.main_arg0) = m ((c.tc : Thread Cert.Kvpost.nD Cert.Kvpost.τ).loc Cert.Kvpost.main_arg0)
      ∧ r.2.mem ((c.tc : Thread Cert.Kvpost.nD Cert.Kvpost.τ).loc Cert.Kvpost.main_arg1) = m ((c.tc : Thread Cert.Kvpost.nD Cert.Kvpost.τ).loc Cert.Kvpost.main_arg1))
      ∧ r.2.sem = fun _ => 0)

def quiescent_KvpostIdeal [hKvpostIdeal : Cert.KvpostIdeal.Facts] : Prop :=
  ∀ (m : (ℓ : Loc Cert.KvpostIdeal.nD Cert.KvpostIdeal.τ Cert.KvpostIdeal.sig) → Buf (Elt Ideal) ℓ) (g : Dev Cert.KvpostIdeal.nD → PrngReg), Pre_KvpostIdeal m →
    θ_run (Cert.KvpostIdeal.defs (F := Ideal)) (onTc (τ := Cert.KvpostIdeal.τ) (Cert.KvpostIdeal.main (F := Ideal))) ⟨m, fun _ => 0, g⟩ (fun r => (∀ c : Dev Cert.KvpostIdeal.nD,
      r.2.mem ((c.tc : Thread Cert.KvpostIdeal.nD Cert.KvpostIdeal.τ).loc Cert.KvpostIdeal.main_arg0) = m ((c.tc : Thread Cert.KvpostIdeal.nD Cert.KvpostIdeal.τ).loc Cert.KvpostIdeal.main_arg0)
      ∧ r.2.mem ((c.tc : Thread Cert.KvpostIdeal.nD Cert.KvpostIdeal.τ).loc Cert.KvpostIdeal.main_arg1) = m ((c.tc : Thread Cert.KvpostIdeal.nD Cert.KvpostIdeal.τ).loc Cert.KvpostIdeal.main_arg1))
      ∧ r.2.sem = fun _ => 0)

def quiescent_KvpostRefIdeal [hKvpostRefIdeal : Cert.KvpostRefIdeal.Facts] : Prop :=
  ∀ (m : (ℓ : Loc Cert.KvpostRefIdeal.nD Cert.KvpostRefIdeal.τ Cert.KvpostRefIdeal.sig) → Buf (Elt Ideal) ℓ) (g : Dev Cert.KvpostRefIdeal.nD → PrngReg), Pre_KvpostRefIdeal m →
    θ_run (Cert.KvpostRefIdeal.defs (F := Ideal)) (onTc (τ := Cert.KvpostRefIdeal.τ) (Cert.KvpostRefIdeal.main (F := Ideal))) ⟨m, fun _ => 0, g⟩ (fun r => (∀ c : Dev Cert.KvpostRefIdeal.nD,
      r.2.mem ((c.tc : Thread Cert.KvpostRefIdeal.nD Cert.KvpostRefIdeal.τ).loc Cert.KvpostRefIdeal.main_arg0) = m ((c.tc : Thread Cert.KvpostRefIdeal.nD Cert.KvpostRefIdeal.τ).loc Cert.KvpostRefIdeal.main_arg0)
      ∧ r.2.mem ((c.tc : Thread Cert.KvpostRefIdeal.nD Cert.KvpostRefIdeal.τ).loc Cert.KvpostRefIdeal.main_arg1) = m ((c.tc : Thread Cert.KvpostRefIdeal.nD Cert.KvpostRefIdeal.τ).loc Cert.KvpostRefIdeal.main_arg1))
      ∧ r.2.sem = fun _ => 0)

def quiescent_Dqnorm [hDqnorm : Cert.Dqnorm.Facts] : Prop :=
  ∀ (m : (ℓ : Loc Cert.Dqnorm.nD Cert.Dqnorm.τ Cert.Dqnorm.sig) → Buf (Elt Bits) ℓ) (g : Dev Cert.Dqnorm.nD → PrngReg), Pre_Dqnorm m →
    θ_run (Cert.Dqnorm.defs (F := Bits)) (onTc (τ := Cert.Dqnorm.τ) (Cert.Dqnorm.main (F := Bits))) ⟨m, fun _ => 0, g⟩ (fun r => (∀ c : Dev Cert.Dqnorm.nD,
      r.2.mem ((c.tc : Thread Cert.Dqnorm.nD Cert.Dqnorm.τ).loc Cert.Dqnorm.main_arg0) = m ((c.tc : Thread Cert.Dqnorm.nD Cert.Dqnorm.τ).loc Cert.Dqnorm.main_arg0)
      ∧ r.2.mem ((c.tc : Thread Cert.Dqnorm.nD Cert.Dqnorm.τ).loc Cert.Dqnorm.main_arg1) = m ((c.tc : Thread Cert.Dqnorm.nD Cert.Dqnorm.τ).loc Cert.Dqnorm.main_arg1)
      ∧ r.2.mem ((c.tc : Thread Cert.Dqnorm.nD Cert.Dqnorm.τ).loc Cert.Dqnorm.main_arg2) = m ((c.tc : Thread Cert.Dqnorm.nD Cert.Dqnorm.τ).loc Cert.Dqnorm.main_arg2))
      ∧ r.2.sem = fun _ => 0)

def quiescent_DqnormIdeal [hDqnormIdeal : Cert.DqnormIdeal.Facts] : Prop :=
  ∀ (m : (ℓ : Loc Cert.DqnormIdeal.nD Cert.DqnormIdeal.τ Cert.DqnormIdeal.sig) → Buf (Elt Ideal) ℓ) (g : Dev Cert.DqnormIdeal.nD → PrngReg), Pre_DqnormIdeal m →
    θ_run (Cert.DqnormIdeal.defs (F := Ideal)) (onTc (τ := Cert.DqnormIdeal.τ) (Cert.DqnormIdeal.main (F := Ideal))) ⟨m, fun _ => 0, g⟩ (fun r => (∀ c : Dev Cert.DqnormIdeal.nD,
      r.2.mem ((c.tc : Thread Cert.DqnormIdeal.nD Cert.DqnormIdeal.τ).loc Cert.DqnormIdeal.main_arg0) = m ((c.tc : Thread Cert.DqnormIdeal.nD Cert.DqnormIdeal.τ).loc Cert.DqnormIdeal.main_arg0)
      ∧ r.2.mem ((c.tc : Thread Cert.DqnormIdeal.nD Cert.DqnormIdeal.τ).loc Cert.DqnormIdeal.main_arg1) = m ((c.tc : Thread Cert.DqnormIdeal.nD Cert.DqnormIdeal.τ).loc Cert.DqnormIdeal.main_arg1)
      ∧ r.2.mem ((c.tc : Thread Cert.DqnormIdeal.nD Cert.DqnormIdeal.τ).loc Cert.DqnormIdeal.main_arg2) = m ((c.tc : Thread Cert.DqnormIdeal.nD Cert.DqnormIdeal.τ).loc Cert.DqnormIdeal.main_arg2))
      ∧ r.2.sem = fun _ => 0)

def quiescent_DqnormRefIdeal [hDqnormRefIdeal : Cert.DqnormRefIdeal.Facts] : Prop :=
  ∀ (m : (ℓ : Loc Cert.DqnormRefIdeal.nD Cert.DqnormRefIdeal.τ Cert.DqnormRefIdeal.sig) → Buf (Elt Ideal) ℓ) (g : Dev Cert.DqnormRefIdeal.nD → PrngReg), Pre_DqnormRefIdeal m →
    θ_run (Cert.DqnormRefIdeal.defs (F := Ideal)) (onTc (τ := Cert.DqnormRefIdeal.τ) (Cert.DqnormRefIdeal.main (F := Ideal))) ⟨m, fun _ => 0, g⟩ (fun r => (∀ c : Dev Cert.DqnormRefIdeal.nD,
      r.2.mem ((c.tc : Thread Cert.DqnormRefIdeal.nD Cert.DqnormRefIdeal.τ).loc Cert.DqnormRefIdeal.main_arg0) = m ((c.tc : Thread Cert.DqnormRefIdeal.nD Cert.DqnormRefIdeal.τ).loc Cert.DqnormRefIdeal.main_arg0)
      ∧ r.2.mem ((c.tc : Thread Cert.DqnormRefIdeal.nD Cert.DqnormRefIdeal.τ).loc Cert.DqnormRefIdeal.main_arg1) = m ((c.tc : Thread Cert.DqnormRefIdeal.nD Cert.DqnormRefIdeal.τ).loc Cert.DqnormRefIdeal.main_arg1)
      ∧ r.2.mem ((c.tc : Thread Cert.DqnormRefIdeal.nD Cert.DqnormRefIdeal.τ).loc Cert.DqnormRefIdeal.main_arg2) = m ((c.tc : Thread Cert.DqnormRefIdeal.nD Cert.DqnormRefIdeal.τ).loc Cert.DqnormRefIdeal.main_arg2))
      ∧ r.2.sem = fun _ => 0)

def quiescent_Dkvpost [hDkvpost : Cert.Dkvpost.Facts] : Prop :=
  ∀ (m : (ℓ : Loc Cert.Dkvpost.nD Cert.Dkvpost.τ Cert.Dkvpost.sig) → Buf (Elt Bits) ℓ) (g : Dev Cert.Dkvpost.nD → PrngReg), Pre_Dkvpost m →
    θ_run (Cert.Dkvpost.defs (F := Bits)) (onTc (τ := Cert.Dkvpost.τ) (Cert.Dkvpost.main (F := Bits))) ⟨m, fun _ => 0, g⟩ (fun r => (∀ c : Dev Cert.Dkvpost.nD,
      r.2.mem ((c.tc : Thread Cert.Dkvpost.nD Cert.Dkvpost.τ).loc Cert.Dkvpost.main_arg0) = m ((c.tc : Thread Cert.Dkvpost.nD Cert.Dkvpost.τ).loc Cert.Dkvpost.main_arg0)
      ∧ r.2.mem ((c.tc : Thread Cert.Dkvpost.nD Cert.Dkvpost.τ).loc Cert.Dkvpost.main_arg1) = m ((c.tc : Thread Cert.Dkvpost.nD Cert.Dkvpost.τ).loc Cert.Dkvpost.main_arg1)
      ∧ r.2.mem ((c.tc : Thread Cert.Dkvpost.nD Cert.Dkvpost.τ).loc Cert.Dkvpost.main_arg2) = m ((c.tc : Thread Cert.Dkvpost.nD Cert.Dkvpost.τ).loc Cert.Dkvpost.main_arg2)
      ∧ r.2.mem ((c.tc : Thread Cert.Dkvpost.nD Cert.Dkvpost.τ).loc Cert.Dkvpost.main_arg3) = m ((c.tc : Thread Cert.Dkvpost.nD Cert.Dkvpost.τ).loc Cert.Dkvpost.main_arg3)
      ∧ r.2.mem ((c.tc : Thread Cert.Dkvpost.nD Cert.Dkvpost.τ).loc Cert.Dkvpost.main_arg4) = m ((c.tc : Thread Cert.Dkvpost.nD Cert.Dkvpost.τ).loc Cert.Dkvpost.main_arg4)
      ∧ r.2.mem ((c.tc : Thread Cert.Dkvpost.nD Cert.Dkvpost.τ).loc Cert.Dkvpost.main_arg5) = m ((c.tc : Thread Cert.Dkvpost.nD Cert.Dkvpost.τ).loc Cert.Dkvpost.main_arg5))
      ∧ r.2.sem = fun _ => 0)

def quiescent_DkvpostIdeal [hDkvpostIdeal : Cert.DkvpostIdeal.Facts] : Prop :=
  ∀ (m : (ℓ : Loc Cert.DkvpostIdeal.nD Cert.DkvpostIdeal.τ Cert.DkvpostIdeal.sig) → Buf (Elt Ideal) ℓ) (g : Dev Cert.DkvpostIdeal.nD → PrngReg), Pre_DkvpostIdeal m →
    θ_run (Cert.DkvpostIdeal.defs (F := Ideal)) (onTc (τ := Cert.DkvpostIdeal.τ) (Cert.DkvpostIdeal.main (F := Ideal))) ⟨m, fun _ => 0, g⟩ (fun r => (∀ c : Dev Cert.DkvpostIdeal.nD,
      r.2.mem ((c.tc : Thread Cert.DkvpostIdeal.nD Cert.DkvpostIdeal.τ).loc Cert.DkvpostIdeal.main_arg0) = m ((c.tc : Thread Cert.DkvpostIdeal.nD Cert.DkvpostIdeal.τ).loc Cert.DkvpostIdeal.main_arg0)
      ∧ r.2.mem ((c.tc : Thread Cert.DkvpostIdeal.nD Cert.DkvpostIdeal.τ).loc Cert.DkvpostIdeal.main_arg1) = m ((c.tc : Thread Cert.DkvpostIdeal.nD Cert.DkvpostIdeal.τ).loc Cert.DkvpostIdeal.main_arg1)
      ∧ r.2.mem ((c.tc : Thread Cert.DkvpostIdeal.nD Cert.DkvpostIdeal.τ).loc Cert.DkvpostIdeal.main_arg2) = m ((c.tc : Thread Cert.DkvpostIdeal.nD Cert.DkvpostIdeal.τ).loc Cert.DkvpostIdeal.main_arg2)
      ∧ r.2.mem ((c.tc : Thread Cert.DkvpostIdeal.nD Cert.DkvpostIdeal.τ).loc Cert.DkvpostIdeal.main_arg3) = m ((c.tc : Thread Cert.DkvpostIdeal.nD Cert.DkvpostIdeal.τ).loc Cert.DkvpostIdeal.main_arg3)
      ∧ r.2.mem ((c.tc : Thread Cert.DkvpostIdeal.nD Cert.DkvpostIdeal.τ).loc Cert.DkvpostIdeal.main_arg4) = m ((c.tc : Thread Cert.DkvpostIdeal.nD Cert.DkvpostIdeal.τ).loc Cert.DkvpostIdeal.main_arg4)
      ∧ r.2.mem ((c.tc : Thread Cert.DkvpostIdeal.nD Cert.DkvpostIdeal.τ).loc Cert.DkvpostIdeal.main_arg5) = m ((c.tc : Thread Cert.DkvpostIdeal.nD Cert.DkvpostIdeal.τ).loc Cert.DkvpostIdeal.main_arg5))
      ∧ r.2.sem = fun _ => 0)

def quiescent_DkvpostRefIdeal [hDkvpostRefIdeal : Cert.DkvpostRefIdeal.Facts] : Prop :=
  ∀ (m : (ℓ : Loc Cert.DkvpostRefIdeal.nD Cert.DkvpostRefIdeal.τ Cert.DkvpostRefIdeal.sig) → Buf (Elt Ideal) ℓ) (g : Dev Cert.DkvpostRefIdeal.nD → PrngReg), Pre_DkvpostRefIdeal m →
    θ_run (Cert.DkvpostRefIdeal.defs (F := Ideal)) (onTc (τ := Cert.DkvpostRefIdeal.τ) (Cert.DkvpostRefIdeal.main (F := Ideal))) ⟨m, fun _ => 0, g⟩ (fun r => (∀ c : Dev Cert.DkvpostRefIdeal.nD,
      r.2.mem ((c.tc : Thread Cert.DkvpostRefIdeal.nD Cert.DkvpostRefIdeal.τ).loc Cert.DkvpostRefIdeal.main_arg0) = m ((c.tc : Thread Cert.DkvpostRefIdeal.nD Cert.DkvpostRefIdeal.τ).loc Cert.DkvpostRefIdeal.main_arg0)
      ∧ r.2.mem ((c.tc : Thread Cert.DkvpostRefIdeal.nD Cert.DkvpostRefIdeal.τ).loc Cert.DkvpostRefIdeal.main_arg1) = m ((c.tc : Thread Cert.DkvpostRefIdeal.nD Cert.DkvpostRefIdeal.τ).loc Cert.DkvpostRefIdeal.main_arg1)
      ∧ r.2.mem ((c.tc : Thread Cert.DkvpostRefIdeal.nD Cert.DkvpostRefIdeal.τ).loc Cert.DkvpostRefIdeal.main_arg2) = m ((c.tc : Thread Cert.DkvpostRefIdeal.nD Cert.DkvpostRefIdeal.τ).loc Cert.DkvpostRefIdeal.main_arg2)
      ∧ r.2.mem ((c.tc : Thread Cert.DkvpostRefIdeal.nD Cert.DkvpostRefIdeal.τ).loc Cert.DkvpostRefIdeal.main_arg3) = m ((c.tc : Thread Cert.DkvpostRefIdeal.nD Cert.DkvpostRefIdeal.τ).loc Cert.DkvpostRefIdeal.main_arg3)
      ∧ r.2.mem ((c.tc : Thread Cert.DkvpostRefIdeal.nD Cert.DkvpostRefIdeal.τ).loc Cert.DkvpostRefIdeal.main_arg4) = m ((c.tc : Thread Cert.DkvpostRefIdeal.nD Cert.DkvpostRefIdeal.τ).loc Cert.DkvpostRefIdeal.main_arg4)
      ∧ r.2.mem ((c.tc : Thread Cert.DkvpostRefIdeal.nD Cert.DkvpostRefIdeal.τ).loc Cert.DkvpostRefIdeal.main_arg5) = m ((c.tc : Thread Cert.DkvpostRefIdeal.nD Cert.DkvpostRefIdeal.τ).loc Cert.DkvpostRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Gpost [hGpost : Cert.Gpost.Facts] : Prop :=
  ∀ (m : (ℓ : Loc Cert.Gpost.nD Cert.Gpost.τ Cert.Gpost.sig) → Buf (Elt Bits) ℓ) (g : Dev Cert.Gpost.nD → PrngReg), Pre_Gpost m →
    θ_run (Cert.Gpost.defs (F := Bits)) (onTc (τ := Cert.Gpost.τ) (Cert.Gpost.main (F := Bits))) ⟨m, fun _ => 0, g⟩ (fun r => (∀ c : Dev Cert.Gpost.nD,
      r.2.mem ((c.tc : Thread Cert.Gpost.nD Cert.Gpost.τ).loc Cert.Gpost.main_arg0) = m ((c.tc : Thread Cert.Gpost.nD Cert.Gpost.τ).loc Cert.Gpost.main_arg0)
      ∧ r.2.mem ((c.tc : Thread Cert.Gpost.nD Cert.Gpost.τ).loc Cert.Gpost.main_arg1) = m ((c.tc : Thread Cert.Gpost.nD Cert.Gpost.τ).loc Cert.Gpost.main_arg1)
      ∧ r.2.mem ((c.tc : Thread Cert.Gpost.nD Cert.Gpost.τ).loc Cert.Gpost.main_arg2) = m ((c.tc : Thread Cert.Gpost.nD Cert.Gpost.τ).loc Cert.Gpost.main_arg2))
      ∧ r.2.sem = fun _ => 0)

def quiescent_GpostIdeal [hGpostIdeal : Cert.GpostIdeal.Facts] : Prop :=
  ∀ (m : (ℓ : Loc Cert.GpostIdeal.nD Cert.GpostIdeal.τ Cert.GpostIdeal.sig) → Buf (Elt Ideal) ℓ) (g : Dev Cert.GpostIdeal.nD → PrngReg), Pre_GpostIdeal m →
    θ_run (Cert.GpostIdeal.defs (F := Ideal)) (onTc (τ := Cert.GpostIdeal.τ) (Cert.GpostIdeal.main (F := Ideal))) ⟨m, fun _ => 0, g⟩ (fun r => (∀ c : Dev Cert.GpostIdeal.nD,
      r.2.mem ((c.tc : Thread Cert.GpostIdeal.nD Cert.GpostIdeal.τ).loc Cert.GpostIdeal.main_arg0) = m ((c.tc : Thread Cert.GpostIdeal.nD Cert.GpostIdeal.τ).loc Cert.GpostIdeal.main_arg0)
      ∧ r.2.mem ((c.tc : Thread Cert.GpostIdeal.nD Cert.GpostIdeal.τ).loc Cert.GpostIdeal.main_arg1) = m ((c.tc : Thread Cert.GpostIdeal.nD Cert.GpostIdeal.τ).loc Cert.GpostIdeal.main_arg1)
      ∧ r.2.mem ((c.tc : Thread Cert.GpostIdeal.nD Cert.GpostIdeal.τ).loc Cert.GpostIdeal.main_arg2) = m ((c.tc : Thread Cert.GpostIdeal.nD Cert.GpostIdeal.τ).loc Cert.GpostIdeal.main_arg2))
      ∧ r.2.sem = fun _ => 0)

def quiescent_GpostRefIdeal [hGpostRefIdeal : Cert.GpostRefIdeal.Facts] : Prop :=
  ∀ (m : (ℓ : Loc Cert.GpostRefIdeal.nD Cert.GpostRefIdeal.τ Cert.GpostRefIdeal.sig) → Buf (Elt Ideal) ℓ) (g : Dev Cert.GpostRefIdeal.nD → PrngReg), Pre_GpostRefIdeal m →
    θ_run (Cert.GpostRefIdeal.defs (F := Ideal)) (onTc (τ := Cert.GpostRefIdeal.τ) (Cert.GpostRefIdeal.main (F := Ideal))) ⟨m, fun _ => 0, g⟩ (fun r => (∀ c : Dev Cert.GpostRefIdeal.nD,
      r.2.mem ((c.tc : Thread Cert.GpostRefIdeal.nD Cert.GpostRefIdeal.τ).loc Cert.GpostRefIdeal.main_arg0) = m ((c.tc : Thread Cert.GpostRefIdeal.nD Cert.GpostRefIdeal.τ).loc Cert.GpostRefIdeal.main_arg0)
      ∧ r.2.mem ((c.tc : Thread Cert.GpostRefIdeal.nD Cert.GpostRefIdeal.τ).loc Cert.GpostRefIdeal.main_arg1) = m ((c.tc : Thread Cert.GpostRefIdeal.nD Cert.GpostRefIdeal.τ).loc Cert.GpostRefIdeal.main_arg1)
      ∧ r.2.mem ((c.tc : Thread Cert.GpostRefIdeal.nD Cert.GpostRefIdeal.τ).loc Cert.GpostRefIdeal.main_arg2) = m ((c.tc : Thread Cert.GpostRefIdeal.nD Cert.GpostRefIdeal.τ).loc Cert.GpostRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Adamr [hAdamr : Cert.Adamr.Facts] : Prop :=
  ∀ (m : (ℓ : Loc Cert.Adamr.nD Cert.Adamr.τ Cert.Adamr.sig) → Buf (Elt Bits) ℓ) (g : Dev Cert.Adamr.nD → PrngReg), Pre_Adamr m →
    θ_run (Cert.Adamr.defs (F := Bits)) (onTc (τ := Cert.Adamr.τ) (Cert.Adamr.main (F := Bits))) ⟨m, fun _ => 0, g⟩ (fun r => (∀ c : Dev Cert.Adamr.nD,
      r.2.mem ((c.tc : Thread Cert.Adamr.nD Cert.Adamr.τ).loc Cert.Adamr.main_arg0) = m ((c.tc : Thread Cert.Adamr.nD Cert.Adamr.τ).loc Cert.Adamr.main_arg0)
      ∧ r.2.mem ((c.tc : Thread Cert.Adamr.nD Cert.Adamr.τ).loc Cert.Adamr.main_arg1) = m ((c.tc : Thread Cert.Adamr.nD Cert.Adamr.τ).loc Cert.Adamr.main_arg1)
      ∧ r.2.mem ((c.tc : Thread Cert.Adamr.nD Cert.Adamr.τ).loc Cert.Adamr.main_arg2) = m ((c.tc : Thread Cert.Adamr.nD Cert.Adamr.τ).loc Cert.Adamr.main_arg2)
      ∧ r.2.mem ((c.tc : Thread Cert.Adamr.nD Cert.Adamr.τ).loc Cert.Adamr.main_arg3) = m ((c.tc : Thread Cert.Adamr.nD Cert.Adamr.τ).loc Cert.Adamr.main_arg3))
      ∧ r.2.sem = fun _ => 0)

def quiescent_AdamrIdeal [hAdamrIdeal : Cert.AdamrIdeal.Facts] : Prop :=
  ∀ (m : (ℓ : Loc Cert.AdamrIdeal.nD Cert.AdamrIdeal.τ Cert.AdamrIdeal.sig) → Buf (Elt Ideal) ℓ) (g : Dev Cert.AdamrIdeal.nD → PrngReg), Pre_AdamrIdeal m →
    θ_run (Cert.AdamrIdeal.defs (F := Ideal)) (onTc (τ := Cert.AdamrIdeal.τ) (Cert.AdamrIdeal.main (F := Ideal))) ⟨m, fun _ => 0, g⟩ (fun r => (∀ c : Dev Cert.AdamrIdeal.nD,
      r.2.mem ((c.tc : Thread Cert.AdamrIdeal.nD Cert.AdamrIdeal.τ).loc Cert.AdamrIdeal.main_arg0) = m ((c.tc : Thread Cert.AdamrIdeal.nD Cert.AdamrIdeal.τ).loc Cert.AdamrIdeal.main_arg0)
      ∧ r.2.mem ((c.tc : Thread Cert.AdamrIdeal.nD Cert.AdamrIdeal.τ).loc Cert.AdamrIdeal.main_arg1) = m ((c.tc : Thread Cert.AdamrIdeal.nD Cert.AdamrIdeal.τ).loc Cert.AdamrIdeal.main_arg1)
      ∧ r.2.mem ((c.tc : Thread Cert.AdamrIdeal.nD Cert.AdamrIdeal.τ).loc Cert.AdamrIdeal.main_arg2) = m ((c.tc : Thread Cert.AdamrIdeal.nD Cert.AdamrIdeal.τ).loc Cert.AdamrIdeal.main_arg2)
      ∧ r.2.mem ((c.tc : Thread Cert.AdamrIdeal.nD Cert.AdamrIdeal.τ).loc Cert.AdamrIdeal.main_arg3) = m ((c.tc : Thread Cert.AdamrIdeal.nD Cert.AdamrIdeal.τ).loc Cert.AdamrIdeal.main_arg3))
      ∧ r.2.sem = fun _ => 0)

def quiescent_AdamrRefIdeal [hAdamrRefIdeal : Cert.AdamrRefIdeal.Facts] : Prop :=
  ∀ (m : (ℓ : Loc Cert.AdamrRefIdeal.nD Cert.AdamrRefIdeal.τ Cert.AdamrRefIdeal.sig) → Buf (Elt Ideal) ℓ) (g : Dev Cert.AdamrRefIdeal.nD → PrngReg), Pre_AdamrRefIdeal m →
    θ_run (Cert.AdamrRefIdeal.defs (F := Ideal)) (onTc (τ := Cert.AdamrRefIdeal.τ) (Cert.AdamrRefIdeal.main (F := Ideal))) ⟨m, fun _ => 0, g⟩ (fun r => (∀ c : Dev Cert.AdamrRefIdeal.nD,
      r.2.mem ((c.tc : Thread Cert.AdamrRefIdeal.nD Cert.AdamrRefIdeal.τ).loc Cert.AdamrRefIdeal.main_arg0) = m ((c.tc : Thread Cert.AdamrRefIdeal.nD Cert.AdamrRefIdeal.τ).loc Cert.AdamrRefIdeal.main_arg0)
      ∧ r.2.mem ((c.tc : Thread Cert.AdamrRefIdeal.nD Cert.AdamrRefIdeal.τ).loc Cert.AdamrRefIdeal.main_arg1) = m ((c.tc : Thread Cert.AdamrRefIdeal.nD Cert.AdamrRefIdeal.τ).loc Cert.AdamrRefIdeal.main_arg1)
      ∧ r.2.mem ((c.tc : Thread Cert.AdamrRefIdeal.nD Cert.AdamrRefIdeal.τ).loc Cert.AdamrRefIdeal.main_arg2) = m ((c.tc : Thread Cert.AdamrRefIdeal.nD Cert.AdamrRefIdeal.τ).loc Cert.AdamrRefIdeal.main_arg2)
      ∧ r.2.mem ((c.tc : Thread Cert.AdamrRefIdeal.nD Cert.AdamrRefIdeal.τ).loc Cert.AdamrRefIdeal.main_arg3) = m ((c.tc : Thread Cert.AdamrRefIdeal.nD Cert.AdamrRefIdeal.τ).loc Cert.AdamrRefIdeal.main_arg3))
      ∧ r.2.sem = fun _ => 0)

def preserves_Kernel_KernelIdeal : Prop :=
  IdealRules.named_const.Statement Cert.KernelIdeal.κ "exp_underflow" .f32 0xC2D00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dwdown_DwdownIdeal : Prop :=
  True

def algebraic_DwdownIdeal_DwdownRefIdeal [hDwdownIdeal : Cert.DwdownIdeal.Facts] [hDwdownRefIdeal : Cert.DwdownRefIdeal.Facts] : Prop :=
  ∀ (m : (ℓ : Loc Cert.DwdownIdeal.nD Cert.DwdownIdeal.τ Cert.DwdownIdeal.sig) → Buf (Elt Ideal) ℓ) (g : Dev Cert.DwdownIdeal.nD → PrngReg)
    (m' : (ℓ : Loc Cert.DwdownRefIdeal.nD Cert.DwdownRefIdeal.τ Cert.DwdownRefIdeal.sig) → Buf (Elt Ideal) ℓ) (g' : Dev Cert.DwdownRefIdeal.nD → PrngReg), Pre_DwdownIdeal m →
    (∀ c : Dev Cert.DwdownIdeal.nD,
      m' ((c.tc : Thread Cert.DwdownRefIdeal.nD Cert.DwdownRefIdeal.τ).loc Cert.DwdownRefIdeal.main_arg0) = m ((c.tc : Thread Cert.DwdownIdeal.nD Cert.DwdownIdeal.τ).loc Cert.DwdownIdeal.main_arg0)
      ∧ m' ((c.tc : Thread Cert.DwdownRefIdeal.nD Cert.DwdownRefIdeal.τ).loc Cert.DwdownRefIdeal.main_arg1) = m ((c.tc : Thread Cert.DwdownIdeal.nD Cert.DwdownIdeal.τ).loc Cert.DwdownIdeal.main_arg1)) →
    ∃ (v0 : (c : Dev Cert.DwdownIdeal.nD) → Buf (Elt Ideal) ((c.tc : Thread Cert.DwdownIdeal.nD Cert.DwdownIdeal.τ).loc Cert.DwdownIdeal.main_v0)),
      θ_run (Cert.DwdownIdeal.defs (F := Ideal)) (onTc (τ := Cert.DwdownIdeal.τ) (Cert.DwdownIdeal.main (F := Ideal))) ⟨m, fun _ => 0, g⟩ (fun r => ∀ c : Dev Cert.DwdownIdeal.nD,
          r.2.mem ((c.tc : Thread Cert.DwdownIdeal.nD Cert.DwdownIdeal.τ).loc Cert.DwdownIdeal.main_v0) = v0 c
          ∧ r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
          ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ θ_run (Cert.DwdownRefIdeal.defs (F := Ideal)) (onTc (τ := Cert.DwdownRefIdeal.τ) (Cert.DwdownRefIdeal.main (F := Ideal))) ⟨m', fun _ => 0, g'⟩ (fun r => ∀ c : Dev Cert.DwdownRefIdeal.nD,
          r.2.mem ((c.tc : Thread Cert.DwdownRefIdeal.nD Cert.DwdownRefIdeal.τ).loc Cert.DwdownRefIdeal.main_v5) = v0 c
          ∧ r.2.mem ((c.tc : Thread Cert.DwdownRefIdeal.nD Cert.DwdownRefIdeal.τ).loc Cert.DwdownRefIdeal.main_arg0) = m' ((c.tc : Thread Cert.DwdownRefIdeal.nD Cert.DwdownRefIdeal.τ).loc Cert.DwdownRefIdeal.main_arg0)
          ∧ r.2.mem ((c.tc : Thread Cert.DwdownRefIdeal.nD Cert.DwdownRefIdeal.τ).loc Cert.DwdownRefIdeal.main_arg1) = m' ((c.tc : Thread Cert.DwdownRefIdeal.nD Cert.DwdownRefIdeal.τ).loc Cert.DwdownRefIdeal.main_arg1))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v4) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Dmid_DmidIdeal : Prop :=
  True

def algebraic_DmidIdeal_DmidRefIdeal_pre_finite_dmid [hDmidIdeal : Cert.DmidIdeal.Facts] [hDmidRefIdeal : Cert.DmidRefIdeal.Facts] [hPre_finite_dmid : Cert.Pre_finite_dmid.Facts] : Prop :=
  ∀ (m : (ℓ : Loc Cert.DmidIdeal.nD Cert.DmidIdeal.τ Cert.DmidIdeal.sig) → Buf (Elt Ideal) ℓ) (g : Dev Cert.DmidIdeal.nD → PrngReg)
    (m' : (ℓ : Loc Cert.DmidRefIdeal.nD Cert.DmidRefIdeal.τ Cert.DmidRefIdeal.sig) → Buf (Elt Ideal) ℓ) (g' : Dev Cert.DmidRefIdeal.nD → PrngReg), Pre_DmidIdeal_finite_dmid m →
    (∀ c : Dev Cert.DmidIdeal.nD,
      m' ((c.tc : Thread Cert.DmidRefIdeal.nD Cert.DmidRefIdeal.τ).loc Cert.DmidRefIdeal.main_arg0) = m ((c.tc : Thread Cert.DmidIdeal.nD Cert.DmidIdeal.τ).loc Cert.DmidIdeal.main_arg0)
      ∧ m' ((c.tc : Thread Cert.DmidRefIdeal.nD Cert.DmidRefIdeal.τ).loc Cert.DmidRefIdeal.main_arg1) = m ((c.tc : Thread Cert.DmidIdeal.nD Cert.DmidIdeal.τ).loc Cert.DmidIdeal.main_arg1)
      ∧ m' ((c.tc : Thread Cert.DmidRefIdeal.nD Cert.DmidRefIdeal.τ).loc Cert.DmidRefIdeal.main_arg2) = m ((c.tc : Thread Cert.DmidIdeal.nD Cert.DmidIdeal.τ).loc Cert.DmidIdeal.main_arg2)) →
    ∃ (v0 : (c : Dev Cert.DmidIdeal.nD) → Buf (Elt Ideal) ((c.tc : Thread Cert.DmidIdeal.nD Cert.DmidIdeal.τ).loc Cert.DmidIdeal.main_v0)),
      θ_run (Cert.DmidIdeal.defs (F := Ideal)) (onTc (τ := Cert.DmidIdeal.τ) (Cert.DmidIdeal.main (F := Ideal))) ⟨m, fun _ => 0, g⟩ (fun r => ∀ c : Dev Cert.DmidIdeal.nD,
          r.2.mem ((c.tc : Thread Cert.DmidIdeal.nD Cert.DmidIdeal.τ).loc Cert.DmidIdeal.main_v0) = v0 c
          ∧ r.2.mem ((c.tc : Thread Cert.DmidIdeal.nD Cert.DmidIdeal.τ).loc Cert.DmidIdeal.main_arg0) = m ((c.tc : Thread Cert.DmidIdeal.nD Cert.DmidIdeal.τ).loc Cert.DmidIdeal.main_arg0)
          ∧ r.2.mem ((c.tc : Thread Cert.DmidIdeal.nD Cert.DmidIdeal.τ).loc Cert.DmidIdeal.main_arg1) = m ((c.tc : Thread Cert.DmidIdeal.nD Cert.DmidIdeal.τ).loc Cert.DmidIdeal.main_arg1)
          ∧ r.2.mem ((c.tc : Thread Cert.DmidIdeal.nD Cert.DmidIdeal.τ).loc Cert.DmidIdeal.main_arg2) = m ((c.tc : Thread Cert.DmidIdeal.nD Cert.DmidIdeal.τ).loc Cert.DmidIdeal.main_arg2))
      ∧ θ_run (Cert.DmidRefIdeal.defs (F := Ideal)) (onTc (τ := Cert.DmidRefIdeal.τ) (Cert.DmidRefIdeal.main (F := Ideal))) ⟨m', fun _ => 0, g'⟩ (fun r => ∀ c : Dev Cert.DmidRefIdeal.nD,
          r.2.mem ((c.tc : Thread Cert.DmidRefIdeal.nD Cert.DmidRefIdeal.τ).loc Cert.DmidRefIdeal.main_v31) = v0 c
          ∧ r.2.mem ((c.tc : Thread Cert.DmidRefIdeal.nD Cert.DmidRefIdeal.τ).loc Cert.DmidRefIdeal.main_arg0) = m' ((c.tc : Thread Cert.DmidRefIdeal.nD Cert.DmidRefIdeal.τ).loc Cert.DmidRefIdeal.main_arg0)
          ∧ r.2.mem ((c.tc : Thread Cert.DmidRefIdeal.nD Cert.DmidRefIdeal.τ).loc Cert.DmidRefIdeal.main_arg1) = m' ((c.tc : Thread Cert.DmidRefIdeal.nD Cert.DmidRefIdeal.τ).loc Cert.DmidRefIdeal.main_arg1)
          ∧ r.2.mem ((c.tc : Thread Cert.DmidRefIdeal.nD Cert.DmidRefIdeal.τ).loc Cert.DmidRefIdeal.main_arg2) = m' ((c.tc : Thread Cert.DmidRefIdeal.nD Cert.DmidRefIdeal.τ).loc Cert.DmidRefIdeal.main_arg2))

def preserves_Dconv_DconvIdeal : Prop :=
  True

def algebraic_DconvIdeal_DconvRefIdeal [hDconvIdeal : Cert.DconvIdeal.Facts] [hDconvRefIdeal : Cert.DconvRefIdeal.Facts] : Prop :=
  ∀ (m : (ℓ : Loc Cert.DconvIdeal.nD Cert.DconvIdeal.τ Cert.DconvIdeal.sig) → Buf (Elt Ideal) ℓ) (g : Dev Cert.DconvIdeal.nD → PrngReg)
    (m' : (ℓ : Loc Cert.DconvRefIdeal.nD Cert.DconvRefIdeal.τ Cert.DconvRefIdeal.sig) → Buf (Elt Ideal) ℓ) (g' : Dev Cert.DconvRefIdeal.nD → PrngReg), Pre_DconvIdeal m →
    (∀ c : Dev Cert.DconvIdeal.nD,
      m' ((c.tc : Thread Cert.DconvRefIdeal.nD Cert.DconvRefIdeal.τ).loc Cert.DconvRefIdeal.main_arg0) = m ((c.tc : Thread Cert.DconvIdeal.nD Cert.DconvIdeal.τ).loc Cert.DconvIdeal.main_arg0)
      ∧ m' ((c.tc : Thread Cert.DconvRefIdeal.nD Cert.DconvRefIdeal.τ).loc Cert.DconvRefIdeal.main_arg1) = m ((c.tc : Thread Cert.DconvIdeal.nD Cert.DconvIdeal.τ).loc Cert.DconvIdeal.main_arg1)
      ∧ m' ((c.tc : Thread Cert.DconvRefIdeal.nD Cert.DconvRefIdeal.τ).loc Cert.DconvRefIdeal.main_arg2) = m ((c.tc : Thread Cert.DconvIdeal.nD Cert.DconvIdeal.τ).loc Cert.DconvIdeal.main_arg2)) →
    ∃ (v0 : (c : Dev Cert.DconvIdeal.nD) → Buf (Elt Ideal) ((c.tc : Thread Cert.DconvIdeal.nD Cert.DconvIdeal.τ).loc Cert.DconvIdeal.main_v0_0)) (v1 : (c : Dev Cert.DconvIdeal.nD) → Buf (Elt Ideal) ((c.tc : Thread Cert.DconvIdeal.nD Cert.DconvIdeal.τ).loc Cert.DconvIdeal.main_v0_1)),
      θ_run (Cert.DconvIdeal.defs (F := Ideal)) (onTc (τ := Cert.DconvIdeal.τ) (Cert.DconvIdeal.main (F := Ideal))) ⟨m, fun _ => 0, g⟩ (fun r => ∀ c : Dev Cert.DconvIdeal.nD,
          r.2.mem ((c.tc : Thread Cert.DconvIdeal.nD Cert.DconvIdeal.τ).loc Cert.DconvIdeal.main_v0_0) = v0 c
          ∧ r.2.mem ((c.tc : Thread Cert.DconvIdeal.nD Cert.DconvIdeal.τ).loc Cert.DconvIdeal.main_v0_1) = v1 c
          ∧ r.2.mem ((c.tc : Thread Cert.DconvIdeal.nD Cert.DconvIdeal.τ).loc Cert.DconvIdeal.main_arg0) = m ((c.tc : Thread Cert.DconvIdeal.nD Cert.DconvIdeal.τ).loc Cert.DconvIdeal.main_arg0)
          ∧ r.2.mem ((c.tc : Thread Cert.DconvIdeal.nD Cert.DconvIdeal.τ).loc Cert.DconvIdeal.main_arg1) = m ((c.tc : Thread Cert.DconvIdeal.nD Cert.DconvIdeal.τ).loc Cert.DconvIdeal.main_arg1)
          ∧ r.2.mem ((c.tc : Thread Cert.DconvIdeal.nD Cert.DconvIdeal.τ).loc Cert.DconvIdeal.main_arg2) = m ((c.tc : Thread Cert.DconvIdeal.nD Cert.DconvIdeal.τ).loc Cert.DconvIdeal.main_arg2))
      ∧ θ_run (Cert.DconvRefIdeal.defs (F := Ideal)) (onTc (τ := Cert.DconvRefIdeal.τ) (Cert.DconvRefIdeal.main (F := Ideal))) ⟨m', fun _ => 0, g'⟩ (fun r => ∀ c : Dev Cert.DconvRefIdeal.nD,
          r.2.mem ((c.tc : Thread Cert.DconvRefIdeal.nD Cert.DconvRefIdeal.τ).loc Cert.DconvRefIdeal.main_v60) = v0 c
          ∧ r.2.mem ((c.tc : Thread Cert.DconvRefIdeal.nD Cert.DconvRefIdeal.τ).loc Cert.DconvRefIdeal.main_v55) = v1 c
          ∧ r.2.mem ((c.tc : Thread Cert.DconvRefIdeal.nD Cert.DconvRefIdeal.τ).loc Cert.DconvRefIdeal.main_arg0) = m' ((c.tc : Thread Cert.DconvRefIdeal.nD Cert.DconvRefIdeal.τ).loc Cert.DconvRefIdeal.main_arg0)
          ∧ r.2.mem ((c.tc : Thread Cert.DconvRefIdeal.nD Cert.DconvRefIdeal.τ).loc Cert.DconvRefIdeal.main_arg1) = m' ((c.tc : Thread Cert.DconvRefIdeal.nD Cert.DconvRefIdeal.τ).loc Cert.DconvRefIdeal.main_arg1)
          ∧ r.2.mem ((c.tc : Thread Cert.DconvRefIdeal.nD Cert.DconvRefIdeal.τ).loc Cert.DconvRefIdeal.main_arg2) = m' ((c.tc : Thread Cert.DconvRefIdeal.nD Cert.DconvRefIdeal.τ).loc Cert.DconvRefIdeal.main_arg2))

def preserves_Dwup_DwupIdeal : Prop :=
  True

def algebraic_DwupIdeal_DwupRefIdeal [hDwupIdeal : Cert.DwupIdeal.Facts] [hDwupRefIdeal : Cert.DwupRefIdeal.Facts] : Prop :=
  ∀ (m : (ℓ : Loc Cert.DwupIdeal.nD Cert.DwupIdeal.τ Cert.DwupIdeal.sig) → Buf (Elt Ideal) ℓ) (g : Dev Cert.DwupIdeal.nD → PrngReg)
    (m' : (ℓ : Loc Cert.DwupRefIdeal.nD Cert.DwupRefIdeal.τ Cert.DwupRefIdeal.sig) → Buf (Elt Ideal) ℓ) (g' : Dev Cert.DwupRefIdeal.nD → PrngReg), Pre_DwupIdeal m →
    (∀ c : Dev Cert.DwupIdeal.nD,
      m' ((c.tc : Thread Cert.DwupRefIdeal.nD Cert.DwupRefIdeal.τ).loc Cert.DwupRefIdeal.main_arg0) = m ((c.tc : Thread Cert.DwupIdeal.nD Cert.DwupIdeal.τ).loc Cert.DwupIdeal.main_arg0)
      ∧ m' ((c.tc : Thread Cert.DwupRefIdeal.nD Cert.DwupRefIdeal.τ).loc Cert.DwupRefIdeal.main_arg1) = m ((c.tc : Thread Cert.DwupIdeal.nD Cert.DwupIdeal.τ).loc Cert.DwupIdeal.main_arg1)) →
    ∃ (v0 : (c : Dev Cert.DwupIdeal.nD) → Buf (Elt Ideal) ((c.tc : Thread Cert.DwupIdeal.nD Cert.DwupIdeal.τ).loc Cert.DwupIdeal.main_v0)),
      θ_run (Cert.DwupIdeal.defs (F := Ideal)) (onTc (τ := Cert.DwupIdeal.τ) (Cert.DwupIdeal.main (F := Ideal))) ⟨m, fun _ => 0, g⟩ (fun r => ∀ c : Dev Cert.DwupIdeal.nD,
          r.2.mem ((c.tc : Thread Cert.DwupIdeal.nD Cert.DwupIdeal.τ).loc Cert.DwupIdeal.main_v0) = v0 c
          ∧ r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
          ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ θ_run (Cert.DwupRefIdeal.defs (F := Ideal)) (onTc (τ := Cert.DwupRefIdeal.τ) (Cert.DwupRefIdeal.main (F := Ideal))) ⟨m', fun _ => 0, g'⟩ (fun r => ∀ c : Dev Cert.DwupRefIdeal.nD,
          r.2.mem ((c.tc : Thread Cert.DwupRefIdeal.nD Cert.DwupRefIdeal.τ).loc Cert.DwupRefIdeal.main_v5) = v0 c
          ∧ r.2.mem ((c.tc : Thread Cert.DwupRefIdeal.nD Cert.DwupRefIdeal.τ).loc Cert.DwupRefIdeal.main_arg0) = m' ((c.tc : Thread Cert.DwupRefIdeal.nD Cert.DwupRefIdeal.τ).loc Cert.DwupRefIdeal.main_arg0)
          ∧ r.2.mem ((c.tc : Thread Cert.DwupRefIdeal.nD Cert.DwupRefIdeal.τ).loc Cert.DwupRefIdeal.main_arg1) = m' ((c.tc : Thread Cert.DwupRefIdeal.nD Cert.DwupRefIdeal.τ).loc Cert.DwupRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v4) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Dnorm_DnormIdeal : Prop :=
  True

def algebraic_DnormIdeal_DnormRefIdeal [hDnormIdeal : Cert.DnormIdeal.Facts] [hDnormRefIdeal : Cert.DnormRefIdeal.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormRefIdeal.nD Cert.DnormRefIdeal.τ Cert.DnormRefIdeal.sig) → Buf (Elt Ideal) ℓ) (g' : Dev Cert.DnormRefIdeal.nD → PrngReg), Pre_DnormIdeal m →
    (∀ c : Dev Cert.DnormIdeal.nD,
      m' ((c.tc : Thread Cert.DnormRefIdeal.nD Cert.DnormRefIdeal.τ).loc Cert.DnormRefIdeal.main_arg0) = m ((c.tc : Thread Cert.DnormIdeal.nD Cert.DnormIdeal.τ).loc Cert.DnormIdeal.main_arg0)
      ∧ m' ((c.tc : Thread Cert.DnormRefIdeal.nD Cert.DnormRefIdeal.τ).loc Cert.DnormRefIdeal.main_arg1) = m ((c.tc : Thread Cert.DnormIdeal.nD Cert.DnormIdeal.τ).loc Cert.DnormIdeal.main_arg1)
      ∧ m' ((c.tc : Thread Cert.DnormRefIdeal.nD Cert.DnormRefIdeal.τ).loc Cert.DnormRefIdeal.main_arg2) = m ((c.tc : Thread Cert.DnormIdeal.nD Cert.DnormIdeal.τ).loc Cert.DnormIdeal.main_arg2)
      ∧ m' ((c.tc : Thread Cert.DnormRefIdeal.nD Cert.DnormRefIdeal.τ).loc Cert.DnormRefIdeal.main_arg3) = m ((c.tc : Thread Cert.DnormIdeal.nD Cert.DnormIdeal.τ).loc Cert.DnormIdeal.main_arg3)) →
    ∃ (v0 : (c : Dev Cert.DnormIdeal.nD) → Buf (Elt Ideal) ((c.tc : Thread Cert.DnormIdeal.nD Cert.DnormIdeal.τ).loc Cert.DnormIdeal.main_v0_0)) (v1 : (c : Dev Cert.DnormIdeal.nD) → Buf (Elt Ideal) ((c.tc : Thread Cert.DnormIdeal.nD Cert.DnormIdeal.τ).loc Cert.DnormIdeal.main_v0_1)) (v2 : (c : Dev Cert.DnormIdeal.nD) → Buf (Elt Ideal) ((c.tc : Thread Cert.DnormIdeal.nD Cert.DnormIdeal.τ).loc Cert.DnormIdeal.main_v0_2)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v0_0) = v0 c
          ∧ r.2.mem ((c.tc : Thread Cert.DnormIdeal.nD Cert.DnormIdeal.τ).loc Cert.DnormIdeal.main_v0_1) = v1 c
          ∧ r.2.mem ((c.tc : Thread Cert.DnormIdeal.nD Cert.DnormIdeal.τ).loc Cert.DnormIdeal.main_v0_2) = v2 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
          ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ θ_run (Cert.DnormRefIdeal.defs (F := Ideal)) (onTc (τ := Cert.DnormRefIdeal.τ) (Cert.DnormRefIdeal.main (F := Ideal))) ⟨m', fun _ => 0, g'⟩ (fun r => ∀ c : Dev Cert.DnormRefIdeal.nD,
          r.2.mem ((c.tc : Thread Cert.DnormRefIdeal.nD Cert.DnormRefIdeal.τ).loc Cert.DnormRefIdeal.main_v34) = v0 c
          ∧ r.2.mem ((c.tc : Thread Cert.DnormRefIdeal.nD Cert.DnormRefIdeal.τ).loc Cert.DnormRefIdeal.main_v35) = v1 c
          ∧ r.2.mem ((c.tc : Thread Cert.DnormRefIdeal.nD Cert.DnormRefIdeal.τ).loc Cert.DnormRefIdeal.main_v17) = v2 c
          ∧ r.2.mem ((c.tc : Thread Cert.DnormRefIdeal.nD Cert.DnormRefIdeal.τ).loc Cert.DnormRefIdeal.main_arg0) = m' ((c.tc : Thread Cert.DnormRefIdeal.nD Cert.DnormRefIdeal.τ).loc Cert.DnormRefIdeal.main_arg0)
          ∧ r.2.mem ((c.tc : Thread Cert.DnormRefIdeal.nD Cert.DnormRefIdeal.τ).loc Cert.DnormRefIdeal.main_arg1) = m' ((c.tc : Thread Cert.DnormRefIdeal.nD Cert.DnormRefIdeal.τ).loc Cert.DnormRefIdeal.main_arg1)
          ∧ r.2.mem ((c.tc : Thread Cert.DnormRefIdeal.nD Cert.DnormRefIdeal.τ).loc Cert.DnormRefIdeal.main_arg2) = m' ((c.tc : Thread Cert.DnormRefIdeal.nD Cert.DnormRefIdeal.τ).loc Cert.DnormRefIdeal.main_arg2)
          ∧ r.2.mem ((c.tc : Thread Cert.DnormRefIdeal.nD Cert.DnormRefIdeal.τ).loc Cert.DnormRefIdeal.main_arg3) = m' ((c.tc : Thread Cert.DnormRefIdeal.nD Cert.DnormRefIdeal.τ).loc Cert.DnormRefIdeal.main_arg3))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v5) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Dyout_DyoutIdeal : Prop :=
  True

def algebraic_DyoutIdeal_DyoutRefIdeal [hDyoutIdeal : Cert.DyoutIdeal.Facts] [hDyoutRefIdeal : Cert.DyoutRefIdeal.Facts] : Prop :=
  ∀ (m : (ℓ : Loc Cert.DyoutIdeal.nD Cert.DyoutIdeal.τ Cert.DyoutIdeal.sig) → Buf (Elt Ideal) ℓ) (g : Dev Cert.DyoutIdeal.nD → PrngReg)
    (m' : (ℓ : Loc Cert.DyoutRefIdeal.nD Cert.DyoutRefIdeal.τ Cert.DyoutRefIdeal.sig) → Buf (Elt Ideal) ℓ) (g' : Dev Cert.DyoutRefIdeal.nD → PrngReg), Pre_DyoutIdeal m →
    (∀ c : Dev Cert.DyoutIdeal.nD,
      m' ((c.tc : Thread Cert.DyoutRefIdeal.nD Cert.DyoutRefIdeal.τ).loc Cert.DyoutRefIdeal.main_arg0) = m ((c.tc : Thread Cert.DyoutIdeal.nD Cert.DyoutIdeal.τ).loc Cert.DyoutIdeal.main_arg0)
      ∧ m' ((c.tc : Thread Cert.DyoutRefIdeal.nD Cert.DyoutRefIdeal.τ).loc Cert.DyoutRefIdeal.main_arg1) = m ((c.tc : Thread Cert.DyoutIdeal.nD Cert.DyoutIdeal.τ).loc Cert.DyoutIdeal.main_arg1)) →
    ∃ (v0 : (c : Dev Cert.DyoutIdeal.nD) → Buf (Elt Ideal) ((c.tc : Thread Cert.DyoutIdeal.nD Cert.DyoutIdeal.τ).loc Cert.DyoutIdeal.main_v0)),
      θ_run (Cert.DyoutIdeal.defs (F := Ideal)) (onTc (τ := Cert.DyoutIdeal.τ) (Cert.DyoutIdeal.main (F := Ideal))) ⟨m, fun _ => 0, g⟩ (fun r => ∀ c : Dev Cert.DyoutIdeal.nD,
          r.2.mem ((c.tc : Thread Cert.DyoutIdeal.nD Cert.DyoutIdeal.τ).loc Cert.DyoutIdeal.main_v0) = v0 c
          ∧ r.2.mem ((c.tc : Thread Cert.DyoutIdeal.nD Cert.DyoutIdeal.τ).loc Cert.DyoutIdeal.main_arg0) = m ((c.tc : Thread Cert.DyoutIdeal.nD Cert.DyoutIdeal.τ).loc Cert.DyoutIdeal.main_arg0)
          ∧ r.2.mem ((c.tc : Thread Cert.DyoutIdeal.nD Cert.DyoutIdeal.τ).loc Cert.DyoutIdeal.main_arg1) = m ((c.tc : Thread Cert.DyoutIdeal.nD Cert.DyoutIdeal.τ).loc Cert.DyoutIdeal.main_arg1))
      ∧ θ_run (Cert.DyoutRefIdeal.defs (F := Ideal)) (onTc (τ := Cert.DyoutRefIdeal.τ) (Cert.DyoutRefIdeal.main (F := Ideal))) ⟨m', fun _ => 0, g'⟩ (fun r => ∀ c : Dev Cert.DyoutRefIdeal.nD,
          r.2.mem ((c.tc : Thread Cert.DyoutRefIdeal.nD Cert.DyoutRefIdeal.τ).loc Cert.DyoutRefIdeal.main_v4) = v0 c
          ∧ r.2.mem ((c.tc : Thread Cert.DyoutRefIdeal.nD Cert.DyoutRefIdeal.τ).loc Cert.DyoutRefIdeal.main_arg0) = m' ((c.tc : Thread Cert.DyoutRefIdeal.nD Cert.DyoutRefIdeal.τ).loc Cert.DyoutRefIdeal.main_arg0)
          ∧ r.2.mem ((c.tc : Thread Cert.DyoutRefIdeal.nD Cert.DyoutRefIdeal.τ).loc Cert.DyoutRefIdeal.main_arg1) = m' ((c.tc : Thread Cert.DyoutRefIdeal.nD Cert.DyoutRefIdeal.τ).loc Cert.DyoutRefIdeal.main_arg1))

def preserves_Dosb_DosbIdeal : Prop :=
  True

def algebraic_DosbIdeal_DosbRefIdeal [hDosbIdeal : Cert.DosbIdeal.Facts] [hDosbRefIdeal : Cert.DosbRefIdeal.Facts] : Prop :=
  ∀ (m : (ℓ : Loc Cert.DosbIdeal.nD Cert.DosbIdeal.τ Cert.DosbIdeal.sig) → Buf (Elt Ideal) ℓ) (g : Dev Cert.DosbIdeal.nD → PrngReg)
    (m' : (ℓ : Loc Cert.DosbRefIdeal.nD Cert.DosbRefIdeal.τ Cert.DosbRefIdeal.sig) → Buf (Elt Ideal) ℓ) (g' : Dev Cert.DosbRefIdeal.nD → PrngReg), Pre_DosbIdeal m →
    (∀ c : Dev Cert.DosbIdeal.nD,
      m' ((c.tc : Thread Cert.DosbRefIdeal.nD Cert.DosbRefIdeal.τ).loc Cert.DosbRefIdeal.main_arg0) = m ((c.tc : Thread Cert.DosbIdeal.nD Cert.DosbIdeal.τ).loc Cert.DosbIdeal.main_arg0)
      ∧ m' ((c.tc : Thread Cert.DosbRefIdeal.nD Cert.DosbRefIdeal.τ).loc Cert.DosbRefIdeal.main_arg1) = m ((c.tc : Thread Cert.DosbIdeal.nD Cert.DosbIdeal.τ).loc Cert.DosbIdeal.main_arg1)) →
    ∃ (v0 : (c : Dev Cert.DosbIdeal.nD) → Buf (Elt Ideal) ((c.tc : Thread Cert.DosbIdeal.nD Cert.DosbIdeal.τ).loc Cert.DosbIdeal.main_v0)),
      θ_run (Cert.DosbIdeal.defs (F := Ideal)) (onTc (τ := Cert.DosbIdeal.τ) (Cert.DosbIdeal.main (F := Ideal))) ⟨m, fun _ => 0, g⟩ (fun r => ∀ c : Dev Cert.DosbIdeal.nD,
          r.2.mem ((c.tc : Thread Cert.DosbIdeal.nD Cert.DosbIdeal.τ).loc Cert.DosbIdeal.main_v0) = v0 c
          ∧ r.2.mem ((c.tc : Thread Cert.DosbIdeal.nD Cert.DosbIdeal.τ).loc Cert.DosbIdeal.main_arg0) = m ((c.tc : Thread Cert.DosbIdeal.nD Cert.DosbIdeal.τ).loc Cert.DosbIdeal.main_arg0)
          ∧ r.2.mem ((c.tc : Thread Cert.DosbIdeal.nD Cert.DosbIdeal.τ).loc Cert.DosbIdeal.main_arg1) = m ((c.tc : Thread Cert.DosbIdeal.nD Cert.DosbIdeal.τ).loc Cert.DosbIdeal.main_arg1))
      ∧ θ_run (Cert.DosbRefIdeal.defs (F := Ideal)) (onTc (τ := Cert.DosbRefIdeal.τ) (Cert.DosbRefIdeal.main (F := Ideal))) ⟨m', fun _ => 0, g'⟩ (fun r => ∀ c : Dev Cert.DosbRefIdeal.nD,
          r.2.mem ((c.tc : Thread Cert.DosbRefIdeal.nD Cert.DosbRefIdeal.τ).loc Cert.DosbRefIdeal.main_v5) = v0 c
          ∧ r.2.mem ((c.tc : Thread Cert.DosbRefIdeal.nD Cert.DosbRefIdeal.τ).loc Cert.DosbRefIdeal.main_arg0) = m' ((c.tc : Thread Cert.DosbRefIdeal.nD Cert.DosbRefIdeal.τ).loc Cert.DosbRefIdeal.main_arg0)
          ∧ r.2.mem ((c.tc : Thread Cert.DosbRefIdeal.nD Cert.DosbRefIdeal.τ).loc Cert.DosbRefIdeal.main_arg1) = m' ((c.tc : Thread Cert.DosbRefIdeal.nD Cert.DosbRefIdeal.τ).loc Cert.DosbRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v5) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Dhin_DhinIdeal : Prop :=
  True

def algebraic_DhinIdeal_DhinRefIdeal [hDhinIdeal : Cert.DhinIdeal.Facts] [hDhinRefIdeal : Cert.DhinRefIdeal.Facts] : Prop :=
  ∀ (m : (ℓ : Loc Cert.DhinIdeal.nD Cert.DhinIdeal.τ Cert.DhinIdeal.sig) → Buf (Elt Ideal) ℓ) (g : Dev Cert.DhinIdeal.nD → PrngReg)
    (m' : (ℓ : Loc Cert.DhinRefIdeal.nD Cert.DhinRefIdeal.τ Cert.DhinRefIdeal.sig) → Buf (Elt Ideal) ℓ) (g' : Dev Cert.DhinRefIdeal.nD → PrngReg), Pre_DhinIdeal m →
    (∀ c : Dev Cert.DhinIdeal.nD,
      m' ((c.tc : Thread Cert.DhinRefIdeal.nD Cert.DhinRefIdeal.τ).loc Cert.DhinRefIdeal.main_arg0) = m ((c.tc : Thread Cert.DhinIdeal.nD Cert.DhinIdeal.τ).loc Cert.DhinIdeal.main_arg0)
      ∧ m' ((c.tc : Thread Cert.DhinRefIdeal.nD Cert.DhinRefIdeal.τ).loc Cert.DhinRefIdeal.main_arg1) = m ((c.tc : Thread Cert.DhinIdeal.nD Cert.DhinIdeal.τ).loc Cert.DhinIdeal.main_arg1)) →
    ∃ (v0 : (c : Dev Cert.DhinIdeal.nD) → Buf (Elt Ideal) ((c.tc : Thread Cert.DhinIdeal.nD Cert.DhinIdeal.τ).loc Cert.DhinIdeal.main_v0)),
      θ_run (Cert.DhinIdeal.defs (F := Ideal)) (onTc (τ := Cert.DhinIdeal.τ) (Cert.DhinIdeal.main (F := Ideal))) ⟨m, fun _ => 0, g⟩ (fun r => ∀ c : Dev Cert.DhinIdeal.nD,
          r.2.mem ((c.tc : Thread Cert.DhinIdeal.nD Cert.DhinIdeal.τ).loc Cert.DhinIdeal.main_v0) = v0 c
          ∧ r.2.mem ((c.tc : Thread Cert.DhinIdeal.nD Cert.DhinIdeal.τ).loc Cert.DhinIdeal.main_arg0) = m ((c.tc : Thread Cert.DhinIdeal.nD Cert.DhinIdeal.τ).loc Cert.DhinIdeal.main_arg0)
          ∧ r.2.mem ((c.tc : Thread Cert.DhinIdeal.nD Cert.DhinIdeal.τ).loc Cert.DhinIdeal.main_arg1) = m ((c.tc : Thread Cert.DhinIdeal.nD Cert.DhinIdeal.τ).loc Cert.DhinIdeal.main_arg1))
      ∧ θ_run (Cert.DhinRefIdeal.defs (F := Ideal)) (onTc (τ := Cert.DhinRefIdeal.τ) (Cert.DhinRefIdeal.main (F := Ideal))) ⟨m', fun _ => 0, g'⟩ (fun r => ∀ c : Dev Cert.DhinRefIdeal.nD,
          r.2.mem ((c.tc : Thread Cert.DhinRefIdeal.nD Cert.DhinRefIdeal.τ).loc Cert.DhinRefIdeal.main_v4) = v0 c
          ∧ r.2.mem ((c.tc : Thread Cert.DhinRefIdeal.nD Cert.DhinRefIdeal.τ).loc Cert.DhinRefIdeal.main_arg0) = m' ((c.tc : Thread Cert.DhinRefIdeal.nD Cert.DhinRefIdeal.τ).loc Cert.DhinRefIdeal.main_arg0)
          ∧ r.2.mem ((c.tc : Thread Cert.DhinRefIdeal.nD Cert.DhinRefIdeal.τ).loc Cert.DhinRefIdeal.main_arg1) = m' ((c.tc : Thread Cert.DhinRefIdeal.nD Cert.DhinRefIdeal.τ).loc Cert.DhinRefIdeal.main_arg1))

def preserves_Dwkv_DwkvIdeal : Prop :=
  True

def algebraic_DwkvIdeal_DwkvRefIdeal [hDwkvIdeal : Cert.DwkvIdeal.Facts] [hDwkvRefIdeal : Cert.DwkvRefIdeal.Facts] : Prop :=
  ∀ (m : (ℓ : Loc Cert.DwkvIdeal.nD Cert.DwkvIdeal.τ Cert.DwkvIdeal.sig) → Buf (Elt Ideal) ℓ) (g : Dev Cert.DwkvIdeal.nD → PrngReg)
    (m' : (ℓ : Loc Cert.DwkvRefIdeal.nD Cert.DwkvRefIdeal.τ Cert.DwkvRefIdeal.sig) → Buf (Elt Ideal) ℓ) (g' : Dev Cert.DwkvRefIdeal.nD → PrngReg), Pre_DwkvIdeal m →
    (∀ c : Dev Cert.DwkvIdeal.nD,
      m' ((c.tc : Thread Cert.DwkvRefIdeal.nD Cert.DwkvRefIdeal.τ).loc Cert.DwkvRefIdeal.main_arg0) = m ((c.tc : Thread Cert.DwkvIdeal.nD Cert.DwkvIdeal.τ).loc Cert.DwkvIdeal.main_arg0)
      ∧ m' ((c.tc : Thread Cert.DwkvRefIdeal.nD Cert.DwkvRefIdeal.τ).loc Cert.DwkvRefIdeal.main_arg1) = m ((c.tc : Thread Cert.DwkvIdeal.nD Cert.DwkvIdeal.τ).loc Cert.DwkvIdeal.main_arg1)) →
    ∃ (v0 : (c : Dev Cert.DwkvIdeal.nD) → Buf (Elt Ideal) ((c.tc : Thread Cert.DwkvIdeal.nD Cert.DwkvIdeal.τ).loc Cert.DwkvIdeal.main_v0)),
      θ_run (Cert.DwkvIdeal.defs (F := Ideal)) (onTc (τ := Cert.DwkvIdeal.τ) (Cert.DwkvIdeal.main (F := Ideal))) ⟨m, fun _ => 0, g⟩ (fun r => ∀ c : Dev Cert.DwkvIdeal.nD,
          r.2.mem ((c.tc : Thread Cert.DwkvIdeal.nD Cert.DwkvIdeal.τ).loc Cert.DwkvIdeal.main_v0) = v0 c
          ∧ r.2.mem ((c.tc : Thread Cert.DwkvIdeal.nD Cert.DwkvIdeal.τ).loc Cert.DwkvIdeal.main_arg0) = m ((c.tc : Thread Cert.DwkvIdeal.nD Cert.DwkvIdeal.τ).loc Cert.DwkvIdeal.main_arg0)
          ∧ r.2.mem ((c.tc : Thread Cert.DwkvIdeal.nD Cert.DwkvIdeal.τ).loc Cert.DwkvIdeal.main_arg1) = m ((c.tc : Thread Cert.DwkvIdeal.nD Cert.DwkvIdeal.τ).loc Cert.DwkvIdeal.main_arg1))
      ∧ θ_run (Cert.DwkvRefIdeal.defs (F := Ideal)) (onTc (τ := Cert.DwkvRefIdeal.τ) (Cert.DwkvRefIdeal.main (F := Ideal))) ⟨m', fun _ => 0, g'⟩ (fun r => ∀ c : Dev Cert.DwkvRefIdeal.nD,
          r.2.mem ((c.tc : Thread Cert.DwkvRefIdeal.nD Cert.DwkvRefIdeal.τ).loc Cert.DwkvRefIdeal.main_v5) = v0 c
          ∧ r.2.mem ((c.tc : Thread Cert.DwkvRefIdeal.nD Cert.DwkvRefIdeal.τ).loc Cert.DwkvRefIdeal.main_arg0) = m' ((c.tc : Thread Cert.DwkvRefIdeal.nD Cert.DwkvRefIdeal.τ).loc Cert.DwkvRefIdeal.main_arg0)
          ∧ r.2.mem ((c.tc : Thread Cert.DwkvRefIdeal.nD Cert.DwkvRefIdeal.τ).loc Cert.DwkvRefIdeal.main_arg1) = m' ((c.tc : Thread Cert.DwkvRefIdeal.nD Cert.DwkvRefIdeal.τ).loc Cert.DwkvRefIdeal.main_arg1))

def preserves_Dhkv_DhkvIdeal : Prop :=
  True

def algebraic_DhkvIdeal_DhkvRefIdeal [hDhkvIdeal : Cert.DhkvIdeal.Facts] [hDhkvRefIdeal : Cert.DhkvRefIdeal.Facts] : Prop :=
  ∀ (m : (ℓ : Loc Cert.DhkvIdeal.nD Cert.DhkvIdeal.τ Cert.DhkvIdeal.sig) → Buf (Elt Ideal) ℓ) (g : Dev Cert.DhkvIdeal.nD → PrngReg)
    (m' : (ℓ : Loc Cert.DhkvRefIdeal.nD Cert.DhkvRefIdeal.τ Cert.DhkvRefIdeal.sig) → Buf (Elt Ideal) ℓ) (g' : Dev Cert.DhkvRefIdeal.nD → PrngReg), Pre_DhkvIdeal m →
    (∀ c : Dev Cert.DhkvIdeal.nD,
      m' ((c.tc : Thread Cert.DhkvRefIdeal.nD Cert.DhkvRefIdeal.τ).loc Cert.DhkvRefIdeal.main_arg0) = m ((c.tc : Thread Cert.DhkvIdeal.nD Cert.DhkvIdeal.τ).loc Cert.DhkvIdeal.main_arg0)
      ∧ m' ((c.tc : Thread Cert.DhkvRefIdeal.nD Cert.DhkvRefIdeal.τ).loc Cert.DhkvRefIdeal.main_arg1) = m ((c.tc : Thread Cert.DhkvIdeal.nD Cert.DhkvIdeal.τ).loc Cert.DhkvIdeal.main_arg1)) →
    ∃ (v0 : (c : Dev Cert.DhkvIdeal.nD) → Buf (Elt Ideal) ((c.tc : Thread Cert.DhkvIdeal.nD Cert.DhkvIdeal.τ).loc Cert.DhkvIdeal.main_v0)),
      θ_run (Cert.DhkvIdeal.defs (F := Ideal)) (onTc (τ := Cert.DhkvIdeal.τ) (Cert.DhkvIdeal.main (F := Ideal))) ⟨m, fun _ => 0, g⟩ (fun r => ∀ c : Dev Cert.DhkvIdeal.nD,
          r.2.mem ((c.tc : Thread Cert.DhkvIdeal.nD Cert.DhkvIdeal.τ).loc Cert.DhkvIdeal.main_v0) = v0 c
          ∧ r.2.mem ((c.tc : Thread Cert.DhkvIdeal.nD Cert.DhkvIdeal.τ).loc Cert.DhkvIdeal.main_arg0) = m ((c.tc : Thread Cert.DhkvIdeal.nD Cert.DhkvIdeal.τ).loc Cert.DhkvIdeal.main_arg0)
          ∧ r.2.mem ((c.tc : Thread Cert.DhkvIdeal.nD Cert.DhkvIdeal.τ).loc Cert.DhkvIdeal.main_arg1) = m ((c.tc : Thread Cert.DhkvIdeal.nD Cert.DhkvIdeal.τ).loc Cert.DhkvIdeal.main_arg1))
      ∧ θ_run (Cert.DhkvRefIdeal.defs (F := Ideal)) (onTc (τ := Cert.DhkvRefIdeal.τ) (Cert.DhkvRefIdeal.main (F := Ideal))) ⟨m', fun _ => 0, g'⟩ (fun r => ∀ c : Dev Cert.DhkvRefIdeal.nD,
          r.2.mem ((c.tc : Thread Cert.DhkvRefIdeal.nD Cert.DhkvRefIdeal.τ).loc Cert.DhkvRefIdeal.main_v4) = v0 c
          ∧ r.2.mem ((c.tc : Thread Cert.DhkvRefIdeal.nD Cert.DhkvRefIdeal.τ).loc Cert.DhkvRefIdeal.main_arg0) = m' ((c.tc : Thread Cert.DhkvRefIdeal.nD Cert.DhkvRefIdeal.τ).loc Cert.DhkvRefIdeal.main_arg0)
          ∧ r.2.mem ((c.tc : Thread Cert.DhkvRefIdeal.nD Cert.DhkvRefIdeal.τ).loc Cert.DhkvRefIdeal.main_arg1) = m' ((c.tc : Thread Cert.DhkvRefIdeal.nD Cert.DhkvRefIdeal.τ).loc Cert.DhkvRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)) →
    ∃ (v0 : (c : Dev Cert.InpIdeal.nD) → Buf (Elt Ideal) ((c.tc : Thread Cert.InpIdeal.nD Cert.InpIdeal.τ).loc Cert.InpIdeal.main_v0)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v0) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v2) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)) →
    ∃ (v0 : (c : Dev Cert.OutpIdeal.nD) → Buf (Elt Ideal) ((c.tc : Thread Cert.OutpIdeal.nD Cert.OutpIdeal.τ).loc Cert.OutpIdeal.main_v0)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v0) = v0 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v3) = v0 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2))

def preserves_Qp_QpIdeal : Prop :=
  True

def algebraic_QpIdeal_QpRefIdeal [hQpIdeal : Cert.QpIdeal.Facts] [hQpRefIdeal : Cert.QpRefIdeal.Facts] : Prop :=
  ∀ (m : (ℓ : Loc Cert.QpIdeal.nD Cert.QpIdeal.τ Cert.QpIdeal.sig) → Buf (Elt Ideal) ℓ) (g : Dev Cert.QpIdeal.nD → PrngReg)
    (m' : (ℓ : Loc Cert.QpRefIdeal.nD Cert.QpRefIdeal.τ Cert.QpRefIdeal.sig) → Buf (Elt Ideal) ℓ) (g' : Dev Cert.QpRefIdeal.nD → PrngReg), Pre_QpIdeal m →
    (∀ c : Dev Cert.QpIdeal.nD,
      m' ((c.tc : Thread Cert.QpRefIdeal.nD Cert.QpRefIdeal.τ).loc Cert.QpRefIdeal.main_arg0) = m ((c.tc : Thread Cert.QpIdeal.nD Cert.QpIdeal.τ).loc Cert.QpIdeal.main_arg0)
      ∧ m' ((c.tc : Thread Cert.QpRefIdeal.nD Cert.QpRefIdeal.τ).loc Cert.QpRefIdeal.main_arg1) = m ((c.tc : Thread Cert.QpIdeal.nD Cert.QpIdeal.τ).loc Cert.QpIdeal.main_arg1)) →
    ∃ (v0 : (c : Dev Cert.QpIdeal.nD) → Buf (Elt Ideal) ((c.tc : Thread Cert.QpIdeal.nD Cert.QpIdeal.τ).loc Cert.QpIdeal.main_v0)),
      θ_run (Cert.QpIdeal.defs (F := Ideal)) (onTc (τ := Cert.QpIdeal.τ) (Cert.QpIdeal.main (F := Ideal))) ⟨m, fun _ => 0, g⟩ (fun r => ∀ c : Dev Cert.QpIdeal.nD,
          r.2.mem ((c.tc : Thread Cert.QpIdeal.nD Cert.QpIdeal.τ).loc Cert.QpIdeal.main_v0) = v0 c
          ∧ r.2.mem ((c.tc : Thread Cert.QpIdeal.nD Cert.QpIdeal.τ).loc Cert.QpIdeal.main_arg0) = m ((c.tc : Thread Cert.QpIdeal.nD Cert.QpIdeal.τ).loc Cert.QpIdeal.main_arg0)
          ∧ r.2.mem ((c.tc : Thread Cert.QpIdeal.nD Cert.QpIdeal.τ).loc Cert.QpIdeal.main_arg1) = m ((c.tc : Thread Cert.QpIdeal.nD Cert.QpIdeal.τ).loc Cert.QpIdeal.main_arg1))
      ∧ θ_run (Cert.QpRefIdeal.defs (F := Ideal)) (onTc (τ := Cert.QpRefIdeal.τ) (Cert.QpRefIdeal.main (F := Ideal))) ⟨m', fun _ => 0, g'⟩ (fun r => ∀ c : Dev Cert.QpRefIdeal.nD,
          r.2.mem ((c.tc : Thread Cert.QpRefIdeal.nD Cert.QpRefIdeal.τ).loc Cert.QpRefIdeal.main_v2) = v0 c
          ∧ r.2.mem ((c.tc : Thread Cert.QpRefIdeal.nD Cert.QpRefIdeal.τ).loc Cert.QpRefIdeal.main_arg0) = m' ((c.tc : Thread Cert.QpRefIdeal.nD Cert.QpRefIdeal.τ).loc Cert.QpRefIdeal.main_arg0)
          ∧ r.2.mem ((c.tc : Thread Cert.QpRefIdeal.nD Cert.QpRefIdeal.τ).loc Cert.QpRefIdeal.main_arg1) = m' ((c.tc : Thread Cert.QpRefIdeal.nD Cert.QpRefIdeal.τ).loc Cert.QpRefIdeal.main_arg1))

def preserves_Kvp_KvpIdeal : Prop :=
  True

def algebraic_KvpIdeal_KvpRefIdeal [hKvpIdeal : Cert.KvpIdeal.Facts] [hKvpRefIdeal : Cert.KvpRefIdeal.Facts] : Prop :=
  ∀ (m : (ℓ : Loc Cert.KvpIdeal.nD Cert.KvpIdeal.τ Cert.KvpIdeal.sig) → Buf (Elt Ideal) ℓ) (g : Dev Cert.KvpIdeal.nD → PrngReg)
    (m' : (ℓ : Loc Cert.KvpRefIdeal.nD Cert.KvpRefIdeal.τ Cert.KvpRefIdeal.sig) → Buf (Elt Ideal) ℓ) (g' : Dev Cert.KvpRefIdeal.nD → PrngReg), Pre_KvpIdeal m →
    (∀ c : Dev Cert.KvpIdeal.nD,
      m' ((c.tc : Thread Cert.KvpRefIdeal.nD Cert.KvpRefIdeal.τ).loc Cert.KvpRefIdeal.main_arg0) = m ((c.tc : Thread Cert.KvpIdeal.nD Cert.KvpIdeal.τ).loc Cert.KvpIdeal.main_arg0)
      ∧ m' ((c.tc : Thread Cert.KvpRefIdeal.nD Cert.KvpRefIdeal.τ).loc Cert.KvpRefIdeal.main_arg1) = m ((c.tc : Thread Cert.KvpIdeal.nD Cert.KvpIdeal.τ).loc Cert.KvpIdeal.main_arg1)) →
    ∃ (v0 : (c : Dev Cert.KvpIdeal.nD) → Buf (Elt Ideal) ((c.tc : Thread Cert.KvpIdeal.nD Cert.KvpIdeal.τ).loc Cert.KvpIdeal.main_v0)),
      θ_run (Cert.KvpIdeal.defs (F := Ideal)) (onTc (τ := Cert.KvpIdeal.τ) (Cert.KvpIdeal.main (F := Ideal))) ⟨m, fun _ => 0, g⟩ (fun r => ∀ c : Dev Cert.KvpIdeal.nD,
          r.2.mem ((c.tc : Thread Cert.KvpIdeal.nD Cert.KvpIdeal.τ).loc Cert.KvpIdeal.main_v0) = v0 c
          ∧ r.2.mem ((c.tc : Thread Cert.KvpIdeal.nD Cert.KvpIdeal.τ).loc Cert.KvpIdeal.main_arg0) = m ((c.tc : Thread Cert.KvpIdeal.nD Cert.KvpIdeal.τ).loc Cert.KvpIdeal.main_arg0)
          ∧ r.2.mem ((c.tc : Thread Cert.KvpIdeal.nD Cert.KvpIdeal.τ).loc Cert.KvpIdeal.main_arg1) = m ((c.tc : Thread Cert.KvpIdeal.nD Cert.KvpIdeal.τ).loc Cert.KvpIdeal.main_arg1))
      ∧ θ_run (Cert.KvpRefIdeal.defs (F := Ideal)) (onTc (τ := Cert.KvpRefIdeal.τ) (Cert.KvpRefIdeal.main (F := Ideal))) ⟨m', fun _ => 0, g'⟩ (fun r => ∀ c : Dev Cert.KvpRefIdeal.nD,
          r.2.mem ((c.tc : Thread Cert.KvpRefIdeal.nD Cert.KvpRefIdeal.τ).loc Cert.KvpRefIdeal.main_v2) = v0 c
          ∧ r.2.mem ((c.tc : Thread Cert.KvpRefIdeal.nD Cert.KvpRefIdeal.τ).loc Cert.KvpRefIdeal.main_arg0) = m' ((c.tc : Thread Cert.KvpRefIdeal.nD Cert.KvpRefIdeal.τ).loc Cert.KvpRefIdeal.main_arg0)
          ∧ r.2.mem ((c.tc : Thread Cert.KvpRefIdeal.nD Cert.KvpRefIdeal.τ).loc Cert.KvpRefIdeal.main_arg1) = m' ((c.tc : Thread Cert.KvpRefIdeal.nD Cert.KvpRefIdeal.τ).loc Cert.KvpRefIdeal.main_arg1))

def preserves_Rnorm_RnormIdeal : Prop :=
  True

def algebraic_RnormIdeal_RnormRefIdeal [hRnormIdeal : Cert.RnormIdeal.Facts] [hRnormRefIdeal : Cert.RnormRefIdeal.Facts] : Prop :=
  ∀ (m : (ℓ : Loc Cert.RnormIdeal.nD Cert.RnormIdeal.τ Cert.RnormIdeal.sig) → Buf (Elt Ideal) ℓ) (g : Dev Cert.RnormIdeal.nD → PrngReg)
    (m' : (ℓ : Loc Cert.RnormRefIdeal.nD Cert.RnormRefIdeal.τ Cert.RnormRefIdeal.sig) → Buf (Elt Ideal) ℓ) (g' : Dev Cert.RnormRefIdeal.nD → PrngReg), Pre_RnormIdeal m →
    (∀ c : Dev Cert.RnormIdeal.nD,
      m' ((c.tc : Thread Cert.RnormRefIdeal.nD Cert.RnormRefIdeal.τ).loc Cert.RnormRefIdeal.main_arg0) = m ((c.tc : Thread Cert.RnormIdeal.nD Cert.RnormIdeal.τ).loc Cert.RnormIdeal.main_arg0)
      ∧ m' ((c.tc : Thread Cert.RnormRefIdeal.nD Cert.RnormRefIdeal.τ).loc Cert.RnormRefIdeal.main_arg1) = m ((c.tc : Thread Cert.RnormIdeal.nD Cert.RnormIdeal.τ).loc Cert.RnormIdeal.main_arg1)) →
    ∃ (v0 : (c : Dev Cert.RnormIdeal.nD) → Buf (Elt Ideal) ((c.tc : Thread Cert.RnormIdeal.nD Cert.RnormIdeal.τ).loc Cert.RnormIdeal.main_v0)),
      θ_run (Cert.RnormIdeal.defs (F := Ideal)) (onTc (τ := Cert.RnormIdeal.τ) (Cert.RnormIdeal.main (F := Ideal))) ⟨m, fun _ => 0, g⟩ (fun r => ∀ c : Dev Cert.RnormIdeal.nD,
          r.2.mem ((c.tc : Thread Cert.RnormIdeal.nD Cert.RnormIdeal.τ).loc Cert.RnormIdeal.main_v0) = v0 c
          ∧ r.2.mem ((c.tc : Thread Cert.RnormIdeal.nD Cert.RnormIdeal.τ).loc Cert.RnormIdeal.main_arg0) = m ((c.tc : Thread Cert.RnormIdeal.nD Cert.RnormIdeal.τ).loc Cert.RnormIdeal.main_arg0)
          ∧ r.2.mem ((c.tc : Thread Cert.RnormIdeal.nD Cert.RnormIdeal.τ).loc Cert.RnormIdeal.main_arg1) = m ((c.tc : Thread Cert.RnormIdeal.nD Cert.RnormIdeal.τ).loc Cert.RnormIdeal.main_arg1))
      ∧ θ_run (Cert.RnormRefIdeal.defs (F := Ideal)) (onTc (τ := Cert.RnormRefIdeal.τ) (Cert.RnormRefIdeal.main (F := Ideal))) ⟨m', fun _ => 0, g'⟩ (fun r => ∀ c : Dev Cert.RnormRefIdeal.nD,
          r.2.mem ((c.tc : Thread Cert.RnormRefIdeal.nD Cert.RnormRefIdeal.τ).loc Cert.RnormRefIdeal.main_v12) = v0 c
          ∧ r.2.mem ((c.tc : Thread Cert.RnormRefIdeal.nD Cert.RnormRefIdeal.τ).loc Cert.RnormRefIdeal.main_arg0) = m' ((c.tc : Thread Cert.RnormRefIdeal.nD Cert.RnormRefIdeal.τ).loc Cert.RnormRefIdeal.main_arg0)
          ∧ r.2.mem ((c.tc : Thread Cert.RnormRefIdeal.nD Cert.RnormRefIdeal.τ).loc Cert.RnormRefIdeal.main_arg1) = m' ((c.tc : Thread Cert.RnormRefIdeal.nD Cert.RnormRefIdeal.τ).loc Cert.RnormRefIdeal.main_arg1))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)) →
    ∃ (v0 : (c : Dev Cert.MidIdeal.nD) → Buf (Elt Ideal) ((c.tc : Thread Cert.MidIdeal.nD Cert.MidIdeal.τ).loc Cert.MidIdeal.main_v0)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v28) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1))

def preserves_Attn_AttnIdeal : Prop :=
  IdealRules.named_const.Statement Cert.AttnIdeal.κ "exp_underflow" .f32 0xC2D00000#32 ⊥

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v31) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Qnorm_QnormIdeal : Prop :=
  True

def algebraic_QnormIdeal_QnormRefIdeal [hQnormIdeal : Cert.QnormIdeal.Facts] [hQnormRefIdeal : Cert.QnormRefIdeal.Facts] : Prop :=
  ∀ (m : (ℓ : Loc Cert.QnormIdeal.nD Cert.QnormIdeal.τ Cert.QnormIdeal.sig) → Buf (Elt Ideal) ℓ) (g : Dev Cert.QnormIdeal.nD → PrngReg)
    (m' : (ℓ : Loc Cert.QnormRefIdeal.nD Cert.QnormRefIdeal.τ Cert.QnormRefIdeal.sig) → Buf (Elt Ideal) ℓ) (g' : Dev Cert.QnormRefIdeal.nD → PrngReg), Pre_QnormIdeal m →
    (∀ c : Dev Cert.QnormIdeal.nD,
      m' ((c.tc : Thread Cert.QnormRefIdeal.nD Cert.QnormRefIdeal.τ).loc Cert.QnormRefIdeal.main_arg0) = m ((c.tc : Thread Cert.QnormIdeal.nD Cert.QnormIdeal.τ).loc Cert.QnormIdeal.main_arg0)
      ∧ m' ((c.tc : Thread Cert.QnormRefIdeal.nD Cert.QnormRefIdeal.τ).loc Cert.QnormRefIdeal.main_arg1) = m ((c.tc : Thread Cert.QnormIdeal.nD Cert.QnormIdeal.τ).loc Cert.QnormIdeal.main_arg1)) →
    ∃ (v0 : (c : Dev Cert.QnormIdeal.nD) → Buf (Elt Ideal) ((c.tc : Thread Cert.QnormIdeal.nD Cert.QnormIdeal.τ).loc Cert.QnormIdeal.main_v0)),
      θ_run (Cert.QnormIdeal.defs (F := Ideal)) (onTc (τ := Cert.QnormIdeal.τ) (Cert.QnormIdeal.main (F := Ideal))) ⟨m, fun _ => 0, g⟩ (fun r => ∀ c : Dev Cert.QnormIdeal.nD,
          r.2.mem ((c.tc : Thread Cert.QnormIdeal.nD Cert.QnormIdeal.τ).loc Cert.QnormIdeal.main_v0) = v0 c
          ∧ r.2.mem ((c.tc : Thread Cert.QnormIdeal.nD Cert.QnormIdeal.τ).loc Cert.QnormIdeal.main_arg0) = m ((c.tc : Thread Cert.QnormIdeal.nD Cert.QnormIdeal.τ).loc Cert.QnormIdeal.main_arg0)
          ∧ r.2.mem ((c.tc : Thread Cert.QnormIdeal.nD Cert.QnormIdeal.τ).loc Cert.QnormIdeal.main_arg1) = m ((c.tc : Thread Cert.QnormIdeal.nD Cert.QnormIdeal.τ).loc Cert.QnormIdeal.main_arg1))
      ∧ θ_run (Cert.QnormRefIdeal.defs (F := Ideal)) (onTc (τ := Cert.QnormRefIdeal.τ) (Cert.QnormRefIdeal.main (F := Ideal))) ⟨m', fun _ => 0, g'⟩ (fun r => ∀ c : Dev Cert.QnormRefIdeal.nD,
          r.2.mem ((c.tc : Thread Cert.QnormRefIdeal.nD Cert.QnormRefIdeal.τ).loc Cert.QnormRefIdeal.main_v16) = v0 c
          ∧ r.2.mem ((c.tc : Thread Cert.QnormRefIdeal.nD Cert.QnormRefIdeal.τ).loc Cert.QnormRefIdeal.main_arg0) = m' ((c.tc : Thread Cert.QnormRefIdeal.nD Cert.QnormRefIdeal.τ).loc Cert.QnormRefIdeal.main_arg0)
          ∧ r.2.mem ((c.tc : Thread Cert.QnormRefIdeal.nD Cert.QnormRefIdeal.τ).loc Cert.QnormRefIdeal.main_arg1) = m' ((c.tc : Thread Cert.QnormRefIdeal.nD Cert.QnormRefIdeal.τ).loc Cert.QnormRefIdeal.main_arg1))

def preserves_Kvpost_KvpostIdeal : Prop :=
  True

def algebraic_KvpostIdeal_KvpostRefIdeal [hKvpostIdeal : Cert.KvpostIdeal.Facts] [hKvpostRefIdeal : Cert.KvpostRefIdeal.Facts] : Prop :=
  ∀ (m : (ℓ : Loc Cert.KvpostIdeal.nD Cert.KvpostIdeal.τ Cert.KvpostIdeal.sig) → Buf (Elt Ideal) ℓ) (g : Dev Cert.KvpostIdeal.nD → PrngReg)
    (m' : (ℓ : Loc Cert.KvpostRefIdeal.nD Cert.KvpostRefIdeal.τ Cert.KvpostRefIdeal.sig) → Buf (Elt Ideal) ℓ) (g' : Dev Cert.KvpostRefIdeal.nD → PrngReg), Pre_KvpostIdeal m →
    (∀ c : Dev Cert.KvpostIdeal.nD,
      m' ((c.tc : Thread Cert.KvpostRefIdeal.nD Cert.KvpostRefIdeal.τ).loc Cert.KvpostRefIdeal.main_arg0) = m ((c.tc : Thread Cert.KvpostIdeal.nD Cert.KvpostIdeal.τ).loc Cert.KvpostIdeal.main_arg0)
      ∧ m' ((c.tc : Thread Cert.KvpostRefIdeal.nD Cert.KvpostRefIdeal.τ).loc Cert.KvpostRefIdeal.main_arg1) = m ((c.tc : Thread Cert.KvpostIdeal.nD Cert.KvpostIdeal.τ).loc Cert.KvpostIdeal.main_arg1)) →
    ∃ (v0 : (c : Dev Cert.KvpostIdeal.nD) → Buf (Elt Ideal) ((c.tc : Thread Cert.KvpostIdeal.nD Cert.KvpostIdeal.τ).loc Cert.KvpostIdeal.main_v0_0)) (v1 : (c : Dev Cert.KvpostIdeal.nD) → Buf (Elt Ideal) ((c.tc : Thread Cert.KvpostIdeal.nD Cert.KvpostIdeal.τ).loc Cert.KvpostIdeal.main_v0_1)),
      θ_run (Cert.KvpostIdeal.defs (F := Ideal)) (onTc (τ := Cert.KvpostIdeal.τ) (Cert.KvpostIdeal.main (F := Ideal))) ⟨m, fun _ => 0, g⟩ (fun r => ∀ c : Dev Cert.KvpostIdeal.nD,
          r.2.mem ((c.tc : Thread Cert.KvpostIdeal.nD Cert.KvpostIdeal.τ).loc Cert.KvpostIdeal.main_v0_0) = v0 c
          ∧ r.2.mem ((c.tc : Thread Cert.KvpostIdeal.nD Cert.KvpostIdeal.τ).loc Cert.KvpostIdeal.main_v0_1) = v1 c
          ∧ r.2.mem ((c.tc : Thread Cert.KvpostIdeal.nD Cert.KvpostIdeal.τ).loc Cert.KvpostIdeal.main_arg0) = m ((c.tc : Thread Cert.KvpostIdeal.nD Cert.KvpostIdeal.τ).loc Cert.KvpostIdeal.main_arg0)
          ∧ r.2.mem ((c.tc : Thread Cert.KvpostIdeal.nD Cert.KvpostIdeal.τ).loc Cert.KvpostIdeal.main_arg1) = m ((c.tc : Thread Cert.KvpostIdeal.nD Cert.KvpostIdeal.τ).loc Cert.KvpostIdeal.main_arg1))
      ∧ θ_run (Cert.KvpostRefIdeal.defs (F := Ideal)) (onTc (τ := Cert.KvpostRefIdeal.τ) (Cert.KvpostRefIdeal.main (F := Ideal))) ⟨m', fun _ => 0, g'⟩ (fun r => ∀ c : Dev Cert.KvpostRefIdeal.nD,
          r.2.mem ((c.tc : Thread Cert.KvpostRefIdeal.nD Cert.KvpostRefIdeal.τ).loc Cert.KvpostRefIdeal.main_v18) = v0 c
          ∧ r.2.mem ((c.tc : Thread Cert.KvpostRefIdeal.nD Cert.KvpostRefIdeal.τ).loc Cert.KvpostRefIdeal.main_v19) = v1 c
          ∧ r.2.mem ((c.tc : Thread Cert.KvpostRefIdeal.nD Cert.KvpostRefIdeal.τ).loc Cert.KvpostRefIdeal.main_arg0) = m' ((c.tc : Thread Cert.KvpostRefIdeal.nD Cert.KvpostRefIdeal.τ).loc Cert.KvpostRefIdeal.main_arg0)
          ∧ r.2.mem ((c.tc : Thread Cert.KvpostRefIdeal.nD Cert.KvpostRefIdeal.τ).loc Cert.KvpostRefIdeal.main_arg1) = m' ((c.tc : Thread Cert.KvpostRefIdeal.nD Cert.KvpostRefIdeal.τ).loc Cert.KvpostRefIdeal.main_arg1))

def preserves_Dqnorm_DqnormIdeal : Prop :=
  True

def algebraic_DqnormIdeal_DqnormRefIdeal [hDqnormIdeal : Cert.DqnormIdeal.Facts] [hDqnormRefIdeal : Cert.DqnormRefIdeal.Facts] : Prop :=
  ∀ (m : (ℓ : Loc Cert.DqnormIdeal.nD Cert.DqnormIdeal.τ Cert.DqnormIdeal.sig) → Buf (Elt Ideal) ℓ) (g : Dev Cert.DqnormIdeal.nD → PrngReg)
    (m' : (ℓ : Loc Cert.DqnormRefIdeal.nD Cert.DqnormRefIdeal.τ Cert.DqnormRefIdeal.sig) → Buf (Elt Ideal) ℓ) (g' : Dev Cert.DqnormRefIdeal.nD → PrngReg), Pre_DqnormIdeal m →
    (∀ c : Dev Cert.DqnormIdeal.nD,
      m' ((c.tc : Thread Cert.DqnormRefIdeal.nD Cert.DqnormRefIdeal.τ).loc Cert.DqnormRefIdeal.main_arg0) = m ((c.tc : Thread Cert.DqnormIdeal.nD Cert.DqnormIdeal.τ).loc Cert.DqnormIdeal.main_arg0)
      ∧ m' ((c.tc : Thread Cert.DqnormRefIdeal.nD Cert.DqnormRefIdeal.τ).loc Cert.DqnormRefIdeal.main_arg1) = m ((c.tc : Thread Cert.DqnormIdeal.nD Cert.DqnormIdeal.τ).loc Cert.DqnormIdeal.main_arg1)
      ∧ m' ((c.tc : Thread Cert.DqnormRefIdeal.nD Cert.DqnormRefIdeal.τ).loc Cert.DqnormRefIdeal.main_arg2) = m ((c.tc : Thread Cert.DqnormIdeal.nD Cert.DqnormIdeal.τ).loc Cert.DqnormIdeal.main_arg2)) →
    ∃ (v0 : (c : Dev Cert.DqnormIdeal.nD) → Buf (Elt Ideal) ((c.tc : Thread Cert.DqnormIdeal.nD Cert.DqnormIdeal.τ).loc Cert.DqnormIdeal.main_v0_0)) (v1 : (c : Dev Cert.DqnormIdeal.nD) → Buf (Elt Ideal) ((c.tc : Thread Cert.DqnormIdeal.nD Cert.DqnormIdeal.τ).loc Cert.DqnormIdeal.main_v0_1)),
      θ_run (Cert.DqnormIdeal.defs (F := Ideal)) (onTc (τ := Cert.DqnormIdeal.τ) (Cert.DqnormIdeal.main (F := Ideal))) ⟨m, fun _ => 0, g⟩ (fun r => ∀ c : Dev Cert.DqnormIdeal.nD,
          r.2.mem ((c.tc : Thread Cert.DqnormIdeal.nD Cert.DqnormIdeal.τ).loc Cert.DqnormIdeal.main_v0_0) = v0 c
          ∧ r.2.mem ((c.tc : Thread Cert.DqnormIdeal.nD Cert.DqnormIdeal.τ).loc Cert.DqnormIdeal.main_v0_1) = v1 c
          ∧ r.2.mem ((c.tc : Thread Cert.DqnormIdeal.nD Cert.DqnormIdeal.τ).loc Cert.DqnormIdeal.main_arg0) = m ((c.tc : Thread Cert.DqnormIdeal.nD Cert.DqnormIdeal.τ).loc Cert.DqnormIdeal.main_arg0)
          ∧ r.2.mem ((c.tc : Thread Cert.DqnormIdeal.nD Cert.DqnormIdeal.τ).loc Cert.DqnormIdeal.main_arg1) = m ((c.tc : Thread Cert.DqnormIdeal.nD Cert.DqnormIdeal.τ).loc Cert.DqnormIdeal.main_arg1)
          ∧ r.2.mem ((c.tc : Thread Cert.DqnormIdeal.nD Cert.DqnormIdeal.τ).loc Cert.DqnormIdeal.main_arg2) = m ((c.tc : Thread Cert.DqnormIdeal.nD Cert.DqnormIdeal.τ).loc Cert.DqnormIdeal.main_arg2))
      ∧ θ_run (Cert.DqnormRefIdeal.defs (F := Ideal)) (onTc (τ := Cert.DqnormRefIdeal.τ) (Cert.DqnormRefIdeal.main (F := Ideal))) ⟨m', fun _ => 0, g'⟩ (fun r => ∀ c : Dev Cert.DqnormRefIdeal.nD,
          r.2.mem ((c.tc : Thread Cert.DqnormRefIdeal.nD Cert.DqnormRefIdeal.τ).loc Cert.DqnormRefIdeal.main_v42) = v0 c
          ∧ r.2.mem ((c.tc : Thread Cert.DqnormRefIdeal.nD Cert.DqnormRefIdeal.τ).loc Cert.DqnormRefIdeal.main_v40) = v1 c
          ∧ r.2.mem ((c.tc : Thread Cert.DqnormRefIdeal.nD Cert.DqnormRefIdeal.τ).loc Cert.DqnormRefIdeal.main_arg0) = m' ((c.tc : Thread Cert.DqnormRefIdeal.nD Cert.DqnormRefIdeal.τ).loc Cert.DqnormRefIdeal.main_arg0)
          ∧ r.2.mem ((c.tc : Thread Cert.DqnormRefIdeal.nD Cert.DqnormRefIdeal.τ).loc Cert.DqnormRefIdeal.main_arg1) = m' ((c.tc : Thread Cert.DqnormRefIdeal.nD Cert.DqnormRefIdeal.τ).loc Cert.DqnormRefIdeal.main_arg1)
          ∧ r.2.mem ((c.tc : Thread Cert.DqnormRefIdeal.nD Cert.DqnormRefIdeal.τ).loc Cert.DqnormRefIdeal.main_arg2) = m' ((c.tc : Thread Cert.DqnormRefIdeal.nD Cert.DqnormRefIdeal.τ).loc Cert.DqnormRefIdeal.main_arg2))

def preserves_Dkvpost_DkvpostIdeal : Prop :=
  True

def algebraic_DkvpostIdeal_DkvpostRefIdeal [hDkvpostIdeal : Cert.DkvpostIdeal.Facts] [hDkvpostRefIdeal : Cert.DkvpostRefIdeal.Facts] : Prop :=
  ∀ (m : (ℓ : Loc Cert.DkvpostIdeal.nD Cert.DkvpostIdeal.τ Cert.DkvpostIdeal.sig) → Buf (Elt Ideal) ℓ) (g : Dev Cert.DkvpostIdeal.nD → PrngReg)
    (m' : (ℓ : Loc Cert.DkvpostRefIdeal.nD Cert.DkvpostRefIdeal.τ Cert.DkvpostRefIdeal.sig) → Buf (Elt Ideal) ℓ) (g' : Dev Cert.DkvpostRefIdeal.nD → PrngReg), Pre_DkvpostIdeal m →
    (∀ c : Dev Cert.DkvpostIdeal.nD,
      m' ((c.tc : Thread Cert.DkvpostRefIdeal.nD Cert.DkvpostRefIdeal.τ).loc Cert.DkvpostRefIdeal.main_arg0) = m ((c.tc : Thread Cert.DkvpostIdeal.nD Cert.DkvpostIdeal.τ).loc Cert.DkvpostIdeal.main_arg0)
      ∧ m' ((c.tc : Thread Cert.DkvpostRefIdeal.nD Cert.DkvpostRefIdeal.τ).loc Cert.DkvpostRefIdeal.main_arg1) = m ((c.tc : Thread Cert.DkvpostIdeal.nD Cert.DkvpostIdeal.τ).loc Cert.DkvpostIdeal.main_arg1)
      ∧ m' ((c.tc : Thread Cert.DkvpostRefIdeal.nD Cert.DkvpostRefIdeal.τ).loc Cert.DkvpostRefIdeal.main_arg2) = m ((c.tc : Thread Cert.DkvpostIdeal.nD Cert.DkvpostIdeal.τ).loc Cert.DkvpostIdeal.main_arg2)
      ∧ m' ((c.tc : Thread Cert.DkvpostRefIdeal.nD Cert.DkvpostRefIdeal.τ).loc Cert.DkvpostRefIdeal.main_arg3) = m ((c.tc : Thread Cert.DkvpostIdeal.nD Cert.DkvpostIdeal.τ).loc Cert.DkvpostIdeal.main_arg3)
      ∧ m' ((c.tc : Thread Cert.DkvpostRefIdeal.nD Cert.DkvpostRefIdeal.τ).loc Cert.DkvpostRefIdeal.main_arg4) = m ((c.tc : Thread Cert.DkvpostIdeal.nD Cert.DkvpostIdeal.τ).loc Cert.DkvpostIdeal.main_arg4)
      ∧ m' ((c.tc : Thread Cert.DkvpostRefIdeal.nD Cert.DkvpostRefIdeal.τ).loc Cert.DkvpostRefIdeal.main_arg5) = m ((c.tc : Thread Cert.DkvpostIdeal.nD Cert.DkvpostIdeal.τ).loc Cert.DkvpostIdeal.main_arg5)) →
    ∃ (v0 : (c : Dev Cert.DkvpostIdeal.nD) → Buf (Elt Ideal) ((c.tc : Thread Cert.DkvpostIdeal.nD Cert.DkvpostIdeal.τ).loc Cert.DkvpostIdeal.main_v0_0)) (v1 : (c : Dev Cert.DkvpostIdeal.nD) → Buf (Elt Ideal) ((c.tc : Thread Cert.DkvpostIdeal.nD Cert.DkvpostIdeal.τ).loc Cert.DkvpostIdeal.main_v0_1)),
      θ_run (Cert.DkvpostIdeal.defs (F := Ideal)) (onTc (τ := Cert.DkvpostIdeal.τ) (Cert.DkvpostIdeal.main (F := Ideal))) ⟨m, fun _ => 0, g⟩ (fun r => ∀ c : Dev Cert.DkvpostIdeal.nD,
          r.2.mem ((c.tc : Thread Cert.DkvpostIdeal.nD Cert.DkvpostIdeal.τ).loc Cert.DkvpostIdeal.main_v0_0) = v0 c
          ∧ r.2.mem ((c.tc : Thread Cert.DkvpostIdeal.nD Cert.DkvpostIdeal.τ).loc Cert.DkvpostIdeal.main_v0_1) = v1 c
          ∧ r.2.mem ((c.tc : Thread Cert.DkvpostIdeal.nD Cert.DkvpostIdeal.τ).loc Cert.DkvpostIdeal.main_arg0) = m ((c.tc : Thread Cert.DkvpostIdeal.nD Cert.DkvpostIdeal.τ).loc Cert.DkvpostIdeal.main_arg0)
          ∧ r.2.mem ((c.tc : Thread Cert.DkvpostIdeal.nD Cert.DkvpostIdeal.τ).loc Cert.DkvpostIdeal.main_arg1) = m ((c.tc : Thread Cert.DkvpostIdeal.nD Cert.DkvpostIdeal.τ).loc Cert.DkvpostIdeal.main_arg1)
          ∧ r.2.mem ((c.tc : Thread Cert.DkvpostIdeal.nD Cert.DkvpostIdeal.τ).loc Cert.DkvpostIdeal.main_arg2) = m ((c.tc : Thread Cert.DkvpostIdeal.nD Cert.DkvpostIdeal.τ).loc Cert.DkvpostIdeal.main_arg2)
          ∧ r.2.mem ((c.tc : Thread Cert.DkvpostIdeal.nD Cert.DkvpostIdeal.τ).loc Cert.DkvpostIdeal.main_arg3) = m ((c.tc : Thread Cert.DkvpostIdeal.nD Cert.DkvpostIdeal.τ).loc Cert.DkvpostIdeal.main_arg3)
          ∧ r.2.mem ((c.tc : Thread Cert.DkvpostIdeal.nD Cert.DkvpostIdeal.τ).loc Cert.DkvpostIdeal.main_arg4) = m ((c.tc : Thread Cert.DkvpostIdeal.nD Cert.DkvpostIdeal.τ).loc Cert.DkvpostIdeal.main_arg4)
          ∧ r.2.mem ((c.tc : Thread Cert.DkvpostIdeal.nD Cert.DkvpostIdeal.τ).loc Cert.DkvpostIdeal.main_arg5) = m ((c.tc : Thread Cert.DkvpostIdeal.nD Cert.DkvpostIdeal.τ).loc Cert.DkvpostIdeal.main_arg5))
      ∧ θ_run (Cert.DkvpostRefIdeal.defs (F := Ideal)) (onTc (τ := Cert.DkvpostRefIdeal.τ) (Cert.DkvpostRefIdeal.main (F := Ideal))) ⟨m', fun _ => 0, g'⟩ (fun r => ∀ c : Dev Cert.DkvpostRefIdeal.nD,
          r.2.mem ((c.tc : Thread Cert.DkvpostRefIdeal.nD Cert.DkvpostRefIdeal.τ).loc Cert.DkvpostRefIdeal.main_v47) = v0 c
          ∧ r.2.mem ((c.tc : Thread Cert.DkvpostRefIdeal.nD Cert.DkvpostRefIdeal.τ).loc Cert.DkvpostRefIdeal.main_v44) = v1 c
          ∧ r.2.mem ((c.tc : Thread Cert.DkvpostRefIdeal.nD Cert.DkvpostRefIdeal.τ).loc Cert.DkvpostRefIdeal.main_arg0) = m' ((c.tc : Thread Cert.DkvpostRefIdeal.nD Cert.DkvpostRefIdeal.τ).loc Cert.DkvpostRefIdeal.main_arg0)
          ∧ r.2.mem ((c.tc : Thread Cert.DkvpostRefIdeal.nD Cert.DkvpostRefIdeal.τ).loc Cert.DkvpostRefIdeal.main_arg1) = m' ((c.tc : Thread Cert.DkvpostRefIdeal.nD Cert.DkvpostRefIdeal.τ).loc Cert.DkvpostRefIdeal.main_arg1)
          ∧ r.2.mem ((c.tc : Thread Cert.DkvpostRefIdeal.nD Cert.DkvpostRefIdeal.τ).loc Cert.DkvpostRefIdeal.main_arg2) = m' ((c.tc : Thread Cert.DkvpostRefIdeal.nD Cert.DkvpostRefIdeal.τ).loc Cert.DkvpostRefIdeal.main_arg2)
          ∧ r.2.mem ((c.tc : Thread Cert.DkvpostRefIdeal.nD Cert.DkvpostRefIdeal.τ).loc Cert.DkvpostRefIdeal.main_arg3) = m' ((c.tc : Thread Cert.DkvpostRefIdeal.nD Cert.DkvpostRefIdeal.τ).loc Cert.DkvpostRefIdeal.main_arg3)
          ∧ r.2.mem ((c.tc : Thread Cert.DkvpostRefIdeal.nD Cert.DkvpostRefIdeal.τ).loc Cert.DkvpostRefIdeal.main_arg4) = m' ((c.tc : Thread Cert.DkvpostRefIdeal.nD Cert.DkvpostRefIdeal.τ).loc Cert.DkvpostRefIdeal.main_arg4)
          ∧ r.2.mem ((c.tc : Thread Cert.DkvpostRefIdeal.nD Cert.DkvpostRefIdeal.τ).loc Cert.DkvpostRefIdeal.main_arg5) = m' ((c.tc : Thread Cert.DkvpostRefIdeal.nD Cert.DkvpostRefIdeal.τ).loc Cert.DkvpostRefIdeal.main_arg5))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_v16) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Gpost_GpostIdeal : Prop :=
  True

def algebraic_GpostIdeal_GpostRefIdeal [hGpostIdeal : Cert.GpostIdeal.Facts] [hGpostRefIdeal : Cert.GpostRefIdeal.Facts] : Prop :=
  ∀ (m : (ℓ : Loc Cert.GpostIdeal.nD Cert.GpostIdeal.τ Cert.GpostIdeal.sig) → Buf (Elt Ideal) ℓ) (g : Dev Cert.GpostIdeal.nD → PrngReg)
    (m' : (ℓ : Loc Cert.GpostRefIdeal.nD Cert.GpostRefIdeal.τ Cert.GpostRefIdeal.sig) → Buf (Elt Ideal) ℓ) (g' : Dev Cert.GpostRefIdeal.nD → PrngReg), Pre_GpostIdeal m →
    (∀ c : Dev Cert.GpostIdeal.nD,
      m' ((c.tc : Thread Cert.GpostRefIdeal.nD Cert.GpostRefIdeal.τ).loc Cert.GpostRefIdeal.main_arg0) = m ((c.tc : Thread Cert.GpostIdeal.nD Cert.GpostIdeal.τ).loc Cert.GpostIdeal.main_arg0)
      ∧ m' ((c.tc : Thread Cert.GpostRefIdeal.nD Cert.GpostRefIdeal.τ).loc Cert.GpostRefIdeal.main_arg1) = m ((c.tc : Thread Cert.GpostIdeal.nD Cert.GpostIdeal.τ).loc Cert.GpostIdeal.main_arg1)
      ∧ m' ((c.tc : Thread Cert.GpostRefIdeal.nD Cert.GpostRefIdeal.τ).loc Cert.GpostRefIdeal.main_arg2) = m ((c.tc : Thread Cert.GpostIdeal.nD Cert.GpostIdeal.τ).loc Cert.GpostIdeal.main_arg2)) →
    ∃ (v0 : (c : Dev Cert.GpostIdeal.nD) → Buf (Elt Ideal) ((c.tc : Thread Cert.GpostIdeal.nD Cert.GpostIdeal.τ).loc Cert.GpostIdeal.main_v0)),
      θ_run (Cert.GpostIdeal.defs (F := Ideal)) (onTc (τ := Cert.GpostIdeal.τ) (Cert.GpostIdeal.main (F := Ideal))) ⟨m, fun _ => 0, g⟩ (fun r => ∀ c : Dev Cert.GpostIdeal.nD,
          r.2.mem ((c.tc : Thread Cert.GpostIdeal.nD Cert.GpostIdeal.τ).loc Cert.GpostIdeal.main_v0) = v0 c
          ∧ r.2.mem ((c.tc : Thread Cert.GpostIdeal.nD Cert.GpostIdeal.τ).loc Cert.GpostIdeal.main_arg0) = m ((c.tc : Thread Cert.GpostIdeal.nD Cert.GpostIdeal.τ).loc Cert.GpostIdeal.main_arg0)
          ∧ r.2.mem ((c.tc : Thread Cert.GpostIdeal.nD Cert.GpostIdeal.τ).loc Cert.GpostIdeal.main_arg1) = m ((c.tc : Thread Cert.GpostIdeal.nD Cert.GpostIdeal.τ).loc Cert.GpostIdeal.main_arg1)
          ∧ r.2.mem ((c.tc : Thread Cert.GpostIdeal.nD Cert.GpostIdeal.τ).loc Cert.GpostIdeal.main_arg2) = m ((c.tc : Thread Cert.GpostIdeal.nD Cert.GpostIdeal.τ).loc Cert.GpostIdeal.main_arg2))
      ∧ θ_run (Cert.GpostRefIdeal.defs (F := Ideal)) (onTc (τ := Cert.GpostRefIdeal.τ) (Cert.GpostRefIdeal.main (F := Ideal))) ⟨m', fun _ => 0, g'⟩ (fun r => ∀ c : Dev Cert.GpostRefIdeal.nD,
          r.2.mem ((c.tc : Thread Cert.GpostRefIdeal.nD Cert.GpostRefIdeal.τ).loc Cert.GpostRefIdeal.main_v20) = v0 c
          ∧ r.2.mem ((c.tc : Thread Cert.GpostRefIdeal.nD Cert.GpostRefIdeal.τ).loc Cert.GpostRefIdeal.main_arg0) = m' ((c.tc : Thread Cert.GpostRefIdeal.nD Cert.GpostRefIdeal.τ).loc Cert.GpostRefIdeal.main_arg0)
          ∧ r.2.mem ((c.tc : Thread Cert.GpostRefIdeal.nD Cert.GpostRefIdeal.τ).loc Cert.GpostRefIdeal.main_arg1) = m' ((c.tc : Thread Cert.GpostRefIdeal.nD Cert.GpostRefIdeal.τ).loc Cert.GpostRefIdeal.main_arg1)
          ∧ r.2.mem ((c.tc : Thread Cert.GpostRefIdeal.nD Cert.GpostRefIdeal.τ).loc Cert.GpostRefIdeal.main_arg2) = m' ((c.tc : Thread Cert.GpostRefIdeal.nD Cert.GpostRefIdeal.τ).loc Cert.GpostRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v24) = v1 c
          ∧ r.2.mem ((c.tc : Thread Cert.AdamRefIdeal.nD Cert.AdamRefIdeal.τ).loc Cert.AdamRefIdeal.main_v5) = v2 c
          ∧ r.2.mem ((c.tc : Thread Cert.AdamRefIdeal.nD Cert.AdamRefIdeal.τ).loc Cert.AdamRefIdeal.main_v11) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Adamr_AdamrIdeal : Prop :=
  True

def algebraic_AdamrIdeal_AdamrRefIdeal [hAdamrIdeal : Cert.AdamrIdeal.Facts] [hAdamrRefIdeal : Cert.AdamrRefIdeal.Facts] : Prop :=
  ∀ (m : (ℓ : Loc Cert.AdamrIdeal.nD Cert.AdamrIdeal.τ Cert.AdamrIdeal.sig) → Buf (Elt Ideal) ℓ) (g : Dev Cert.AdamrIdeal.nD → PrngReg)
    (m' : (ℓ : Loc Cert.AdamrRefIdeal.nD Cert.AdamrRefIdeal.τ Cert.AdamrRefIdeal.sig) → Buf (Elt Ideal) ℓ) (g' : Dev Cert.AdamrRefIdeal.nD → PrngReg), Pre_AdamrIdeal m →
    (∀ c : Dev Cert.AdamrIdeal.nD,
      m' ((c.tc : Thread Cert.AdamrRefIdeal.nD Cert.AdamrRefIdeal.τ).loc Cert.AdamrRefIdeal.main_arg0) = m ((c.tc : Thread Cert.AdamrIdeal.nD Cert.AdamrIdeal.τ).loc Cert.AdamrIdeal.main_arg0)
      ∧ m' ((c.tc : Thread Cert.AdamrRefIdeal.nD Cert.AdamrRefIdeal.τ).loc Cert.AdamrRefIdeal.main_arg1) = m ((c.tc : Thread Cert.AdamrIdeal.nD Cert.AdamrIdeal.τ).loc Cert.AdamrIdeal.main_arg1)
      ∧ m' ((c.tc : Thread Cert.AdamrRefIdeal.nD Cert.AdamrRefIdeal.τ).loc Cert.AdamrRefIdeal.main_arg2) = m ((c.tc : Thread Cert.AdamrIdeal.nD Cert.AdamrIdeal.τ).loc Cert.AdamrIdeal.main_arg2)
      ∧ m' ((c.tc : Thread Cert.AdamrRefIdeal.nD Cert.AdamrRefIdeal.τ).loc Cert.AdamrRefIdeal.main_arg3) = m ((c.tc : Thread Cert.AdamrIdeal.nD Cert.AdamrIdeal.τ).loc Cert.AdamrIdeal.main_arg3)) →
    ∃ (v0 : (c : Dev Cert.AdamrIdeal.nD) → Buf (Elt Ideal) ((c.tc : Thread Cert.AdamrIdeal.nD Cert.AdamrIdeal.τ).loc Cert.AdamrIdeal.main_v0_0)) (v1 : (c : Dev Cert.AdamrIdeal.nD) → Buf (Elt Ideal) ((c.tc : Thread Cert.AdamrIdeal.nD Cert.AdamrIdeal.τ).loc Cert.AdamrIdeal.main_v0_1)) (v2 : (c : Dev Cert.AdamrIdeal.nD) → Buf (Elt Ideal) ((c.tc : Thread Cert.AdamrIdeal.nD Cert.AdamrIdeal.τ).loc Cert.AdamrIdeal.main_v0_2)) (v3 : (c : Dev Cert.AdamrIdeal.nD) → Buf (Elt Ideal) ((c.tc : Thread Cert.AdamrIdeal.nD Cert.AdamrIdeal.τ).loc Cert.AdamrIdeal.main_v0_3)),
      θ_run (Cert.AdamrIdeal.defs (F := Ideal)) (onTc (τ := Cert.AdamrIdeal.τ) (Cert.AdamrIdeal.main (F := Ideal))) ⟨m, fun _ => 0, g⟩ (fun r => ∀ c : Dev Cert.AdamrIdeal.nD,
          r.2.mem ((c.tc : Thread Cert.AdamrIdeal.nD Cert.AdamrIdeal.τ).loc Cert.AdamrIdeal.main_v0_0) = v0 c
          ∧ r.2.mem ((c.tc : Thread Cert.AdamrIdeal.nD Cert.AdamrIdeal.τ).loc Cert.AdamrIdeal.main_v0_1) = v1 c
          ∧ r.2.mem ((c.tc : Thread Cert.AdamrIdeal.nD Cert.AdamrIdeal.τ).loc Cert.AdamrIdeal.main_v0_2) = v2 c
          ∧ r.2.mem ((c.tc : Thread Cert.AdamrIdeal.nD Cert.AdamrIdeal.τ).loc Cert.AdamrIdeal.main_v0_3) = v3 c
          ∧ r.2.mem ((c.tc : Thread Cert.AdamrIdeal.nD Cert.AdamrIdeal.τ).loc Cert.AdamrIdeal.main_arg0) = m ((c.tc : Thread Cert.AdamrIdeal.nD Cert.AdamrIdeal.τ).loc Cert.AdamrIdeal.main_arg0)
          ∧ r.2.mem ((c.tc : Thread Cert.AdamrIdeal.nD Cert.AdamrIdeal.τ).loc Cert.AdamrIdeal.main_arg1) = m ((c.tc : Thread Cert.AdamrIdeal.nD Cert.AdamrIdeal.τ).loc Cert.AdamrIdeal.main_arg1)
          ∧ r.2.mem ((c.tc : Thread Cert.AdamrIdeal.nD Cert.AdamrIdeal.τ).loc Cert.AdamrIdeal.main_arg2) = m ((c.tc : Thread Cert.AdamrIdeal.nD Cert.AdamrIdeal.τ).loc Cert.AdamrIdeal.main_arg2)
          ∧ r.2.mem ((c.tc : Thread Cert.AdamrIdeal.nD Cert.AdamrIdeal.τ).loc Cert.AdamrIdeal.main_arg3) = m ((c.tc : Thread Cert.AdamrIdeal.nD Cert.AdamrIdeal.τ).loc Cert.AdamrIdeal.main_arg3))
      ∧ θ_run (Cert.AdamrRefIdeal.defs (F := Ideal)) (onTc (τ := Cert.AdamrRefIdeal.τ) (Cert.AdamrRefIdeal.main (F := Ideal))) ⟨m', fun _ => 0, g'⟩ (fun r => ∀ c : Dev Cert.AdamrRefIdeal.nD,
          r.2.mem ((c.tc : Thread Cert.AdamrRefIdeal.nD Cert.AdamrRefIdeal.τ).loc Cert.AdamrRefIdeal.main_v0) = v0 c
          ∧ r.2.mem ((c.tc : Thread Cert.AdamrRefIdeal.nD Cert.AdamrRefIdeal.τ).loc Cert.AdamrRefIdeal.main_v24) = v1 c
          ∧ r.2.mem ((c.tc : Thread Cert.AdamrRefIdeal.nD Cert.AdamrRefIdeal.τ).loc Cert.AdamrRefIdeal.main_v5) = v2 c
          ∧ r.2.mem ((c.tc : Thread Cert.AdamrRefIdeal.nD Cert.AdamrRefIdeal.τ).loc Cert.AdamrRefIdeal.main_v11) = v3 c
          ∧ r.2.mem ((c.tc : Thread Cert.AdamrRefIdeal.nD Cert.AdamrRefIdeal.τ).loc Cert.AdamrRefIdeal.main_arg0) = m' ((c.tc : Thread Cert.AdamrRefIdeal.nD Cert.AdamrRefIdeal.τ).loc Cert.AdamrRefIdeal.main_arg0)
          ∧ r.2.mem ((c.tc : Thread Cert.AdamrRefIdeal.nD Cert.AdamrRefIdeal.τ).loc Cert.AdamrRefIdeal.main_arg1) = m' ((c.tc : Thread Cert.AdamrRefIdeal.nD Cert.AdamrRefIdeal.τ).loc Cert.AdamrRefIdeal.main_arg1)
          ∧ r.2.mem ((c.tc : Thread Cert.AdamrRefIdeal.nD Cert.AdamrRefIdeal.τ).loc Cert.AdamrRefIdeal.main_arg2) = m' ((c.tc : Thread Cert.AdamrRefIdeal.nD Cert.AdamrRefIdeal.τ).loc Cert.AdamrRefIdeal.main_arg2)
          ∧ r.2.mem ((c.tc : Thread Cert.AdamrRefIdeal.nD Cert.AdamrRefIdeal.τ).loc Cert.AdamrRefIdeal.main_arg3) = m' ((c.tc : Thread Cert.AdamrRefIdeal.nD Cert.AdamrRefIdeal.τ).loc Cert.AdamrRefIdeal.main_arg3))

def Claim : Prop :=
  ∃ (hKernel : Cert.Kernel.Facts) (hKernelIdeal : Cert.KernelIdeal.Facts) (hReferenceIdeal : Cert.ReferenceIdeal.Facts) (hDwdown : Cert.Dwdown.Facts) (hDwdownIdeal : Cert.DwdownIdeal.Facts) (hDwdownRefIdeal : Cert.DwdownRefIdeal.Facts) (hDact : Cert.Dact.Facts) (hDactIdeal : Cert.DactIdeal.Facts) (hDactRefIdeal : Cert.DactRefIdeal.Facts) (hDmid : Cert.Dmid.Facts) (hDmidIdeal : Cert.DmidIdeal.Facts) (hDmidRefIdeal : Cert.DmidRefIdeal.Facts) (hDconv : Cert.Dconv.Facts) (hDconvIdeal : Cert.DconvIdeal.Facts) (hDconvRefIdeal : Cert.DconvRefIdeal.Facts) (hDwup : Cert.Dwup.Facts) (hDwupIdeal : Cert.DwupIdeal.Facts) (hDwupRefIdeal : Cert.DwupRefIdeal.Facts) (hDh : Cert.Dh.Facts) (hDhIdeal : Cert.DhIdeal.Facts) (hDhRefIdeal : Cert.DhRefIdeal.Facts) (hDnorm : Cert.Dnorm.Facts) (hDnormIdeal : Cert.DnormIdeal.Facts) (hDnormRefIdeal : Cert.DnormRefIdeal.Facts) (hDwout : Cert.Dwout.Facts) (hDwoutIdeal : Cert.DwoutIdeal.Facts) (hDwoutRefIdeal : Cert.DwoutRefIdeal.Facts) (hDyout : Cert.Dyout.Facts) (hDyoutIdeal : Cert.DyoutIdeal.Facts) (hDyoutRefIdeal : Cert.DyoutRefIdeal.Facts) (hDosb : Cert.Dosb.Facts) (hDosbIdeal : Cert.DosbIdeal.Facts) (hDosbRefIdeal : Cert.DosbRefIdeal.Facts) (hDwin : Cert.Dwin.Facts) (hDwinIdeal : Cert.DwinIdeal.Facts) (hDwinRefIdeal : Cert.DwinRefIdeal.Facts) (hDhin : Cert.Dhin.Facts) (hDhinIdeal : Cert.DhinIdeal.Facts) (hDhinRefIdeal : Cert.DhinRefIdeal.Facts) (hDwkv : Cert.Dwkv.Facts) (hDwkvIdeal : Cert.DwkvIdeal.Facts) (hDwkvRefIdeal : Cert.DwkvRefIdeal.Facts) (hDhkv : Cert.Dhkv.Facts) (hDhkvIdeal : Cert.DhkvIdeal.Facts) (hDhkvRefIdeal : Cert.DhkvRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hInp : Cert.Inp.Facts) (hInpIdeal : Cert.InpIdeal.Facts) (hInpRefIdeal : Cert.InpRefIdeal.Facts) (hOutp : Cert.Outp.Facts) (hOutpIdeal : Cert.OutpIdeal.Facts) (hOutpRefIdeal : Cert.OutpRefIdeal.Facts) (hQp : Cert.Qp.Facts) (hQpIdeal : Cert.QpIdeal.Facts) (hQpRefIdeal : Cert.QpRefIdeal.Facts) (hKvp : Cert.Kvp.Facts) (hKvpIdeal : Cert.KvpIdeal.Facts) (hKvpRefIdeal : Cert.KvpRefIdeal.Facts) (hRnorm : Cert.Rnorm.Facts) (hRnormIdeal : Cert.RnormIdeal.Facts) (hRnormRefIdeal : Cert.RnormRefIdeal.Facts) (hMid : Cert.Mid.Facts) (hMidIdeal : Cert.MidIdeal.Facts) (hMidRefIdeal : Cert.MidRefIdeal.Facts) (hAttn : Cert.Attn.Facts) (hAttnIdeal : Cert.AttnIdeal.Facts) (hAttnRefIdeal : Cert.AttnRefIdeal.Facts) (hQnorm : Cert.Qnorm.Facts) (hQnormIdeal : Cert.QnormIdeal.Facts) (hQnormRefIdeal : Cert.QnormRefIdeal.Facts) (hKvpost : Cert.Kvpost.Facts) (hKvpostIdeal : Cert.KvpostIdeal.Facts) (hKvpostRefIdeal : Cert.KvpostRefIdeal.Facts) (hDqnorm : Cert.Dqnorm.Facts) (hDqnormIdeal : Cert.DqnormIdeal.Facts) (hDqnormRefIdeal : Cert.DqnormRefIdeal.Facts) (hDkvpost : Cert.Dkvpost.Facts) (hDkvpostIdeal : Cert.DkvpostIdeal.Facts) (hDkvpostRefIdeal : Cert.DkvpostRefIdeal.Facts) (hLoss : Cert.Loss.Facts) (hLossIdeal : Cert.LossIdeal.Facts) (hLossRefIdeal : Cert.LossRefIdeal.Facts) (hGpost : Cert.Gpost.Facts) (hGpostIdeal : Cert.GpostIdeal.Facts) (hGpostRefIdeal : Cert.GpostRefIdeal.Facts) (hAdam : Cert.Adam.Facts) (hAdamIdeal : Cert.AdamIdeal.Facts) (hAdamRefIdeal : Cert.AdamRefIdeal.Facts) (hAdamr : Cert.Adamr.Facts) (hAdamrIdeal : Cert.AdamrIdeal.Facts) (hAdamrRefIdeal : Cert.AdamrRefIdeal.Facts) (hPre_finite : Cert.Pre_finite.Facts) (hPre_finite_dmid : Cert.Pre_finite_dmid.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dwdown (hDwdown := hDwdown)
    ∧ quiescent_DwdownIdeal (hDwdownIdeal := hDwdownIdeal)
    ∧ quiescent_DwdownRefIdeal (hDwdownRefIdeal := hDwdownRefIdeal)
    ∧ quiescent_Dact (hDact := hDact)
    ∧ quiescent_DactIdeal (hDactIdeal := hDactIdeal)
    ∧ quiescent_DactRefIdeal (hDactRefIdeal := hDactRefIdeal)
    ∧ quiescent_Dmid (hDmid := hDmid)
    ∧ quiescent_DmidIdeal (hDmidIdeal := hDmidIdeal)
    ∧ quiescent_DmidIdeal_pre_finite_dmid (hDmidIdeal := hDmidIdeal) (hPre_finite_dmid := hPre_finite_dmid)
    ∧ quiescent_DmidRefIdeal (hDmidRefIdeal := hDmidRefIdeal)
    ∧ quiescent_DmidRefIdeal_pre_finite_dmid (hDmidRefIdeal := hDmidRefIdeal) (hPre_finite_dmid := hPre_finite_dmid)
    ∧ quiescent_Dconv (hDconv := hDconv)
    ∧ quiescent_DconvIdeal (hDconvIdeal := hDconvIdeal)
    ∧ quiescent_DconvRefIdeal (hDconvRefIdeal := hDconvRefIdeal)
    ∧ quiescent_Dwup (hDwup := hDwup)
    ∧ quiescent_DwupIdeal (hDwupIdeal := hDwupIdeal)
    ∧ quiescent_DwupRefIdeal (hDwupRefIdeal := hDwupRefIdeal)
    ∧ quiescent_Dh (hDh := hDh)
    ∧ quiescent_DhIdeal (hDhIdeal := hDhIdeal)
    ∧ quiescent_DhRefIdeal (hDhRefIdeal := hDhRefIdeal)
    ∧ quiescent_Dnorm (hDnorm := hDnorm)
    ∧ quiescent_DnormIdeal (hDnormIdeal := hDnormIdeal)
    ∧ quiescent_DnormRefIdeal (hDnormRefIdeal := hDnormRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dyout (hDyout := hDyout)
    ∧ quiescent_DyoutIdeal (hDyoutIdeal := hDyoutIdeal)
    ∧ quiescent_DyoutRefIdeal (hDyoutRefIdeal := hDyoutRefIdeal)
    ∧ quiescent_Dosb (hDosb := hDosb)
    ∧ quiescent_DosbIdeal (hDosbIdeal := hDosbIdeal)
    ∧ quiescent_DosbRefIdeal (hDosbRefIdeal := hDosbRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Dhin (hDhin := hDhin)
    ∧ quiescent_DhinIdeal (hDhinIdeal := hDhinIdeal)
    ∧ quiescent_DhinRefIdeal (hDhinRefIdeal := hDhinRefIdeal)
    ∧ quiescent_Dwkv (hDwkv := hDwkv)
    ∧ quiescent_DwkvIdeal (hDwkvIdeal := hDwkvIdeal)
    ∧ quiescent_DwkvRefIdeal (hDwkvRefIdeal := hDwkvRefIdeal)
    ∧ quiescent_Dhkv (hDhkv := hDhkv)
    ∧ quiescent_DhkvIdeal (hDhkvIdeal := hDhkvIdeal)
    ∧ quiescent_DhkvRefIdeal (hDhkvRefIdeal := hDhkvRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Inp (hInp := hInp)
    ∧ quiescent_InpIdeal (hInpIdeal := hInpIdeal)
    ∧ quiescent_InpRefIdeal (hInpRefIdeal := hInpRefIdeal)
    ∧ quiescent_Outp (hOutp := hOutp)
    ∧ quiescent_OutpIdeal (hOutpIdeal := hOutpIdeal)
    ∧ quiescent_OutpRefIdeal (hOutpRefIdeal := hOutpRefIdeal)
    ∧ quiescent_Qp (hQp := hQp)
    ∧ quiescent_QpIdeal (hQpIdeal := hQpIdeal)
    ∧ quiescent_QpRefIdeal (hQpRefIdeal := hQpRefIdeal)
    ∧ quiescent_Kvp (hKvp := hKvp)
    ∧ quiescent_KvpIdeal (hKvpIdeal := hKvpIdeal)
    ∧ quiescent_KvpRefIdeal (hKvpRefIdeal := hKvpRefIdeal)
    ∧ quiescent_Rnorm (hRnorm := hRnorm)
    ∧ quiescent_RnormIdeal (hRnormIdeal := hRnormIdeal)
    ∧ quiescent_RnormRefIdeal (hRnormRefIdeal := hRnormRefIdeal)
    ∧ quiescent_Mid (hMid := hMid)
    ∧ quiescent_MidIdeal (hMidIdeal := hMidIdeal)
    ∧ quiescent_MidRefIdeal (hMidRefIdeal := hMidRefIdeal)
    ∧ quiescent_Attn (hAttn := hAttn)
    ∧ quiescent_AttnIdeal (hAttnIdeal := hAttnIdeal)
    ∧ quiescent_AttnRefIdeal (hAttnRefIdeal := hAttnRefIdeal)
    ∧ quiescent_Qnorm (hQnorm := hQnorm)
    ∧ quiescent_QnormIdeal (hQnormIdeal := hQnormIdeal)
    ∧ quiescent_QnormRefIdeal (hQnormRefIdeal := hQnormRefIdeal)
    ∧ quiescent_Kvpost (hKvpost := hKvpost)
    ∧ quiescent_KvpostIdeal (hKvpostIdeal := hKvpostIdeal)
    ∧ quiescent_KvpostRefIdeal (hKvpostRefIdeal := hKvpostRefIdeal)
    ∧ quiescent_Dqnorm (hDqnorm := hDqnorm)
    ∧ quiescent_DqnormIdeal (hDqnormIdeal := hDqnormIdeal)
    ∧ quiescent_DqnormRefIdeal (hDqnormRefIdeal := hDqnormRefIdeal)
    ∧ quiescent_Dkvpost (hDkvpost := hDkvpost)
    ∧ quiescent_DkvpostIdeal (hDkvpostIdeal := hDkvpostIdeal)
    ∧ quiescent_DkvpostRefIdeal (hDkvpostRefIdeal := hDkvpostRefIdeal)
    ∧ quiescent_Loss (hLoss := hLoss)
    ∧ quiescent_LossIdeal (hLossIdeal := hLossIdeal)
    ∧ quiescent_LossRefIdeal (hLossRefIdeal := hLossRefIdeal)
    ∧ quiescent_Gpost (hGpost := hGpost)
    ∧ quiescent_GpostIdeal (hGpostIdeal := hGpostIdeal)
    ∧ quiescent_GpostRefIdeal (hGpostRefIdeal := hGpostRefIdeal)
    ∧ quiescent_Adam (hAdam := hAdam)
    ∧ quiescent_AdamIdeal (hAdamIdeal := hAdamIdeal)
    ∧ quiescent_AdamRefIdeal (hAdamRefIdeal := hAdamRefIdeal)
    ∧ quiescent_Adamr (hAdamr := hAdamr)
    ∧ quiescent_AdamrIdeal (hAdamrIdeal := hAdamrIdeal)
    ∧ quiescent_AdamrRefIdeal (hAdamrRefIdeal := hAdamrRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dwdown_DwdownIdeal
    ∧ algebraic_DwdownIdeal_DwdownRefIdeal (hDwdownIdeal := hDwdownIdeal) (hDwdownRefIdeal := hDwdownRefIdeal)
    ∧ preserves_Dact_DactIdeal
    ∧ algebraic_DactIdeal_DactRefIdeal (hDactIdeal := hDactIdeal) (hDactRefIdeal := hDactRefIdeal)
    ∧ preserves_Dmid_DmidIdeal
    ∧ algebraic_DmidIdeal_DmidRefIdeal_pre_finite_dmid (hDmidIdeal := hDmidIdeal) (hDmidRefIdeal := hDmidRefIdeal) (hPre_finite_dmid := hPre_finite_dmid)
    ∧ preserves_Dconv_DconvIdeal
    ∧ algebraic_DconvIdeal_DconvRefIdeal (hDconvIdeal := hDconvIdeal) (hDconvRefIdeal := hDconvRefIdeal)
    ∧ preserves_Dwup_DwupIdeal
    ∧ algebraic_DwupIdeal_DwupRefIdeal (hDwupIdeal := hDwupIdeal) (hDwupRefIdeal := hDwupRefIdeal)
    ∧ preserves_Dh_DhIdeal
    ∧ algebraic_DhIdeal_DhRefIdeal (hDhIdeal := hDhIdeal) (hDhRefIdeal := hDhRefIdeal)
    ∧ preserves_Dnorm_DnormIdeal
    ∧ algebraic_DnormIdeal_DnormRefIdeal (hDnormIdeal := hDnormIdeal) (hDnormRefIdeal := hDnormRefIdeal)
    ∧ preserves_Dwout_DwoutIdeal
    ∧ algebraic_DwoutIdeal_DwoutRefIdeal (hDwoutIdeal := hDwoutIdeal) (hDwoutRefIdeal := hDwoutRefIdeal)
    ∧ preserves_Dyout_DyoutIdeal
    ∧ algebraic_DyoutIdeal_DyoutRefIdeal (hDyoutIdeal := hDyoutIdeal) (hDyoutRefIdeal := hDyoutRefIdeal)
    ∧ preserves_Dosb_DosbIdeal
    ∧ algebraic_DosbIdeal_DosbRefIdeal (hDosbIdeal := hDosbIdeal) (hDosbRefIdeal := hDosbRefIdeal)
    ∧ preserves_Dwin_DwinIdeal
    ∧ algebraic_DwinIdeal_DwinRefIdeal (hDwinIdeal := hDwinIdeal) (hDwinRefIdeal := hDwinRefIdeal)
    ∧ preserves_Dhin_DhinIdeal
    ∧ algebraic_DhinIdeal_DhinRefIdeal (hDhinIdeal := hDhinIdeal) (hDhinRefIdeal := hDhinRefIdeal)
    ∧ preserves_Dwkv_DwkvIdeal
    ∧ algebraic_DwkvIdeal_DwkvRefIdeal (hDwkvIdeal := hDwkvIdeal) (hDwkvRefIdeal := hDwkvRefIdeal)
    ∧ preserves_Dhkv_DhkvIdeal
    ∧ algebraic_DhkvIdeal_DhkvRefIdeal (hDhkvIdeal := hDhkvIdeal) (hDhkvRefIdeal := hDhkvRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Inp_InpIdeal
    ∧ algebraic_InpIdeal_InpRefIdeal (hInpIdeal := hInpIdeal) (hInpRefIdeal := hInpRefIdeal)
    ∧ preserves_Outp_OutpIdeal
    ∧ algebraic_OutpIdeal_OutpRefIdeal (hOutpIdeal := hOutpIdeal) (hOutpRefIdeal := hOutpRefIdeal)
    ∧ preserves_Qp_QpIdeal
    ∧ algebraic_QpIdeal_QpRefIdeal (hQpIdeal := hQpIdeal) (hQpRefIdeal := hQpRefIdeal)
    ∧ preserves_Kvp_KvpIdeal
    ∧ algebraic_KvpIdeal_KvpRefIdeal (hKvpIdeal := hKvpIdeal) (hKvpRefIdeal := hKvpRefIdeal)
    ∧ preserves_Rnorm_RnormIdeal
    ∧ algebraic_RnormIdeal_RnormRefIdeal (hRnormIdeal := hRnormIdeal) (hRnormRefIdeal := hRnormRefIdeal)
    ∧ preserves_Mid_MidIdeal
    ∧ algebraic_MidIdeal_MidRefIdeal (hMidIdeal := hMidIdeal) (hMidRefIdeal := hMidRefIdeal)
    ∧ preserves_Attn_AttnIdeal
    ∧ algebraic_AttnIdeal_AttnRefIdeal (hAttnIdeal := hAttnIdeal) (hAttnRefIdeal := hAttnRefIdeal)
    ∧ preserves_Qnorm_QnormIdeal
    ∧ algebraic_QnormIdeal_QnormRefIdeal (hQnormIdeal := hQnormIdeal) (hQnormRefIdeal := hQnormRefIdeal)
    ∧ preserves_Kvpost_KvpostIdeal
    ∧ algebraic_KvpostIdeal_KvpostRefIdeal (hKvpostIdeal := hKvpostIdeal) (hKvpostRefIdeal := hKvpostRefIdeal)
    ∧ preserves_Dqnorm_DqnormIdeal
    ∧ algebraic_DqnormIdeal_DqnormRefIdeal (hDqnormIdeal := hDqnormIdeal) (hDqnormRefIdeal := hDqnormRefIdeal)
    ∧ preserves_Dkvpost_DkvpostIdeal
    ∧ algebraic_DkvpostIdeal_DkvpostRefIdeal (hDkvpostIdeal := hDkvpostIdeal) (hDkvpostRefIdeal := hDkvpostRefIdeal)
    ∧ preserves_Loss_LossIdeal
    ∧ algebraic_LossIdeal_LossRefIdeal (hLossIdeal := hLossIdeal) (hLossRefIdeal := hLossRefIdeal)
    ∧ preserves_Gpost_GpostIdeal
    ∧ algebraic_GpostIdeal_GpostRefIdeal (hGpostIdeal := hGpostIdeal) (hGpostRefIdeal := hGpostRefIdeal)
    ∧ preserves_Adam_AdamIdeal
    ∧ algebraic_AdamIdeal_AdamRefIdeal (hAdamIdeal := hAdamIdeal) (hAdamRefIdeal := hAdamRefIdeal)
    ∧ preserves_Adamr_AdamrIdeal
    ∧ algebraic_AdamrIdeal_AdamrRefIdeal (hAdamrIdeal := hAdamrIdeal) (hAdamrRefIdeal := hAdamrRefIdeal)
-- ==== Pre_finite.lean ====
abbrev S8192x1024 : Shape := ⟨2, ![8192, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x1024 .bf16) (main_arg1 : FVec F S8192x1024 .bf16) (main_arg2 : FVec F S8192x1024 .bf16) (main_arg3 : FVec F S8192x1024 .bf16) : IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : IVec S8192x1024 1 := andi main_v3 main_v7
  let main_v9 : FVec F S8192x1024 .f32 := (extf .f32 · bitsLt_bf16_f32) main_arg2
  let main_v10 : FVec F S8192x1024 .f32 := Host.absf main_v9
  let main_cst_1 : FVec F S_ .f32 := constant S_ .f32 0x7F800000#32
  let main_v11 : FVec F S8192x1024 .f32 := broadcastInDim S8192x1024 ![] bcast_S_S8192x1024 main_cst_1
  let main_v12 : IVec S8192x1024 1 := cmpf .olt main_v10 main_v11
  let main_v13 : IVec S8192x1024 1 := andi main_v8 main_v12
  let main_v14 : FVec F S8192x1024 .f32 := (extf .f32 · bitsLt_bf16_f32) main_arg3
  let main_v15 : FVec F S8192x1024 .f32 := Host.absf main_v14
  let main_cst_2 : FVec F S_ .f32 := constant S_ .f32 0x7F800000#32
  let main_v16 : FVec F S8192x1024 .f32 := broadcastInDim S8192x1024 ![] bcast_S_S8192x1024 main_cst_2
  let main_v17 : IVec S8192x1024 1 := cmpf .olt main_v15 main_v16
  let main_v18 : IVec S8192x1024 1 := andi main_v13 main_v17
  main_v18
-- ==== Pre_finite_dmid.lean ====
abbrev S8192x5632 : Shape := ⟨2, ![8192, 5632]⟩
abbrev S3x5632 : Shape := ⟨2, ![3, 5632]⟩
abbrev S8192x2816 : Shape := ⟨2, ![8192, 2816]⟩
abbrev S_ : Shape := ⟨0, ![]⟩

class Facts : Prop where
  bcast_S_S8192x5632 : S_.BroadcastsInDim S8192x5632 (![] : Fin 0 → Fin S8192x5632.rank)
  bcast_S_S3x5632 : S_.BroadcastsInDim S3x5632 (![] : Fin 0 → Fin S3x5632.rank)
  bcast_S_S8192x2816 : S_.BroadcastsInDim S8192x2816 (![] : Fin 0 → Fin S8192x2816.rank)

variable [Facts]

def fn {F : FTy → Type} [FloatOps F] (main_arg0 : FVec F S8192x5632 .f32) (main_arg1 : FVec F S3x5632 .f32) (main_arg2 : FVec F S8192x2816 .f32) : IVec S8192x5632 1 × IVec S3x5632 1 × IVec S8192x2816 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S8192x2816 .f32 := Host.absf main_arg2
  let main_cst_1 : FVec F S_ .f32 := constant S_ .f32 0x7F800000#32
  let main_v7 : FVec F S8192x2816 .f32 := broadcastInDim S8192x2816 ![] bcast_S_S8192x2816 main_cst_1
  let main_v8 : IVec S8192x2816 1 := cmpf .olt main_v6 main_v7
  (main_v2, main_v5, main_v8)
-- ==== Kernel.lean ====
abbrev S8192x1024 : Shape := ⟨2, ![8192, 1024]⟩
abbrev S256x128 : Shape := ⟨2, ![256, 128]⟩
abbrev S8192x128 : Shape := ⟨2, ![8192, 128]⟩
abbrev S128x128 : Shape := ⟨2, ![128, 128]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S8192x1024, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S256x128, .f32⟩
  | .local _ .vmem, ⟨9, _⟩ => ⟨S256x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 32], ![false, false]⟩

def k0_mult1 (arg9 : BitVec 32) : BitVec 32 :=
  let c128_i32 : BitVec 32 := 128#32
  let v32 : BitVec 32 := Scalar.muli arg9 c128_i32
  v32

def k0_off1 (arg9 : BitVec 32) : Fin 2 → Nat :=
  let c128_i32 : BitVec 32 := 128#32
  let v32 : BitVec 32 := Scalar.muli arg9 c128_i32
  let v33 : BitVec 32 := v32
  let v34 : Index := Scalar.indexCast v33
  let c0_13 : Index := 0#32
  ![v34.toNat, 0]

def k0_chk1 (arg9 : BitVec 32) : Prop :=
  (128 ∣ (k0_mult1 arg9).toNat) ∧
  (∀ a, (k0_off1 arg9) a + S128x128.size a ≤ S8192x128.size a)
theorem k0_mult1_dvd : ∀ (arg9 : BitVec 32) (k0_hw1 : k0_chk1 arg9), 128 ∣ (k0_mult1 arg9).toNat := fun arg9 k0_hw1 => k0_hw1.1
theorem k0_off1_inb : ∀ (arg9 : BitVec 32) (k0_hw1 : k0_chk1 arg9), ∀ a, (k0_off1 arg9) a + S128x128.size a ≤ S8192x128.size a := fun arg9 k0_hw1 => k0_hw1.2

@[reducible] def k0_t1_loop (i : grid0.Coords) (v19_0 : BitVec 32) : Scf.Loop 32 :=
  let c1_i32_6 : BitVec 32 := 1#32
  let v21 : BitVec 32 := Scalar.addi v19_0 c1_i32_6
  let arg1 : BitVec 32 := BitVec.ofNat 32 (i 1).val
  let c1_i32 : BitVec 32 := 1#32
  let v15 : BitVec 32 := Scalar.addi arg1 c1_i32
  let c2_i32 : BitVec 32 := 2#32
  let v16 : BitVec 32 := Scalar.muli v15 c2_i32
  let v23 : BitVec 32 := Scalar.subi v16 v21
  let c1_i32_8 : BitVec 32 := 1#32
  let v25 : BitVec 32 := Scalar.divsi v23 c1_i32_8
  let v26 : BitVec 32 := Scalar.muli v25 c1_i32_8
  let v27 : BitVec 32 := Scalar.addi v21 v26
  let c1_i32_9 : BitVec 32 := 1#32
  ⟨v21, v27, c1_i32_9⟩

def k0_mult2 (i : grid0.Coords) (v19_0 : BitVec 32) (k0_t1 : Fin (k0_t1_loop i v19_0).trips) : BitVec 32 :=
  let c1_i32_6 : BitVec 32 := 1#32
  let v21 : BitVec 32 := Scalar.addi v19_0 c1_i32_6
  let c1_i32_9 : BitVec 32 := 1#32
  let arg9 : BitVec 32 := Scf.iv v21 c1_i32_9 k0_t1
  let c128_i32 : BitVec 32 := 128#32
  let v32 : BitVec 32 := Scalar.muli arg9 c128_i32
  v32
def k0_off2 (i : grid0.Coords) (v19_0 : BitVec 32) (k0_t1 : Fin (k0_t1_loop i v19_0).trips) : Fin 2 → Nat :=
  let c1_i32_6 : BitVec 32 := 1#32
  let v21 : BitVec 32 := Scalar.addi v19_0 c1_i32_6
  let c1_i32_9 : BitVec 32 := 1#32
  let arg9 : BitVec 32 := Scf.iv v21 c1_i32_9 k0_t1
  let c128_i32 : BitVec 32 := 128#32
  let v32 : BitVec 32 := Scalar.muli arg9 c128_i32
  let v33 : BitVec 32 := v32
  let v34 : Index := Scalar.indexCast v33
  let c0_13 : Index := 0#32
  ![v34.toNat, 0]
def k0_mult3 (i : grid0.Coords) (v19_0 : BitVec 32) (k0_t1 : Fin (k0_t1_loop i v19_0).trips) : BitVec 32 :=
  let c1_i32_6 : BitVec 32 := 1#32
  let v21 : BitVec 32 := Scalar.addi v19_0 c1_i32_6
  let c1_i32_9 : BitVec 32 := 1#32
  let arg9 : BitVec 32 := Scf.iv v21 c1_i32_9 k0_t1
  let c128_i32_22 : BitVec 32 := 128#32
  let v61 : BitVec 32 := Scalar.muli arg9 c128_i32_22
  v61
@[reducible] def k0_t2_loop (i : grid0.Coords) (v19_0 : BitVec 32) : Scf.Loop 32 :=
  let c1_i32_6 : BitVec 32 := 1#32
  let v21 : BitVec 32 := Scalar.addi v19_0 c1_i32_6
  let arg1 : BitVec 32 := BitVec.ofNat 32 (i 1).val
  let c1_i32 : BitVec 32 := 1#32
  let v15 : BitVec 32 := Scalar.addi arg1 c1_i32
  let c2_i32 : BitVec 32 := 2#32
  let v16 : BitVec 32 := Scalar.muli v15 c2_i32
  let v23 : BitVec 32 := Scalar.subi v16 v21
  let c1_i32_8 : BitVec 32 := 1#32
  let v25 : BitVec 32 := Scalar.divsi v23 c1_i32_8
  let v26 : BitVec 32 := Scalar.muli v25 c1_i32_8
  let v27 : BitVec 32 := Scalar.addi v21 v26
  let v24 : BitVec 32 := Scalar.addi v21 v23
  let c1_i32_10 : BitVec 32 := 1#32
  ⟨v27, v24, c1_i32_10⟩
def k0_mult4 (i : grid0.Coords) (v19_0 : BitVec 32) (k0_t2 : Fin (k0_t2_loop i v19_0).trips) : BitVec 32 :=
  let c1_i32_6 : BitVec 32 := 1#32
  let v21 : BitVec 32 := Scalar.addi v19_0 c1_i32_6
  let arg1 : BitVec 32 := BitVec.ofNat 32 (i 1).val
  let c1_i32 : BitVec 32 := 1#32
  let v15 : BitVec 32 := Scalar.addi arg1 c1_i32
  let c2_i32 : BitVec 32 := 2#32
  let v16 : BitVec 32 := Scalar.muli v15 c2_i32
  let v23 : BitVec 32 := Scalar.subi v16 v21
  let c1_i32_8 : BitVec 32 := 1#32
  let v25 : BitVec 32 := Scalar.divsi v23 c1_i32_8
  let v26 : BitVec 32 := Scalar.muli v25 c1_i32_8
  let v27 : BitVec 32 := Scalar.addi v21 v26
  let c1_i32_10 : BitVec 32 := 1#32
  let arg9 : BitVec 32 := Scf.iv v27 c1_i32_10 k0_t2
  let c128_i32 : BitVec 32 := 128#32
  let v32 : BitVec 32 := Scalar.muli arg9 c128_i32
  v32
def k0_off3 (i : grid0.Coords) (v19_0 : BitVec 32) (k0_t2 : Fin (k0_t2_loop i v19_0).trips) : Fin 2 → Nat :=
  let c1_i32_6 : BitVec 32 := 1#32
  let v21 : BitVec 32 := Scalar.addi v19_0 c1_i32_6
  let arg1 : BitVec 32 := BitVec.ofNat 32 (i 1).val
  let c1_i32 : BitVec 32 := 1#32
  let v15 : BitVec 32 := Scalar.addi arg1 c1_i32
  let c2_i32 : BitVec 32 := 2#32
  let v16 : BitVec 32 := Scalar.muli v15 c2_i32
  let v23 : BitVec 32 := Scalar.subi v16 v21
  let c1_i32_8 : BitVec 32 := 1#32
  let v25 : BitVec 32 := Scalar.divsi v23 c1_i32_8
  let v26 : BitVec 32 := Scalar.muli v25 c1_i32_8
  let v27 : BitVec 32 := Scalar.addi v21 v26
  let c1_i32_10 : BitVec 32 := 1#32
  let arg9 : BitVec 32 := Scf.iv v27 c1_i32_10 k0_t2
  let c128_i32 : BitVec 32 := 128#32
  let v32 : BitVec 32 := Scalar.muli arg9 c128_i32
  let v33 : BitVec 32 := v32
  let v34 : Index := Scalar.indexCast v33
  let c0_13 : Index := 0#32
  ![v34.toNat, 0]
def k0_mult5 (i : grid0.Coords) (v19_0 : BitVec 32) (k0_t2 : Fin (k0_t2_loop i v19_0).trips) : BitVec 32 :=
  let c1_i32_6 : BitVec 32 := 1#32
  let v21 : BitVec 32 := Scalar.addi v19_0 c1_i32_6
  let arg1 : BitVec 32 := BitVec.ofNat 32 (i 1).val
  let c1_i32 : BitVec 32 := 1#32
  let v15 : BitVec 32 := Scalar.addi arg1 c1_i32
  let c2_i32 : BitVec 32 := 2#32
  let v16 : BitVec 32 := Scalar.muli v15 c2_i32
  let v23 : BitVec 32 := Scalar.subi v16 v21
  let c1_i32_8 : BitVec 32 := 1#32
  let v25 : BitVec 32 := Scalar.divsi v23 c1_i32_8
  let v26 : BitVec 32 := Scalar.muli v25 c1_i32_8
  let v27 : BitVec 32 := Scalar.addi v21 v26
  let c1_i32_10 : BitVec 32 := 1#32
  let arg9 : BitVec 32 := Scf.iv v27 c1_i32_10 k0_t2
  let c128_i32_22 : BitVec 32 := 128#32
  let v61 : BitVec 32 := Scalar.muli arg9 c128_i32_22
  v61

def k0_chk2 (i : grid0.Coords) (v19_0 : BitVec 32) : Prop :=
  ((k0_t1_loop i v19_0).OK) ∧
  (∀ k0_t1 : Fin (k0_t1_loop i v19_0).trips, 128 ∣ (k0_mult2 i v19_0 k0_t1).toNat) ∧
  (∀ k0_t1 : Fin (k0_t1_loop i v19_0).trips, ∀ a, (k0_off2 i v19_0 k0_t1) a + S128x128.size a ≤ S8192x128.size a) ∧
  (∀ k0_t1 : Fin (k0_t1_loop i v19_0).trips, 128 ∣ (k0_mult3 i v19_0 k0_t1).toNat) ∧
  ((k0_t2_loop i v19_0).OK) ∧
  (∀ k0_t2 : Fin (k0_t2_loop i v19_0).trips, 128 ∣ (k0_mult4 i v19_0 k0_t2).toNat) ∧
  (∀ k0_t2 : Fin (k0_t2_loop i v19_0).trips, ∀ a, (k0_off3 i v19_0 k0_t2) a + S128x128.size a ≤ S8192x128.size a) ∧
  (∀ k0_t2 : Fin (k0_t2_loop i v19_0).trips, 128 ∣ (k0_mult5 i v19_0 k0_t2).toNat)
theorem k0_t1_ok : ∀ (i : grid0.Coords) (v19_0 : BitVec 32) (k0_hw2 : k0_chk2 i v19_0), (k0_t1_loop i v19_0).OK := fun i v19_0 k0_hw2 => k0_hw2.1
theorem k0_mult2_dvd : ∀ (i : grid0.Coords) (v19_0 : BitVec 32) (k0_hw2 : k0_chk2 i v19_0) (k0_t1 : Fin (k0_t1_loop i v19_0).trips), 128 ∣ (k0_mult2 i v19_0 k0_t1).toNat := fun i v19_0 k0_hw2 k0_t1 => k0_hw2.2.1 k0_t1
theorem k0_off2_inb : ∀ (i : grid0.Coords) (v19_0 : BitVec 32) (k0_hw2 : k0_chk2 i v19_0) (k0_t1 : Fin (k0_t1_loop i v19_0).trips), ∀ a, (k0_off2 i v19_0 k0_t1) a + S128x128.size a ≤ S8192x128.size a := fun i v19_0 k0_hw2 k0_t1 => k0_hw2.2.2.1 k0_t1
theorem k0_mult3_dvd : ∀ (i : grid0.Coords) (v19_0 : BitVec 32) (k0_hw2 : k0_chk2 i v19_0) (k0_t1 : Fin (k0_t1_loop i v19_0).trips), 128 ∣ (k0_mult3 i v19_0 k0_t1).toNat := fun i v19_0 k0_hw2 k0_t1 => k0_hw2.2.2.2.1 k0_t1
theorem k0_t2_ok : ∀ (i : grid0.Coords) (v19_0 : BitVec 32) (k0_hw2 : k0_chk2 i v19_0), (k0_t2_loop i v19_0).OK := fun i v19_0 k0_hw2 => k0_hw2.2.2.2.2.1
theorem k0_mult4_dvd : ∀ (i : grid0.Coords) (v19_0 : BitVec 32) (k0_hw2 : k0_chk2 i v19_0) (k0_t2 : Fin (k0_t2_loop i v19_0).trips), 128 ∣ (k0_mult4 i v19_0 k0_t2).toNat := fun i v19_0 k0_hw2 k0_t2 => k0_hw2.2.2.2.2.2.1 k0_t2
theorem k0_off3_inb : ∀ (i : grid0.Coords) (v19_0 : BitVec 32) (k0_hw2 : k0_chk2 i v19_0) (k0_t2 : Fin (k0_t2_loop i v19_0).trips), ∀ a, (k0_off3 i v19_0 k0_t2) a + S128x128.size a ≤ S8192x128.size a := fun i v19_0 k0_hw2 k0_t2 => k0_hw2.2.2.2.2.2.2.1 k0_t2
theorem k0_mult5_dvd : ∀ (i : grid0.Coords) (v19_0 : BitVec 32) (k0_hw2 : k0_chk2 i v19_0) (k0_t2 : Fin (k0_t2_loop i v19_0).trips), 128 ∣ (k0_mult5 i v19_0 k0_t2).toNat := fun i v19_0 k0_hw2 k0_t2 => k0_hw2.2.2.2.2.2.2.2 k0_t2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "exp_underflow" => some ⊥
  | _ => none
-- ==== ReferenceIdeal.lean ====
abbrev S8192x1024 : Shape := ⟨2, ![8192, 1024]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩

abbrev nBuf : Space → Nat
  | .hbm => 181
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x1024, .bf16⟩
  | 3 => ⟨S8192x1024, .bf16⟩
  | 4 => ⟨S8192x1024, .f32⟩
  | 5 => ⟨S8192x1024, .f32⟩
  | 6 => ⟨S8192x1024, .f32⟩
  | 7 => ⟨S8192x8x128, .f32⟩
  | 8 => ⟨S8x8192x128, .f32⟩
  | 9 => ⟨S8192x8x128, .f32⟩
  | 10 => ⟨S8x8192x128, .f32⟩
  | 11 => ⟨S8192x8x128, .f32⟩
  | 12 => ⟨S8x8192x128, .f32⟩
  | 13 => ⟨S8x8192x8192, .f32⟩
  | 14 => ⟨S_, .f32⟩
  | 15 => ⟨S8x8192x8192, .f32⟩
  | 16 => ⟨S8x8192x8192, .f32⟩
  | 17 => ⟨S8192, .i32⟩
  | 18 => ⟨S1x8192, .i32⟩
  | 19 => ⟨S8192, .i32⟩
  | 20 => ⟨S8192x1, .i32⟩
  | 21 => ⟨S8192x8192, .i32⟩
  | 22 => ⟨S8192x8192, .i32⟩
  | 23 => ⟨S8192x8192, .i1⟩
  | 24 => ⟨S8x8192x8192, .f32⟩
  | 25 => ⟨S8x8192x8192, .f32⟩
  | 26 => ⟨S_, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .i1⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S_, .f32⟩
  | 41 => ⟨S8x8192x8192, .f32⟩
  | 42 => ⟨S8x8192x8192, .i1⟩
  | 43 => ⟨S_, .f32⟩
  | 44 => ⟨S8x8192x8192, .f32⟩
  | 45 => ⟨S8x8192x8192, .f32⟩
  | 46 => ⟨S_, .f32⟩
  | 47 => ⟨S8x8192x8192, .f32⟩
  | 48 => ⟨S8x8192x8192, .i1⟩
  | 49 => ⟨S_, .f32⟩
  | 50 => ⟨S8x8192x8192, .f32⟩
  | 51 => ⟨S8x8192x8192, .f32⟩
  | 52 => ⟨S8x8192x8192, .f32⟩
  | 53 => ⟨S8x8192x8192, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x8192x8192, .f32⟩
  | 62 => ⟨S8x8192x8192, .i1⟩
  | 63 => ⟨S_, .f32⟩
  | 64 => ⟨S8x8192x8192, .f32⟩
  | 65 => ⟨S8x8192x8192, .f32⟩
  | 66 => ⟨S8x8192x8192, .f32⟩
  | 67 => ⟨S8x8192x8192, .f32⟩
  | 68 => ⟨S8x8192x8192, .f32⟩
  | 69 => ⟨S_, .f32⟩
  | 70 => ⟨S8x8192x8192, .f32⟩
  | 71 => ⟨S8x8192x8192, .f32⟩
  | 72 => ⟨S8x8192x8192, .f32⟩
  | 73 => ⟨S_, .f32⟩
  | 74 => ⟨S_, .f32⟩
  | 75 => ⟨S8x8192x8192, .i1⟩
  | 76 => ⟨S8x8192x8192, .f32⟩
  | 77 => ⟨S8x8192x8192, .f32⟩
  | 78 => ⟨S_, .f32⟩
  | 79 => ⟨S8x8192x8192, .f32⟩
  | 80 => ⟨S_, .f32⟩
  | 81 => ⟨S_, .f32⟩
  | 82 => ⟨S8x8192x8192, .f32⟩
  | 83 => ⟨S8x8192x8192, .f32⟩
  | 84 => ⟨S8x8192x8192, .f32⟩
  | 85 => ⟨S_, .f32⟩
  | 86 => ⟨S8x8192x8192, .f32⟩
  | 87 => ⟨S8x8192x8192, .f32⟩
  | 88 => ⟨S8x8192x8192, .f32⟩
  | 89 => ⟨S8x8192x8192, .f32⟩
  | 90 => ⟨S8x8192x8192, .i1⟩
  | 91 => ⟨S8x8192x8192, .f32⟩
  | 92 => ⟨S8x8192x8192, .f32⟩
  | 93 => ⟨S8x8192x8192, .f32⟩
  | 94 => ⟨S8x8192x8192, .f32⟩
  | 95 => ⟨S8x8192x8192, .f32⟩
  | 96 => ⟨S8x8192x8192, .f32⟩
  | 97 => ⟨S8x8192x8192, .f32⟩
  | 98 => ⟨S8x8192x8192, .f32⟩
  | 99 => ⟨S_, .f32⟩
  | 100 => ⟨S8x8192x8192, .f32⟩
  | 101 => ⟨S8x8192x8192, .i1⟩
  | 102 => ⟨S_, .f32⟩
  | 103 => ⟨S8x8192x8192, .f32⟩
  | 104 => ⟨S8x8192x8192, .f32⟩
  | 105 => ⟨S_, .f32⟩
  | 106 => ⟨S8x8192x8192, .f32⟩
  | 107 => ⟨S8x8192x8192, .i1⟩
  | 108 => ⟨S_, .f32⟩
  | 109 => ⟨S8x8192x8192, .f32⟩
  | 110 => ⟨S8x8192x8192, .f32⟩
  | 111 => ⟨S8x8192x8192, .f32⟩
  | 112 => ⟨S8x8192x8192, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S8x8192x8192, .f32⟩
  | 121 => ⟨S8x8192x8192, .i1⟩
  | 122 => ⟨S_, .f32⟩
  | 123 => ⟨S8x8192x8192, .f32⟩
  | 124 => ⟨S8x8192x8192, .f32⟩
  | 125 => ⟨S8x8192x8192, .f32⟩
  | 126 => ⟨S8x8192x8192, .f32⟩
  | 127 => ⟨S8x8192x8192, .f32⟩
  | _ => ⟨S8192x1024, .bf16⟩

abbrev hbmTy0_1 (i : Nat) : BufTy := match i % 128 with
  | 0 => ⟨S_, .f32⟩
  | 1 => ⟨S8x8192x8192, .f32⟩
  | 2 => ⟨S8x8192x8192, .f32⟩
  | 3 => ⟨S8x8192x8192, .f32⟩
  | 4 => ⟨S8x8192x8192, .f32⟩
  | 5 => ⟨S8x8192x8192, .f32⟩
  | 6 => ⟨S_, .f32⟩
  | 7 => ⟨S_, .f32⟩
  | 8 => ⟨S8x8192x8192, .i1⟩
  | 9 => ⟨S8x8192x8192, .f32⟩
  | 10 => ⟨S8x8192x8192, .f32⟩
  | 11 => ⟨S_, .f32⟩
  | 12 => ⟨S8x8192x8192, .f32⟩
  | 13 => ⟨S8x8192x128, .f32⟩
  | 14 => ⟨S8192x8x128, .f32⟩
  | 15 => ⟨S8192x1024, .f32⟩
  | 16 => ⟨S8192x1024, .f32⟩
  | 17 => ⟨S8192x8x128, .f32⟩
  | 18 => ⟨S8x8192x128, .f32⟩
  | 19 => ⟨S8x128x8192, .f32⟩
  | 20 => ⟨S8x8192x128, .f32⟩
  | 21 => ⟨S8x8192x8192, .f32⟩
  | 22 => ⟨S_, .f32⟩
  | 23 => ⟨S8x8192x8192, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S_, .f32⟩
  | 31 => ⟨S_, .f32⟩
  | 32 => ⟨S8x8192x8192, .f32⟩
  | 33 => ⟨S8x8192x8192, .f32⟩
  | 34 => ⟨S_, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S8x8192x8192, .f32⟩
  | 41 => ⟨S8x8192x8192, .f32⟩
  | 42 => ⟨S_, .f32⟩
  | 43 => ⟨S8x8192x8192, .f32⟩
  | 44 => ⟨S8x8192x8192, .f32⟩
  | 45 => ⟨S8x8192x128, .f32⟩
  | 46 => ⟨S8x8192x128, .f32⟩
  | 47 => ⟨S8192x8x128, .f32⟩
  | 48 => ⟨S8192x1024, .f32⟩
  | 49 => ⟨S8192x8x128, .f32⟩
  | 50 => ⟨S8192x1024, .f32⟩
  | 51 => ⟨S8192x8x128, .f32⟩
  | 52 => ⟨S8192x1024, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v20_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v20_2 : Ref sig .tc := ⟨.hbm, 71, rfl⟩
abbrev main_v20_0 : Ref sig .tc := ⟨.hbm, 72, rfl⟩
abbrev main_cst_0 : Ref sig .tc := ⟨.hbm, 73, rfl⟩
abbrev main_call1_v0 : Ref sig .tc := ⟨.hbm, 74, rfl⟩
abbrev main_v21_1 : Ref sig .tc := ⟨.hbm, 75, rfl⟩
abbrev main_call1_v2 : Ref sig .tc := ⟨.hbm, 76, rfl⟩
abbrev main_v21_0 : Ref sig .tc := ⟨.hbm, 77, rfl⟩
abbrev main_call1_cst : Ref sig .tc := ⟨.hbm, 78, rfl⟩
abbrev main_v21_2 : Ref sig .tc := ⟨.hbm, 79, rfl⟩
abbrev main_call2_cst : Ref sig .tc := ⟨.hbm, 80, rfl⟩
abbrev main_call2_v0 : Ref sig .tc := ⟨.hbm, 81, rfl⟩
abbrev main_v22 : Ref sig .tc := ⟨.hbm, 82, rfl⟩
abbrev main_v23 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1_0 : Ref sig .tc := ⟨.hbm, 98, rfl⟩
abbrev main_call3_call0_cst_0 : Ref sig .tc := ⟨.hbm, 99, rfl⟩
abbrev main_call3_call0_v13 : Ref sig .tc := ⟨.hbm, 100, rfl⟩
abbrev main_call3_call0_v14 : Ref sig .tc := ⟨.hbm, 101, rfl⟩
abbrev main_call3_call0_cst_1 : Ref sig .tc := ⟨.hbm, 102, rfl⟩
abbrev main_call3_call0_v15 : Ref sig .tc := ⟨.hbm, 103, rfl⟩
abbrev main_call3_call0_v16 : Ref sig .tc := ⟨.hbm, 104, rfl⟩
abbrev main_call3_call0_cst_2 : Ref sig .tc := ⟨.hbm, 105, rfl⟩
abbrev main_call3_call0_v17 : Ref sig .tc := ⟨.hbm, 106, rfl⟩
abbrev main_call3_call0_v18 : Ref sig .tc := ⟨.hbm, 107, rfl⟩
abbrev main_call3_call0_cst_3 : Ref sig .tc := ⟨.hbm, 108, rfl⟩
abbrev main_call3_call0_v19 : Ref sig .tc := ⟨.hbm, 109, rfl⟩
abbrev main_call3_call0_v20 : Ref sig .tc := ⟨.hbm, 110, rfl⟩
abbrev main_call3_call0_v21 : Ref sig .tc := ⟨.hbm, 111, rfl⟩
abbrev main_v24_1 : Ref sig .tc := ⟨.hbm, 112, rfl⟩
abbrev main_call3_call0_cst_4 : Ref sig .tc := ⟨.hbm, 113, rfl⟩
abbrev main_call3_call0_cst_5 : Ref sig .tc := ⟨.hbm, 114, rfl⟩
abbrev main_call3_call0_v23 : Ref sig .tc := ⟨.hbm, 115, rfl⟩
abbrev main_call3_call0_cst_6 : Ref sig .tc := ⟨.hbm, 116, rfl⟩
abbrev main_call3_call0_cst_7 : Ref sig .tc := ⟨.hbm, 117, rfl⟩
abbrev main_call3_call0_v24 : Ref sig .tc := ⟨.hbm, 118, rfl⟩
abbrev main_call3_call0_cst_8 : Ref sig .tc := ⟨.hbm, 119, rfl⟩
abbrev main_call3_call0_v25 : Ref sig .tc := ⟨.hbm, 120, rfl⟩
abbrev main_call3_call0_v26 : Ref sig .tc := ⟨.hbm, 121, rfl⟩
abbrev main_call3_call0_cst_9 : Ref sig .tc := ⟨.hbm, 122, rfl⟩
abbrev main_call3_call0_v27 : Ref sig .tc := ⟨.hbm, 123, rfl⟩
abbrev main_call3_call0_v28 : Ref sig .tc := ⟨.hbm, 124, rfl⟩
abbrev main_call3_call0_v29 : Ref sig .tc := ⟨.hbm, 125, rfl⟩
abbrev main_call3_call0_v30 : Ref sig .tc := ⟨.hbm, 126, rfl⟩
abbrev main_call3_call0_v31 : Ref sig .tc := ⟨.hbm, 127, rfl⟩
abbrev main_call3_call0_cst_10 : Ref sig .tc := ⟨.hbm, 128, rfl⟩
abbrev main_call3_call0_v32 : Ref sig .tc := ⟨.hbm, 129, rfl⟩
abbrev main_v24_2 : Ref sig .tc := ⟨.hbm, 130, rfl⟩
abbrev main_v24_0 : Ref sig .tc := ⟨.hbm, 131, rfl⟩
abbrev main_v25 : Ref sig .tc := ⟨.hbm, 132, rfl⟩
abbrev main_v26 : Ref sig .tc := ⟨.hbm, 133, rfl⟩
abbrev main_cst_1 : Ref sig .tc := ⟨.hbm, 134, rfl⟩
abbrev main_call4_v0 : Ref sig .tc := ⟨.hbm, 135, rfl⟩
abbrev main_v27_1 : Ref sig .tc := ⟨.hbm, 136, rfl⟩
abbrev main_call4_v2 : Ref sig .tc := ⟨.hbm, 137, rfl⟩
abbrev main_v27_0 : Ref sig .tc := ⟨.hbm, 138, rfl⟩
abbrev main_call4_cst : Ref sig .tc := ⟨.hbm, 139, rfl⟩
abbrev main_v27_2 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_call5_cst : Ref sig .tc := ⟨.hbm, 150, rfl⟩
abbrev main_call5_v0 : Ref sig .tc := ⟨.hbm, 151, rfl⟩
abbrev main_v37 : Ref sig .tc := ⟨.hbm, 152, rfl⟩
abbrev main_v38 : Ref sig .tc := ⟨.hbm, 153, rfl⟩
abbrev main_call6_v0 : Ref sig .tc := ⟨.hbm, 154, rfl⟩
abbrev main_call6_v1 : Ref sig .tc := ⟨.hbm, 155, rfl⟩
abbrev main_v39 : Ref sig .tc := ⟨.hbm, 156, rfl⟩
abbrev main_v40 : Ref sig .tc := ⟨.hbm, 157, rfl⟩
abbrev main_call7_cst : Ref sig .tc := ⟨.hbm, 158, rfl⟩
abbrev main_call7_v0 : Ref sig .tc := ⟨.hbm, 159, rfl⟩
abbrev main_v41 : Ref sig .tc := ⟨.hbm, 160, rfl⟩
abbrev main_v42 : Ref sig .tc := ⟨.hbm, 161, rfl⟩
abbrev main_call8_cst : Ref sig .tc := ⟨.hbm, 162, rfl⟩
abbrev main_call8_v0 : Ref sig .tc := ⟨.hbm, 163, rfl⟩
abbrev main_v43 : Ref sig .tc := ⟨.hbm, 164, rfl⟩
abbrev main_call9_v0 : Ref sig .tc := ⟨.hbm, 165, rfl⟩
abbrev main_call9_v1 : Ref sig .tc := ⟨.hbm, 166, rfl⟩
abbrev main_v44 : Ref sig .tc := ⟨.hbm, 167, rfl⟩
abbrev main_v45 : Ref sig .tc := ⟨.hbm, 168, rfl⟩
abbrev main_v46 : Ref sig .tc := ⟨.hbm, 169, rfl⟩
abbrev main_cst_2 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩

abbrev nD : Nat := 1
abbrev τ : Topo := Topo.v7x

variable {F : FTy → Type} [FloatOps F]
-- ==== Dwdown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dact.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dmid.lean ====
abbrev S8192x5632 : Shape := ⟨2, ![8192, 5632]⟩
abbrev S3x5632 : Shape := ⟨2, ![3, 5632]⟩
abbrev S8192x2816 : Shape := ⟨2, ![8192, 2816]⟩
abbrev S128x5632 : Shape := ⟨2, ![128, 5632]⟩
abbrev S8x5632 : Shape := ⟨2, ![8, 5632]⟩
abbrev S128x2816 : Shape := ⟨2, ![128, 2816]⟩
abbrev S136x5632 : Shape := ⟨2, ![136, 5632]⟩
abbrev S1x5632 : Shape := ⟨2, ![1, 5632]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S8192x2816, .f32⟩
  | .hbm, ⟨3, _⟩ => ⟨S8192x5632, .f32⟩
  | .local _ .vmem, ⟨0, _⟩ => ⟨S128x5632, .f32⟩
  | .local _ .vmem, ⟨1, _⟩ => ⟨S128x5632, .f32⟩
  | .local _ .vmem, ⟨2, _⟩ => ⟨S8x5632, .f32⟩
  | .local _ .vmem, ⟨3, _⟩ => ⟨S8x5632, .f32⟩
  | .local _ .vmem, ⟨4, _⟩ => ⟨S3x5632, .f32⟩
  | .local _ .vmem, ⟨5, _⟩ => ⟨S128x2816, .f32⟩
  | .local _ .vmem, ⟨6, _⟩ => ⟨S128x2816, .f32⟩
  | .local _ .vmem, ⟨7, _⟩ => ⟨S128x5632, .f32⟩
  | .local _ .vmem, ⟨8, _⟩ => ⟨S128x5632, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DmidRefIdeal.lean ====
abbrev S8192x5632 : Shape := ⟨2, ![8192, 5632]⟩
abbrev S3x5632 : Shape := ⟨2, ![3, 5632]⟩
abbrev S8192x2816 : Shape := ⟨2, ![8192, 2816]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩

abbrev nBuf : Space → Nat
  | .hbm => 52
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S8192x2816, .f32⟩
  | .hbm, ⟨3, _⟩ => ⟨S_, .f32⟩
  | .hbm, ⟨4, _⟩ => ⟨S2x5632, .f32⟩
  | .hbm, ⟨5, _⟩ => ⟨S8194x5632, .f32⟩
  | .hbm, ⟨6, _⟩ => ⟨S8192x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x5632, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v26_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v26_1 : Ref sig .tc := ⟨.hbm, 42, rfl⟩
abbrev main_v26_0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Dconv.lean ====
abbrev S8192x5632 : Shape := ⟨2, ![8192, 5632]⟩
abbrev S3x5632 : Shape := ⟨2, ![3, 5632]⟩
abbrev S256x512 : Shape := ⟨2, ![256, 512]⟩
abbrev S8x512 : Shape := ⟨2, ![8, 512]⟩
abbrev S3x512 : Shape := ⟨2, ![3, 512]⟩
abbrev S264x512 : Shape := ⟨2, ![264, 512]⟩
abbrev S1x512 : Shape := ⟨2, ![1, 512]⟩
abbrev S512 : Shape := ⟨1, ![512]⟩

abbrev nBuf : Space → Nat
  | .hbm => 5
  | .vmem => 14
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S3x5632, .f32⟩
  | .hbm, ⟨3, _⟩ => ⟨S8192x5632, .bf16⟩
  | .hbm, ⟨4, _⟩ => ⟨S3x5632, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S3x512, .f32⟩
  | .local _ .vmem, ⟨9, _⟩ => ⟨S3x512, .f32⟩
  | .local _ .vmem, ⟨10, _⟩ => ⟨S256x512, .bf16⟩
  | .local _ .vmem, ⟨11, _⟩ => ⟨S256x512, .bf16⟩
  | .local _ .vmem, ⟨12, _⟩ => ⟨S3x512, .f32⟩
  | .local _ .vmem, ⟨13, _⟩ => ⟨S3x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DconvRefIdeal.lean ====
abbrev S8192x5632 : Shape := ⟨2, ![8192, 5632]⟩
abbrev S3x5632 : Shape := ⟨2, ![3, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩

abbrev nBuf : Space → Nat
  | .hbm => 79
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S3x5632, .f32⟩
  | .hbm, ⟨3, _⟩ => ⟨S_, .f32⟩
  | .hbm, ⟨4, _⟩ => ⟨S2x5632, .f32⟩
  | .hbm, ⟨5, _⟩ => ⟨S8194x5632, .f32⟩
  | .hbm, ⟨6, _⟩ => ⟨S_, .f32⟩
  | .hbm, ⟨7, _⟩ => ⟨S2x5632, .f32⟩
  | .hbm, ⟨8, _⟩ => ⟨S8192x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S_, .f32⟩
  | .hbm, ⟨35, _⟩ => ⟨S5632, .f32⟩
  | .hbm, ⟨36, _⟩ => ⟨S1x5632, .f32⟩
  | .hbm, ⟨37, _⟩ => ⟨S8192x5632, .f32⟩
  | .hbm, ⟨38, _⟩ => ⟨S8192x5632, .f32⟩
  | .hbm, ⟨39, _⟩ => ⟨S_, .f32⟩
  | .hbm, ⟨40, _⟩ => ⟨S5632, .f32⟩
  | .hbm, ⟨41, _⟩ => ⟨S1x5632, .f32⟩
  | .hbm, ⟨42, _⟩ => ⟨S_, .f32⟩
  | .hbm, ⟨43, _⟩ => ⟨S3x5632, .f32⟩
  | .hbm, ⟨44, _⟩ => ⟨S_, .f32⟩
  | .hbm, ⟨45, _⟩ => ⟨S8194x5632, .f32⟩
  | .hbm, ⟨46, _⟩ => ⟨S8192x5632, .f32⟩
  | .hbm, ⟨47, _⟩ => ⟨S_, .f32⟩
  | .hbm, ⟨48, _⟩ => ⟨S5632, .f32⟩
  | .hbm, ⟨49, _⟩ => ⟨S1x5632, .f32⟩
  | .hbm, ⟨50, _⟩ => ⟨S8192x5632, .f32⟩
  | .hbm, ⟨51, _⟩ => ⟨S8192x5632, .f32⟩
  | .hbm, ⟨52, _⟩ => ⟨S_, .f32⟩
  | .hbm, ⟨53, _⟩ => ⟨S5632, .f32⟩
  | .hbm, ⟨54, _⟩ => ⟨S1x5632, .f32⟩
  | .hbm, ⟨55, _⟩ => ⟨S_, .f32⟩
  | .hbm, ⟨56, _⟩ => ⟨S3x5632, .f32⟩
  | .hbm, ⟨57, _⟩ => ⟨S3x5632, .f32⟩
  | .hbm, ⟨58, _⟩ => ⟨S_, .f32⟩
  | .hbm, ⟨59, _⟩ => ⟨S8194x5632, .f32⟩
  | .hbm, ⟨60, _⟩ => ⟨S8194x5632, .f32⟩
  | .hbm, ⟨61, _⟩ => ⟨S8192x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S8192x5632, .f32⟩
  | .hbm, ⟨66, _⟩ => ⟨S8192x5632, .f32⟩
  | .hbm, ⟨67, _⟩ => ⟨S_, .f32⟩
  | .hbm, ⟨68, _⟩ => ⟨S5632, .f32⟩
  | .hbm, ⟨69, _⟩ => ⟨S1x5632, .f32⟩
  | .hbm, ⟨70, _⟩ => ⟨S_, .f32⟩
  | .hbm, ⟨71, _⟩ => ⟨S3x5632, .f32⟩
  | .hbm, ⟨72, _⟩ => ⟨S3x5632, .f32⟩
  | .hbm, ⟨73, _⟩ => ⟨S_, .f32⟩
  | .hbm, ⟨74, _⟩ => ⟨S8194x5632, .f32⟩
  | .hbm, ⟨75, _⟩ => ⟨S8194x5632, .f32⟩
  | .hbm, ⟨76, _⟩ => ⟨S2x5632, .f32⟩
  | .hbm, ⟨77, _⟩ => ⟨S8192x5632, .f32⟩
  | .hbm, ⟨78, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_cst_12 : Ref sig .tc := ⟨.hbm, 70, rfl⟩
abbrev main_v54 : Ref sig .tc := ⟨.hbm, 71, rfl⟩
abbrev main_v55 : Ref sig .tc := ⟨.hbm, 72, rfl⟩
abbrev main_cst_13 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Dwup.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwupRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dh.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dnorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DnormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Dwout.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwoutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dyout.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyoutRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dosb.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DosbRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwin.lean ====
abbrev S8192x1024 : Shape := ⟨2, ![8192, 1024]⟩
abbrev S8192x4224 : Shape := ⟨2, ![8192, 4224]⟩
abbrev S1024x4224 : Shape := ⟨2, ![1024, 4224]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4224, .bf16⟩
  | .hbm, ⟨2, _⟩ => ⟨S1024x4224, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S8192x1024 : Shape := ⟨2, ![8192, 1024]⟩
abbrev S8192x4224 : Shape := ⟨2, ![8192, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4224, .bf16⟩
  | .hbm, ⟨2, _⟩ => ⟨S_, .f32⟩
  | .hbm, ⟨3, _⟩ => ⟨S1024x4224, .f32⟩
  | .hbm, ⟨4, _⟩ => ⟨S8192x1024, .f32⟩
  | .hbm, ⟨5, _⟩ => ⟨S8192x4224, .f32⟩
  | .hbm, ⟨6, _⟩ => ⟨S8192x4224, .f32⟩
  | .hbm, ⟨7, _⟩ => ⟨S4224x1024, .f32⟩
  | .hbm, ⟨8, _⟩ => ⟨S1024x4224, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dhin.lean ====
abbrev S8192x4224 : Shape := ⟨2, ![8192, 4224]⟩
abbrev S1024x4224 : Shape := ⟨2, ![1024, 4224]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4224, .bf16⟩
  | .hbm, ⟨1, _⟩ => ⟨S1024x4224, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhinRefIdeal.lean ====
abbrev S8192x4224 : Shape := ⟨2, ![8192, 4224]⟩
abbrev S1024x4224 : Shape := ⟨2, ![1024, 4224]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S1024x4224, .bf16⟩
  | .hbm, ⟨2, _⟩ => ⟨S_, .f32⟩
  | .hbm, ⟨3, _⟩ => ⟨S8192x1024, .f32⟩
  | .hbm, ⟨4, _⟩ => ⟨S1024x4224, .f32⟩
  | .hbm, ⟨5, _⟩ => ⟨S8192x4224, .f32⟩
  | .hbm, ⟨6, _⟩ => ⟨S8192x4224, .f32⟩
  | .hbm, ⟨7, _⟩ => ⟨S8192x1024, .f32⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwkv.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwkvRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dhkv.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhkvRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Inp.lean ====
abbrev S8192x1024 : Shape := ⟨2, ![8192, 1024]⟩
abbrev S1024x4224 : Shape := ⟨2, ![1024, 4224]⟩
abbrev S8192x4224 : Shape := ⟨2, ![8192, 4224]⟩
abbrev S1024x1024 : Shape := ⟨2, ![1024, 1024]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4224, .bf16⟩
  | .hbm, ⟨2, _⟩ => ⟨S8192x4224, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InpRefIdeal.lean ====
abbrev S8192x1024 : Shape := ⟨2, ![8192, 1024]⟩
abbrev S1024x4224 : Shape := ⟨2, ![1024, 4224]⟩
abbrev S8192x4224 : Shape := ⟨2, ![8192, 4224]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4224, .bf16⟩
  | .hbm, ⟨2, _⟩ => ⟨S8192x1024, .f32⟩
  | .hbm, ⟨3, _⟩ => ⟨S1024x4224, .f32⟩
  | .hbm, ⟨4, _⟩ => ⟨S8192x4224, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Outp.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutpRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Qp.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QpRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kvp.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvpRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Rnorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RnormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Mid.lean ====
abbrev S8192x5632 : Shape := ⟨2, ![8192, 5632]⟩
abbrev S3x5632 : Shape := ⟨2, ![3, 5632]⟩
abbrev S8192x2816 : Shape := ⟨2, ![8192, 2816]⟩
abbrev S256x256 : Shape := ⟨2, ![256, 256]⟩
abbrev S8x256 : Shape := ⟨2, ![8, 256]⟩
abbrev S3x256 : Shape := ⟨2, ![3, 256]⟩
abbrev S264x256 : Shape := ⟨2, ![264, 256]⟩
abbrev S1x256 : Shape := ⟨2, ![1, 256]⟩

abbrev nBuf : Space → Nat
  | .hbm => 3
  | .vmem => 14
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S8192x2816, .bf16⟩
  | .local _ .vmem, ⟨0, _⟩ => ⟨S256x256, .f32⟩
  | .local _ .vmem, ⟨1, _⟩ => ⟨S256x256, .f32⟩
  | .local _ .vmem, ⟨2, _⟩ => ⟨S8x256, .f32⟩
  | .local _ .vmem, ⟨3, _⟩ => ⟨S8x256, .f32⟩
  | .local _ .vmem, ⟨4, _⟩ => ⟨S256x256, .f32⟩
  | .local _ .vmem, ⟨5, _⟩ => ⟨S256x256, .f32⟩
  | .local _ .vmem, ⟨6, _⟩ => ⟨S8x256, .f32⟩
  | .local _ .vmem, ⟨7, _⟩ => ⟨S8x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S256x256, .bf16⟩
  | .local _ .vmem, ⟨13, _⟩ => ⟨S256x256, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 32], ![false, false]⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  let v0 : BitVec 1 := Scalar.cmpi .eq c11_i32 c0_i32
  let c1_i32 : BitVec 32 := 1#32
  let v1 : BitVec 32 := Scalar.select v0 c1_i32 c11_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let c0_i32_0 : BitVec 32 := 0#32
  let v3 : BitVec 1 := Scalar.cmpi .eq c11_i32 c0_i32_0
  let c1_i32_1 : BitVec 32 := 1#32
  let v4 : BitVec 32 := Scalar.select v3 c1_i32_1 c11_i32
  let v5 : BitVec 32 := Scalar.remsi arg0 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  ![v2.toNat, v12.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  let v0 : BitVec 1 := Scalar.cmpi .eq c11_i32 c0_i32
  let c1_i32 : BitVec 32 := 1#32
  let v1 : BitVec 32 := Scalar.select v0 c1_i32 c11_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c11_i32_3 : BitVec 32 := 11#32
  let v10 : BitVec 32 := Scalar.addi c11_i32_3 v9
  let c0_i32_4 : BitVec 32 := 0#32
  ![arg1.toNat, v10.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let c0_i32_0 : BitVec 32 := 0#32
  let v3 : BitVec 1 := Scalar.cmpi .eq c11_i32 c0_i32_0
  let c1_i32_1 : BitVec 32 := 1#32
  let v4 : BitVec 32 := Scalar.select v3 c1_i32_1 c11_i32
  let v5 : BitVec 32 := Scalar.remsi arg0 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c11_i32_5 : BitVec 32 := 11#32
  let v13 : BitVec 32 := Scalar.addi c11_i32_5 v12
  let c0_i32_6 : BitVec 32 := 0#32
  ![v2.toNat, v13.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  let v0 : BitVec 1 := Scalar.cmpi .eq c11_i32 c0_i32
  let c1_i32 : BitVec 32 := 1#32
  let v1 : BitVec 32 := Scalar.select v0 c1_i32 c11_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  let v0 : BitVec 1 := Scalar.cmpi .eq c11_i32 c0_i32
  let c1_i32 : BitVec 32 := 1#32
  let v1 : BitVec 32 := Scalar.select v0 c1_i32 c11_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c11_i32_3 : BitVec 32 := 11#32
  let v10 : BitVec 32 := Scalar.addi c11_i32_3 v9
  let c0_i32_4 : BitVec 32 := 0#32
  let c0_i32_5 : BitVec 32 := 0#32
  ![c0_i32_4.toNat, v10.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MidRefIdeal.lean ====
abbrev S8192x5632 : Shape := ⟨2, ![8192, 5632]⟩
abbrev S3x5632 : Shape := ⟨2, ![3, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S8192x2816 : Shape := ⟨2, ![8192, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S_, .f32⟩
  | .hbm, ⟨3, _⟩ => ⟨S2x5632, .f32⟩
  | .hbm, ⟨4, _⟩ => ⟨S8194x5632, .f32⟩
  | .hbm, ⟨5, _⟩ => ⟨S8192x5632, .f32⟩
  | .hbm, ⟨6, _⟩ => ⟨S1x5632, .f32⟩
  | .hbm, ⟨7, _⟩ => ⟨S5632, .f32⟩
  | .hbm, ⟨8, _⟩ => ⟨S1x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Attn.lean ====
abbrev S8192x1024 : Shape := ⟨2, ![8192, 1024]⟩
abbrev S256x128 : Shape := ⟨2, ![256, 128]⟩
abbrev S8192x128 : Shape := ⟨2, ![8192, 128]⟩
abbrev S128x128 : Shape := ⟨2, ![128, 128]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def k0_mult1 (arg6 : BitVec 32) : BitVec 32 :=
  let c128_i32 : BitVec 32 := 128#32
  let v16 : BitVec 32 := Scalar.muli arg6 c128_i32
  v16

def k0_off1 (arg6 : BitVec 32) : Fin 2 → Nat :=
  let c128_i32 : BitVec 32 := 128#32
  let v16 : BitVec 32 := Scalar.muli arg6 c128_i32
  let v17 : BitVec 32 := v16
  let v18 : Index := Scalar.indexCast v17
  let c0_5 : Index := 0#32
  ![v18.toNat, 0]
def k0_mult2 (arg6 : BitVec 32) : BitVec 32 :=
  let c128_i32_18 : BitVec 32 := 128#32
  let v64 : BitVec 32 := Scalar.muli arg6 c128_i32_18
  v64

def k0_chk1 (arg6 : BitVec 32) : Prop :=
  (128 ∣ (k0_mult1 arg6).toNat) ∧
  (∀ a, (k0_off1 arg6) a + S128x128.size a ≤ S8192x128.size a) ∧
  (128 ∣ (k0_mult2 arg6).toNat)
theorem k0_mult1_dvd : ∀ (arg6 : BitVec 32) (k0_hw1 : k0_chk1 arg6), 128 ∣ (k0_mult1 arg6).toNat := fun arg6 k0_hw1 => k0_hw1.1
theorem k0_off1_inb : ∀ (arg6 : BitVec 32) (k0_hw1 : k0_chk1 arg6), ∀ a, (k0_off1 arg6) a + S128x128.size a ≤ S8192x128.size a := fun arg6 k0_hw1 => k0_hw1.2.1
theorem k0_mult2_dvd : ∀ (arg6 : BitVec 32) (k0_hw1 : k0_chk1 arg6), 128 ∣ (k0_mult2 arg6).toNat := fun arg6 k0_hw1 => k0_hw1.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnIdeal.lean ====
variable {F : FTy → Type} [FloatOps F] [Named F]
def κ : String → Option EReal := fun
  | "exp_underflow" => some ⊥
  | _ => none
-- ==== AttnRefIdeal.lean ====
abbrev S8192x1024 : Shape := ⟨2, ![8192, 1024]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x8x128, .f32⟩
  | .hbm, ⟨7, _⟩ => ⟨S8x8192x128, .f32⟩
  | .hbm, ⟨8, _⟩ => ⟨S8192x8x128, .f32⟩
  | .hbm, ⟨9, _⟩ => ⟨S8x8192x128, .f32⟩
  | .hbm, ⟨10, _⟩ => ⟨S8192x8x128, .f32⟩
  | .hbm, ⟨11, _⟩ => ⟨S8x8192x128, .f32⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S1x8192, .i32⟩
  | .hbm, ⟨18, _⟩ => ⟨S8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .i1⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S_, .f32⟩
  | .hbm, ⟨42, _⟩ => ⟨S8x8192x8192, .i1⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S_, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S8x8192x8192, .i1⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S_, .f32⟩
  | .hbm, ⟨69, _⟩ => ⟨S8x8192x8192, .i1⟩
  | .hbm, ⟨70, _⟩ => ⟨S8x8192x8192, .f32⟩
  | .hbm, ⟨71, _⟩ => ⟨S8x8192x8192, .f32⟩
  | .hbm, ⟨72, _⟩ => ⟨S8x8192x128, .f32⟩
  | .hbm, ⟨73, _⟩ => ⟨S8192x8x128, .f32⟩
  | .hbm, ⟨74, _⟩ => ⟨S8192x1024, .f32⟩
  | .hbm, ⟨75, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v20 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_call2_cst : Ref sig .tc := ⟨.hbm, 45, rfl⟩
abbrev main_call2_v0 : Ref sig .tc := ⟨.hbm, 46, rfl⟩
abbrev main_v22 : Ref sig .tc := ⟨.hbm, 47, rfl⟩
abbrev main_v23 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩

abbrev nD : Nat := 1
abbrev τ : Topo := Topo.v7x

variable {F : FTy → Type} [FloatOps F]
-- ==== Qnorm.lean ====
abbrev S8192x1024 : Shape := ⟨2, ![8192, 1024]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x128, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x128, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QnormRefIdeal.lean ====
abbrev S8192x1024 : Shape := ⟨2, ![8192, 1024]⟩
abbrev S1x128 : Shape := ⟨2, ![1, 128]⟩
abbrev S8192x8x128 : Shape := ⟨3, ![8192, 8, 128]⟩
abbrev S128 : Shape := ⟨1, ![128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x128, .f32⟩
  | .hbm, ⟨2, _⟩ => ⟨S8192x8x128, .f32⟩
  | .hbm, ⟨3, _⟩ => ⟨S128, .f32⟩
  | .hbm, ⟨4, _⟩ => ⟨S8192x8x128, .f32⟩
  | .hbm, ⟨5, _⟩ => ⟨S_, .f32⟩
  | .hbm, ⟨6, _⟩ => ⟨S8192x8, .f32⟩
  | .hbm, ⟨7, _⟩ => ⟨S8192x8x1, .f32⟩
  | .hbm, ⟨8, _⟩ => ⟨S_, .f32⟩
  | .hbm, ⟨9, _⟩ => ⟨S8192x8x1, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S8192x8x1, .f32⟩
  | .hbm, ⟨15, _⟩ => ⟨S8192x8x128, .f32⟩
  | .hbm, ⟨16, _⟩ => ⟨S8192x8x128, .f32⟩
  | .hbm, ⟨17, _⟩ => ⟨S1x1x128, .f32⟩
  | .hbm, ⟨18, _⟩ => ⟨S8192x8x128, .f32⟩
  | .hbm, ⟨19, _⟩ => ⟨S8192x8x128, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kvpost.lean ====
abbrev S8192x2048 : Shape := ⟨2, ![8192, 2048]⟩
abbrev S1x128 : Shape := ⟨2, ![1, 128]⟩
abbrev S8192x1024 : Shape := ⟨2, ![8192, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x128, .f32⟩
  | .hbm, ⟨2, _⟩ => ⟨S8192x1024, .bf16⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KvpostRefIdeal.lean ====
abbrev S8192x2048 : Shape := ⟨2, ![8192, 2048]⟩
abbrev S1x128 : Shape := ⟨2, ![1, 128]⟩
abbrev S8192x1024 : Shape := ⟨2, ![8192, 1024]⟩
abbrev S8192x8x128 : Shape := ⟨3, ![8192, 8, 128]⟩
abbrev S128 : Shape := ⟨1, ![128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x128, .f32⟩
  | .hbm, ⟨2, _⟩ => ⟨S8192x1024, .f32⟩
  | .hbm, ⟨3, _⟩ => ⟨S8192x1024, .f32⟩
  | .hbm, ⟨4, _⟩ => ⟨S8192x8x128, .f32⟩
  | .hbm, ⟨5, _⟩ => ⟨S128, .f32⟩
  | .hbm, ⟨6, _⟩ => ⟨S8192x8x128, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S_, .f32⟩
  | .hbm, ⟨11, _⟩ => ⟨S8192x8x1, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S8192x8x1, .f32⟩
  | .hbm, ⟨17, _⟩ => ⟨S8192x8x128, .f32⟩
  | .hbm, ⟨18, _⟩ => ⟨S8192x8x128, .f32⟩
  | .hbm, ⟨19, _⟩ => ⟨S1x1x128, .f32⟩
  | .hbm, ⟨20, _⟩ => ⟨S8192x8x128, .f32⟩
  | .hbm, ⟨21, _⟩ => ⟨S8192x8x128, .f32⟩
  | .hbm, ⟨22, _⟩ => ⟨S8192x1024, .f32⟩
  | .hbm, ⟨23, _⟩ => ⟨S8192x1024, .bf16⟩
  | .hbm, ⟨24, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Dqnorm.lean ====
abbrev S8192x1024 : Shape := ⟨2, ![8192, 1024]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S128 : Shape := ⟨1, ![128]⟩
abbrev S512x896 : Shape := ⟨2, ![512, 896]⟩
abbrev S512x768 : Shape := ⟨2, ![512, 768]⟩
abbrev S512x640 : Shape := ⟨2, ![512, 640]⟩
abbrev S512x256 : Shape := ⟨2, ![512, 256]⟩
abbrev S512x512 : Shape := ⟨2, ![512, 512]⟩
abbrev S512x384 : Shape := ⟨2, ![512, 384]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x128, .f32⟩
  | .hbm, ⟨2, _⟩ => ⟨S8192x1024, .f32⟩
  | .hbm, ⟨3, _⟩ => ⟨S8192x1024, .bf16⟩
  | .hbm, ⟨4, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x128, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DqnormRefIdeal.lean ====
abbrev S8192x1024 : Shape := ⟨2, ![8192, 1024]⟩
abbrev S1x128 : Shape := ⟨2, ![1, 128]⟩
abbrev S8192x8x128 : Shape := ⟨3, ![8192, 8, 128]⟩
abbrev S128 : Shape := ⟨1, ![128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x128, .f32⟩
  | .hbm, ⟨2, _⟩ => ⟨S8192x1024, .f32⟩
  | .hbm, ⟨3, _⟩ => ⟨S8192x8x128, .f32⟩
  | .hbm, ⟨4, _⟩ => ⟨S128, .f32⟩
  | .hbm, ⟨5, _⟩ => ⟨S8192x8x128, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x1, .f32⟩
  | .hbm, ⟨17, _⟩ => ⟨S_, .f32⟩
  | .hbm, ⟨18, _⟩ => ⟨S8192x8x1, .f32⟩
  | .hbm, ⟨19, _⟩ => ⟨S8192x8x1, .f32⟩
  | .hbm, ⟨20, _⟩ => ⟨S8192x8x128, .f32⟩
  | .hbm, ⟨21, _⟩ => ⟨S8192x8x128, .f32⟩
  | .hbm, ⟨22, _⟩ => ⟨S1x1x128, .f32⟩
  | .hbm, ⟨23, _⟩ => ⟨S8192x8x128, .f32⟩
  | .hbm, ⟨24, _⟩ => ⟨S8192x8x128, .f32⟩
  | .hbm, ⟨25, _⟩ => ⟨S8192x1024, .f32⟩
  | .hbm, ⟨26, _⟩ => ⟨S8192x8x128, .f32⟩
  | .hbm, ⟨27, _⟩ => ⟨S8192x8x128, .f32⟩
  | .hbm, ⟨28, _⟩ => ⟨S_, .f32⟩
  | .hbm, ⟨29, _⟩ => ⟨S128, .f32⟩
  | .hbm, ⟨30, _⟩ => ⟨S1x1x128, .f32⟩
  | .hbm, ⟨31, _⟩ => ⟨S8192x8x128, .f32⟩
  | .hbm, ⟨32, _⟩ => ⟨S8192x8x128, .f32⟩
  | .hbm, ⟨33, _⟩ => ⟨S_, .f32⟩
  | .hbm, ⟨34, _⟩ => ⟨S128, .f32⟩
  | .hbm, ⟨35, _⟩ => ⟨S8192x8x128, .f32⟩
  | .hbm, ⟨36, _⟩ => ⟨S_, .f32⟩
  | .hbm, ⟨37, _⟩ => ⟨S8192x8, .f32⟩
  | .hbm, ⟨38, _⟩ => ⟨S8192x8x1, .f32⟩
  | .hbm, ⟨39, _⟩ => ⟨S8192x8x128, .f32⟩
  | .hbm, ⟨40, _⟩ => ⟨S8192x8x128, .f32⟩
  | .hbm, ⟨41, _⟩ => ⟨S8192x8x1, .f32⟩
  | .hbm, ⟨42, _⟩ => ⟨S_, .f32⟩
  | .hbm, ⟨43, _⟩ => ⟨S8192x8x1, .f32⟩
  | .hbm, ⟨44, _⟩ => ⟨S8192x8x1, .f32⟩
  | .hbm, ⟨45, _⟩ => ⟨S_, .f32⟩
  | .hbm, ⟨46, _⟩ => ⟨S8192x8, .f32⟩
  | .hbm, ⟨47, _⟩ => ⟨S8192x8x128, .f32⟩
  | .hbm, ⟨48, _⟩ => ⟨S8192x8x128, .f32⟩
  | .hbm, ⟨49, _⟩ => ⟨S8192x8x128, .f32⟩
  | .hbm, ⟨50, _⟩ => ⟨S8192x8x128, .f32⟩
  | .hbm, ⟨51, _⟩ => ⟨S8192x8x128, .f32⟩
  | .hbm, ⟨52, _⟩ => ⟨S1x128, .f32⟩
  | .hbm, ⟨53, _⟩ => ⟨S8192x1024, .f32⟩
  | .hbm, ⟨54, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Dkvpost.lean ====
abbrev S8192x2048 : Shape := ⟨2, ![8192, 2048]⟩
abbrev S1x128 : Shape := ⟨2, ![1, 128]⟩
abbrev S8192x1024 : Shape := ⟨2, ![8192, 1024]⟩
abbrev S512x1024 : Shape := ⟨2, ![512, 1024]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S128 : Shape := ⟨1, ![128]⟩
abbrev S512x896 : Shape := ⟨2, ![512, 896]⟩
abbrev S512x768 : Shape := ⟨2, ![512, 768]⟩
abbrev S512x640 : Shape := ⟨2, ![512, 640]⟩
abbrev S512x256 : Shape := ⟨2, ![512, 256]⟩
abbrev S512x512 : Shape := ⟨2, ![512, 512]⟩
abbrev S512x384 : Shape := ⟨2, ![512, 384]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x128, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x2048, .bf16⟩
  | .hbm, ⟨7, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x128, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x2048, .bf16⟩
  | .local _ .vmem, ⟨12, _⟩ => ⟨S512x2048, .bf16⟩
  | .local _ .vmem, ⟨13, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DkvpostRefIdeal.lean ====
abbrev S8192x2048 : Shape := ⟨2, ![8192, 2048]⟩
abbrev S1x128 : Shape := ⟨2, ![1, 128]⟩
abbrev S8192x1024 : Shape := ⟨2, ![8192, 1024]⟩
abbrev S8192x8x128 : Shape := ⟨3, ![8192, 8, 128]⟩
abbrev S128 : Shape := ⟨1, ![128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x128, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x8x128, .f32⟩
  | .hbm, ⟨9, _⟩ => ⟨S128, .f32⟩
  | .hbm, ⟨10, _⟩ => ⟨S8192x8x128, .f32⟩
  | .hbm, ⟨11, _⟩ => ⟨S_, .f32⟩
  | .hbm, ⟨12, _⟩ => ⟨S8192x8, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S_, .f32⟩
  | .hbm, ⟨18, _⟩ => ⟨S8192x8x1, .f32⟩
  | .hbm, ⟨19, _⟩ => ⟨S8192x8x1, .f32⟩
  | .hbm, ⟨20, _⟩ => ⟨S8192x8x1, .f32⟩
  | .hbm, ⟨21, _⟩ => ⟨S8192x8x1, .f32⟩
  | .hbm, ⟨22, _⟩ => ⟨S_, .f32⟩
  | .hbm, ⟨23, _⟩ => ⟨S8192x8x1, .f32⟩
  | .hbm, ⟨24, _⟩ => ⟨S8192x8x1, .f32⟩
  | .hbm, ⟨25, _⟩ => ⟨S8192x8x128, .f32⟩
  | .hbm, ⟨26, _⟩ => ⟨S8192x8x128, .f32⟩
  | .hbm, ⟨27, _⟩ => ⟨S1x1x128, .f32⟩
  | .hbm, ⟨28, _⟩ => ⟨S8192x8x128, .f32⟩
  | .hbm, ⟨29, _⟩ => ⟨S8192x8x128, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x8x128, .f32⟩
  | .hbm, ⟨34, _⟩ => ⟨S8192x8x128, .f32⟩
  | .hbm, ⟨35, _⟩ => ⟨S_, .f32⟩
  | .hbm, ⟨36, _⟩ => ⟨S128, .f32⟩
  | .hbm, ⟨37, _⟩ => ⟨S1x1x128, .f32⟩
  | .hbm, ⟨38, _⟩ => ⟨S8192x8x128, .f32⟩
  | .hbm, ⟨39, _⟩ => ⟨S8192x8x128, .f32⟩
  | .hbm, ⟨40, _⟩ => ⟨S_, .f32⟩
  | .hbm, ⟨41, _⟩ => ⟨S128, .f32⟩
  | .hbm, ⟨42, _⟩ => ⟨S8192x8x128, .f32⟩
  | .hbm, ⟨43, _⟩ => ⟨S_, .f32⟩
  | .hbm, ⟨44, _⟩ => ⟨S8192x8, .f32⟩
  | .hbm, ⟨45, _⟩ => ⟨S8192x8x1, .f32⟩
  | .hbm, ⟨46, _⟩ => ⟨S8192x8x128, .f32⟩
  | .hbm, ⟨47, _⟩ => ⟨S8192x8x128, .f32⟩
  | .hbm, ⟨48, _⟩ => ⟨S8192x8x1, .f32⟩
  | .hbm, ⟨49, _⟩ => ⟨S_, .f32⟩
  | .hbm, ⟨50, _⟩ => ⟨S8192x8x1, .f32⟩
  | .hbm, ⟨51, _⟩ => ⟨S8192x8x1, .f32⟩
  | .hbm, ⟨52, _⟩ => ⟨S_, .f32⟩
  | .hbm, ⟨53, _⟩ => ⟨S8192x8, .f32⟩
  | .hbm, ⟨54, _⟩ => ⟨S8192x8x128, .f32⟩
  | .hbm, ⟨55, _⟩ => ⟨S8192x8x128, .f32⟩
  | .hbm, ⟨56, _⟩ => ⟨S8192x8x128, .f32⟩
  | .hbm, ⟨57, _⟩ => ⟨S8192x8x128, .f32⟩
  | .hbm, ⟨58, _⟩ => ⟨S8192x8x128, .f32⟩
  | .hbm, ⟨59, _⟩ => ⟨S1x128, .f32⟩
  | .hbm, ⟨60, _⟩ => ⟨S8192x1024, .f32⟩
  | .hbm, ⟨61, _⟩ => ⟨S8192x2048, .f32⟩
  | .hbm, ⟨62, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Loss.lean ====
abbrev S8192x1024 : Shape := ⟨2, ![8192, 1024]⟩
abbrev S1x128 : Shape := ⟨2, ![1, 128]⟩
abbrev S512x1024 : Shape := ⟨2, ![512, 1024]⟩
abbrev S1x1024 : Shape := ⟨2, ![1, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x128, .f32⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v19 : BitVec 1 := Scalar.cmpi .eq arg0 c15_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LossRefIdeal.lean ====
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x128, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Gpost.lean ====
abbrev S8192x1024 : Shape := ⟨2, ![8192, 1024]⟩
abbrev S8192x4224 : Shape := ⟨2, ![8192, 4224]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4224, .f32⟩
  | .hbm, ⟨2, _⟩ => ⟨S1x128, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GpostRefIdeal.lean ====
abbrev S8192x1024 : Shape := ⟨2, ![8192, 1024]⟩
abbrev S8192x4224 : Shape := ⟨2, ![8192, 4224]⟩
abbrev S1x128 : Shape := ⟨2, ![1, 128]⟩
abbrev S8192x8x128 : Shape := ⟨3, ![8192, 8, 128]⟩
abbrev S128 : Shape := ⟨1, ![128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4224, .f32⟩
  | .hbm, ⟨2, _⟩ => ⟨S1x128, .f32⟩
  | .hbm, ⟨3, _⟩ => ⟨S8192x1024, .f32⟩
  | .hbm, ⟨4, _⟩ => ⟨S8192x8x128, .f32⟩
  | .hbm, ⟨5, _⟩ => ⟨S128, .f32⟩
  | .hbm, ⟨6, _⟩ => ⟨S8192x8x128, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S_, .f32⟩
  | .hbm, ⟨11, _⟩ => ⟨S8192x8x1, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S8192x8x1, .f32⟩
  | .hbm, ⟨17, _⟩ => ⟨S8192x8x128, .f32⟩
  | .hbm, ⟨18, _⟩ => ⟨S8192x8x128, .f32⟩
  | .hbm, ⟨19, _⟩ => ⟨S1x1x128, .f32⟩
  | .hbm, ⟨20, _⟩ => ⟨S8192x8x128, .f32⟩
  | .hbm, ⟨21, _⟩ => ⟨S8192x8x128, .f32⟩
  | .hbm, ⟨22, _⟩ => ⟨S8192x8x128, .f32⟩
  | .hbm, ⟨23, _⟩ => ⟨S8192x8x128, .f32⟩
  | .hbm, ⟨24, _⟩ => ⟨S8192x8x128, .f32⟩
  | .hbm, ⟨25, _⟩ => ⟨S_, .f32⟩
  | .hbm, ⟨26, _⟩ => ⟨S8192x8x128, .f32⟩
  | .hbm, ⟨27, _⟩ => ⟨S8192x8x128, .f32⟩
  | .hbm, ⟨28, _⟩ => ⟨S_, .f32⟩
  | .hbm, ⟨29, _⟩ => ⟨S8192x8x128, .f32⟩
  | .hbm, ⟨30, _⟩ => ⟨S8192x8x128, .f32⟩
  | .hbm, ⟨31, _⟩ => ⟨S8192x8x128, .f32⟩
  | .hbm, ⟨32, _⟩ => ⟨S8192x8x128, .f32⟩
  | .hbm, ⟨33, _⟩ => ⟨S8192x1024, .f32⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Adam.lean ====
abbrev S8x8704x1024 : Shape := ⟨3, ![8, 8704, 1024]⟩
abbrev S8704x1024 : Shape := ⟨2, ![8704, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x8704x1024, .f32⟩
  | .hbm, ⟨1, _⟩ => ⟨S8704x1024, .f32⟩
  | .hbm, ⟨2, _⟩ => ⟨S8704x1024, .f32⟩
  | .hbm, ⟨3, _⟩ => ⟨S8704x1024, .f32⟩
  | .hbm, ⟨4, _⟩ => ⟨S8704x1024, .f32⟩
  | .hbm, ⟨5, _⟩ => ⟨S8704x1024, .f32⟩
  | .hbm, ⟨6, _⟩ => ⟨S8704x1024, .f32⟩
  | .hbm, ⟨7, _⟩ => ⟨S8704x1024, .f32⟩
  | .local _ .vmem, ⟨0, _⟩ => ⟨S8x256x1024, .f32⟩
  | .local _ .vmem, ⟨1, _⟩ => ⟨S8x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S8x8704x1024 : Shape := ⟨3, ![8, 8704, 1024]⟩
abbrev S8704x1024 : Shape := ⟨2, ![8704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8704x1024, .f32⟩
  | .hbm, ⟨1, _⟩ => ⟨S8704x1024, .f32⟩
  | .hbm, ⟨2, _⟩ => ⟨S8704x1024, .f32⟩
  | .hbm, ⟨3, _⟩ => ⟨S8704x1024, .f32⟩
  | .hbm, ⟨4, _⟩ => ⟨S_, .f32⟩
  | .hbm, ⟨5, _⟩ => ⟨S8704x1024, .f32⟩
  | .hbm, ⟨6, _⟩ => ⟨S_, .f32⟩
  | .hbm, ⟨7, _⟩ => ⟨S8704x1024, .f32⟩
  | .hbm, ⟨8, _⟩ => ⟨S8704x1024, .f32⟩
  | .hbm, ⟨9, _⟩ => ⟨S_, .f32⟩
  | .hbm, ⟨10, _⟩ => ⟨S8704x1024, .f32⟩
  | .hbm, ⟨11, _⟩ => ⟨S8704x1024, .f32⟩
  | .hbm, ⟨12, _⟩ => ⟨S8704x1024, .f32⟩
  | .hbm, ⟨13, _⟩ => ⟨S_, .f32⟩
  | .hbm, ⟨14, _⟩ => ⟨S8704x1024, .f32⟩
  | .hbm, ⟨15, _⟩ => ⟨S8704x1024, .f32⟩
  | .hbm, ⟨16, _⟩ => ⟨S8704x1024, .f32⟩
  | .hbm, ⟨17, _⟩ => ⟨S_, .f32⟩
  | .hbm, ⟨18, _⟩ => ⟨S8704x1024, .f32⟩
  | .hbm, ⟨19, _⟩ => ⟨S8704x1024, .f32⟩
  | .hbm, ⟨20, _⟩ => ⟨S8704x1024, .f32⟩
  | .hbm, ⟨21, _⟩ => ⟨S_, .f32⟩
  | .hbm, ⟨22, _⟩ => ⟨S8704x1024, .f32⟩
  | .hbm, ⟨23, _⟩ => ⟨S8704x1024, .f32⟩
  | .hbm, ⟨24, _⟩ => ⟨S_, .f32⟩
  | .hbm, ⟨25, _⟩ => ⟨S8704x1024, .f32⟩
  | .hbm, ⟨26, _⟩ => ⟨S8704x1024, .f32⟩
  | .hbm, ⟨27, _⟩ => ⟨S8704x1024, .f32⟩
  | .hbm, ⟨28, _⟩ => ⟨S_, .f32⟩
  | .hbm, ⟨29, _⟩ => ⟨S8704x1024, .f32⟩
  | .hbm, ⟨30, _⟩ => ⟨S8704x1024, .f32⟩
  | .hbm, ⟨31, _⟩ => ⟨S8704x1024, .f32⟩
  | .hbm, ⟨32, _⟩ => ⟨S_, .f32⟩
  | .hbm, ⟨33, _⟩ => ⟨S8704x1024, .f32⟩
  | .hbm, ⟨34, _⟩ => ⟨S8704x1024, .f32⟩
  | .hbm, ⟨35, _⟩ => ⟨S8704x1024, .f32⟩
  | .hbm, ⟨36, _⟩ => ⟨S_, .f32⟩
  | .hbm, ⟨37, _⟩ => ⟨S8704x1024, .f32⟩
  | .hbm, ⟨38, _⟩ => ⟨S8704x1024, .f32⟩
  | _, _ => ⟨S8x8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Adamr.lean ====
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64x1024, .f32⟩
  | .hbm, ⟨7, _⟩ => ⟨S64x1024, .f32⟩
  | .local _ .vmem, ⟨0, _⟩ => ⟨S8x64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamrRefIdeal.lean ====
abbrev S8x64x1024 : Shape := ⟨3, ![8, 64, 1024]⟩
abbrev S64x1024 : Shape := ⟨2, ![64, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S_, .f32⟩
  | .hbm, ⟨5, _⟩ => ⟨S64x1024, .f32⟩
  | .hbm, ⟨6, _⟩ => ⟨S_, .f32⟩
  | .hbm, ⟨7, _⟩ => ⟨S64x1024, .f32⟩
  | .hbm, ⟨8, _⟩ => ⟨S64x1024, .f32⟩
  | .hbm, ⟨9, _⟩ => ⟨S_, .f32⟩
  | .hbm, ⟨10, _⟩ => ⟨S64x1024, .f32⟩
  | .hbm, ⟨11, _⟩ => ⟨S64x1024, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S64x1024, .f32⟩
  | .hbm, ⟨17, _⟩ => ⟨S_, .f32⟩
  | .hbm, ⟨18, _⟩ => ⟨S64x1024, .f32⟩
  | .hbm, ⟨19, _⟩ => ⟨S64x1024, .f32⟩
  | .hbm, ⟨20, _⟩ => ⟨S64x1024, .f32⟩
  | .hbm, ⟨21, _⟩ => ⟨S_, .f32⟩
  | .hbm, ⟨22, _⟩ => ⟨S64x1024, .f32⟩
  | .hbm, ⟨23, _⟩ => ⟨S64x1024, .f32⟩
  | .hbm, ⟨24, _⟩ => ⟨S_, .f32⟩
  | .hbm, ⟨25, _⟩ => ⟨S64x1024, .f32⟩
  | .hbm, ⟨26, _⟩ => ⟨S64x1024, .f32⟩
  | .hbm, ⟨27, _⟩ => ⟨S64x1024, .f32⟩
  | .hbm, ⟨28, _⟩ => ⟨S_, .f32⟩
  | .hbm, ⟨29, _⟩ => ⟨S64x1024, .f32⟩
  | .hbm, ⟨30, _⟩ => ⟨S64x1024, .f32⟩
  | .hbm, ⟨31, _⟩ => ⟨S64x1024, .f32⟩
  | .hbm, ⟨32, _⟩ => ⟨S_, .f32⟩
  | .hbm, ⟨33, _⟩ => ⟨S64x1024, .f32⟩
  | .hbm, ⟨34, _⟩ => ⟨S64x1024, .f32⟩
  | .hbm, ⟨35, _⟩ => ⟨S64x1024, .f32⟩
  | .hbm, ⟨36, _⟩ => ⟨S_, .f32⟩
  | .hbm, ⟨37, _⟩ => ⟨S64x1024, .f32⟩
  | .hbm, ⟨38, _⟩ => ⟨S64x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Sb.Tile.lean ====
/- The pure functions of one grid step of the attention's backward kernel: what the search for the first live key block
   returns, and what one trip over a key block makes of the carried sums and of the two accumulators. -/
module

public import proofs.«01_k».proof.Proof.Gen.KernelIdeal.Skeleton
public import Idealize.ShloMosaic.Lib.VecWindow
public import Idealize.ShloMosaic.Lib.ValueIdxCore

@[expose] public section

noncomputable section

namespace Cert.Proof.Sb

open Cert.KernelIdeal Cert.KernelIdeal.Gen
open Idealize.ShloMosaic Idealize.ShloMosaic.ValueIdx Idealize.SL.Sem

variable {F : FTy → Type} [FloatOps F] [Named F]

/-- Rows `128 * j` to `128 * j + 127` of a column block. -/
def getT {α : Type} (X : S8192x128.Idx → α) (j : ℕ) : S128x128.Idx → α :=
  fun y => X (ix2 (Fin.ofNat 8192 (j * 128 + (y 0).val)) (y 1))

/-- A column block with `w` over its rows `128 * j` to `128 * j + 127`. -/
def putT {α : Type} (X : S8192x128.Idx → α) (j : ℕ) (w : S128x128.Idx → α) : S8192x128.Idx → α :=
  VecWindow.put X ![j * 128, 0] S128x128.size w

/-- The strict causal mask of query block `ib` against key block `jw`. -/
def maskT (ib jw : BitVec 32) : IVec S256x128 1 :=
  cmpi .slt (addi (broadcast S256x128 (Scalar.muli jw 128#32)) (iota .tc S256x128 32 [1] iota_S256x128_d1_w32))
    (addi (broadcast S256x128 (Scalar.muli ib 256#32)) (iota .tc S256x128 32 [0] iota_S256x128_d0_w32))

/-- The masked log-probabilities of passing the keys of one block. -/
def failT (ib jw : BitVec 32) (q : FVec F S256x128 .bf16) (kt : FVec F S128x128 .bf16) : FVec F S256x128 .f32 :=
  select (maskT ib jw) (k0_pay20 q kt) (broadcast S256x128 (Scalar.ofBits .f32 0x00000000#32))

/-- Sums along the rows, as a column. -/
def rowsT (x : FVec F S256x128 .f32) : FVec F S256x1 .f32 :=
  shapeCast S256x1 (multiReduction .add [1] S256 x 0x00000000#32 reduces_S256x128_S256 (.inl rfl) rfl) shapeCasts_S256_S256x1

/-- The leading part of the three-way split. -/
def hiT (x : FVec F S256x128 .f32) : FVec F S256x128 .bf16 := truncf .bf16 x bitsLt_bf16_f32

/-- What the leading part leaves. -/
def restT (x : FVec F S256x128 .f32) : FVec F S256x128 .f32 := subf x (extf .f32 (hiT x) bitsLt_bf16_f32)

/-- The product of a split operand's first two parts with a zero-one matrix. -/
def scan2T (x : FVec F S256x128 .f32) (u : FVec F S128x128 .bf16) : FVec F S256x128 .f32 :=
  addf (matmul dot_S256x128_S128x128_S256x128_1_0_0_1_n_n none (hiT x) u (constant S256x128 .f32 0x00000000#32))
    (matmul dot_S256x128_S128x128_S256x128_1_0_0_1_n_n none (hiT (restT x)) u (constant S256x128 .f32 0x00000000#32))

/-- What is carried over the key blocks: the log-probability passed, the gradient mass passed, the query gradient, and
    the two accumulators. -/
structure St (F : FTy → Type) where
  passed : FVec F S256x1 .f32
  mass : FVec F S256x1 .f32
  dq : FVec F S256x128 .f32
  dk : S8192x128.Idx → Elt F .f32
  dv : S8192x128.Idx → Elt F .f32

/-- The attention weights of one block. -/
def probT (ib jw : BitVec 32) (q : FVec F S256x128 .bf16) (kt : FVec F S128x128 .bf16) (total passed : FVec F S256x1 .f32) : FVec F S256x128 .f32 :=
  k0_pay28 k0_pay3 total passed (k0_pay18 q kt) (maskT ib jw) (k0_pay20 q kt) (rowsT (failT ib jw q kt))
    (hiT (restT (restT (failT ib jw q kt)))) (scan2T (failT ib jw q kt) k0_pay3)

/-- The weights times their gradients. -/
def massT (ib jw : BitVec 32) (q g : FVec F S256x128 .bf16) (kt vt : FVec F S128x128 .bf16) (total passed : FVec F S256x1 .f32) : FVec F S256x128 .f32 :=
  mulf (probT ib jw q kt total passed)
    (matmul dot_S256x128_S128x128_S256x128_1_1_0_0_n_n none g vt (constant S256x128 .f32 0x00000000#32))

/-- The scaled gradient of the scores of one block. -/
def dscoreT (ib jw : BitVec 32) (q g : FVec F S256x128 .bf16) (kt vt : FVec F S128x128 .bf16) (total passed mass : FVec F S256x1 .f32) : FVec F S256x128 .bf16 :=
  k0_pay30 g k0_pay3 k0_pay4 total passed mass (k0_pay18 q kt) (maskT ib jw) (k0_pay20 q kt) (rowsT (failT ib jw q kt))
    (hiT (restT (restT (failT ib jw q kt)))) (scan2T (failT ib jw q kt) k0_pay3) vt

/-- One trip: the state after key block `j`. -/
def tripT (ib : BitVec 32) (q g : FVec F S256x128 .bf16) (K V : S8192x128.Idx → Elt F .bf16) (total : FVec F S256x1 .f32) (j : ℕ) (s : St F) : St F where
  passed := addf s.passed (rowsT (failT ib (BitVec.ofNat 32 j) q (getT K j)))
  mass := k0_pay11 s.mass (massT ib (BitVec.ofNat 32 j) q g (getT K j) (getT V j) total s.passed)
  dq := addf s.dq (matmul dot_S256x128_S128x128_S256x128_1_0_0_1_n_n none
    (dscoreT ib (BitVec.ofNat 32 j) q g (getT K j) (getT V j) total s.passed s.mass) (getT K j) (constant S256x128 .f32 0x00000000#32))
  dk := putT s.dk j (k0_pay8 (k0_pay32 (getT s.dk j)) (matmul dot_S256x128_S256x128_S128x128_0_0_1_1_n_n none
    (dscoreT ib (BitVec.ofNat 32 j) q g (getT K j) (getT V j) total s.passed s.mass) q (constant S128x128 .f32 0x00000000#32)))
  dv := putT s.dv j (k0_pay9 g (probT ib (BitVec.ofNat 32 j) q (getT K j) total s.passed) (getT s.dv j))

/-- The state after `n` trips from key block `lo`. -/
def runT (ib : BitVec 32) (q g : FVec F S256x128 .bf16) (K V : S8192x128.Idx → Elt F .bf16) (total : FVec F S256x1 .f32) (lo : ℕ) (s : St F) : ℕ → St F
  | 0 => s
  | n + 1 => tripT ib q g K V total (lo + n) (runT ib q g K V total lo s n)

/-- The running log-probability once key block `j` is added. -/
def seenT (i : grid0.Coords) (q : FVec F S256x128 .bf16) (K : S8192x128.Idx → Elt F .bf16) (j : ℕ) (r : FVec F S256x1 .f32) : FVec F S256x1 .f32 :=
  k0_pay16 i q (BitVec.ofNat 32 j) r (getT K j)

/-- Whether some row still carries weight below key block `j`. -/
def liveT (i : grid0.Coords) (q : FVec F S256x128 .bf16) (K : S8192x128.Idx → Elt F .bf16) (j : ℕ) (r : FVec F S256x1 .f32) : BitVec 1 :=
  Scalar.cmpf .oge (k0_pay17 i q (BitVec.ofNat 32 j) r (getT K j)) (Named.named κ "exp_underflow" 0xC2D00000#32)

/-- The search from key block `j` down: the first block the trips visit, and the total log-probability from there on. -/
def findT (i : grid0.Coords) (q : FVec F S256x128 .bf16) (K : S8192x128.Idx → Elt F .bf16) : ℕ → FVec F S256x1 .f32 → ℕ × FVec F S256x1 .f32
  | 0, r => (0, seenT i q K 0 r)
  | j + 1, r => if liveT i q K (j + 1) r = 1#1 then findT i q K j (seenT i q K (j + 1) r) else (j + 1, seenT i q K (j + 1) r)

/-- The search never goes above where it starts. -/
theorem findT_le (i : grid0.Coords) (q : FVec F S256x128 .bf16) (K : S8192x128.Idx → Elt F .bf16) (j : ℕ) (r : FVec F S256x1 .f32) :
    (findT i q K j r).1 ≤ j := by
  induction j generalizing r with
  | zero => exact le_refl _
  | succ j ih =>
    unfold findT
    split
    · exact (ih _).trans (Nat.le_succ j)
    · exact le_refl _

/-- What the grid step holds when its trips begin, on the two accumulators' contents. -/
def startT (dk dv : S8192x128.Idx → Elt F .f32) : St F := ⟨k0_pay6, k0_pay6, k0_pay7, dk, dv⟩

/-- A whole grid step, on the accumulators' contents. -/
def stepT (i : grid0.Coords) (q g : FVec F S256x128 .bf16) (K V : S8192x128.Idx → Elt F .bf16) (dk dv : S8192x128.Idx → Elt F .f32) : St F :=
  let f := findT i q K (2 * (i 1).val + 1) k0_pay5
  runT (BitVec.ofNat 32 (i 1).val) q g K V f.2 f.1 (startT dk dv) (2 * (i 1).val + 2 - f.1)

/-- A unit window at the block's rows is the block. -/
theorem window_getT {α : Type} (X : S8192x128.Idx → α) (j : ℕ) (hj : j < 64) (inb : ∀ a, (![j * 128, 0] : Fin 2 → ℕ) a + S128x128.size a ≤ S8192x128.size a) :
    (VecWindow.window X ![j * 128, 0] S128x128.size inb : S128x128.Idx → α) = getT X j := by
  funext y
  refine congrArg X (funext fun a => ?_)
  have h0 : (y 0).val < 128 := (y 0).isLt
  apply Fin.ext
  fin_cases a
  · show j * 128 + 1 * (y 0).val = (j * 128 + (y 0).val) % 8192
    rw [Nat.mod_eq_of_lt (by omega)]; omega
  · show 0 + 1 * (y 1).val = (y 1).val
    omega

end Cert.Proof.Sb

end
-- ==== Proof.Sb.While.lean ====
/- The search loop of the attention's backward kernel: from the diagonal's key block down, the running log-probabilities
   are added block by block until no row carries weight any more. Its label is answered through a specification that
   holds the keys' buffer and returns the first block and the total; the loop's body meets it by induction on the block. -/
module

public import proofs.«01_k».proof.Proof.Sb.Tile
public import Idealize.ShloMosaic.Lib.Tactic
public import Idealize.ShloMosaic.Lib.Pipeline.Frame
public import Idealize.ShloMosaic.Lib.Pipeline.TableIdle

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The measure the loop's calls go down in. -/
abbrev 𝒱₀ : Variants := Variants.nat

/-- A buffer held at the values `X`. -/
abbrev held {s : Shape} {e : EltTy} (c : Dev nD) (M : Memref sig .tc .vmem s e) (X : s.Idx → Elt F e) : sProp 𝕄 :=
  iprop(M.view.loc (c : Thread nD τ) ↦[M.view.set]{fullShare} M.view.rep X)

/-- The search's specification: holding the keys, it returns the word `w` and the total `tot`. -/
def spec (c : Dev nD) (M : Memref sig .tc .vmem S8192x128 .bf16) (K : S8192x128.Idx → Elt F .bf16) (w : BitVec 32) (tot : FVec F S256x1 .f32) :
    sWPT 𝕄 (BitVec 32 × FVec F S256x1 .f32 × BitVec 1) := do
  sWPT.consume (held c M K)
  let r ← sWPT.arbitrary
  sWPT.assume (r.1 = w ∧ r.2.1 = tot)
  sWPT.produce (held c M K)
  pure r

/-- The specification at a continuation. -/
theorem spec_apply (c : Dev nD) (M : Memref sig .tc .vmem S8192x128 .bf16) (K : S8192x128.Idx → Elt F .bf16) (w : BitVec 32) (tot : FVec F S256x1 .f32)
    (Q : BitVec 32 × FVec F S256x1 .f32 × BitVec 1 → sProp 𝕄) :
    spec c M K w tot Q = iprop(held c M K ∗ ∀ r : BitVec 32 × FVec F S256x1 .f32 × BitVec 1, ⌜r.1 = w ∧ r.2.1 = tot⌝ -∗ (held c M K -∗ Q r)) := rfl

/-- The block's rows as the program computes them. -/
theorem off1_eq (j : ℕ) (hj : j < 64) : k0_off1 (BitVec.ofNat 32 j) = ![j * 128, 0] := by
  unfold k0_off1
  have : (Scalar.indexCast (Scalar.muli (BitVec.ofNat 32 j) 128#32) : Index).toNat = j * 128 := by
    show (BitVec.ofNat 32 j * 128#32).toNat = j * 128
    simp only [BitVec.toNat_mul, BitVec.toNat_ofNat]; omega
  show ![(Scalar.indexCast (Scalar.muli (BitVec.ofNat 32 j) 128#32) : Index).toNat, 0] = _
  rw [this]

/-- A block's rows lie inside the column block. -/
theorem inbT (j : ℕ) (hj : j < 64) : ∀ a, (![j * 128, 0] : Fin 2 → ℕ) a + S128x128.size a ≤ S8192x128.size a := by
  intro a; fin_cases a
  · show j * 128 + 128 ≤ 8192; omega
  · show 0 + 128 ≤ 128; omega

/-- The search's check holds at every block. -/
theorem chk1 (j : ℕ) (hj : j < 64) : k0_chk1 (BitVec.ofNat 32 j) := by
  refine ⟨?_, by rw [off1_eq j hj]; exact inbT j hj⟩
  show 128 ∣ (BitVec.ofNat 32 j * 128#32).toNat
  have : (BitVec.ofNat 32 j * 128#32).toNat = j * 128 := by
    simp only [BitVec.toNat_mul, BitVec.toNat_ofNat]; omega
  rw [this]; exact ⟨j, by omega⟩

/-- With its flag down the loop returns what it was called on. -/
theorem spec_done (c : Dev nD) (i : grid0.Coords) (M : Memref sig .tc .vmem S8192x128 .bf16) (hM : M.IsWhole) (q : FVec F S256x128 .bf16)
    (K : S8192x128.Idx → Elt F .bf16) (E : Set ℕ) (w : BitVec 32) (r : FVec F S256x1 .f32) (b : BitVec 1) (hb : ¬ b = 1#1)
    (Q : BitVec 32 × FVec F S256x1 .f32 × BitVec 1 → sProp 𝕄) :
    spec c M K w r Q ⊢ wp frame (wpE (defs₀ (F := F)) 𝒱₀ (c : Thread nD τ) (some 0)) E (defs₀ (F := F) .tc 1 ⟨i, M, hM, q, w, r, b⟩) Q := by
  rw [spec_apply]
  show _ ⊢ wp frame (wpE (defs₀ (F := F)) 𝒱₀ (c : Thread nD τ) (some 0)) E (cc0_while1 i M hM q w r b) Q
  simp only [cc0_while1_eq_skeleton]; unfold cc0_while1_skel
  simp only [hb, ↓reduceIte, Prog.pure_eq_ret]
  iintro ⟨H, Hk⟩
  rw [wp_ret]; imodintro
  iapply Hk
  · ipureintro; exact ⟨rfl, rfl⟩
  · iexact H

/-- The search's guard at block `j`: the block is not the first and some row is live. -/
theorem guard_eq (j : ℕ) (hj : j < 64) (b : BitVec 1) :
    Scalar.andi (Scalar.cmpi .sgt (BitVec.ofNat 32 j) 0#32) b = 1#1 ↔ 0 < j ∧ b = 1#1 := by
  have hs : Scalar.cmpi .sgt (BitVec.ofNat 32 j) 0#32 = if 0 < j then 1#1 else 0#1 := by
    by_cases h : 0 < j
    · rw [if_pos h]
      interval_cases j <;> decide
    · rw [if_neg h]; have : j = 0 := by omega
      subst this; decide
  rw [hs]
  by_cases h : 0 < j
  · simp only [h, ↓reduceIte, true_and]
    have : ∀ b : BitVec 1, Scalar.andi 1#1 b = 1#1 ↔ b = 1#1 := by decide
    exact this b
  · simp only [h, ↓reduceIte, false_and, iff_false]
    have : ∀ b : BitVec 1, ¬ Scalar.andi 0#1 b = 1#1 := by decide
    exact this b

/-- The specification from block `j` is met by the loop's body entered at `j + 1`. -/
theorem spec_le (c : Dev nD) (i : grid0.Coords) (M : Memref sig .tc .vmem S8192x128 .bf16) (hM : M.IsWhole) (q : FVec F S256x128 .bf16)
    (K : S8192x128.Idx → Elt F .bf16) (E : Set ℕ) :
    ∀ j, j < 64 → ∀ (r : FVec F S256x1 .f32) (Q : BitVec 32 × FVec F S256x1 .f32 × BitVec 1 → sProp 𝕄),
      spec c M K (BitVec.ofNat 32 (findT i q K j r).1 - 1#32) (findT i q K j r).2 Q
        ⊢ wp frame (wpE (defs₀ (F := F)) 𝒱₀ (c : Thread nD τ) (some (j + 1))) E (defs₀ (F := F) .tc 1 ⟨i, M, hM, q, BitVec.ofNat 32 j, r, 1#1⟩) Q := by
  intro j
  induction j with
  | zero =>
    intro hj r Q
    rw [spec_apply]
    show _ ⊢ wp frame (wpE (defs₀ (F := F)) 𝒱₀ (c : Thread nD τ) (some 1)) E (cc0_while1 i M hM q (BitVec.ofNat 32 0) r 1#1) Q
    simp only [cc0_while1_eq_skeleton]; unfold cc0_while1_skel
    simp only [↓reduceIte, Prog.lift, Prog.bind_op, Prog.bind_ret, Prog.pure_eq_ret]
    iintro ⟨H, Hk⟩
    iapply (wp_assume 𝒱₀ (c : Thread nD τ) (some 1) E (chk1 0 hj))
    iapply (wp_load 𝒱₀ (c : Thread nD τ) (some 1) E (m := M) (View.setOn_subset_set _ _)) $$ H; iintro H
    rw [View.readAt_rep_unit M.view K _ (off1_eq 0 hj) (inbT 0 hj), window_getT K 0 hj]
    have hg : ¬ Scalar.andi (Scalar.cmpi .sgt (BitVec.ofNat 32 0) 0#32) (liveT i q K 0 r) = 1#1 := fun h => absurd ((guard_eq 0 hj _).1 h).1 (lt_irrefl 0)
    unfold liveT at hg
    iapply (wp_call_spec 𝒱₀ (c : Thread nD τ) (some 1) E (spec c M K (BitVec.ofNat 32 0 - 1#32) (seenT i q K 0 r)) 0
      (fun u hu => by cases hu; exact Nat.lt_succ_self 0) (by
        intro Q'
        exact spec_done c i M hM q K E _ _ _ hg Q'))
    rw [spec_apply]
    isplitl [H]; · iexact H
    iintro %s %hs H
    rw [wp_ret]; imodintro
    iapply Hk
    · ipureintro; exact hs
    · iexact H
  | succ j ih =>
    intro hj r Q
    rw [spec_apply]
    show _ ⊢ wp frame (wpE (defs₀ (F := F)) 𝒱₀ (c : Thread nD τ) (some (j + 2))) E (cc0_while1 i M hM q (BitVec.ofNat 32 (j + 1)) r 1#1) Q
    simp only [cc0_while1_eq_skeleton]; unfold cc0_while1_skel
    simp only [↓reduceIte, Prog.lift, Prog.bind_op, Prog.bind_ret, Prog.pure_eq_ret]
    iintro ⟨H, Hk⟩
    iapply (wp_assume 𝒱₀ (c : Thread nD τ) (some (j + 2)) E (chk1 (j + 1) hj))
    iapply (wp_load 𝒱₀ (c : Thread nD τ) (some (j + 2)) E (m := M) (View.setOn_subset_set _ _)) $$ H; iintro H
    rw [View.readAt_rep_unit M.view K _ (off1_eq (j + 1) hj) (inbT (j + 1) hj), window_getT K (j + 1) hj]
    have hsub : Scalar.subi (BitVec.ofNat 32 (j + 1)) 1#32 = BitVec.ofNat 32 j := by
      show BitVec.ofNat 32 (j + 1) - 1#32 = BitVec.ofNat 32 j
      apply BitVec.eq_of_toNat_eq
      simp only [BitVec.toNat_sub, BitVec.toNat_ofNat]; omega
    by_cases hl : liveT i q K (j + 1) r = 1#1
    · have hg : Scalar.andi (Scalar.cmpi .sgt (BitVec.ofNat 32 (j + 1)) 0#32) (liveT i q K (j + 1) r) = 1#1 := (guard_eq (j + 1) hj _).2 ⟨by omega, hl⟩
      have hf : findT i q K (j + 1) r = findT i q K j (seenT i q K (j + 1) r) := by rw [findT, if_pos hl]
      rw [hf]
      unfold liveT at hg
      rw [hg, hsub]
      iapply (wp_call_spec 𝒱₀ (c : Thread nD τ) (some (j + 2)) E (spec c M K (BitVec.ofNat 32 (findT i q K j (seenT i q K (j + 1) r)).1 - 1#32)
        (findT i q K j (seenT i q K (j + 1) r)).2) (j + 1)
        (fun u hu => by cases hu; exact Nat.lt_succ_self (j + 1)) (ih (by omega) (seenT i q K (j + 1) r)))
      rw [spec_apply]
      isplitl [H]; · iexact H
      iintro %s %hs H
      rw [wp_ret]; imodintro
      iapply Hk
      · ipureintro; exact hs
      · iexact H
    · have hg : ¬ Scalar.andi (Scalar.cmpi .sgt (BitVec.ofNat 32 (j + 1)) 0#32) (liveT i q K (j + 1) r) = 1#1 := fun h => hl ((guard_eq (j + 1) hj _).1 h).2
      have hf : findT i q K (j + 1) r = (j + 1, seenT i q K (j + 1) r) := by rw [findT, if_neg hl]
      rw [hf]
      unfold liveT at hg
      iapply (wp_call_spec 𝒱₀ (c : Thread nD τ) (some (j + 2)) E (spec c M K (BitVec.ofNat 32 (j + 1) - 1#32) (seenT i q K (j + 1) r)) 0
        (fun u hu => by cases hu; exact Nat.succ_pos _) (by
          intro Q'
          exact spec_done c i M hM q K E _ _ _ hg Q'))
      rw [spec_apply]
      isplitl [H]; · iexact H
      iintro %s %hs H
      rw [wp_ret]; imodintro
      iapply Hk
      · ipureintro; exact hs
      · iexact H

end Cert.Proof.Sb

end
-- ==== Proof.Sb.Trip.lean ====
/- One trip of the attention's backward kernel over a key block, and all its trips: holding the keys, the values and the
   two accumulators, a trip takes the carried state to the next one. -/
module

public import proofs.«01_k».proof.Proof.Sb.While
public import Idealize.ShloMosaic.Lib.LoopRemainder

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The word the search returns when the trips start at block `lo`. -/
abbrev endW (lo : ℕ) : BitVec 32 := BitVec.ofNat 32 lo - 1#32

/-- The word one above it is the block. -/
theorem endW_succ (lo : ℕ) : Scalar.addi (endW lo) 1#32 = BitVec.ofNat 32 lo := by
  show BitVec.ofNat 32 lo - 1#32 + 1#32 = BitVec.ofNat 32 lo
  exact BitVec.sub_add_cancel _ _

/-- The induction variable of trip `k` is block `lo + k`. -/
theorem iv_eq (lo k : ℕ) : Scf.iv (Scalar.addi (endW lo) 1#32) 1#32 k = BitVec.ofNat 32 (lo + k) := by
  rw [endW_succ, Scf.iv, BitVec.mul_one, BitVec.ofNat_add]

/-- The loop's upper bound is the block past the diagonal. -/
theorem ub_eq (i : grid0.Coords) (lo : ℕ) : (k0_t1_loop i (endW lo)).ub = BitVec.ofNat 32 (2 * (i 1).val + 2) := by
  show Scalar.addi (Scalar.addi (endW lo) 1#32) (Scalar.muli (Scalar.divsi (Scalar.subi (Scalar.muli (Scalar.addi (BitVec.ofNat 32 (i 1).val) 1#32) 2#32) (Scalar.addi (endW lo) 1#32)) 1#32) 1#32) = _
  rw [Scalar.muli_divsi_one, endW_succ]
  show BitVec.ofNat 32 lo + ((BitVec.ofNat 32 (i 1).val + 1#32) * 2#32 - BitVec.ofNat 32 lo) = _
  rw [BitVec.add_comm, BitVec.sub_add_cancel]
  apply BitVec.eq_of_toNat_eq
  simp only [BitVec.toNat_mul, BitVec.toNat_add, BitVec.toNat_ofNat]
  have : (i 1).val < 32 := (i 1).isLt
  omega

/-- A small word's value as an integer. -/
theorem toInt_small (n : ℕ) (h : n < 1000) : (BitVec.ofNat 32 n).toInt = n := by
  rw [BitVec.toInt_eq_toNat_cond, BitVec.toNat_ofNat, Nat.mod_eq_of_lt (by omega), if_pos (by omega)]

/-- The trips run from block `lo` to the diagonal. -/
theorem trips_eq (i : grid0.Coords) (lo : ℕ) (h : lo ≤ 2 * (i 1).val + 1) : (k0_t1_loop i (endW lo)).trips = 2 * (i 1).val + 2 - lo := by
  have : (i 1).val < 32 := (i 1).isLt
  show Scf.trips (Scalar.addi (endW lo) 1#32) (k0_t1_loop i (endW lo)).ub 1#32 = _
  rw [ub_eq, endW_succ, Scf.trips, toInt_small _ (by omega), toInt_small _ (by omega), show (1#32 : BitVec 32).toInt = 1 from by decide]
  omega

/-- The loop's operands are in order. -/
theorem loop_ok (i : grid0.Coords) (lo : ℕ) (h : lo ≤ 2 * (i 1).val + 1) : (k0_t1_loop i (endW lo)).OK := by
  have hi : (i 1).val < 32 := (i 1).isLt
  have ht := trips_eq i lo h
  refine ⟨show 0 < (1#32 : BitVec 32).toInt by decide, ?_⟩
  show (Scalar.addi (endW lo) 1#32).toInt + ((k0_t1_loop i (endW lo)).trips : ℤ) * (1#32 : BitVec 32).toInt < _
  rw [ht, endW_succ, toInt_small _ (by omega), show (1#32 : BitVec 32).toInt = 1 from by decide]
  norm_num
  omega

/-- The rows of trip `k`'s block as the program computes them. -/
theorem off2_eq (i : grid0.Coords) (lo : ℕ) (k : Fin (k0_t1_loop i (endW lo)).trips) (hj : lo + k.val < 64) :
    k0_off2 i (endW lo) k = ![(lo + k.val) * 128, 0] := by
  have : (Scalar.indexCast (Scalar.muli (Scf.iv (Scalar.addi (endW lo) 1#32) 1#32 k.val) 128#32) : Index).toNat = (lo + k.val) * 128 := by
    rw [iv_eq]
    show (BitVec.ofNat 32 (lo + k.val) * 128#32).toNat = _
    simp only [BitVec.toNat_mul, BitVec.toNat_ofNat]; omega
  show ![(Scalar.indexCast (Scalar.muli (Scf.iv (Scalar.addi (endW lo) 1#32) 1#32 k.val) 128#32) : Index).toNat, 0] = _
  rw [this]

/-- Every trip's block is one of the 64. -/
theorem lt_trip (i : grid0.Coords) (lo : ℕ) (h : lo ≤ 2 * (i 1).val + 1) (k : Fin (k0_t1_loop i (endW lo)).trips) : lo + k.val < 64 := by
  have hi : (i 1).val < 32 := (i 1).isLt
  have ht := trips_eq i lo h
  have := k.isLt
  omega

/-- The trips' check holds whatever block the search stops at. -/
theorem chk2 (i : grid0.Coords) (lo : ℕ) (h : lo ≤ 2 * (i 1).val + 1) : k0_chk2 i (endW lo) := by
  have hoff : ∀ k : Fin (k0_t1_loop i (endW lo)).trips, ∀ a, (k0_off2 i (endW lo) k) a + S128x128.size a ≤ S8192x128.size a := fun k => by
    rw [off2_eq i lo k (lt_trip i lo h k)]; exact inbT _ (lt_trip i lo h k)
  have hm : ∀ k : Fin (k0_t1_loop i (endW lo)).trips, 128 ∣ (Scalar.muli (Scf.iv (Scalar.addi (endW lo) 1#32) 1#32 k.val) 128#32).toNat := fun k => by
    have hl := lt_trip i lo h k
    rw [iv_eq]
    show 128 ∣ (BitVec.ofNat 32 (lo + k.val) * 128#32).toNat
    have : (BitVec.ofNat 32 (lo + k.val) * 128#32).toNat = (lo + k.val) * 128 := by
      simp only [BitVec.toNat_mul, BitVec.toNat_ofNat]; omega
    rw [this]; exact ⟨_, Nat.mul_comm _ _⟩
  exact ⟨loop_ok i lo h, hm, hoff, hm, Scf.rem_ok _ _, fun k => (Scf.rem_no_trip _ _ k).elim, fun k => (Scf.rem_no_trip _ _ k).elim, fun k => (Scf.rem_no_trip _ _ k).elim⟩

section Values

variable (i : grid0.Coords) (q g : FVec F S256x128 .bf16) (lo : ℕ) (k : Fin (k0_t1_loop i (endW lo)).trips)
  (kt vt : FVec F S128x128 .bf16) (tot passed mass : FVec F S256x1 .f32)

/-- The printed mask of trip `k` is its block's. -/
theorem mask_eq (ib : BitVec 32) : k0_pay19 i ib (endW lo) (Scalar.addi (endW lo) 1#32) 1#32 k = maskT ib (BitVec.ofNat 32 (lo + k.val)) := by
  show maskT ib (Scf.iv (Scalar.addi (endW lo) 1#32) 1#32 k.val) = _
  rw [iv_eq]

/-- The printed masked log-probabilities of trip `k`. -/
theorem fail_eq (ib : BitVec 32) : k0_pay21 i ib q (endW lo) (Scalar.addi (endW lo) 1#32) 1#32 k kt = failT ib (BitVec.ofNat 32 (lo + k.val)) q kt := by
  unfold k0_pay21; rw [mask_eq]; rfl

/-- Their printed sums. -/
theorem block_eq (ib : BitVec 32) : k0_pay22 i ib q (endW lo) (Scalar.addi (endW lo) 1#32) 1#32 k kt = rowsT (failT ib (BitVec.ofNat 32 (lo + k.val)) q kt) := by
  unfold k0_pay22; rw [fail_eq]; rfl

/-- The printed leading part. -/
theorem hi_eq (ib : BitVec 32) : k0_pay23 i ib q (endW lo) (Scalar.addi (endW lo) 1#32) 1#32 k kt = hiT (failT ib (BitVec.ofNat 32 (lo + k.val)) q kt) := by
  unfold k0_pay23; rw [fail_eq]; rfl

/-- What it leaves, as printed. -/
theorem rest_eq (ib : BitVec 32) : k0_pay24 i ib q (endW lo) (Scalar.addi (endW lo) 1#32) 1#32 k kt = restT (failT ib (BitVec.ofNat 32 (lo + k.val)) q kt) := by
  unfold k0_pay24; rw [fail_eq, hi_eq]; rfl

/-- The printed second part. -/
theorem mid_eq (ib : BitVec 32) : k0_pay25 i ib q (endW lo) (Scalar.addi (endW lo) 1#32) 1#32 k kt = hiT (restT (failT ib (BitVec.ofNat 32 (lo + k.val)) q kt)) := by
  unfold k0_pay25; rw [rest_eq]; rfl

/-- The printed third part. -/
theorem low_eq (ib : BitVec 32) : k0_pay26 i ib q (endW lo) (Scalar.addi (endW lo) 1#32) 1#32 k kt = hiT (restT (restT (failT ib (BitVec.ofNat 32 (lo + k.val)) q kt))) := by
  unfold k0_pay26; rw [rest_eq, mid_eq]; rfl

/-- The printed product of the first two parts. -/
theorem scan2_eq (ib : BitVec 32) : k0_pay27 i ib q k0_pay3 (endW lo) (Scalar.addi (endW lo) 1#32) 1#32 k kt = scan2T (failT ib (BitVec.ofNat 32 (lo + k.val)) q kt) k0_pay3 := by
  unfold k0_pay27; rw [hi_eq, mid_eq]; rfl

end Values

/-- What a store through a memref touches is the memref's. -/
theorem store_sub {s : Shape} {e : EltTy} (M : Memref sig .tc .vmem s e) (r : Rect s) (Mk : Finset r.shape.Idx) : (M.access r).setOn Mk ⊆ M.view.set :=
  (View.setOn_subset_set _ _).trans (by
    have h : (M.access r).set = M.view.setOn r.set := View.set_slice _ _
    rw [h]; exact View.setOn_subset_set _ _)

/-- A store at the head of a program, over a window of a buffer held by values. -/
theorem wp_put {α : Type} {s : Shape} {e : EltTy} (c : Dev nD) (bd : Option 𝒱₀.V) (E : Set ℕ) (M : Memref sig .tc .vmem s e) (X : s.Idx → Elt F e) (off off' size : Fin s.rank → ℕ)
    (inb : ∀ a, off a + size a ≤ s.size a) (h : off = off') (w : (Rect.unit off size inb).shape.Idx → Elt F e)
    (hx : (M.access (Rect.unit off size inb)).Stores Finset.univ)
    (hm : (Finset.univ : Finset (Rect.unit off size inb).shape.Idx) = Finset.univ ∨ ∀ a, (Rect.unit off size inb).stride a = 1)
    (kk : PUnit → Prog (TpuEff nD τ sig (Elt F) (Λ₀ F) .tc) α) (Q : α → sProp 𝕄) :
    held c M X ⊢ iprop((held c M (VecWindow.put X off' size w) -∗ wp frame (wpE (defs₀ (F := F)) 𝒱₀ (c : Thread nD τ) bd) E (kk ⟨⟩) Q)
      -∗ wp frame (wpE (defs₀ (F := F)) 𝒱₀ (c : Thread nD τ) bd) E (.op (.store M (Rect.unit off size inb) w Finset.univ hx hm) kk) Q) := by
  have e : (M.access (Rect.unit off size inb)).write (Elt F) (M.view.rep X) w Finset.univ
      = M.view.writes (Elt F) (M.view.rep X) [⟨Rect.unit off size inb, w⟩] := (View.writes_singleton M.view (M.view.rep X) _ w).symm
  have hp : (M.view.loc (c : Thread nD τ) ↦[M.view.set]{fullShare} ((M.access (Rect.unit off size inb)).write (Elt F) (M.view.rep X) w Finset.univ) : sProp 𝕄)
      ⊢ held c M (VecWindow.put X off' size w) := by
    rw [e]
    exact pointsTo_rep_of_read (c : Thread nD τ) M _ fullShare _ (View.read_writes_rep_unit M.view X inb w h)
  iintro H Hk
  iapply (wp_store 𝒱₀ (c : Thread nD τ) bd E (m := M) (r := Rect.unit off size inb) (Mk := Finset.univ) (store_sub M _ _)) $$ H
  iintro H
  iapply Hk
  iapply hp
  iexact H

/-- One trip. -/
theorem trip (c : Dev nD) (bd : Option 𝒱₀.V) (E : Set ℕ) (i : grid0.Coords)
    (M2 : Memref sig .tc .vmem S256x128 .bf16) (h2 : M2.IsWhole) (M3 : Memref sig .tc .vmem S256x128 .bf16) (h3 : M3.IsWhole)
    (M4 : Memref sig .tc .vmem S8192x128 .bf16) (h4 : M4.IsWhole) (M5 : Memref sig .tc .vmem S8192x128 .bf16) (h5 : M5.IsWhole)
    (M6 : Memref sig .tc .vmem S256x128 .f32) (h6 : M6.IsWhole) (M7 : Memref sig .tc .vmem S8192x128 .f32) (h7 : M7.IsWhole)
    (M8 : Memref sig .tc .vmem S8192x128 .f32) (h8 : M8.IsWhole)
    (q g : FVec F S256x128 .bf16) (K V : S8192x128.Idx → Elt F .bf16) (tot : FVec F S256x1 .f32) (lo : ℕ) (hlo : lo ≤ 2 * (i 1).val + 1)
    (hw : k0_chk2 i (endW lo)) (k : Fin (k0_t1_loop i (endW lo)).trips) (s : St F) :
    iprop(held c M4 K ∗ held c M5 V ∗ held c M7 s.dk ∗ held c M8 s.dv)
      ⊢ wp frame (wpE (defs₀ (F := F)) 𝒱₀ (c : Thread nD τ) bd) E
          (k0_t1_body i M2 h2 M3 h3 M4 h4 M5 h5 M6 h6 M7 h7 M8 h8 (BitVec.ofNat 32 (i 1).val) q g (endW lo) tot hw (Scalar.addi (endW lo) 1#32) k (s.passed, s.mass, s.dq))
          (fun acc => iprop(⌜acc = ((tripT (BitVec.ofNat 32 (i 1).val) q g K V tot (lo + k.val) s).passed, (tripT (BitVec.ofNat 32 (i 1).val) q g K V tot (lo + k.val) s).mass, (tripT (BitVec.ofNat 32 (i 1).val) q g K V tot (lo + k.val) s).dq)⌝
            ∗ held c M4 K ∗ held c M5 V ∗ held c M7 (tripT (BitVec.ofNat 32 (i 1).val) q g K V tot (lo + k.val) s).dk
            ∗ held c M8 (tripT (BitVec.ofNat 32 (i 1).val) q g K V tot (lo + k.val) s).dv)) := by
  have hj := lt_trip i lo hlo k
  have ho := off2_eq i lo k hj
  unfold k0_t1_body
  simp only [k0_part1_eq_skeleton, k0_part2_eq_skeleton]
  unfold k0_part1_skel k0_part2_skel
  simp only [Prog.lift, Prog.bind_op, Prog.bind_ret, Prog.pure_eq_ret]
  iintro ⟨HK, HV, Hk, Hv⟩
  iapply (wp_load 𝒱₀ (c : Thread nD τ) bd E (m := M4) (View.setOn_subset_set _ _)) $$ HK; iintro HK
  rw [View.readAt_rep_unit M4.view K _ ho (inbT _ hj), window_getT K _ hj]
  rw [mask_eq, block_eq, low_eq, scan2_eq]
  iapply (wp_load 𝒱₀ (c : Thread nD τ) bd E (m := M5) (View.setOn_subset_set _ _)) $$ HV; iintro HV
  rw [View.readAt_rep_unit M5.view V _ ho (inbT _ hj), window_getT V _ hj]
  iapply (wp_load 𝒱₀ (c : Thread nD τ) bd E (m := M7) (View.setOn_subset_set _ _)) $$ Hk; iintro Hk
  rw [View.readAt_rep_unit M7.view s.dk _ ho (inbT _ hj), window_getT s.dk _ hj]
  iapply (wp_load 𝒱₀ (c : Thread nD τ) bd E (m := M7) (View.setOn_subset_set _ _)) $$ Hk; iintro Hk
  iapply (wp_put c bd E M7 s.dk _ _ _ _ ho) $$ Hk; iintro Hk
  iapply (wp_load 𝒱₀ (c : Thread nD τ) bd E (m := M8) (View.setOn_subset_set _ _)) $$ Hv; iintro Hv
  rw [View.readAt_rep_unit M8.view s.dv _ ho (inbT _ hj), window_getT s.dv _ hj]
  iapply (wp_load 𝒱₀ (c : Thread nD τ) bd E (m := M8) (View.setOn_subset_set _ _)) $$ Hv; iintro Hv
  iapply (wp_put c bd E M8 s.dv _ _ _ _ ho) $$ Hv; iintro Hv
  rw [wp_ret]; imodintro
  isplitr
  · ipureintro; rfl
  isplitl [HK]; · iexact HK
  isplitl [HV]; · iexact HV
  isplitl [Hk]
  · iexact Hk
  · iexact Hv

end Cert.Proof.Sb

end
-- ==== Proof.Sb.Body.lean ====
/- One grid step of the attention's backward kernel: all trips of the loop over the key blocks, and the kernel's body
   around it, over the buffers it is called on. -/
module

public import proofs.«01_k».proof.Proof.Sb.Trip

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A store over the whole of a buffer. -/
theorem wp_putAll {α : Type} {s : Shape} {e : EltTy} (c : Dev nD) (bd : Option 𝒱₀.V) (E : Set ℕ) (M : Memref sig .tc .vmem s e) (X : s.Idx → Elt F e) (off : Fin s.rank → ℕ)
    (inb : ∀ a, off a + s.size a ≤ s.size a) (w : (Rect.unit off s.size inb).shape.Idx → Elt F e)
    (hx : (M.access (Rect.unit off s.size inb)).Stores Finset.univ)
    (hm : (Finset.univ : Finset (Rect.unit off s.size inb).shape.Idx) = Finset.univ ∨ ∀ a, (Rect.unit off s.size inb).stride a = 1)
    (kk : PUnit → Prog (TpuEff nD τ sig (Elt F) (Λ₀ F) .tc) α) (Q : α → sProp 𝕄) :
    held c M X ⊢ iprop((held c M w -∗ wp frame (wpE (defs₀ (F := F)) 𝒱₀ (c : Thread nD τ) bd) E (kk ⟨⟩) Q)
      -∗ wp frame (wpE (defs₀ (F := F)) 𝒱₀ (c : Thread nD τ) bd) E (.op (.store M (Rect.unit off s.size inb) w Finset.univ hx hm) kk) Q) := by
  have hz : VecWindow.put X off s.size w = w := by
    rw [← View.read_writes_rep_unit M.view X inb w rfl, View.read_writes_full]
  have := wp_put c bd E M X off off s.size inb rfl w hx hm kk Q
  rw [hz] at this
  exact this

/-- A load of the whole of a buffer. -/
theorem wp_getAll {α : Type} {s : Shape} {e : EltTy} (c : Dev nD) (bd : Option 𝒱₀.V) (E : Set ℕ) (M : Memref sig .tc .vmem s e) (X : s.Idx → Elt F e) (off : Fin s.rank → ℕ)
    (inb : ∀ a, off a + s.size a ≤ s.size a) (hx : M.view.LoadsAt (Rect.unit off s.size inb).toLoadRect)
    (kk : (s.Idx → Elt F e) → Prog (TpuEff nD τ sig (Elt F) (Λ₀ F) .tc) α) (Q : α → sProp 𝕄) :
    held c M X ⊢ iprop((held c M X -∗ wp frame (wpE (defs₀ (F := F)) 𝒱₀ (c : Thread nD τ) bd) E (kk X) Q)
      -∗ wp frame (wpE (defs₀ (F := F)) 𝒱₀ (c : Thread nD τ) bd) E (.op (.load M (Rect.unit off s.size inb).toLoadRect hx) kk) Q) := by
  iintro H Hk
  iapply (wp_load 𝒱₀ (c : Thread nD τ) bd E (m := M) (View.setOn_subset_set _ _)) $$ H; iintro H
  rw [View.readAt_rep_full M.view X]
  iapply Hk
  iexact H

/-- The second counted loop makes no trip. -/
theorem rest_ret (i : grid0.Coords) (w : BitVec 32) (hw : k0_chk2 i w) {σ : Type} (init : σ) (body : Fin (k0_t2_loop i w).trips → σ → Prog (TpuEff nD τ sig (Elt F) (Λ₀ F) .tc) σ) :
    Scf.Loop.for (k0_t2_loop i w) (k0_t2_ok i w hw) init body = .ret init :=
  Scf.for_rem_eq _ _ _ init body

/-- All trips of the loop over the key blocks, at the head of a program. -/
theorem trips (c : Dev nD) (bd : Option 𝒱₀.V) (E : Set ℕ) (i : grid0.Coords)
    (M2 : Memref sig .tc .vmem S256x128 .bf16) (h2 : M2.IsWhole) (M3 : Memref sig .tc .vmem S256x128 .bf16) (h3 : M3.IsWhole)
    (M4 : Memref sig .tc .vmem S8192x128 .bf16) (h4 : M4.IsWhole) (M5 : Memref sig .tc .vmem S8192x128 .bf16) (h5 : M5.IsWhole)
    (M6 : Memref sig .tc .vmem S256x128 .f32) (h6 : M6.IsWhole) (M7 : Memref sig .tc .vmem S8192x128 .f32) (h7 : M7.IsWhole)
    (M8 : Memref sig .tc .vmem S8192x128 .f32) (h8 : M8.IsWhole)
    (q g : FVec F S256x128 .bf16) (K V : S8192x128.Idx → Elt F .bf16) (tot : FVec F S256x1 .f32) (lo : ℕ) (hlo : lo ≤ 2 * (i 1).val + 1)
    (hw : k0_chk2 i (endW lo)) (s : St F) {β : Type}
    (kk : FVec F S256x1 .f32 × FVec F S256x1 .f32 × FVec F S256x128 .f32 → Prog (TpuEff nD τ sig (Elt F) (Λ₀ F) .tc) β) (Q : β → sProp 𝕄) :
    iprop(held c M4 K ∗ held c M5 V ∗ held c M7 s.dk ∗ held c M8 s.dv)
      ⊢ iprop((∀ acc, iprop(⌜acc = ((runT (BitVec.ofNat 32 (i 1).val) q g K V tot lo s (2 * (i 1).val + 2 - lo)).passed, (runT (BitVec.ofNat 32 (i 1).val) q g K V tot lo s (2 * (i 1).val + 2 - lo)).mass, (runT (BitVec.ofNat 32 (i 1).val) q g K V tot lo s (2 * (i 1).val + 2 - lo)).dq)⌝
            ∗ held c M4 K ∗ held c M5 V ∗ held c M7 (runT (BitVec.ofNat 32 (i 1).val) q g K V tot lo s (2 * (i 1).val + 2 - lo)).dk
            ∗ held c M8 (runT (BitVec.ofNat 32 (i 1).val) q g K V tot lo s (2 * (i 1).val + 2 - lo)).dv)
          -∗ wp frame (wpE (defs₀ (F := F)) 𝒱₀ (c : Thread nD τ) bd) E (kk acc) Q)
        -∗ wp frame (wpE (defs₀ (F := F)) 𝒱₀ (c : Thread nD τ) bd) E
          (Scf.Loop.for (k0_t1_loop i (endW lo)) (k0_t1_ok i (endW lo) hw) (s.passed, s.mass, s.dq)
            (k0_t1_body i M2 h2 M3 h3 M4 h4 M5 h5 M6 h6 M7 h7 M8 h8 (BitVec.ofNat 32 (i 1).val) q g (endW lo) tot hw (Scalar.addi (endW lo) 1#32)) >>= kk) Q) := by
  have hn := trips_eq i lo hlo
  rw [← hn]
  refine BIBase.Entails.trans ?_ (Scf.wp_for_bind frame (wpE (defs₀ (F := F)) 𝒱₀ (c : Thread nD τ) bd) E _ _ _ (k0_t1_ok i (endW lo) hw) (s.passed, s.mass, s.dq) _
    (fun n acc => iprop(⌜acc = ((runT (BitVec.ofNat 32 (i 1).val) q g K V tot lo s n).passed, (runT (BitVec.ofNat 32 (i 1).val) q g K V tot lo s n).mass, (runT (BitVec.ofNat 32 (i 1).val) q g K V tot lo s n).dq)⌝
            ∗ held c M4 K ∗ held c M5 V ∗ held c M7 (runT (BitVec.ofNat 32 (i 1).val) q g K V tot lo s n).dk
            ∗ held c M8 (runT (BitVec.ofNat 32 (i 1).val) q g K V tot lo s n).dv)) ?_)
  · iintro H
    isplitr
    · ipureintro; rfl
    iexact H
  · intro k acc
    iintro ⟨%hacc, H⟩
    subst hacc
    iapply (trip c bd E i M2 h2 M3 h3 M4 h4 M5 h5 M6 h6 M7 h7 M8 h8 q g K V tot lo hlo hw k (runT (BitVec.ofNat 32 (i 1).val) q g K V tot lo s k.val))
    iexact H

/-- The two accumulators as the trips find them: cleared at the first query block of a head. -/
def clearT (i : grid0.Coords) (z X : S8192x128.Idx → Elt F .f32) : S8192x128.Idx → Elt F .f32 := if (i 1).val = 0 then z else X

/-- The guard of the clearing. -/
theorem first_eq (i : grid0.Coords) : Scalar.cmpi .ne (Scalar.extui (Scalar.cmpi .eq (BitVec.ofNat 32 (i 1).val) 0#32) : BitVec 32) 0#32 = 1#1 ↔ (i 1).val = 0 := by
  have hi : (i 1).val < 32 := (i 1).isLt
  generalize (i 1).val = n at hi
  interval_cases n <;> decide

/-- The state after the whole grid step. -/
def lastT (i : grid0.Coords) (q g : FVec F S256x128 .bf16) (K V : S8192x128.Idx → Elt F .bf16) (X7 X8 : S8192x128.Idx → Elt F .f32) : St F :=
  stepT i q g K V (clearT i k0_pay1 X7) (clearT i k0_pay2 X8)

set_option maxHeartbeats 4000000 in
/-- The kernel's body. -/
theorem body_tail (c : Dev nD) (i : grid0.Coords)
    (M2 : Memref sig .tc .vmem S256x128 .bf16) (h2 : M2.IsWhole) (M3 : Memref sig .tc .vmem S256x128 .bf16) (h3 : M3.IsWhole)
    (M4 : Memref sig .tc .vmem S8192x128 .bf16) (h4 : M4.IsWhole) (M5 : Memref sig .tc .vmem S8192x128 .bf16) (h5 : M5.IsWhole)
    (M6 : Memref sig .tc .vmem S256x128 .f32) (h6 : M6.IsWhole) (M7 : Memref sig .tc .vmem S8192x128 .f32) (h7 : M7.IsWhole)
    (M8 : Memref sig .tc .vmem S8192x128 .f32) (h8 : M8.IsWhole)
    (q g : FVec F S256x128 .bf16) (K V : S8192x128.Idx → Elt F .bf16) (X6 : S256x128.Idx → Elt F .f32) (X7 X8 : S8192x128.Idx → Elt F .f32) (Q : PUnit → sProp 𝕄) :
    iprop((held c M2 q ∗ held c M3 g ∗ held c M4 K ∗ held c M5 V ∗ held c M6 X6 ∗ held c M7 X7 ∗ held c M8 X8)
        ∗ ((held c M2 q ∗ held c M3 g ∗ held c M4 K ∗ held c M5 V ∗ held c M6 (lastT i q g K V X7 X8).dq ∗ held c M7 (lastT i q g K V X7 X8).dk ∗ held c M8 (lastT i q g K V X7 X8).dv) -∗ Q ⟨⟩))
      ⊢ wp frame (wpE (defs₀ (F := F)) 𝒱₀ (c : Thread nD τ) none) Set.univ (cc0_sb_dattn i M2 h2 M3 h3 M4 h4 M5 h5 M6 h6 M7 h7 M8 h8) Q := by
  have hi : (i 1).val < 32 := (i 1).isLt
  simp only [cc0_sb_dattn_eq_skeleton]; unfold cc0_sb_dattn_skel
  simp only [Prog.lift, Prog.bind_op, Prog.bind_ret, Prog.pure_eq_ret]
  have hj : Scalar.subi (Scalar.muli (Scalar.addi (BitVec.ofNat 32 (i 1).val) 1#32) 2#32) 1#32 = BitVec.ofNat 32 (2 * (i 1).val + 1) := by
    show (BitVec.ofNat 32 (i 1).val + 1#32) * 2#32 - 1#32 = _
    apply BitVec.eq_of_toNat_eq
    simp only [BitVec.toNat_mul, BitVec.toNat_add, BitVec.toNat_sub, BitVec.toNat_ofNat]
    omega
  iintro ⟨⟨H2, H3, H4, H5, H6, H7, H8⟩, Hk⟩
  have hf : (findT i q K (2 * (i 1).val + 1) k0_pay5).1 ≤ 2 * (i 1).val + 1 := findT_le i q K _ _
  have hsp := spec_le c i M4 h4 q K Set.univ (2 * (i 1).val + 1) (by omega) k0_pay5
  have hl : lastT i q g K V X7 X8 = runT (BitVec.ofNat 32 (i 1).val) q g K V (findT i q K (2 * (i 1).val + 1) k0_pay5).2 (findT i q K (2 * (i 1).val + 1) k0_pay5).1
    (startT (clearT i k0_pay1 X7) (clearT i k0_pay2 X8)) (2 * (i 1).val + 2 - (findT i q K (2 * (i 1).val + 1) k0_pay5).1) := rfl
  rw [hl]
  clear hl
  generalize findT i q K (2 * (i 1).val + 1) k0_pay5 = f at hf hsp ⊢
  obtain ⟨lo, tot⟩ := f
  simp only at hf hsp ⊢
  by_cases h0 : (i 1).val = 0
  on_goal 1 =>
    rw [dif_pos ((first_eq i).mpr h0), show clearT i k0_pay1 X7 = k0_pay1 from if_pos h0, show clearT i k0_pay2 X8 = k0_pay2 from if_pos h0]
    iapply (wp_load 𝒱₀ (c : Thread nD τ) none Set.univ (m := M7) (View.setOn_subset_set _ _)) $$ H7; iintro H7
    iapply (wp_putAll c none Set.univ M7 X7 _ _ _) $$ H7; iintro H7
    iapply (wp_load 𝒱₀ (c : Thread nD τ) none Set.univ (m := M8) (View.setOn_subset_set _ _)) $$ H8; iintro H8
    iapply (wp_putAll c none Set.univ M8 X8 _ _ _) $$ H8; iintro H8
    generalize (k0_pay1 : FVec F S8192x128 .f32) = Y7
    generalize (k0_pay2 : FVec F S8192x128 .f32) = Y8
  on_goal 2 =>
    rw [dif_neg (fun h => h0 ((first_eq i).mp h)), show clearT i k0_pay1 X7 = X7 from if_neg h0, show clearT i k0_pay2 X8 = X8 from if_neg h0]
  all_goals
    try simp only [Prog.bind_ret]
    iapply (wp_getAll c none Set.univ M2 q _ _) $$ H2; iintro H2
    iapply (wp_getAll c none Set.univ M3 g _ _) $$ H3; iintro H3
    rw [hj]
    iapply (wp_call_spec 𝒱₀ (c : Thread nD τ) none Set.univ (spec c M4 K (endW lo) tot) (2 * (i 1).val + 1 + 1) (fun u hu => nomatch hu) hsp)
    rw [spec_apply]
    isplitl [H4]; · iexact H4
    iintro %r %hr H4
    obtain ⟨hr1, hr2⟩ := hr
    obtain ⟨r1, r2, r3⟩ := r
    simp only at hr1 hr2
    subst hr1 hr2
    iapply (wp_assume 𝒱₀ (c : Thread nD τ) none Set.univ (chk2 i _ hf))
    iapply (trips c none Set.univ i M2 h2 M3 h3 M4 h4 M5 h5 M6 h6 M7 h7 M8 h8 q g K V _ lo hf (chk2 i _ hf) (startT _ _)) $$ [H4 H5 H7 H8]
    · isplitl [H4]; · iexact H4
      isplitl [H5]; · iexact H5
      isplitl [H7]; · iexact H7
      iexact H8
    iintro %acc ⟨%hacc, H4, H5, H7, H8⟩
    subst hacc
    rw [rest_ret _ _ (chk2 i _ hf)]
    simp only [Prog.bind_ret]
    iapply (wp_getAll c none Set.univ M6 X6 _ _) $$ H6; iintro H6
    iapply (wp_putAll c none Set.univ M6 X6 _ _ _) $$ H6; iintro H6
    rw [wp_ret]; imodintro
    iapply Hk
    isplitl [H2]; · iexact H2
    isplitl [H3]; · iexact H3
    isplitl [H4]; · iexact H4
    isplitl [H5]; · iexact H5
    isplitl [H6]; · iexact H6
    isplitl [H7]; · iexact H7
    iexact H8

end Cert.Proof.Sb

end
-- ==== Proof.Sb.Data.lean ====
/- The attention's backward kernel over its grid: what each window holds at every grid point, the body's obligation
   at a generic point, and the run of the whole program. -/
module

public import proofs.«01_k».proof.Proof.Sb.Body
public import proofs.«01_k».proof.Proof.Gen.KernelIdeal.Launch
public import proofs.«01_k».proof.Proof.Gen.KernelIdeal.Points
public import Idealize.ShloMosaic.Lib.Pipeline.FrameBody

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers' contents at the launch. -/
def entry (c : Dev nD) (b : Ref sig .tc) : Buf (Elt F) ((c : Thread nD τ).loc b) := m ((c : Thread nD τ).loc b)

/-- A window's block of its array at a grid point. -/
def blockAt (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (entry m c (Pipeline.arrRef spec0 w))

/-- The second coordinate of a grid point is the query block. -/
theorem coord1 : ∀ t : Fin grid0.N, ((grid0.coords t) 1).val = t.val % 32 := by decide +kernel

/-- The first coordinate of a grid point is the head. -/
theorem coord0 : ∀ t : Fin grid0.N, ((grid0.coords t) 0).val = t.val / 32 := by decide +kernel

/-- One grid point's state, from the accumulators' contents before it. -/
def pointT (c : Dev nD) (t : Fin (cfg0 (F := F)).N) (X7 X8 : S8192x128.Idx → Elt F .f32) : St F :=
  lastT (grid0.coords t) (blockAt m c 0 t) (blockAt m c 1 t) (blockAt m c 2 t) (blockAt m c 3 t) X7 X8

/-- The state after every grid point. -/
def stateAt (c : Dev nD) : (n : ℕ) → n < (cfg0 (F := F)).N → St F
  | 0, h => pointT m c ⟨0, h⟩ k0_pay1 k0_pay2
  | n + 1, h => pointT m c ⟨n + 1, h⟩ (stateAt c n (Nat.lt_of_succ_lt h)).dk (stateAt c n (Nat.lt_of_succ_lt h)).dv

/-- At a head's first query block the accumulators' contents do not matter. -/
theorem pointT_first (c : Dev nD) (t : Fin (cfg0 (F := F)).N) (h : t.val % 32 = 0) (X7 X8 Y7 Y8 : S8192x128.Idx → Elt F .f32) :
    pointT m c t X7 X8 = pointT m c t Y7 Y8 := by
  have h0 : ((grid0.coords t) 1).val = 0 := (coord1 t).trans h
  unfold pointT lastT clearT
  simp only [h0, ↓reduceIte]

/-- The proof data of the one pipeline. -/
def dats (_ : Fin 1) (c : Dev nD) : Dat τ (Elt F) Unit ℕ (UR sig nD τ) ℕ (cfg0 (F := F)) c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => (stateAt m c t.val t.isLt).dq
    | ⟨5, _⟩ => (stateAt m c t.val t.isLt).dk
    | ⟨6, _⟩ => (stateAt m c t.val t.isLt).dv
  Φ _ := Pipeline.ΦA spec0 c
  q _ := fullShare
  owed _ := 0

theorem after0 (c : Dev nD) (t : Fin (cfg0 (F := F)).N) : (dats m 0 c).after 0 t = blockAt m c 0 t := by dsimp only [dats]; rfl
theorem after1 (c : Dev nD) (t : Fin (cfg0 (F := F)).N) : (dats m 0 c).after 1 t = blockAt m c 1 t := by dsimp only [dats]; rfl
theorem after2 (c : Dev nD) (t : Fin (cfg0 (F := F)).N) : (dats m 0 c).after 2 t = blockAt m c 2 t := by dsimp only [dats]; rfl
theorem after3 (c : Dev nD) (t : Fin (cfg0 (F := F)).N) : (dats m 0 c).after 3 t = blockAt m c 3 t := by dsimp only [dats]; rfl
theorem after4 (c : Dev nD) (t : Fin (cfg0 (F := F)).N) : (dats m 0 c).after 4 t = (stateAt m c t.val t.isLt).dq := by dsimp only [dats]; rfl
theorem after5 (c : Dev nD) (t : Fin (cfg0 (F := F)).N) : (dats m 0 c).after 5 t = (stateAt m c t.val t.isLt).dk := by dsimp only [dats]; rfl
theorem after6 (c : Dev nD) (t : Fin (cfg0 (F := F)).N) : (dats m 0 c).after 6 t = (stateAt m c t.val t.isLt).dv := by dsimp only [dats]; rfl

theorem A_eq (c : Dev nD) (w : Fin (cfg0 (F := F)).W) : (dats m 0 c).A w = entry m c (Pipeline.arrRef spec0 w) := by dsimp only [dats]

theorem before0 (c : Dev nD) (t : Fin (cfg0 (F := F)).N) (d) : (dats m 0 c).before 0 t d = blockAt m c 0 t :=
  ((dats m 0 c).before_in_eq_fetched 0 rfl (fun _ => rfl) (fun _ _ _ => rfl) (fun t => by rw [after0]; unfold Dat.blockOf blockAt; rw [A_eq]; try rfl) t d).trans
    (by unfold Dat.fetched Dat.blockOf blockAt; rw [A_eq]; try rfl)
theorem before1 (c : Dev nD) (t : Fin (cfg0 (F := F)).N) (d) : (dats m 0 c).before 1 t d = blockAt m c 1 t :=
  ((dats m 0 c).before_in_eq_fetched 1 rfl (fun _ => rfl) (fun _ _ _ => rfl) (fun t => by rw [after1]; unfold Dat.blockOf blockAt; rw [A_eq]; try rfl) t d).trans
    (by unfold Dat.fetched Dat.blockOf blockAt; rw [A_eq]; try rfl)
theorem before2 (c : Dev nD) (t : Fin (cfg0 (F := F)).N) (d) : (dats m 0 c).before 2 t d = blockAt m c 2 t :=
  ((dats m 0 c).before_in_eq_fetched 2 rfl (fun _ => rfl) (fun _ _ _ => rfl) (fun t => by rw [after2]; unfold Dat.blockOf blockAt; rw [A_eq]; try rfl) t d).trans
    (by unfold Dat.fetched Dat.blockOf blockAt; rw [A_eq]; try rfl)
theorem before3 (c : Dev nD) (t : Fin (cfg0 (F := F)).N) (d) : (dats m 0 c).before 3 t d = blockAt m c 3 t :=
  ((dats m 0 c).before_in_eq_fetched 3 rfl (fun _ => rfl) (fun _ _ _ => rfl) (fun t => by rw [after3]; unfold Dat.blockOf blockAt; rw [A_eq]; try rfl) t d).trans
    (by unfold Dat.fetched Dat.blockOf blockAt; rw [A_eq]; try rfl)

/-- The point's state, from what the two accumulators are found to hold. -/
theorem point_state (c : Dev nD) (t : Fin (cfg0 (F := F)).N) (d5 d6) :
    pointT m c t ((dats m 0 c).before 5 t d5) ((dats m 0 c).before 6 t d6) = stateAt m c t.val t.isLt := by
  by_cases h : t.val % 32 = 0
  · obtain ⟨n, hn⟩ := t
    cases n with
    | zero => exact pointT_first m c _ h _ _ _ _
    | succ n => exact pointT_first m c _ h _ _ _ _
  · have ht : t.val ≠ 0 := fun h0 => h (by rw [h0])
    have hfl : ∀ h', (⟨t.val - 1, h'⟩ : Fin (cfg0 (F := F)).N).val % 32 ≠ 31 := fun _ => by show (t.val - 1) % 32 ≠ 31; omega
    rw [(dats m 0 c).before_out_kept 5 rfl t ht (Bool.eq_false_iff.mpr fun h' => hfl _ ((flush0_5 _).mp h')) (fun _ => rfl) (fun _ _ => rfl),
      (dats m 0 c).before_out_kept 6 rfl t ht (Bool.eq_false_iff.mpr fun h' => hfl _ ((flush0_6 _).mp h')) (fun _ => rfl) (fun _ _ => rfl), after5, after6]
    obtain ⟨n, hn⟩ := t
    cases n with
    | zero => exact absurd rfl ht
    | succ n => rfl

theorem share_eq (c : Dev nD) (w : Fin (cfg0 (F := F)).W) : (dats m 0 c).share w = fullShare := by
  unfold Dat.share; split <;> rfl

end Cert.Proof.Sb

end
-- ==== Proof.Sb.Run.lean ====
/- The run of the attention's backward program: the body's obligation at every grid point, then the whole program, for
   any float values. -/
module

public import proofs.«01_k».proof.Proof.Sb.Data

@[expose] public section

noncomputable section

namespace Cert.Proof.Sb

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The kernel's body on owned buffers. -/
theorem body_owns (c : Dev nD) (i : grid0.Coords)
    (M2 : Memref sig .tc .vmem S256x128 .bf16) (h2 : M2.IsWhole) (M3 : Memref sig .tc .vmem S256x128 .bf16) (h3 : M3.IsWhole)
    (M4 : Memref sig .tc .vmem S8192x128 .bf16) (h4 : M4.IsWhole) (M5 : Memref sig .tc .vmem S8192x128 .bf16) (h5 : M5.IsWhole)
    (M6 : Memref sig .tc .vmem S256x128 .f32) (h6 : M6.IsWhole) (M7 : Memref sig .tc .vmem S8192x128 .f32) (h7 : M7.IsWhole)
    (M8 : Memref sig .tc .vmem S8192x128 .f32) (h8 : M8.IsWhole)
    (q g : FVec F S256x128 .bf16) (K V : S8192x128.Idx → Elt F .bf16) (X6 : S256x128.Idx → Elt F .f32) (X7 X8 : S8192x128.Idx → Elt F .f32) (Q : PUnit → sProp 𝕄) :
    iprop((owns (c : Thread nD τ) M2 fullShare q ∗ owns (c : Thread nD τ) M3 fullShare g ∗ owns (c : Thread nD τ) M4 fullShare K ∗ owns (c : Thread nD τ) M5 fullShare V
        ∗ owns (c : Thread nD τ) M6 fullShare X6 ∗ owns (c : Thread nD τ) M7 fullShare X7 ∗ owns (c : Thread nD τ) M8 fullShare X8)
        ∗ ((owns (c : Thread nD τ) M2 fullShare q ∗ owns (c : Thread nD τ) M3 fullShare g ∗ owns (c : Thread nD τ) M4 fullShare K ∗ owns (c : Thread nD τ) M5 fullShare V
        ∗ owns (c : Thread nD τ) M6 fullShare (lastT i q g K V X7 X8).dq ∗ owns (c : Thread nD τ) M7 fullShare (lastT i q g K V X7 X8).dk
        ∗ owns (c : Thread nD τ) M8 fullShare (lastT i q g K V X7 X8).dv) -∗ Q ⟨⟩))
      ⊢ wp frame (wpE (defs₀ (F := F)) 𝒱₀ (c : Thread nD τ) none) Set.univ (cc0_sb_dattn i M2 h2 M3 h3 M4 h4 M5 h5 M6 h6 M7 h7 M8 h8) Q := by
  simp only [owns_eq_rep]
  exact body_tail c i M2 h2 M3 h3 M4 h4 M5 h5 M6 h6 M7 h7 M8 h8 q g K V X6 X7 X8 Q

/-- What the body is given at a point. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body gives back at a point. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at a generic point. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [← point_state m c t d5 d6]
  unfold pointT
  iapply (body_owns c (grid0.coords t) _ _ _ _ _ _ _ _ _ _ _ _ _ _ (blockAt m c 0 t) (blockAt m c 1 t) (blockAt m c 2 t) (blockAt m c 3 t)
    ((dats m 0 c).before 4 t d4) ((dats m 0 c).before 5 t d5) ((dats m 0 c).before 6 t d6) _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body there. -/
theorem defs₀_row (t : Fin (cfg0 (F := F)).N) :
    (defs₀ (F := F)) .tc (cfg0 (F := F)).body ((cfg0 (F := F)).bodyArgs t ((cfg0 (F := F)).slots t)) = bodyAt0 t := by
  unfold defs₀; rw [Defs.onTc_tc]

theorem body_obligation (c : Dev nD) : Pipeline.BodyObligation (dats (F := F) m 0 c) (defs₀ (F := F)) 𝒱₀ () Set.univ := fun t => by
  rw [bigSep_W0, bigSep_W0, defs₀_row]
  exact triple_restated (sound_body m c t) rfl .rfl fun _ => .rfl

/-- The run of the whole program. -/
theorem run_main : θ_run (defs (F := F)) (onTc (τ := τ) (main (F := F))) ⟨m, fun _ => 0, ρ⟩
    (fun r => Pipeline.FramePost (cfgs (F := F)) (dats m) 0 (entry m) r ∧ r.2.sem = fun _ => 0) :=
  Pipeline.θ_run_frame (Q' := _) (cfgs (F := F)) (dats m) (0 : Fin 1) launch0 (defs₀ (F := F)) 𝒱₀ m ρ (main (F := F))
    (hbody := fun c => (body_obligation m c).loose) (hshare := share_eq m) (howed := fun _ _ => rfl) (V := entry m)
    (hmain := Pipeline.hmain_region (cfgs (F := F)) 0 (defs₀ (F := F)) 𝒱₀ m (main (F := F)) fun _ => rfl)
    (hA := fun c w => A_eq m c w) (hΦ := fun _ _ => rfl)

/-- The query window's array ends as it began. -/
theorem final0 (c : Dev nD) : (dats m 0 c).arrAt 0 (cfg0 (F := F)).N = entry m c (Pipeline.arrRef spec0 0) := ((dats m 0 c).arrAt_in 0 rfl _).trans (A_eq m c 0)
theorem final1 (c : Dev nD) : (dats m 0 c).arrAt 1 (cfg0 (F := F)).N = entry m c (Pipeline.arrRef spec0 1) := ((dats m 0 c).arrAt_in 1 rfl _).trans (A_eq m c 1)
theorem final2 (c : Dev nD) : (dats m 0 c).arrAt 2 (cfg0 (F := F)).N = entry m c (Pipeline.arrRef spec0 2) := ((dats m 0 c).arrAt_in 2 rfl _).trans (A_eq m c 2)
theorem final3 (c : Dev nD) : (dats m 0 c).arrAt 3 (cfg0 (F := F)).N = entry m c (Pipeline.arrRef spec0 3) := ((dats m 0 c).arrAt_in 3 rfl _).trans (A_eq m c 3)

end Cert.Proof.Sb

end
-- ==== Proof.Sb.Frames.lean ====
/- The frames of the three programs, and the named constant's claim. -/
module

public import proofs.«01_k».proof.Defs
public import proofs.«01_k».proof.Proof.Gen.Kernel
public import proofs.«01_k».proof.Proof.Gen.ReferenceIdeal.Run
public import proofs.«01_k».proof.Proof.Sb.Run
public import proofs.«01_k».proof.Proof.Sk.Run

@[expose] public section

noncomputable section

namespace Cert.Proof.Sb

open Idealize.ShloMosaic Idealize.ShloMosaic.TcCoe Idealize.SL.Sem

/-- The side conditions of the precondition's own operations. -/
theorem finite_facts : Cert.Pre_finite.Facts where
  bitsLt_bf16_f32 := by decide
  bcast_S_S8192x1024 := by decide

/-- What a launch leaves in the four argument arrays. -/
theorem args_kept {F : FTy → Type} [FloatOps F] [Named F] (m : (ℓ : Loc KernelIdeal.nD KernelIdeal.τ KernelIdeal.sig) → Buf (Elt F) ℓ)
    (r : _ × _) (h : Pipeline.FramePost (KernelIdeal.cfgs (F := F)) (dats m) 0 (entry m) r) (c : Dev KernelIdeal.nD) :
    r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3) :=
  ⟨((h c).1 0).trans (final0 m c), ((h c).1 2).trans (final2 m c), ((h c).1 3).trans (final3 m c), ((h c).1 1).trans (final1 m c)⟩

/-- The ideal program's frame. -/
theorem frame_ideal : @Cert.quiescent_KernelIdeal Cert.KernelIdeal.Gen.facts := fun m ρ _ =>
  (θ_run Cert.KernelIdeal.defs _ _).mono (fun r h => ⟨fun c => args_kept m r h.1 c, h.2⟩) (run_main (F := Ideal) m ρ)

/-- The kernel's frame: the same run of the program as printed, at the bit-exact values. -/
theorem frame_kernel : @Cert.quiescent_Kernel Cert.Kernel.Gen.facts := fun m ρ _ =>
  (θ_run Cert.Kernel.defs _ _).mono (fun r h => ⟨fun c => ⟨((h.1 c).1 0).trans (Sk.final0 m c), ((h.1 c).1 2).trans (Sk.final2 m c),
    ((h.1 c).1 3).trans (Sk.final3 m c), ((h.1 c).1 1).trans (Sk.final1 m c)⟩, h.2⟩) (Sk.run_main (F := Bits) m ρ)

/-- The reference's frame. -/
theorem frame_reference : @Cert.quiescent_ReferenceIdeal Cert.ReferenceIdeal.Gen.facts := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The named constant stands for the printed word. -/
theorem keeps : Cert.preserves_Kernel_KernelIdeal :=
  IdealRules.named_const.statement Cert.KernelIdeal.κ "exp_underflow" .f32 0xC2D00000#32 ⊥ rfl

end Cert.Proof.Sb

end
-- ==== Proof.Va.Spec.lean ====
/- The gradient of one head's stick-breaking attention over the real numbers, as plain sums. -/
module

public import Mathlib.Analysis.SpecialFunctions.Log.Basic
public import Mathlib.Data.EReal.Operations
public import Mathlib.Algebra.BigOperators.Intervals

@[expose] public section

noncomputable section

namespace Cert.Proof.Va

open Finset

/-- The softplus. -/
def sp (x : ℝ) : ℝ := max x 0 + Real.log (1 + Real.exp (-|x|))

/-- Reflecting the softplus takes its argument off. -/
theorem sp_neg (x : ℝ) : sp (-x) = sp x - x := by
  unfold sp
  rw [abs_neg]
  rcases le_total x 0 with h | h
  · rw [max_eq_left (by linarith), max_eq_right h]; ring
  · rw [max_eq_right (by linarith), max_eq_left h]; ring

/-- The exponential of the softplus. -/
theorem exp_sp (x : ℝ) : Real.exp (sp x) = 1 + Real.exp x := by
  unfold sp
  rw [Real.exp_add, Real.exp_log (by positivity)]
  rcases le_total x 0 with h | h
  · rw [max_eq_right h, abs_of_nonpos h, neg_neg, Real.exp_zero, one_mul]
  · rw [max_eq_left h, abs_of_nonneg h, mul_add, mul_one, ← Real.exp_add, add_neg_cancel, Real.exp_zero, add_comm]

/-- The logistic function, as the programs write it. -/
def sig (x : ℝ) : ℝ := Real.exp (x - sp x)

/-- The logistic function at the reflected argument is its complement. -/
theorem sig_neg (x : ℝ) : Real.exp (-x - sp (-x)) = 1 - sig x := by
  have h : Real.exp (sp x) ≠ 0 := Real.exp_ne_zero _
  unfold sig
  rw [sp_neg, show -x - (sp x - x) = -sp x by ring, Real.exp_sub, Real.exp_neg, eq_sub_iff_add_eq, inv_eq_one_div, ← add_div, div_eq_one_iff_eq h, exp_sp]

/-- One head's arguments: the scale, the rows of the queries, keys, values and of the gradient coming in. -/
structure Head where
  c : ℝ
  Q : ℕ → ℕ → ℝ
  K : ℕ → ℕ → ℝ
  V : ℕ → ℕ → ℝ
  G : ℕ → ℕ → ℝ

namespace Head

variable (H : Head)

/-- The scaled score of row `t` at key `s`. -/
def score (t s : ℕ) : ℝ := (∑ d ∈ range 128, H.Q t d * H.K s d) * H.c

/-- The log-probability of passing key `s`, where row `t` sees it. -/
def fail (t s : ℕ) : ℝ := if s < t then -sp (H.score t s) else 0

/-- The log-probability of passing every key after `s`. -/
def after (t s : ℕ) : ℝ := ∑ u ∈ Ico (s + 1) 8192, H.fail t u

/-- The attention weight. -/
def prob (t s : ℕ) : ℝ := if s < t then Real.exp (H.score t s - sp (H.score t s) + H.after t s) else 0

/-- The gradient of the weight. -/
def dprob (t s : ℕ) : ℝ := ∑ d ∈ range 128, H.G t d * H.V s d

/-- The weight times its gradient. -/
def mass (t s : ℕ) : ℝ := H.prob t s * H.dprob t s

/-- The weights times their gradients over the keys before `s`. -/
def before (t s : ℕ) : ℝ := ∑ u ∈ range s, H.mass t u

/-- The scaled gradient of the score. -/
def dscore (t s : ℕ) : ℝ :=
  if s < t then (H.mass t s * (1 - sig (H.score t s)) - sig (H.score t s) * H.before t s) * H.c else 0

/-- The gradient of the queries. -/
def dQ (t d : ℕ) : ℝ := ∑ s ∈ range 8192, H.dscore t s * H.K s d

/-- The gradient of the keys. -/
def dK (s d : ℕ) : ℝ := ∑ t ∈ range 8192, H.dscore t s * H.Q t d

/-- The gradient of the values. -/
def dV (s d : ℕ) : ℝ := ∑ t ∈ range 8192, H.prob t s * H.G t d

theorem fail_eq_zero {t s : ℕ} (h : t ≤ s) : H.fail t s = 0 := if_neg (by omega)
theorem prob_eq_zero {t s : ℕ} (h : t ≤ s) : H.prob t s = 0 := if_neg (by omega)
theorem mass_eq_zero {t s : ℕ} (h : t ≤ s) : H.mass t s = 0 := by rw [mass, prob_eq_zero H h, zero_mul]
theorem dscore_eq_zero {t s : ℕ} (h : t ≤ s) : H.dscore t s = 0 := if_neg (by omega)

/-- The log-probabilities from a key on are the total less those up to it. -/
theorem after_eq (t s N : ℕ) (ht : t ≤ N) (hs : s + 1 ≤ N) (hN : N ≤ 8192) :
    H.after t s = ∑ u ∈ range N, H.fail t u - ∑ u ∈ range (s + 1), H.fail t u := by
  unfold after
  rw [← sum_Ico_consecutive _ hs hN, sum_Ico_eq_sub _ hs, sum_eq_zero (s := Ico N 8192) fun u hu => H.fail_eq_zero (ht.trans (mem_Ico.1 hu).1), add_zero]

/-- The same inside a block of 128 keys: the block's later keys, and the total less what the blocks up to it sum to. -/
theorem after_block (t j b N : ℕ) (hb : b < 128) (ht : t ≤ N) (hs : 128 * j + 128 ≤ N) (hN : N ≤ 8192) :
    H.after t (128 * j + b) = (∑ r ∈ range 128, H.fail t (128 * j + r) * (if b < r then 1 else 0))
      + (∑ u ∈ range N, H.fail t u - ∑ u ∈ range (128 * j), H.fail t u - ∑ r ∈ range 128, H.fail t (128 * j + r)) := by
  rw [H.after_eq t _ N ht (by omega) hN, show 128 * j + b + 1 = 128 * j + (b + 1) by omega, sum_range_add]
  have h : ∑ r ∈ range 128, H.fail t (128 * j + r) = (∑ r ∈ range (b + 1), H.fail t (128 * j + r))
      + ∑ r ∈ range 128, H.fail t (128 * j + r) * (if b < r then 1 else 0) := by
    rw [← sum_range_add_sum_Ico _ (show b + 1 ≤ 128 by omega), ← sum_range_add_sum_Ico _ (show b + 1 ≤ 128 by omega),
      sum_eq_zero (s := range (b + 1)) (f := fun r => H.fail t (128 * j + r) * (if b < r then 1 else 0))
        fun r hr => by rw [if_neg (by have := mem_range.1 hr; omega), mul_zero], zero_add]
    refine congrArg _ (sum_congr rfl fun r hr => ?_)
    rw [if_pos (by have := mem_Ico.1 hr; omega), mul_one]
  rw [h]; ring

/-- What stands before a key of a block: the block's earlier keys, and the blocks before. -/
theorem before_block (t j b : ℕ) (hb : b < 128) :
    H.before t (128 * j + b) = (∑ r ∈ range 128, H.mass t (128 * j + r) * (if r < b then 1 else 0)) + ∑ u ∈ range (128 * j), H.mass t u := by
  unfold before
  rw [sum_range_add, ← sum_range_add_sum_Ico _ hb.le,
    sum_eq_zero (s := Ico b 128) fun r hr => by rw [if_neg (by have := mem_Ico.1 hr; omega), mul_zero], add_zero, add_comm]
  refine congrArg (· + _) (sum_congr rfl fun r hr => ?_)
  rw [if_pos (mem_range.1 hr), mul_one]

/-- Keys after a row add nothing to its query gradient. -/
theorem dQ_eq (t d N : ℕ) (ht : t ≤ N) (hN : N ≤ 8192) : H.dQ t d = ∑ s ∈ range N, H.dscore t s * H.K s d := by
  unfold dQ
  rw [← sum_range_add_sum_Ico _ hN, sum_eq_zero (s := Ico N 8192) fun u hu => by rw [H.dscore_eq_zero (ht.trans (mem_Ico.1 hu).1), zero_mul], add_zero]

end Head

end Cert.Proof.Va

end
-- ==== Proof.Va.Re.lean ====
/- Blocks of extended reals that hold real numbers, and what the kernel's operations make of them. -/
module

public import proofs.«01_k».proof.Proof.Sb.Tile
public import proofs.«01_k».proof.Proof.Va.Spec
public import Idealize.ShloMosaic.Lib.Pointwise
public import Idealize.ShloMosaic.PureOps.Ideal.Laws

@[expose] public section

noncomputable section

namespace Cert.Proof.Va

open Cert.KernelIdeal Cert.KernelIdeal.Gen
open Idealize.ShloMosaic Idealize.ShloMosaic.ValueIdx
open Finset

/-- The rank-two block holding the real numbers `a`. -/
def re2 {n m : ℕ} (a : ℕ → ℕ → ℝ) : (⟨2, ![n, m]⟩ : Shape).Idx → EReal := fun y => ((a (y 0).val (y 1).val : ℝ) : EReal)

/-- Blocks agree where their entries in range do. -/
theorem re2_congr {n m : ℕ} {a b : ℕ → ℕ → ℝ} (h : ∀ p < n, ∀ r < m, a p r = b p r) : (re2 a : (⟨2, ![n, m]⟩ : Shape).Idx → EReal) = re2 b :=
  funext fun y => congrArg _ (h _ (idx2_lt0 y) _ (idx2_lt1 y))

/-- The sum of real numbers is the sum of the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s h ih => rw [sum_insert h, sum_insert h, EReal.coe_add, ih]

/-- A sum over coordinates of products of real numbers. -/
theorem sum_mul_coe (n : ℕ) (f g : ℕ → ℝ) : (∑ k : Fin n, ((f k.val : ℝ) : EReal) * ((g k.val : ℝ) : EReal)) = ((∑ k ∈ range n, f k * g k : ℝ) : EReal) := by
  rw [sum_range fun k => f k * g k, coe_sum]
  exact sum_congr rfl fun k _ => (EReal.coe_mul _ _).symm

/-- A sum over coordinates of real numbers. -/
theorem sum_coe (n : ℕ) (f : ℕ → ℝ) : (∑ k : Fin n, ((f k.val : ℝ) : EReal)) = ((∑ k ∈ range n, f k : ℝ) : EReal) := by
  rw [sum_range, coe_sum]

section Elementwise
variable {n m : ℕ} {φ ψ : FTy} (a b : ℕ → ℕ → ℝ)

theorem re_add : (addf (F := Ideal) (s := ⟨2, ![n, m]⟩) (φ := φ) (re2 a) (re2 b) : FVec Ideal ⟨2, ![n, m]⟩ φ) = re2 fun p r => a p r + b p r :=
  funext fun _ => (EReal.coe_add _ _).symm
theorem re_sub : (subf (F := Ideal) (s := ⟨2, ![n, m]⟩) (φ := φ) (re2 a) (re2 b) : FVec Ideal ⟨2, ![n, m]⟩ φ) = re2 fun p r => a p r - b p r :=
  funext fun _ => (EReal.coe_sub _ _).symm
theorem re_mul : (mulf (F := Ideal) (s := ⟨2, ![n, m]⟩) (φ := φ) (re2 a) (re2 b) : FVec Ideal ⟨2, ![n, m]⟩ φ) = re2 fun p r => a p r * b p r :=
  funext fun _ => (EReal.coe_mul _ _).symm
theorem re_max : (maximumf (F := Ideal) (s := ⟨2, ![n, m]⟩) (φ := φ) (re2 a) (re2 b) : FVec Ideal ⟨2, ![n, m]⟩ φ) = re2 fun p r => max (a p r) (b p r) :=
  funext fun _ => (EReal.coe_strictMono.monotone.map_max).symm
theorem re_abs : (absf (F := Ideal) (s := ⟨2, ![n, m]⟩) (φ := φ) (re2 a) : FVec Ideal ⟨2, ![n, m]⟩ φ) = re2 fun p r => |a p r| :=
  funext fun y => by
    show max (((a (y 0).val (y 1).val : ℝ) : EReal)) (-((a (y 0).val (y 1).val : ℝ) : EReal)) = ((|a (y 0).val (y 1).val| : ℝ) : EReal)
    rw [abs_eq_max_neg, ← EReal.coe_neg]
    exact (EReal.coe_strictMono.monotone.map_max).symm
theorem re_exp : (exp (F := Ideal) (s := ⟨2, ![n, m]⟩) (φ := φ) (re2 a) : FVec Ideal ⟨2, ![n, m]⟩ φ) = re2 fun p r => Real.exp (a p r) := rfl
theorem re_log (h : ∀ p r, 0 < a p r) : (log (F := Ideal) (s := ⟨2, ![n, m]⟩) (φ := φ) (re2 a) : FVec Ideal ⟨2, ![n, m]⟩ φ) = re2 fun p r => Real.log (a p r) :=
  funext fun y => (Ideal.log_coe (r := a (y 0).val (y 1).val)).trans (if_neg (h _ _).not_ge)
theorem re_trunc (h : ψ.bits < φ.bits) : (truncf (F := Ideal) (s := ⟨2, ![n, m]⟩) (φ := φ) ψ (re2 a) h : FVec Ideal ⟨2, ![n, m]⟩ ψ) = re2 a := rfl
theorem re_ext (h : φ.bits < ψ.bits) : (extf (F := Ideal) (s := ⟨2, ![n, m]⟩) (φ := φ) ψ (re2 a) h : FVec Ideal ⟨2, ![n, m]⟩ ψ) = re2 a := rfl
theorem re_const (w : BitVec φ.bits) (x : ℝ) (h : Ideal.ofBits φ w = (x : EReal)) :
    (broadcast ⟨2, ![n, m]⟩ (Scalar.ofBits φ w : Ideal φ) : FVec Ideal ⟨2, ![n, m]⟩ φ) = re2 fun _ _ => x := funext fun _ => h
theorem re_zero : (broadcast ⟨2, ![n, m]⟩ (Scalar.ofBits .f32 0x00000000#32 : Ideal .f32) : FVec Ideal ⟨2, ![n, m]⟩ .f32) = re2 fun _ _ => 0 :=
  re_const _ 0 Ideal.ofBits_zero_f32
theorem re_select (c : IVec ⟨2, ![n, m]⟩ 1) (P : ℕ → ℕ → Prop) [∀ p r, Decidable (P p r)] (hc : ∀ y, c y = 1#1 ↔ P (y 0).val (y 1).val) :
    (select c (re2 a) (re2 b) : (⟨2, ![n, m]⟩ : Shape).Idx → EReal) = re2 fun p r => if P p r then a p r else b p r :=
  funext fun y => by
    show (if c y = 1#1 then _ else _) = _
    by_cases h : P (y 0).val (y 1).val
    · rw [if_pos ((hc y).2 h)]; exact congrArg Real.toEReal (if_pos h).symm
    · rw [if_neg fun e => h ((hc y).1 e)]; exact congrArg Real.toEReal (if_neg h).symm

end Elementwise

/-- One, as a word. -/
theorem ofBits_one : Ideal.ofBits .f32 0x3F800000#32 = ((1 : ℝ) : EReal) := by
  simp [Ideal.ofBits, Ideal.ieee]
  rw [← EReal.coe_mul]
  norm_num

/-- The scale of the scores. -/
def scale : ℝ := (Ideal.ofBits .f32 0x3DB504F3#32).toReal

/-- The scale is a real number. -/
theorem ofBits_scale : Ideal.ofBits .f32 0x3DB504F3#32 = (scale : EReal) := by
  unfold scale
  refine (EReal.coe_toReal ?_ ?_).symm <;> simp [Ideal.ofBits, Ideal.ieee]
  · rw [← EReal.coe_mul]; exact EReal.coe_ne_top _
  · rw [← EReal.coe_mul]; exact EReal.coe_ne_bot _

variable {φ₁ φ₂ : FTy} (a b : ℕ → ℕ → ℝ)

/-- Rows times columns. -/
theorem re_mm10 : (matmul (F := Ideal) (φ₁ := φ₁) (φ₂ := φ₂) dot_S256x128_S128x128_S256x128_1_0_0_1_n_n none (re2 a) (re2 b)
    (constant S256x128 .f32 0x00000000#32) : FVec Ideal S256x128 .f32) = re2 fun p r => ∑ k ∈ range 128, a p k * b k r := by
  funext y
  simp only [pointwise]
  unfold re2
  rw [← sum_mul_coe]
  simp

/-- Rows times rows. -/
theorem re_mm11 : (matmul (F := Ideal) (φ₁ := φ₁) (φ₂ := φ₂) dot_S256x128_S128x128_S256x128_1_1_0_0_n_n none (re2 a) (re2 b)
    (constant S256x128 .f32 0x00000000#32) : FVec Ideal S256x128 .f32) = re2 fun p r => ∑ k ∈ range 128, a p k * b r k := by
  funext y
  simp only [pointwise]
  unfold re2
  rw [← sum_mul_coe]
  simp

/-- Columns times columns. -/
theorem re_mm00 : (matmul (F := Ideal) (φ₁ := φ₁) (φ₂ := φ₂) dot_S256x128_S256x128_S128x128_0_0_1_1_n_n none (re2 a) (re2 b)
    (constant S128x128 .f32 0x00000000#32) : FVec Ideal S128x128 .f32) = re2 fun p r => ∑ k ∈ range 256, a k p * b k r := by
  funext y
  simp only [pointwise]
  unfold re2
  rw [← sum_mul_coe]
  simp

/-- Sums along the rows. -/
theorem re_rows : (Sb.rowsT (F := Ideal) (re2 a) : FVec Ideal S256x1 .f32) = re2 fun p _ => ∑ r ∈ range 128, a p r := by
  funext y
  unfold Sb.rowsT
  simp only [pointwise]
  unfold re2
  rw [← sum_coe]
  simp

/-- A column over the columns of a block. -/
theorem re_spread : (broadcastTo (s := S256x1) S256x128 (re2 a) broadcasts_S256x1_S256x128 : FVec Ideal S256x128 .f32) = re2 fun p _ => a p 0 := by
  funext y
  simp only [pointwise]
  unfold re2
  simp

end Cert.Proof.Va

end
-- ==== Proof.Va.Window.lean ====
/- The reference's two running sums along the keys, as sums over the later and over the earlier keys. -/
module

public import proofs.«01_k».proof.Proof.Va.Re
public import proofs.«01_k».proof.Proof.Gen.ReferenceIdeal.Read

@[expose] public section

noncomputable section

namespace Cert.Proof.Va

open Cert.ReferenceIdeal Cert.ReferenceIdeal.Gen
open Idealize.ShloMosaic Idealize.ShloMosaic.TcCoe Idealize.ShloMosaic.ValueIdx
open Finset

/-- An array of heads, rows and keys. -/
def ar3 (a : ℕ → ℕ → ℕ → EReal) : S8x8192x8192.Idx → EReal := fun y => a (y 0).val (y 1).val (y 2).val

/-- A real array of heads, rows and keys. -/
def re3 (a : ℕ → ℕ → ℕ → ℝ) : S8x8192x8192.Idx → EReal := fun y => ((a (y 0).val (y 1).val (y 2).val : ℝ) : EReal)

/-- Adding a list's values one after the other. -/
theorem foldl_sum {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The window's shape: the positions along the keys. -/
abbrev Wn : Shape := ⟨3, ![1, 1, 8192]⟩

/-- A window position is its place along the keys. -/
def place : Wn.Idx ≃ Fin 8192 where
  toFun w := w 2
  invFun k := fun a => match a with
    | ⟨0, _⟩ => ⟨0, Nat.one_pos⟩
    | ⟨1, _⟩ => ⟨0, Nat.one_pos⟩
    | ⟨2, _⟩ => k
  left_inv w := funext fun a => by
    match a with
    | ⟨0, _⟩ => exact Fin.ext (by have h : (w 0).val < 1 := (w 0).isLt; show 0 = (w 0).val; omega)
    | ⟨1, _⟩ => exact Fin.ext (by have h : (w 1).val < 1 := (w 1).isLt; show 0 = (w 1).val; omega)
    | ⟨2, _⟩ => rfl
  right_inv k := rfl

/-- The sum from each key on, of any array. -/
theorem sum_from_any (a : ℕ → ℕ → ℕ → EReal) (z : S_.Idx → EReal) (hz : ∀ i, z i = 0) :
    Host.reduceWindowAdd (F := Ideal) (φ := .f32) ![1, 1, 8192] ![1, 1, 1] ![0, 0, 0] ![0, 0, 8191] (ar3 a) z
      reduceWindows_S8x8192x8192_S8x8192x8192_w1s1p0_0_w1s1p0_0_w8192s1p0_8191 h_S_
    = ar3 fun h t s => ∑ u ∈ Ico s 8192, a h t u := by
  funext j
  have h0 : (j 0).val < 8 := (j 0).isLt
  have h1 : (j 1).val < 8192 := (j 1).isLt
  have h2 : (j 2).val < 8192 := (j 2).isLt
  rw [Host.reduceWindowAdd, Ideal.hostReduceWindowAdd_def, hz]
  unfold Ideal.hostReduceWindowAdd Host.reduceWindow
  dsimp only
  rw [foldl_sum, zero_add, ← List.ofFn_eq_map, List.sum_ofFn]
  trans ∑ k : Fin 8192, (if (j 2).val + k.val < 8192 then a (j 0).val (j 1).val ((j 2).val + k.val) else 0 : EReal)
  · refine Fintype.sum_equiv (Wn.rowMajor.symm.trans place) _ _ fun n => ?_
    have w0 : (Wn.rowMajor.symm n 0).val = 0 := Nat.lt_one_iff.1 (Wn.rowMajor.symm n 0).isLt
    have w1 : (Wn.rowMajor.symm n 1).val = 0 := Nat.lt_one_iff.1 (Wn.rowMajor.symm n 1).isLt
    have wk : (Wn.rowMajor.symm n 2).val = ((Wn.rowMajor.symm.trans place) n).val := rfl
    generalize (Wn.rowMajor.symm.trans place) n = k at wk ⊢
    by_cases h : (j 2).val + k.val < 8192
    · rw [if_pos h, dif_pos (fun x => by
        match x with
        | ⟨0, _⟩ => show 0 ≤ (j 0).val * 1 + (Wn.rowMajor.symm n 0).val ∧ (j 0).val * 1 + (Wn.rowMajor.symm n 0).val - 0 < 8; omega
        | ⟨1, _⟩ => show 0 ≤ (j 1).val * 1 + (Wn.rowMajor.symm n 1).val ∧ (j 1).val * 1 + (Wn.rowMajor.symm n 1).val - 0 < 8192; omega
        | ⟨2, _⟩ => show 0 ≤ (j 2).val * 1 + (Wn.rowMajor.symm n 2).val ∧ (j 2).val * 1 + (Wn.rowMajor.symm n 2).val - 0 < 8192; omega)]
      show a ((j 0).val * 1 + (Wn.rowMajor.symm n 0).val - 0) ((j 1).val * 1 + (Wn.rowMajor.symm n 1).val - 0) ((j 2).val * 1 + (Wn.rowMajor.symm n 2).val - 0) = _
      rw [w0, w1, wk]
      simp only [mul_one, add_zero, Nat.sub_zero]
    · rw [if_neg h, dif_neg (fun hh => h (by
        have : 0 ≤ (j 2).val * 1 + (Wn.rowMajor.symm n 2).val ∧ (j 2).val * 1 + (Wn.rowMajor.symm n 2).val - 0 < 8192 := hh 2
        omega))]
  · rw [← sum_range fun n => if (j 2).val + n < 8192 then a (j 0).val (j 1).val ((j 2).val + n) else 0]
    show _ = ∑ u ∈ Ico (j 2).val 8192, a (j 0).val (j 1).val u
    rw [sum_Ico_eq_sum_range, ← sum_range_add_sum_Ico _ (show 8192 - (j 2).val ≤ 8192 by omega),
      sum_eq_zero (s := Ico (8192 - (j 2).val) 8192) fun n hn => if_neg (by have := mem_Ico.1 hn; omega), add_zero]
    exact sum_congr rfl fun n hn => if_pos (by have := mem_range.1 hn; omega)

/-- The sum from each key on. -/
theorem sum_from (a : ℕ → ℕ → ℕ → ℝ) (z : S_.Idx → EReal) (hz : ∀ i, z i = 0) :
    Host.reduceWindowAdd (F := Ideal) (φ := .f32) ![1, 1, 8192] ![1, 1, 1] ![0, 0, 0] ![0, 0, 8191] (re3 a) z
      reduceWindows_S8x8192x8192_S8x8192x8192_w1s1p0_0_w1s1p0_0_w8192s1p0_8191 h_S_
    = re3 fun h t s => ∑ u ∈ Ico s 8192, a h t u :=
  (sum_from_any (fun h t s => ((a h t s : ℝ) : EReal)) z hz).trans (funext fun _ => (coe_sum _ _).symm)

/-- The sum up to each key. -/
theorem sum_upto (a : ℕ → ℕ → ℕ → ℝ) (z : S_.Idx → EReal) (hz : ∀ i, z i = 0) :
    Host.reduceWindowAdd (F := Ideal) (φ := .f32) ![1, 1, 8192] ![1, 1, 1] ![0, 0, 8191] ![0, 0, 0] (re3 a) z
      reduceWindows_S8x8192x8192_S8x8192x8192_w1s1p0_0_w1s1p0_0_w8192s1p8191_0 h_S_
    = re3 fun h t s => ∑ u ∈ range (s + 1), a h t u := by
  funext j
  have h0 : (j 0).val < 8 := (j 0).isLt
  have h1 : (j 1).val < 8192 := (j 1).isLt
  have h2 : (j 2).val < 8192 := (j 2).isLt
  rw [Host.reduceWindowAdd, Ideal.hostReduceWindowAdd_def, hz]
  unfold Ideal.hostReduceWindowAdd Host.reduceWindow
  dsimp only
  rw [foldl_sum, zero_add, ← List.ofFn_eq_map, List.sum_ofFn]
  trans ∑ k : Fin 8192, (((if 8191 - (j 2).val ≤ k.val then a (j 0).val (j 1).val ((j 2).val + k.val - 8191) else 0 : ℝ)) : EReal)
  · refine Fintype.sum_equiv (Wn.rowMajor.symm.trans place) _ _ fun n => ?_
    have w0 : (Wn.rowMajor.symm n 0).val = 0 := Nat.lt_one_iff.1 (Wn.rowMajor.symm n 0).isLt
    have w1 : (Wn.rowMajor.symm n 1).val = 0 := Nat.lt_one_iff.1 (Wn.rowMajor.symm n 1).isLt
    have wk : (Wn.rowMajor.symm n 2).val = ((Wn.rowMajor.symm.trans place) n).val := rfl
    generalize (Wn.rowMajor.symm.trans place) n = k at wk ⊢
    have hk := k.isLt
    by_cases h : 8191 - (j 2).val ≤ k.val
    · rw [if_pos h, dif_pos (fun x => by
        match x with
        | ⟨0, _⟩ => show 0 ≤ (j 0).val * 1 + (Wn.rowMajor.symm n 0).val ∧ (j 0).val * 1 + (Wn.rowMajor.symm n 0).val - 0 < 8; omega
        | ⟨1, _⟩ => show 0 ≤ (j 1).val * 1 + (Wn.rowMajor.symm n 1).val ∧ (j 1).val * 1 + (Wn.rowMajor.symm n 1).val - 0 < 8192; omega
        | ⟨2, _⟩ => show 8191 ≤ (j 2).val * 1 + (Wn.rowMajor.symm n 2).val ∧ (j 2).val * 1 + (Wn.rowMajor.symm n 2).val - 8191 < 8192; omega)]
      show ((a ((j 0).val * 1 + (Wn.rowMajor.symm n 0).val - 0) ((j 1).val * 1 + (Wn.rowMajor.symm n 1).val - 0) ((j 2).val * 1 + (Wn.rowMajor.symm n 2).val - 8191) : ℝ) : EReal) = _
      rw [w0, w1, wk]
      simp only [mul_one, add_zero, Nat.sub_zero]
    · rw [if_neg h, dif_neg (fun hh => h (by
        have : 8191 ≤ (j 2).val * 1 + (Wn.rowMajor.symm n 2).val ∧ (j 2).val * 1 + (Wn.rowMajor.symm n 2).val - 8191 < 8192 := hh 2
        omega))]
      rfl
  · rw [sum_coe 8192 fun n => if 8191 - (j 2).val ≤ n then a (j 0).val (j 1).val ((j 2).val + n - 8191) else 0]
    refine congrArg Real.toEReal ?_
    dsimp only
    rw [← sum_range_add_sum_Ico _ (show 8191 - (j 2).val ≤ 8192 by omega),
      sum_eq_zero (s := range (8191 - (j 2).val)) fun n hn => if_neg (by have := mem_range.1 hn; omega), zero_add, sum_Ico_eq_sum_range,
      show 8192 - (8191 - (j 2).val) = (j 2).val + 1 by omega]
    refine sum_congr rfl fun n hn => (if_pos (by omega)).trans ?_
    rw [show (j 2).val + (8191 - (j 2).val + n) - 8191 = n by omega]

end Cert.Proof.Va

end
-- ==== Proof.Va.Tile.lean ====
/- What one block of the kernel holds on real arguments: the entries of the plain sums. -/
module

public import proofs.«01_k».proof.Proof.Va.Re

@[expose] public section

noncomputable section

namespace Cert.Proof.Va

open Cert.KernelIdeal Cert.KernelIdeal.Gen
open Idealize.ShloMosaic Idealize.ShloMosaic.ValueIdx
open Finset

/-- The signed order of two small words is that of the numbers. -/
theorem slt_small {a b : ℕ} (ha : a < 2 ^ 31) (hb : b < 2 ^ 31) :
    (BitVec.ofBool ((BitVec.ofNat 32 a).slt (BitVec.ofNat 32 b)) = 1#1) ↔ a < b := by
  have h : (BitVec.ofNat 32 a).slt (BitVec.ofNat 32 b) = decide (a < b) := by
    rw [BitVec.slt_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    simp
  rw [h]
  by_cases h : a < b <;> simp [h]

/-- The mask of a block is the order of its rows and keys. -/
theorem mask_iff (i j : ℕ) (hi : i < 32) (hj : j < 64) (y : S256x128.Idx) :
    Sb.maskT (BitVec.ofNat 32 i) (BitVec.ofNat 32 j) y = 1#1 ↔ 128 * j + (y 1).val < 256 * i + (y 0).val := by
  have h0 := idx2_lt0 y
  have h1 := idx2_lt1 y
  have e : Sb.maskT (BitVec.ofNat 32 i) (BitVec.ofNat 32 j) y
      = BitVec.ofBool ((BitVec.ofNat 32 (128 * j + (y 1).val)).slt (BitVec.ofNat 32 (256 * i + (y 0).val))) := by
    show BitVec.ofBool ((BitVec.ofNat 32 j * 128#32 + BitVec.ofNat 32 (0 * 128 + (y 1).val)).slt
      (BitVec.ofNat 32 i * 256#32 + BitVec.ofNat 32 (0 * 256 + (y 0).val))) = _
    rw [show (128#32 : BitVec 32) = BitVec.ofNat 32 128 from rfl, show (256#32 : BitVec 32) = BitVec.ofNat 32 256 from rfl,
      ← BitVec.ofNat_mul, ← BitVec.ofNat_mul, ← BitVec.ofNat_add, ← BitVec.ofNat_add]
    simp only [Nat.zero_mul, Nat.zero_add, Nat.mul_comm]
  rw [e]
  exact slt_small (by omega) (by omega)

/-- A zero-one word read as a number. -/
theorem bit_num (P : Prop) [Decidable P] (b : BitVec 1) (h : b = 1#1 ↔ P) :
    ((((b.setWidth 32).toInt : ℝ)) : EReal) = (((if P then 1 else 0 : ℝ)) : EReal) := by
  rcases (show ∀ b : BitVec 1, b = 0#1 ∨ b = 1#1 by decide) b with rfl | rfl
  · rw [if_neg (fun hp => by have := h.2 hp; revert this; decide)]; simp
  · rw [if_pos (h.1 rfl)]; simp

/-- The matrix whose entry is one where the row comes later. -/
theorem pay3_eq : k0_pay3 (F := Ideal) = re2 fun p r => if r < p then 1 else 0 := by
  funext y
  have h0 := idx2_lt0 y
  have h1 := idx2_lt1 y
  refine bit_num (((y 1).val : ℕ) < (y 0).val) _ ?_
  refine Iff.trans ?_ (slt_small (a := (y 1).val) (b := (y 0).val) (by omega) (by omega))
  rw [show (BitVec.ofNat 32 (y 0).val : BitVec 32) = BitVec.ofNat 32 (0 * 128 + (y 0).val) by rw [Nat.zero_mul, Nat.zero_add],
    show (BitVec.ofNat 32 (y 1).val : BitVec 32) = BitVec.ofNat 32 (0 * 128 + (y 1).val) by rw [Nat.zero_mul, Nat.zero_add]]
  rfl

/-- The matrix whose entry is one where the row comes earlier. -/
theorem pay4_eq : k0_pay4 (F := Ideal) = re2 fun p r => if p < r then 1 else 0 := by
  funext y
  have h0 := idx2_lt0 y
  have h1 := idx2_lt1 y
  refine bit_num (((y 0).val : ℕ) < (y 1).val) _ ?_
  refine Iff.trans ?_ (slt_small (a := (y 0).val) (b := (y 1).val) (by omega) (by omega))
  rw [show (BitVec.ofNat 32 (y 0).val : BitVec 32) = BitVec.ofNat 32 (0 * 128 + (y 0).val) by rw [Nat.zero_mul, Nat.zero_add],
    show (BitVec.ofNat 32 (y 1).val : BitVec 32) = BitVec.ofNat 32 (0 * 128 + (y 1).val) by rw [Nat.zero_mul, Nat.zero_add]]
  rfl

variable (H : Head) (i j : ℕ)

/-- Rows of query block `i`. -/
def qB (X : ℕ → ℕ → ℝ) (i : ℕ) : S256x128.Idx → EReal := re2 fun p d => X (256 * i + p) d
/-- Rows of key block `j`. -/
def kB (X : ℕ → ℕ → ℝ) (j : ℕ) : S128x128.Idx → EReal := re2 fun r d => X (128 * j + r) d
/-- The block of a matrix at query block `i` and key block `j`. -/
def qkB (X : ℕ → ℕ → ℝ) (i j : ℕ) : S256x128.Idx → EReal := re2 fun p r => X (256 * i + p) (128 * j + r)
/-- The sums of a matrix's rows up to key `N`, for query block `i`. -/
def upB (X : ℕ → ℕ → ℝ) (i N : ℕ) : S256x1.Idx → EReal := re2 fun p _ => ∑ u ∈ range N, X (256 * i + p) u

/-- The scores of a block. -/
theorem pay18_eq (hc : H.c = scale) : k0_pay18 (F := Ideal) (qB H.Q i) (kB H.K j) = qkB H.score i j := by
  unfold qB kB qkB
  simp only [k0_pay18]
  rw [re_mm11 (φ₁ := .bf16) (φ₂ := .bf16), re_const (φ := .f32) _ scale ofBits_scale, re_mul (φ := .f32), ← hc]
  rfl

/-- The log-probabilities of passing a block's keys. -/
theorem pay20_eq (hc : H.c = scale) : k0_pay20 (F := Ideal) (qB H.Q i) (kB H.K j) = qkB (fun t s => -sp (H.score t s)) i j := by
  simp only [k0_pay20]
  rw [pay18_eq H i j hc]
  unfold qkB
  rw [re_zero, re_const (φ := .f32) _ 1 ofBits_one, re_max (φ := .f32), re_abs (φ := .f32), re_sub (φ := .f32), re_exp (φ := .f32),
    re_add (φ := .f32), re_log (φ := .f32) _ (fun _ _ => by positivity), re_add (φ := .f32), re_sub (φ := .f32)]
  refine re2_congr fun p _ r _ => ?_
  simp only [sp, zero_sub]

/-- The masked log-probabilities of a block. -/
theorem failT_eq (hc : H.c = scale) (hi : i < 32) (hj : j < 64) :
    Sb.failT (F := Ideal) (BitVec.ofNat 32 i) (BitVec.ofNat 32 j) (qB H.Q i) (kB H.K j) = qkB H.fail i j := by
  unfold Sb.failT
  rw [pay20_eq H i j hc, re_zero]
  exact re_select _ _ _ (fun p r => 128 * j + r < 256 * i + p) (mask_iff i j hi hj)

/-- Nothing is left of a real block after its leading part. -/
theorem rest_eq (a : ℕ → ℕ → ℝ) : Sb.restT (F := Ideal) (re2 a) = re2 fun _ _ => 0 := by
  unfold Sb.restT Sb.hiT
  rw [re_trunc (φ := .f32) (ψ := .bf16), re_ext (φ := .bf16) (ψ := .f32), re_sub (φ := .f32)]
  exact re2_congr fun p _ r _ => sub_self _

/-- The weights of a block. -/
theorem probT_eq (hc : H.c = scale) (hi : i < 32) (hj : j < 2 * i + 2) :
    Sb.probT (F := Ideal) (BitVec.ofNat 32 i) (BitVec.ofNat 32 j) (qB H.Q i) (kB H.K j) (upB H.fail i (256 * i + 256)) (upB H.fail i (128 * j))
      = qkB H.prob i j := by
  unfold Sb.probT
  rw [failT_eq H i j hc hi (by omega), pay18_eq H i j hc, pay20_eq H i j hc, pay3_eq]
  unfold qkB upB
  rw [rest_eq, rest_eq, re_rows]
  unfold Sb.scan2T Sb.hiT
  rw [rest_eq, re_trunc (φ := .f32) (ψ := .bf16), re_trunc (φ := .f32) (ψ := .bf16), re_mm10 (φ₁ := .bf16) (φ₂ := .bf16), re_mm10 (φ₁ := .bf16) (φ₂ := .bf16),
    re_add (φ := .f32)]
  simp only [k0_pay28]
  rw [re_mm10 (φ₁ := .bf16) (φ₂ := .bf16), re_add (φ := .f32), re_sub (φ := .f32), re_sub (φ := .f32), re_spread, re_add (φ := .f32), re_add (φ := .f32),
    re_add (φ := .f32), re_exp (φ := .f32), re_zero]
  rw [re_select _ _ _ (fun p r => 128 * j + r < 256 * i + p) (mask_iff i j hi (by omega))]
  refine re2_congr fun p hp r hr => ?_
  unfold Head.prob
  rw [H.after_block (256 * i + p) j r (256 * i + 256) hr (by omega) (by omega) (by omega)]
  simp only [zero_mul, sum_const_zero, add_zero]
  rfl

/-- The gradients of the weights of a block. -/
theorem dprob_eq : (matmul (F := Ideal) (φ₁ := .bf16) (φ₂ := .bf16) dot_S256x128_S128x128_S256x128_1_1_0_0_n_n none (qB H.G i) (kB H.V j)
    (constant S256x128 .f32 0x00000000#32) : FVec Ideal S256x128 .f32) = qkB H.dprob i j := by
  unfold qB kB qkB
  rw [re_mm11 (φ₁ := .bf16) (φ₂ := .bf16)]
  rfl

/-- The weights times their gradients. -/
theorem massT_eq (hc : H.c = scale) (hi : i < 32) (hj : j < 2 * i + 2) :
    Sb.massT (F := Ideal) (BitVec.ofNat 32 i) (BitVec.ofNat 32 j) (qB H.Q i) (qB H.G i) (kB H.K j) (kB H.V j) (upB H.fail i (256 * i + 256))
      (upB H.fail i (128 * j)) = qkB H.mass i j := by
  unfold Sb.massT
  rw [probT_eq H i j hc hi hj, dprob_eq]
  unfold qkB
  rw [re_mul (φ := .f32)]
  rfl

/-- The scaled gradient of the scores of a block. -/
theorem dscoreT_eq (hc : H.c = scale) (hi : i < 32) (hj : j < 2 * i + 2) :
    Sb.dscoreT (F := Ideal) (BitVec.ofNat 32 i) (BitVec.ofNat 32 j) (qB H.Q i) (qB H.G i) (kB H.K j) (kB H.V j) (upB H.fail i (256 * i + 256))
      (upB H.fail i (128 * j)) (upB H.mass i (128 * j)) = qkB H.dscore i j := by
  have hm := massT_eq H i j hc hi hj
  unfold Sb.massT Sb.probT at hm
  unfold Sb.dscoreT
  simp only [k0_pay30, k0_pay29]
  rw [hm, pay18_eq H i j hc, pay20_eq H i j hc, pay4_eq]
  unfold qkB upB
  rw [re_trunc (φ := .f32) (ψ := .bf16), re_ext (φ := .bf16) (ψ := .f32), re_sub (φ := .f32), re_trunc (φ := .f32) (ψ := .bf16), re_ext (φ := .bf16) (ψ := .f32),
    re_sub (φ := .f32), re_trunc (φ := .f32) (ψ := .bf16), re_mm10 (φ₁ := .bf16) (φ₂ := .bf16), re_mm10 (φ₁ := .bf16) (φ₂ := .bf16), re_mm10 (φ₁ := .bf16) (φ₂ := .bf16),
    re_add (φ := .f32), re_add (φ := .f32), re_spread, re_add (φ := .f32), re_add (φ := .f32), re_exp (φ := .f32), re_const (φ := .f32) _ 1 ofBits_one,
    re_sub (φ := .f32), re_mul (φ := .f32), re_mul (φ := .f32), re_sub (φ := .f32), re_zero]
  rw [re_select _ _ _ (fun p r => 128 * j + r < 256 * i + p) (mask_iff i j hi (by omega)), re_const (φ := .f32) _ scale ofBits_scale, re_mul (φ := .f32),
    re_trunc (φ := .f32) (ψ := .bf16)]
  refine re2_congr fun p hp r hr => ?_
  unfold Head.dscore
  rw [H.before_block (256 * i + p) j r hr, hc]
  simp only [sub_self, zero_mul, sum_const_zero, add_zero, ite_mul, sig, sub_eq_add_neg]

end Cert.Proof.Va

end
-- ==== Proof.Va.Trip.lean ====
/- The search and the trips of one grid point on real arguments, in closed form. -/
module

public import proofs.«01_k».proof.Proof.Va.Tile

@[expose] public section

noncomputable section

namespace Cert.Proof.Va

open Cert.KernelIdeal Cert.KernelIdeal.Gen
open Idealize.ShloMosaic Idealize.ShloMosaic.ValueIdx
open Finset

/-- A key block of a real column block. -/
theorem getT_re (X : ℕ → ℕ → ℝ) (j : ℕ) (hj : j < 64) : Sb.getT (re2 X : S8192x128.Idx → EReal) j = kB X j := by
  funext y
  have h0 := idx2_lt0 y
  show ((X ((j * 128 + (y 0).val) % 8192) (y 1).val : ℝ) : EReal) = ((X (128 * j + (y 0).val) (y 1).val : ℝ) : EReal)
  rw [Nat.mod_eq_of_lt (by omega), Nat.mul_comm j]

/-- A real column block with a real block over one of its key blocks. -/
theorem putT_re (X w : ℕ → ℕ → ℝ) (j : ℕ) : Sb.putT (re2 X : S8192x128.Idx → EReal) j (re2 w)
    = re2 fun s d => if 128 * j ≤ s ∧ s < 128 * j + 128 then w (s - 128 * j) d else X s d := by
  funext y
  have h1 := idx2_lt1 y
  unfold Sb.putT VecWindow.put
  by_cases h : 128 * j ≤ (y 0).val ∧ (y 0).val < 128 * j + 128
  · rw [dif_pos (fun a => by
      fin_cases a
      · show j * 128 ≤ (y 0).val ∧ (y 0).val < j * 128 + 128
        omega
      · show 0 ≤ (y 1).val ∧ (y 1).val < 0 + 128
        omega)]
    refine congrArg Real.toEReal ?_
    show w ((y 0).val - j * 128) ((y 1).val - 0) = if _ then _ else _
    rw [if_pos h, Nat.mul_comm j, Nat.sub_zero]
  · rw [dif_neg (fun hh => h (by
      have h0 : j * 128 ≤ (y 0).val ∧ (y 0).val < j * 128 + 128 := hh 0
      omega))]
    exact congrArg Real.toEReal (if_neg h).symm

variable (H : Head) (i : ℕ) (hc : H.c = scale) (hi : i < 32)

/-- What the rows of a query block add to a key's sums. -/
def share (X Y : ℕ → ℕ → ℝ) (i s d : ℕ) : ℝ := ∑ p ∈ range 256, X (256 * i + p) s * Y (256 * i + p) d

/-- The state after `n` key blocks. -/
def trips (A B : ℕ → ℕ → ℝ) (n : ℕ) : Sb.St Ideal where
  passed := upB H.fail i (128 * n)
  mass := upB H.mass i (128 * n)
  dq := re2 fun p d => ∑ u ∈ range (128 * n), H.dscore (256 * i + p) u * H.K u d
  dk := (re2 fun s d => A s d + if s < 128 * n then share H.dscore H.Q i s d else 0 : S8192x128.Idx → EReal)
  dv := (re2 fun s d => B s d + if s < 128 * n then share H.prob H.G i s d else 0 : S8192x128.Idx → EReal)

/-- Sums over the keys, one block further. -/
theorem upB_succ (X : ℕ → ℕ → ℝ) (j : ℕ) : (addf (F := Ideal) (φ := .f32) (s := S256x1) (upB X i (128 * j)) (Sb.rowsT (F := Ideal) (qkB X i j))) = upB X i (128 * (j + 1)) := by
  unfold upB qkB
  rw [re_rows, re_add (φ := .f32)]
  refine re2_congr fun p _ r _ => ?_
  rw [Nat.mul_add, mul_one, sum_range_add]

/-- An accumulator, one block further. -/
theorem acc_succ (A X Y : ℕ → ℕ → ℝ) (j : ℕ) (hj : j < 64) :
    Sb.putT (re2 fun s d => A s d + if s < 128 * j then share X Y i s d else 0 : S8192x128.Idx → EReal) j
      (addf (F := Ideal) (φ := .f32) (s := S128x128) (Sb.getT (re2 fun s d => A s d + if s < 128 * j then share X Y i s d else 0 : S8192x128.Idx → EReal) j)
        (matmul (F := Ideal) (φ₁ := .bf16) (φ₂ := .bf16) dot_S256x128_S256x128_S128x128_0_0_1_1_n_n none (qkB X i j) (qB Y i) (constant S128x128 .f32 0x00000000#32)))
    = (re2 fun s d => A s d + if s < 128 * (j + 1) then share X Y i s d else 0 : S8192x128.Idx → EReal) := by
  rw [getT_re _ _ hj]
  unfold qkB qB kB
  rw [re_mm00 (φ₁ := .bf16) (φ₂ := .bf16), re_add (φ := .f32), putT_re]
  refine re2_congr fun s _ d _ => ?_
  by_cases h : 128 * j ≤ s ∧ s < 128 * j + 128
  · rw [if_pos h, if_pos (show s < 128 * (j + 1) by omega), show 128 * j + (s - 128 * j) = s by omega]
    show (A s d + if s < 128 * j then _ else (0 : ℝ)) + _ = _
    rw [if_neg (show ¬s < 128 * j by omega), add_zero]
    rfl
  · rw [if_neg h]
    by_cases h2 : s < 128 * j
    · rw [if_pos h2, if_pos (by omega)]
    · rw [if_neg h2, if_neg (by omega)]

include hc hi in
/-- One trip takes the state one block further. -/
theorem tripT_eq (A B : ℕ → ℕ → ℝ) (j : ℕ) (hj : j < 2 * i + 2) :
    Sb.tripT (F := Ideal) (BitVec.ofNat 32 i) (qB H.Q i) (qB H.G i) (re2 H.K) (re2 H.V) (upB H.fail i (256 * i + 256)) j (trips H i A B j)
      = trips H i A B (j + 1) := by
  have hj' : j < 64 := by omega
  unfold Sb.tripT
  rw [getT_re _ _ hj', getT_re _ _ hj']
  have e1 := failT_eq H i j hc hi hj'
  have e2 := probT_eq H i j hc hi hj
  have e3 := massT_eq H i j hc hi hj
  have e4 := dscoreT_eq H i j hc hi hj
  unfold trips
  dsimp only
  rw [e1, e2, e3, e4, upB_succ]
  congr 1
  · exact upB_succ i H.mass j
  · unfold qkB kB
    rw [re_mm10 (φ₁ := .bf16) (φ₂ := .bf16), re_add (φ := .f32)]
    refine re2_congr fun p _ r _ => ?_
    rw [Nat.mul_add, mul_one, sum_range_add]
  · refine Eq.trans ?_ (acc_succ i A H.dscore H.Q j hj')
    simp only [k0_pay8, k0_pay32, shapeCast_id]
  · refine Eq.trans ?_ (acc_succ i B H.prob H.G j hj')
    simp only [k0_pay9, shapeCast_id]
    rfl

/-- Before the first trip nothing has been added. -/
theorem start_eq (A B : ℕ → ℕ → ℝ) : Sb.startT (F := Ideal) (re2 A) (re2 B) = trips H i A B 0 := by
  unfold Sb.startT trips upB k0_pay6 k0_pay7
  congr 1
  · exact re_zero.trans (re2_congr fun p _ r _ => by simp)
  · exact re_zero.trans (re2_congr fun p _ r _ => by simp)
  · exact re_zero.trans (re2_congr fun p _ r _ => by simp)
  · exact re2_congr fun p _ r _ => by simp
  · exact re2_congr fun p _ r _ => by simp

include hc hi in
/-- The state after `n` trips from the first key block. -/
theorem runT_eq (A B : ℕ → ℕ → ℝ) (n : ℕ) (hn : n ≤ 2 * i + 2) :
    Sb.runT (F := Ideal) (BitVec.ofNat 32 i) (qB H.Q i) (qB H.G i) (re2 H.K) (re2 H.V) (upB H.fail i (256 * i + 256)) 0 (Sb.startT (re2 A) (re2 B)) n
      = trips H i A B n := by
  induction n with
  | zero => exact start_eq H i A B
  | succ n ih =>
    unfold Sb.runT
    rw [ih (by omega), Nat.zero_add]
    exact tripT_eq H i hc hi A B n (by omega)

/-- Every row passes the threshold that stands for minus infinity. -/
theorem live_eq (g : grid0.Coords) (q : FVec Ideal S256x128 .bf16) (K : S8192x128.Idx → Elt Ideal .bf16) (j : ℕ) (r : FVec Ideal S256x1 .f32) :
    Sb.liveT (F := Ideal) g q K j r = 1#1 := by
  unfold Sb.liveT
  show BitVec.ofBool (decide ((⊥ : EReal) ≤ (k0_pay17 (F := Ideal) g q (BitVec.ofNat 32 j) r (Sb.getT K j) : EReal))) = 1#1
  rw [decide_eq_true bot_le]
  rfl

/-- The sums of a matrix's rows from key `lo` up to key `N`. -/
def fromB (X : ℕ → ℕ → ℝ) (i lo N : ℕ) : S256x1.Idx → EReal := re2 fun p _ => ∑ u ∈ Ico lo N, X (256 * i + p) u

include hc hi in
/-- The search adds one key block. -/
theorem seen_eq (g : grid0.Coords) (hg : (g 1).val = i) (j : ℕ) (hj : j < 2 * i + 2) :
    Sb.seenT (F := Ideal) g (qB H.Q i) (re2 H.K) j (fromB H.fail i (128 * (j + 1)) (256 * i + 256)) = fromB H.fail i (128 * j) (256 * i + 256) := by
  have e1 := failT_eq H i j hc hi (by omega)
  have e : Sb.seenT (F := Ideal) g (qB H.Q i) (re2 H.K) j (fromB H.fail i (128 * (j + 1)) (256 * i + 256))
      = addf (F := Ideal) (φ := .f32) (s := S256x1) (fromB H.fail i (128 * (j + 1)) (256 * i + 256))
        (Sb.rowsT (F := Ideal) (Sb.failT (F := Ideal) (BitVec.ofNat 32 (g 1).val) (BitVec.ofNat 32 j) (qB H.Q i) (Sb.getT (re2 H.K : S8192x128.Idx → EReal) j))) := rfl
  rw [e, hg, getT_re _ _ (by omega), e1]
  unfold fromB qkB
  rw [re_rows, re_add (φ := .f32)]
  refine re2_congr fun p _ r _ => ?_
  rw [← sum_Ico_consecutive _ (show 128 * j ≤ 128 * (j + 1) by omega) (show 128 * (j + 1) ≤ 256 * i + 256 by omega), add_comm,
    sum_Ico_eq_sum_range _ (128 * j), show 128 * (j + 1) - 128 * j = 128 by omega]

include hc hi in
/-- The search goes down to the first key block, and sums every key. -/
theorem find_eq (g : grid0.Coords) (hg : (g 1).val = i) (j : ℕ) (hj : j < 2 * i + 2) :
    Sb.findT (F := Ideal) g (qB H.Q i) (re2 H.K) j (fromB H.fail i (128 * (j + 1)) (256 * i + 256)) = (0, upB H.fail i (256 * i + 256)) := by
  induction j with
  | zero =>
    unfold Sb.findT
    rw [seen_eq H i hc hi g hg 0 hj]
    unfold fromB upB
    simp only [Nat.mul_zero, range_eq_Ico]
  | succ j ih =>
    unfold Sb.findT
    rw [if_pos (live_eq _ _ _ _ _), seen_eq H i hc hi g hg (j + 1) hj]
    exact ih (by omega)

include hc hi in
/-- A grid point's state. -/
theorem stepT_eq (g : grid0.Coords) (hg : (g 1).val = i) (A B : ℕ → ℕ → ℝ) :
    Sb.stepT (F := Ideal) g (qB H.Q i) (qB H.G i) (re2 H.K) (re2 H.V) (re2 A) (re2 B) = trips H i A B (2 * i + 2) := by
  have e := find_eq H i hc hi g hg (2 * i + 1) (by omega)
  have e5 : k0_pay5 (F := Ideal) = fromB H.fail i (128 * (2 * i + 1 + 1)) (256 * i + 256) := by
    unfold k0_pay5 fromB
    exact re_zero.trans (re2_congr fun p _ r _ => by rw [Ico_eq_empty (by omega), sum_empty])
  unfold Sb.stepT
  rw [hg, e5, e]
  exact runT_eq H i hc hi A B _ (by omega)

end Cert.Proof.Va

end
-- ==== Proof.Va.State.lean ====
/- The state after every grid point on real arguments, and the three result arrays in closed form. -/
module

public import proofs.«01_k».proof.Proof.Va.Trip
public import proofs.«01_k».proof.Proof.Sb.Run
public import Idealize.ShloMosaic.Lib.Pipeline.ValueKit

@[expose] public section

noncomputable section

namespace Cert.Proof.Va

open Cert.KernelIdeal Cert.KernelIdeal.Gen
open Idealize.ShloMosaic Idealize.ShloMosaic.TcCoe Idealize.ShloMosaic.ValueIdx
open Finset

/-- One head of four real arrays of eight heads side by side. -/
def hd (q k v g : ℕ → ℕ → ℝ) (h : ℕ) : Head where
  c := scale
  Q t d := q t (128 * h + d)
  K t d := k t (128 * h + d)
  V t d := v t (128 * h + d)
  G t d := g t (128 * h + d)

/-- What the rows before a query block have added to a key's sums. -/
def part (X Y : ℕ → ℕ → ℝ) (i s d : ℕ) : ℝ := ∑ t ∈ range (256 * i), X t s * Y t d

/-- One query block further: keys after the block's last row get nothing. -/
theorem part_succ (X Y : ℕ → ℕ → ℝ) (hX : ∀ t s, t ≤ s → X t s = 0) (i s d : ℕ) :
    part X Y i s d + (if s < 128 * (2 * i + 2) then share X Y i s d else 0) = part X Y (i + 1) s d := by
  unfold part share
  rw [show 256 * (i + 1) = 256 * i + 256 by ring, sum_range_add]
  refine congrArg _ ?_
  split_ifs with h
  · rfl
  · refine (sum_eq_zero fun p hp => ?_).symm
    have := mem_range.1 hp
    rw [hX _ _ (by omega), zero_mul]

theorem idx0 : ∀ t : Fin grid0.N, win0_0.index t = ![t.val % 32, t.val / 32] := by decide +kernel
theorem idx1 : ∀ t : Fin grid0.N, win0_1.index t = ![t.val % 32, t.val / 32] := by decide +kernel
theorem idx2 : ∀ t : Fin grid0.N, win0_2.index t = ![0, t.val / 32] := by decide +kernel
theorem idx3 : ∀ t : Fin grid0.N, win0_3.index t = ![0, t.val / 32] := by decide +kernel
theorem idx4 : ∀ t : Fin grid0.N, win0_4.index t = ![t.val % 32, t.val / 32] := by decide +kernel
theorem idx5 : ∀ t : Fin grid0.N, win0_5.index t = ![0, t.val / 32] := by decide +kernel
theorem idx6 : ∀ t : Fin grid0.N, win0_6.index t = ![0, t.val / 32] := by decide +kernel

variable (m : (ℓ : Loc nD τ Cert.KernelIdeal.sig) → Buf (Elt Ideal) ℓ) (c : Dev nD)
variable (q k v g : ℕ → ℕ → ℝ)

/-- The query block of a grid point. -/
theorem block0 (hq : Sb.entry m c main_arg0 = (re2 q : S8192x1024.Idx → EReal)) (t : Fin grid0.N) :
    (Sb.blockAt (F := Ideal) m c 0 t : S256x128.Idx → EReal) = qB (hd q k v g (t.val / 32)).Q (t.val % 32) := by
  funext y
  show Sb.entry m c main_arg0 (((cfg0.win 0).blk t).view.emb y) = _
  rw [hq]
  show ((q ((((cfg0.win 0).blk t).view.emb y) 0).val ((((cfg0.win 0).blk t).view.emb y) 1).val : ℝ) : EReal) = ((q (256 * (t.val % 32) + (y 0).val) (128 * (t.val / 32) + (y 1).val) : ℝ) : EReal)
  refine congrArg Real.toEReal (congrArg₂ q ?_ ?_)
  · blk_simp [idx0]; omega
  · blk_simp [idx0]; omega

/-- The block of the gradient coming in. -/
theorem block1 (hg : Sb.entry m c main_arg3 = (re2 g : S8192x1024.Idx → EReal)) (t : Fin grid0.N) :
    (Sb.blockAt (F := Ideal) m c 1 t : S256x128.Idx → EReal) = qB (hd q k v g (t.val / 32)).G (t.val % 32) := by
  funext y
  show Sb.entry m c main_arg3 (((cfg0.win 1).blk t).view.emb y) = _
  rw [hg]
  show ((g ((((cfg0.win 1).blk t).view.emb y) 0).val ((((cfg0.win 1).blk t).view.emb y) 1).val : ℝ) : EReal) = ((g (256 * (t.val % 32) + (y 0).val) (128 * (t.val / 32) + (y 1).val) : ℝ) : EReal)
  refine congrArg Real.toEReal (congrArg₂ g ?_ ?_)
  · blk_simp [idx1]; omega
  · blk_simp [idx1]; omega

/-- The head's keys. -/
theorem block2 (hk : Sb.entry m c main_arg1 = (re2 k : S8192x1024.Idx → EReal)) (t : Fin grid0.N) :
    (Sb.blockAt (F := Ideal) m c 2 t : S8192x128.Idx → EReal) = re2 (hd q k v g (t.val / 32)).K := by
  funext y
  show Sb.entry m c main_arg1 (((cfg0.win 2).blk t).view.emb y) = _
  rw [hk]
  show ((k ((((cfg0.win 2).blk t).view.emb y) 0).val ((((cfg0.win 2).blk t).view.emb y) 1).val : ℝ) : EReal) = ((k ((y 0).val) (128 * (t.val / 32) + (y 1).val) : ℝ) : EReal)
  refine congrArg Real.toEReal (congrArg₂ k ?_ ?_)
  · blk_simp [idx2]
  · blk_simp [idx2]; omega

/-- The head's values. -/
theorem block3 (hv : Sb.entry m c main_arg2 = (re2 v : S8192x1024.Idx → EReal)) (t : Fin grid0.N) :
    (Sb.blockAt (F := Ideal) m c 3 t : S8192x128.Idx → EReal) = re2 (hd q k v g (t.val / 32)).V := by
  funext y
  show Sb.entry m c main_arg2 (((cfg0.win 3).blk t).view.emb y) = _
  rw [hv]
  show ((v ((((cfg0.win 3).blk t).view.emb y) 0).val ((((cfg0.win 3).blk t).view.emb y) 1).val : ℝ) : EReal) = ((v ((y 0).val) (128 * (t.val / 32) + (y 1).val) : ℝ) : EReal)
  refine congrArg Real.toEReal (congrArg₂ v ?_ ?_)
  · blk_simp [idx3]
  · blk_simp [idx3]; omega

variable (hq : Sb.entry m c main_arg0 = (re2 q : S8192x1024.Idx → EReal)) (hk : Sb.entry m c main_arg1 = (re2 k : S8192x1024.Idx → EReal))
  (hv : Sb.entry m c main_arg2 = (re2 v : S8192x1024.Idx → EReal)) (hg : Sb.entry m c main_arg3 = (re2 g : S8192x1024.Idx → EReal))

include hq hk hv hg in
/-- One grid point, on accumulators that hold what the rows before it have added, or anything at the head's first. -/
theorem point_eq (t : Fin grid0.N) (X7 X8 : S8192x128.Idx → EReal)
    (h7 : t.val % 32 ≠ 0 → X7 = re2 (part (hd q k v g (t.val / 32)).dscore (hd q k v g (t.val / 32)).Q (t.val % 32)))
    (h8 : t.val % 32 ≠ 0 → X8 = re2 (part (hd q k v g (t.val / 32)).prob (hd q k v g (t.val / 32)).G (t.val % 32))) :
    Sb.pointT (F := Ideal) m c t X7 X8 = trips (hd q k v g (t.val / 32)) (t.val % 32)
      (part (hd q k v g (t.val / 32)).dscore (hd q k v g (t.val / 32)).Q (t.val % 32))
      (part (hd q k v g (t.val / 32)).prob (hd q k v g (t.val / 32)).G (t.val % 32)) (2 * (t.val % 32) + 2) := by
  have e1 : Sb.clearT (F := Ideal) (grid0.coords t) (k0_pay1 (F := Ideal)) X7 = re2 (part (hd q k v g (t.val / 32)).dscore (hd q k v g (t.val / 32)).Q (t.val % 32)) := by
    unfold Sb.clearT
    rw [Sb.coord1]
    split_ifs with h
    · exact re_zero.trans (re2_congr fun p _ r _ => by simp [part, h])
    · exact h7 h
  have e2 : Sb.clearT (F := Ideal) (grid0.coords t) (k0_pay2 (F := Ideal)) X8 = re2 (part (hd q k v g (t.val / 32)).prob (hd q k v g (t.val / 32)).G (t.val % 32)) := by
    unfold Sb.clearT
    rw [Sb.coord1]
    split_ifs with h
    · exact re_zero.trans (re2_congr fun p _ r _ => by simp [part, h])
    · exact h8 h
  unfold Sb.pointT Sb.lastT
  rw [e1, e2, block0 m c q k v g hq, block1 m c q k v g hg, block2 m c q k v g hk, block3 m c q k v g hv]
  exact stepT_eq _ _ rfl (Nat.mod_lt _ (by decide)) _ (Sb.coord1 t) _ _

/-- What a point leaves in the key accumulator. -/
theorem dk_next (H : Head) (i : ℕ) (B : ℕ → ℕ → ℝ) : (trips H i (part H.dscore H.Q i) B (2 * i + 2)).dk = re2 (part H.dscore H.Q (i + 1)) :=
  re2_congr fun s _ d _ => part_succ _ _ (fun _ _ => H.dscore_eq_zero) i s d

/-- What a point leaves in the value accumulator. -/
theorem dv_next (H : Head) (i : ℕ) (A : ℕ → ℕ → ℝ) : (trips H i A (part H.prob H.G i) (2 * i + 2)).dv = re2 (part H.prob H.G (i + 1)) :=
  re2_congr fun s _ d _ => part_succ _ _ (fun _ _ => H.prob_eq_zero) i s d

include hq hk hv hg in
/-- The state after every grid point. -/
theorem state_eq (n : ℕ) (hn : n < grid0.N) : Sb.stateAt (F := Ideal) m c n hn = trips (hd q k v g (n / 32)) (n % 32)
      (part (hd q k v g (n / 32)).dscore (hd q k v g (n / 32)).Q (n % 32))
      (part (hd q k v g (n / 32)).prob (hd q k v g (n / 32)).G (n % 32)) (2 * (n % 32) + 2) := by
  induction n with
  | zero => exact point_eq m c q k v g hq hk hv hg ⟨0, hn⟩ _ _ (fun h => absurd rfl h) (fun h => absurd rfl h)
  | succ n ih =>
    unfold Sb.stateAt
    refine point_eq m c q k v g hq hk hv hg ⟨n + 1, hn⟩ _ _ (fun h => ?_) (fun h => ?_)
    · have h1 : (n + 1) % 32 ≠ 0 := h
      have h2 : (n + 1) / 32 = n / 32 := by omega
      have h3 : (n + 1) % 32 = n % 32 + 1 := by omega
      show _ = re2 (part (hd q k v g ((n + 1) / 32)).dscore (hd q k v g ((n + 1) / 32)).Q ((n + 1) % 32))
      rw [ih (Nat.lt_of_succ_lt hn), h2, h3]
      exact dk_next _ _ _
    · have h1 : (n + 1) % 32 ≠ 0 := h
      have h2 : (n + 1) / 32 = n / 32 := by omega
      have h3 : (n + 1) % 32 = n % 32 + 1 := by omega
      show _ = re2 (part (hd q k v g ((n + 1) / 32)).prob (hd q k v g ((n + 1) / 32)).G ((n + 1) % 32))
      rw [ih (Nat.lt_of_succ_lt hn), h2, h3]
      exact dv_next _ _ _

/-- The three gradients of all heads side by side. -/
def outQ (t x : ℕ) : ℝ := (hd q k v g (x / 128)).dQ t (x % 128)
def outK (s x : ℕ) : ℝ := (hd q k v g (x / 128)).dK s (x % 128)
def outV (s x : ℕ) : ℝ := (hd q k v g (x / 128)).dV s (x % 128)

include hq hk hv hg in
/-- The query gradients' array. -/
theorem final4 : (Sb.dats (F := Ideal) m 0 c).arrAt 4 (cfg0 (F := Ideal)).N = (re2 (outQ q k v g) : S8192x1024.Idx → EReal) := by
  refine (Sb.dats m 0 c).arrAt_eq_of_covers 4 _ (by decide +kernel) fun t hf y => ?_
  blk_simp
  rw [Sb.after4, state_eq m c q k v g hq hk hv hg]
  show ((_ : ℝ) : EReal) = ((outQ q k v g ((((cfg0.win 4).blk t).view.emb y) 0).val ((((cfg0.win 4).blk t).view.emb y) 1).val : ℝ) : EReal)
  refine congrArg Real.toEReal ?_
  have e0 : ((((cfg0 (F := Ideal)).win 4).blk t).view.emb y 0).val = 256 * (t.val % 32) + (y 0).val := by blk_simp [idx4]; omega
  have e1 : ((((cfg0 (F := Ideal)).win 4).blk t).view.emb y 1).val = 128 * (t.val / 32) + (y 1).val := by blk_simp [idx4]; omega
  have h1 : (y 1).val < 128 := (y 1).isLt
  have h0 : (y 0).val < 256 := (y 0).isLt
  rw [e0, e1]
  unfold outQ
  rw [show (128 * (t.val / 32) + (y 1).val) / 128 = t.val / 32 by omega, show (128 * (t.val / 32) + (y 1).val) % 128 = (y 1).val by omega,
    Head.dQ_eq _ _ _ (128 * (2 * (t.val % 32) + 2)) (by omega) (by omega)]

include hq hk hv hg in
/-- The key gradients' array. -/
theorem final5 : (Sb.dats (F := Ideal) m 0 c).arrAt 5 (cfg0 (F := Ideal)).N = (re2 (outK q k v g) : S8192x1024.Idx → EReal) := by
  refine (Sb.dats m 0 c).arrAt_eq_of_covers 5 _ (by decide +kernel) fun t hf y => ?_
  have h31 : t.val % 32 = 31 := (flush0_5 t).mp hf
  blk_simp
  rw [Sb.after5, state_eq m c q k v g hq hk hv hg, dk_next]
  show ((_ : ℝ) : EReal) = ((outK q k v g ((((cfg0.win 5).blk t).view.emb y) 0).val ((((cfg0.win 5).blk t).view.emb y) 1).val : ℝ) : EReal)
  refine congrArg Real.toEReal ?_
  have e0 : ((((cfg0 (F := Ideal)).win 5).blk t).view.emb y 0).val = (y 0).val := by blk_simp [idx5]
  have e1 : ((((cfg0 (F := Ideal)).win 5).blk t).view.emb y 1).val = 128 * (t.val / 32) + (y 1).val := by blk_simp [idx5]; omega
  have h1 : (y 1).val < 128 := (y 1).isLt
  rw [e0, e1, h31]
  unfold outK
  rw [show (128 * (t.val / 32) + (y 1).val) / 128 = t.val / 32 by omega, show (128 * (t.val / 32) + (y 1).val) % 128 = (y 1).val by omega]
  rfl

include hq hk hv hg in
/-- The value gradients' array. -/
theorem final6 : (Sb.dats (F := Ideal) m 0 c).arrAt 6 (cfg0 (F := Ideal)).N = (re2 (outV q k v g) : S8192x1024.Idx → EReal) := by
  refine (Sb.dats m 0 c).arrAt_eq_of_covers 6 _ (by decide +kernel) fun t hf y => ?_
  have h31 : t.val % 32 = 31 := (flush0_6 t).mp hf
  blk_simp
  rw [Sb.after6, state_eq m c q k v g hq hk hv hg, dv_next]
  show ((_ : ℝ) : EReal) = ((outV q k v g ((((cfg0.win 6).blk t).view.emb y) 0).val ((((cfg0.win 6).blk t).view.emb y) 1).val : ℝ) : EReal)
  refine congrArg Real.toEReal ?_
  have e0 : ((((cfg0 (F := Ideal)).win 6).blk t).view.emb y 0).val = (y 0).val := by blk_simp [idx6]
  have e1 : ((((cfg0 (F := Ideal)).win 6).blk t).view.emb y 1).val = 128 * (t.val / 32) + (y 1).val := by blk_simp [idx6]; omega
  have h1 : (y 1).val < 128 := (y 1).isLt
  rw [e0, e1, h31]
  unfold outV
  rw [show (128 * (t.val / 32) + (y 1).val) / 128 = t.val / 32 by omega, show (128 * (t.val / 32) + (y 1).val) % 128 = (y 1).val by omega]
  rfl

end Cert.Proof.Va

end
-- ==== Proof.Va.Ref.lean ====
/- The reference's arrays on real arguments, in closed form. -/
module

public import proofs.«01_k».proof.Proof.Va.Window
public import proofs.«01_k».proof.Proof.Va.State

@[expose] public section

noncomputable section

namespace Cert.Proof.Va

open Cert.ReferenceIdeal Cert.ReferenceIdeal.Gen Cert.ReferenceIdeal.Read
open Idealize.ShloMosaic Idealize.ShloMosaic.TcCoe Idealize.ShloMosaic.ValueIdx
open Finset

/-- Zero, as a word. -/
theorem ofBits_zero : (FloatOps.ofBits (F := Ideal) .f32 0x00000000#32 : EReal) = ((0 : ℝ) : EReal) := by
  show Ideal.ofBits .f32 0x00000000#32 = _
  simp [Ideal.ofBits, Ideal.ieee]

/-- The softplus as the reference computes it. -/
theorem soft_eq (x : ℝ) (X Z : EReal) (hX : X = (x : EReal)) (hZ : Z = ((0 : ℝ) : EReal)) :
    (Scalar.select (FloatOps.cmpf (F := Ideal) (φ := .f32) .une (FloatOps.subf (F := Ideal) (φ := .f32) X Z) (FloatOps.subf (F := Ideal) (φ := .f32) X Z))
      (FloatOps.addf (F := Ideal) (φ := .f32) X Z)
      (FloatOps.addf (F := Ideal) (φ := .f32) (FloatOps.maximumf (F := Ideal) (φ := .f32) X Z)
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) X Z)))))) : EReal)
      = ((sp x : ℝ) : EReal) := by
  subst hX hZ
  have hc : FloatOps.cmpf (F := Ideal) (φ := .f32) .une (FloatOps.subf (F := Ideal) (φ := .f32) (x : EReal) ((0 : ℝ) : EReal))
      (FloatOps.subf (F := Ideal) (φ := .f32) (x : EReal) ((0 : ℝ) : EReal)) = 0#1 := by
    show BitVec.ofBool (decide (_ ≠ _)) = 0#1
    simp
  rw [hc]
  show max (x : EReal) ((0 : ℝ) : EReal) + Ideal.log (1 + Ideal.exp (-(max ((x : EReal) - ((0 : ℝ) : EReal)) (-((x : EReal) - ((0 : ℝ) : EReal)))))) = _
  have e1 : (x : EReal) - ((0 : ℝ) : EReal) = (x : EReal) := by rw [← EReal.coe_sub, sub_zero]
  have e2 : max (x : EReal) (-(x : EReal)) = ((|x| : ℝ) : EReal) := by
    rw [abs_eq_max_neg, ← EReal.coe_neg]; exact (EReal.coe_strictMono.monotone.map_max).symm
  have e3 : max (x : EReal) ((0 : ℝ) : EReal) = ((max x 0 : ℝ) : EReal) := (EReal.coe_strictMono.monotone.map_max).symm
  rw [e1, e2, e3, ← EReal.coe_neg, Ideal.exp_coe, ← EReal.coe_one, ← EReal.coe_add, Ideal.log_coe, if_neg (not_le.2 (by positivity)), ← EReal.coe_add]
  rfl

/-- An argument less its softplus, as the reference guards it. -/
theorem gap_eq (x y : ℝ) (X Y Z I : EReal) (hX : X = (x : EReal)) (hY : Y = (y : EReal)) (hI : I = (⊤ : EReal)) :
    (FloatOps.hostUnary (F := Ideal) (φ := .f32) .exp (FloatOps.subf (F := Ideal) (φ := .f32)
      (Scalar.select (FloatOps.cmpf (F := Ideal) (φ := .f32) .oeq X I) Z X) (Scalar.select (FloatOps.cmpf (F := Ideal) (φ := .f32) .oeq Y I) Z Y)) : EReal)
      = ((Real.exp (x - y) : ℝ) : EReal) := by
  subst hX hY hI
  have hc : ∀ r : ℝ, FloatOps.cmpf (F := Ideal) (φ := .f32) .oeq (r : EReal) (⊤ : EReal) = 0#1 := fun r => by
    show BitVec.ofBool (decide ((r : EReal) = (⊤ : EReal))) = 0#1
    rw [decide_eq_false (EReal.coe_ne_top r)]
    rfl
  rw [hc, hc]
  show Ideal.exp ((x : EReal) - (y : EReal)) = _
  rw [← EReal.coe_sub, Ideal.exp_coe]

/-- Infinity, as a word. -/
theorem ofBits_inf : (FloatOps.ofBits (F := Ideal) .f32 0x7F800000#32 : EReal) = (⊤ : EReal) := by
  show Ideal.ofBits .f32 0x7F800000#32 = _
  simp [Ideal.ofBits, Ideal.ieee]

variable (q k v g : ℕ → ℕ → ℝ)

/-- The queries by heads. -/
theorem heads0 (i : S8x8192x128.Idx) : val_main_v4 (F := Ideal) (re2 q) i = (((hd q k v g (i 0).val).Q (i 1).val (i 2).val : ℝ) : EReal) := by
  rw [val_main_v4_apply, val_main_v3_apply, val_main_v0_apply]
  have h0 : (i 0).val < 8 := (i 0).isLt
  have h2 : (i 2).val < 128 := (i 2).isLt
  show ((q ((((i 1).val * 8 + (i 0).val) * 128 + (i 2).val) / 1024) ((((i 1).val * 8 + (i 0).val) * 128 + (i 2).val) % 1024) : ℝ) : EReal)
    = ((q (i 1).val (128 * (i 0).val + (i 2).val) : ℝ) : EReal)
  exact congrArg Real.toEReal (congrArg₂ q (by omega) (by omega))

/-- The keys by heads. -/
theorem heads1 (i : S8x8192x128.Idx) : val_main_v6 (F := Ideal) (re2 k) i = (((hd q k v g (i 0).val).K (i 1).val (i 2).val : ℝ) : EReal) := by
  rw [val_main_v6_apply, val_main_v5_apply, val_main_v1_apply]
  have h0 : (i 0).val < 8 := (i 0).isLt
  have h2 : (i 2).val < 128 := (i 2).isLt
  show ((k ((((i 1).val * 8 + (i 0).val) * 128 + (i 2).val) / 1024) ((((i 1).val * 8 + (i 0).val) * 128 + (i 2).val) % 1024) : ℝ) : EReal)
    = ((k (i 1).val (128 * (i 0).val + (i 2).val) : ℝ) : EReal)
  exact congrArg Real.toEReal (congrArg₂ k (by omega) (by omega))

/-- The values by heads. -/
theorem heads2 (i : S8x8192x128.Idx) : val_main_v8 (F := Ideal) (re2 v) i = (((hd q k v g (i 0).val).V (i 1).val (i 2).val : ℝ) : EReal) := by
  rw [val_main_v8_apply, val_main_v7_apply, val_main_v2_apply]
  have h0 : (i 0).val < 8 := (i 0).isLt
  have h2 : (i 2).val < 128 := (i 2).isLt
  show ((v ((((i 1).val * 8 + (i 0).val) * 128 + (i 2).val) / 1024) ((((i 1).val * 8 + (i 0).val) * 128 + (i 2).val) % 1024) : ℝ) : EReal)
    = ((v (i 1).val (128 * (i 0).val + (i 2).val) : ℝ) : EReal)
  exact congrArg Real.toEReal (congrArg₂ v (by omega) (by omega))

/-- The gradient coming in, by heads. -/
theorem heads3 (i : S8x8192x128.Idx) : val_main_v33 (F := Ideal) (re2 g) i = (((hd q k v g (i 0).val).G (i 1).val (i 2).val : ℝ) : EReal) := by
  rw [val_main_v33_apply, val_main_v32_apply, val_main_v31_apply]
  have h0 : (i 0).val < 8 := (i 0).isLt
  have h2 : (i 2).val < 128 := (i 2).isLt
  show ((g ((((i 1).val * 8 + (i 0).val) * 128 + (i 2).val) / 1024) ((((i 1).val * 8 + (i 0).val) * 128 + (i 2).val) % 1024) : ℝ) : EReal)
    = ((g (i 1).val (128 * (i 0).val + (i 2).val) : ℝ) : EReal)
  exact congrArg Real.toEReal (congrArg₂ g (by omega) (by omega))

/-- The scores. -/
theorem score_ref : val_main_v11 (F := Ideal) (re2 q) (re2 k) = re3 fun h t s => (hd q k v g h).score t s := by
  funext i
  rw [val_main_v11_apply, val_main_v10_apply, val_main_cst_apply, val_main_v9_apply]
  simp only [heads0 q k v g, heads1 q k v g]
  show (∑ d : Fin 128, (((hd q k v g (i 0).val).Q (i 1).val d.val : ℝ) : EReal) * (((hd q k v g (i 0).val).K (i 2).val d.val : ℝ) : EReal))
    * Ideal.ofBits .f32 0x3DB504F3#32 = _
  rw [ofBits_scale, sum_mul_coe 128 (fun d => (hd q k v g (i 0).val).Q (i 1).val d) (fun d => (hd q k v g (i 0).val).K (i 2).val d), ← EReal.coe_mul]
  rfl

/-- The gradient of the weights. -/
theorem dprob_ref : val_main_v36 (F := Ideal) (re2 v) (re2 g) = re3 fun h t s => (hd q k v g h).dprob t s := by
  funext i
  rw [val_main_v36_apply]
  simp only [heads2 q k v g, heads3 q k v g]
  exact sum_mul_coe 128 (fun d => (hd q k v g (i 0).val).G (i 1).val d) (fun d => (hd q k v g (i 0).val).V (i 2).val d)

/-- The softplus of the scores. -/
theorem soft_ref (i : S8x8192x8192.Idx) : val_main_call0_v1_0 (F := Ideal) (re2 q) (re2 k) i = ((sp ((hd q k v g (i 0).val).score (i 1).val (i 2).val) : ℝ) : EReal) := by
  rw [val_main_call0_v1_0_apply, val_main_call0_call0_v4_apply, val_main_call0_call0_v6_apply, val_main_call0_call0_v11_apply, val_main_call0_call0_v1_apply,
    val_main_call0_call0_v10_apply, val_main_call0_call0_v9_apply, val_main_call0_call0_v8_apply, val_main_call0_call0_v7_apply, val_main_call0_call0_v3_apply,
    val_main_call0_call0_v0_apply, val_main_call0_call0_v2_apply, val_main_call0_call0_v5_apply]
  refine soft_eq _ _ _ ?_ ?_
  · rw [val_main_call0_v0_apply, val_main_v19_apply, score_ref q k v g]
    exact neg_neg _
  · exact ofBits_zero

/-- The softplus of the reflected scores. -/
theorem soft_ref' (i : S8x8192x8192.Idx) : val_main_call3_v1_0 (F := Ideal) (re2 q) (re2 k) i = ((sp (-(hd q k v g (i 0).val).score (i 1).val (i 2).val) : ℝ) : EReal) := by
  rw [val_main_call3_v1_0_apply, val_main_call3_call0_v4_apply, val_main_call3_call0_v6_apply, val_main_call3_call0_v11_apply, val_main_call3_call0_v1_apply,
    val_main_call3_call0_v10_apply, val_main_call3_call0_v9_apply, val_main_call3_call0_v8_apply, val_main_call3_call0_v7_apply, val_main_call3_call0_v3_apply,
    val_main_call3_call0_v0_apply, val_main_call3_call0_v2_apply, val_main_call3_call0_v5_apply]
  refine soft_eq _ _ _ ?_ ?_
  · rw [val_main_call3_v0_apply, score_ref q k v g]
    exact (EReal.coe_neg _).symm
  · exact ofBits_zero

/-- The logistic function of the scores. -/
theorem sig_ref : val_main_v20_1 (F := Ideal) (re2 q) (re2 k) = re3 fun h t s => sig ((hd q k v g h).score t s) := by
  funext i
  rw [val_main_v20_1_apply, val_main_call0_call0_v21_apply, val_main_call0_call0_v16_apply, val_main_call0_call0_v20_apply, val_main_call0_call0_v14_apply, val_main_call0_call0_v18_apply]
  refine gap_eq _ _ _ _ _ _ ?_ (soft_ref q k v g i) ?_
  · rw [val_main_call0_v0_apply, val_main_v19_apply, score_ref q k v g]
    exact neg_neg _
  · exact ofBits_inf

/-- Its complement. -/
theorem sig_ref' : val_main_v24_1 (F := Ideal) (re2 q) (re2 k) = re3 fun h t s => 1 - sig ((hd q k v g h).score t s) := by
  funext i
  rw [val_main_v24_1_apply, val_main_call3_call0_v21_apply, val_main_call3_call0_v16_apply, val_main_call3_call0_v20_apply, val_main_call3_call0_v14_apply, val_main_call3_call0_v18_apply]
  refine (gap_eq (-(hd q k v g (i 0).val).score (i 1).val (i 2).val) _ _ _ _ _ ?_ (soft_ref' q k v g i) ?_).trans ?_
  · rw [val_main_call3_v0_apply, score_ref q k v g]
    exact (EReal.coe_neg _).symm
  · exact ofBits_inf
  · rw [sig_neg]; rfl

/-- The rows that see a key. -/
theorem mask_ref (i : S8192x8192.Idx) : val_main_v18 (F := Ideal) i = 1#1 ↔ (i 1).val < (i 0).val := by
  rw [val_main_v18_apply, val_main_v16_apply, val_main_v17_apply, val_main_v13_apply, val_main_v15_apply, val_main_v12_apply, val_main_v14_apply]
  have h0 : (i 0).val < 8192 := (i 0).isLt
  have h1 : (i 1).val < 8192 := (i 1).isLt
  exact slt_small (a := (i 1).val) (b := (i 0).val) (by omega) (by omega)

theorem mask_ref1 (i : S8x8192x8192.Idx) : val_main_v21_1 (F := Ideal) i = 1#1 ↔ (i 2).val < (i 1).val := by
  rw [val_main_v21_1_apply]; exact mask_ref _
theorem mask_ref2 (i : S8x8192x8192.Idx) : val_main_v27_1 (F := Ideal) i = 1#1 ↔ (i 2).val < (i 1).val := by
  rw [val_main_v27_1_apply]; exact mask_ref _

/-- Choosing between real numbers by a mask. -/
theorem sel_eq (P : Prop) [Decidable P] (b : BitVec 1) (h : b = 1#1 ↔ P) (X Y : EReal) (x y : ℝ) (hX : X = (x : EReal)) (hY : Y = (y : EReal)) :
    Scalar.select b X Y = (((if P then x else y : ℝ)) : EReal) := by
  subst hX hY
  show (if b = 1#1 then (x : EReal) else (y : EReal)) = _
  by_cases hp : P
  · rw [if_pos (h.2 hp), if_pos hp]
  · rw [if_neg (fun e => hp (h.1 e)), if_neg hp]

/-- The log-probabilities of passing. -/
theorem fail_ref : val_main_v21_0 (F := Ideal) (re2 q) (re2 k) = re3 fun h t s => (hd q k v g h).fail t s := by
  funext i
  rw [val_main_v21_0_apply, val_main_call1_v2_apply, val_main_v20_0_apply, soft_ref q k v g]
  exact sel_eq _ _ (mask_ref1 i) _ _ _ _ (EReal.coe_neg _).symm ofBits_zero

/-- The log-probabilities of passing every later key. -/
theorem after_ref : val_main_v23 (F := Ideal) (re2 q) (re2 k) = re3 fun h t s => (hd q k v g h).after t s := by
  funext i
  have h2 : (i 2).val < 8192 := (i 2).isLt
  have e : val_main_v22 (F := Ideal) (re2 q) (re2 k) = re3 fun h t s => ∑ u ∈ Ico s 8192, (hd q k v g h).fail t u := by
    unfold val_main_v22
    rw [fail_ref q k v g]
    exact sum_from (fun h t s => (hd q k v g h).fail t s) _ fun _ => ofBits_zero.trans EReal.coe_zero
  rw [val_main_v23_apply, e, fail_ref q k v g]
  refine (EReal.coe_sub _ _).symm.trans (congrArg Real.toEReal ?_)
  dsimp only
  rw [sum_eq_sum_Ico_succ_bot h2, add_sub_cancel_left]
  rfl

/-- The weights before the mask. -/
theorem weight_ref : val_main_v26 (F := Ideal) (re2 q) (re2 k)
    = re3 fun h t s => Real.exp ((hd q k v g h).score t s - sp ((hd q k v g h).score t s) + (hd q k v g h).after t s) := by
  funext i
  rw [val_main_v26_apply, val_main_v25_apply, val_main_v24_0_apply, soft_ref' q k v g, after_ref q k v g, sp_neg]
  show Ideal.exp (-(((sp ((hd q k v g (i 0).val).score (i 1).val (i 2).val) - (hd q k v g (i 0).val).score (i 1).val (i 2).val : ℝ)) : EReal)
    + (((hd q k v g (i 0).val).after (i 1).val (i 2).val : ℝ) : EReal)) = _
  rw [← EReal.coe_neg, ← EReal.coe_add, Ideal.exp_coe, neg_sub]
  rfl

/-- The weights. -/
theorem prob_ref : val_main_v27_0 (F := Ideal) (re2 q) (re2 k) = re3 fun h t s => (hd q k v g h).prob t s := by
  funext i
  rw [val_main_v27_0_apply, val_main_call4_v2_apply, weight_ref q k v g]
  exact sel_eq _ _ (mask_ref2 i) _ _ _ _ rfl ofBits_zero

/-- The weights times their gradients. -/
theorem mass_ref : val_main_v38 (F := Ideal) (re2 q) (re2 k) (re2 v) (re2 g) = re3 fun h t s => (hd q k v g h).mass t s := by
  funext i
  rw [val_main_v38_apply, val_main_v37_apply, val_main_call5_v0_apply, dprob_ref q k v g, weight_ref q k v g,
    sel_eq _ _ (mask_ref2 i) (re3 (fun h t s => (hd q k v g h).dprob t s) i) (val_main_call5_cst (F := Ideal) (idx_main_call5_v0 i)) _ _ rfl ofBits_zero]
  refine (EReal.coe_mul _ _).symm.trans (congrArg Real.toEReal ?_)
  dsimp only
  unfold Head.mass Head.prob
  split_ifs
  · exact mul_comm _ _
  · rw [zero_mul, zero_mul]

/-- Their sums over the earlier keys. -/
theorem before_ref : val_main_v42 (F := Ideal) (re2 q) (re2 k) (re2 v) (re2 g) = re3 fun h t s => (hd q k v g h).before t s := by
  funext i
  have e : val_main_v41 (F := Ideal) (re2 q) (re2 k) (re2 v) (re2 g) = re3 fun h t s => ∑ u ∈ range (s + 1), (hd q k v g h).mass t u := by
    unfold val_main_v41
    rw [mass_ref q k v g]
    exact sum_upto (fun h t s => (hd q k v g h).mass t s) _ fun _ => ofBits_zero.trans EReal.coe_zero
  rw [val_main_v42_apply, val_main_v40_apply, e, mass_ref q k v g]
  show -(((hd q k v g (i 0).val).mass (i 1).val (i 2).val : ℝ) : EReal) + ((∑ u ∈ range ((i 2).val + 1), (hd q k v g (i 0).val).mass (i 1).val u : ℝ) : EReal) = _
  rw [← EReal.coe_neg, ← EReal.coe_add, sum_range_succ, add_comm (∑ u ∈ range _, _), neg_add_cancel_left]
  rfl

/-- The gradient of the scores. -/
theorem dscore_ref : val_main_v48 (F := Ideal) (re2 q) (re2 k) (re2 v) (re2 g) = re3 fun h t s => (hd q k v g h).dscore t s := by
  funext i
  rw [val_main_v48_apply, val_main_v47_apply, val_main_cst_2_apply, val_main_v46_apply, val_main_v39_apply, val_main_call6_v1_apply, val_main_call6_v0_apply,
    val_main_v45_apply, val_main_v44_apply, val_main_call9_v1_apply, val_main_call9_v0_apply, val_main_v43_apply, val_main_call8_v0_apply,
    mass_ref q k v g, sig_ref q k v g, sig_ref' q k v g, before_ref q k v g,
    sel_eq _ _ (mask_ref1 i) (re3 (fun h t s => (hd q k v g h).before t s) i) (val_main_call8_cst (F := Ideal) (idx_main_call8_v0 i)) _ _ rfl ofBits_zero]
  show (-(-(((hd q k v g (i 0).val).mass (i 1).val (i 2).val : ℝ) : EReal) * ((1 - sig ((hd q k v g (i 0).val).score (i 1).val (i 2).val) : ℝ) : EReal))
    + -(-(-((if (i 2).val < (i 1).val then (hd q k v g (i 0).val).before (i 1).val (i 2).val else 0 : ℝ) : EReal)
      * ((sig ((hd q k v g (i 0).val).score (i 1).val (i 2).val) : ℝ) : EReal)))) * Ideal.ofBits .f32 0x3DB504F3#32 = _
  rw [ofBits_scale]
  simp only [← EReal.coe_neg, ← EReal.coe_mul, ← EReal.coe_add]
  refine congrArg Real.toEReal ?_
  show _ = (hd q k v g (i 0).val).dscore (i 1).val (i 2).val
  by_cases h : (i 2).val < (i 1).val
  · unfold Head.dscore
    rw [if_pos h, if_pos h]
    show _ = _ * scale
    ring
  · rw [if_neg h, Head.mass_eq_zero _ (not_lt.1 h), Head.dscore_eq_zero _ (not_lt.1 h)]
    ring

/-- The reference's query gradients. -/
theorem outQ_ref : val_main_v56 (F := Ideal) (re2 q) (re2 k) (re2 v) (re2 g) = (re2 (outQ q k v g) : S8192x1024.Idx → EReal) := by
  funext i
  have h0 : (i 0).val < 8192 := (i 0).isLt
  have h1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  rw [val_main_v56_apply, val_main_v55_apply, val_main_v50_apply, dscore_ref q k v g]
  simp only [heads1 q k v g]
  refine (sum_mul_coe 8192 (fun k' => (hd q k v g (((i 0).val * 1024 + (i 1).val) / 128 % 8)).dscore (((i 0).val * 1024 + (i 1).val) / 1024) k') (fun k' => (hd q k v g (((i 0).val * 1024 + (i 1).val) / 128 % 8)).K k' (((i 0).val * 1024 + (i 1).val) % 128))).trans ?_
  rw [e0, e1, e2]
  rfl

/-- The reference's key gradients. -/
theorem outK_ref : val_main_v54 (F := Ideal) (re2 q) (re2 k) (re2 v) (re2 g) = (re2 (outK q k v g) : S8192x1024.Idx → EReal) := by
  funext i
  have h0 : (i 0).val < 8192 := (i 0).isLt
  have h1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  rw [val_main_v54_apply, val_main_v53_apply, val_main_v49_apply, dscore_ref q k v g]
  simp only [heads0 q k v g]
  refine (sum_mul_coe 8192 (fun k' => (hd q k v g (((i 0).val * 1024 + (i 1).val) / 128 % 8)).dscore k' (((i 0).val * 1024 + (i 1).val) / 1024)) (fun k' => (hd q k v g (((i 0).val * 1024 + (i 1).val) / 128 % 8)).Q k' (((i 0).val * 1024 + (i 1).val) % 128))).trans ?_
  rw [e0, e1, e2]
  rfl

/-- The reference's value gradients. -/
theorem outV_ref : val_main_v52 (F := Ideal) (re2 q) (re2 k) (re2 g) = (re2 (outV q k v g) : S8192x1024.Idx → EReal) := by
  funext i
  have h0 : (i 0).val < 8192 := (i 0).isLt
  have h1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  rw [val_main_v52_apply, val_main_v51_apply, val_main_v35_apply, val_main_v34_apply, prob_ref q k v g]
  simp only [heads3 q k v g]
  refine (sum_mul_coe 8192 (fun k' => (hd q k v g (((i 0).val * 1024 + (i 1).val) / 128 % 8)).G k' (((i 0).val * 1024 + (i 1).val) % 128)) (fun k' => (hd q k v g (((i 0).val * 1024 + (i 1).val) / 128 % 8)).prob k' (((i 0).val * 1024 + (i 1).val) / 1024))).trans ?_
  rw [e0, e1, e2]
  show _ = (((hd q k v g ((i 1).val / 128)).dV (i 0).val ((i 1).val % 128) : ℝ) : EReal)
  unfold Head.dV
  refine congrArg Real.toEReal (sum_congr rfl fun n _ => ?_)
  dsimp only
  rw [mul_comm]

end Cert.Proof.Va

end
-- ==== Proof.Va.Final.lean ====
/- The attention's gradients: on finite arguments the kernel and the reference end with the same arrays. -/
module

public import proofs.«01_k».proof.Proof.Va.Ref
public import proofs.«01_k».proof.Proof.Sb.Frames

@[expose] public section

noncomputable section

namespace Cert.Proof.Va

open Idealize.ShloMosaic Idealize.ShloMosaic.TcCoe Idealize.ShloMosaic.ValueIdx Idealize.SL.Sem

/-- An array whose entries all lie under infinity in size is an array of real numbers. -/
theorem real_of (X : (⟨2, ![8192, 1024]⟩ : Shape).Idx → EReal) (h : ∀ i, max (X i) (-X i) < ⊤) : ∃ x : ℕ → ℕ → ℝ, X = re2 x := by
  refine ⟨fun p r => if hp : p < 8192 ∧ r < 1024 then (X (ValueIdx.ix2 ⟨p, hp.1⟩ ⟨r, hp.2⟩)).toReal else 0, funext fun i => ?_⟩
  have h0 := idx2_lt0 i
  have h1 := idx2_lt1 i
  have hi := h i
  have hb : X i ≠ ⊥ := fun e => by rw [e] at hi; simp at hi
  have ht : X i ≠ ⊤ := fun e => by rw [e] at hi; simp at hi
  show X i = (((if hp : (i 0).val < 8192 ∧ (i 1).val < 1024 then (X (ValueIdx.ix2 ⟨(i 0).val, hp.1⟩ ⟨(i 1).val, hp.2⟩)).toReal else 0 : ℝ)) : EReal)
  rw [dif_pos ⟨h0, h1⟩]
  have e : (ValueIdx.ix2 ⟨(i 0).val, h0⟩ ⟨(i 1).val, h1⟩ : (⟨2, ![8192, 1024]⟩ : Shape).Idx) = i := funext fun a => by
    match a with
    | ⟨0, _⟩ => rfl
    | ⟨1, _⟩ => rfl
  rw [e, EReal.coe_toReal ht hb]

/-- The precondition's comparison of one entry. -/
theorem finite_bit (x : EReal) (h : FloatOps.cmpf (F := Ideal) (φ := .f32) .olt (FloatOps.hostAbsf (F := Ideal) (φ := .f32) x) (FloatOps.ofBits (F := Ideal) .f32 0x7F800000#32) = 1#1) :
    max x (-x) < ⊤ := by
  rw [show (FloatOps.ofBits (F := Ideal) .f32 0x7F800000#32 : EReal) = ⊤ from ofBits_inf] at h
  by_contra hn
  have : BitVec.ofBool (decide (max x (-x) < ⊤)) = 1#1 := h
  rw [decide_eq_false hn] at this
  exact absurd this (by decide)

/-- Four arguments that meet the precondition are arrays of real numbers. -/
theorem reals [Cert.Pre_finite.Facts] (X0 X1 X2 X3 : (⟨2, ![8192, 1024]⟩ : Shape).Idx → EReal)
    (h : Cert.Pre_finite.fn (F := Ideal) X0 X1 X2 X3 = fun _ => 1#1) :
    ∃ q k v g : ℕ → ℕ → ℝ, X0 = re2 q ∧ X1 = re2 k ∧ X2 = re2 v ∧ X3 = re2 g := by
  have and1 : ∀ a b : BitVec 1, a &&& b = 1#1 → a = 1#1 ∧ b = 1#1 := by decide
  have hh : ∀ i, max (X0 i) (-X0 i) < ⊤ ∧ max (X1 i) (-X1 i) < ⊤ ∧ max (X2 i) (-X2 i) < ⊤ ∧ max (X3 i) (-X3 i) < ⊤ := fun i => by
    have hi := congrFun h i
    obtain ⟨ha, h3⟩ := and1 _ _ hi
    obtain ⟨hb, h2⟩ := and1 _ _ ha
    obtain ⟨h0, h1⟩ := and1 _ _ hb
    exact ⟨finite_bit _ h0, finite_bit _ h1, finite_bit _ h2, finite_bit _ h3⟩
  obtain ⟨q, hq⟩ := real_of X0 fun i => (hh i).1
  obtain ⟨k, hk⟩ := real_of X1 fun i => (hh i).2.1
  obtain ⟨v, hv⟩ := real_of X2 fun i => (hh i).2.2.1
  obtain ⟨g, hg⟩ := real_of X3 fun i => (hh i).2.2.2
  exact ⟨q, k, v, g, hq, hk, hv, hg⟩

/-- The ideal kernel and the ideal reference return the same three gradients. -/
theorem same : @Cert.algebraic_KernelIdeal_ReferenceIdeal_pre_finite Cert.KernelIdeal.Gen.facts Cert.ReferenceIdeal.Gen.facts Sb.finite_facts := by
  intro m ρ m' ρ' hpre hin
  have hr := fun c => @reals Sb.finite_facts _ _ _ _ (hpre c)
  choose q k v g hq hk hv hg using hr
  refine ⟨fun c => (re2 (outQ (q c) (k c) (v c) (g c)) : (⟨2, ![8192, 1024]⟩ : Shape).Idx → EReal),
    fun c => (re2 (outK (q c) (k c) (v c) (g c)) : (⟨2, ![8192, 1024]⟩ : Shape).Idx → EReal),
    fun c => (re2 (outV (q c) (k c) (v c) (g c)) : (⟨2, ![8192, 1024]⟩ : Shape).Idx → EReal), ?_, ?_⟩
  · refine (θ_run Cert.KernelIdeal.defs _ _).mono (fun r h c => ?_) (Sb.run_main (F := Ideal) m ρ)
    exact ⟨((h.1 c).1 4).trans (final4 m c _ _ _ _ (hq c) (hk c) (hv c) (hg c)), ((h.1 c).1 5).trans (final5 m c _ _ _ _ (hq c) (hk c) (hv c) (hg c)),
      ((h.1 c).1 6).trans (final6 m c _ _ _ _ (hq c) (hk c) (hv c) (hg c)), Sb.args_kept m r h.1 c⟩
  · refine (θ_run Cert.ReferenceIdeal.defs _ _).mono (fun r h c => ?_) (Cert.ReferenceIdeal.Value.run (F := Ideal) m' ρ')
    obtain ⟨e1, e2, e3, hargs⟩ := h c
    obtain ⟨a0, a1, a2, a3⟩ := hin c
    refine ⟨e1.trans ?_, e2.trans ?_, e3.trans ?_, hargs⟩
    · rw [Cert.ReferenceIdeal.Read.val_main_v56_eq, a0, a1, a2, a3, hq c, hk c, hv c, hg c]
      exact outQ_ref _ _ _ _
    · rw [Cert.ReferenceIdeal.Read.val_main_v54_eq, a0, a1, a2, a3, hq c, hk c, hv c, hg c]
      exact outK_ref _ _ _ _
    · rw [Cert.ReferenceIdeal.Read.val_main_v52_eq, a0, a1, a3, hq c, hk c, hg c]
      exact outV_ref _ _ _ _

/-- The same frames under the precondition. -/
theorem frame_ideal_finite : @Cert.quiescent_KernelIdeal_pre_finite Cert.KernelIdeal.Gen.facts Sb.finite_facts := fun m ρ _ => Sb.frame_ideal m ρ trivial
theorem frame_reference_finite : @Cert.quiescent_ReferenceIdeal_pre_finite Cert.ReferenceIdeal.Gen.facts Sb.finite_facts := fun m ρ _ => Sb.frame_reference m ρ trivial

end Cert.Proof.Va

end
-- ==== Proof.Pr.Product.lean ====
/- Products of two arrays: of rows with columns, of rows with rows, of columns with columns. -/
module

public import Idealize.ShloMosaic.Lib.Pipeline.ValueKit

@[expose] public section

noncomputable section

namespace Cert.Proof.Pr

open Idealize.ShloMosaic Idealize.ShloMosaic.TcCoe Idealize.ShloMosaic.ValueIdx Idealize.SL.Sem
open Finset

/-- The product of rows with columns. -/
def nn {n k m : ℕ} (A : (⟨2, ![n, k]⟩ : Shape).Idx → EReal) (B : (⟨2, ![k, m]⟩ : Shape).Idx → EReal) (p : Fin n) (q : Fin m) : EReal :=
  ∑ j : Fin k, A (Idealize.ShloMosaic.ix2 p j) * B (Idealize.ShloMosaic.ix2 j q)
/-- The product of rows with rows. -/
def nt {n k m : ℕ} (A : (⟨2, ![n, k]⟩ : Shape).Idx → EReal) (B : (⟨2, ![m, k]⟩ : Shape).Idx → EReal) (p : Fin n) (q : Fin m) : EReal :=
  ∑ j : Fin k, A (Idealize.ShloMosaic.ix2 p j) * B (Idealize.ShloMosaic.ix2 q j)
/-- The product of columns with columns. -/
def tn {n k m : ℕ} (A : (⟨2, ![k, n]⟩ : Shape).Idx → EReal) (B : (⟨2, ![k, m]⟩ : Shape).Idx → EReal) (p : Fin n) (q : Fin m) : EReal :=
  ∑ j : Fin k, A (Idealize.ShloMosaic.ix2 j p) * B (Idealize.ShloMosaic.ix2 j q)

/-- A point of a two-axis index is given by its coordinates. -/
theorem ix2_of {n k : ℕ} (i : (⟨2, ![n, k]⟩ : Shape).Idx) (p : Fin n) (q : Fin k) (h0 : (i 0).val = p.val) (h1 : (i 1).val = q.val) :
    i = Idealize.ShloMosaic.ix2 p q := funext fun a => match a with | ⟨0, _⟩ => Fin.ext h0 | ⟨1, _⟩ => Fin.ext h1

/-- Sums of products whose factors stand at the coordinates of a product are that product. -/
theorem nn_of {n k m : ℕ} (A : (⟨2, ![n, k]⟩ : Shape).Idx → EReal) (B : (⟨2, ![k, m]⟩ : Shape).Idx → EReal) (p : Fin n) (q : Fin m)
    (l : Fin k → (⟨2, ![n, k]⟩ : Shape).Idx) (r : Fin k → (⟨2, ![k, m]⟩ : Shape).Idx)
    (l0 : ∀ j, (l j 0).val = p.val) (l1 : ∀ j, (l j 1).val = j.val) (r0 : ∀ j, (r j 0).val = j.val) (r1 : ∀ j, (r j 1).val = q.val) :
    ∑ j, A (l j) * B (r j) = nn A B p q :=
  sum_congr rfl fun j _ => by rw [ix2_of (l j) p j (l0 j) (l1 j), ix2_of (r j) j q (r0 j) (r1 j)]
theorem nt_of {n k m : ℕ} (A : (⟨2, ![n, k]⟩ : Shape).Idx → EReal) (B : (⟨2, ![m, k]⟩ : Shape).Idx → EReal) (p : Fin n) (q : Fin m)
    (l : Fin k → (⟨2, ![n, k]⟩ : Shape).Idx) (r : Fin k → (⟨2, ![m, k]⟩ : Shape).Idx)
    (l0 : ∀ j, (l j 0).val = p.val) (l1 : ∀ j, (l j 1).val = j.val) (r0 : ∀ j, (r j 0).val = q.val) (r1 : ∀ j, (r j 1).val = j.val) :
    ∑ j, A (l j) * B (r j) = nt A B p q :=
  sum_congr rfl fun j _ => by rw [ix2_of (l j) p j (l0 j) (l1 j), ix2_of (r j) q j (r0 j) (r1 j)]
theorem tn_of {n k m : ℕ} (A : (⟨2, ![k, n]⟩ : Shape).Idx → EReal) (B : (⟨2, ![k, m]⟩ : Shape).Idx → EReal) (p : Fin n) (q : Fin m)
    (l : Fin k → (⟨2, ![k, m]⟩ : Shape).Idx) (r : Fin k → (⟨2, ![k, n]⟩ : Shape).Idx)
    (l0 : ∀ j, (l j 0).val = j.val) (l1 : ∀ j, (l j 1).val = q.val) (r0 : ∀ j, (r j 0).val = j.val) (r1 : ∀ j, (r j 1).val = p.val) :
    ∑ j, B (l j) * A (r j) = tn A B p q :=
  sum_congr rfl fun j _ => by rw [ix2_of (l j) j q (l0 j) (l1 j), ix2_of (r j) j p (r0 j) (r1 j)]; exact mul_comm _ _

/-- A scratch that starts each run of `J` points from zero and adds one tile's product per point holds, at the run's
    last point, the product along the whole axis. -/
theorem sweep {N K κ J : ℕ} [NeZero J] {ι : Type} (O : (n : ℕ) → n < N → ι → EReal) (f g : Fin N → ι → Fin κ → EReal)
    (reset : ∀ t : Fin N, t.val % J = 0 → ∀ y, O t.val t.isLt y = 0 + ∑ k, f t y k * g t y k)
    (step : ∀ t : Fin N, ¬t.val % J = 0 → ∀ y, O t.val t.isLt y = O (t.val - 1) (Nat.lt_of_le_of_lt (Nat.sub_le _ _) t.isLt) y + ∑ k, f t y k * g t y k)
    (t : Fin N) (h : t.val % J = J - 1) (y : ι) (F G : Fin K → EReal) (hK : K = J * κ)
    (hf : ∀ (s : Fin J) (k : Fin κ) (hl : s.val * κ + k.val < K), f ⟨J * (t.val / J) + s.val, Pipeline.run_point_lt_of_flush t h s⟩ y k = F ⟨s.val * κ + k.val, hl⟩)
    (hg : ∀ (s : Fin J) (k : Fin κ) (hl : s.val * κ + k.val < K), g ⟨J * (t.val / J) + s.val, Pipeline.run_point_lt_of_flush t h s⟩ y k = G ⟨s.val * κ + k.val, hl⟩) :
    O t.val t.isLt y = ∑ l, F l * G l := by
  rw [Pipeline.eq_sum_fin_of_reset_step_apply_of_flush O J (fun _ => (0 : EReal)) (fun t y => ∑ k, f t y k * g t y k) reset step t h y, zero_add]
  exact Fin.sum_mul_add_congr (fun s k hl => congrArg₂ (· * ·) (hf s k hl) (hg s k hl)) hK

/-- Two programs whose runs end with equal results, and with what is said of each, agree. -/
theorem agree {nD : ℕ} {τ τ' : Topo} {sig sig' : RefSig} {Λ Λ' : Labels} {D : Defs nD τ sig (Elt Ideal) Λ} {D' : Defs nD τ' sig' (Elt Ideal) Λ'} {M M' s s'}
    {β : Dev nD → Type} {r : (PUnit × MemSt nD τ sig (Elt Ideal)) → (c : Dev nD) → β c} {r' : (PUnit × MemSt nD τ' sig' (Elt Ideal)) → (c : Dev nD) → β c}
    {A : (PUnit × MemSt nD τ sig (Elt Ideal)) → Dev nD → Prop} {A' : (PUnit × MemSt nD τ' sig' (Elt Ideal)) → Dev nD → Prop} {v v' : (c : Dev nD) → β c}
    (h : θ_run D M s fun x => ∀ c, r x c = v c ∧ A x c) (h' : θ_run D' M' s' fun x => ∀ c, r' x c = v' c ∧ A' x c) (e : ∀ c, v c = v' c) :
    ∃ w : (c : Dev nD) → β c, θ_run D M s (fun x => ∀ c, r x c = w c ∧ A x c) ∧ θ_run D' M' s' (fun x => ∀ c, r' x c = w c ∧ A' x c) :=
  ⟨v, h, (θ_run D' M' s').mono (fun _ h c => ⟨(h c).1.trans (e c).symm, (h c).2⟩) h'⟩

end Cert.Proof.Pr

end
-- ==== Proof.Pr.Dwdown.lean ====
/- The gradient of a feed-forward block's second matrix: the tiled product of the columns of two arrays is the whole product. -/
module

public import proofs.«01_k».proof.Proof.Gen.DwdownIdeal.Value
public import proofs.«01_k».proof.Proof.Gen.DwdownRefIdeal.Read
public import proofs.«01_k».proof.Defs
public import proofs.«01_k».proof.Proof.Gen.DwdownIdeal
public import proofs.«01_k».proof.Proof.Gen.DwdownRefIdeal
public import Idealize.ShloMosaic.Lib.Pipeline.ValueKit
public import proofs.«01_k».proof.Proof.Pr.Product

@[expose] public section

noncomputable section

namespace Cert.Proof.Dwdown

open Cert.DwdownIdeal Cert.DwdownIdeal.Gen Cert.DwdownIdeal.Value
open Idealize.ShloMosaic Idealize.ShloMosaic.TcCoe Idealize.ShloMosaic.ValueIdx Idealize.SL.Sem
open Finset

variable (m : (ℓ : Loc nD τ sig) → Buf (Elt Ideal) ℓ)

/-- One step of the accumulation: a tile's product of columns by columns is added. -/
theorem step_at (a : Vec Ideal S1408x1024 .f32) (x0 : Vec Ideal S1024x1408 .bf16) (x1 : Vec Ideal S1024x1024 .bf16) (y : S1408x1024.Idx) :
    k0_pay2 a x0 x1 y = a y + ∑ k : Fin 1024, x0 (Idealize.ShloMosaic.ix2 k (y 0)) * x1 (Idealize.ShloMosaic.ix2 k (y 1)) := by
  unfold k0_pay2
  simp only [pointwise, zero_add]

/-- Where the tiles lie. -/
theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)

/-- The tiles of the two arguments. -/
def tileA (c : Dev nD) (t : Fin cfg0.N) : S1024x1408.Idx → EReal := iblk m c 0 t
def tileB (c : Dev nD) (t : Fin cfg0.N) : S1024x1024.Idx → EReal := iblk m c 1 t

/-- What the last point of a run writes back: the scratch. -/
theorem out_last (c : Dev nD) (t : Fin cfg0.N) (h : t.val % 8 = 7) : (outsAt0 m c t.val t.isLt).1 = (outsAt0 m c t.val t.isLt).2 := by
  rw [outsAt0_C m c t (by omega) h]
  frame_out

/-- The reference's product. -/
theorem ref_at (X0 : S8192x2816.Idx → EReal) (X1 : S8192x1024.Idx → EReal) (i : S2816x1024.Idx) :
    Cert.DwdownRefIdeal.Read.val_main_v5 (F := Ideal) X0 X1 i = ∑ k : Fin 8192, X0 (Idealize.ShloMosaic.ix2 k (i 0)) * X1 (Idealize.ShloMosaic.ix2 k (i 1)) := by
  rw [Cert.DwdownRefIdeal.Read.val_main_v5_apply, Cert.DwdownRefIdeal.Read.val_main_v4_apply]
  exact Pr.tn_of X0 X1 (i 0) (i 1) _ _ (fun _ => rfl) (fun _ => rfl) (fun _ => rfl) fun _ => rfl

/-- The kernel's result is the reference's. -/
theorem final (c : Dev nD) : G2 m c = Cert.DwdownRefIdeal.Read.val_main_v5 (F := Ideal) (m ((c : Thread nD τ).loc main_arg0)) (m ((c : Thread nD τ).loc main_arg1)) := by
  funext i
  have h0 := idx2_lt0 i
  have h1 := idx2_lt1 i
  have hp : pt2Of i < cfg0.N := by
    have := N_0
    show 8 * (1 * ((i 0).val / 1408 - 0) + 1 * ((i 1).val / 1024 - 0)) + 7 < grid0.N
    omega
  have hm : pt2Of i % 8 = 7 := by
    show (8 * _ + 7) % 8 = 7
    omega
  have hq : pt2Of i / 8 = (i 0).val / 1408 := by
    show (8 * (1 * ((i 0).val / 1408 - 0) + 1 * ((i 1).val / 1024 - 0)) + 7) / 8 = _
    omega
  unfold G2
  rw [dif_pos hp, ← outsAt0_sweep m c _ hp, ref_at]
  refine (congrFun (out_last m c ⟨pt2Of i, hp⟩ hm) _).trans (Pr.sweep (fun n h => (outsAt0 m c n h).2)
    (fun t y k => tileA m c t (Idealize.ShloMosaic.ix2 k (y 0))) (fun t y k => tileB m c t (Idealize.ShloMosaic.ix2 k (y 1)))
    (fun t h y => by rw [outsAt0_A m c t h (by omega)]; frame_out; rw [step_at]; exact congrArg (· + _) Ideal.ofBits_zero_f32)
    (fun t h y => by
      by_cases h3 : t.val % 8 = 7
      · rw [outsAt0_C m c t h h3]; frame_out; rw [step_at]; exact congrArg (· + _) (congrFun ((Memref.isWhole_whole cc0_scratch0).read_unread _) y)
      · rw [outsAt0_B m c t h h3]; frame_out; rw [step_at]; exact congrArg (· + _) (congrFun ((Memref.isWhole_whole cc0_scratch0).read_unread _) y))
    ⟨pt2Of i, hp⟩ hm _ (fun l => (m ((c : Thread nD τ).loc main_arg0) : S8192x2816.Idx → EReal) (Idealize.ShloMosaic.ix2 l (i 0)))
    (fun l => (m ((c : Thread nD τ).loc main_arg1) : S8192x1024.Idx → EReal) (Idealize.ShloMosaic.ix2 l (i 1))) rfl (fun s k hl => ?_) fun s k hl => ?_)
  · unfold tileA
    blk_point [iblk, V, idx0 ⟨_, Pipeline.run_point_lt_of_flush ⟨pt2Of i, hp⟩ hm s⟩]
  · unfold tileB
    blk_point [iblk, V, idx1 ⟨_, Pipeline.run_point_lt_of_flush ⟨pt2Of i, hp⟩ hm s⟩]

/-- The product of the kernel and the product of the reference agree. -/
theorem same : @Cert.algebraic_DwdownIdeal_DwdownRefIdeal Cert.DwdownIdeal.Gen.facts Cert.DwdownRefIdeal.Gen.facts := fun m ρ m' ρ' _ hin =>
  Pr.agree (run (F := Ideal) m ρ) (Cert.DwdownRefIdeal.Value.run (F := Ideal) m' ρ') fun c => by
    rw [Cert.DwdownRefIdeal.Read.val_main_v5_eq, (hin c).1, (hin c).2]
    exact final m c

end Cert.Proof.Dwdown

end
-- ==== Proof.Pr.Dact.lean ====
/- The gradient of a feed-forward block's activation: the product of a tile of rows with a tile of rows is a tile of the whole product. -/
module

public import proofs.«01_k».proof.Proof.Gen.DactIdeal.Value
public import proofs.«01_k».proof.Proof.Gen.DactRefIdeal.Read
public import proofs.«01_k».proof.Defs
public import proofs.«01_k».proof.Proof.Gen.DactIdeal
public import proofs.«01_k».proof.Proof.Gen.DactRefIdeal
public import Idealize.ShloMosaic.Lib.Pipeline.ValueKit
public import proofs.«01_k».proof.Proof.Pr.Product

@[expose] public section

noncomputable section

namespace Cert.Proof.Dact

open Cert.DactIdeal Cert.DactIdeal.Gen Cert.DactIdeal.Value
open Idealize.ShloMosaic Idealize.ShloMosaic.TcCoe Idealize.ShloMosaic.ValueIdx Idealize.SL.Sem
open Finset

variable (m : (ℓ : Loc nD τ sig) → Buf (Elt Ideal) ℓ)

/-- A tile's product of rows by rows. -/
theorem tile_at (x0 : Vec Ideal S1024x1024 .bf16) (x1 : Vec Ideal S1408x1024 .bf16) (y : S1024x1408.Idx) :
    k0_pay1 x0 x1 y = ∑ k : Fin 1024, x0 (Idealize.ShloMosaic.ix2 (y 0) k) * x1 (Idealize.ShloMosaic.ix2 (y 1) k) := by
  unfold k0_pay1
  simp only [pointwise, zero_add]

/-- Where the tiles lie. -/
theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

/-- The reference's product. -/
theorem ref_at (X0 : S8192x1024.Idx → EReal) (X1 : S2816x1024.Idx → EReal) (i : S8192x2816.Idx) :
    Cert.DactRefIdeal.Read.val_main_v4 (F := Ideal) X0 X1 i = ∑ k : Fin 1024, X0 (Idealize.ShloMosaic.ix2 (i 0) k) * X1 (Idealize.ShloMosaic.ix2 (i 1) k) := by
  rw [Cert.DactRefIdeal.Read.val_main_v4_apply]
  exact Pr.nt_of X0 X1 (i 0) (i 1) _ _ (fun _ => rfl) (fun _ => rfl) (fun _ => rfl) fun _ => rfl

/-- The kernel's result is the reference's. -/
theorem final (c : Dev nD) : (dats m 0 c).arrAt 2 cfg0.N = Cert.DactRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [tile_at, ref_at]
  blk_point [iblk, V, idx0 t, idx1 t, idx2 t]

/-- The product of the kernel and the product of the reference agree. -/
theorem same : @Cert.algebraic_DactIdeal_DactRefIdeal Cert.DactIdeal.Gen.facts Cert.DactRefIdeal.Gen.facts := fun m ρ m' ρ' _ hin =>
  Pr.agree (run_blocks (F := Ideal) m ρ) (Cert.DactRefIdeal.Value.run (F := Ideal) m' ρ') fun c => by
    rw [Cert.DactRefIdeal.Read.val_main_v4_eq, (hin c).1, (hin c).2]
    exact final m c

end Cert.Proof.Dact

end
-- ==== Proof.Pr.Entry.lean ====
/- Entries of a two-axis array at natural numbers, zero outside the array, and arrays of real numbers. -/
module

public import proofs.«01_k».proof.Proof.Va.Final

@[expose] public section

noncomputable section

namespace Cert.Proof.Pr

open Idealize.ShloMosaic Idealize.ShloMosaic.ValueIdx
open Finset

/-- The entry of an array at row `p` and column `q`, zero outside the array. -/
def rd {n m : ℕ} (X : (⟨2, ![n, m]⟩ : Shape).Idx → EReal) (p q : ℕ) : EReal :=
  if h : p < n ∧ q < m then X (Idealize.ShloMosaic.ix2 ⟨p, h.1⟩ ⟨q, h.2⟩) else 0

/-- An entry at an index is the entry at its coordinates. -/
theorem rd_of {n m : ℕ} (X : (⟨2, ![n, m]⟩ : Shape).Idx → EReal) (i : (⟨2, ![n, m]⟩ : Shape).Idx) (p q : ℕ)
    (h0 : (i 0).val = p) (h1 : (i 1).val = q) : X i = rd X p q := by
  have b0 := idx2_lt0 i
  have b1 := idx2_lt1 i
  subst h0 h1
  unfold rd
  rw [dif_pos ⟨b0, b1⟩]
  exact congrArg X (funext fun a => match a with | ⟨0, _⟩ => rfl | ⟨1, _⟩ => rfl)

/-- A number that is a real number. -/
def IsReal (x : EReal) : Prop := ∃ r : ℝ, x = r

theorem IsReal.zero : IsReal 0 := ⟨0, rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A number below infinity in size is real. -/
theorem IsReal.of_lt {x : EReal} (h : max x (-x) < ⊤) : IsReal x := by
  have hb : x ≠ ⊥ := fun e => by rw [e] at h; simp at h
  have ht : x ≠ ⊤ := fun e => by rw [e] at h; simp at h
  exact ⟨x.toReal, (EReal.coe_toReal ht hb).symm⟩

/-- The entries of an array of real numbers are real. -/
theorem IsReal.rd {n m : ℕ} (X : (⟨2, ![n, m]⟩ : Shape).Idx → EReal) (h : ∀ i, IsReal (X i)) (p q : ℕ) : IsReal (rd X p q) := by
  unfold Pr.rd
  split
  · exact h _
  · exact .zero

/-- The number of the bits of one is one. -/
theorem one_bits : (FloatOps.ofBits (F := Ideal) .f32 0x3F800000#32 : EReal) = 1 := Va.ofBits_one

end Cert.Proof.Pr

end
-- ==== Proof.Pr.Dmid.lean ====
/- The gradient of a feed-forward block's gate and of its short convolution's result: the kernel works a tile of rows
   with the eight rows before it, the reference shifts the whole array. -/
module

public import proofs.«01_k».proof.Proof.Gen.DmidIdeal.Value
public import proofs.«01_k».proof.Proof.Gen.DmidRefIdeal.Read
public import proofs.«01_k».proof.Defs
public import proofs.«01_k».proof.Proof.Gen.DmidIdeal
public import proofs.«01_k».proof.Proof.Gen.DmidRefIdeal
public import proofs.«01_k».proof.Proof.Pr.Entry
public import Idealize.ShloMosaic.Lib.Pipeline.ValueKit

@[expose] public section

noncomputable section

namespace Cert.Proof.Dmid

open Cert.DmidIdeal Cert.DmidIdeal.Gen Cert.DmidIdeal.Value
open Idealize.ShloMosaic Idealize.ShloMosaic.TcCoe Idealize.ShloMosaic.ValueIdx Idealize.SL.Sem
open Finset Pr

variable (m : (ℓ : Loc nD τ sig) → Buf (Elt Ideal) ℓ)

/-- The row `d` before row `p`, zero before the array's first row. -/
def before (X : S8192x5632.Idx → EReal) (d p q : ℕ) : EReal := if d ≤ p then rd X (p - d) q else 0

/-- The short convolution at an entry. -/
def conv (X : S8192x5632.Idx → EReal) (W : S3x5632.Idx → EReal) (p q : ℕ) : EReal :=
  before X 2 p q * rd W 0 q + before X 1 p q * rd W 1 q + rd X p q * rd W 2 q

/-- The reference's shifted rows. -/
theorem ref_pad (X : S8192x5632.Idx → EReal) (j : Cert.DmidRefIdeal.S8194x5632.Idx) (p q d : ℕ) (hd : d ≤ 2) (h0 : (j 0).val = p + 2 - d) (h1 : (j 1).val = q) :
    Cert.DmidRefIdeal.Read.val_main_v1 (F := Ideal) X j = before X d p q := by
  unfold Cert.DmidRefIdeal.Read.val_main_v1 before
  simp only [pointwise]
  by_cases hp : d ≤ p
  · rw [if_pos hp]
    refine (dif_neg ?_).trans (rd_of X _ (p - d) q ?_ h1)
    · show ¬ (j 0).val < 2
      omega
    · show (j 0).val - 2 = p - d
      omega
  · rw [if_neg hp]
    refine (dif_pos ?_).trans ?_
    · show (j 0).val < 2
      omega
    · rw [Cert.DmidRefIdeal.Read.val_main_v0_apply, Cert.DmidRefIdeal.Read.val_main_cst_apply]
      simp only [pointwise]

/-- The reference's convolution. -/
theorem ref_conv (X : S8192x5632.Idx → EReal) (W : S3x5632.Idx → EReal) (i : S8192x5632.Idx) :
    Cert.DmidRefIdeal.Read.val_main_v23 (F := Ideal) X W i = conv X W (i 0).val (i 1).val := by
  have h1 := idx2_lt1 i
  rw [Cert.DmidRefIdeal.Read.val_main_v23_apply, Cert.DmidRefIdeal.Read.val_main_v22_apply, Cert.DmidRefIdeal.Read.val_main_v16_apply,
    Cert.DmidRefIdeal.Read.val_main_v15_apply, Cert.DmidRefIdeal.Read.val_main_v9_apply, Cert.DmidRefIdeal.Read.val_main_v8_apply,
    Cert.DmidRefIdeal.Read.val_main_cst_0_apply, Cert.DmidRefIdeal.Read.val_main_v7_apply, Cert.DmidRefIdeal.Read.val_main_v2_apply,
    Cert.DmidRefIdeal.Read.val_main_v10_apply, Cert.DmidRefIdeal.Read.val_main_v17_apply,
    ref_pad X _ (i 0).val (i 1).val 2 (le_refl _) (show (i 0).val = (i 0).val + 2 - 2 by omega) rfl,
    ref_pad X _ (i 0).val (i 1).val 1 (by decide) (show 1 + (i 0).val = (i 0).val + 2 - 1 by omega) rfl,
    ref_pad X _ (i 0).val (i 1).val 0 (by decide) (show 2 + (i 0).val = (i 0).val + 2 - 0 by omega) rfl]
  rw [Cert.DmidRefIdeal.Read.val_main_v6_apply, Cert.DmidRefIdeal.Read.val_main_v5_apply, Cert.DmidRefIdeal.Read.val_main_v4_apply, Cert.DmidRefIdeal.Read.val_main_v3_apply,
    Cert.DmidRefIdeal.Read.val_main_v14_apply, Cert.DmidRefIdeal.Read.val_main_v13_apply, Cert.DmidRefIdeal.Read.val_main_v12_apply, Cert.DmidRefIdeal.Read.val_main_v11_apply,
    Cert.DmidRefIdeal.Read.val_main_v21_apply, Cert.DmidRefIdeal.Read.val_main_v20_apply, Cert.DmidRefIdeal.Read.val_main_v19_apply, Cert.DmidRefIdeal.Read.val_main_v18_apply]
  rw [rd_of W _ 0 (i 1).val rfl (Nat.mod_eq_of_lt h1), rd_of W _ 1 (i 1).val rfl (Nat.mod_eq_of_lt h1), rd_of W _ 2 (i 1).val rfl (Nat.mod_eq_of_lt h1)]
  simp only [pointwise, zero_add]
  unfold conv
  simp only [before, Nat.zero_le, if_true, Nat.sub_zero]

/-- A choice by whether the point is the first. -/
theorem first_tile (i : grid0.Coords) (a b : EReal) :
    Scalar.select (Scalar.cmpi .eq (BitVec.ofNat 32 (i 0).val) 0#32) a b = if (i 0).val = 0 then a else b := by
  have h : ∀ k : Fin 64, (Scalar.cmpi .eq (BitVec.ofNat 32 k.val) 0#32 = 1#1) ↔ k.val = 0 := by decide
  unfold Scalar.select
  exact if_congr (h ⟨(i 0).val, (i 0).isLt⟩) rfl rfl

/-- The kernel's convolution of a tile. -/
theorem conv_at (i : grid0.Coords) (v1 : Vec Ideal S8x5632 .f32) (v4 : Vec Ideal S128x5632 .f32) (v5 : Vec Ideal S3x5632 .f32) (y : S128x5632.Idx) :
    k0_pay1 i v1 v4 v5 y = rd v4 (y 0).val (y 1).val * rd v5 2 (y 1).val
      + (if (y 0).val < 2 then (if (i 0).val = 0 then 0 else rd v1 ((y 0).val + 6) (y 1).val) else rd v4 ((y 0).val - 2) (y 1).val) * rd v5 0 (y 1).val
      + (if (y 0).val < 1 then (if (i 0).val = 0 then 0 else rd v1 ((y 0).val + 7) (y 1).val) else rd v4 ((y 0).val - 1) (y 1).val) * rd v5 1 (y 1).val := by
  have h0 := idx2_lt0 y
  have h1 := idx2_lt1 y
  unfold k0_pay1
  simp only [pointwise]
  refine congrArg₂ (· + ·) (congrArg₂ (· + ·) (congrArg₂ (· * ·) (rd_of v4 y _ _ rfl rfl) (rd_of v5 _ _ _ rfl (by simp)))
    (congrArg₂ (· * ·) ?_ (rd_of v5 _ _ _ rfl (by simp)))) (congrArg₂ (· * ·) ?_ (rd_of v5 _ _ _ rfl (by simp)))
  · by_cases hd : (y 0).val < 2
    · rw [if_pos hd]
      refine (dif_pos ?_).trans ((first_tile i _ _).trans (if_congr Iff.rfl rfl (rd_of v1 _ ((y 0).val + 6) (y 1).val ?_ ?_)))
      · show (8 + (y 0).val + 136 - 2) % 136 < 8
        omega
      · show (8 + (y 0).val + 136 - 2) % 136 = (y 0).val + 6
        omega
      · show 0 + (y 1).val = (y 1).val
        omega
    · rw [if_neg hd]
      refine (dif_neg ?_).trans (rd_of v4 _ ((y 0).val - 2) (y 1).val ?_ ?_)
      · show ¬ (8 + (y 0).val + 136 - 2) % 136 < 8
        omega
      · show (8 + (y 0).val + 136 - 2) % 136 - 8 = (y 0).val - 2
        omega
      · show 0 + (y 1).val = (y 1).val
        omega
  · by_cases hd : (y 0).val < 1
    · rw [if_pos hd]
      refine (dif_pos ?_).trans ((first_tile i _ _).trans (if_congr Iff.rfl rfl (rd_of v1 _ ((y 0).val + 7) (y 1).val ?_ ?_)))
      · show (8 + (y 0).val + 136 - 1) % 136 < 8
        omega
      · show (8 + (y 0).val + 136 - 1) % 136 = (y 0).val + 7
        omega
      · show 0 + (y 1).val = (y 1).val
        omega
    · rw [if_neg hd]
      refine (dif_neg ?_).trans (rd_of v4 _ ((y 0).val - 1) (y 1).val ?_ ?_)
      · show ¬ (8 + (y 0).val + 136 - 1) % 136 < 8
        omega
      · show (8 + (y 0).val + 136 - 1) % 136 - 8 = (y 0).val - 1
        omega
      · show 0 + (y 1).val = (y 1).val
        omega

/-- Where the tiles lie. -/
theorem idx0 : ∀ t : Fin cfg0.N, win0_0.index t = ![t.val, 0] := (by decide +kernel : ∀ t : Fin grid0.N, _)
theorem idx1 : ∀ t : Fin cfg0.N, win0_1.index t = ![16 * t.val - 1, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem crd : ∀ t : Fin cfg0.N, (grid0.coords t 0).val = t.val := (by decide +kernel : ∀ t : Fin grid0.N, _)

/-- The windows' tiles at a point, as arrays. -/
def tileA (c : Dev nD) (t : Fin cfg0.N) : S128x5632.Idx → EReal := iblk m c 0 t
def tileH (c : Dev nD) (t : Fin cfg0.N) : S8x5632.Idx → EReal := iblk m c 1 t
def tileW (c : Dev nD) (t : Fin cfg0.N) : S3x5632.Idx → EReal := iblk m c 2 t
def tileD (c : Dev nD) (t : Fin cfg0.N) : S128x2816.Idx → EReal := iblk m c 3 t

theorem rdA (c : Dev nD) (t : Fin cfg0.N) (p q : ℕ) (hp : p < 128) (hq : q < 5632) :
    rd (tileA m c t) p q = rd (m ((c : Thread nD τ).loc main_arg0)) (128 * t.val + p) q := by
  have ht : t.val < 64 := t.isLt
  unfold rd
  rw [dif_pos ⟨hp, hq⟩, dif_pos ⟨by omega, hq⟩]
  unfold tileA
  blk_point [iblk, V, idx0 t]
theorem rdH (c : Dev nD) (t : Fin cfg0.N) (p q : ℕ) (hp : p < 8) (hq : q < 5632) :
    rd (tileH m c t) p q = rd (m ((c : Thread nD τ).loc main_arg0)) (8 * (16 * t.val - 1) + p) q := by
  have ht : t.val < 64 := t.isLt
  unfold rd
  rw [dif_pos ⟨hp, hq⟩, dif_pos ⟨by omega, hq⟩]
  unfold tileH
  blk_point [iblk, V, idx1 t]
theorem rdW (c : Dev nD) (t : Fin cfg0.N) (p q : ℕ) :
    rd (tileW m c t) p q = rd (m ((c : Thread nD τ).loc main_arg1)) p q := by
  unfold rd
  refine dite_congr rfl (fun h => ?_) (fun _ => rfl)
  unfold tileW
  blk_point [iblk, V, idx2 t]
theorem rdD (c : Dev nD) (t : Fin cfg0.N) (p q : ℕ) (hp : p < 128) (hq : q < 2816) :
    rd (tileD m c t) p q = rd (m ((c : Thread nD τ).loc main_arg2)) (128 * t.val + p) q := by
  have ht : t.val < 64 := t.isLt
  unfold rd
  rw [dif_pos ⟨hp, hq⟩, dif_pos ⟨by omega, hq⟩]
  unfold tileD
  blk_point [iblk, V, idx3 t]

/-- The kernel's convolution of a tile is the array's. -/
theorem conv_tile (c : Dev nD) (t : Fin cfg0.N) (y : S128x5632.Idx) :
    k0_pay1 (F := Ideal) (grid0.coords t) (tileH m c t) (tileA m c t) (tileW m c t) y
      = conv (m ((c : Thread nD τ).loc main_arg0)) (m ((c : Thread nD τ).loc main_arg1)) (128 * t.val + (y 0).val) (y 1).val := by
  have h0 := idx2_lt0 y
  have h1 := idx2_lt1 y
  have past (d : ℕ) (hd : d ≤ 8) : (if (y 0).val < d then (if (grid0.coords t 0).val = 0 then 0 else rd (tileH m c t) ((y 0).val + (8 - d)) (y 1).val) else rd (tileA m c t) ((y 0).val - d) (y 1).val)
      = before (m ((c : Thread nD τ).loc main_arg0)) d (128 * t.val + (y 0).val) (y 1).val := by
    unfold before
    rw [crd t]
    by_cases hy : (y 0).val < d
    · rw [if_pos hy]
      by_cases ht : t.val = 0
      · rw [if_pos ht, if_neg (by omega)]
      · rw [if_neg ht, if_pos (by omega), rdH m c t _ _ (by omega) h1]
        exact congrArg₂ (rd _) (by omega) rfl
    · rw [if_neg hy, if_pos (by omega), rdA m c t _ _ (by omega) h1]
      exact congrArg₂ (rd _) (by omega) rfl
  rw [conv_at, past 2 (by decide), past 1 (by decide), rdA m c t _ _ h0 h1, rdW, rdW, rdW]
  unfold conv
  rw [add_assoc, add_comm]

/-- The entries of the convolution's two halves. -/
theorem gate_at (i : grid0.Coords) (v1 : Vec Ideal S8x5632 .f32) (v4 : Vec Ideal S128x5632 .f32) (v5 : Vec Ideal S3x5632 .f32) (x : S128x2816.Idx) (j : S128x5632.Idx)
    (h0 : (j 0).val = (x 0).val) (h1 : (j 1).val = (x 1).val) : k0_pay2 i v1 v4 v5 x = k0_pay1 i v1 v4 v5 j := by
  unfold k0_pay2
  exact extractStridedSlice_apply ![0, 0] _ _ x j (fun a => match a with
    | ⟨0, _⟩ => by show (j 0).val = 0 + (x 0).val; omega
    | ⟨1, _⟩ => by show (j 1).val = 0 + (x 1).val; omega)

/-- The gradient of the half that is multiplied, at an entry. -/
theorem up_pay (i : grid0.Coords) (v1 : Vec Ideal S8x5632 .f32) (v4 : Vec Ideal S128x5632 .f32) (v5 : Vec Ideal S3x5632 .f32) (v25 : Vec Ideal S128x2816 .f32) (x : S128x2816.Idx) (j : S128x5632.Idx)
    (h0 : (j 0).val = (x 0).val) (h1 : (j 1).val = (x 1).val) :
    k0_pay5 i v1 v4 v5 v25 x = v25 x * k0_pay1 i v1 v4 v5 j * Ideal.logistic (k0_pay1 i v1 v4 v5 j) := by
  rw [← gate_at i v1 v4 v5 x j h0 h1]
  rfl

/-- The gradient of the gate, at an entry. -/
theorem gate_pay (i : grid0.Coords) (v1 : Vec Ideal S8x5632 .f32) (v4 : Vec Ideal S128x5632 .f32) (v5 : Vec Ideal S3x5632 .f32) (v25 : Vec Ideal S128x2816 .f32) (x : S128x2816.Idx) (j k : S128x5632.Idx)
    (h0 : (j 0).val = (x 0).val) (h1 : (j 1).val = (x 1).val) (h2 : (k 0).val = (x 0).val) (h3 : (k 1).val = 2816 + (x 1).val) :
    k0_pay4 i v1 v4 v5 v25 x = v25 x * k0_pay1 i v1 v4 v5 k * Ideal.logistic (k0_pay1 i v1 v4 v5 j)
      * (1 + k0_pay1 i v1 v4 v5 j * (1 - Ideal.logistic (k0_pay1 i v1 v4 v5 j))) := by
  have e : extractStridedSlice S128x2816 ![0, 2816] (k0_pay1 i v1 v4 v5) slices_S128x5632_o0_2816_S128x2816 x = k0_pay1 i v1 v4 v5 k :=
    extractStridedSlice_apply ![0, 2816] _ _ x k (fun a => match a with
      | ⟨0, _⟩ => by show (k 0).val = 0 + (x 0).val; omega
      | ⟨1, _⟩ => by show (k 1).val = 2816 + (x 1).val; omega)
  rw [← gate_at i v1 v4 v5 x j h0 h1, ← e, ← one_bits]
  rfl

/-- The reference's two halves and its sigmoid. -/
theorem ref_gate (X : S8192x5632.Idx → EReal) (W : S3x5632.Idx → EReal) (k : S8192x2816.Idx) :
    Cert.DmidRefIdeal.Read.val_main_v24 (F := Ideal) X W k = conv X W (k 0).val (k 1).val := by
  rw [Cert.DmidRefIdeal.Read.val_main_v24_apply, ref_conv]
theorem ref_up (X : S8192x5632.Idx → EReal) (W : S3x5632.Idx → EReal) (k : S8192x2816.Idx) :
    Cert.DmidRefIdeal.Read.val_main_v25 (F := Ideal) X W k = conv X W (k 0).val (2816 + (k 1).val) := by
  rw [Cert.DmidRefIdeal.Read.val_main_v25_apply, ref_conv]
theorem ref_sigmoid (X : S8192x5632.Idx → EReal) (W : S3x5632.Idx → EReal) (k : S8192x2816.Idx) :
    Cert.DmidRefIdeal.Read.val_main_v26_2 (F := Ideal) X W k = Ideal.logistic (conv X W (k 0).val (k 1).val) := by
  rw [Cert.DmidRefIdeal.Read.val_main_v26_2_apply, Cert.DmidRefIdeal.Read.val_main_call0_v4_apply, Cert.DmidRefIdeal.Read.val_main_call0_cst_0_apply,
    Cert.DmidRefIdeal.Read.val_main_call0_v3_apply, Cert.DmidRefIdeal.Read.val_main_call0_v2_apply, Cert.DmidRefIdeal.Read.val_main_call0_cst_apply,
    Cert.DmidRefIdeal.Read.val_main_call0_v1_apply, Cert.DmidRefIdeal.Read.val_main_call0_v0_apply, ref_gate, one_bits]
  rfl

/-- The reference's gradients of the two halves. -/
theorem ref_dup (X : S8192x5632.Idx → EReal) (W : S3x5632.Idx → EReal) (D : S8192x2816.Idx → EReal) (k : S8192x2816.Idx) :
    Cert.DmidRefIdeal.Read.val_main_v28 (F := Ideal) X W D k = conv X W (k 0).val (k 1).val * Ideal.logistic (conv X W (k 0).val (k 1).val) * D k := by
  rw [Cert.DmidRefIdeal.Read.val_main_v28_apply, Cert.DmidRefIdeal.Read.val_main_v26_0_apply, ref_gate, ref_sigmoid]
  rfl
theorem ref_dgate (X : S8192x5632.Idx → EReal) (W : S3x5632.Idx → EReal) (D : S8192x2816.Idx → EReal) (k : S8192x2816.Idx) :
    Cert.DmidRefIdeal.Read.val_main_v30 (F := Ideal) X W D k
      = D k * conv X W (k 0).val (2816 + (k 1).val) * Ideal.logistic (conv X W (k 0).val (k 1).val)
        + conv X W (k 0).val (k 1).val * (D k * conv X W (k 0).val (2816 + (k 1).val))
          * (Ideal.logistic (conv X W (k 0).val (k 1).val) * (1 - Ideal.logistic (conv X W (k 0).val (k 1).val))) := by
  rw [Cert.DmidRefIdeal.Read.val_main_v30_apply, Cert.DmidRefIdeal.Read.val_main_call1_v1_apply, Cert.DmidRefIdeal.Read.val_main_call1_v2_apply,
    Cert.DmidRefIdeal.Read.val_main_call1_v0_apply, Cert.DmidRefIdeal.Read.val_main_v29_apply, Cert.DmidRefIdeal.Read.val_main_v26_1_apply,
    Cert.DmidRefIdeal.Read.val_main_call0_v7_apply, Cert.DmidRefIdeal.Read.val_main_call0_v6_apply, Cert.DmidRefIdeal.Read.val_main_call0_cst_1_apply,
    ref_gate, ref_up, ref_sigmoid, one_bits]
  rfl

/-- The reference's result at an entry of either half. -/
theorem ref_left (X : S8192x5632.Idx → EReal) (W : S3x5632.Idx → EReal) (D : S8192x2816.Idx → EReal) (i : S8192x5632.Idx) (k : S8192x2816.Idx)
    (h0 : (i 0).val = (k 0).val) (h1 : (i 1).val = (k 1).val) :
    Cert.DmidRefIdeal.Read.val_main_v31 (F := Ideal) X W D i = Cert.DmidRefIdeal.Read.val_main_v30 (F := Ideal) X W D k := by
  have hk := idx2_lt1 k
  unfold Cert.DmidRefIdeal.Read.val_main_v31
  exact concatenate_pair_apply_left 1 (Cert.DmidRefIdeal.Read.val_main_v30 (F := Ideal) X W D) (Cert.DmidRefIdeal.Read.val_main_v28 (F := Ideal) X W D) _ i rfl k (fun a => match a with | ⟨0, _⟩ => h0.symm | ⟨1, _⟩ => h1.symm)
theorem ref_right (X : S8192x5632.Idx → EReal) (W : S3x5632.Idx → EReal) (D : S8192x2816.Idx → EReal) (i : S8192x5632.Idx) (k : S8192x2816.Idx)
    (h0 : (i 0).val = (k 0).val) (h1 : (i 1).val = 2816 + (k 1).val) :
    Cert.DmidRefIdeal.Read.val_main_v31 (F := Ideal) X W D i = Cert.DmidRefIdeal.Read.val_main_v28 (F := Ideal) X W D k := by
  unfold Cert.DmidRefIdeal.Read.val_main_v31
  exact concatenate_pair_apply_right 1 (Cert.DmidRefIdeal.Read.val_main_v30 (F := Ideal) X W D) (Cert.DmidRefIdeal.Read.val_main_v28 (F := Ideal) X W D) _ i rfl rfl k (fun a ha => match a with | ⟨0, _⟩ => h0.symm | ⟨1, _⟩ => absurd rfl ha) (h1.trans (Nat.add_comm _ _)).symm

/-- The convolution of arrays of real numbers is real. -/
theorem conv_real (X : S8192x5632.Idx → EReal) (W : S3x5632.Idx → EReal) (hX : ∀ i, IsReal (X i)) (hW : ∀ i, IsReal (W i)) (p q : ℕ) : IsReal (conv X W p q) := by
  have hb (d : ℕ) : IsReal (before X d p q) := by
    unfold before
    split
    · exact .rd X hX _ _
    · exact .zero
  exact (((hb 2).mul (.rd W hW _ _)).add ((hb 1).mul (.rd W hW _ _))).add ((IsReal.rd X hX _ _).mul (.rd W hW _ _))

/-- The two ways to write the gate's gradient agree on real numbers. -/
theorem gate_eq {g u d : EReal} (hg : IsReal g) (hu : IsReal u) (hd : IsReal d) :
    d * u * Ideal.logistic g * (1 + g * (1 - Ideal.logistic g)) = d * u * Ideal.logistic g + g * (d * u) * (Ideal.logistic g * (1 - Ideal.logistic g)) := by
  obtain ⟨g, rfl⟩ := hg
  obtain ⟨u, rfl⟩ := hu
  obtain ⟨d, rfl⟩ := hd
  rw [Ideal.logistic_coe]
  generalize (1 + Real.exp (-g))⁻¹ = s
  rw [← EReal.coe_one]
  simp only [← EReal.coe_mul, ← EReal.coe_sub, ← EReal.coe_add]
  refine congrArg _ ?_
  ring

/-- The kernel's result is the reference's, on arrays of real numbers. -/
theorem final (c : Dev nD) (hX : ∀ i, IsReal ((m ((c : Thread nD τ).loc main_arg0) : S8192x5632.Idx → EReal) i)) (hW : ∀ i, IsReal ((m ((c : Thread nD τ).loc main_arg1) : S3x5632.Idx → EReal) i))
    (hD : ∀ i, IsReal ((m ((c : Thread nD τ).loc main_arg2) : S8192x2816.Idx → EReal) i)) :
    (dats m 0 c).arrAt 4 cfg0.N = Cert.DmidRefIdeal.Read.val_main_v31 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold out0_4
  have ht : t.val < 64 := t.isLt
  have e0 : (((win0_4.blk t).view.emb y) 0).val = t.val * 128 + (y 0).val := by blk_simp [idx4 t]
  have e1 : (((win0_4.blk t).view.emb y) 1).val = (y 1).val := by blk_simp [idx4 t]
  canon_tiles x h
  · simp (disch := decide) only [r0_0, r0_1, r0_2, r0_3, View.ld_unit_lit']
    have ed : tileD m c t x = (m ((c : Thread nD τ).loc main_arg2) : S8192x2816.Idx → EReal) (Idealize.ShloMosaic.ix2 ⟨128 * t.val + (x 0).val, by omega⟩ ⟨(x 1).val, x1_lt⟩) := by
      unfold tileD
      blk_point [iblk, V, idx3 t]
    refine (up_pay (grid0.coords t) (tileH m c t) (tileA m c t) (tileW m c t) (tileD m c t) x (Idealize.ShloMosaic.ix2 ⟨(x 0).val, x0_lt⟩ ⟨(x 1).val, by omega⟩) rfl rfl).trans ?_
    rw [conv_tile, ed]
    refine Eq.trans ?_ (ref_right _ _ _ _ (Idealize.ShloMosaic.ix2 ⟨128 * t.val + (x 0).val, by omega⟩ ⟨(x 1).val, x1_lt⟩) (by rw [e0, h0]; show _ = 128 * t.val + (x 0).val; omega) (by rw [e1, h1]; rfl)).symm
    rw [ref_dup]
    exact mul_assoc _ _ _ |>.trans (mul_comm _ _)
  · simp (disch := decide) only [r0_0, r0_1, r0_2, r0_3, View.ld_unit_lit']
    have ed : tileD m c t x = (m ((c : Thread nD τ).loc main_arg2) : S8192x2816.Idx → EReal) (Idealize.ShloMosaic.ix2 ⟨128 * t.val + (x 0).val, by omega⟩ ⟨(x 1).val, x1_lt⟩) := by
      unfold tileD
      blk_point [iblk, V, idx3 t]
    refine (gate_pay (grid0.coords t) (tileH m c t) (tileA m c t) (tileW m c t) (tileD m c t) x (Idealize.ShloMosaic.ix2 ⟨(x 0).val, x0_lt⟩ ⟨(x 1).val, by omega⟩) (Idealize.ShloMosaic.ix2 ⟨(x 0).val, x0_lt⟩ ⟨2816 + (x 1).val, by omega⟩) rfl rfl rfl rfl).trans ?_
    rw [conv_tile, conv_tile, ed]
    refine Eq.trans ?_ (ref_left _ _ _ _ (Idealize.ShloMosaic.ix2 ⟨128 * t.val + (x 0).val, by omega⟩ ⟨(x 1).val, x1_lt⟩) (by rw [e0, h0]; show _ = 128 * t.val + (x 0).val; omega) (by rw [e1, h1]; rfl)).symm
    rw [ref_dgate]
    exact gate_eq (conv_real _ _ hX hW _ _) (conv_real _ _ hX hW _ _) (hD _)

/-- The precondition's own conditions. -/
theorem finite_facts : Cert.Pre_finite_dmid.Facts where
  bcast_S_S8192x5632 := by decide
  bcast_S_S3x5632 := by decide
  bcast_S_S8192x2816 := by decide

/-- On finite arguments the kernel and the reference agree. -/
theorem same : @Cert.algebraic_DmidIdeal_DmidRefIdeal_pre_finite_dmid Cert.DmidIdeal.Gen.facts Cert.DmidRefIdeal.Gen.facts finite_facts := by
  intro m ρ m' ρ' hpre hin
  refine ⟨fun c => Cert.DmidRefIdeal.Read.val_main_v31 (F := Ideal) (m ((c : Thread nD τ).loc main_arg0)) (m ((c : Thread nD τ).loc main_arg1)) (m ((c : Thread nD τ).loc main_arg2)), ?_, ?_⟩
  · refine (θ_run Cert.DmidIdeal.defs _ _).mono (fun r h c => ⟨(h c).1.trans (final m c ?_ ?_ ?_), (h c).2⟩) (run_blocks (F := Ideal) m ρ)
    · exact fun i => .of_lt (Va.finite_bit _ (congrFun (hpre c).1 i))
    · exact fun i => .of_lt (Va.finite_bit _ (congrFun (hpre c).2.1 i))
    · exact fun i => .of_lt (Va.finite_bit _ (congrFun (hpre c).2.2 i))
  · refine (θ_run Cert.DmidRefIdeal.defs _ _).mono (fun r h c => ⟨(h c).1.trans ?_, (h c).2⟩) (Cert.DmidRefIdeal.Value.run (F := Ideal) m' ρ')
    rw [Cert.DmidRefIdeal.Read.val_main_v31_eq, (hin c).1, (hin c).2.1, (hin c).2.2]

end Cert.Proof.Dmid

end
-- ==== Proof.Pr.Dconv.lean ====
/- The gradients of a short convolution's input and weights: the kernel works a tile of rows with the eight rows before
   and after it and adds the weights' gradient up over the tiles, the reference shifts the whole arrays. -/
module

public import proofs.«01_k».proof.Proof.Gen.DconvIdeal.Value
public import proofs.«01_k».proof.Proof.Gen.DconvRefIdeal.Read
public import proofs.«01_k».proof.Defs
public import proofs.«01_k».proof.Proof.Gen.DconvIdeal
public import proofs.«01_k».proof.Proof.Gen.DconvRefIdeal
public import proofs.«01_k».proof.Proof.Pr.Entry
public import Idealize.ShloMosaic.Lib.Pipeline.ValueKit

@[expose] public section

noncomputable section

namespace Cert.Proof.Dconv

open Cert.DconvIdeal Cert.DconvIdeal.Gen Cert.DconvIdeal.Value
open Idealize.ShloMosaic Idealize.ShloMosaic.TcCoe Idealize.ShloMosaic.ValueIdx Idealize.SL.Sem
open Finset Pr

variable (m : (ℓ : Loc nD τ sig) → Buf (Elt Ideal) ℓ)

/-- The row `d` before row `p`, zero before the array's first row. -/
def before (X : S8192x5632.Idx → EReal) (d p q : ℕ) : EReal := if d ≤ p then rd X (p - d) q else 0

/-- A choice by whether the point is the first, or the last, of its run. -/
theorem first_tile (i : grid0.Coords) (a b : EReal) :
    Scalar.select (Scalar.cmpi .eq (BitVec.ofNat 32 (i 1).val) 0#32) a b = if (i 1).val = 0 then a else b := by
  have h : ∀ k : Fin 32, (Scalar.cmpi .eq (BitVec.ofNat 32 k.val) 0#32 = 1#1) ↔ k.val = 0 := by decide
  unfold Scalar.select
  exact if_congr (h ⟨(i 1).val, (i 1).isLt⟩) rfl rfl
theorem last_tile (i : grid0.Coords) (a b : EReal) :
    Scalar.select (Scalar.cmpi .eq (BitVec.ofNat 32 (i 1).val) 31#32) a b = if (i 1).val = 31 then a else b := by
  have h : ∀ k : Fin 32, (Scalar.cmpi .eq (BitVec.ofNat 32 k.val) 31#32 = 1#1) ↔ k.val = 31 := by decide
  unfold Scalar.select
  exact if_congr (h ⟨(i 1).val, (i 1).isLt⟩) rfl rfl

/-- The gradient of the input at an entry of a tile. -/
theorem dx_at (i : grid0.Coords) (v0 : Vec Ideal S3x512 .f32) (v1 : Vec Ideal S256x512 .f32) (v3 : Vec Ideal S8x512 .f32) (y : S256x512.Idx) :
    k0_pay1 v0 (k0_pay4 i v1 v3) (k0_pay7 i v0 v1 v3) y = rd v1 (y 0).val (y 1).val * rd v0 2 (y 1).val
      + (if (y 0).val + 2 < 256 then rd v1 ((y 0).val + 2) (y 1).val else if (i 1).val = 31 then 0 else rd v3 ((y 0).val + 2 - 256) (y 1).val) * rd v0 0 (y 1).val
      + (if (y 0).val + 1 < 256 then rd v1 ((y 0).val + 1) (y 1).val else if (i 1).val = 31 then 0 else rd v3 ((y 0).val + 1 - 256) (y 1).val) * rd v0 1 (y 1).val := by
  have h0 := idx2_lt0 y
  have h1 := idx2_lt1 y
  unfold k0_pay1 k0_pay7 k0_pay4
  simp only [pointwise]
  refine congrArg₂ (· + ·) (congrArg₂ (· + ·) (congrArg₂ (· * ·) (rd_of v1 y _ _ rfl rfl) (rd_of v0 _ _ _ rfl (by simp)))
    (congrArg₂ (· * ·) ?_ (rd_of v0 _ _ _ rfl (by simp)))) (congrArg₂ (· * ·) ?_ (rd_of v0 _ _ _ rfl (by simp)))
  · by_cases hd : (y 0).val + 2 < 256
    · rw [if_pos hd]
      refine (dif_pos ?_).trans (rd_of v1 _ ((y 0).val + 2) (y 1).val ?_ ?_)
      · show (8 + (y 0).val + 264 - 6) % 264 < 256
        omega
      · show (8 + (y 0).val + 264 - 6) % 264 = (y 0).val + 2
        omega
      · show 0 + (y 1).val = (y 1).val
        omega
    · rw [if_neg hd]
      refine (dif_neg ?_).trans ((last_tile i _ _).trans (if_congr Iff.rfl rfl (rd_of v3 _ ((y 0).val + 2 - 256) (y 1).val ?_ ?_)))
      · show ¬ (8 + (y 0).val + 264 - 6) % 264 < 256
        omega
      · show (8 + (y 0).val + 264 - 6) % 264 - 256 = (y 0).val + 2 - 256
        omega
      · show 0 + (y 1).val = (y 1).val
        omega
  · by_cases hd : (y 0).val + 1 < 256
    · rw [if_pos hd]
      refine (dif_pos ?_).trans (rd_of v1 _ ((y 0).val + 1) (y 1).val ?_ ?_)
      · show (8 + (y 0).val + 264 - 7) % 264 < 256
        omega
      · show (8 + (y 0).val + 264 - 7) % 264 = (y 0).val + 1
        omega
      · show 0 + (y 1).val = (y 1).val
        omega
    · rw [if_neg hd]
      refine (dif_neg ?_).trans ((last_tile i _ _).trans (if_congr Iff.rfl rfl (rd_of v3 _ ((y 0).val + 1 - 256) (y 1).val ?_ ?_)))
      · show ¬ (8 + (y 0).val + 264 - 7) % 264 < 256
        omega
      · show (8 + (y 0).val + 264 - 7) % 264 - 256 = (y 0).val + 1 - 256
        omega
      · show 0 + (y 1).val = (y 1).val
        omega

/-- The row `d` before row `k` of a tile, from the eight rows before the tile when it lies there. -/
def past (i : grid0.Coords) (v7 : S8x512.Idx → EReal) (v11 : S256x512.Idx → EReal) (d k q : ℕ) : EReal :=
  if k < d then (if (i 1).val = 0 then 0 else rd v7 (k + 8 - d) q) else rd v11 (k - d) q

/-- The kernel's rows with the eight rows before them, at an entry. -/
theorem past_at (i : grid0.Coords) (v7 : Vec Ideal S8x512 .f32) (v11 : Vec Ideal S256x512 .f32) (j : S264x512.Idx) (d k q : ℕ) (hd : d ≤ 8)
    (h0 : (j 0).val = 8 + k - d) (h1 : (j 1).val = q) : k0_pay5 i v7 v11 j = past i v7 v11 d k q := by
  unfold k0_pay5 past
  simp only [pointwise]
  by_cases hk : k < d
  · rw [if_pos hk]
    refine (dif_pos ?_).trans ((first_tile i _ _).trans (if_congr Iff.rfl rfl (rd_of v7 _ (k + 8 - d) q ?_ h1)))
    · show (j 0).val < 8
      omega
    · show (j 0).val = k + 8 - d
      omega
  · rw [if_neg hk]
    refine (dif_neg ?_).trans (rd_of v11 _ (k - d) q ?_ h1)
    · show ¬ (j 0).val < 8
      omega
    · show (j 0).val - 8 = k - d
      omega

/-- A choice by the tap. -/
theorem tap (k j : Fin 3) (a b : EReal) : Scalar.select (IntOp.cmpi .eq (BitVec.ofNat 32 k.val) (BitVec.ofNat 32 j.val)) a b = if k = j then a else b := by
  have h : ∀ k j : Fin 3, (IntOp.cmpi .eq (BitVec.ofNat 32 k.val) (BitVec.ofNat 32 j.val) = 1#1) ↔ k = j := by decide
  unfold Scalar.select
  exact if_congr (h k j) rfl rfl

/-- The step of the weights' gradient. -/
theorem dw_at (i : grid0.Coords) (v1 v11 : Vec Ideal S256x512 .f32) (v7 : Vec Ideal S8x512 .f32) (v68 : Vec Ideal S3x512 .f32) (y : S3x512.Idx) :
    k0_pay3 v1 (k0_pay5 i v7 v11) (iota .tc S3x512 32 [0] iota_S3x512_d0_w32) (k0_pay6 v1 v11) k0_pay8 (k0_pay9 i v7 v11) v68 y
      = v68 y + ∑ k : Fin 256, rd v1 k.val (y 1).val * past i v7 v11 (2 - (y 0).val) k.val (y 1).val := by
  have h0 := idx2_lt0 y
  have h1 := idx2_lt1 y
  unfold k0_pay3 k0_pay9 k0_pay6 k0_pay8
  simp only [pointwise, zero_add, List.foldl_cons, List.foldl_nil, Nat.zero_mul, Nat.zero_add]
  refine congrArg (v68 y + ·) ?_
  have hT (T : ℕ → EReal) (r : Fin 3) : (if r = 2 then T 0 else 0) + (if r = 0 then T 2 else 0) + (if r = 1 then T 1 else 0) = T (2 - r.val) := by
    fin_cases r <;> simp
  refine (congrArg₂ (· + ·) (congrArg₂ (· + ·) ((tap ⟨(y 0).val, h0⟩ 2 _ _).trans (if_congr Iff.rfl ?_ rfl)) ((tap ⟨(y 0).val, h0⟩ 0 _ _).trans (if_congr Iff.rfl ?_ rfl)))
    ((tap ⟨(y 0).val, h0⟩ 1 _ _).trans (if_congr Iff.rfl ?_ rfl))).trans (hT (fun d => ∑ k : Fin 256, rd v1 k.val (y 1).val * past i v7 v11 d k.val (y 1).val) ⟨(y 0).val, h0⟩)
  · refine sum_congr rfl fun k _ => congrArg₂ (· * ·) (rd_of v1 _ k.val (y 1).val rfl rfl) ?_
    unfold past
    rw [if_neg (Nat.not_lt_zero _)]
    exact rd_of v11 _ k.val (y 1).val rfl rfl
  · refine sum_congr rfl fun k _ => congrArg₂ (· * ·) (rd_of v1 _ k.val (y 1).val rfl rfl) (past_at i v7 v11 _ 2 k.val (y 1).val (by decide) ?_ ?_)
    · have := k.isLt
      show (8 + k.val + 264 - 2) % 264 = 8 + k.val - 2
      omega
    · show 0 + (y 1).val = (y 1).val
      omega
  · refine sum_congr rfl fun k _ => congrArg₂ (· * ·) (rd_of v1 _ k.val (y 1).val rfl rfl) (past_at i v7 v11 _ 1 k.val (y 1).val (by decide) ?_ ?_)
    · have := k.isLt
      show (8 + k.val + 264 - 1) % 264 = 8 + k.val - 1
      omega
    · show 0 + (y 1).val = (y 1).val
      omega

theorem zero_at (y : S3x512.Idx) : k0_pay2 (F := Ideal) y = 0 := Ideal.ofBits_zero_f32

/-- Where the tiles lie. -/
theorem idx0 : ∀ t : Fin cfg0.N, win0_0.index t = ![t.val % 32, t.val / 32] := (by decide +kernel : ∀ t : Fin grid0.N, _)
theorem idx1 : ∀ t : Fin cfg0.N, win0_1.index t = ![min ((t.val % 32 + 1) * 32) 1023, t.val / 32] := (by decide +kernel : ∀ t : Fin grid0.N, _)
theorem idx2 : ∀ t : Fin cfg0.N, win0_2.index t = ![t.val % 32, t.val / 32] := (by decide +kernel : ∀ t : Fin grid0.N, _)
theorem idx3 : ∀ t : Fin cfg0.N, win0_3.index t = ![32 * (t.val % 32) - 1, t.val / 32] := (by decide +kernel : ∀ t : Fin grid0.N, _)
theorem idx4 : ∀ t : Fin cfg0.N, win0_4.index t = ![0, t.val / 32] := (by decide +kernel : ∀ t : Fin grid0.N, _)
theorem idx5 : ∀ t : Fin cfg0.N, win0_5.index t = ![t.val % 32, t.val / 32] := (by decide +kernel : ∀ t : Fin grid0.N, _)
theorem idx6 : ∀ t : Fin cfg0.N, win0_6.index t = ![0, t.val / 32] := (by decide +kernel : ∀ t : Fin grid0.N, _)
theorem crd : ∀ t : Fin cfg0.N, (grid0.coords t 1).val = t.val % 32 := (by decide +kernel : ∀ t : Fin grid0.N, _)

/-- The arguments, and the windows' tiles at a point. -/
def D (c : Dev nD) : S8192x5632.Idx → EReal := m ((c : Thread nD τ).loc main_arg0)
def X (c : Dev nD) : S8192x5632.Idx → EReal := m ((c : Thread nD τ).loc main_arg1)
def W (c : Dev nD) : S3x5632.Idx → EReal := m ((c : Thread nD τ).loc main_arg2)
def tileD (c : Dev nD) (t : Fin cfg0.N) : S256x512.Idx → EReal := iblk m c 0 t
def tileN (c : Dev nD) (t : Fin cfg0.N) : S8x512.Idx → EReal := iblk m c 1 t
def tileX (c : Dev nD) (t : Fin cfg0.N) : S256x512.Idx → EReal := iblk m c 2 t
def tileP (c : Dev nD) (t : Fin cfg0.N) : S8x512.Idx → EReal := iblk m c 3 t
def tileW (c : Dev nD) (t : Fin cfg0.N) : S3x512.Idx → EReal := iblk m c 4 t

/-- A tile's entry is the array's entry. -/
theorem rdD (c : Dev nD) (t : Fin cfg0.N) (p q : ℕ) (hp : p < 256) (hq : q < 512) :
    rd (tileD m c t) p q = rd (D m c) (256 * (t.val % 32) + p) (512 * (t.val / 32) + q) := by
  have ht : t.val < 352 := t.isLt
  unfold rd
  rw [dif_pos ⟨hp, hq⟩, dif_pos ⟨by omega, by omega⟩]
  unfold tileD D
  blk_point [iblk, V, idx0 t]
theorem rdN (c : Dev nD) (t : Fin cfg0.N) (p q : ℕ) (hp : p < 8) (hq : q < 512) (hl : ¬ t.val % 32 = 31) :
    rd (tileN m c t) p q = rd (D m c) (256 * (t.val % 32) + 256 + p) (512 * (t.val / 32) + q) := by
  have ht : t.val < 352 := t.isLt
  have hm : min ((t.val % 32 + 1) * 32) 1023 = (t.val % 32 + 1) * 32 := by omega
  unfold rd
  rw [dif_pos ⟨hp, hq⟩, dif_pos ⟨by omega, by omega⟩]
  unfold tileN D
  blk_point [iblk, V, idx1 t, hm]
theorem rdX (c : Dev nD) (t : Fin cfg0.N) (p q : ℕ) (hp : p < 256) (hq : q < 512) :
    rd (tileX m c t) p q = rd (X m c) (256 * (t.val % 32) + p) (512 * (t.val / 32) + q) := by
  have ht : t.val < 352 := t.isLt
  unfold rd
  rw [dif_pos ⟨hp, hq⟩, dif_pos ⟨by omega, by omega⟩]
  unfold tileX X
  blk_point [iblk, V, idx2 t]
theorem rdP (c : Dev nD) (t : Fin cfg0.N) (p q : ℕ) (hp : p < 8) (hq : q < 512) :
    rd (tileP m c t) p q = rd (X m c) (8 * (32 * (t.val % 32) - 1) + p) (512 * (t.val / 32) + q) := by
  have ht : t.val < 352 := t.isLt
  unfold rd
  rw [dif_pos ⟨hp, hq⟩, dif_pos ⟨by omega, by omega⟩]
  unfold tileP X
  blk_point [iblk, V, idx3 t]
theorem rdW (c : Dev nD) (t : Fin cfg0.N) (p q : ℕ) (hp : p < 3) (hq : q < 512) :
    rd (tileW m c t) p q = rd (W m c) p (512 * (t.val / 32) + q) := by
  have ht : t.val < 352 := t.isLt
  unfold rd
  rw [dif_pos ⟨hp, hq⟩, dif_pos ⟨hp, by omega⟩]
  unfold tileW W
  blk_point [iblk, V, idx4 t]

/-- The row before a tile's row is the array's. -/
theorem past_tile (c : Dev nD) (t : Fin cfg0.N) (d k q : ℕ) (hd : d ≤ 8) (hk : k < 256) (hq : q < 512) :
    past (grid0.coords t) (tileP m c t) (tileX m c t) d k q = before (X m c) d (256 * (t.val % 32) + k) (512 * (t.val / 32) + q) := by
  unfold past before
  rw [crd t]
  by_cases hy : k < d
  · rw [if_pos hy]
    by_cases ht : t.val % 32 = 0
    · rw [if_pos ht, if_neg (by omega)]
    · rw [if_neg ht, if_pos (by omega), rdP m c t _ _ (by omega) hq]
      exact congrArg₂ (rd _) (by omega) rfl
  · rw [if_neg hy, if_pos (by omega), rdX m c t _ _ (by omega) hq]
    exact congrArg₂ (rd _) (by omega) rfl

/-- The row after a tile's row is the array's. -/
theorem next_tile (c : Dev nD) (t : Fin cfg0.N) (d k q : ℕ) (hd : d ≤ 8) (hk : k < 256) (hq : q < 512) :
    (if k + d < 256 then rd (tileD m c t) (k + d) q else if (grid0.coords t 1).val = 31 then 0 else rd (tileN m c t) (k + d - 256) q)
      = rd (D m c) (256 * (t.val % 32) + k + d) (512 * (t.val / 32) + q) := by
  rw [crd t]
  by_cases hy : k + d < 256
  · rw [if_pos hy, rdD m c t _ _ hy hq, add_assoc]
  · rw [if_neg hy]
    by_cases ht : t.val % 32 = 31
    · rw [if_pos ht]
      unfold rd
      rw [dif_neg (by omega : ¬ (256 * (t.val % 32) + k + d < 8192 ∧ 512 * (t.val / 32) + q < 5632))]
    · rw [if_neg ht, rdN m c t _ _ (by omega) hq ht]
      exact congrArg₂ (rd _) (by omega) rfl

/-- The gradient of the input, and of a weight. -/
def dx (D : S8192x5632.Idx → EReal) (W : S3x5632.Idx → EReal) (p q : ℕ) : EReal :=
  rd D p q * rd W 2 q + rd D (p + 1) q * rd W 1 q + rd D (p + 2) q * rd W 0 q
def dw (D X : S8192x5632.Idx → EReal) (r q : ℕ) : EReal := ∑ k : Fin 8192, rd D k.val q * before X (2 - r) k.val q

/-- The outputs after a point. -/
theorem out5 (c : Dev nD) (t : Fin cfg0.N) : (outsAt0 m c t.val t.isLt).1 =
    k0_pay1 (iblk m c 4 t) (k0_pay4 (grid0.coords t) (iblk m c 0 t) (iblk m c 1 t)) (k0_pay7 (grid0.coords t) (iblk m c 4 t) (iblk m c 0 t) (iblk m c 1 t)) := by
  by_cases h : t.val % 32 = 0
  · rw [outsAt0_A m c t h]
    frame_out
  · rw [outsAt0_B m c t h]
    frame_out
theorem out6 (c : Dev nD) (t : Fin cfg0.N) (h : t.val % 32 = 32 - 1) (y : S3x512.Idx) : (outsAt0 m c t.val t.isLt).2 y =
    0 + ∑ s : Fin 32, ∑ k : Fin 256, rd (D m c) (256 * s.val + k.val) (512 * (t.val / 32) + (y 1).val) * before (X m c) (2 - (y 0).val) (256 * s.val + k.val) (512 * (t.val / 32) + (y 1).val) := by
  have y0 := idx2_lt0 y
  have y1 := idx2_lt1 y
  rw [Pipeline.eq_sum_fin_of_reset_step_apply_of_flush (fun n h => (outsAt0 m c n h).2) 32 (fun _ => (0 : EReal))
    (fun t y => ∑ k : Fin 256, rd (tileD m c t) k.val (y 1).val * past (grid0.coords t) (tileP m c t) (tileX m c t) (2 - (y 0).val) k.val (y 1).val)
    (fun t h y => by rw [outsAt0_A m c t h]; frame_out; rw [dw_at, zero_at]; rfl)
    (fun t h y => by rw [outsAt0_B m c t h]; frame_out; rw [dw_at]; rfl) t h y]
  refine congrArg (0 + ·) (sum_congr rfl fun s _ => sum_congr rfl fun k _ => ?_)
  have hs := s.isLt
  rw [rdD m c _ _ _ k.isLt y1, past_tile m c _ _ _ _ (by omega) k.isLt y1]
  have e0 : (32 * (t.val / 32) + s.val) % 32 = s.val := by omega
  have e1 : (32 * (t.val / 32) + s.val) / 32 = t.val / 32 := by omega
  show rd (D m c) (256 * ((32 * (t.val / 32) + s.val) % 32) + k.val) (512 * ((32 * (t.val / 32) + s.val) / 32) + (y 1).val) * before (X m c) (2 - (y 0).val) (256 * ((32 * (t.val / 32) + s.val) % 32) + k.val) (512 * ((32 * (t.val / 32) + s.val) / 32) + (y 1).val) = _
  rw [e0, e1]

/-- The reference's rows with two rows of zeros before them. -/
theorem ref_pad (A : S8192x5632.Idx → EReal) (j : Cert.DconvRefIdeal.S8194x5632.Idx) (p q d : ℕ) (hd : d ≤ 2) (h0 : (j 0).val = p + 2 - d) (h1 : (j 1).val = q) :
    Cert.DconvRefIdeal.Read.val_main_v1 (F := Ideal) A j = before A d p q := by
  unfold Cert.DconvRefIdeal.Read.val_main_v1 before
  simp only [pointwise]
  by_cases hp : d ≤ p
  · rw [if_pos hp]
    refine (dif_neg ?_).trans (rd_of A _ (p - d) q ?_ h1)
    · show ¬ (j 0).val < 2
      omega
    · show (j 0).val - 2 = p - d
      omega
  · rw [if_neg hp]
    refine (dif_pos ?_).trans ?_
    · show (j 0).val < 2
      omega
    · rw [Cert.DconvRefIdeal.Read.val_main_v0_apply, Cert.DconvRefIdeal.Read.val_main_cst_apply]
      simp only [pointwise]

/-- An array with rows of zeros before and after it, at an entry. -/
theorem pad_at {n N : ℕ} (l h : ℕ) (A : (⟨2, ![n, 5632]⟩ : Shape).Idx → EReal) (v : (⟨0, ![]⟩ : Shape).Idx → EReal) (hv : ∀ i, v i = 0)
    (hp : (⟨2, ![n, 5632]⟩ : Shape).Pads (![l, 0] : Fin 2 → ℕ) ![h, 0] ![0, 0] ⟨2, ![N, 5632]⟩) (hu : 0 < (⟨0, ![]⟩ : Shape).numel) (j : (⟨2, ![N, 5632]⟩ : Shape).Idx) :
    pad ⟨2, ![N, 5632]⟩ ![l, 0] ![h, 0] ![0, 0] A v hp hu j = if l ≤ (j 0).val then rd A ((j 0).val - l) (j 1).val else 0 := by
  have h1 := idx2_lt1 j
  simp only [pointwise, hv]
  by_cases hl : l ≤ (j 0).val
  · rw [if_pos hl]
    by_cases hn : (j 0).val - l < n
    · refine (dif_pos ?_).trans (rd_of A _ ((j 0).val - l) (j 1).val (Nat.div_one _) (Nat.div_one _))
      exact ⟨⟨hl, Nat.mod_one _, (Nat.div_one _).trans_lt hn⟩, Nat.zero_le _, Nat.mod_one _, (Nat.div_one _).trans_lt h1⟩
    · rw [show rd A ((j 0).val - l) (j 1).val = 0 from dif_neg fun h => hn h.1]
      refine dif_neg ?_
      rintro ⟨⟨_, _, h⟩, _⟩
      exact hn ((Nat.div_one _).symm.trans_lt h)
  · rw [if_neg hl]
    refine dif_neg ?_
    rintro ⟨⟨h, _⟩, _⟩
    exact hl h

/-- The entry of an array of scaled rows. -/
theorem rd_scaled (A Y : S8192x5632.Idx → EReal) (V : S3x5632.Idx → EReal) (r : ℕ) (h : ∀ i, Y i = rd A (i 0).val (i 1).val * rd V r (i 1).val) (p q : ℕ) :
    rd Y p q = rd A p q * rd V r q := by
  by_cases hp : p < 8192 ∧ q < 5632
  · exact (dif_pos hp).trans (h _)
  · rw [show rd Y p q = 0 from dif_neg hp, show rd A p q = 0 from dif_neg hp, zero_mul]

theorem ref_tap0 (A : S8192x5632.Idx → EReal) (V : S3x5632.Idx → EReal) (p q : ℕ) :
    rd (Cert.DconvRefIdeal.Read.val_main_v51 (F := Ideal) A V) p q = rd A p q * rd V 0 q := by
  refine rd_scaled A _ V 0 (fun i => ?_) p q
  have h0 := idx2_lt0 i
  have h1 := idx2_lt1 i
  rw [Cert.DconvRefIdeal.Read.val_main_v51_apply, Cert.DconvRefIdeal.Read.val_main_v25_apply, Cert.DconvRefIdeal.Read.val_main_v50_apply, Cert.DconvRefIdeal.Read.val_main_v6_apply,
    Cert.DconvRefIdeal.Read.val_main_v5_apply, Cert.DconvRefIdeal.Read.val_main_v4_apply]
  refine congrArg₂ (· * ·) (rd_of A _ _ _ ?_ ?_) (rd_of V _ 0 (i 1).val rfl (Nat.mod_eq_of_lt h1))
  · show ((i 0).val * 5632 + (i 1).val) / 5632 = (i 0).val
    omega
  · show ((i 0).val * 5632 + (i 1).val) % 5632 = (i 1).val
    omega
theorem ref_tap1 (A : S8192x5632.Idx → EReal) (V : S3x5632.Idx → EReal) (p q : ℕ) :
    rd (Cert.DconvRefIdeal.Read.val_main_v40 (F := Ideal) A V) p q = rd A p q * rd V 1 q := by
  refine rd_scaled A _ V 1 (fun i => ?_) p q
  have h0 := idx2_lt0 i
  have h1 := idx2_lt1 i
  rw [Cert.DconvRefIdeal.Read.val_main_v40_apply, Cert.DconvRefIdeal.Read.val_main_v25_apply, Cert.DconvRefIdeal.Read.val_main_v39_apply, Cert.DconvRefIdeal.Read.val_main_v14_apply,
    Cert.DconvRefIdeal.Read.val_main_v13_apply, Cert.DconvRefIdeal.Read.val_main_v12_apply]
  refine congrArg₂ (· * ·) (rd_of A _ _ _ ?_ ?_) (rd_of V _ 1 (i 1).val rfl (Nat.mod_eq_of_lt h1))
  · show ((i 0).val * 5632 + (i 1).val) / 5632 = (i 0).val
    omega
  · show ((i 0).val * 5632 + (i 1).val) % 5632 = (i 1).val
    omega
theorem ref_tap2 (A : S8192x5632.Idx → EReal) (V : S3x5632.Idx → EReal) (p q : ℕ) :
    rd (Cert.DconvRefIdeal.Read.val_main_v31 (F := Ideal) A V) p q = rd A p q * rd V 2 q := by
  refine rd_scaled A _ V 2 (fun i => ?_) p q
  have h0 := idx2_lt0 i
  have h1 := idx2_lt1 i
  rw [Cert.DconvRefIdeal.Read.val_main_v31_apply, Cert.DconvRefIdeal.Read.val_main_v26_apply, Cert.DconvRefIdeal.Read.val_main_v30_apply, Cert.DconvRefIdeal.Read.val_main_v21_apply,
    Cert.DconvRefIdeal.Read.val_main_v20_apply, Cert.DconvRefIdeal.Read.val_main_v19_apply]
  refine congrArg₂ (· * ·) (rd_of A _ _ _ ?_ ?_) (rd_of V _ 2 (i 1).val rfl (Nat.mod_eq_of_lt h1))
  · show ((i 0).val * 5632 + (i 1).val) / 5632 = (i 0).val
    omega
  · show ((i 0).val * 5632 + (i 1).val) % 5632 = (i 1).val
    omega

/-- The reference's gradient of the input. -/
theorem ref_dx (A : S8192x5632.Idx → EReal) (V : S3x5632.Idx → EReal) (i : S8192x5632.Idx) :
    Cert.DconvRefIdeal.Read.val_main_v60 (F := Ideal) A V i = dx A V (i 0).val (i 1).val := by
  rw [Cert.DconvRefIdeal.Read.val_main_v60_apply, Cert.DconvRefIdeal.Read.val_main_v59_apply, Cert.DconvRefIdeal.Read.val_main_v57_apply, Cert.DconvRefIdeal.Read.val_main_v46_apply]
  unfold Cert.DconvRefIdeal.Read.val_main_v35 Cert.DconvRefIdeal.Read.val_main_v45 Cert.DconvRefIdeal.Read.val_main_v56
  refine (congrArg₂ (· + ·) (congrArg₂ (· + ·) (pad_at 2 0 _ _ (fun _ => Ideal.ofBits_zero_f32) _ _ _) (pad_at 1 1 _ _ (fun _ => Ideal.ofBits_zero_f32) _ _ _)) (pad_at 0 2 _ _ (fun _ => Ideal.ofBits_zero_f32) _ _ _)).trans ?_
  rw [ref_tap0, ref_tap1, ref_tap2]
  have e : (Cert.DconvRefIdeal.Read.idx_main_v59 i 0).val = 2 + (i 0).val := rfl
  rw [e, if_pos (by omega), if_pos (by omega), if_pos (by omega)]
  unfold dx
  rw [show 2 + (i 0).val - 2 = (i 0).val by omega, show 2 + (i 0).val - 1 = (i 0).val + 1 by omega, show 2 + (i 0).val - 0 = (i 0).val + 2 by omega]

/-- The reference's three shifted arrays. -/
theorem ref_shift2 (A : S8192x5632.Idx → EReal) (j : S8192x5632.Idx) : Cert.DconvRefIdeal.Read.val_main_v3 (F := Ideal) A j = before A 2 (j 0).val (j 1).val := by
  rw [Cert.DconvRefIdeal.Read.val_main_v3_apply]
  exact ref_pad A _ _ _ 2 (by decide) rfl rfl
theorem ref_shift1 (A : S8192x5632.Idx → EReal) (j : S8192x5632.Idx) : Cert.DconvRefIdeal.Read.val_main_v11 (F := Ideal) A j = before A 1 (j 0).val (j 1).val := by
  rw [Cert.DconvRefIdeal.Read.val_main_v11_apply]
  exact ref_pad A _ _ _ 1 (by decide) (Nat.add_comm 1 _) rfl
theorem ref_shift0 (A : S8192x5632.Idx → EReal) (j : S8192x5632.Idx) : Cert.DconvRefIdeal.Read.val_main_v18 (F := Ideal) A j = before A 0 (j 0).val (j 1).val := by
  rw [Cert.DconvRefIdeal.Read.val_main_v18_apply]
  exact ref_pad A _ _ _ 0 (by decide) (Nat.add_comm 2 _) rfl

/-- The incoming gradient, reshaped to itself. -/
theorem ref_same (A : S8192x5632.Idx → EReal) (j : S8192x5632.Idx) : Cert.DconvRefIdeal.Read.val_main_v25 (F := Ideal) A j = rd A (j 0).val (j 1).val := by
  have h0 := idx2_lt0 j
  have h1 := idx2_lt1 j
  rw [Cert.DconvRefIdeal.Read.val_main_v25_apply]
  refine rd_of A _ _ _ ?_ ?_
  · show ((j 0).val * 5632 + (j 1).val) / 5632 = (j 0).val
    omega
  · show ((j 0).val * 5632 + (j 1).val) % 5632 = (j 1).val
    omega

/-- A sum over the rows of a product of the incoming gradient and a shifted array, laid out as a row. -/
theorem row_at (Y A B : S8192x5632.Idx → EReal) (d q : ℕ) (j : Fin 8192 → S8192x5632.Idx) (hq : ∀ k, (j k 1).val = q) (hk : ∀ k, (j k 0).val = k.val)
    (h : ∀ i, Y i = before B d (i 0).val (i 1).val * rd A (i 0).val (i 1).val) :
    Ideal.ofBits .f32 0x00000000#32 + (Ideal.ofBits .f32 0x00000000#32 + ∑ k, Y (j k)) = ∑ k : Fin 8192, rd A k.val q * before B d k.val q := by
  rw [Ideal.ofBits_zero_f32, zero_add, zero_add]
  refine sum_congr rfl fun k _ => ?_
  rw [h, hk, hq, mul_comm]

/-- The reference's rows of the weights' gradient. -/
theorem ref_row0 (A B : S8192x5632.Idx → EReal) (i : Cert.DconvRefIdeal.S1x5632.Idx) :
    Cert.DconvRefIdeal.Read.val_main_v53 (F := Ideal) A B i = ∑ k : Fin 8192, rd A k.val (i 1).val * before B 2 k.val (i 1).val := by
  rw [Cert.DconvRefIdeal.Read.val_main_v53_apply, Cert.DconvRefIdeal.Read.val_main_v52_apply, Fin.sum_univ_one, Cert.DconvRefIdeal.Read.val_main_v49_apply, Cert.DconvRefIdeal.Read.val_main_v48_apply]
  refine row_at (Cert.DconvRefIdeal.Read.val_main_v47 (F := Ideal) A B) A B 2 _ _ (fun k => ?_) (fun k => rfl)
    fun j => ?_
  · show 0 * 5632 + (i 1).val = (i 1).val
    omega
  · rw [Cert.DconvRefIdeal.Read.val_main_v47_apply, ref_shift2, ref_same]; rfl
theorem ref_row1 (A B : S8192x5632.Idx → EReal) (i : Cert.DconvRefIdeal.S1x5632.Idx) :
    Cert.DconvRefIdeal.Read.val_main_v42 (F := Ideal) A B i = ∑ k : Fin 8192, rd A k.val (i 1).val * before B 1 k.val (i 1).val := by
  rw [Cert.DconvRefIdeal.Read.val_main_v42_apply, Cert.DconvRefIdeal.Read.val_main_v41_apply, Fin.sum_univ_one, Cert.DconvRefIdeal.Read.val_main_v38_apply, Cert.DconvRefIdeal.Read.val_main_v37_apply]
  refine row_at (Cert.DconvRefIdeal.Read.val_main_v36 (F := Ideal) A B) A B 1 _ _ (fun k => ?_) (fun k => rfl)
    fun j => ?_
  · show 0 * 5632 + (i 1).val = (i 1).val
    omega
  · rw [Cert.DconvRefIdeal.Read.val_main_v36_apply, ref_shift1, ref_same]; rfl
theorem ref_row2 (A B : S8192x5632.Idx → EReal) (i : Cert.DconvRefIdeal.S1x5632.Idx) :
    Cert.DconvRefIdeal.Read.val_main_v33 (F := Ideal) A B i = ∑ k : Fin 8192, rd A k.val (i 1).val * before B 0 k.val (i 1).val := by
  rw [Cert.DconvRefIdeal.Read.val_main_v33_apply, Cert.DconvRefIdeal.Read.val_main_v32_apply, Fin.sum_univ_one, Cert.DconvRefIdeal.Read.val_main_v29_apply, Cert.DconvRefIdeal.Read.val_main_v28_apply]
  refine row_at (Cert.DconvRefIdeal.Read.val_main_v27 (F := Ideal) A B) A B 0 _ _ (fun k => ?_) (fun k => rfl)
    fun j => ?_
  · show 0 * 5632 + (i 1).val = (i 1).val
    omega
  · have e : Cert.DconvRefIdeal.Read.val_main_v26 (F := Ideal) A j = Cert.DconvRefIdeal.Read.val_main_v25 (F := Ideal) A j := rfl
    rw [Cert.DconvRefIdeal.Read.val_main_v27_apply, ref_shift0, e, ref_same]
    rfl

/-- A row of a one-row array. -/
theorem rd_one (Y : Cert.DconvRefIdeal.S1x5632.Idx → EReal) (f : ℕ → EReal) (h : ∀ i, Y i = f (i 1).val) (q : ℕ) (hq : q < 5632) : rd Y 0 q = f q :=
  (dif_pos ⟨Nat.one_pos, hq⟩).trans (h _)
theorem rd_past (Y : Cert.DconvRefIdeal.S1x5632.Idx → EReal) (p q : ℕ) (hp : 1 ≤ p) : rd Y p q = 0 := dif_neg fun h => absurd h.1 (by omega)

/-- The reference's gradient of the weights. -/
theorem ref_dw (A B : S8192x5632.Idx → EReal) (i : S3x5632.Idx) :
    Cert.DconvRefIdeal.Read.val_main_v55 (F := Ideal) A B i = dw A B (i 0).val (i 1).val := by
  have h1 := idx2_lt1 i
  rw [Cert.DconvRefIdeal.Read.val_main_v55_apply, Cert.DconvRefIdeal.Read.val_main_v44_apply]
  unfold Cert.DconvRefIdeal.Read.val_main_v34 Cert.DconvRefIdeal.Read.val_main_v43 Cert.DconvRefIdeal.Read.val_main_v54
  refine (congrArg₂ (· + ·) (congrArg₂ (· + ·) (pad_at 2 0 _ _ (fun _ => Ideal.ofBits_zero_f32) _ _ _) (pad_at 1 1 _ _ (fun _ => Ideal.ofBits_zero_f32) _ _ _)) (pad_at 0 2 _ _ (fun _ => Ideal.ofBits_zero_f32) _ _ _)).trans ?_
  have hr : (i 0).val = 0 ∨ (i 0).val = 1 ∨ (i 0).val = 2 := by have := idx2_lt0 i; omega
  unfold dw
  rcases hr with h | h | h
  · rw [h, if_neg (by decide), if_neg (by decide), if_pos (by decide), rd_one _ (fun q => ∑ k : Fin 8192, rd A k.val q * before B 2 k.val q) (ref_row0 A B) _ h1, zero_add, zero_add]
  · rw [h, if_neg (by decide), if_pos (by decide), if_pos (by decide), rd_one _ (fun q => ∑ k : Fin 8192, rd A k.val q * before B 1 k.val q) (ref_row1 A B) _ h1, rd_past _ _ _ (by decide), zero_add, add_zero]
  · rw [h, if_pos (by decide), if_pos (by decide), if_pos (by decide), rd_one _ (fun q => ∑ k : Fin 8192, rd A k.val q * before B 0 k.val q) (ref_row2 A B) _ h1, rd_past _ _ _ (by decide), rd_past _ _ _ (by decide), add_zero, add_zero]

/-- The kernel's results are the reference's. -/
theorem final5 (c : Dev nD) : (dats m 0 c).arrAt 5 cfg0.N = Cert.DconvRefIdeal.Read.val_main_v60 (F := Ideal) (m ((c : Thread nD τ).loc main_arg0)) (m ((c : Thread nD τ).loc main_arg2)) := by
  refine (dats m 0 c).arrAt_eq_of_covers 5 _ (by decide +kernel) fun t hf y => ?_
  blk_simp
  rw [after0_5, out5]
  have y0 := idx2_lt0 y
  have y1 := idx2_lt1 y
  have e0 : (((win0_5.blk t).view.emb y) 0).val = t.val % 32 * 256 + (y 0).val := by blk_simp [idx5 t]
  have e1 : (((win0_5.blk t).view.emb y) 1).val = t.val / 32 * 512 + (y 1).val := by blk_simp [idx5 t]
  refine (dx_at (grid0.coords t) (tileW m c t) (tileD m c t) (tileN m c t) y).trans ?_
  rw [next_tile m c t 2 _ _ (by decide) y0 y1, next_tile m c t 1 _ _ (by decide) y0 y1, rdD m c t _ _ y0 y1, rdW m c t 2 _ (by decide) y1, rdW m c t 1 _ (by decide) y1, rdW m c t 0 _ (by decide) y1]
  refine Eq.trans ?_ (ref_dx _ _ _).symm
  rw [e0, e1, mul_comm (t.val % 32), mul_comm (t.val / 32)]
  exact add_right_comm _ _ _

theorem final6 (c : Dev nD) : (dats m 0 c).arrAt 6 cfg0.N = Cert.DconvRefIdeal.Read.val_main_v55 (F := Ideal) (m ((c : Thread nD τ).loc main_arg0)) (m ((c : Thread nD τ).loc main_arg1)) := by
  refine (dats m 0 c).arrAt_eq_of_covers 6 _ (by decide +kernel) fun t hf y => ?_
  blk_simp
  rw [after0_6]
  have e0 : (((win0_6.blk t).view.emb y) 0).val = (y 0).val := by blk_simp [idx6 t]
  have e1 : (((win0_6.blk t).view.emb y) 1).val = t.val / 32 * 512 + (y 1).val := by blk_simp [idx6 t]
  refine (out6 m c t ((flush0_6 t).mp hf) y).trans ?_
  refine Eq.trans ?_ (ref_dw _ _ _).symm
  rw [e0, e1, zero_add, mul_comm (t.val / 32)]
  unfold dw
  refine Fin.sum_mul_add_congr fun s k hl => ?_
  exact congrArg (fun z => rd (D m c) z (512 * (t.val / 32) + (y 1).val) * before (X m c) (2 - (y 0).val) z (512 * (t.val / 32) + (y 1).val)) (by show 256 * s.val + k.val = s.val * 256 + k.val; omega)

/-- The kernel and the reference agree. -/
theorem same : @Cert.algebraic_DconvIdeal_DconvRefIdeal Cert.DconvIdeal.Gen.facts Cert.DconvRefIdeal.Gen.facts := by
  intro m ρ m' ρ' _ hin
  refine ⟨fun c => Cert.DconvRefIdeal.Read.val_main_v60 (F := Ideal) (m ((c : Thread nD τ).loc main_arg0)) (m ((c : Thread nD τ).loc main_arg2)),
    fun c => Cert.DconvRefIdeal.Read.val_main_v55 (F := Ideal) (m ((c : Thread nD τ).loc main_arg0)) (m ((c : Thread nD τ).loc main_arg1)), ?_, ?_⟩
  · exact (θ_run Cert.DconvIdeal.defs _ _).mono (fun r h c => ⟨(h c).1.trans (final5 m c), (h c).2.1.trans (final6 m c), (h c).2.2⟩) (run_blocks (F := Ideal) m ρ)
  · refine (θ_run Cert.DconvRefIdeal.defs _ _).mono (fun r h c => ⟨(h c).1.trans ?_, (h c).2.1.trans ?_, (h c).2.2⟩) (Cert.DconvRefIdeal.Value.run (F := Ideal) m' ρ')
    · rw [Cert.DconvRefIdeal.Read.val_main_v60_eq, (hin c).1, (hin c).2.2]
    · rw [Cert.DconvRefIdeal.Read.val_main_v55_eq, (hin c).1, (hin c).2.1]

end Cert.Proof.Dconv

end
-- ==== Proof.Pr.Dwup.lean ====
/- The gradient of a feed-forward block's first matrix: the tiled product of the columns of two arrays is the whole product. -/
module

public import proofs.«01_k».proof.Proof.Gen.DwupIdeal.Value
public import proofs.«01_k».proof.Proof.Gen.DwupRefIdeal.Read
public import proofs.«01_k».proof.Defs
public import proofs.«01_k».proof.Proof.Gen.DwupIdeal
public import proofs.«01_k».proof.Proof.Gen.DwupRefIdeal
public import Idealize.ShloMosaic.Lib.Pipeline.ValueKit
public import proofs.«01_k».proof.Proof.Pr.Product

@[expose] public section

noncomputable section

namespace Cert.Proof.Dwup

open Cert.DwupIdeal Cert.DwupIdeal.Gen Cert.DwupIdeal.Value
open Idealize.ShloMosaic Idealize.ShloMosaic.TcCoe Idealize.ShloMosaic.ValueIdx Idealize.SL.Sem
open Finset

variable (m : (ℓ : Loc nD τ sig) → Buf (Elt Ideal) ℓ)

/-- One step of the accumulation: a tile's product of columns by columns is added. -/
theorem step_at (a : Vec Ideal S1024x1408 .f32) (x0 : Vec Ideal S1024x1024 .bf16) (x1 : Vec Ideal S1024x1408 .bf16) (y : S1024x1408.Idx) :
    k0_pay2 a x0 x1 y = a y + ∑ k : Fin 1024, x0 (Idealize.ShloMosaic.ix2 k (y 0)) * x1 (Idealize.ShloMosaic.ix2 k (y 1)) := by
  unfold k0_pay2
  simp only [pointwise, zero_add]

/-- Where the tiles lie. -/
theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)

/-- The tiles of the two arguments. -/
def tileA (c : Dev nD) (t : Fin cfg0.N) : S1024x1024.Idx → EReal := iblk m c 0 t
def tileB (c : Dev nD) (t : Fin cfg0.N) : S1024x1408.Idx → EReal := iblk m c 1 t

/-- What the last point of a run writes back: the scratch. -/
theorem out_last (c : Dev nD) (t : Fin cfg0.N) (h : t.val % 8 = 7) : (outsAt0 m c t.val t.isLt).1 = (outsAt0 m c t.val t.isLt).2 := by
  rw [outsAt0_C m c t (by omega) h]
  frame_out

/-- The reference's product. -/
theorem ref_at (X0 : S8192x1024.Idx → EReal) (X1 : S8192x5632.Idx → EReal) (i : S1024x5632.Idx) :
    Cert.DwupRefIdeal.Read.val_main_v5 (F := Ideal) X0 X1 i = ∑ k : Fin 8192, X0 (Idealize.ShloMosaic.ix2 k (i 0)) * X1 (Idealize.ShloMosaic.ix2 k (i 1)) := by
  rw [Cert.DwupRefIdeal.Read.val_main_v5_apply, Cert.DwupRefIdeal.Read.val_main_v4_apply]
  exact Pr.tn_of X0 X1 (i 0) (i 1) _ _ (fun _ => rfl) (fun _ => rfl) (fun _ => rfl) fun _ => rfl

/-- The kernel's result is the reference's. -/
theorem final (c : Dev nD) : G2 m c = Cert.DwupRefIdeal.Read.val_main_v5 (F := Ideal) (m ((c : Thread nD τ).loc main_arg0)) (m ((c : Thread nD τ).loc main_arg1)) := by
  funext i
  have h0 := idx2_lt0 i
  have h1 := idx2_lt1 i
  have hp : pt2Of i < cfg0.N := by
    have := N_0
    show 8 * (4 * ((i 0).val / 1024 - 0) + 1 * ((i 1).val / 1408 - 0)) + 7 < grid0.N
    omega
  have hm : pt2Of i % 8 = 7 := by
    show (8 * _ + 7) % 8 = 7
    omega
  have hq : pt2Of i / 8 = (i 1).val / 1408 := by
    show (8 * (4 * ((i 0).val / 1024 - 0) + 1 * ((i 1).val / 1408 - 0)) + 7) / 8 = _
    omega
  unfold G2
  rw [dif_pos hp, ← outsAt0_sweep m c _ hp, ref_at]
  refine (congrFun (out_last m c ⟨pt2Of i, hp⟩ hm) _).trans (Pr.sweep (fun n h => (outsAt0 m c n h).2)
    (fun t y k => tileA m c t (Idealize.ShloMosaic.ix2 k (y 0))) (fun t y k => tileB m c t (Idealize.ShloMosaic.ix2 k (y 1)))
    (fun t h y => by rw [outsAt0_A m c t h (by omega)]; frame_out; rw [step_at]; exact congrArg (· + _) Ideal.ofBits_zero_f32)
    (fun t h y => by
      by_cases h3 : t.val % 8 = 7
      · rw [outsAt0_C m c t h h3]; frame_out; rw [step_at]; exact congrArg (· + _) (congrFun ((Memref.isWhole_whole cc0_scratch0).read_unread _) y)
      · rw [outsAt0_B m c t h h3]; frame_out; rw [step_at]; exact congrArg (· + _) (congrFun ((Memref.isWhole_whole cc0_scratch0).read_unread _) y))
    ⟨pt2Of i, hp⟩ hm _ (fun l => (m ((c : Thread nD τ).loc main_arg0) : S8192x1024.Idx → EReal) (Idealize.ShloMosaic.ix2 l (i 0)))
    (fun l => (m ((c : Thread nD τ).loc main_arg1) : S8192x5632.Idx → EReal) (Idealize.ShloMosaic.ix2 l (i 1))) rfl (fun s k hl => ?_) fun s k hl => ?_)
  · unfold tileA
    blk_point [iblk, V, idx0 ⟨_, Pipeline.run_point_lt_of_flush ⟨pt2Of i, hp⟩ hm s⟩]
  · unfold tileB
    blk_point [iblk, V, idx1 ⟨_, Pipeline.run_point_lt_of_flush ⟨pt2Of i, hp⟩ hm s⟩]

/-- The product of the kernel and the product of the reference agree. -/
theorem same : @Cert.algebraic_DwupIdeal_DwupRefIdeal Cert.DwupIdeal.Gen.facts Cert.DwupRefIdeal.Gen.facts := fun m ρ m' ρ' _ hin =>
  Pr.agree (run (F := Ideal) m ρ) (Cert.DwupRefIdeal.Value.run (F := Ideal) m' ρ') fun c => by
    rw [Cert.DwupRefIdeal.Read.val_main_v5_eq, (hin c).1, (hin c).2]
    exact final m c

end Cert.Proof.Dwup

end
-- ==== Proof.Pr.Dh.lean ====
/- The gradient of a feed-forward block's normalized input: the tiled product of the rows of two arrays is the whole product. -/
module

public import proofs.«01_k».proof.Proof.Gen.DhIdeal.Value
public import proofs.«01_k».proof.Proof.Gen.DhRefIdeal.Read
public import proofs.«01_k».proof.Defs
public import proofs.«01_k».proof.Proof.Gen.DhIdeal
public import proofs.«01_k».proof.Proof.Gen.DhRefIdeal
public import Idealize.ShloMosaic.Lib.Pipeline.ValueKit
public import proofs.«01_k».proof.Proof.Pr.Product

@[expose] public section

noncomputable section

namespace Cert.Proof.Dh

open Cert.DhIdeal Cert.DhIdeal.Gen Cert.DhIdeal.Value
open Idealize.ShloMosaic Idealize.ShloMosaic.TcCoe Idealize.ShloMosaic.ValueIdx Idealize.SL.Sem
open Finset

variable (m : (ℓ : Loc nD τ sig) → Buf (Elt Ideal) ℓ)

/-- One step of the accumulation: a tile's product of rows by rows is added. -/
theorem step_at (a : Vec Ideal S1024x1024 .f32) (x0 x1 : Vec Ideal S1024x1408 .bf16) (y : S1024x1024.Idx) :
    k0_pay2 a x0 x1 y = a y + ∑ k : Fin 1408, x0 (Idealize.ShloMosaic.ix2 (y 0) k) * x1 (Idealize.ShloMosaic.ix2 (y 1) k) := by
  unfold k0_pay2
  simp only [pointwise, zero_add]

/-- Where the tiles lie. -/
theorem idx0 : ∀ t : Fin cfg0.N, win0_0.index t = ![t.val / 4, t.val % 4] := (by decide +kernel : ∀ t : Fin grid0.N, _)
theorem idx1 : ∀ t : Fin cfg0.N, win0_1.index t = ![0, t.val % 4] := (by decide +kernel : ∀ t : Fin grid0.N, _)

/-- The tiles of the two arguments. -/
def tileA (c : Dev nD) (t : Fin cfg0.N) : S1024x1408.Idx → EReal := iblk m c 0 t
def tileB (c : Dev nD) (t : Fin cfg0.N) : S1024x1408.Idx → EReal := iblk m c 1 t

/-- What the last point of a run writes back: the scratch. -/
theorem out_last (c : Dev nD) (t : Fin cfg0.N) (h : t.val % 4 = 3) : (outsAt0 m c t.val t.isLt).1 = (outsAt0 m c t.val t.isLt).2 := by
  rw [outsAt0_C m c t (by omega) h]
  frame_out

/-- The reference's product. -/
theorem ref_at (X0 : S8192x5632.Idx → EReal) (X1 : S1024x5632.Idx → EReal) (i : S8192x1024.Idx) :
    Cert.DhRefIdeal.Read.val_main_v4 (F := Ideal) X0 X1 i = ∑ k : Fin 5632, X0 (Idealize.ShloMosaic.ix2 (i 0) k) * X1 (Idealize.ShloMosaic.ix2 (i 1) k) := by
  rw [Cert.DhRefIdeal.Read.val_main_v4_apply]
  exact Pr.nt_of X0 X1 (i 0) (i 1) _ _ (fun _ => rfl) (fun _ => rfl) (fun _ => rfl) fun _ => rfl

/-- The kernel's result is the reference's. -/
theorem final (c : Dev nD) : G2 m c = Cert.DhRefIdeal.Read.val_main_v4 (F := Ideal) (m ((c : Thread nD τ).loc main_arg0)) (m ((c : Thread nD τ).loc main_arg1)) := by
  funext i
  have h0 := idx2_lt0 i
  have h1 := idx2_lt1 i
  have hp : pt2Of i < cfg0.N := by
    have := N_0
    show 4 * (1 * ((i 0).val / 1024 - 0) + 1 * ((i 1).val / 1024 - 0)) + 3 < grid0.N
    omega
  have hm : pt2Of i % 4 = 3 := by
    show (4 * _ + 3) % 4 = 3
    omega
  have hq : pt2Of i / 4 = (i 0).val / 1024 := by
    show (4 * (1 * ((i 0).val / 1024 - 0) + 1 * ((i 1).val / 1024 - 0)) + 3) / 4 = _
    omega
  unfold G2
  rw [dif_pos hp, ← outsAt0_sweep m c _ hp, ref_at]
  refine (congrFun (out_last m c ⟨pt2Of i, hp⟩ hm) _).trans (Pr.sweep (fun n h => (outsAt0 m c n h).2)
    (fun t y k => tileA m c t (Idealize.ShloMosaic.ix2 (y 0) k)) (fun t y k => tileB m c t (Idealize.ShloMosaic.ix2 (y 1) k))
    (fun t h y => by rw [outsAt0_A m c t h (by omega)]; frame_out; rw [step_at]; exact congrArg (· + _) Ideal.ofBits_zero_f32)
    (fun t h y => by
      by_cases h3 : t.val % 4 = 3
      · rw [outsAt0_C m c t h h3]; frame_out; rw [step_at]; exact congrArg (· + _) (congrFun ((Memref.isWhole_whole cc0_scratch0).read_unread _) y)
      · rw [outsAt0_B m c t h h3]; frame_out; rw [step_at]; exact congrArg (· + _) (congrFun ((Memref.isWhole_whole cc0_scratch0).read_unread _) y))
    ⟨pt2Of i, hp⟩ hm _ (fun l => (m ((c : Thread nD τ).loc main_arg0) : S8192x5632.Idx → EReal) (Idealize.ShloMosaic.ix2 (i 0) l))
    (fun l => (m ((c : Thread nD τ).loc main_arg1) : S1024x5632.Idx → EReal) (Idealize.ShloMosaic.ix2 (i 1) l)) rfl (fun s k hl => ?_) fun s k hl => ?_)
  · unfold tileA
    blk_point [iblk, V, idx0 ⟨_, Pipeline.run_point_lt_of_flush ⟨pt2Of i, hp⟩ hm s⟩]
  · unfold tileB
    blk_point [iblk, V, idx1 ⟨_, Pipeline.run_point_lt_of_flush ⟨pt2Of i, hp⟩ hm s⟩]

/-- The product of the kernel and the product of the reference agree. -/
theorem same : @Cert.algebraic_DhIdeal_DhRefIdeal Cert.DhIdeal.Gen.facts Cert.DhRefIdeal.Gen.facts := fun m ρ m' ρ' _ hin =>
  Pr.agree (run (F := Ideal) m ρ) (Cert.DhRefIdeal.Value.run (F := Ideal) m' ρ') fun c => by
    rw [Cert.DhRefIdeal.Read.val_main_v4_eq, (hin c).1, (hin c).2]
    exact final m c

end Cert.Proof.Dh

end
-- ==== Proof.Pr.Norm.lean ====
/- A root-mean-square norm's gradient at an entry: two ways of writing it, equal for every row of extended reals. -/
module

public import proofs.«01_k».proof.Proof.Pr.Entry

@[expose] public section

noncomputable section

namespace Cert.Proof.Pr

open Idealize.ShloMosaic Idealize.ShloMosaic.ValueIdx
open Finset

/-- An entry inside an array. -/
theorem at_rd {n k : ℕ} (A : (⟨2, ![n, k]⟩ : Shape).Idx → EReal) (p q : ℕ) (hp : p < n) (hq : q < k) :
    rd A p q = A (Idealize.ShloMosaic.ix2 ⟨p, hp⟩ ⟨q, hq⟩) := dif_pos ⟨hp, hq⟩

/-- Row `p` of an array of width 1024. -/
def row {n : ℕ} (X : (⟨2, ![n, 1024]⟩ : Shape).Idx → EReal) (p : ℕ) (k : Fin 1024) : EReal := rd X p k.val

/-- The width of a row, the norm's small number and the factor of its derivative, as the programs' bits give them. -/
def width : EReal := Ideal.ofBits .f32 0x44800000#32
def small : EReal := Ideal.ofBits .f32 0x358637BD#32
def mhalf : EReal := Ideal.ofBits .f32 0xBF000000#32

theorem width_eq : width = ((1024 : ℝ) : EReal) := by
  simp [width, Ideal.ofBits, Ideal.ieee, -EReal.coe_mul]
  norm_num
theorem mhalf_eq : mhalf = ((-(1 / 2) : ℝ) : EReal) := by
  simp [mhalf, Ideal.ofBits, Ideal.ieee, -EReal.coe_mul, -EReal.coe_neg]
  norm_num
theorem small_pos : ∃ e : ℝ, 0 < e ∧ small = e := by
  refine ⟨8796093 * 2 ^ (-43 : ℤ), by positivity, ?_⟩
  simp [small, Ideal.ofBits, Ideal.ieee]

/-- The mean square of a row with the small number added, and its inverse root. -/
def msq (ξ : Fin 1024 → EReal) : EReal := Ideal.div (∑ k, ξ k * ξ k) width + small
def rs (ξ : Fin 1024 → EReal) : EReal := Ideal.rsqrt (msq ξ)

/-- The gradient at an entry as the kernel writes it, and as the reference does. -/
def dxK (ξ η γ : Fin 1024 → EReal) (δ : EReal) (j : Fin 1024) : EReal :=
  rs ξ * (η j * γ j) - ξ j * (rs ξ * rs ξ * rs ξ) * Ideal.div (∑ k, η k * γ k * ξ k) width + δ
def half (ξ η γ : Fin 1024 → EReal) : EReal :=
  Ideal.div ((∑ k, ξ k * (η k * γ k)) * (mhalf * Ideal.div (rs ξ) (msq ξ))) width
def dxR (ξ η γ : Fin 1024 → EReal) (δ : EReal) (j : Fin 1024) : EReal :=
  δ + η j * γ j * rs ξ + ξ j * half ξ η γ + half ξ η γ * ξ j

/-- A square is not negative. -/
theorem sq_nonneg' (x : EReal) : 0 ≤ x * x := by
  induction x with
  | bot => simp
  | top => simp
  | coe r => rw [← EReal.coe_mul]; exact_mod_cast mul_self_nonneg r

/-- A row's sum of squares is infinite, or the row is real and the sum a real number that is not negative. -/
theorem squares (ξ : Fin 1024 → EReal) : (∑ k, ξ k * ξ k) = ⊤ ∨ ((∀ k, IsReal (ξ k)) ∧ ∃ s : ℝ, 0 ≤ s ∧ (∑ k, ξ k * ξ k) = s) := by
  by_cases h : (∑ k, ξ k * ξ k) = ⊤
  · exact .inl h
  · have h0 : 0 ≤ ∑ k, ξ k * ξ k := sum_nonneg fun k _ => sq_nonneg' _
    refine .inr ⟨fun k => ?_, (∑ k, ξ k * ξ k).toReal, EReal.toReal_nonneg h0, ?_⟩
    · have hk : ξ k * ξ k ≤ ∑ k, ξ k * ξ k := single_le_sum (f := fun k => ξ k * ξ k) (fun k _ => sq_nonneg' _) (mem_univ k)
      have hn : ξ k * ξ k ≠ ⊤ := fun e => h (top_le_iff.mp (e ▸ hk))
      generalize ξ k = x at hn
      induction x with
      | bot => simp at hn
      | top => simp at hn
      | coe r => exact ⟨r, rfl⟩
    · exact (EReal.coe_toReal h (ne_of_gt (lt_of_lt_of_le EReal.bot_lt_zero h0))).symm

/-- An extended real times a real number, twice, is it times the double. -/
theorem twice (s : EReal) (a : ℝ) : s * (a : EReal) + s * (a : EReal) = s * ((2 * a : ℝ) : EReal) := by
  induction s with
  | coe r => norm_cast; ring
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The two ways of writing the gradient agree. -/
theorem dx_eq (ξ η γ : Fin 1024 → EReal) (δ : EReal) (j : Fin 1024) : dxK ξ η γ δ j = dxR ξ η γ δ j := by
  have hw : (1024 : ℝ) ≠ 0 := by norm_num
  obtain ⟨e, he, hs⟩ := small_pos
  have hsum : (∑ k, ξ k * (η k * γ k)) = ∑ k, η k * γ k * ξ k := sum_congr rfl fun k _ => mul_comm _ _
  rcases squares ξ with h | ⟨hr, s, h0, h⟩
  · have hm : msq ξ = ⊤ := by
      unfold msq
      rw [h, width_eq, Ideal.div_coe hw, EReal.top_mul_coe_of_pos (by norm_num), hs]
      rfl
    have hz : rs ξ = 0 := by unfold rs; rw [hm]; rfl
    unfold dxK dxR half
    rw [hz, hm]
    have hd : Ideal.div 0 ⊤ = 0 := by simp [Ideal.div]
    have hd' : Ideal.div 0 width = 0 := by rw [width_eq, Ideal.div_coe hw, zero_mul]
    rw [hd]
    simp [hd']
  · have hm : msq ξ = ((s * (1 / 1024) + e : ℝ) : EReal) := by
      unfold msq
      rw [h, width_eq, Ideal.div_coe hw, hs, ← EReal.coe_mul, ← EReal.coe_add]
    have hp : 0 < s * (1 / 1024) + e := by positivity
    generalize s * (1 / 1024) + e = v at hm hp
    have hz : rs ξ = (((Real.sqrt v)⁻¹ : ℝ) : EReal) := by
      unfold rs
      rw [hm, Ideal.rsqrt_coe, if_neg (by linarith), if_neg hp.ne']
    have hv : (Real.sqrt v)⁻¹ * (1 / v) = (Real.sqrt v)⁻¹ * (Real.sqrt v)⁻¹ * (Real.sqrt v)⁻¹ := by
      have : Real.sqrt v * Real.sqrt v = v := Real.mul_self_sqrt hp.le
      have hi : 1 / v = (Real.sqrt v)⁻¹ * (Real.sqrt v)⁻¹ := by rw [one_div, ← mul_inv, this]
      rw [hi, mul_assoc]
    obtain ⟨x, hx⟩ := hr j
    unfold dxK dxR half
    rw [hsum, hz, hm, hx, mhalf_eq, Ideal.div_coe hp.ne', width_eq, Ideal.div_coe hw, Ideal.div_coe hw]
    simp only [← EReal.coe_mul]
    rw [hv]
    generalize (Real.sqrt v)⁻¹ = r
    generalize (∑ k, η k * γ k * ξ k) = S
    generalize η j * γ j = A
    have e1 : ((x * (r * r * r) : ℝ) : EReal) * (S * ((1 / 1024 : ℝ) : EReal)) = S * ((x * (r * r * r) * (1 / 1024) : ℝ) : EReal) := by
      rw [EReal.coe_mul (x * (r * r * r)) (1 / 1024), ← mul_assoc, mul_comm _ S, mul_assoc]
    have e2 : (x : EReal) * (S * ((-(1 / 2) * (r * r * r) : ℝ) : EReal) * ((1 / 1024 : ℝ) : EReal)) = S * ((-(x * (r * r * r) * (1 / 1024)) / 2 : ℝ) : EReal) := by
      rw [mul_assoc S, ← EReal.coe_mul, mul_comm (x : EReal), mul_assoc, ← EReal.coe_mul]
      exact congrArg (fun z : ℝ => S * (z : EReal)) (by ring)
    rw [mul_comm _ (x : EReal), e2, e1, add_assoc _ (S * _), twice, sub_eq_add_neg, ← mul_neg, ← EReal.coe_neg]
    rw [show 2 * (-(x * (r * r * r) * (1 / 1024)) / 2) = -(x * (r * r * r) * (1 / 1024)) by ring, mul_comm (r : EReal) A, add_comm _ δ, add_assoc]

end Cert.Proof.Pr

end
-- ==== Proof.Pr.Dnorm.lean ====
/- The gradient of a root-mean-square norm and of its weights: the kernel works tiles of rows and adds the weights'
   gradient up over the tiles, the reference works the whole array. -/
module

public import proofs.«01_k».proof.Proof.Gen.DnormIdeal.Value
public import proofs.«01_k».proof.Proof.Gen.DnormRefIdeal.Read
public import proofs.«01_k».proof.Defs
public import proofs.«01_k».proof.Proof.Gen.DnormIdeal
public import proofs.«01_k».proof.Proof.Gen.DnormRefIdeal
public import proofs.«01_k».proof.Proof.Pr.Norm
public import Idealize.ShloMosaic.Lib.Pipeline.ValueKit

@[expose] public section

noncomputable section

namespace Cert.Proof.Dnorm

open Cert.DnormIdeal Cert.DnormIdeal.Gen Cert.DnormIdeal.Value
open Idealize.ShloMosaic Idealize.ShloMosaic.TcCoe Idealize.ShloMosaic.ValueIdx Idealize.SL.Sem
open Finset Pr

variable (m : (ℓ : Loc nD τ sig) → Buf (Elt Ideal) ℓ)

/-- The inverse root of a row's mean square, as the kernel's tile has it. -/
theorem rs_at (v0 : Vec Ideal S512x1024 .f32) (y : S512x1.Idx) :
    k0_pay2 v0 y = rs (row v0 (y 0).val) := by
  unfold k0_pay2
  simp only [pointwise, zero_add]
  unfold rs msq row
  refine congrArg (fun z => Ideal.rsqrt (Ideal.div z width + small)) (sum_congr rfl fun k _ => ?_)
  rw [rd_of v0 (Idealize.ShloMosaic.ix2 (y 0) k) (y 0).val k.val rfl rfl]

/-- The gradient at an entry of the kernel's tile. -/
theorem dx_at (v0 v1 : Vec Ideal S512x1024 .f32) (v10 : Vec Ideal S1x1024 .f32) (v27 : Vec Ideal S512x1024 .f32) (y : S512x1024.Idx) :
    k0_pay3 v0 v1 v10 v27 y = dxK (row v0 (y 0).val) (row v1 (y 0).val) (row v10 0) (v27 y) (y 1) := by
  unfold k0_pay3
  simp only [pointwise, zero_add, rs_at]
  unfold dxK
  rw [show row v0 (y 0).val (y 1) = v0 y from (rd_of v0 y _ _ rfl rfl).symm, show row v1 (y 0).val (y 1) = v1 y from (rd_of v1 y _ _ rfl rfl).symm]
  refine congrArg₂ (fun g s => rs (row v0 (y 0).val) * (v1 y * g) - v0 y * (rs (row v0 (y 0).val) * rs (row v0 (y 0).val) * rs (row v0 (y 0).val)) * Ideal.div s width + v27 y)
    (rd_of v10 _ 0 (y 1).val rfl rfl) (sum_congr rfl fun k _ => ?_)
  exact congrArg₂ (· * ·) (congrArg₂ (· * ·) (rd_of v1 _ (y 0).val k.val rfl rfl) (rd_of v10 _ 0 k.val rfl rfl)) (rd_of v0 _ (y 0).val k.val rfl rfl)

/-- One tile's share of the weights' gradient added. -/
theorem dw_at (v0 v1 : Vec Ideal S512x1024 .f32) (v35 : Vec Ideal S1x1024 .f32) (y : S1x1024.Idx) :
    k0_pay1 v0 v1 (k0_pay2 v0) v35 y = v35 y + ∑ k : Fin 512, rd v1 k (y 1).val * rd v0 k (y 1).val * rs (row v0 k) := by
  unfold k0_pay1
  simp only [pointwise, zero_add, rs_at]
  refine congrArg (v35 y + ·) (sum_congr rfl fun k _ => ?_)
  rw [rd_of v1 (Idealize.ShloMosaic.ix2 k (y 1)) k.val (y 1).val rfl rfl, rd_of v0 (Idealize.ShloMosaic.ix2 k (y 1)) k.val (y 1).val rfl rfl]
  rfl

/-- The three outputs after a point. -/
theorem out4 (c : Dev nD) (t : Fin cfg0.N) :
    (outsAt0 m c t.val t.isLt).1 = k0_pay3 (iblk m c 0 t) (iblk m c 2 t) (iblk m c 1 t) (iblk m c 3 t) := by
  by_cases h : t.val % 16 = 0
  · rw [outsAt0_A m c t h]
    frame_out
  · rw [outsAt0_B m c t h]
    frame_out

theorem out5 (c : Dev nD) (t : Fin cfg0.N) :
    (outsAt0 m c t.val t.isLt).2.1 = k0_pay3 (iblk m c 0 t) (iblk m c 2 t) (iblk m c 1 t) (iblk m c 3 t) := by
  by_cases h : t.val % 16 = 0
  · rw [outsAt0_A m c t h]
    frame_out
    rfl
  · rw [outsAt0_B m c t h]
    frame_out
    rfl

theorem zero_at (y : S1x1024.Idx) : k0_pay5 (F := Ideal) y = 0 := Ideal.ofBits_zero_f32

/-- Where the tiles lie. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

/-- The arguments, and their tiles. -/
def X (c : Dev nD) : S8192x1024.Idx → EReal := m ((c : Thread nD τ).loc main_arg0)
def G (c : Dev nD) : S1x1024.Idx → EReal := m ((c : Thread nD τ).loc main_arg1)
def H (c : Dev nD) : S8192x1024.Idx → EReal := m ((c : Thread nD τ).loc main_arg2)
def D (c : Dev nD) : S8192x1024.Idx → EReal := m ((c : Thread nD τ).loc main_arg3)
def tileX (c : Dev nD) (t : Fin cfg0.N) : S512x1024.Idx → EReal := iblk m c 0 t
def tileG (c : Dev nD) (t : Fin cfg0.N) : S1x1024.Idx → EReal := iblk m c 1 t
def tileH (c : Dev nD) (t : Fin cfg0.N) : S512x1024.Idx → EReal := iblk m c 2 t
def tileD (c : Dev nD) (t : Fin cfg0.N) : S512x1024.Idx → EReal := iblk m c 3 t

/-- A tile's row is the array's row. -/
theorem rdX (c : Dev nD) (t : Fin cfg0.N) (p q : ℕ) (hp : p < 512) (hq : q < 1024) :
    rd (tileX m c t) p q = rd (X m c) (512 * t.val + p) q := by
  have ht : t.val < 16 := t.isLt
  rw [at_rd (tileX m c t) p q hp hq, at_rd (X m c) (512 * t.val + p) q (by omega) hq]
  unfold tileX X
  blk_point [iblk, V, idx0 t]
theorem rdH (c : Dev nD) (t : Fin cfg0.N) (p q : ℕ) (hp : p < 512) (hq : q < 1024) :
    rd (tileH m c t) p q = rd (H m c) (512 * t.val + p) q := by
  have ht : t.val < 16 := t.isLt
  rw [at_rd (tileH m c t) p q hp hq, at_rd (H m c) (512 * t.val + p) q (by omega) hq]
  unfold tileH H
  blk_point [iblk, V, idx2 t]
theorem rdG (c : Dev nD) (t : Fin cfg0.N) (q : ℕ) (hq : q < 1024) :
    rd (tileG m c t) 0 q = rd (G m c) 0 q := by
  rw [at_rd (tileG m c t) 0 q (by omega) hq, at_rd (G m c) 0 q (by omega) hq]
  unfold tileG G
  blk_point [iblk, V, idx1 t]

/-- The gradient at an entry of a tile, from the whole arrays. -/
theorem dx_tile (c : Dev nD) (t : Fin cfg0.N) (y : S512x1024.Idx) (i : S8192x1024.Idx) (e0 : (i 0).val = t.val * 512 + (y 0).val) (e1 : (i 1).val = (y 1).val) :
    (k0_pay3 (F := Ideal) (tileX m c t) (tileH m c t) (tileG m c t) (tileD m c t) y : EReal) =
      dxR (row (X m c) (i 0).val) (row (H m c) (i 0).val) (row (G m c) 0) (D m c i) (i 1) := by
  have y0 := idx2_lt0 y
  rw [dx_at]
  refine (dx_eq _ _ _ _ _).trans ?_
  rw [show row (tileX m c t) (y 0).val = row (X m c) (i 0).val from funext fun k => (rdX m c t _ _ y0 k.isLt).trans (congrArg (fun z => rd (X m c) z k.val) (by omega)),
    show row (tileH m c t) (y 0).val = row (H m c) (i 0).val from funext fun k => (rdH m c t _ _ y0 k.isLt).trans (congrArg (fun z => rd (H m c) z k.val) (by omega)),
    show row (tileG m c t) 0 = row (G m c) 0 from funext fun k => rdG m c t _ k.isLt,
    show (i 1 : Fin 1024) = y 1 from Fin.ext e1]
  refine congrArg (fun z => dxR _ _ _ z _) ?_
  unfold tileD D
  blk_point [iblk, V, idx3 t]

/-- The weights' gradient after the last point. -/
theorem dw_last (c : Dev nD) (t : Fin cfg0.N) (h : t.val + 1 = 16) (y : S1x1024.Idx) :
    (outsAt0 m c t.val t.isLt).2.2 y = 0 + ∑ s : Fin 16, ∑ k : Fin 512,
      rd (H m c) (512 * s.val + k.val) (y 1).val * rd (X m c) (512 * s.val + k.val) (y 1).val * rs (row (X m c) (512 * s.val + k.val)) := by
  have y1 := idx2_lt1 y
  rw [Pipeline.eq_sum_fin_of_reset_step_apply_last (fun n h => (outsAt0 m c n h).2.2) 16 (fun _ => (0 : EReal))
    (fun t y => ∑ k : Fin 512, rd (tileH m c t) k (y 1).val * rd (tileX m c t) k (y 1).val * rs (row (tileX m c t) k))
    (fun t h y => by rw [outsAt0_A m c t h]; frame_out; rw [dw_at, zero_at]; rfl)
    (fun t h y => by rw [outsAt0_B m c t h]; frame_out; rw [dw_at]; rfl) (le_of_eq N_0) t (h.trans N_0.symm) y]
  refine congrArg (0 + ·) (sum_congr rfl fun t _ => sum_congr rfl fun k _ => ?_)
  rw [rdX m c t _ _ k.isLt y1, rdH m c t _ _ k.isLt y1, show row (tileX m c t) k.val = row (X m c) (512 * t.val + k.val) from funext fun j => rdX m c t _ _ k.isLt j.isLt]

/-- The reference's mean square of a row, and its inverse root. -/
theorem ref_ms (A : S8192x1024.Idx → EReal) (j : Cert.DnormRefIdeal.S8192x1.Idx) (p : ℕ) (h : (j 0).val = p) :
    Cert.DnormRefIdeal.Read.val_main_v6 (F := Ideal) A j = msq (row A p) := by
  rw [Cert.DnormRefIdeal.Read.val_main_v6_apply, Cert.DnormRefIdeal.Read.val_main_v4_apply,
    Cert.DnormRefIdeal.Read.val_main_v2_apply, Cert.DnormRefIdeal.Read.val_main_v1_apply, Cert.DnormRefIdeal.Read.val_main_v3_apply, Cert.DnormRefIdeal.Read.val_main_v5_apply]
  show Ideal.div (Ideal.ofBits .f32 0x00000000#32 + ∑ k : Fin 1024, _) width + small = _
  rw [Ideal.ofBits_zero_f32, zero_add]
  unfold msq row
  refine congrArg (fun z => Ideal.div z width + small) (sum_congr rfl fun k _ => ?_)
  rw [Cert.DnormRefIdeal.Read.val_main_v0_apply, rd_of A (Cert.DnormRefIdeal.Read.idx_main_v1 (Cert.DnormRefIdeal.Read.idx_main_v2 j) k) p k.val h rfl]
  rfl
theorem ref_rs (A : S8192x1024.Idx → EReal) (j : Cert.DnormRefIdeal.S8192x1.Idx) (p : ℕ) (h : (j 0).val = p) :
    Cert.DnormRefIdeal.Read.val_main_v7 (F := Ideal) A j = rs (row A p) := by
  rw [Cert.DnormRefIdeal.Read.val_main_v7_apply, ref_ms A j p h]
  rfl

/-- The reference's product of the incoming gradient and the weights. -/
theorem ref_hg (B : S1x1024.Idx → EReal) (E : S8192x1024.Idx → EReal) (i : S8192x1024.Idx) (p : ℕ) (q : Fin 1024) (h0 : (i 0).val = p) (h1 : (i 1).val = q.val) :
    Cert.DnormRefIdeal.Read.val_main_v19 (F := Ideal) B E i = row E p q * row B 0 q := by
  rw [Cert.DnormRefIdeal.Read.val_main_v19_apply, Cert.DnormRefIdeal.Read.val_main_v18_apply, rd_of E i p q.val h0 h1, rd_of B (Cert.DnormRefIdeal.Read.idx_main_v18 i) 0 q.val rfl h1]
  rfl

/-- The reference's half of the mean square's share. -/
theorem ref_half (A : S8192x1024.Idx → EReal) (B : S1x1024.Idx → EReal) (E : S8192x1024.Idx → EReal) (i : S8192x1024.Idx) (p : ℕ) (h : (i 0).val = p) :
    Cert.DnormRefIdeal.Read.val_main_v30 (F := Ideal) A B E i = half (row A p) (row E p) (row B 0) := by
  rw [Cert.DnormRefIdeal.Read.val_main_v30_apply, Cert.DnormRefIdeal.Read.val_main_v29_apply, Fin.sum_univ_one,
    Cert.DnormRefIdeal.Read.val_main_v28_apply, Cert.DnormRefIdeal.Read.val_main_v26_apply, Cert.DnormRefIdeal.Read.val_main_v22_apply, Cert.DnormRefIdeal.Read.val_main_v21_apply,
    Cert.DnormRefIdeal.Read.val_main_v10_apply, Cert.DnormRefIdeal.Read.val_main_v9_apply, Cert.DnormRefIdeal.Read.val_main_v8_apply, ref_rs A _ p h, Cert.DnormRefIdeal.Read.val_main_v27_apply]
  have hm : Cert.DnormRefIdeal.Read.val_main_v6 (F := Ideal) A (Cert.DnormRefIdeal.Read.idx_main_v29 (Cert.DnormRefIdeal.Read.idx_main_v30 i) 0) = msq (row A p) := ref_ms A _ p h
  rw [hm]
  show Ideal.ofBits .f32 0x00000000#32 + Ideal.div ((Ideal.ofBits .f32 0x00000000#32 + ∑ k : Fin 1024, _) * (mhalf * Ideal.div (rs (row A p)) (msq (row A p)))) width = _
  rw [Ideal.ofBits_zero_f32, zero_add, zero_add]
  unfold half
  refine congrArg (fun z => Ideal.div (z * (mhalf * Ideal.div (rs (row A p)) (msq (row A p)))) width) (sum_congr rfl fun k _ => ?_)
  have hi : (Cert.DnormRefIdeal.Read.idx_main_v21 (Cert.DnormRefIdeal.Read.idx_main_v22 (Cert.DnormRefIdeal.Read.idx_main_v29 (Cert.DnormRefIdeal.Read.idx_main_v30 i) 0)) k 0).val = p := by
    have : (i 0).val < 8192 := (i 0).isLt
    show (i 0).val * 1 + 0 = p
    omega
  rw [Cert.DnormRefIdeal.Read.val_main_v20_apply, ref_hg B E _ p k hi rfl]
  exact congrArg (· * _) (rd_of A _ p k.val hi rfl)

/-- The reference's gradient at an entry. -/
theorem ref_dx (A : S8192x1024.Idx → EReal) (B : S1x1024.Idx → EReal) (E K : S8192x1024.Idx → EReal) (i : S8192x1024.Idx) :
    Cert.DnormRefIdeal.Read.val_main_v34 (F := Ideal) A B E K i = dxR (row A (i 0).val) (row E (i 0).val) (row B 0) (K i) (i 1) := by
  rw [Cert.DnormRefIdeal.Read.val_main_v34_apply, Cert.DnormRefIdeal.Read.val_main_v32_apply, Cert.DnormRefIdeal.Read.val_main_v25_apply, Cert.DnormRefIdeal.Read.val_main_v24_apply,
    Cert.DnormRefIdeal.Read.val_main_v23_apply, Cert.DnormRefIdeal.Read.val_main_v31_apply, Cert.DnormRefIdeal.Read.val_main_v33_apply,
    ref_half A B E i _ rfl, ref_rs A _ (i 0).val rfl, ref_hg B E i _ (i 1) rfl rfl, rd_of A i _ _ rfl rfl]
  rfl

/-- The reference's gradient of a weight. -/
theorem ref_dw (A E : S8192x1024.Idx → EReal) (i : S1x1024.Idx) :
    Cert.DnormRefIdeal.Read.val_main_v17 (F := Ideal) A E i = ∑ k : Fin 8192, rd E k.val (i 1).val * rd A k.val (i 1).val * rs (row A k.val) := by
  rw [Cert.DnormRefIdeal.Read.val_main_v17_apply, Cert.DnormRefIdeal.Read.val_main_v16_apply]
  show Ideal.ofBits .f32 0x00000000#32 + _ = _
  rw [Ideal.ofBits_zero_f32, zero_add]
  refine sum_congr rfl fun k _ => ?_
  have hi : (Cert.DnormRefIdeal.Read.idx_main_v16 (Cert.DnormRefIdeal.Read.idx_main_v17 i) k 1).val = (i 1).val := by
    have : (i 0).val < 1 := (i 0).isLt
    show (i 0).val * 1024 + (i 1).val = (i 1).val
    omega
  rw [Cert.DnormRefIdeal.Read.val_main_v15_apply, Cert.DnormRefIdeal.Read.val_main_v12_apply, Cert.DnormRefIdeal.Read.val_main_v11_apply, ref_rs A _ k.val rfl,
    rd_of A (Cert.DnormRefIdeal.Read.idx_main_v16 (Cert.DnormRefIdeal.Read.idx_main_v17 i) k) k.val (i 1).val rfl hi,
    rd_of E (Cert.DnormRefIdeal.Read.idx_main_v16 (Cert.DnormRefIdeal.Read.idx_main_v17 i) k) k.val (i 1).val rfl hi]
  exact (mul_comm _ _).trans (mul_assoc _ _ _).symm

/-- The last point. -/
def last : Fin cfg0.N := ⟨15, Nat.lt_of_lt_of_eq (by decide : 15 < 16) N_0.symm⟩

/-- The kernel's results are the reference's. -/
theorem final4 (c : Dev nD) : (dats m 0 c).arrAt 4 cfg0.N = Cert.DnormRefIdeal.Read.val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out4]
  refine (dx_tile m c t y _ ?_ ?_).trans (ref_dx _ _ _ _ _).symm
  · blk_simp [idx4 t]
  · blk_simp [idx4 t]

theorem final5 (c : Dev nD) : (dats m 0 c).arrAt 5 cfg0.N = Cert.DnormRefIdeal.Read.val_main_v35 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, out5]
  refine (dx_tile m c t y _ ?_ ?_).trans (ref_dx _ _ _ _ _).symm
  · blk_simp [idx5 t]
  · blk_simp [idx5 t]

theorem final6 (c : Dev nD) : (dats m 0 c).arrAt 6 cfg0.N = Cert.DnormRefIdeal.Read.val_main_v17 (F := Ideal) (m ((c : Thread nD τ).loc main_arg0)) (m ((c : Thread nD τ).loc main_arg2)) := by
  funext i
  refine ((dats m 0 c).arrAt_emb_eq_after_last 6 last (by decide +kernel) i).trans ?_
  refine (congrFun (after0_6 m c last) _).trans ?_
  rw [dw_last m c last rfl, zero_add, ref_dw]
  refine Fin.sum_mul_add_congr fun s k hl => ?_
  exact congrArg (fun z => rd (H m c) z (i 1).val * rd (X m c) z (i 1).val * rs (row (X m c) z)) (by show 512 * s.val + k.val = s.val * 512 + k.val; omega)

/-- The kernel and the reference agree. -/
theorem same : @Cert.algebraic_DnormIdeal_DnormRefIdeal Cert.DnormIdeal.Gen.facts Cert.DnormRefIdeal.Gen.facts := by
  intro m ρ m' ρ' _ hin
  refine ⟨fun c => Cert.DnormRefIdeal.Read.val_main_v34 (F := Ideal) (m ((c : Thread nD τ).loc main_arg0)) (m ((c : Thread nD τ).loc main_arg1)) (m ((c : Thread nD τ).loc main_arg2)) (m ((c : Thread nD τ).loc main_arg3)),
    fun c => Cert.DnormRefIdeal.Read.val_main_v35 (F := Ideal) (m ((c : Thread nD τ).loc main_arg0)) (m ((c : Thread nD τ).loc main_arg1)) (m ((c : Thread nD τ).loc main_arg2)) (m ((c : Thread nD τ).loc main_arg3)),
    fun c => Cert.DnormRefIdeal.Read.val_main_v17 (F := Ideal) (m ((c : Thread nD τ).loc main_arg0)) (m ((c : Thread nD τ).loc main_arg2)), ?_, ?_⟩
  · exact (θ_run Cert.DnormIdeal.defs _ _).mono (fun r h c => ⟨(h c).1.trans (final4 m c), (h c).2.1.trans (final5 m c), (h c).2.2.1.trans (final6 m c), (h c).2.2.2⟩) (run_blocks (F := Ideal) m ρ)
  · refine (θ_run Cert.DnormRefIdeal.defs _ _).mono (fun r h c => ⟨(h c).1.trans ?_, (h c).2.1.trans ?_, (h c).2.2.1.trans ?_, (h c).2.2.2⟩) (Cert.DnormRefIdeal.Value.run (F := Ideal) m' ρ')
    · rw [Cert.DnormRefIdeal.Read.val_main_v34_eq, (hin c).1, (hin c).2.1, (hin c).2.2.1, (hin c).2.2.2]
    · rw [Cert.DnormRefIdeal.Read.val_main_v35_eq, (hin c).1, (hin c).2.1, (hin c).2.2.1, (hin c).2.2.2]
    · rw [Cert.DnormRefIdeal.Read.val_main_v17_eq, (hin c).1, (hin c).2.2.1]

end Cert.Proof.Dnorm

end
-- ==== Proof.Pr.Dwout.lean ====
/- The gradient of a square matrix: the tiled product of the columns of two arrays is the whole product. -/
module

public import proofs.«01_k».proof.Proof.Gen.DwoutIdeal.Value
public import proofs.«01_k».proof.Proof.Gen.DwoutRefIdeal.Read
public import proofs.«01_k».proof.Defs
public import proofs.«01_k».proof.Proof.Gen.DwoutIdeal
public import proofs.«01_k».proof.Proof.Gen.DwoutRefIdeal
public import proofs.«01_k».proof.Proof.Pr.Product

@[expose] public section

noncomputable section

namespace Cert.Proof.Dwout

open Cert.DwoutIdeal Cert.DwoutIdeal.Gen Cert.DwoutIdeal.Value
open Idealize.ShloMosaic Idealize.ShloMosaic.TcCoe Idealize.ShloMosaic.ValueIdx Idealize.SL.Sem
open Finset

variable (m : (ℓ : Loc nD τ sig) → Buf (Elt Ideal) ℓ)

/-- One step of the accumulation: a tile's product of columns by columns is added. -/
theorem step_at (a : Vec Ideal S1024x1024 .f32) (x0 : Vec Ideal S1024x1024 .bf16) (x1 : Vec Ideal S1024x1024 .bf16) (y : S1024x1024.Idx) :
    k0_pay2 a x0 x1 y = a y + ∑ k : Fin 1024, x0 (Idealize.ShloMosaic.ix2 k (y 0)) * x1 (Idealize.ShloMosaic.ix2 k (y 1)) := by
  unfold k0_pay2
  simp only [pointwise, zero_add]

/-- Where the tiles lie. -/
theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)

/-- The tiles of the two arguments. -/
def tileA (c : Dev nD) (t : Fin cfg0.N) : S1024x1024.Idx → EReal := iblk m c 0 t
def tileB (c : Dev nD) (t : Fin cfg0.N) : S1024x1024.Idx → EReal := iblk m c 1 t

/-- What the last point of a run writes back: the scratch. -/
theorem out_last (c : Dev nD) (t : Fin cfg0.N) (h : t.val % 8 = 7) : (outsAt0 m c t.val t.isLt).1 = (outsAt0 m c t.val t.isLt).2 := by
  rw [outsAt0_C m c t (by omega) h]
  frame_out

/-- The reference's product. -/
theorem ref_at (X0 : S8192x1024.Idx → EReal) (X1 : S8192x1024.Idx → EReal) (i : S1024x1024.Idx) :
    Cert.DwoutRefIdeal.Read.val_main_v5 (F := Ideal) X0 X1 i = ∑ k : Fin 8192, X0 (Idealize.ShloMosaic.ix2 k (i 0)) * X1 (Idealize.ShloMosaic.ix2 k (i 1)) := by
  rw [Cert.DwoutRefIdeal.Read.val_main_v5_apply, Cert.DwoutRefIdeal.Read.val_main_v4_apply]
  exact Pr.tn_of X0 X1 (i 0) (i 1) _ _ (fun _ => rfl) (fun _ => rfl) (fun _ => rfl) fun _ => rfl

/-- The kernel's result is the reference's. -/
theorem final (c : Dev nD) : G2 m c = Cert.DwoutRefIdeal.Read.val_main_v5 (F := Ideal) (m ((c : Thread nD τ).loc main_arg0)) (m ((c : Thread nD τ).loc main_arg1)) := by
  funext i
  have h0 := idx2_lt0 i
  have h1 := idx2_lt1 i
  have hp : pt2Of i < cfg0.N := by
    have := N_0
    show 8 * (1 * ((i 0).val / 1024 - 0) + 1 * ((i 1).val / 1024 - 0)) + 7 < grid0.N
    omega
  have hm : pt2Of i % 8 = 7 := by
    show (8 * _ + 7) % 8 = 7
    omega
  have hq : pt2Of i / 8 = (i 1).val / 1024 := by
    show (8 * (1 * ((i 0).val / 1024 - 0) + 1 * ((i 1).val / 1024 - 0)) + 7) / 8 = _
    omega
  unfold G2
  rw [dif_pos hp, ← outsAt0_sweep m c _ hp, ref_at]
  refine (congrFun (out_last m c ⟨pt2Of i, hp⟩ hm) _).trans (Pr.sweep (fun n h => (outsAt0 m c n h).2)
    (fun t y k => tileA m c t (Idealize.ShloMosaic.ix2 k (y 0))) (fun t y k => tileB m c t (Idealize.ShloMosaic.ix2 k (y 1)))
    (fun t h y => by rw [outsAt0_A m c t h (by omega)]; frame_out; rw [step_at]; exact congrArg (· + _) Ideal.ofBits_zero_f32)
    (fun t h y => by
      by_cases h3 : t.val % 8 = 7
      · rw [outsAt0_C m c t h h3]; frame_out; rw [step_at]; exact congrArg (· + _) (congrFun ((Memref.isWhole_whole cc0_scratch0).read_unread _) y)
      · rw [outsAt0_B m c t h h3]; frame_out; rw [step_at]; exact congrArg (· + _) (congrFun ((Memref.isWhole_whole cc0_scratch0).read_unread _) y))
    ⟨pt2Of i, hp⟩ hm _ (fun l => (m ((c : Thread nD τ).loc main_arg0) : S8192x1024.Idx → EReal) (Idealize.ShloMosaic.ix2 l (i 0)))
    (fun l => (m ((c : Thread nD τ).loc main_arg1) : S8192x1024.Idx → EReal) (Idealize.ShloMosaic.ix2 l (i 1))) rfl (fun s k hl => ?_) fun s k hl => ?_)
  · unfold tileA
    blk_point [iblk, V, idx0 ⟨_, Pipeline.run_point_lt_of_flush ⟨pt2Of i, hp⟩ hm s⟩]
  · unfold tileB
    blk_point [iblk, V, idx1 ⟨_, Pipeline.run_point_lt_of_flush ⟨pt2Of i, hp⟩ hm s⟩]

/-- The product of the kernel and the product of the reference agree. -/
theorem same : @Cert.algebraic_DwoutIdeal_DwoutRefIdeal Cert.DwoutIdeal.Gen.facts Cert.DwoutRefIdeal.Gen.facts := fun m ρ m' ρ' _ hin =>
  Pr.agree (run (F := Ideal) m ρ) (Cert.DwoutRefIdeal.Value.run (F := Ideal) m' ρ') fun c => by
    rw [Cert.DwoutRefIdeal.Read.val_main_v5_eq, (hin c).1, (hin c).2]
    exact final m c

end Cert.Proof.Dwout

end
-- ==== Proof.Pr.Dyout.lean ====
/- The gradient of the input of a square projection: a tile of rows with the rows of the matrix is a tile of the whole product. -/
module

public import proofs.«01_k».proof.Proof.Gen.DyoutIdeal.Value
public import proofs.«01_k».proof.Proof.Gen.DyoutRefIdeal.Read
public import proofs.«01_k».proof.Defs
public import proofs.«01_k».proof.Proof.Gen.DyoutIdeal
public import proofs.«01_k».proof.Proof.Gen.DyoutRefIdeal
public import proofs.«01_k».proof.Proof.Pr.Product

@[expose] public section

noncomputable section

namespace Cert.Proof.Dyout

open Cert.DyoutIdeal Cert.DyoutIdeal.Gen Cert.DyoutIdeal.Value
open Idealize.ShloMosaic Idealize.ShloMosaic.TcCoe Idealize.ShloMosaic.ValueIdx Idealize.SL.Sem

variable (m : (ℓ : Loc nD τ sig) → Buf (Elt Ideal) ℓ)

/-- A tile's product. -/
theorem tile_at (x0 : Vec Ideal S1024x1024 .bf16) (x1 : Vec Ideal S1024x1024 .bf16) (y : S1024x1024.Idx) :
    k0_pay1 x0 x1 y = Pr.nt (n := 1024) (k := 1024) (m := 1024) x0 x1 (y 0) (y 1) := by
  unfold k0_pay1
  simp only [pointwise, zero_add]
  rfl

/-- Where the tiles lie. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The reference's product. -/
theorem ref_at (X0 : S8192x1024.Idx → EReal) (X1 : S1024x1024.Idx → EReal) (i : S8192x1024.Idx) :
    Cert.DyoutRefIdeal.Read.val_main_v4 (F := Ideal) X0 X1 i = Pr.nt (n := 8192) (k := 1024) (m := 1024) X0 X1 (i 0) (i 1) :=
  (Cert.DyoutRefIdeal.Read.val_main_v4_apply _ _ _).trans
    (Pr.nt_of _ _ (i 0) (i 1) _ _ (fun _ => rfl) (fun _ => rfl) (fun _ => rfl) fun _ => rfl)

/-- The kernel's result is the reference's. -/
theorem final (c : Dev nD) : (dats m 0 c).arrAt 2 cfg0.N = Cert.DyoutRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [tile_at, ref_at]
  unfold Pr.nt
  blk_point [iblk, V, idx0 t, idx1 t, idx2 t]

/-- The product of the kernel and the product of the reference agree. -/
theorem same : @Cert.algebraic_DyoutIdeal_DyoutRefIdeal Cert.DyoutIdeal.Gen.facts Cert.DyoutRefIdeal.Gen.facts := fun m ρ m' ρ' _ hin =>
  Pr.agree (run_blocks (F := Ideal) m ρ) (Cert.DyoutRefIdeal.Value.run (F := Ideal) m' ρ') fun c => by
    rw [Cert.DyoutRefIdeal.Read.val_main_v4_eq, (hin c).1, (hin c).2]
    exact final m c

end Cert.Proof.Dyout

end
-- ==== Proof.Pr.Dosb.lean ====
/- The gradient of the input of the projection after the attention, rounded at the end: a tile of rows with the rows of the matrix is a tile of the whole product. -/
module

public import proofs.«01_k».proof.Proof.Gen.DosbIdeal.Value
public import proofs.«01_k».proof.Proof.Gen.DosbRefIdeal.Read
public import proofs.«01_k».proof.Defs
public import proofs.«01_k».proof.Proof.Gen.DosbIdeal
public import proofs.«01_k».proof.Proof.Gen.DosbRefIdeal
public import proofs.«01_k».proof.Proof.Pr.Product

@[expose] public section

noncomputable section

namespace Cert.Proof.Dosb

open Cert.DosbIdeal Cert.DosbIdeal.Gen Cert.DosbIdeal.Value
open Idealize.ShloMosaic Idealize.ShloMosaic.TcCoe Idealize.ShloMosaic.ValueIdx Idealize.SL.Sem

variable (m : (ℓ : Loc nD τ sig) → Buf (Elt Ideal) ℓ)

/-- A tile's product. -/
theorem tile_at (x0 : Vec Ideal S1024x1024 .bf16) (x1 : Vec Ideal S1024x1024 .bf16) (y : S1024x1024.Idx) :
    k0_pay1 x0 x1 y = Pr.nt (n := 1024) (k := 1024) (m := 1024) x0 x1 (y 0) (y 1) := by
  unfold k0_pay1
  simp only [pointwise, zero_add]
  rfl

/-- Where the tiles lie. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The reference's product. -/
theorem ref_at (X0 : S8192x1024.Idx → EReal) (X1 : S1024x1024.Idx → EReal) (i : S8192x1024.Idx) :
    Cert.DosbRefIdeal.Read.val_main_v5 (F := Ideal) X0 X1 i = Pr.nt (n := 8192) (k := 1024) (m := 1024) X0 X1 (i 0) (i 1) :=
  (Cert.DosbRefIdeal.Read.val_main_v4_apply _ _ _).trans
    (Pr.nt_of _ _ (i 0) (i 1) _ _ (fun _ => rfl) (fun _ => rfl) (fun _ => rfl) fun _ => rfl)

/-- The kernel's result is the reference's. -/
theorem final (c : Dev nD) : (dats m 0 c).arrAt 2 cfg0.N = Cert.DosbRefIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [tile_at, ref_at]
  unfold Pr.nt
  blk_point [iblk, V, idx0 t, idx1 t, idx2 t]

/-- The product of the kernel and the product of the reference agree. -/
theorem same : @Cert.algebraic_DosbIdeal_DosbRefIdeal Cert.DosbIdeal.Gen.facts Cert.DosbRefIdeal.Gen.facts := fun m ρ m' ρ' _ hin =>
  Pr.agree (run_blocks (F := Ideal) m ρ) (Cert.DosbRefIdeal.Value.run (F := Ideal) m' ρ') fun c => by
    rw [Cert.DosbRefIdeal.Read.val_main_v5_eq, (hin c).1, (hin c).2]
    exact final m c

end Cert.Proof.Dosb

end
-- ==== Proof.Pr.Dwin.lean ====
/- The gradient of the matrix of the projection into the delta rule: the tiled product of the columns of two arrays is the whole product. -/
module

public import proofs.«01_k».proof.Proof.Gen.DwinIdeal.Value
public import proofs.«01_k».proof.Proof.Gen.DwinRefIdeal.Read
public import proofs.«01_k».proof.Defs
public import proofs.«01_k».proof.Proof.Gen.DwinIdeal
public import proofs.«01_k».proof.Proof.Gen.DwinRefIdeal
public import proofs.«01_k».proof.Proof.Pr.Product

@[expose] public section

noncomputable section

namespace Cert.Proof.Dwin

open Cert.DwinIdeal Cert.DwinIdeal.Gen Cert.DwinIdeal.Value
open Idealize.ShloMosaic Idealize.ShloMosaic.TcCoe Idealize.ShloMosaic.ValueIdx Idealize.SL.Sem

variable (m : (ℓ : Loc nD τ sig) → Buf (Elt Ideal) ℓ)

/-- One step of the accumulation adds a tile's product. -/
theorem step_at (a : Vec Ideal S1024x1408 .f32) (x0 : Vec Ideal S1024x1024 .bf16) (x1 : Vec Ideal S1024x1408 .bf16) (y : S1024x1408.Idx) :
    k0_pay2 a x0 x1 y = a y + ∑ k : Fin 1024, x0 (Idealize.ShloMosaic.ix2 k (y 0)) * x1 (Idealize.ShloMosaic.ix2 k (y 1)) := by
  unfold k0_pay2
  simp only [pointwise, zero_add]

/-- Where the tiles lie. -/
theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)

/-- The point that writes back an entry ends a run of the columns' tile. -/
theorem point (i : S1024x4224.Idx) : pt2Of i < cfg0.N ∧ pt2Of i % 8 = 7 ∧ pt2Of i / 8 = (i 1).val / 1408 := by
  have h0 := idx2_lt0 i
  have h1 := idx2_lt1 i
  have := N_0
  show 8 * (3 * ((i 0).val / 1024 - 0) + 1 * ((i 1).val / 1408 - 0)) + 7 < grid0.N ∧ (8 * (3 * ((i 0).val / 1024 - 0) + 1 * ((i 1).val / 1408 - 0)) + 7) % 8 = 7
    ∧ (8 * (3 * ((i 0).val / 1024 - 0) + 1 * ((i 1).val / 1408 - 0)) + 7) / 8 = _
  omega

/-- The tiles of the two arguments. -/
def tileA (c : Dev nD) (t : Fin cfg0.N) : S1024x1024.Idx → EReal := iblk m c 0 t
def tileB (c : Dev nD) (t : Fin cfg0.N) : S1024x1408.Idx → EReal := iblk m c 1 t

/-- The scratch after a point that starts a run, and after any other. -/
theorem reset (c : Dev nD) (t : Fin cfg0.N) (h : t.val % 8 = 0) (y : S1024x1408.Idx) : (outsAt0 m c t.val t.isLt).2 y
    = 0 + ∑ k : Fin 1024, tileA m c t (Idealize.ShloMosaic.ix2 k (y 0)) * tileB m c t (Idealize.ShloMosaic.ix2 k (y 1)) := by
  rw [outsAt0_A m c t h (by omega)]
  frame_out
  exact (step_at _ _ _ y).trans (congrArg (· + _) Ideal.ofBits_zero_f32)
theorem step (c : Dev nD) (t : Fin cfg0.N) (h : ¬t.val % 8 = 0) (y : S1024x1408.Idx) : (outsAt0 m c t.val t.isLt).2 y
    = (outsAt0 m c (t.val - 1) (Nat.lt_of_le_of_lt (Nat.sub_le _ _) t.isLt)).2 y
      + ∑ k : Fin 1024, tileA m c t (Idealize.ShloMosaic.ix2 k (y 0)) * tileB m c t (Idealize.ShloMosaic.ix2 k (y 1)) := by
  have e := congrFun ((Memref.isWhole_whole cc0_scratch0).read_unread (outsAt0 m c (t.val - 1) (Nat.lt_of_le_of_lt (Nat.sub_le _ _) t.isLt)).2) y
  by_cases h7 : t.val % 8 = 7
  · rw [outsAt0_C m c t h h7]
    frame_out
    rw [step_at]
    exact congrArg (· + _) e
  · rw [outsAt0_B m c t h h7]
    frame_out
    rw [step_at]
    exact congrArg (· + _) e

/-- What the last point of a run writes back: the scratch. -/
theorem out_last (c : Dev nD) (t : Fin cfg0.N) (h : t.val % 8 = 7) : (outsAt0 m c t.val t.isLt).1 = (outsAt0 m c t.val t.isLt).2 := by
  rw [outsAt0_C m c t (by omega) h]
  frame_out

/-- The reference's product. -/
theorem ref_at (X0 : S8192x1024.Idx → EReal) (X1 : S8192x4224.Idx → EReal) (i : S1024x4224.Idx) :
    Cert.DwinRefIdeal.Read.val_main_v5 (F := Ideal) X0 X1 i = Pr.tn (n := 1024) (k := 8192) (m := 4224) X0 X1 (i 0) (i 1) := by
  rw [Cert.DwinRefIdeal.Read.val_main_v5_apply, Cert.DwinRefIdeal.Read.val_main_v4_apply]
  exact Pr.tn_of X0 X1 (i 0) (i 1) _ _ (fun _ => rfl) (fun _ => rfl) (fun _ => rfl) fun _ => rfl

/-- The kernel's result is the reference's. -/
theorem final (c : Dev nD) : G2 m c = Cert.DwinRefIdeal.Read.val_main_v5 (F := Ideal) (m ((c : Thread nD τ).loc main_arg0)) (m ((c : Thread nD τ).loc main_arg1)) := by
  funext i
  obtain ⟨hp, hm, hq⟩ := point i
  unfold G2
  rw [dif_pos hp, ← outsAt0_sweep m c _ hp, ref_at]
  refine (congrFun (out_last m c ⟨pt2Of i, hp⟩ hm) _).trans (Pr.sweep (fun n h => (outsAt0 m c n h).2) _ _ (reset m c) (step m c) ⟨pt2Of i, hp⟩ hm _
    (fun l => (m ((c : Thread nD τ).loc main_arg0) : S8192x1024.Idx → EReal) (Idealize.ShloMosaic.ix2 l (i 0)))
    (fun l => (m ((c : Thread nD τ).loc main_arg1) : S8192x4224.Idx → EReal) (Idealize.ShloMosaic.ix2 l (i 1))) rfl (fun s k hl => ?_) fun s k hl => ?_)
  · unfold tileA
    blk_point [iblk, V, idx0 ⟨_, Pipeline.run_point_lt_of_flush ⟨pt2Of i, hp⟩ hm s⟩]
  · unfold tileB
    blk_point [iblk, V, idx1 ⟨_, Pipeline.run_point_lt_of_flush ⟨pt2Of i, hp⟩ hm s⟩]

/-- The product of the kernel and the product of the reference agree. -/
theorem same : @Cert.algebraic_DwinIdeal_DwinRefIdeal Cert.DwinIdeal.Gen.facts Cert.DwinRefIdeal.Gen.facts := fun m ρ m' ρ' _ hin =>
  Pr.agree (run (F := Ideal) m ρ) (Cert.DwinRefIdeal.Value.run (F := Ideal) m' ρ') fun c => by
    rw [Cert.DwinRefIdeal.Read.val_main_v5_eq, (hin c).1, (hin c).2]
    exact final m c

end Cert.Proof.Dwin

end
-- ==== Proof.Pr.Dhin.lean ====
/- The gradient of the input of the projection into the delta rule: the tiled product of the rows of two arrays is the whole product. -/
module

public import proofs.«01_k».proof.Proof.Gen.DhinIdeal.Value
public import proofs.«01_k».proof.Proof.Gen.DhinRefIdeal.Read
public import proofs.«01_k».proof.Defs
public import proofs.«01_k».proof.Proof.Gen.DhinIdeal
public import proofs.«01_k».proof.Proof.Gen.DhinRefIdeal
public import proofs.«01_k».proof.Proof.Pr.Product

@[expose] public section

noncomputable section

namespace Cert.Proof.Dhin

open Cert.DhinIdeal Cert.DhinIdeal.Gen Cert.DhinIdeal.Value
open Idealize.ShloMosaic Idealize.ShloMosaic.TcCoe Idealize.ShloMosaic.ValueIdx Idealize.SL.Sem
open Finset

variable (m : (ℓ : Loc nD τ sig) → Buf (Elt Ideal) ℓ)

/-- One step of the accumulation: a tile's product of rows by rows is added. -/
theorem step_at (a : Vec Ideal S1024x1024 .f32) (x0 x1 : Vec Ideal S1024x1408 .bf16) (y : S1024x1024.Idx) :
    k0_pay2 a x0 x1 y = a y + ∑ k : Fin 1408, x0 (Idealize.ShloMosaic.ix2 (y 0) k) * x1 (Idealize.ShloMosaic.ix2 (y 1) k) := by
  unfold k0_pay2
  simp only [pointwise, zero_add]

/-- Where the tiles lie. -/
theorem idx0 : ∀ t : Fin cfg0.N, win0_0.index t = ![t.val / 3, t.val % 3] := (by decide +kernel : ∀ t : Fin grid0.N, _)
theorem idx1 : ∀ t : Fin cfg0.N, win0_1.index t = ![0, t.val % 3] := (by decide +kernel : ∀ t : Fin grid0.N, _)

/-- The tiles of the two arguments. -/
def tileA (c : Dev nD) (t : Fin cfg0.N) : S1024x1408.Idx → EReal := iblk m c 0 t
def tileB (c : Dev nD) (t : Fin cfg0.N) : S1024x1408.Idx → EReal := iblk m c 1 t

/-- What the last point of a run writes back: the scratch. -/
theorem out_last (c : Dev nD) (t : Fin cfg0.N) (h : t.val % 3 = 2) : (outsAt0 m c t.val t.isLt).1 = (outsAt0 m c t.val t.isLt).2 := by
  rw [outsAt0_C m c t (by omega) h]
  frame_out

/-- The reference's product. -/
theorem ref_at (X0 : S8192x4224.Idx → EReal) (X1 : S1024x4224.Idx → EReal) (i : S8192x1024.Idx) :
    Cert.DhinRefIdeal.Read.val_main_v4 (F := Ideal) X0 X1 i = ∑ k : Fin 4224, X0 (Idealize.ShloMosaic.ix2 (i 0) k) * X1 (Idealize.ShloMosaic.ix2 (i 1) k) := by
  rw [Cert.DhinRefIdeal.Read.val_main_v4_apply]
  exact Pr.nt_of X0 X1 (i 0) (i 1) _ _ (fun _ => rfl) (fun _ => rfl) (fun _ => rfl) fun _ => rfl

/-- The kernel's result is the reference's. -/
theorem final (c : Dev nD) : G2 m c = Cert.DhinRefIdeal.Read.val_main_v4 (F := Ideal) (m ((c : Thread nD τ).loc main_arg0)) (m ((c : Thread nD τ).loc main_arg1)) := by
  funext i
  have h0 := idx2_lt0 i
  have h1 := idx2_lt1 i
  have hp : pt2Of i < cfg0.N := by
    have := N_0
    show 3 * (1 * ((i 0).val / 1024 - 0) + 1 * ((i 1).val / 1024 - 0)) + 2 < grid0.N
    omega
  have hm : pt2Of i % 3 = 2 := by
    show (3 * _ + 2) % 3 = 2
    omega
  have hq : pt2Of i / 3 = (i 0).val / 1024 := by
    show (3 * (1 * ((i 0).val / 1024 - 0) + 1 * ((i 1).val / 1024 - 0)) + 2) / 3 = _
    omega
  unfold G2
  rw [dif_pos hp, ← outsAt0_sweep m c _ hp, ref_at]
  refine (congrFun (out_last m c ⟨pt2Of i, hp⟩ hm) _).trans (Pr.sweep (fun n h => (outsAt0 m c n h).2)
    (fun t y k => tileA m c t (Idealize.ShloMosaic.ix2 (y 0) k)) (fun t y k => tileB m c t (Idealize.ShloMosaic.ix2 (y 1) k))
    (fun t h y => by rw [outsAt0_A m c t h (by omega)]; frame_out; rw [step_at]; exact congrArg (· + _) Ideal.ofBits_zero_f32)
    (fun t h y => by
      by_cases h3 : t.val % 3 = 2
      · rw [outsAt0_C m c t h h3]; frame_out; rw [step_at]; exact congrArg (· + _) (congrFun ((Memref.isWhole_whole cc0_scratch0).read_unread _) y)
      · rw [outsAt0_B m c t h h3]; frame_out; rw [step_at]; exact congrArg (· + _) (congrFun ((Memref.isWhole_whole cc0_scratch0).read_unread _) y))
    ⟨pt2Of i, hp⟩ hm _ (fun l => (m ((c : Thread nD τ).loc main_arg0) : S8192x4224.Idx → EReal) (Idealize.ShloMosaic.ix2 (i 0) l))
    (fun l => (m ((c : Thread nD τ).loc main_arg1) : S1024x4224.Idx → EReal) (Idealize.ShloMosaic.ix2 (i 1) l)) rfl (fun s k hl => ?_) fun s k hl => ?_)
  · unfold tileA
    blk_point [iblk, V, idx0 ⟨_, Pipeline.run_point_lt_of_flush ⟨pt2Of i, hp⟩ hm s⟩]
  · unfold tileB
    blk_point [iblk, V, idx1 ⟨_, Pipeline.run_point_lt_of_flush ⟨pt2Of i, hp⟩ hm s⟩]

/-- The product of the kernel and the product of the reference agree. -/
theorem same : @Cert.algebraic_DhinIdeal_DhinRefIdeal Cert.DhinIdeal.Gen.facts Cert.DhinRefIdeal.Gen.facts := fun m ρ m' ρ' _ hin =>
  Pr.agree (run (F := Ideal) m ρ) (Cert.DhinRefIdeal.Value.run (F := Ideal) m' ρ') fun c => by
    rw [Cert.DhinRefIdeal.Read.val_main_v4_eq, (hin c).1, (hin c).2]
    exact final m c

end Cert.Proof.Dhin

end
-- ==== Proof.Pr.Dwkv.lean ====
/- The gradient of the matrix of the projection to keys and values: the tiled product of the columns of two arrays is the whole product. -/
module

public import proofs.«01_k».proof.Proof.Gen.DwkvIdeal.Value
public import proofs.«01_k».proof.Proof.Gen.DwkvRefIdeal.Read
public import proofs.«01_k».proof.Defs
public import proofs.«01_k».proof.Proof.Gen.DwkvIdeal
public import proofs.«01_k».proof.Proof.Gen.DwkvRefIdeal
public import proofs.«01_k».proof.Proof.Pr.Product

@[expose] public section

noncomputable section

namespace Cert.Proof.Dwkv

open Cert.DwkvIdeal Cert.DwkvIdeal.Gen Cert.DwkvIdeal.Value
open Idealize.ShloMosaic Idealize.ShloMosaic.TcCoe Idealize.ShloMosaic.ValueIdx Idealize.SL.Sem
open Finset

variable (m : (ℓ : Loc nD τ sig) → Buf (Elt Ideal) ℓ)

/-- One step of the accumulation: a tile's product of columns by columns is added. -/
theorem step_at (a : Vec Ideal S1024x1024 .f32) (x0 : Vec Ideal S1024x1024 .bf16) (x1 : Vec Ideal S1024x1024 .bf16) (y : S1024x1024.Idx) :
    k0_pay2 a x0 x1 y = a y + ∑ k : Fin 1024, x0 (Idealize.ShloMosaic.ix2 k (y 0)) * x1 (Idealize.ShloMosaic.ix2 k (y 1)) := by
  unfold k0_pay2
  simp only [pointwise, zero_add]

/-- Where the tiles lie. -/
theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)

/-- The tiles of the two arguments. -/
def tileA (c : Dev nD) (t : Fin cfg0.N) : S1024x1024.Idx → EReal := iblk m c 0 t
def tileB (c : Dev nD) (t : Fin cfg0.N) : S1024x1024.Idx → EReal := iblk m c 1 t

/-- What the last point of a run writes back: the scratch. -/
theorem out_last (c : Dev nD) (t : Fin cfg0.N) (h : t.val % 8 = 7) : (outsAt0 m c t.val t.isLt).1 = (outsAt0 m c t.val t.isLt).2 := by
  rw [outsAt0_C m c t (by omega) h]
  frame_out

/-- The reference's product. -/
theorem ref_at (X0 : S8192x1024.Idx → EReal) (X1 : S8192x2048.Idx → EReal) (i : S1024x2048.Idx) :
    Cert.DwkvRefIdeal.Read.val_main_v5 (F := Ideal) X0 X1 i = ∑ k : Fin 8192, X0 (Idealize.ShloMosaic.ix2 k (i 0)) * X1 (Idealize.ShloMosaic.ix2 k (i 1)) := by
  rw [Cert.DwkvRefIdeal.Read.val_main_v5_apply, Cert.DwkvRefIdeal.Read.val_main_v4_apply]
  exact Pr.tn_of X0 X1 (i 0) (i 1) _ _ (fun _ => rfl) (fun _ => rfl) (fun _ => rfl) fun _ => rfl

/-- The kernel's result is the reference's. -/
theorem final (c : Dev nD) : G2 m c = Cert.DwkvRefIdeal.Read.val_main_v5 (F := Ideal) (m ((c : Thread nD τ).loc main_arg0)) (m ((c : Thread nD τ).loc main_arg1)) := by
  funext i
  have h0 := idx2_lt0 i
  have h1 := idx2_lt1 i
  have hp : pt2Of i < cfg0.N := by
    have := N_0
    show 8 * (2 * ((i 0).val / 1024 - 0) + 1 * ((i 1).val / 1024 - 0)) + 7 < grid0.N
    omega
  have hm : pt2Of i % 8 = 7 := by
    show (8 * _ + 7) % 8 = 7
    omega
  have hq : pt2Of i / 8 = (i 1).val / 1024 := by
    show (8 * (2 * ((i 0).val / 1024 - 0) + 1 * ((i 1).val / 1024 - 0)) + 7) / 8 = _
    omega
  unfold G2
  rw [dif_pos hp, ← outsAt0_sweep m c _ hp, ref_at]
  refine (congrFun (out_last m c ⟨pt2Of i, hp⟩ hm) _).trans (Pr.sweep (fun n h => (outsAt0 m c n h).2)
    (fun t y k => tileA m c t (Idealize.ShloMosaic.ix2 k (y 0))) (fun t y k => tileB m c t (Idealize.ShloMosaic.ix2 k (y 1)))
    (fun t h y => by rw [outsAt0_A m c t h (by omega)]; frame_out; rw [step_at]; exact congrArg (· + _) Ideal.ofBits_zero_f32)
    (fun t h y => by
      by_cases h3 : t.val % 8 = 7
      · rw [outsAt0_C m c t h h3]; frame_out; rw [step_at]; exact congrArg (· + _) (congrFun ((Memref.isWhole_whole cc0_scratch0).read_unread _) y)
      · rw [outsAt0_B m c t h h3]; frame_out; rw [step_at]; exact congrArg (· + _) (congrFun ((Memref.isWhole_whole cc0_scratch0).read_unread _) y))
    ⟨pt2Of i, hp⟩ hm _ (fun l => (m ((c : Thread nD τ).loc main_arg0) : S8192x1024.Idx → EReal) (Idealize.ShloMosaic.ix2 l (i 0)))
    (fun l => (m ((c : Thread nD τ).loc main_arg1) : S8192x2048.Idx → EReal) (Idealize.ShloMosaic.ix2 l (i 1))) rfl (fun s k hl => ?_) fun s k hl => ?_)
  · unfold tileA
    blk_point [iblk, V, idx0 ⟨_, Pipeline.run_point_lt_of_flush ⟨pt2Of i, hp⟩ hm s⟩]
  · unfold tileB
    blk_point [iblk, V, idx1 ⟨_, Pipeline.run_point_lt_of_flush ⟨pt2Of i, hp⟩ hm s⟩]

/-- The product of the kernel and the product of the reference agree. -/
theorem same : @Cert.algebraic_DwkvIdeal_DwkvRefIdeal Cert.DwkvIdeal.Gen.facts Cert.DwkvRefIdeal.Gen.facts := fun m ρ m' ρ' _ hin =>
  Pr.agree (run (F := Ideal) m ρ) (Cert.DwkvRefIdeal.Value.run (F := Ideal) m' ρ') fun c => by
    rw [Cert.DwkvRefIdeal.Read.val_main_v5_eq, (hin c).1, (hin c).2]
    exact final m c

end Cert.Proof.Dwkv

end
-- ==== Proof.Pr.Dhkv.lean ====
/- The gradient of the input of the projection to keys and values: the tiled product of the rows of two arrays is the whole product. -/
module

public import proofs.«01_k».proof.Proof.Gen.DhkvIdeal.Value
public import proofs.«01_k».proof.Proof.Gen.DhkvRefIdeal.Read
public import proofs.«01_k».proof.Defs
public import proofs.«01_k».proof.Proof.Gen.DhkvIdeal
public import proofs.«01_k».proof.Proof.Gen.DhkvRefIdeal
public import proofs.«01_k».proof.Proof.Pr.Product

@[expose] public section

noncomputable section

namespace Cert.Proof.Dhkv

open Cert.DhkvIdeal Cert.DhkvIdeal.Gen Cert.DhkvIdeal.Value
open Idealize.ShloMosaic Idealize.ShloMosaic.TcCoe Idealize.ShloMosaic.ValueIdx Idealize.SL.Sem
open Finset

variable (m : (ℓ : Loc nD τ sig) → Buf (Elt Ideal) ℓ)

/-- One step of the accumulation: a tile's product of rows by rows is added. -/
theorem step_at (a : Vec Ideal S1024x1024 .f32) (x0 x1 : Vec Ideal S1024x1024 .bf16) (y : S1024x1024.Idx) :
    k0_pay2 a x0 x1 y = a y + ∑ k : Fin 1024, x0 (Idealize.ShloMosaic.ix2 (y 0) k) * x1 (Idealize.ShloMosaic.ix2 (y 1) k) := by
  unfold k0_pay2
  simp only [pointwise, zero_add]

/-- Where the tiles lie. -/
theorem idx0 : ∀ t : Fin cfg0.N, win0_0.index t = ![t.val / 2, t.val % 2] := (by decide +kernel : ∀ t : Fin grid0.N, _)
theorem idx1 : ∀ t : Fin cfg0.N, win0_1.index t = ![0, t.val % 2] := (by decide +kernel : ∀ t : Fin grid0.N, _)

/-- The tiles of the two arguments. -/
def tileA (c : Dev nD) (t : Fin cfg0.N) : S1024x1024.Idx → EReal := iblk m c 0 t
def tileB (c : Dev nD) (t : Fin cfg0.N) : S1024x1024.Idx → EReal := iblk m c 1 t

/-- What the last point of a run writes back: the scratch. -/
theorem out_last (c : Dev nD) (t : Fin cfg0.N) (h : t.val % 2 = 1) : (outsAt0 m c t.val t.isLt).1 = (outsAt0 m c t.val t.isLt).2 := by
  rw [outsAt0_B m c t (by omega) h]
  frame_out

/-- The reference's product. -/
theorem ref_at (X0 : S8192x2048.Idx → EReal) (X1 : S1024x2048.Idx → EReal) (i : S8192x1024.Idx) :
    Cert.DhkvRefIdeal.Read.val_main_v4 (F := Ideal) X0 X1 i = ∑ k : Fin 2048, X0 (Idealize.ShloMosaic.ix2 (i 0) k) * X1 (Idealize.ShloMosaic.ix2 (i 1) k) := by
  rw [Cert.DhkvRefIdeal.Read.val_main_v4_apply]
  exact Pr.nt_of X0 X1 (i 0) (i 1) _ _ (fun _ => rfl) (fun _ => rfl) (fun _ => rfl) fun _ => rfl

/-- The kernel's result is the reference's. -/
theorem final (c : Dev nD) : G2 m c = Cert.DhkvRefIdeal.Read.val_main_v4 (F := Ideal) (m ((c : Thread nD τ).loc main_arg0)) (m ((c : Thread nD τ).loc main_arg1)) := by
  funext i
  have h0 := idx2_lt0 i
  have h1 := idx2_lt1 i
  have hp : pt2Of i < cfg0.N := by
    have := N_0
    show 2 * (1 * ((i 0).val / 1024 - 0) + 1 * ((i 1).val / 1024 - 0)) + 1 < grid0.N
    omega
  have hm : pt2Of i % 2 = 1 := by
    show (2 * _ + 1) % 2 = 1
    omega
  have hq : pt2Of i / 2 = (i 0).val / 1024 := by
    show (2 * (1 * ((i 0).val / 1024 - 0) + 1 * ((i 1).val / 1024 - 0)) + 1) / 2 = _
    omega
  unfold G2
  rw [dif_pos hp, ← outsAt0_sweep m c _ hp, ref_at]
  refine (congrFun (out_last m c ⟨pt2Of i, hp⟩ hm) _).trans (Pr.sweep (fun n h => (outsAt0 m c n h).2)
    (fun t y k => tileA m c t (Idealize.ShloMosaic.ix2 (y 0) k)) (fun t y k => tileB m c t (Idealize.ShloMosaic.ix2 (y 1) k))
    (fun t h y => by rw [outsAt0_A m c t h (by omega)]; frame_out; rw [step_at]; exact congrArg (· + _) Ideal.ofBits_zero_f32)
    (fun t h y => by rw [outsAt0_B m c t h (by omega)]; frame_out; rw [step_at]; exact congrArg (· + _) (congrFun ((Memref.isWhole_whole cc0_scratch0).read_unread _) y))
    ⟨pt2Of i, hp⟩ hm _ (fun l => (m ((c : Thread nD τ).loc main_arg0) : S8192x2048.Idx → EReal) (Idealize.ShloMosaic.ix2 (i 0) l))
    (fun l => (m ((c : Thread nD τ).loc main_arg1) : S1024x2048.Idx → EReal) (Idealize.ShloMosaic.ix2 (i 1) l)) rfl (fun s k hl => ?_) fun s k hl => ?_)
  · unfold tileA
    blk_point [iblk, V, idx0 ⟨_, Pipeline.run_point_lt_of_flush ⟨pt2Of i, hp⟩ hm s⟩]
  · unfold tileB
    blk_point [iblk, V, idx1 ⟨_, Pipeline.run_point_lt_of_flush ⟨pt2Of i, hp⟩ hm s⟩]

/-- The product of the kernel and the product of the reference agree. -/
theorem same : @Cert.algebraic_DhkvIdeal_DhkvRefIdeal Cert.DhkvIdeal.Gen.facts Cert.DhkvRefIdeal.Gen.facts := fun m ρ m' ρ' _ hin =>
  Pr.agree (run (F := Ideal) m ρ) (Cert.DhkvRefIdeal.Value.run (F := Ideal) m' ρ') fun c => by
    rw [Cert.DhkvRefIdeal.Read.val_main_v4_eq, (hin c).1, (hin c).2]
    exact final m c

end Cert.Proof.Dhkv

end
-- ==== Proof.Pr.Up.lean ====
/- A feed-forward block's first product: a tile of rows with a tile of columns is a tile of the whole product. -/
module

public import proofs.«01_k».proof.Proof.Gen.UpIdeal.Value
public import proofs.«01_k».proof.Proof.Gen.UpRefIdeal.Read
public import proofs.«01_k».proof.Defs
public import proofs.«01_k».proof.Proof.Gen.UpIdeal
public import proofs.«01_k».proof.Proof.Gen.UpRefIdeal
public import proofs.«01_k».proof.Proof.Pr.Product

@[expose] public section

noncomputable section

namespace Cert.Proof.Up

open Cert.UpIdeal Cert.UpIdeal.Gen Cert.UpIdeal.Value
open Idealize.ShloMosaic Idealize.ShloMosaic.TcCoe Idealize.ShloMosaic.ValueIdx Idealize.SL.Sem

variable (m : (ℓ : Loc nD τ sig) → Buf (Elt Ideal) ℓ)

/-- A tile's product. -/
theorem tile_at (x0 : Vec Ideal S1024x1024 .bf16) (x1 : Vec Ideal S1024x1408 .bf16) (y : S1024x1408.Idx) :
    k0_pay1 x0 x1 y = Pr.nn (n := 1024) (k := 1024) (m := 1408) x0 x1 (y 0) (y 1) := by
  unfold k0_pay1
  simp only [pointwise, zero_add]
  rfl

/-- Where the tiles lie. -/
theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

/-- The reference's product. -/
theorem ref_at (X0 : S8192x1024.Idx → EReal) (X1 : S1024x5632.Idx → EReal) (i : S8192x5632.Idx) :
    Cert.UpRefIdeal.Read.val_main_v2 (F := Ideal) X0 X1 i = Pr.nn (n := 8192) (k := 1024) (m := 5632) X0 X1 (i 0) (i 1) :=
  (Cert.UpRefIdeal.Read.val_main_v2_apply _ _ _).trans
    (Pr.nn_of _ _ (i 0) (i 1) _ _ (fun _ => rfl) (fun _ => rfl) (fun _ => rfl) fun _ => rfl)

/-- The kernel's result is the reference's. -/
theorem final (c : Dev nD) : (dats m 0 c).arrAt 2 cfg0.N = Cert.UpRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [tile_at, ref_at]
  unfold Pr.nn
  blk_point [iblk, V, idx0 t, idx1 t, idx2 t]

/-- The product of the kernel and the product of the reference agree. -/
theorem same : @Cert.algebraic_UpIdeal_UpRefIdeal Cert.UpIdeal.Gen.facts Cert.UpRefIdeal.Gen.facts := fun m ρ m' ρ' _ hin =>
  Pr.agree (run_blocks (F := Ideal) m ρ) (Cert.UpRefIdeal.Value.run (F := Ideal) m' ρ') fun c => by
    rw [Cert.UpRefIdeal.Read.val_main_v2_eq, (hin c).1, (hin c).2]
    exact final m c

end Cert.Proof.Up

end
-- ==== Proof.Pr.Down.lean ====
/- A feed-forward block's second product, added to the stream: the tiled product of rows with columns is the whole product. -/
module

public import proofs.«01_k».proof.Proof.Gen.DownIdeal.Value
public import proofs.«01_k».proof.Proof.Gen.DownRefIdeal.Read
public import proofs.«01_k».proof.Defs
public import proofs.«01_k».proof.Proof.Gen.DownIdeal
public import proofs.«01_k».proof.Proof.Gen.DownRefIdeal
public import proofs.«01_k».proof.Proof.Pr.Product

@[expose] public section

noncomputable section

namespace Cert.Proof.Down

open Cert.DownIdeal Cert.DownIdeal.Gen Cert.DownIdeal.Value
open Idealize.ShloMosaic Idealize.ShloMosaic.TcCoe Idealize.ShloMosaic.ValueIdx Idealize.SL.Sem
open Finset

variable (m : (ℓ : Loc nD τ sig) → Buf (Elt Ideal) ℓ)

/-- One step of the accumulation: a tile's product of rows by columns is added. -/
theorem step_at (a : Vec Ideal S1024x1024 .f32) (x0 : Vec Ideal S1024x1408 .bf16) (x1 : Vec Ideal S1408x1024 .bf16) (y : S1024x1024.Idx) :
    k0_pay2 a x0 x1 y = a y + ∑ k : Fin 1408, x0 (Idealize.ShloMosaic.ix2 (y 0) k) * x1 (Idealize.ShloMosaic.ix2 k (y 1)) := by
  unfold k0_pay2
  simp only [pointwise, zero_add]

/-- Where the tiles lie. -/
theorem idx0 : ∀ t : Fin cfg0.N, win0_0.index t = ![t.val / 2, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)

/-- The tiles of the two arguments. -/
def tileA (c : Dev nD) (t : Fin cfg0.N) : S1024x1408.Idx → EReal := iblk m c 0 t
def tileB (c : Dev nD) (t : Fin cfg0.N) : S1408x1024.Idx → EReal := iblk m c 1 t

/-- The tile of the stream. -/
def tileX (c : Dev nD) (t : Fin cfg0.N) : S1024x1024.Idx → EReal := iblk m c 2 t

/-- What the last point of a run writes back: the scratch and the stream's tile added. -/
theorem out_last (c : Dev nD) (t : Fin cfg0.N) (h : t.val % 2 = 1) (y : S1024x1024.Idx) :
    ((outsAt0 m c t.val t.isLt).1 y : EReal) = (outsAt0 m c t.val t.isLt).2 y + tileX m c t y := by
  rw [outsAt0_B m c t (by omega) h]
  frame_out
  rfl

/-- The reference's product. -/
theorem ref_at (X0 : S8192x2816.Idx → EReal) (X1 : S2816x1024.Idx → EReal) (X2 : S8192x1024.Idx → EReal) (i : S8192x1024.Idx) :
    Cert.DownRefIdeal.Read.val_main_v3 (F := Ideal) X0 X1 X2 i =
      (∑ k : Fin 2816, X0 (Idealize.ShloMosaic.ix2 (i 0) k) * X1 (Idealize.ShloMosaic.ix2 k (i 1))) + X2 i :=
  (Cert.DownRefIdeal.Read.val_main_v3_apply _ _ _ _).trans <| (add_comm _ _).trans <| congrArg (· + X2 i) <|
    (Cert.DownRefIdeal.Read.val_main_v2_apply _ _ _).trans
      (Pr.nn_of X0 X1 (i 0) (i 1) _ _ (fun _ => rfl) (fun _ => rfl) (fun _ => rfl) fun _ => rfl)

/-- The kernel's result is the reference's. -/
theorem final (c : Dev nD) : G3 m c = Cert.DownRefIdeal.Read.val_main_v3 (F := Ideal) (m ((c : Thread nD τ).loc main_arg0)) (m ((c : Thread nD τ).loc main_arg1)) (m ((c : Thread nD τ).loc main_arg2)) := by
  funext i
  have h0 := idx2_lt0 i
  have h1 := idx2_lt1 i
  have hp : pt3Of i < cfg0.N := by
    have := N_0
    show 2 * (1 * ((i 0).val / 1024 - 0) + 1 * ((i 1).val / 1024 - 0)) + 1 < grid0.N
    omega
  have hm : pt3Of i % 2 = 1 := by
    show (2 * _ + 1) % 2 = 1
    omega
  have hq : pt3Of i / 2 = (i 0).val / 1024 := by
    show (2 * (1 * ((i 0).val / 1024 - 0) + 1 * ((i 1).val / 1024 - 0)) + 1) / 2 = _
    omega
  unfold G3
  rw [dif_pos hp, ← outsAt0_sweep m c _ hp]
  refine (out_last m c ⟨pt3Of i, hp⟩ hm _).trans ?_
  rw [ref_at]
  refine congrArg₂ (· + ·) (Pr.sweep (fun n h => (outsAt0 m c n h).2)
    (fun t y k => tileA m c t (Idealize.ShloMosaic.ix2 (y 0) k)) (fun t y k => tileB m c t (Idealize.ShloMosaic.ix2 k (y 1)))
    (fun t h y => by rw [outsAt0_A m c t h (by omega)]; frame_out; rw [step_at]; exact congrArg (· + _) Ideal.ofBits_zero_f32)
    (fun t h y => by rw [outsAt0_B m c t h (by omega)]; frame_out; rw [step_at]; exact congrArg (· + _) (congrFun ((Memref.isWhole_whole cc0_scratch0).read_unread _) y))
    ⟨pt3Of i, hp⟩ hm _ (fun l => (m ((c : Thread nD τ).loc main_arg0) : S8192x2816.Idx → EReal) (Idealize.ShloMosaic.ix2 (i 0) l))
    (fun l => (m ((c : Thread nD τ).loc main_arg1) : S2816x1024.Idx → EReal) (Idealize.ShloMosaic.ix2 l (i 1))) rfl (fun s k hl => ?_) fun s k hl => ?_) ?_
  · unfold tileA
    blk_point [iblk, V, idx0 ⟨_, Pipeline.run_point_lt_of_flush ⟨pt3Of i, hp⟩ hm s⟩]
  · unfold tileB
    blk_point [iblk, V, idx1 ⟨_, Pipeline.run_point_lt_of_flush ⟨pt3Of i, hp⟩ hm s⟩]
  · unfold tileX
    blk_point [iblk, V, idx2 ⟨pt3Of i, hp⟩]

/-- The product of the kernel and the product of the reference agree. -/
theorem same : @Cert.algebraic_DownIdeal_DownRefIdeal Cert.DownIdeal.Gen.facts Cert.DownRefIdeal.Gen.facts := fun m ρ m' ρ' _ hin =>
  Pr.agree (run (F := Ideal) m ρ) (Cert.DownRefIdeal.Value.run (F := Ideal) m' ρ') fun c => by
    rw [Cert.DownRefIdeal.Read.val_main_v3_eq, (hin c).1, (hin c).2.1, (hin c).2.2]
    exact final m c

end Cert.Proof.Down

end
-- ==== Proof.Pr.Inp.lean ====
/- The projection into the delta rule: a tile of rows with a tile of columns is a tile of the whole product. -/
module

public import proofs.«01_k».proof.Proof.Gen.InpIdeal.Value
public import proofs.«01_k».proof.Proof.Gen.InpRefIdeal.Read
public import proofs.«01_k».proof.Defs
public import proofs.«01_k».proof.Proof.Gen.InpIdeal
public import proofs.«01_k».proof.Proof.Gen.InpRefIdeal
public import proofs.«01_k».proof.Proof.Pr.Product

@[expose] public section

noncomputable section

namespace Cert.Proof.Inp

open Cert.InpIdeal Cert.InpIdeal.Gen Cert.InpIdeal.Value
open Idealize.ShloMosaic Idealize.ShloMosaic.TcCoe Idealize.ShloMosaic.ValueIdx Idealize.SL.Sem

variable (m : (ℓ : Loc nD τ sig) → Buf (Elt Ideal) ℓ)

/-- A tile's product. -/
theorem tile_at (x0 : Vec Ideal S1024x1024 .bf16) (x1 : Vec Ideal S1024x1408 .bf16) (y : S1024x1408.Idx) :
    k0_pay1 x0 x1 y = Pr.nn (n := 1024) (k := 1024) (m := 1408) x0 x1 (y 0) (y 1) := by
  unfold k0_pay1
  simp only [pointwise, zero_add]
  rfl

/-- Where the tiles lie. -/
theorem idx0 : ∀ t : Fin cfg0.N, win0_0.index t = ![t.val / 3, 0] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, t.val % 3] := (by decide +kernel : ∀ t : Fin grid0.N, _)

/-- The reference's product. -/
theorem ref_at (X0 : S8192x1024.Idx → EReal) (X1 : S1024x4224.Idx → EReal) (i : S8192x4224.Idx) :
    Cert.InpRefIdeal.Read.val_main_v2 (F := Ideal) X0 X1 i = Pr.nn (n := 8192) (k := 1024) (m := 4224) X0 X1 (i 0) (i 1) :=
  (Cert.InpRefIdeal.Read.val_main_v2_apply _ _ _).trans
    (Pr.nn_of _ _ (i 0) (i 1) _ _ (fun _ => rfl) (fun _ => rfl) (fun _ => rfl) fun _ => rfl)

/-- The kernel's result is the reference's. -/
theorem final (c : Dev nD) : (dats m 0 c).arrAt 2 cfg0.N = Cert.InpRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [tile_at, ref_at]
  unfold Pr.nn
  blk_point [iblk, V, idx0 t, idx1 t, idx2 t]

/-- The product of the kernel and the product of the reference agree. -/
theorem same : @Cert.algebraic_InpIdeal_InpRefIdeal Cert.InpIdeal.Gen.facts Cert.InpRefIdeal.Gen.facts := fun m ρ m' ρ' _ hin =>
  Pr.agree (run_blocks (F := Ideal) m ρ) (Cert.InpRefIdeal.Value.run (F := Ideal) m' ρ') fun c => by
    rw [Cert.InpRefIdeal.Read.val_main_v2_eq, (hin c).1, (hin c).2]
    exact final m c

end Cert.Proof.Inp

end
-- ==== Proof.Pr.Outp.lean ====
/- A square projection added to the stream: a tile of rows with a tile of columns is a tile of the whole product. -/
module

public import proofs.«01_k».proof.Proof.Gen.OutpIdeal.Value
public import proofs.«01_k».proof.Proof.Gen.OutpRefIdeal.Read
public import proofs.«01_k».proof.Defs
public import proofs.«01_k».proof.Proof.Gen.OutpIdeal
public import proofs.«01_k».proof.Proof.Gen.OutpRefIdeal
public import proofs.«01_k».proof.Proof.Pr.Product

@[expose] public section

noncomputable section

namespace Cert.Proof.Outp

open Cert.OutpIdeal Cert.OutpIdeal.Gen Cert.OutpIdeal.Value
open Idealize.ShloMosaic Idealize.ShloMosaic.TcCoe Idealize.ShloMosaic.ValueIdx Idealize.SL.Sem

variable (m : (ℓ : Loc nD τ sig) → Buf (Elt Ideal) ℓ)

/-- A tile's product. -/
theorem tile_at (x0 : Vec Ideal S1024x1024 .bf16) (x1 : Vec Ideal S1024x1024 .bf16) (x2 : Vec Ideal S1024x1024 .f32) (y : S1024x1024.Idx) :
    k0_pay1 x0 x1 x2 y = Pr.nn (n := 1024) (k := 1024) (m := 1024) x0 x1 (y 0) (y 1) + x2 y := by
  unfold k0_pay1
  simp only [pointwise, zero_add]
  rfl

/-- Where the tiles lie. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx3 : ∀ t : Fin cfg0.N, win0_3.index t = ![t.val, 0] := (by decide +kernel : ∀ t : Fin grid0.N, _)
theorem idx2 : ∀ t : Fin cfg0.N, win0_2.index t = ![t.val, 0] := (by decide +kernel : ∀ t : Fin grid0.N, _)

/-- The reference's product. -/
theorem ref_at (X0 : S8192x1024.Idx → EReal) (X1 : S1024x1024.Idx → EReal) (X2 : S8192x1024.Idx → EReal) (i : S8192x1024.Idx) :
    Cert.OutpRefIdeal.Read.val_main_v3 (F := Ideal) X0 X1 X2 i = Pr.nn (n := 8192) (k := 1024) (m := 1024) X0 X1 (i 0) (i 1) + X2 i :=
  (Cert.OutpRefIdeal.Read.val_main_v3_apply _ _ _ _).trans <| (add_comm _ _).trans <| congrArg (· + X2 i) <|
    (Cert.OutpRefIdeal.Read.val_main_v2_apply _ _ _).trans
      (Pr.nn_of _ _ (i 0) (i 1) _ _ (fun _ => rfl) (fun _ => rfl) (fun _ => rfl) fun _ => rfl)

/-- The kernel's result is the reference's. -/
theorem final (c : Dev nD) : (dats m 0 c).arrAt 3 cfg0.N = Cert.OutpRefIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  rw [tile_at, ref_at]
  unfold Pr.nn
  blk_point [iblk, V, idx0 t, idx1 t, idx2 t, idx3 t]

/-- The product of the kernel and the product of the reference agree. -/
theorem same : @Cert.algebraic_OutpIdeal_OutpRefIdeal Cert.OutpIdeal.Gen.facts Cert.OutpRefIdeal.Gen.facts := fun m ρ m' ρ' _ hin =>
  Pr.agree (run_blocks (F := Ideal) m ρ) (Cert.OutpRefIdeal.Value.run (F := Ideal) m' ρ') fun c => by
    rw [Cert.OutpRefIdeal.Read.val_main_v3_eq, (hin c).1, (hin c).2.1, (hin c).2.2]
    exact final m c

end Cert.Proof.Outp

end
-- ==== Proof.Pr.Qp.lean ====
/- The projection to queries: a tile of rows with a tile of columns is a tile of the whole product. -/
module

public import proofs.«01_k».proof.Proof.Gen.QpIdeal.Value
public import proofs.«01_k».proof.Proof.Gen.QpRefIdeal.Read
public import proofs.«01_k».proof.Defs
public import proofs.«01_k».proof.Proof.Gen.QpIdeal
public import proofs.«01_k».proof.Proof.Gen.QpRefIdeal
public import proofs.«01_k».proof.Proof.Pr.Product

@[expose] public section

noncomputable section

namespace Cert.Proof.Qp

open Cert.QpIdeal Cert.QpIdeal.Gen Cert.QpIdeal.Value
open Idealize.ShloMosaic Idealize.ShloMosaic.TcCoe Idealize.ShloMosaic.ValueIdx Idealize.SL.Sem

variable (m : (ℓ : Loc nD τ sig) → Buf (Elt Ideal) ℓ)

/-- A tile's product. -/
theorem tile_at (x0 : Vec Ideal S1024x1024 .bf16) (x1 : Vec Ideal S1024x1024 .bf16) (y : S1024x1024.Idx) :
    k0_pay1 x0 x1 y = Pr.nn (n := 1024) (k := 1024) (m := 1024) x0 x1 (y 0) (y 1) := by
  unfold k0_pay1
  simp only [pointwise, zero_add]
  rfl

/-- Where the tiles lie. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The reference's product. -/
theorem ref_at (X0 : S8192x1024.Idx → EReal) (X1 : S1024x1024.Idx → EReal) (i : S8192x1024.Idx) :
    Cert.QpRefIdeal.Read.val_main_v2 (F := Ideal) X0 X1 i = Pr.nn (n := 8192) (k := 1024) (m := 1024) X0 X1 (i 0) (i 1) :=
  (Cert.QpRefIdeal.Read.val_main_v2_apply _ _ _).trans
    (Pr.nn_of _ _ (i 0) (i 1) _ _ (fun _ => rfl) (fun _ => rfl) (fun _ => rfl) fun _ => rfl)

/-- The kernel's result is the reference's. -/
theorem final (c : Dev nD) : (dats m 0 c).arrAt 2 cfg0.N = Cert.QpRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [tile_at, ref_at]
  unfold Pr.nn
  blk_point [iblk, V, idx0 t, idx1 t, idx2 t]

/-- The product of the kernel and the product of the reference agree. -/
theorem same : @Cert.algebraic_QpIdeal_QpRefIdeal Cert.QpIdeal.Gen.facts Cert.QpRefIdeal.Gen.facts := fun m ρ m' ρ' _ hin =>
  Pr.agree (run_blocks (F := Ideal) m ρ) (Cert.QpRefIdeal.Value.run (F := Ideal) m' ρ') fun c => by
    rw [Cert.QpRefIdeal.Read.val_main_v2_eq, (hin c).1, (hin c).2]
    exact final m c

end Cert.Proof.Qp

end
-- ==== Proof.Pr.Kvp.lean ====
/- The projection to keys and values: a tile of rows with a tile of columns is a tile of the whole product. -/
module

public import proofs.«01_k».proof.Proof.Gen.KvpIdeal.Value
public import proofs.«01_k».proof.Proof.Gen.KvpRefIdeal.Read
public import proofs.«01_k».proof.Defs
public import proofs.«01_k».proof.Proof.Gen.KvpIdeal
public import proofs.«01_k».proof.Proof.Gen.KvpRefIdeal
public import proofs.«01_k».proof.Proof.Pr.Product

@[expose] public section

noncomputable section

namespace Cert.Proof.Kvp

open Cert.KvpIdeal Cert.KvpIdeal.Gen Cert.KvpIdeal.Value
open Idealize.ShloMosaic Idealize.ShloMosaic.TcCoe Idealize.ShloMosaic.ValueIdx Idealize.SL.Sem

variable (m : (ℓ : Loc nD τ sig) → Buf (Elt Ideal) ℓ)

/-- A tile's product. -/
theorem tile_at (x0 : Vec Ideal S1024x1024 .bf16) (x1 : Vec Ideal S1024x1024 .bf16) (y : S1024x1024.Idx) :
    k0_pay1 x0 x1 y = Pr.nn (n := 1024) (k := 1024) (m := 1024) x0 x1 (y 0) (y 1) := by
  unfold k0_pay1
  simp only [pointwise, zero_add]
  rfl

/-- Where the tiles lie. -/
theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The reference's product. -/
theorem ref_at (X0 : S8192x1024.Idx → EReal) (X1 : S1024x2048.Idx → EReal) (i : S8192x2048.Idx) :
    Cert.KvpRefIdeal.Read.val_main_v2 (F := Ideal) X0 X1 i = Pr.nn (n := 8192) (k := 1024) (m := 2048) X0 X1 (i 0) (i 1) :=
  (Cert.KvpRefIdeal.Read.val_main_v2_apply _ _ _).trans
    (Pr.nn_of _ _ (i 0) (i 1) _ _ (fun _ => rfl) (fun _ => rfl) (fun _ => rfl) fun _ => rfl)

/-- The kernel's result is the reference's. -/
theorem final (c : Dev nD) : (dats m 0 c).arrAt 2 cfg0.N = Cert.KvpRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [tile_at, ref_at]
  unfold Pr.nn
  blk_point [iblk, V, idx0 t, idx1 t, idx2 t]

/-- The product of the kernel and the product of the reference agree. -/
theorem same : @Cert.algebraic_KvpIdeal_KvpRefIdeal Cert.KvpIdeal.Gen.facts Cert.KvpRefIdeal.Gen.facts := fun m ρ m' ρ' _ hin =>
  Pr.agree (run_blocks (F := Ideal) m ρ) (Cert.KvpRefIdeal.Value.run (F := Ideal) m' ρ') fun c => by
    rw [Cert.KvpRefIdeal.Read.val_main_v2_eq, (hin c).1, (hin c).2]
    exact final m c

end Cert.Proof.Kvp

end
-- ==== Proof.Pr.Rnorm.lean ====
/- A root-mean-square norm: the kernel works tiles of rows, the reference the whole array. -/
module

public import proofs.«01_k».proof.Proof.Gen.RnormIdeal.Value
public import proofs.«01_k».proof.Proof.Gen.RnormRefIdeal.Read
public import proofs.«01_k».proof.Defs
public import proofs.«01_k».proof.Proof.Gen.RnormIdeal
public import proofs.«01_k».proof.Proof.Gen.RnormRefIdeal
public import proofs.«01_k».proof.Proof.Pr.Norm
public import Idealize.ShloMosaic.Lib.Pipeline.ValueKit
public import proofs.«01_k».proof.Proof.Pr.Product

@[expose] public section

noncomputable section

namespace Cert.Proof.Rnorm

open Cert.RnormIdeal Cert.RnormIdeal.Gen Cert.RnormIdeal.Value
open Idealize.ShloMosaic Idealize.ShloMosaic.TcCoe Idealize.ShloMosaic.ValueIdx Idealize.SL.Sem
open Finset Pr

variable (m : (ℓ : Loc nD τ sig) → Buf (Elt Ideal) ℓ)

/-- An entry of the kernel's tile. -/
theorem tile_at (v0 : Vec Ideal S512x1024 .f32) (v11 : Vec Ideal S1x1024 .f32) (y : S512x1024.Idx) :
    k0_pay1 v0 v11 y = v0 y * rs (row v0 (y 0).val) * row v11 0 (y 1) := by
  unfold k0_pay1
  simp only [pointwise, zero_add]
  unfold rs msq
  exact congrArg₂ (fun s g => v0 y * Ideal.rsqrt (Ideal.div s width + small) * g)
    (sum_congr rfl fun k _ => congrArg₂ (· * ·) (rd_of v0 _ (y 0).val k.val rfl rfl) (rd_of v0 _ (y 0).val k.val rfl rfl))
    (rd_of v11 _ 0 (y 1).val rfl rfl)

/-- Where the tiles lie. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The arguments, and their tiles. -/
def X (c : Dev nD) : S8192x1024.Idx → EReal := m ((c : Thread nD τ).loc main_arg0)
def G (c : Dev nD) : S1x1024.Idx → EReal := m ((c : Thread nD τ).loc main_arg1)
def tileX (c : Dev nD) (t : Fin cfg0.N) : S512x1024.Idx → EReal := iblk m c 0 t
def tileG (c : Dev nD) (t : Fin cfg0.N) : S1x1024.Idx → EReal := iblk m c 1 t

/-- A tile's row is the array's row. -/
theorem rowX (c : Dev nD) (t : Fin cfg0.N) (p : ℕ) (hp : p < 512) : row (tileX m c t) p = row (X m c) (t.val * 512 + p) := by
  funext k
  have ht : t.val < 16 := t.isLt
  unfold row
  rw [at_rd (tileX m c t) p k.val hp k.isLt, at_rd (X m c) (t.val * 512 + p) k.val (by omega) k.isLt]
  unfold tileX X
  blk_point [iblk, V, idx0 t]
theorem rowG (c : Dev nD) (t : Fin cfg0.N) : row (tileG m c t) 0 = row (G m c) 0 := by
  funext k
  unfold row
  rw [at_rd (tileG m c t) 0 k.val (by omega) k.isLt, at_rd (G m c) 0 k.val (by omega) k.isLt]
  unfold tileG G
  blk_point [iblk, V, idx1 t]

/-- The reference at an entry. -/
theorem ref_at (A : S8192x1024.Idx → EReal) (B : S1x1024.Idx → EReal) (i : S8192x1024.Idx) :
    Cert.RnormRefIdeal.Read.val_main_v12 (F := Ideal) A B i = A i * rs (row A (i 0).val) * row B 0 (i 1) := by
  rw [Cert.RnormRefIdeal.Read.val_main_v12_apply, Cert.RnormRefIdeal.Read.val_main_v11_apply, Cert.RnormRefIdeal.Read.val_main_v9_apply,
    Cert.RnormRefIdeal.Read.val_main_v8_apply, Cert.RnormRefIdeal.Read.val_main_v7_apply, Cert.RnormRefIdeal.Read.val_main_v6_apply, Cert.RnormRefIdeal.Read.val_main_v4_apply,
    Cert.RnormRefIdeal.Read.val_main_v2_apply, Cert.RnormRefIdeal.Read.val_main_v1_apply, Cert.RnormRefIdeal.Read.val_main_v3_apply, Cert.RnormRefIdeal.Read.val_main_v5_apply,
    Cert.RnormRefIdeal.Read.val_main_v10_apply, rd_of B (Cert.RnormRefIdeal.Read.idx_main_v10 i) 0 (i 1).val rfl rfl]
  show A i * Ideal.rsqrt (Ideal.div (Ideal.ofBits .f32 0x00000000#32 + ∑ k : Fin 1024, _) width + small) * _ = _
  rw [Ideal.ofBits_zero_f32, zero_add]
  unfold rs msq row
  refine congrArg (fun z => A i * Ideal.rsqrt (Ideal.div z width + small) * rd B 0 (i 1).val) (sum_congr rfl fun k _ => ?_)
  rw [Cert.RnormRefIdeal.Read.val_main_v0_apply, rd_of A (Cert.RnormRefIdeal.Read.idx_main_v1 (Cert.RnormRefIdeal.Read.idx_main_v2 (Cert.RnormRefIdeal.Read.idx_main_v8 i)) k) (i 0).val k.val rfl rfl]
  rfl

/-- The norm at an entry of a tile, from the whole arrays. -/
theorem tile_whole (c : Dev nD) (t : Fin cfg0.N) (y : S512x1024.Idx) (i : S8192x1024.Idx) (e0 : (i 0).val = t.val * 512 + (y 0).val) (e1 : (i 1).val = (y 1).val) :
    (k0_pay1 (F := Ideal) (tileX m c t) (tileG m c t) y : EReal) = X m c i * rs (row (X m c) (i 0).val) * row (G m c) 0 (i 1) := by
  have y0 := idx2_lt0 y
  rw [tile_at, rowX m c t _ y0, rowG, ← e0, show (i 1 : Fin 1024) = y 1 from Fin.ext e1]
  refine congrArg (fun z => z * _ * _) ?_
  refine (rd_of (tileX m c t) y _ _ rfl rfl).trans ((congrFun (rowX m c t _ y0) (y 1)).trans ?_)
  exact (rd_of (X m c) i _ _ e0 e1).symm

/-- The kernel's result is the reference's. -/
theorem final (c : Dev nD) : (dats m 0 c).arrAt 2 cfg0.N = Cert.RnormRefIdeal.Read.val_main_v12 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  refine (tile_whole m c t y _ ?_ ?_).trans (ref_at _ _ _).symm
  · blk_simp [idx2 t]
  · blk_simp [idx2 t]

/-- The kernel and the reference agree. -/
theorem same : @Cert.algebraic_RnormIdeal_RnormRefIdeal Cert.RnormIdeal.Gen.facts Cert.RnormRefIdeal.Gen.facts := fun m ρ m' ρ' _ hin =>
  Pr.agree (run_blocks (F := Ideal) m ρ) (Cert.RnormRefIdeal.Value.run (F := Ideal) m' ρ') fun c => by
    rw [Cert.RnormRefIdeal.Read.val_main_v12_eq, (hin c).1, (hin c).2]
    exact final m c

end Cert.Proof.Rnorm

end
-- ==== Proof.Pr.HeadNorm.lean ====
/- A root-mean-square norm of each head's 128 columns, at an entry: the kernels' eight pieces of a tile of rows. -/
module

public import proofs.«01_k».proof.Proof.Gen.QnormIdeal.Value
public import proofs.«01_k».proof.Proof.Gen.QnormIdeal
public import proofs.«01_k».proof.Proof.Pr.Norm
public import Idealize.ShloMosaic.Lib.Pipeline.ValueKit

@[expose] public section

noncomputable section

namespace Cert.Proof.HeadNorm

open Cert.QnormIdeal Cert.QnormIdeal.Gen Cert.QnormIdeal.Value
open Idealize.ShloMosaic Idealize.ShloMosaic.TcCoe Idealize.ShloMosaic.ValueIdx
open Finset Pr

/-- A head's row. -/
def hrow {n w : ℕ} (X : (⟨2, ![n, w]⟩ : Shape).Idx → EReal) (p h : ℕ) (k : Fin 128) : EReal := rd X p (128 * h + k.val)

/-- The inverse root of a head's mean square with the small number added. -/
def hrs (ξ : Fin 128 → EReal) : EReal := Ideal.rsqrt (Ideal.div (∑ k, ξ k * ξ k) (Ideal.ofBits .f32 0x43000000#32) + small)

/-- The norm at row `p`, head `h` and column `k` of the head. -/
def norm {n w : ℕ} (X : (⟨2, ![n, w]⟩ : Shape).Idx → EReal) (G : (⟨2, ![1, 128]⟩ : Shape).Idx → EReal) (p h k : ℕ) : EReal :=
  rd X p (128 * h + k) * hrs (hrow X p h) * rd G 0 k

/-- One piece of a tile at an entry. -/
theorem piece_at (P0 : Vec Ideal S512x1024 .f32) (P1 : Vec Ideal S1x128 .f32) (h : ℕ) (hs : Shape.Slices S512x1024 ![0, 128 * h] S512x128) (i : S512x128.Idx) :
    (mulf (F := Ideal) (φ := .f32) (mulf (extractStridedSlice S512x128 ![0, 128 * h] P0 hs) (broadcastTo S512x128 (rsqrt (addf (divf (shapeCast S512x1
      (multiReduction .add [1] S512 (mulf (extractStridedSlice S512x128 ![0, 128 * h] P0 hs) (extractStridedSlice S512x128 ![0, 128 * h] P0 hs)) 0x00000000#32
        reduces_S512x128_S512 (.inl rfl) rfl) shapeCasts_S512_S512x1) (broadcast S512x1 (Scalar.ofBits .f32 0x43000000#32)))
      (broadcast S512x1 (Scalar.ofBits .f32 0x358637BD#32)))) broadcasts_S512x1_S512x128)) (broadcastTo S512x128 P1 broadcasts_S1x128_S512x128) i : EReal)
      = norm P0 P1 (i 0).val h (i 1).val := by
  simp only [pointwise, zero_add]
  unfold norm hrs
  refine congrArg₂ (· * ·) (congrArg₂ (· * ·) (rd_of P0 _ _ _ ?_ ?_) (congrArg (fun s => Ideal.rsqrt (Ideal.div s (Ideal.ofBits .f32 0x43000000#32) + small))
    (sum_congr rfl fun k _ => congrArg₂ (· * ·) (rd_of P0 _ (i 0).val (128 * h + k.val) ?_ ?_) (rd_of P0 _ (i 0).val (128 * h + k.val) ?_ ?_)))) (rd_of P1 _ 0 (i 1).val rfl rfl)
  all_goals first | rfl | exact Nat.zero_add _

/-- The tile of eight pieces at an entry. -/
theorem tile_at (P0 : Vec Ideal S512x1024 .f32) (P1 : Vec Ideal S1x128 .f32) (y : S512x1024.Idx) :
    (E2 P0 P1 y : EReal) = norm P0 P1 (y 0).val ((y 1).val / 128) ((y 1).val % 128) := by
  have e : ∀ (n : Fin 8) (i : S512x128.Idx), (Cat2_0 P0 P1 n i : EReal) = norm P0 P1 (i 0).val n.val (i 1).val := fun n i =>
    match n with
    | ⟨0, _⟩ => piece_at P0 P1 0 _ i
    | ⟨1, _⟩ => piece_at P0 P1 1 _ i
    | ⟨2, _⟩ => piece_at P0 P1 2 _ i
    | ⟨3, _⟩ => piece_at P0 P1 3 _ i
    | ⟨4, _⟩ => piece_at P0 P1 4 _ i
    | ⟨5, _⟩ => piece_at P0 P1 5 _ i
    | ⟨6, _⟩ => piece_at P0 P1 6 _ i
    | ⟨7, _⟩ => piece_at P0 P1 7 _ i
  exact e (csel2_0 y) (ix2_0 y)

/-- A norm reads one row of its argument, and the gains. -/
theorem norm_congr {n w n' w' : ℕ} {X : (⟨2, ![n, w]⟩ : Shape).Idx → EReal} {X' : (⟨2, ![n', w']⟩ : Shape).Idx → EReal} {G G' : (⟨2, ![1, 128]⟩ : Shape).Idx → EReal}
    {p p' h k : ℕ} (hk : k < 128) (e : ∀ j < 128, rd X p (128 * h + j) = rd X' p' (128 * h + j)) (eg : rd G 0 k = rd G' 0 k) : norm X G p h k = norm X' G' p' h k := by
  unfold norm hrs
  rw [e k hk, eg, show hrow X p h = hrow X' p' h from funext fun j => e j.val j.isLt]

end Cert.Proof.HeadNorm

end
-- ==== Proof.Pr.Qnorm.lean ====
/- The queries' head norm: the kernel works tiles of rows, a head at a time, the reference the whole array by heads. -/
module

public import proofs.«01_k».proof.Proof.Gen.QnormIdeal.Value
public import proofs.«01_k».proof.Proof.Gen.QnormRefIdeal.Read
public import proofs.«01_k».proof.Proof.Gen.QnormRefIdeal.Run
public import proofs.«01_k».proof.Defs
public import proofs.«01_k».proof.Proof.Gen.QnormIdeal
public import proofs.«01_k».proof.Proof.Gen.QnormRefIdeal
public import proofs.«01_k».proof.Proof.Pr.HeadNorm
public import proofs.«01_k».proof.Proof.Pr.Product

@[expose] public section

noncomputable section

namespace Cert.Proof.Qnorm

open Cert.QnormIdeal Cert.QnormIdeal.Gen Cert.QnormIdeal.Value
open Idealize.ShloMosaic Idealize.ShloMosaic.TcCoe Idealize.ShloMosaic.ValueIdx Idealize.SL.Sem
open Finset Pr HeadNorm

variable (m : (ℓ : Loc nD τ sig) → Buf (Elt Ideal) ℓ)

/-- Where the tiles lie. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The arguments, and their tiles. -/
def X (c : Dev nD) : S8192x1024.Idx → EReal := m ((c : Thread nD τ).loc main_arg0)
def G (c : Dev nD) : S1x128.Idx → EReal := m ((c : Thread nD τ).loc main_arg1)
def tileX (c : Dev nD) (t : Fin cfg0.N) : S512x1024.Idx → EReal := iblk m c 0 t
def tileG (c : Dev nD) (t : Fin cfg0.N) : S1x128.Idx → EReal := iblk m c 1 t

/-- A tile's row is the array's row. -/
theorem rowX (c : Dev nD) (t : Fin cfg0.N) (p q : ℕ) (hp : p < 512) (hq : q < 1024) : rd (tileX m c t) p q = rd (X m c) (t.val * 512 + p) q := by
  have ht : t.val < 16 := t.isLt
  rw [at_rd (tileX m c t) p q hp hq, at_rd (X m c) (t.val * 512 + p) q (by omega) hq]
  unfold tileX X
  blk_point [iblk, V, idx0 t]
theorem rowG (c : Dev nD) (t : Fin cfg0.N) (q : ℕ) (hq : q < 128) : rd (tileG m c t) 0 q = rd (G m c) 0 q := by
  rw [at_rd (tileG m c t) 0 q (by omega) hq, at_rd (G m c) 0 q (by omega) hq]
  unfold tileG G
  blk_point [iblk, V, idx1 t]

open Cert.QnormRefIdeal.Read in
/-- The reference at an entry. -/
theorem ref_at (A : S8192x1024.Idx → EReal) (B : S1x128.Idx → EReal) (i : S8192x1024.Idx) :
    val_main_v16 (F := Ideal) A B i = HeadNorm.norm A B (i 0).val ((i 1).val / 128) ((i 1).val % 128) := by
  have h0 : (i 0).val < 8192 := (i 0).isLt
  have h1 : (i 1).val < 1024 := (i 1).isLt
  rw [val_main_v16_apply]
  show val_main_v15 (F := Ideal) A B i = _
  rw [val_main_v15_apply, val_main_v14_apply, val_main_v13_apply, val_main_v12_apply, val_main_v1_apply, val_main_v11_apply, val_main_v10_apply, val_main_v9_apply,
    val_main_v8_apply, val_main_v7_apply, val_main_v6_apply, val_main_v5_apply, val_main_v4_apply, val_main_v3_apply, val_main_v0_apply,
    rd_of B _ 0 ((i 1).val % 128) rfl (by show (((i 0).val * 1024 + (i 1).val) % 128) % 128 = _; omega),
    rd_of A _ (i 0).val (128 * ((i 1).val / 128) + (i 1).val % 128)
      (by show (((((i 0).val * 1024 + (i 1).val) / 1024) * 8 + ((i 0).val * 1024 + (i 1).val) / 128 % 8) * 128 + ((i 0).val * 1024 + (i 1).val) % 128) / 1024 = _; omega)
      (by show (((((i 0).val * 1024 + (i 1).val) / 1024) * 8 + ((i 0).val * 1024 + (i 1).val) / 128 % 8) * 128 + ((i 0).val * 1024 + (i 1).val) % 128) % 1024 = _; omega)]
  show rd A _ _ * Ideal.rsqrt (Ideal.div (Ideal.ofBits .f32 0x00000000#32 + ∑ k : Fin 128, _) (Ideal.ofBits .f32 0x43000000#32) + small) * _ = _
  rw [Ideal.ofBits_zero_f32, zero_add]
  unfold HeadNorm.norm hrs hrow
  refine congrArg (fun z => rd A (i 0).val (128 * ((i 1).val / 128) + (i 1).val % 128) * Ideal.rsqrt (Ideal.div z (Ideal.ofBits .f32 0x43000000#32) + small) * rd B 0 ((i 1).val % 128))
    (sum_congr rfl fun k _ => ?_)
  have hk : k.val < 128 := k.isLt
  rw [val_main_v2_apply, val_main_v0_apply, rd_of A _ (i 0).val (128 * ((i 1).val / 128) + k.val)
      (by show (((((i 0).val * 1024 + (i 1).val) / 1024) * 8 + ((i 0).val * 1024 + (i 1).val) / 128 % 8) * 128 + k.val) / 1024 = _; omega)
      (by show (((((i 0).val * 1024 + (i 1).val) / 1024) * 8 + ((i 0).val * 1024 + (i 1).val) / 128 % 8) * 128 + k.val) % 1024 = _; omega)]
  rfl

/-- The norm at an entry of a tile, from the whole arrays. -/
theorem tile_whole (c : Dev nD) (t : Fin cfg0.N) (y : S512x1024.Idx) (i : S8192x1024.Idx) (e0 : (i 0).val = t.val * 512 + (y 0).val) (e1 : (i 1).val = (y 1).val) :
    (E2 (F := Ideal) (tileX m c t) (tileG m c t) y : EReal) = HeadNorm.norm (X m c) (G m c) (i 0).val ((i 1).val / 128) ((i 1).val % 128) := by
  have y0 := idx2_lt0 y
  have y1 : (y 1).val < 1024 := (y 1).isLt
  rw [tile_at, e0, e1]
  exact norm_congr (by omega) (fun j hj => rowX m c t _ _ y0 (by omega)) (rowG m c t _ (by omega))

/-- The kernel's result is the reference's. -/
theorem final (c : Dev nD) : (dats m 0 c).arrAt 2 cfg0.N = Cert.QnormRefIdeal.Read.val_main_v16 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  refine (canon2_eq _ _ y).trans ?_
  simp (disch := decide) only [View.ld_unit_lit']
  refine (tile_whole m c t y _ ?_ ?_).trans (ref_at _ _ _).symm
  · blk_simp [idx2 t]
  · blk_simp [idx2 t]

/-- The kernel and the reference agree. -/
theorem same : @Cert.algebraic_QnormIdeal_QnormRefIdeal Cert.QnormIdeal.Gen.facts Cert.QnormRefIdeal.Gen.facts := fun m ρ m' ρ' _ hin =>
  Pr.agree (run_blocks (F := Ideal) m ρ) (Cert.QnormRefIdeal.Value.run (F := Ideal) m' ρ') fun c => by
    rw [Cert.QnormRefIdeal.Read.val_main_v16_eq, (hin c).1, (hin c).2]
    exact final m c

end Cert.Proof.Qnorm

end
-- ==== Proof.Pr.Kvpost.lean ====
/- The keys' head norm and the cast values: the kernel works tiles of the two halves, the reference the whole array. -/
module

public import proofs.«01_k».proof.Proof.Gen.KvpostIdeal.Value
public import proofs.«01_k».proof.Proof.Gen.KvpostRefIdeal.Read
public import proofs.«01_k».proof.Proof.Gen.KvpostRefIdeal.Run
public import proofs.«01_k».proof.Defs
public import proofs.«01_k».proof.Proof.Gen.KvpostIdeal
public import proofs.«01_k».proof.Proof.Gen.KvpostRefIdeal
public import proofs.«01_k».proof.Proof.Pr.HeadNorm
public import proofs.«01_k».proof.Proof.Pr.Product

@[expose] public section

noncomputable section

namespace Cert.Proof.Kvpost

open Cert.KvpostIdeal Cert.KvpostIdeal.Gen Cert.KvpostIdeal.Value
open Idealize.ShloMosaic Idealize.ShloMosaic.TcCoe Idealize.ShloMosaic.ValueIdx Idealize.SL.Sem
open Finset Pr HeadNorm

variable (m : (ℓ : Loc nD τ sig) → Buf (Elt Ideal) ℓ)

/-- Where the tiles lie. -/
theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

/-- The arguments, and their tiles: of the keys' half, of the values' half, and of the gains. -/
def X (c : Dev nD) : S8192x2048.Idx → EReal := m ((c : Thread nD τ).loc main_arg0)
def G (c : Dev nD) : S1x128.Idx → EReal := m ((c : Thread nD τ).loc main_arg1)
def tileK (c : Dev nD) (t : Fin cfg0.N) : S512x1024.Idx → EReal := iblk m c 0 t
def tileV (c : Dev nD) (t : Fin cfg0.N) : S512x1024.Idx → EReal := iblk m c 1 t
def tileG (c : Dev nD) (t : Fin cfg0.N) : S1x128.Idx → EReal := iblk m c 2 t

/-- A tile's row is the array's row, of its half. -/
theorem rowK (c : Dev nD) (t : Fin cfg0.N) (p q : ℕ) (hp : p < 512) (hq : q < 1024) : rd (tileK m c t) p q = rd (X m c) (t.val * 512 + p) q := by
  have ht : t.val < 16 := t.isLt
  rw [at_rd (tileK m c t) p q hp hq, at_rd (X m c) (t.val * 512 + p) q (by omega) (by omega)]
  unfold tileK X
  blk_point [iblk, V, idx0 t]
theorem rowV (c : Dev nD) (t : Fin cfg0.N) (p q : ℕ) (hp : p < 512) (hq : q < 1024) : rd (tileV m c t) p q = rd (X m c) (t.val * 512 + p) (1024 + q) := by
  have ht : t.val < 16 := t.isLt
  rw [at_rd (tileV m c t) p q hp hq, at_rd (X m c) (t.val * 512 + p) (1024 + q) (by omega) (by omega)]
  unfold tileV X
  blk_point [iblk, V, idx1 t]
theorem rowG (c : Dev nD) (t : Fin cfg0.N) (q : ℕ) (hq : q < 128) : rd (tileG m c t) 0 q = rd (G m c) 0 q := by
  rw [at_rd (tileG m c t) 0 q (by omega) hq, at_rd (G m c) 0 q (by omega) hq]
  unfold tileG G
  blk_point [iblk, V, idx2 t]

open Cert.KvpostRefIdeal.Read in
/-- The reference's keys at an entry. -/
theorem ref_k (A : S8192x2048.Idx → EReal) (B : S1x128.Idx → EReal) (i : S8192x1024.Idx) :
    val_main_v18 (F := Ideal) A B i = HeadNorm.norm A B (i 0).val ((i 1).val / 128) ((i 1).val % 128) := by
  have h0 : (i 0).val < 8192 := (i 0).isLt
  have h1 : (i 1).val < 1024 := (i 1).isLt
  rw [val_main_v18_apply]
  show val_main_v17 (F := Ideal) A B i = _
  rw [val_main_v17_apply, val_main_v16_apply, val_main_v15_apply, val_main_v14_apply, val_main_v3_apply, val_main_v13_apply, val_main_v12_apply, val_main_v11_apply,
    val_main_v10_apply, val_main_v9_apply, val_main_v8_apply, val_main_v7_apply, val_main_v6_apply, val_main_v5_apply, val_main_v2_apply, val_main_v0_apply,
    rd_of B _ 0 ((i 1).val % 128) rfl (by show (((i 0).val * 1024 + (i 1).val) % 128) % 128 = _; omega),
    rd_of A _ (i 0).val (128 * ((i 1).val / 128) + (i 1).val % 128)
      (by show (((((i 0).val * 1024 + (i 1).val) / 1024) * 8 + ((i 0).val * 1024 + (i 1).val) / 128 % 8) * 128 + ((i 0).val * 1024 + (i 1).val) % 128) / 1024 = _; omega)
      (by show (((((i 0).val * 1024 + (i 1).val) / 1024) * 8 + ((i 0).val * 1024 + (i 1).val) / 128 % 8) * 128 + ((i 0).val * 1024 + (i 1).val) % 128) % 1024 = _; omega)]
  show rd A _ _ * Ideal.rsqrt (Ideal.div (Ideal.ofBits .f32 0x00000000#32 + ∑ k : Fin 128, _) (Ideal.ofBits .f32 0x43000000#32) + small) * _ = _
  rw [Ideal.ofBits_zero_f32, zero_add]
  unfold HeadNorm.norm hrs hrow
  refine congrArg (fun z => rd A (i 0).val (128 * ((i 1).val / 128) + (i 1).val % 128) * Ideal.rsqrt (Ideal.div z (Ideal.ofBits .f32 0x43000000#32) + small) * rd B 0 ((i 1).val % 128))
    (sum_congr rfl fun k _ => ?_)
  have hk : k.val < 128 := k.isLt
  rw [val_main_v4_apply, val_main_v2_apply, val_main_v0_apply, rd_of A _ (i 0).val (128 * ((i 1).val / 128) + k.val)
      (by show (((((i 0).val * 1024 + (i 1).val) / 1024) * 8 + ((i 0).val * 1024 + (i 1).val) / 128 % 8) * 128 + k.val) / 1024 = _; omega)
      (by show (((((i 0).val * 1024 + (i 1).val) / 1024) * 8 + ((i 0).val * 1024 + (i 1).val) / 128 % 8) * 128 + k.val) % 1024 = _; omega)]
  rfl

open Cert.KvpostRefIdeal.Read in
/-- The reference's values at an entry. -/
theorem ref_v (A : S8192x2048.Idx → EReal) (i : S8192x1024.Idx) : val_main_v19 (F := Ideal) A i = rd A (i 0).val (1024 + (i 1).val) := by
  rw [val_main_v19_apply]
  show val_main_v1 (F := Ideal) A i = _
  rw [val_main_v1_apply, rd_of A _ (i 0).val (1024 + (i 1).val) rfl rfl]

/-- The norm at an entry of a tile, from the whole arrays. -/
theorem tile_k (c : Dev nD) (t : Fin cfg0.N) (y : S512x1024.Idx) (i : S8192x1024.Idx) (e0 : (i 0).val = t.val * 512 + (y 0).val) (e1 : (i 1).val = (y 1).val) :
    (E3 (F := Ideal) (tileK m c t) (tileG m c t) y : EReal) = HeadNorm.norm (X m c) (G m c) (i 0).val ((i 1).val / 128) ((i 1).val % 128) := by
  have y0 := idx2_lt0 y
  have y1 : (y 1).val < 1024 := (y 1).isLt
  refine (tile_at (tileK m c t) (tileG m c t) y).trans ?_
  rw [e0, e1]
  exact norm_congr (by omega) (fun j hj => rowK m c t _ _ y0 (by omega)) (rowG m c t _ (by omega))

/-- The values at an entry of a tile, from the whole array. -/
theorem tile_v (c : Dev nD) (t : Fin cfg0.N) (y : S512x1024.Idx) (i : S8192x1024.Idx) (e0 : (i 0).val = t.val * 512 + (y 0).val) (e1 : (i 1).val = (y 1).val) :
    (k0_pay2 (F := Ideal) (tileV m c t) y : EReal) = rd (X m c) (i 0).val (1024 + (i 1).val) := by
  rw [e0, e1, ← rowV m c t _ _ (idx2_lt0 y) (y 1).isLt]
  exact rd_of (tileV m c t) y _ _ rfl rfl

/-- The kernel's keys are the reference's. -/
theorem final3 (c : Dev nD) : (dats m 0 c).arrAt 3 cfg0.N = Cert.KvpostRefIdeal.Read.val_main_v18 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  refine (canon3_eq _ _ y).trans ?_
  simp (disch := decide) only [View.ld_unit_lit']
  refine (tile_k m c t y _ ?_ ?_).trans (ref_k _ _ _).symm
  · blk_simp [idx3 t]
  · blk_simp [idx3 t]

/-- The kernel's values are the reference's. -/
theorem final4 (c : Dev nD) : (dats m 0 c).arrAt 4 cfg0.N = Cert.KvpostRefIdeal.Read.val_main_v19 (F := Ideal) (m ((c : Thread nD τ).loc main_arg0)) := by
  refine (dats m 0 c).arrAt_eq_of_covers 4 _ (by decide +kernel) fun t hf y => ?_
  blk_simp
  rw [after0_4]
  unfold out0_4
  frame_out
  refine (tile_v m c t y _ ?_ ?_).trans (ref_v _ _).symm
  · blk_simp [idx4 t]
  · blk_simp [idx4 t]

/-- The kernel and the reference agree. -/
theorem same : @Cert.algebraic_KvpostIdeal_KvpostRefIdeal Cert.KvpostIdeal.Gen.facts Cert.KvpostRefIdeal.Gen.facts := by
  intro m ρ m' ρ' _ hin
  refine ⟨fun c => Cert.KvpostRefIdeal.Read.val_main_v18 (F := Ideal) (m ((c : Thread nD τ).loc main_arg0)) (m ((c : Thread nD τ).loc main_arg1)),
    fun c => Cert.KvpostRefIdeal.Read.val_main_v19 (F := Ideal) (m ((c : Thread nD τ).loc main_arg0)), ?_, ?_⟩
  · exact (θ_run Cert.KvpostIdeal.defs _ _).mono (fun r h c => ⟨(h c).1.trans (final3 m c), (h c).2.1.trans (final4 m c), (h c).2.2⟩) (run_blocks (F := Ideal) m ρ)
  · refine (θ_run Cert.KvpostRefIdeal.defs _ _).mono (fun r h c => ⟨(h c).1.trans ?_, (h c).2.1.trans ?_, (h c).2.2⟩) (Cert.KvpostRefIdeal.Value.run (F := Ideal) m' ρ')
    · rw [Cert.KvpostRefIdeal.Read.val_main_v18_eq, (hin c).1, (hin c).2]
    · rw [Cert.KvpostRefIdeal.Read.val_main_v19_eq, (hin c).1]

end Cert.Proof.Kvpost

end
-- ==== Proof.Pr.HeadNormGrad.lean ====
/- The gradient of a root-mean-square norm of each head's 128 columns, at an entry: the kernel's eight heads of a tile of
   rows, each laid among zero columns and added. -/
module

public import proofs.«01_k».proof.Proof.Gen.DqnormIdeal.Value
public import proofs.«01_k».proof.Proof.Gen.DqnormIdeal
public import proofs.«01_k».proof.Proof.Pr.HeadNorm
public import Idealize.ShloMosaic.Lib.Pipeline.ValueKit

@[expose] public section

noncomputable section

namespace Cert.Proof.HeadNormGrad

open Cert.DqnormIdeal Cert.DqnormIdeal.Gen Cert.DqnormIdeal.Value
open Idealize.ShloMosaic Idealize.ShloMosaic.TcCoe Idealize.ShloMosaic.ValueIdx
open Finset Pr HeadNorm

/-- The heads' width. -/
def w128 : EReal := Ideal.ofBits .f32 0x43000000#32

/-- A head's mean square with the small number added. -/
def hms (ξ : Fin 128 → EReal) : EReal := Ideal.div (∑ k, ξ k * ξ k) w128 + small

/-- Half of the mean square's share of the gradient, at row `p` and head `h`. -/
def hhalf {n w w' : ℕ} (X : (⟨2, ![n, w]⟩ : Shape).Idx → EReal) (Y : (⟨2, ![n, w']⟩ : Shape).Idx → EReal) (G : (⟨2, ![1, 128]⟩ : Shape).Idx → EReal) (p h : ℕ) : EReal :=
  Ideal.div ((∑ k : Fin 128, rd X p (128 * h + k.val) * (rd Y p (128 * h + k.val) * rd G 0 k.val)) * (mhalf * Ideal.div (hrs (hrow X p h)) (hms (hrow X p h)))) w128

/-- The gradient at row `p`, head `h` and column `q` of the head. -/
def hdx {n w w' : ℕ} (X : (⟨2, ![n, w]⟩ : Shape).Idx → EReal) (Y : (⟨2, ![n, w']⟩ : Shape).Idx → EReal) (G : (⟨2, ![1, 128]⟩ : Shape).Idx → EReal) (p h q : ℕ) : EReal :=
  rd Y p (128 * h + q) * rd G 0 q * hrs (hrow X p h) + rd X p (128 * h + q) * hhalf X Y G p h + hhalf X Y G p h * rd X p (128 * h + q)

/-- Row `p`'s and head `h`'s share of the gradient of the gain at column `q`. -/
def hdg {n w w' : ℕ} (X : (⟨2, ![n, w]⟩ : Shape).Idx → EReal) (Y : (⟨2, ![n, w']⟩ : Shape).Idx → EReal) (p h q : ℕ) : EReal :=
  rd X p (128 * h + q) * hrs (hrow X p h) * rd Y p (128 * h + q)

/-- The kernel's columns of a head, their mean square, the mean square's inverse root and what the mean square's share is multiplied with. -/
def xs (P : Vec Ideal S512x1024 .f32) (h : ℕ) (hs : Shape.Slices S512x1024 ![0, 128 * h] S512x128) : FVec Ideal S512x128 .f32 := extractStridedSlice S512x128 ![0, 128 * h] P hs
def msT (x : FVec Ideal S512x128 .f32) : FVec Ideal S512x1 .f32 :=
  addf (divf (shapeCast S512x1 (multiReduction .add [1] S512 (mulf x x) 0x00000000#32 reduces_S512x128_S512 (.inl rfl) rfl) shapeCasts_S512_S512x1)
    (broadcast S512x1 (Scalar.ofBits .f32 0x43000000#32))) (broadcast S512x1 (Scalar.ofBits .f32 0x358637BD#32))
def rsT (x : FVec Ideal S512x128 .f32) : FVec Ideal S512x1 .f32 := rsqrt (msT x)
def hfT (x : FVec Ideal S512x128 .f32) : FVec Ideal S512x1 .f32 := mulf (broadcast S512x1 (Scalar.ofBits .f32 0xBF000000#32)) (divf (rsT x) (msT x))
/-- The incoming gradient times the gain, and half of the mean square's share. -/
def dyT (g : Vec Ideal S1x128 .f32) (d : FVec Ideal S512x128 .f32) : FVec Ideal S512x128 .f32 := mulf d (broadcastTo S512x128 g broadcasts_S1x128_S512x128)
def tT (x : FVec Ideal S512x128 .f32) (g : Vec Ideal S1x128 .f32) (d : FVec Ideal S512x128 .f32) : FVec Ideal S512x128 .f32 :=
  broadcastTo S512x128 (shapeCast S512x1 (multiReduction .add [1] S512 (divf (mulf
    (shapeCast S512x1 (multiReduction .add [1] S512 (mulf x (dyT g d)) 0x00000000#32 reduces_S512x128_S512 (.inl rfl) rfl) shapeCasts_S512_S512x1)
    (hfT x)) (broadcast S512x1 (Scalar.ofBits .f32 0x43000000#32))) 0x00000000#32 reduces_S512x1_S512 (.inl rfl) rfl) shapeCasts_S512_S512x1) broadcasts_S512x1_S512x128
/-- A head's gradient, and its share of the gain's. -/
def dxT (x : FVec Ideal S512x128 .f32) (g : Vec Ideal S1x128 .f32) (d : FVec Ideal S512x128 .f32) : FVec Ideal S512x128 .f32 :=
  addf (addf (mulf (dyT g d) (broadcastTo S512x128 (rsT x) broadcasts_S512x1_S512x128)) (mulf x (tT x g d))) (mulf (tT x g d) x)
def dgT (x d : FVec Ideal S512x128 .f32) : FVec Ideal S1x128 .f32 :=
  shapeCast S1x128 (multiReduction .add [0] S128 (mulf (mulf x (broadcastTo S512x128 (rsT x) broadcasts_S512x1_S512x128)) d) 0x00000000#32
    reduces_S512x128_S128 (.inl rfl) rfl) shapeCasts_S128_S1x128

theorem xs_at (P : Vec Ideal S512x1024 .f32) (h : ℕ) (hs : Shape.Slices S512x1024 ![0, 128 * h] S512x128) (i : S512x128.Idx) :
    (xs P h hs i : EReal) = rd P (i 0).val (128 * h + (i 1).val) := by
  unfold xs
  simp only [pointwise]
  refine rd_of P _ _ _ ?_ ?_
  all_goals first | rfl | exact Nat.zero_add _

theorem msT_at (P : Vec Ideal S512x1024 .f32) (h : ℕ) (hs : Shape.Slices S512x1024 ![0, 128 * h] S512x128) (i : S512x1.Idx) :
    (msT (xs P h hs) i : EReal) = hms (hrow P (i 0).val h) := by
  unfold msT
  simp only [pointwise, zero_add]
  unfold hms
  exact congrArg (fun s => Ideal.div s w128 + small) (sum_congr rfl fun k _ => congrArg₂ (· * ·) (xs_at P h hs _) (xs_at P h hs _))

theorem rsT_at (P : Vec Ideal S512x1024 .f32) (h : ℕ) (hs : Shape.Slices S512x1024 ![0, 128 * h] S512x128) (i : S512x1.Idx) :
    (rsT (xs P h hs) i : EReal) = hrs (hrow P (i 0).val h) := by
  unfold rsT
  simp only [pointwise]
  exact congrArg Ideal.rsqrt (msT_at P h hs i)

theorem dyT_at (g : Vec Ideal S1x128 .f32) (D : Vec Ideal S512x1024 .f32) (h : ℕ) (hs : Shape.Slices S512x1024 ![0, 128 * h] S512x128) (i : S512x128.Idx) :
    (dyT g (xs D h hs) i : EReal) = rd D (i 0).val (128 * h + (i 1).val) * rd g 0 (i 1).val := by
  unfold dyT
  simp only [pointwise]
  exact congrArg₂ (· * ·) (xs_at D h hs i) (rd_of g _ 0 _ rfl rfl)

theorem tT_at (P D : Vec Ideal S512x1024 .f32) (g : Vec Ideal S1x128 .f32) (h : ℕ) (hs : Shape.Slices S512x1024 ![0, 128 * h] S512x128) (i : S512x128.Idx) :
    (tT (xs P h hs) g (xs D h hs) i : EReal) = hhalf P D g (i 0).val h := by
  unfold tT hfT
  simp only [pointwise, zero_add, Fin.sum_univ_one]
  unfold hhalf
  refine congrArg₂ (fun s z => Ideal.div (s * (mhalf * z)) w128) (sum_congr rfl fun k _ => congrArg₂ (· * ·) (xs_at P h hs _) (dyT_at g D h hs _))
    (congrArg₂ Ideal.div (rsT_at P h hs _) (msT_at P h hs _))

theorem dxT_at (P D : Vec Ideal S512x1024 .f32) (g : Vec Ideal S1x128 .f32) (h : ℕ) (hs : Shape.Slices S512x1024 ![0, 128 * h] S512x128) (i : S512x128.Idx) :
    (dxT (xs P h hs) g (xs D h hs) i : EReal) = hdx P D g (i 0).val h (i 1).val := by
  unfold dxT
  simp only [pointwise]
  unfold hdx
  exact congrArg₂ (· + ·) (congrArg₂ (· + ·) (congrArg₂ (· * ·) (dyT_at g D h hs i) (rsT_at P h hs _)) (congrArg₂ (· * ·) (xs_at P h hs i) (tT_at P D g h hs i)))
    (congrArg₂ (· * ·) (tT_at P D g h hs i) (xs_at P h hs i))

theorem dgT_at (P D : Vec Ideal S512x1024 .f32) (h : ℕ) (hs : Shape.Slices S512x1024 ![0, 128 * h] S512x128) (i : S1x128.Idx) :
    (dgT (xs P h hs) (xs D h hs) i : EReal) = ∑ k : Fin 512, hdg P D k.val h (i 1).val := by
  unfold dgT
  simp only [pointwise, zero_add]
  refine sum_congr rfl fun k _ => ?_
  unfold hdg
  exact congrArg₂ (· * ·) (congrArg₂ (· * ·) (xs_at P h hs _) (rsT_at P h hs _)) (xs_at D h hs _)

/-- Two pieces side by side, at an entry of the left one and of the right one. -/
theorem cat_left {a b n : ℕ} (x : (⟨2, ![512, a]⟩ : Shape).Idx → EReal) (y : (⟨2, ![512, b]⟩ : Shape).Idx → EReal)
    (hc : Shape.Concatenates [⟨2, ![512, a]⟩, ⟨2, ![512, b]⟩] ⟨2, ![512, n]⟩ 1) (j : (⟨2, ![512, n]⟩ : Shape).Idx) (h : (j 1).val < a) :
    concatenate (⟨2, ![512, n]⟩ : Shape) 1 [⟨_, x⟩, ⟨_, y⟩] hc j = x (Idealize.ShloMosaic.ix2 (j 0) ⟨(j 1).val, h⟩) :=
  concatenate_pair_apply_left 1 x y hc j rfl _ fun a => match a with
    | ⟨0, _⟩ => rfl
    | ⟨1, _⟩ => rfl
theorem cat_right {a b n : ℕ} (x : (⟨2, ![512, a]⟩ : Shape).Idx → EReal) (y : (⟨2, ![512, b]⟩ : Shape).Idx → EReal)
    (hc : Shape.Concatenates [⟨2, ![512, a]⟩, ⟨2, ![512, b]⟩] ⟨2, ![512, n]⟩ 1) (j : (⟨2, ![512, n]⟩ : Shape).Idx) (h : a ≤ (j 1).val) (h' : (j 1).val - a < b) :
    concatenate (⟨2, ![512, n]⟩ : Shape) 1 [⟨_, x⟩, ⟨_, y⟩] hc j = y (Idealize.ShloMosaic.ix2 (j 0) ⟨(j 1).val - a, h'⟩) :=
  concatenate_pair_apply_right 1 x y hc j rfl rfl _ (fun a ha => match a, ha with
    | ⟨0, _⟩, _ => rfl
    | ⟨1, _⟩, ha => absurd rfl ha) (Nat.sub_add_cancel h)

/-- A head's columns among zero columns: the last head, one between, the first. -/
theorem pad_last (x : (⟨2, ![512, 128]⟩ : Shape).Idx → EReal) (f : ℕ → ℕ → EReal) (hf : ∀ i, x i = f (i 0).val (i 1).val) (z : EReal) (hz : z = 0)
    (hc : Shape.Concatenates [⟨2, ![512, 896]⟩, ⟨2, ![512, 128]⟩] ⟨2, ![512, 1024]⟩ 1) (j : (⟨2, ![512, 1024]⟩ : Shape).Idx) :
    concatenate (⟨2, ![512, 1024]⟩ : Shape) 1 [⟨(⟨2, ![512, 896]⟩ : Shape), fun _ => z⟩, ⟨_, x⟩] hc j = if 7 = (j 1).val / 128 then f (j 0).val ((j 1).val % 128) else 0 := by
  have h1 : (j 1).val < 1024 := (j 1).isLt
  by_cases h : (j 1).val < 896
  · rw [cat_left _ _ _ _ h, if_neg (by omega), hz]
  · rw [cat_right _ _ _ _ (by omega) (by omega), if_pos (by omega), hf]
    exact congrArg (f (j 0).val) (by show (j 1).val - 896 = _; omega)
theorem pad_first (x : (⟨2, ![512, 128]⟩ : Shape).Idx → EReal) (f : ℕ → ℕ → EReal) (hf : ∀ i, x i = f (i 0).val (i 1).val) (z : EReal) (hz : z = 0)
    (hc : Shape.Concatenates [⟨2, ![512, 128]⟩, ⟨2, ![512, 896]⟩] ⟨2, ![512, 1024]⟩ 1) (j : (⟨2, ![512, 1024]⟩ : Shape).Idx) :
    concatenate (⟨2, ![512, 1024]⟩ : Shape) 1 [⟨_, x⟩, ⟨(⟨2, ![512, 896]⟩ : Shape), fun _ => z⟩] hc j = if 0 = (j 1).val / 128 then f (j 0).val ((j 1).val % 128) else 0 := by
  have h1 : (j 1).val < 1024 := (j 1).isLt
  by_cases h : (j 1).val < 128
  · rw [cat_left _ _ _ _ h, if_pos (by omega), hf]
    exact congrArg (f (j 0).val) (by show (j 1).val = _; omega)
  · rw [cat_right _ _ _ _ (by omega) (by omega), if_neg (by omega), hz]
theorem pad_mid (h : ℕ) {a b c : ℕ} (ha : a = 128 * h) (hb : b = 128 * h + 128) (he : b + c = 1024) (x : (⟨2, ![512, 128]⟩ : Shape).Idx → EReal) (f : ℕ → ℕ → EReal)
    (hf : ∀ i, x i = f (i 0).val (i 1).val) (z : EReal) (hz : z = 0)
    (hc : Shape.Concatenates [⟨2, ![512, a]⟩, ⟨2, ![512, 128]⟩] ⟨2, ![512, b]⟩ 1) (hd : Shape.Concatenates [⟨2, ![512, b]⟩, ⟨2, ![512, c]⟩] ⟨2, ![512, 1024]⟩ 1)
    (j : (⟨2, ![512, 1024]⟩ : Shape).Idx) :
    concatenate (⟨2, ![512, 1024]⟩ : Shape) 1 [⟨(⟨2, ![512, b]⟩ : Shape), concatenate (⟨2, ![512, b]⟩ : Shape) 1 [⟨(⟨2, ![512, a]⟩ : Shape), fun _ => z⟩, ⟨_, x⟩] hc⟩,
      ⟨(⟨2, ![512, c]⟩ : Shape), fun _ => z⟩] hd j = if h = (j 1).val / 128 then f (j 0).val ((j 1).val % 128) else 0 := by
  have h1 : (j 1).val < 1024 := (j 1).isLt
  by_cases hl : (j 1).val < b
  · rw [cat_left _ _ _ _ hl]
    by_cases hl' : (j 1).val < a
    · refine (cat_left _ _ hc (Idealize.ShloMosaic.ix2 (j 0) ⟨(j 1).val, hl⟩ : (⟨2, ![512, b]⟩ : Shape).Idx) hl').trans ?_
      rw [if_neg (by omega), hz]
    · refine (cat_right _ _ hc (Idealize.ShloMosaic.ix2 (j 0) ⟨(j 1).val, hl⟩ : (⟨2, ![512, b]⟩ : Shape).Idx) (by show a ≤ (j 1).val; omega) (by show (j 1).val - a < 128; omega)).trans ?_
      rw [if_pos (by omega), hf]
      exact congrArg (f (j 0).val) (by show (j 1).val - a = _; omega)
  · rw [cat_right _ _ _ _ (by omega) (by omega), if_neg (by omega), hz]

theorem slc (h : ℕ) (hh : h < 8) : Shape.Slices S512x1024 ![0, 128 * h] S512x128 := by
  interval_cases h
  all_goals decide

/-- A head's gradient by its number. -/
def hd (P0 : Vec Ideal S512x1024 .f32) (P1 : Vec Ideal S1x128 .f32) (P2 : Vec Ideal S512x1024 .f32) (h : ℕ) (hh : h < 8) : FVec Ideal S512x128 .f32 := dxT (xs P0 h (slc h hh)) P1 (xs P2 h (slc h hh))
/-- Zero columns. -/
def zs (s : Shape) : FVec Ideal s .f32 := broadcast s (Scalar.ofBits .f32 0x00000000#32)

/-- The eight heads' gradients laid among zero columns and added. -/
def dxTile (P0 : Vec Ideal S512x1024 .f32) (P1 : Vec Ideal S1x128 .f32) (P2 : Vec Ideal S512x1024 .f32) : FVec Ideal S512x1024 .f32 :=
  addf (addf (addf (addf (addf (addf (addf
    (concatenate S512x1024 1 [⟨S512x896, zs _⟩, ⟨S512x128, hd P0 P1 P2 7 (by decide)⟩] concatenates_S512x896_S512x128_S512x1024_d1)
    (concatenate S512x1024 1 [⟨S512x896, concatenate S512x896 1 [⟨S512x768, zs _⟩, ⟨S512x128, hd P0 P1 P2 6 (by decide)⟩] concatenates_S512x768_S512x128_S512x896_d1⟩, ⟨S512x128, zs _⟩] concatenates_S512x896_S512x128_S512x1024_d1))
    (concatenate S512x1024 1 [⟨S512x768, concatenate S512x768 1 [⟨S512x640, zs _⟩, ⟨S512x128, hd P0 P1 P2 5 (by decide)⟩] concatenates_S512x640_S512x128_S512x768_d1⟩, ⟨S512x256, zs _⟩] concatenates_S512x768_S512x256_S512x1024_d1))
    (concatenate S512x1024 1 [⟨S512x640, concatenate S512x640 1 [⟨S512x512, zs _⟩, ⟨S512x128, hd P0 P1 P2 4 (by decide)⟩] concatenates_S512x512_S512x128_S512x640_d1⟩, ⟨S512x384, zs _⟩] concatenates_S512x640_S512x384_S512x1024_d1))
    (concatenate S512x1024 1 [⟨S512x512, concatenate S512x512 1 [⟨S512x384, zs _⟩, ⟨S512x128, hd P0 P1 P2 3 (by decide)⟩] concatenates_S512x384_S512x128_S512x512_d1⟩, ⟨S512x512, zs _⟩] concatenates_S512x512_S512x512_S512x1024_d1))
    (concatenate S512x1024 1 [⟨S512x384, concatenate S512x384 1 [⟨S512x256, zs _⟩, ⟨S512x128, hd P0 P1 P2 2 (by decide)⟩] concatenates_S512x256_S512x128_S512x384_d1⟩, ⟨S512x640, zs _⟩] concatenates_S512x384_S512x640_S512x1024_d1))
    (concatenate S512x1024 1 [⟨S512x256, concatenate S512x256 1 [⟨S512x128, zs _⟩, ⟨S512x128, hd P0 P1 P2 1 (by decide)⟩] concatenates_S512x128_S512x128_S512x256_d1⟩, ⟨S512x768, zs _⟩] concatenates_S512x256_S512x768_S512x1024_d1))
    (concatenate S512x1024 1 [⟨S512x128, hd P0 P1 P2 0 (by decide)⟩, ⟨S512x896, zs _⟩] concatenates_S512x128_S512x896_S512x1024_d1)

theorem hd_at (P0 : Vec Ideal S512x1024 .f32) (P1 : Vec Ideal S1x128 .f32) (P2 : Vec Ideal S512x1024 .f32) (h : ℕ) (hh : h < 8) (i : S512x128.Idx) :
    (hd P0 P1 P2 h hh i : EReal) = (fun p q => hdx P0 P2 P1 p h q) (i 0).val (i 1).val := dxT_at P0 P2 P1 h (slc h hh) i

/-- The tile of eight heads at an entry. -/
theorem dxTile_at (P0 : Vec Ideal S512x1024 .f32) (P1 : Vec Ideal S1x128 .f32) (P2 : Vec Ideal S512x1024 .f32) (y : S512x1024.Idx) :
    (dxTile P0 P1 P2 y : EReal) = hdx P0 P2 P1 (y 0).val ((y 1).val / 128) ((y 1).val % 128) := by
  have h1 : (y 1).val < 1024 := (y 1).isLt
  have z0 : (Ideal.ofBits .f32 0x00000000#32) = 0 := Ideal.ofBits_zero_f32
  have e7 := pad_last (hd P0 P1 P2 7 (by decide)) (fun p q => hdx P0 P2 P1 p 7 q) (hd_at P0 P1 P2 7 (by decide)) _ z0 concatenates_S512x896_S512x128_S512x1024_d1 y
  have e6 := pad_mid 6 rfl rfl rfl (hd P0 P1 P2 6 (by decide)) (fun p q => hdx P0 P2 P1 p 6 q) (hd_at P0 P1 P2 6 (by decide)) _ z0 concatenates_S512x768_S512x128_S512x896_d1 concatenates_S512x896_S512x128_S512x1024_d1 y
  have e5 := pad_mid 5 rfl rfl rfl (hd P0 P1 P2 5 (by decide)) (fun p q => hdx P0 P2 P1 p 5 q) (hd_at P0 P1 P2 5 (by decide)) _ z0 concatenates_S512x640_S512x128_S512x768_d1 concatenates_S512x768_S512x256_S512x1024_d1 y
  have e4 := pad_mid 4 rfl rfl rfl (hd P0 P1 P2 4 (by decide)) (fun p q => hdx P0 P2 P1 p 4 q) (hd_at P0 P1 P2 4 (by decide)) _ z0 concatenates_S512x512_S512x128_S512x640_d1 concatenates_S512x640_S512x384_S512x1024_d1 y
  have e3 := pad_mid 3 rfl rfl rfl (hd P0 P1 P2 3 (by decide)) (fun p q => hdx P0 P2 P1 p 3 q) (hd_at P0 P1 P2 3 (by decide)) _ z0 concatenates_S512x384_S512x128_S512x512_d1 concatenates_S512x512_S512x512_S512x1024_d1 y
  have e2 := pad_mid 2 rfl rfl rfl (hd P0 P1 P2 2 (by decide)) (fun p q => hdx P0 P2 P1 p 2 q) (hd_at P0 P1 P2 2 (by decide)) _ z0 concatenates_S512x256_S512x128_S512x384_d1 concatenates_S512x384_S512x640_S512x1024_d1 y
  have e1 := pad_mid 1 rfl rfl rfl (hd P0 P1 P2 1 (by decide)) (fun p q => hdx P0 P2 P1 p 1 q) (hd_at P0 P1 P2 1 (by decide)) _ z0 concatenates_S512x128_S512x128_S512x256_d1 concatenates_S512x256_S512x768_S512x1024_d1 y
  have e0 := pad_first (hd P0 P1 P2 0 (by decide)) (fun p q => hdx P0 P2 P1 p 0 q) (hd_at P0 P1 P2 0 (by decide)) _ z0 concatenates_S512x128_S512x896_S512x1024_d1 y
  refine (congrArg₂ (· + ·) (congrArg₂ (· + ·) (congrArg₂ (· + ·) (congrArg₂ (· + ·) (congrArg₂ (· + ·) (congrArg₂ (· + ·) (congrArg₂ (· + ·) e7 e6) e5) e4) e3) e2) e1) e0 :
    (dxTile P0 P1 P2 y : EReal) = _).trans ?_
  have hn : (y 1).val / 128 < 8 := by omega
  generalize (y 1).val / 128 = n at hn ⊢
  interval_cases n
  all_goals simp

/-- The eight heads' shares of the gain's gradient, added. -/
def dgTile (P0 P2 : Vec Ideal S512x1024 .f32) : FVec Ideal S1x128 .f32 :=
  addf (addf (addf (addf (addf (addf (addf
    (dgT (xs P0 7 (slc 7 (by decide))) (xs P2 7 (slc 7 (by decide))))
    (dgT (xs P0 6 (slc 6 (by decide))) (xs P2 6 (slc 6 (by decide)))))
    (dgT (xs P0 5 (slc 5 (by decide))) (xs P2 5 (slc 5 (by decide)))))
    (dgT (xs P0 4 (slc 4 (by decide))) (xs P2 4 (slc 4 (by decide)))))
    (dgT (xs P0 3 (slc 3 (by decide))) (xs P2 3 (slc 3 (by decide)))))
    (dgT (xs P0 2 (slc 2 (by decide))) (xs P2 2 (slc 2 (by decide)))))
    (dgT (xs P0 1 (slc 1 (by decide))) (xs P2 1 (slc 1 (by decide)))))
    (dgT (xs P0 0 (slc 0 (by decide))) (xs P2 0 (slc 0 (by decide))))

theorem dgTile_at (P0 P2 : Vec Ideal S512x1024 .f32) (i : S1x128.Idx) :
    (dgTile P0 P2 i : EReal) = ∑ h : Fin 8, ∑ k : Fin 512, hdg P0 P2 k.val h.val (i 1).val := by
  have e (h : ℕ) (hh : h < 8) := dgT_at P0 P2 h (slc h hh) i
  refine (congrArg₂ (· + ·) (congrArg₂ (· + ·) (congrArg₂ (· + ·) (congrArg₂ (· + ·) (congrArg₂ (· + ·) (congrArg₂ (· + ·) (congrArg₂ (· + ·)
    (e 7 (by decide)) (e 6 (by decide))) (e 5 (by decide))) (e 4 (by decide))) (e 3 (by decide))) (e 2 (by decide))) (e 1 (by decide))) (e 0 (by decide)) :
    (dgTile P0 P2 i : EReal) = _).trans ?_
  rw [Fin.sum_univ_eight]
  show _ = (∑ k : Fin 512, hdg P0 P2 k.val 0 (i 1).val) + (∑ k : Fin 512, hdg P0 P2 k.val 1 (i 1).val) + (∑ k : Fin 512, hdg P0 P2 k.val 2 (i 1).val) + (∑ k : Fin 512, hdg P0 P2 k.val 3 (i 1).val)
    + (∑ k : Fin 512, hdg P0 P2 k.val 4 (i 1).val) + (∑ k : Fin 512, hdg P0 P2 k.val 5 (i 1).val) + (∑ k : Fin 512, hdg P0 P2 k.val 6 (i 1).val) + (∑ k : Fin 512, hdg P0 P2 k.val 7 (i 1).val)
  generalize (∑ k : Fin 512, hdg P0 P2 k.val 0 (i 1).val) = a0, (∑ k : Fin 512, hdg P0 P2 k.val 1 (i 1).val) = a1, (∑ k : Fin 512, hdg P0 P2 k.val 2 (i 1).val) = a2, (∑ k : Fin 512, hdg P0 P2 k.val 3 (i 1).val) = a3,
    (∑ k : Fin 512, hdg P0 P2 k.val 4 (i 1).val) = a4, (∑ k : Fin 512, hdg P0 P2 k.val 5 (i 1).val) = a5, (∑ k : Fin 512, hdg P0 P2 k.val 6 (i 1).val) = a6, (∑ k : Fin 512, hdg P0 P2 k.val 7 (i 1).val) = a7
  simp only [add_comm, add_left_comm, add_assoc]

end Cert.Proof.HeadNormGrad

end
-- ==== Proof.Pr.Dqnorm.lean ====
/- The gradient of the queries' head norm and of its gain: the kernel works tiles of rows, a head at a time, and adds the
   gain's gradient up over the tiles, the reference works the whole array by heads. -/
module

public import proofs.«01_k».proof.Proof.Gen.DqnormIdeal.Value
public import proofs.«01_k».proof.Proof.Gen.DqnormRefIdeal.Read
public import proofs.«01_k».proof.Proof.Gen.DqnormRefIdeal.Run
public import proofs.«01_k».proof.Defs
public import proofs.«01_k».proof.Proof.Gen.DqnormIdeal
public import proofs.«01_k».proof.Proof.Gen.DqnormRefIdeal
public import proofs.«01_k».proof.Proof.Pr.HeadNormGrad

@[expose] public section

noncomputable section

namespace Cert.Proof.Dqnorm

open Cert.DqnormIdeal Cert.DqnormIdeal.Gen Cert.DqnormIdeal.Value
open Idealize.ShloMosaic Idealize.ShloMosaic.TcCoe Idealize.ShloMosaic.ValueIdx Idealize.SL.Sem
open Finset Pr HeadNorm HeadNormGrad

variable (m : (ℓ : Loc nD τ sig) → Buf (Elt Ideal) ℓ)

/-- Where the tiles lie. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)

/-- The arguments, and their tiles. -/
def X (c : Dev nD) : S8192x1024.Idx → EReal := m ((c : Thread nD τ).loc main_arg0)
def G (c : Dev nD) : S1x128.Idx → EReal := m ((c : Thread nD τ).loc main_arg1)
def Y (c : Dev nD) : S8192x1024.Idx → EReal := m ((c : Thread nD τ).loc main_arg2)
def tileX (c : Dev nD) (t : Fin cfg0.N) : S512x1024.Idx → EReal := iblk m c 0 t
def tileG (c : Dev nD) (t : Fin cfg0.N) : S1x128.Idx → EReal := iblk m c 1 t
def tileY (c : Dev nD) (t : Fin cfg0.N) : S512x1024.Idx → EReal := iblk m c 2 t

/-- A tile's row is the array's row. -/
theorem rdX (c : Dev nD) (t : Fin cfg0.N) (p q : ℕ) (hp : p < 512) (hq : q < 1024) : rd (tileX m c t) p q = rd (X m c) (t.val * 512 + p) q := by
  have ht : t.val < 16 := t.isLt
  rw [at_rd (tileX m c t) p q hp hq, at_rd (X m c) (t.val * 512 + p) q (by omega) hq]
  unfold tileX X
  blk_point [iblk, V, idx0 t]
theorem rdY (c : Dev nD) (t : Fin cfg0.N) (p q : ℕ) (hp : p < 512) (hq : q < 1024) : rd (tileY m c t) p q = rd (Y m c) (t.val * 512 + p) q := by
  have ht : t.val < 16 := t.isLt
  rw [at_rd (tileY m c t) p q hp hq, at_rd (Y m c) (t.val * 512 + p) q (by omega) hq]
  unfold tileY Y
  blk_point [iblk, V, idx2 t]
theorem rdG (c : Dev nD) (t : Fin cfg0.N) (q : ℕ) (hq : q < 128) : rd (tileG m c t) 0 q = rd (G m c) 0 q := by
  rw [at_rd (tileG m c t) 0 q (by omega) hq, at_rd (G m c) 0 q (by omega) hq]
  unfold tileG G
  blk_point [iblk, V, idx1 t]
theorem hrowX (c : Dev nD) (t : Fin cfg0.N) (p h : ℕ) (hp : p < 512) (hh : h < 8) : hrow (tileX m c t) p h = hrow (X m c) (t.val * 512 + p) h :=
  funext fun k => rdX m c t p _ hp (by have := k.isLt; omega)

/-- The gradient and a row's share of the gain's at an entry of a tile, from the whole arrays. -/
theorem hdx_tile (c : Dev nD) (t : Fin cfg0.N) (p h q : ℕ) (hp : p < 512) (hh : h < 8) (hq : q < 128) :
    hdx (tileX m c t) (tileY m c t) (tileG m c t) p h q = hdx (X m c) (Y m c) (G m c) (t.val * 512 + p) h q := by
  have e : hhalf (tileX m c t) (tileY m c t) (tileG m c t) p h = hhalf (X m c) (Y m c) (G m c) (t.val * 512 + p) h := by
    unfold hhalf
    rw [hrowX m c t p h hp hh]
    refine congrArg (fun s => Ideal.div (s * (mhalf * Ideal.div (hrs (hrow (X m c) (t.val * 512 + p) h)) (hms (hrow (X m c) (t.val * 512 + p) h)))) w128) (sum_congr rfl fun k _ => ?_)
    have hk := k.isLt
    rw [rdX m c t p _ hp (by omega), rdY m c t p _ hp (by omega), rdG m c t _ hk]
  unfold hdx
  rw [e, hrowX m c t p h hp hh, rdX m c t p _ hp (by omega), rdY m c t p _ hp (by omega), rdG m c t _ hq]
theorem hdg_tile (c : Dev nD) (t : Fin cfg0.N) (p h q : ℕ) (hp : p < 512) (hh : h < 8) (hq : q < 128) :
    hdg (tileX m c t) (tileY m c t) p h q = hdg (X m c) (Y m c) (t.val * 512 + p) h q := by
  unfold hdg
  rw [hrowX m c t p h hp hh, rdX m c t p _ hp (by omega), rdY m c t p _ hp (by omega)]

/-- The two outputs after a point. -/
theorem out3 (c : Dev nD) (t : Fin cfg0.N) :
    (outsAt0 m c t.val t.isLt).1 = truncf .bf16 (dxTile (iblk m c 0 t) (iblk m c 1 t) (iblk m c 2 t)) bitsLt_bf16_f32 := by
  by_cases h : t.val % 16 = 0
  · rw [outsAt0_A m c t h]
    frame_out
    rfl
  · rw [outsAt0_B m c t h]
    frame_out
    rfl

theorem zero_at (y : S1x128.Idx) : k0_pay70 (F := Ideal) y = 0 := Ideal.ofBits_zero_f32

/-- One tile's share of the gain's gradient added. -/
theorem dg_at (P0 P2 : Vec Ideal S512x1024 .f32) (v : Vec Ideal S1x128 .f32) (y : S1x128.Idx) :
    (addf (F := Ideal) (φ := .f32) (shapeCast S1x128 v shapeCasts_S1x128_S1x128) (dgTile P0 P2) y : EReal) = v y + ∑ h : Fin 8, ∑ k : Fin 512, hdg P0 P2 k.val h.val (y 1).val := by
  have e : (shapeCast S1x128 v shapeCasts_S1x128_S1x128 y : EReal) = v y := by simp only [pointwise]
  exact congrArg₂ (· + ·) e (dgTile_at P0 P2 y)

/-- The gain's gradient after the last point. -/
theorem dg_last (c : Dev nD) (t : Fin cfg0.N) (h : t.val + 1 = 16) (y : S1x128.Idx) :
    (outsAt0 m c t.val t.isLt).2 y = 0 + ∑ s : Fin 16, ∑ h : Fin 8, ∑ k : Fin 512, hdg (X m c) (Y m c) (s.val * 512 + k.val) h.val (y 1).val := by
  have y1 := idx2_lt1 y
  rw [Pipeline.eq_sum_fin_of_reset_step_apply_last (fun n h => (outsAt0 m c n h).2) 16 (fun _ => (0 : EReal))
    (fun t y => ∑ h : Fin 8, ∑ k : Fin 512, hdg (tileX m c t) (tileY m c t) k.val h.val (y 1).val)
    (fun t h y => by rw [outsAt0_A m c t h]; frame_out; exact (dg_at (iblk m c 0 t) (iblk m c 2 t) _ y).trans (congrArg (· + _) (zero_at y)))
    (fun t h y => by rw [outsAt0_B m c t h]; frame_out; exact dg_at (iblk m c 0 t) (iblk m c 2 t) _ y) (le_of_eq N_0) t (h.trans N_0.symm) y]
  exact congrArg (0 + ·) (sum_congr rfl fun t _ => sum_congr rfl fun h _ => sum_congr rfl fun k _ => hdg_tile m c t _ _ _ k.isLt h.isLt y1)

section Ref
open Cert.DqnormRefIdeal.Read

theorem ref_x (A : S8192x1024.Idx → EReal) (i : Cert.DqnormRefIdeal.S8192x8x128.Idx) (p h q : ℕ) (hp : (i 0).val = p) (hh : (i 1).val = h) (hq : (i 2).val = q) :
    val_main_v0 (F := Ideal) A i = rd A p (128 * h + q) := by
  have h1 : (i 1).val < 8 := (i 1).isLt
  have h2 : (i 2).val < 128 := (i 2).isLt
  rw [val_main_v0_apply]
  refine rd_of A _ _ _ ?_ ?_
  · show (((i 0).val * 8 + (i 1).val) * 128 + (i 2).val) / 1024 = _
    omega
  · show (((i 0).val * 8 + (i 1).val) * 128 + (i 2).val) % 1024 = _
    omega
theorem ref_y (A : S8192x1024.Idx → EReal) (i : Cert.DqnormRefIdeal.S8192x8x128.Idx) (p h q : ℕ) (hp : (i 0).val = p) (hh : (i 1).val = h) (hq : (i 2).val = q) :
    val_main_v19 (F := Ideal) A i = rd A p (128 * h + q) := ref_x A i p h q hp hh hq

/-- The reference's mean square of a head, and its inverse root. -/
theorem ref_ms (A : S8192x1024.Idx → EReal) (j : Cert.DqnormRefIdeal.S8192x8x1.Idx) (p h : ℕ) (hp : (j 0).val = p) (hh : (j 1).val = h) :
    val_main_v8 (F := Ideal) A j = hms (hrow A p h) := by
  rw [val_main_v8_apply, val_main_v6_apply, val_main_v4_apply, val_main_v3_apply, val_main_v5_apply, val_main_v7_apply]
  show Ideal.div (Ideal.ofBits .f32 0x00000000#32 + ∑ k : Fin 128, _) w128 + small = _
  rw [Ideal.ofBits_zero_f32, zero_add]
  unfold hms
  refine congrArg (fun z => Ideal.div z w128 + small) (sum_congr rfl fun k _ => ?_)
  rw [val_main_v2_apply, ref_x A _ p h k.val hp hh rfl]
  rfl
theorem ref_rs (A : S8192x1024.Idx → EReal) (j : Cert.DqnormRefIdeal.S8192x8x1.Idx) (p h : ℕ) (hp : (j 0).val = p) (hh : (j 1).val = h) :
    val_main_v9 (F := Ideal) A j = hrs (hrow A p h) := by
  rw [val_main_v9_apply, ref_ms A j p h hp hh]
  rfl

/-- The reference's product of the incoming gradient and the gain. -/
theorem ref_dy (B : S1x128.Idx → EReal) (C : S8192x1024.Idx → EReal) (i : Cert.DqnormRefIdeal.S8192x8x128.Idx) (p h q : ℕ) (hp : (i 0).val = p) (hh : (i 1).val = h) (hq : (i 2).val = q) :
    val_main_v24 (F := Ideal) B C i = rd C p (128 * h + q) * rd B 0 q := by
  have h2 : (i 2).val < 128 := (i 2).isLt
  rw [val_main_v24_apply, ref_y C i p h q hp hh hq, val_main_v23_apply, val_main_v15_apply, val_main_v1_apply, rd_of B _ 0 q rfl (by show (i 2).val % 128 = q; omega)]
  rfl

/-- The reference's half of the mean square's share. -/
theorem ref_half (A : S8192x1024.Idx → EReal) (B : S1x128.Idx → EReal) (C : S8192x1024.Idx → EReal) (i : Cert.DqnormRefIdeal.S8192x8x128.Idx) (p h : ℕ) (hp : (i 0).val = p) (hh : (i 1).val = h) :
    val_main_v35 (F := Ideal) A B C i = hhalf A C B p h := by
  have h1 : (i 1).val < 8 := (i 1).isLt
  rw [val_main_v35_apply, val_main_v34_apply, Fin.sum_univ_one, val_main_v33_apply, val_main_v31_apply, val_main_v28_apply, val_main_v27_apply,
    val_main_v12_apply, val_main_v11_apply, val_main_v10_apply, ref_rs A _ p h hp hh, ref_ms A _ p h hp hh, val_main_v32_apply]
  show Ideal.ofBits .f32 0x00000000#32 + Ideal.div ((Ideal.ofBits .f32 0x00000000#32 + ∑ k : Fin 128, _) * (mhalf * Ideal.div (hrs (hrow A p h)) (hms (hrow A p h)))) w128 = _
  rw [Ideal.ofBits_zero_f32, zero_add, zero_add]
  unfold hhalf
  refine congrArg (fun z => Ideal.div (z * (mhalf * Ideal.div (hrs (hrow A p h)) (hms (hrow A p h)))) w128) (sum_congr rfl fun k _ => ?_)
  have e0 : (((i 0).val * 8 + (i 1).val) * 1 + 0) / 8 = p := by omega
  have e1 : (((i 0).val * 8 + (i 1).val) * 1 + 0) % 8 = h := by omega
  rw [val_main_v26_apply, ref_x A _ p h k.val e0 e1 rfl, ref_dy B C _ p h k.val e0 e1 rfl]
  rfl

/-- The reference's gradient at an entry. -/
theorem ref_dx (A : S8192x1024.Idx → EReal) (B : S1x128.Idx → EReal) (C : S8192x1024.Idx → EReal) (i : S8192x1024.Idx) :
    val_main_v42 (F := Ideal) A B C i = hdx A C B (i 0).val ((i 1).val / 128) ((i 1).val % 128) := by
  have h0 : (i 0).val < 8192 := (i 0).isLt
  have h1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  rw [val_main_v42_apply]
  show val_main_v41 (F := Ideal) A B C i = _
  rw [val_main_v41_apply, val_main_v39_apply, val_main_v37_apply, val_main_v38_apply, val_main_v36_apply, val_main_v30_apply, val_main_v29_apply,
    ref_half A B C _ _ _ e0 e1, ref_x A _ _ _ _ e0 e1 e2, ref_dy B C _ _ _ _ e0 e1 e2, ref_rs A _ _ _ e0 e1]
  rfl

/-- A sum over the entries with the last coordinate given, as a sum over the first two. -/
theorem sum_two {n0 n1 n2 : ℕ} (h : (⟨3, ![n0, n1, n2]⟩ : Shape).ReducesTo [0, 1] ⟨1, ![n2]⟩) (j : (⟨1, ![n2]⟩ : Shape).Idx) (v : (⟨3, ![n0, n1, n2]⟩ : Shape).Idx → EReal) :
    ∑ i ∈ univ.filter (fun i => h.drop i = j), v i = ∑ p : Fin n0, ∑ q : Fin n1, v (Idealize.ShloMosaic.ix3 p q (j 0)) := by
  rw [← Fintype.sum_prod_type' (fun p q => v (Idealize.ShloMosaic.ix3 p q (j 0)))]
  have hf : ∀ i, h.drop i = j ↔ ∃ k : Fin n0 × Fin n1, Idealize.ShloMosaic.ix3 k.1 k.2 (j 0) = i := by
    refine fun i => ⟨fun e => ⟨(i 0, i 1), ?_⟩, ?_⟩
    · funext a
      apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  classical
  convert Finset.sum_filter_eq_sum_of_fiber (fun i => h.drop i = j) (fun k : Fin n0 × Fin n1 => Idealize.ShloMosaic.ix3 k.1 k.2 (j 0)) (fun a b e => Prod.ext (congrFun e 0) (congrFun e 1)) hf v

/-- The reference's gradient of the gain. -/
theorem ref_dg (A C : S8192x1024.Idx → EReal) (i : S1x128.Idx) :
    val_main_v40 (F := Ideal) A C i = ∑ p : Fin 8192, ∑ h : Fin 8, hdg A C p.val h.val (i 1).val := by
  rw [val_main_v40_apply]
  unfold val_main_v25
  simp only [Host.reduceAdd, Ideal.hostReduceAdd_def]
  show Ideal.ofBits .f32 0x00000000#32 + _ = _
  rw [Ideal.ofBits_zero_f32, zero_add]
  refine (sum_two _ _ _).trans ?_
  rw [Fin.sum_univ_one, Fin.sum_univ_one, val_main_v22_apply]
  unfold val_main_v21
  simp only [Host.reduceAdd, Ideal.hostReduceAdd_def]
  show Ideal.ofBits .f32 0x00000000#32 + _ = _
  rw [Ideal.ofBits_zero_f32, zero_add]
  refine (sum_two _ _ _).trans (sum_congr rfl fun p _ => sum_congr rfl fun h _ => ?_)
  have e2 : (0 * 1 + 0) * 128 + (i 1).val = (i 1).val := by omega
  rw [val_main_v20_apply, val_main_v14_apply, val_main_v13_apply, ref_x A _ p.val h.val _ rfl rfl e2, ref_y C _ p.val h.val _ rfl rfl e2, ref_rs A _ p.val h.val rfl rfl]
  rfl

end Ref

/-- The last point. -/
def last : Fin cfg0.N := ⟨15, Nat.lt_of_lt_of_eq (by decide : 15 < 16) N_0.symm⟩

/-- The kernel's results are the reference's. -/
theorem final3 (c : Dev nD) : (dats m 0 c).arrAt 3 cfg0.N = Cert.DqnormRefIdeal.Read.val_main_v42 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out3]
  have y0 := idx2_lt0 y
  have y1 : (y 1).val < 1024 := (y 1).isLt
  refine ((dxTile_at _ _ _ y).trans ((hdx_tile m c t _ _ _ y0 (by omega) (by omega)).trans ?_)).trans (ref_dx _ _ _ _).symm
  refine congr (congrArg₂ (hdx (X m c) (Y m c) (G m c)) ?_ (congrArg (· / 128) ?_)) (congrArg (· % 128) ?_)
  all_goals blk_simp [idx3 t]

theorem final4 (c : Dev nD) : (dats m 0 c).arrAt 4 cfg0.N = Cert.DqnormRefIdeal.Read.val_main_v40 (F := Ideal) (m ((c : Thread nD τ).loc main_arg0)) (m ((c : Thread nD τ).loc main_arg2)) := by
  funext i
  refine ((dats m 0 c).arrAt_emb_eq_after_last 4 last (by decide +kernel) i).trans ?_
  refine (congrFun (after0_4 m c last) _).trans ?_
  rw [dg_last m c last rfl, zero_add, ref_dg]
  refine (sum_congr rfl fun s _ => sum_comm : (∑ s : Fin 16, ∑ h : Fin 8, ∑ k : Fin 512, hdg (X m c) (Y m c) (s.val * 512 + k.val) h.val (i 1).val)
    = ∑ s : Fin 16, ∑ k : Fin 512, ∑ h : Fin 8, hdg (X m c) (Y m c) (s.val * 512 + k.val) h.val (i 1).val).trans ?_
  exact Fin.sum_mul_add_congr fun s k hl => rfl

/-- The kernel and the reference agree. -/
theorem same : @Cert.algebraic_DqnormIdeal_DqnormRefIdeal Cert.DqnormIdeal.Gen.facts Cert.DqnormRefIdeal.Gen.facts := by
  intro m ρ m' ρ' _ hin
  refine ⟨fun c => Cert.DqnormRefIdeal.Read.val_main_v42 (F := Ideal) (m ((c : Thread nD τ).loc main_arg0)) (m ((c : Thread nD τ).loc main_arg1)) (m ((c : Thread nD τ).loc main_arg2)),
    fun c => Cert.DqnormRefIdeal.Read.val_main_v40 (F := Ideal) (m ((c : Thread nD τ).loc main_arg0)) (m ((c : Thread nD τ).loc main_arg2)), ?_, ?_⟩
  · exact (θ_run Cert.DqnormIdeal.defs _ _).mono (fun r h c => ⟨(h c).1.trans (final3 m c), (h c).2.1.trans (final4 m c), (h c).2.2⟩) (run_blocks (F := Ideal) m ρ)
  · refine (θ_run Cert.DqnormRefIdeal.defs _ _).mono (fun r h c => ⟨(h c).1.trans ?_, (h c).2.1.trans ?_, (h c).2.2⟩) (Cert.DqnormRefIdeal.Value.run (F := Ideal) m' ρ')
    · rw [Cert.DqnormRefIdeal.Read.val_main_v42_eq, (hin c).1, (hin c).2.1, (hin c).2.2]
    · rw [Cert.DqnormRefIdeal.Read.val_main_v40_eq, (hin c).1, (hin c).2.2]

end Cert.Proof.Dqnorm

end
-- ==== Proof.Pr.Dkvpost.lean ====
/- The gradient of the keys' head norm and of its gain, laid beside the gradient of the values: the kernel works tiles of
   rows, a head at a time, and adds the gain's gradient up over the tiles, the reference works the whole array by heads. -/
module

public import proofs.«01_k».proof.Proof.Gen.DkvpostIdeal.Value
public import proofs.«01_k».proof.Proof.Gen.DkvpostRefIdeal.Read
public import proofs.«01_k».proof.Proof.Gen.DkvpostRefIdeal.Run
public import proofs.«01_k».proof.Defs
public import proofs.«01_k».proof.Proof.Gen.DkvpostIdeal
public import proofs.«01_k».proof.Proof.Gen.DkvpostRefIdeal
public import proofs.«01_k».proof.Proof.Pr.Dqnorm

@[expose] public section

noncomputable section

namespace Cert.Proof.Dkvpost

open Cert.DkvpostIdeal Cert.DkvpostIdeal.Gen Cert.DkvpostIdeal.Value
open Idealize.ShloMosaic Idealize.ShloMosaic.TcCoe Idealize.ShloMosaic.ValueIdx Idealize.SL.Sem
open Finset Pr HeadNorm HeadNormGrad
open Cert.Proof.Dqnorm (sum_two)

variable (m : (ℓ : Loc nD τ sig) → Buf (Elt Ideal) ℓ)

/-- Two arrays added. -/
def sum2 {n w : ℕ} (C D : (⟨2, ![n, w]⟩ : Shape).Idx → EReal) (i : (⟨2, ![n, w]⟩ : Shape).Idx) : EReal := C i + D i

/-- The two gradients side by side, at row `p` and column `q`. -/
def dkv {n w : ℕ} (X : (⟨2, ![n, w]⟩ : Shape).Idx → EReal) (G : (⟨2, ![1, 128]⟩ : Shape).Idx → EReal) (Y V : (⟨2, ![n, 1024]⟩ : Shape).Idx → EReal) (p q : ℕ) : EReal :=
  if q < 1024 then hdx X Y G p (q / 128) (q % 128) else rd V p (q - 1024)

/-- Where the tiles lie. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)

/-- The arguments, the gradients added, and their tiles. -/
def X (c : Dev nD) : S8192x2048.Idx → EReal := m ((c : Thread nD τ).loc main_arg0)
def G (c : Dev nD) : S1x128.Idx → EReal := m ((c : Thread nD τ).loc main_arg1)
def YA (c : Dev nD) : S8192x1024.Idx → EReal := m ((c : Thread nD τ).loc main_arg2)
def YB (c : Dev nD) : S8192x1024.Idx → EReal := m ((c : Thread nD τ).loc main_arg3)
def YC (c : Dev nD) : S8192x1024.Idx → EReal := m ((c : Thread nD τ).loc main_arg4)
def YD (c : Dev nD) : S8192x1024.Idx → EReal := m ((c : Thread nD τ).loc main_arg5)
def Y (c : Dev nD) : S8192x1024.Idx → EReal := sum2 (YA m c) (YB m c)
def W (c : Dev nD) : S8192x1024.Idx → EReal := sum2 (YC m c) (YD m c)
def tileX (c : Dev nD) (t : Fin cfg0.N) : S512x1024.Idx → EReal := iblk m c 0 t
def tileG (c : Dev nD) (t : Fin cfg0.N) : S1x128.Idx → EReal := iblk m c 1 t
def tileA (c : Dev nD) (t : Fin cfg0.N) : S512x1024.Idx → EReal := iblk m c 2 t
def tileB (c : Dev nD) (t : Fin cfg0.N) : S512x1024.Idx → EReal := iblk m c 3 t
def tileC (c : Dev nD) (t : Fin cfg0.N) : S512x1024.Idx → EReal := iblk m c 4 t
def tileD (c : Dev nD) (t : Fin cfg0.N) : S512x1024.Idx → EReal := iblk m c 5 t
def tileY (c : Dev nD) (t : Fin cfg0.N) : S512x1024.Idx → EReal := sum2 (tileA m c t) (tileB m c t)
def tileW (c : Dev nD) (t : Fin cfg0.N) : S512x1024.Idx → EReal := sum2 (tileC m c t) (tileD m c t)

/-- A tile's row is the array's row. -/
theorem rdX (c : Dev nD) (t : Fin cfg0.N) (p q : ℕ) (hp : p < 512) (hq : q < 1024) : rd (tileX m c t) p q = rd (X m c) (t.val * 512 + p) q := by
  have ht : t.val < 16 := t.isLt
  rw [at_rd (tileX m c t) p q hp hq, at_rd (X m c) (t.val * 512 + p) q (by omega) (by omega)]
  unfold tileX X
  blk_point [iblk, V, idx0 t]
theorem rdG (c : Dev nD) (t : Fin cfg0.N) (q : ℕ) (hq : q < 128) : rd (tileG m c t) 0 q = rd (G m c) 0 q := by
  rw [at_rd (tileG m c t) 0 q (by omega) hq, at_rd (G m c) 0 q (by omega) hq]
  unfold tileG G
  blk_point [iblk, V, idx1 t]
theorem rdA (c : Dev nD) (t : Fin cfg0.N) (p q : ℕ) (hp : p < 512) (hq : q < 1024) : rd (tileA m c t) p q = rd (YA m c) (t.val * 512 + p) q := by
  have ht : t.val < 16 := t.isLt
  rw [at_rd (tileA m c t) p q hp hq, at_rd (YA m c) (t.val * 512 + p) q (by omega) hq]
  unfold tileA YA
  blk_point [iblk, V, idx2 t]
theorem rdB (c : Dev nD) (t : Fin cfg0.N) (p q : ℕ) (hp : p < 512) (hq : q < 1024) : rd (tileB m c t) p q = rd (YB m c) (t.val * 512 + p) q := by
  have ht : t.val < 16 := t.isLt
  rw [at_rd (tileB m c t) p q hp hq, at_rd (YB m c) (t.val * 512 + p) q (by omega) hq]
  unfold tileB YB
  blk_point [iblk, V, idx3 t]
theorem rdC (c : Dev nD) (t : Fin cfg0.N) (p q : ℕ) (hp : p < 512) (hq : q < 1024) : rd (tileC m c t) p q = rd (YC m c) (t.val * 512 + p) q := by
  have ht : t.val < 16 := t.isLt
  rw [at_rd (tileC m c t) p q hp hq, at_rd (YC m c) (t.val * 512 + p) q (by omega) hq]
  unfold tileC YC
  blk_point [iblk, V, idx4 t]
theorem rdD (c : Dev nD) (t : Fin cfg0.N) (p q : ℕ) (hp : p < 512) (hq : q < 1024) : rd (tileD m c t) p q = rd (YD m c) (t.val * 512 + p) q := by
  have ht : t.val < 16 := t.isLt
  rw [at_rd (tileD m c t) p q hp hq, at_rd (YD m c) (t.val * 512 + p) q (by omega) hq]
  unfold tileD YD
  blk_point [iblk, V, idx5 t]
theorem rd_sum2 {n w : ℕ} (C D : (⟨2, ![n, w]⟩ : Shape).Idx → EReal) (p q : ℕ) (hp : p < n) (hq : q < w) : rd (sum2 C D) p q = rd C p q + rd D p q := by
  rw [at_rd _ p q hp hq, at_rd C p q hp hq, at_rd D p q hp hq]
  rfl
theorem rdY (c : Dev nD) (t : Fin cfg0.N) (p q : ℕ) (hp : p < 512) (hq : q < 1024) : rd (tileY m c t) p q = rd (Y m c) (t.val * 512 + p) q := by
  have ht : t.val < 16 := t.isLt
  unfold tileY Y
  rw [rd_sum2 _ _ p q hp hq, rd_sum2 _ _ (t.val * 512 + p) q (by omega) hq, rdA m c t p q hp hq, rdB m c t p q hp hq]
theorem rdW (c : Dev nD) (t : Fin cfg0.N) (p q : ℕ) (hp : p < 512) (hq : q < 1024) : rd (tileW m c t) p q = rd (W m c) (t.val * 512 + p) q := by
  have ht : t.val < 16 := t.isLt
  unfold tileW W
  rw [rd_sum2 _ _ p q hp hq, rd_sum2 _ _ (t.val * 512 + p) q (by omega) hq, rdC m c t p q hp hq, rdD m c t p q hp hq]
theorem hrowX (c : Dev nD) (t : Fin cfg0.N) (p h : ℕ) (hp : p < 512) (hh : h < 8) : hrow (tileX m c t) p h = hrow (X m c) (t.val * 512 + p) h :=
  funext fun k => rdX m c t p _ hp (by have := k.isLt; omega)

/-- The gradient and a row's share of the gain's at an entry of a tile, from the whole arrays. -/
theorem hdx_tile (c : Dev nD) (t : Fin cfg0.N) (p h q : ℕ) (hp : p < 512) (hh : h < 8) (hq : q < 128) :
    hdx (tileX m c t) (tileY m c t) (tileG m c t) p h q = hdx (X m c) (Y m c) (G m c) (t.val * 512 + p) h q := by
  have e : hhalf (tileX m c t) (tileY m c t) (tileG m c t) p h = hhalf (X m c) (Y m c) (G m c) (t.val * 512 + p) h := by
    unfold hhalf
    rw [hrowX m c t p h hp hh]
    refine congrArg (fun s => Ideal.div (s * (mhalf * Ideal.div (hrs (hrow (X m c) (t.val * 512 + p) h)) (hms (hrow (X m c) (t.val * 512 + p) h)))) w128) (sum_congr rfl fun k _ => ?_)
    have hk := k.isLt
    rw [rdX m c t p _ hp (by omega), rdY m c t p _ hp (by omega), rdG m c t _ hk]
  unfold hdx
  rw [e, hrowX m c t p h hp hh, rdX m c t p _ hp (by omega), rdY m c t p _ hp (by omega), rdG m c t _ hq]
theorem hdg_tile (c : Dev nD) (t : Fin cfg0.N) (p h q : ℕ) (hp : p < 512) (hh : h < 8) (hq : q < 128) :
    hdg (tileX m c t) (tileY m c t) p h q = hdg (X m c) (Y m c) (t.val * 512 + p) h q := by
  unfold hdg
  rw [hrowX m c t p h hp hh, rdX m c t p _ hp (by omega), rdY m c t p _ hp (by omega)]

/-- Two stores, of the right half and of the left half of a tile, at an entry. -/
theorem canon_two (g : ℕ → ℕ → EReal) (w1 w0 : S512x1024.Idx → EReal) (h1 : ∀ x, w1 x = g (x 0).val (1024 + (x 1).val)) (h0 : ∀ x, w0 x = g (x 0).val (x 1).val)
    (i1 : ∀ a : Fin 2, (![0, 1024] : Fin 2 → ℕ) a + (![512, 1024] : Fin 2 → ℕ) a ≤ S512x2048.size a)
    (i0 : ∀ a : Fin 2, (![0, 0] : Fin 2 → ℕ) a + (![512, 1024] : Fin 2 → ℕ) a ≤ S512x2048.size a) (y : S512x2048.Idx) :
    (View.canon (Val := Elt Ideal) (e := .bf16) [(⟨Rect.unit (s := S512x2048) ![0, 1024] ![512, 1024] i1, w1⟩ : View.Piece (Elt Ideal) S512x2048 .bf16),
      ⟨Rect.unit (s := S512x2048) ![0, 0] ![512, 1024] i0, w0⟩] y : EReal) = g (y 0).val (y 1).val := by
  have b0 : (y 0).val < 512 := (y 0).isLt
  have b1 : (y 1).val < 2048 := (y 1).isLt
  refine View.canon_apply_of_pieces (Val := Elt Ideal) (e := .bf16) (S := S512x2048) (fun y => (g (y 0).val (y 1).val : EReal)) _ ?_ y ?_
  · intro p hp x
    rcases List.mem_cons.mp hp with rfl | hp
    · refine (h1 x).trans (congrArg₂ g ?_ ?_)
      · show (x 0).val = 0 + 1 * (x 0).val
        omega
      · show 1024 + (x 1).val = 1024 + 1 * (x 1).val
        omega
    · obtain rfl := List.mem_singleton.mp hp
      refine (h0 x).trans (congrArg₂ g ?_ ?_)
      · show (x 0).val = 0 + 1 * (x 0).val
        omega
      · show (x 1).val = 0 + 1 * (x 1).val
        omega
  · by_cases h : (y 1).val < 1024
    · refine ⟨_, List.mem_cons_of_mem _ (List.mem_singleton_self _), (Rect.mem_set_unit (inb := i0)).mpr fun a => ?_⟩
      match a with
      | ⟨0, _⟩ => exact ⟨Nat.zero_le _, by show (y 0).val < 0 + 512; omega⟩
      | ⟨1, _⟩ => exact ⟨Nat.zero_le _, by show (y 1).val < 0 + 1024; omega⟩
    · refine ⟨_, List.mem_cons_self, (Rect.mem_set_unit (inb := i1)).mpr fun a => ?_⟩
      match a with
      | ⟨0, _⟩ => exact ⟨Nat.zero_le _, by show (y 0).val < 0 + 512; omega⟩
      | ⟨1, _⟩ => exact ⟨by show 1024 ≤ (y 1).val; omega, by show (y 1).val < 1024 + 1024; omega⟩

/-- The two outputs after a point. -/
theorem right_at (P4 P5 : Vec Ideal S512x1024 .f32) (X : S512x1024.Idx → EReal) (g : S1x128.Idx → EReal) (Y : S512x1024.Idx → EReal) (x : S512x1024.Idx) :
    (truncf (F := Ideal) .bf16 (addf P4 P5) bitsLt_bf16_f32 x : EReal) = dkv X g Y (sum2 P4 P5) (x 0).val (1024 + (x 1).val) := by
  unfold dkv
  rw [if_neg (by omega), Nat.add_sub_cancel_left]
  exact rd_of (sum2 P4 P5) x _ _ rfl rfl
theorem left_at (P0 : Vec Ideal S512x1024 .f32) (P1 : Vec Ideal S1x128 .f32) (P2 P3 : Vec Ideal S512x1024 .f32) (V : S512x1024.Idx → EReal) (x : S512x1024.Idx) :
    (truncf (F := Ideal) .bf16 (dxTile P0 P1 (addf (F := Ideal) (φ := .f32) (s := S512x1024) P2 P3)) bitsLt_bf16_f32 x : EReal) = dkv P0 P1 (sum2 P2 P3) V (x 0).val (x 1).val := by
  unfold dkv
  have b1 : (x 1).val < 1024 := (x 1).isLt
  have e : addf (F := Ideal) (φ := .f32) (s := S512x1024) P2 P3 = sum2 P2 P3 := rfl
  rw [if_pos b1, ← e]
  exact dxTile_at P0 P1 (addf (F := Ideal) (φ := .f32) (s := S512x1024) P2 P3) x
theorem out6 (c : Dev nD) (t : Fin cfg0.N) (y : S512x2048.Idx) :
    ((outsAt0 m c t.val t.isLt).1 y : EReal) = dkv (tileX m c t) (tileG m c t) (tileY m c t) (tileW m c t) (y 0).val (y 1).val := by
  have r := right_at (iblk m c 4 t) (iblk m c 5 t) (tileX m c t) (tileG m c t) (tileY m c t)
  have l := left_at (iblk m c 0 t) (iblk m c 1 t) (iblk m c 2 t) (iblk m c 3 t) (tileW m c t)
  by_cases h : t.val % 16 = 0
  · rw [outsAt0_A m c t h]
    frame_out
    exact canon_two _ _ _ r l _ _ y
  · rw [outsAt0_B m c t h]
    frame_out
    exact canon_two _ _ _ r l _ _ y

theorem zero_at (y : S1x128.Idx) : k0_pay2 (F := Ideal) y = 0 := Ideal.ofBits_zero_f32

/-- One tile's share of the gain's gradient added. -/
theorem dg_at (P0 P2 : Vec Ideal S512x1024 .f32) (v : Vec Ideal S1x128 .f32) (y : S1x128.Idx) :
    (addf (F := Ideal) (φ := .f32) (shapeCast S1x128 v shapeCasts_S1x128_S1x128) (dgTile P0 P2) y : EReal) = v y + ∑ h : Fin 8, ∑ k : Fin 512, hdg P0 P2 k.val h.val (y 1).val := by
  have e : (shapeCast S1x128 v shapeCasts_S1x128_S1x128 y : EReal) = v y := by simp only [pointwise]
  exact congrArg₂ (· + ·) e (dgTile_at P0 P2 y)

/-- The gain's gradient after the first point and after a later one. -/
theorem out7_A (c : Dev nD) (t : Fin cfg0.N) (h : t.val % 16 = 0) : (outsAt0 m c t.val t.isLt).2
    = addf (F := Ideal) (φ := .f32) (shapeCast S1x128 (k0_pay2 (F := Ideal)) shapeCasts_S1x128_S1x128) (dgTile (iblk m c 0 t) (addf (F := Ideal) (φ := .f32) (s := S512x1024) (iblk m c 2 t) (iblk m c 3 t))) := by
  rw [outsAt0_A m c t h]
  frame_out
  rfl
theorem out7_B (c : Dev nD) (t : Fin cfg0.N) (h : ¬t.val % 16 = 0) : (outsAt0 m c t.val t.isLt).2
    = addf (F := Ideal) (φ := .f32) (shapeCast S1x128 (outsAt0 m c (t.val - 1) (Nat.lt_of_le_of_lt (Nat.sub_le _ _) t.isLt)).2 shapeCasts_S1x128_S1x128)
      (dgTile (iblk m c 0 t) (addf (F := Ideal) (φ := .f32) (s := S512x1024) (iblk m c 2 t) (iblk m c 3 t))) := by
  rw [outsAt0_B m c t h]
  frame_out
  rfl

/-- The gain's gradient after the last point. -/
theorem dg_last (c : Dev nD) (t : Fin cfg0.N) (h : t.val + 1 = 16) (y : S1x128.Idx) :
    (outsAt0 m c t.val t.isLt).2 y = 0 + ∑ s : Fin 16, ∑ h : Fin 8, ∑ k : Fin 512, hdg (X m c) (Y m c) (s.val * 512 + k.val) h.val (y 1).val := by
  have y1 := idx2_lt1 y
  rw [Pipeline.eq_sum_fin_of_reset_step_apply_last (fun n h => (outsAt0 m c n h).2) 16 (fun _ => (0 : EReal))
    (fun t y => ∑ h : Fin 8, ∑ k : Fin 512, hdg (tileX m c t) (tileY m c t) k.val h.val (y 1).val)
    (fun t h y => by rw [out7_A m c t h]; exact (dg_at (iblk m c 0 t) (addf (F := Ideal) (φ := .f32) (s := S512x1024) (iblk m c 2 t) (iblk m c 3 t)) _ y).trans (congrArg (· + _) (zero_at y)))
    (fun t h y => by rw [out7_B m c t h]; exact dg_at (iblk m c 0 t) (addf (F := Ideal) (φ := .f32) (s := S512x1024) (iblk m c 2 t) (iblk m c 3 t)) _ y) (le_of_eq N_0) t (h.trans N_0.symm) y]
  exact congrArg (0 + ·) (sum_congr rfl fun t _ => sum_congr rfl fun h _ => sum_congr rfl fun k _ => hdg_tile m c t _ _ _ k.isLt h.isLt y1)

section Ref
open Cert.DkvpostRefIdeal.Read

theorem ref_x (A : S8192x2048.Idx → EReal) (i : Cert.DkvpostRefIdeal.S8192x8x128.Idx) (p h q : ℕ) (hp : (i 0).val = p) (hh : (i 1).val = h) (hq : (i 2).val = q) :
    val_main_v2 (F := Ideal) A i = rd A p (128 * h + q) := by
  have h1 : (i 1).val < 8 := (i 1).isLt
  have h2 : (i 2).val < 128 := (i 2).isLt
  rw [val_main_v2_apply, val_main_v0_apply]
  refine rd_of A _ _ _ ?_ ?_
  · show (((i 0).val * 8 + (i 1).val) * 128 + (i 2).val) / 1024 = _
    omega
  · show (((i 0).val * 8 + (i 1).val) * 128 + (i 2).val) % 1024 = _
    omega
theorem ref_y (C D : S8192x1024.Idx → EReal) (i : Cert.DkvpostRefIdeal.S8192x8x128.Idx) (p h q : ℕ) (hp : (i 0).val = p) (hh : (i 1).val = h) (hq : (i 2).val = q) :
    val_main_v23 (F := Ideal) C D i = rd (sum2 C D) p (128 * h + q) := by
  have h1 : (i 1).val < 8 := (i 1).isLt
  have h2 : (i 2).val < 128 := (i 2).isLt
  rw [val_main_v23_apply]
  refine rd_of (sum2 C D) (idx_main_v23 i) _ _ ?_ ?_
  · show (((i 0).val * 8 + (i 1).val) * 128 + (i 2).val) / 1024 = _
    omega
  · show (((i 0).val * 8 + (i 1).val) * 128 + (i 2).val) % 1024 = _
    omega

/-- The reference's mean square of a head, and its inverse root. -/
theorem ref_ms (A : S8192x2048.Idx → EReal) (j : Cert.DkvpostRefIdeal.S8192x8x1.Idx) (p h : ℕ) (hp : (j 0).val = p) (hh : (j 1).val = h) :
    val_main_v10 (F := Ideal) A j = hms (hrow A p h) := by
  rw [val_main_v10_apply, val_main_v8_apply, val_main_v6_apply, val_main_v5_apply, val_main_v7_apply, val_main_v9_apply]
  show Ideal.div (Ideal.ofBits .f32 0x00000000#32 + ∑ k : Fin 128, _) w128 + small = _
  rw [Ideal.ofBits_zero_f32, zero_add]
  unfold hms
  refine congrArg (fun z => Ideal.div z w128 + small) (sum_congr rfl fun k _ => ?_)
  rw [val_main_v4_apply, ref_x A _ p h k.val hp hh rfl]
  rfl
theorem ref_rs (A : S8192x2048.Idx → EReal) (j : Cert.DkvpostRefIdeal.S8192x8x1.Idx) (p h : ℕ) (hp : (j 0).val = p) (hh : (j 1).val = h) :
    val_main_v11 (F := Ideal) A j = hrs (hrow A p h) := by
  rw [val_main_v11_apply, ref_ms A j p h hp hh]
  rfl

/-- The reference's product of the incoming gradient and the gain. -/
theorem ref_dy (B : S1x128.Idx → EReal) (C D : S8192x1024.Idx → EReal) (i : Cert.DkvpostRefIdeal.S8192x8x128.Idx) (p h q : ℕ) (hp : (i 0).val = p) (hh : (i 1).val = h) (hq : (i 2).val = q) :
    val_main_v28 (F := Ideal) B C D i = rd (sum2 C D) p (128 * h + q) * rd B 0 q := by
  have h2 : (i 2).val < 128 := (i 2).isLt
  rw [val_main_v28_apply, ref_y C D i p h q hp hh hq, val_main_v27_apply, val_main_v17_apply, val_main_v3_apply, rd_of B _ 0 q rfl (by show (i 2).val % 128 = q; omega)]
  rfl

/-- The reference's half of the mean square's share. -/
theorem ref_half (A : S8192x2048.Idx → EReal) (B : S1x128.Idx → EReal) (C D : S8192x1024.Idx → EReal) (i : Cert.DkvpostRefIdeal.S8192x8x128.Idx) (p h : ℕ) (hp : (i 0).val = p) (hh : (i 1).val = h) :
    val_main_v39 (F := Ideal) A B C D i = hhalf A (sum2 C D) B p h := by
  have h1 : (i 1).val < 8 := (i 1).isLt
  rw [val_main_v39_apply, val_main_v38_apply, Fin.sum_univ_one, val_main_v37_apply, val_main_v35_apply, val_main_v32_apply, val_main_v31_apply,
    val_main_v14_apply, val_main_v13_apply, val_main_v12_apply, ref_rs A _ p h hp hh, ref_ms A _ p h hp hh, val_main_v36_apply]
  show Ideal.ofBits .f32 0x00000000#32 + Ideal.div ((Ideal.ofBits .f32 0x00000000#32 + ∑ k : Fin 128, _) * (mhalf * Ideal.div (hrs (hrow A p h)) (hms (hrow A p h)))) w128 = _
  rw [Ideal.ofBits_zero_f32, zero_add, zero_add]
  unfold hhalf
  refine congrArg (fun z => Ideal.div (z * (mhalf * Ideal.div (hrs (hrow A p h)) (hms (hrow A p h)))) w128) (sum_congr rfl fun k _ => ?_)
  have e0 : (((i 0).val * 8 + (i 1).val) * 1 + 0) / 8 = p := by omega
  have e1 : (((i 0).val * 8 + (i 1).val) * 1 + 0) % 8 = h := by omega
  rw [val_main_v30_apply, ref_x A _ p h k.val e0 e1 rfl, ref_dy B C D _ p h k.val e0 e1 rfl]
  rfl

/-- The reference's gradient of the keys at an entry. -/
theorem ref_dx (A : S8192x2048.Idx → EReal) (B : S1x128.Idx → EReal) (C D : S8192x1024.Idx → EReal) (i : S8192x1024.Idx) :
    val_main_v45 (F := Ideal) A B C D i = hdx A (sum2 C D) B (i 0).val ((i 1).val / 128) ((i 1).val % 128) := by
  have h0 : (i 0).val < 8192 := (i 0).isLt
  have h1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  rw [val_main_v45_apply, val_main_v43_apply, val_main_v41_apply, val_main_v42_apply, val_main_v40_apply, val_main_v34_apply, val_main_v33_apply,
    ref_half A B C D _ _ _ e0 e1, ref_x A _ _ _ _ e0 e1 e2, ref_dy B C D _ _ _ _ e0 e1 e2, ref_rs A _ _ _ e0 e1]
  rfl

/-- The reference's two halves at an entry. -/
theorem ref_dkv (A : S8192x2048.Idx → EReal) (B : S1x128.Idx → EReal) (C D E H : S8192x1024.Idx → EReal) (i : S8192x2048.Idx) :
    val_main_v47 (F := Ideal) A B C D E H i = dkv A B (sum2 C D) (sum2 E H) (i 0).val (i 1).val := by
  have h1 : (i 1).val < 2048 := (i 1).isLt
  rw [val_main_v47_apply]
  show val_main_v46 (F := Ideal) A B C D E H i = _
  unfold val_main_v46 dkv
  by_cases h : (i 1).val < 1024
  · rw [if_pos h]
    refine (concatenate_pair_apply_left 1 (val_main_v45 (F := Ideal) A B C D) (val_main_v22 (F := Ideal) E H) _ i rfl
      (Idealize.ShloMosaic.ix2 (i 0) ⟨(i 1).val, h⟩ : S8192x1024.Idx) fun a => match a with
      | ⟨0, _⟩ => rfl
      | ⟨1, _⟩ => rfl).trans ?_
    exact ref_dx A B C D _
  · rw [if_neg h]
    refine (concatenate_pair_apply_right 1 (val_main_v45 (F := Ideal) A B C D) (val_main_v22 (F := Ideal) E H) _ i rfl rfl
      (Idealize.ShloMosaic.ix2 (i 0) ⟨(i 1).val - 1024, by omega⟩ : S8192x1024.Idx) (fun a ha => match a, ha with
      | ⟨0, _⟩, _ => rfl
      | ⟨1, _⟩, ha => absurd rfl ha) (Nat.sub_add_cancel (Nat.le_of_not_lt h))).trans ?_
    exact rd_of (sum2 E H) _ _ _ rfl rfl

/-- The reference's gradient of the gain. -/
theorem ref_dg (A : S8192x2048.Idx → EReal) (C D : S8192x1024.Idx → EReal) (i : S1x128.Idx) :
    val_main_v44 (F := Ideal) A C D i = ∑ p : Fin 8192, ∑ h : Fin 8, hdg A (sum2 C D) p.val h.val (i 1).val := by
  rw [val_main_v44_apply]
  unfold val_main_v29
  simp only [Host.reduceAdd, Ideal.hostReduceAdd_def]
  show Ideal.ofBits .f32 0x00000000#32 + _ = _
  rw [Ideal.ofBits_zero_f32, zero_add]
  refine (sum_two _ _ _).trans ?_
  rw [Fin.sum_univ_one, Fin.sum_univ_one, val_main_v26_apply]
  unfold val_main_v25
  simp only [Host.reduceAdd, Ideal.hostReduceAdd_def]
  show Ideal.ofBits .f32 0x00000000#32 + _ = _
  rw [Ideal.ofBits_zero_f32, zero_add]
  refine (sum_two _ _ _).trans (sum_congr rfl fun p _ => sum_congr rfl fun h _ => ?_)
  have e2 : (0 * 1 + 0) * 128 + (i 1).val = (i 1).val := by omega
  rw [val_main_v24_apply, val_main_v16_apply, val_main_v15_apply, ref_x A _ p.val h.val _ rfl rfl e2, ref_y C D _ p.val h.val _ rfl rfl e2, ref_rs A _ p.val h.val rfl rfl]
  rfl

end Ref

/-- The last point. -/
def last : Fin cfg0.N := ⟨15, Nat.lt_of_lt_of_eq (by decide : 15 < 16) N_0.symm⟩

/-- The kernel's results are the reference's. -/
theorem final6 (c : Dev nD) : (dats m 0 c).arrAt 6 cfg0.N = Cert.DkvpostRefIdeal.Read.val_main_v47 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have y0 := idx2_lt0 y
  have y1 : (y 1).val < 2048 := (y 1).isLt
  have e0 : (((win0_6.blk t).view.emb y) 0).val = t.val * 512 + (y 0).val := by blk_simp [idx6 t]
  have e1 : (((win0_6.blk t).view.emb y) 1).val = (y 1).val := by blk_simp [idx6 t]
  refine (out6 m c t y).trans (Eq.trans ?_ (ref_dkv _ _ _ _ _ _ _).symm)
  refine Eq.trans ?_ (congrArg₂ (dkv (X m c) (G m c) (Y m c) (W m c)) e0.symm e1.symm)
  unfold dkv
  by_cases h : (y 1).val < 1024
  · rw [if_pos h, if_pos h]
    exact hdx_tile m c t _ _ _ y0 (by omega) (by omega)
  · rw [if_neg h, if_neg h]
    exact rdW m c t _ _ y0 (by omega)

theorem final7 (c : Dev nD) : (dats m 0 c).arrAt 7 cfg0.N = Cert.DkvpostRefIdeal.Read.val_main_v44 (F := Ideal) (m ((c : Thread nD τ).loc main_arg0)) (m ((c : Thread nD τ).loc main_arg2)) (m ((c : Thread nD τ).loc main_arg3)) := by
  funext i
  refine ((dats m 0 c).arrAt_emb_eq_after_last 7 last (by decide +kernel) i).trans ?_
  refine (congrFun (after0_7 m c last) _).trans ?_
  rw [dg_last m c last rfl, zero_add, ref_dg]
  refine (sum_congr rfl fun s _ => sum_comm : (∑ s : Fin 16, ∑ h : Fin 8, ∑ k : Fin 512, hdg (X m c) (Y m c) (s.val * 512 + k.val) h.val (i 1).val)
    = ∑ s : Fin 16, ∑ k : Fin 512, ∑ h : Fin 8, hdg (X m c) (Y m c) (s.val * 512 + k.val) h.val (i 1).val).trans ?_
  exact Fin.sum_mul_add_congr fun s k hl => rfl

/-- The kernel and the reference agree. -/
theorem same : @Cert.algebraic_DkvpostIdeal_DkvpostRefIdeal Cert.DkvpostIdeal.Gen.facts Cert.DkvpostRefIdeal.Gen.facts := by
  intro m ρ m' ρ' _ hin
  refine ⟨fun c => Cert.DkvpostRefIdeal.Read.val_main_v47 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)),
    fun c => Cert.DkvpostRefIdeal.Read.val_main_v44 (F := Ideal) (m ((c : Thread nD τ).loc main_arg0)) (m ((c : Thread nD τ).loc main_arg2)) (m ((c : Thread nD τ).loc main_arg3)), ?_, ?_⟩
  · exact (θ_run Cert.DkvpostIdeal.defs _ _).mono (fun r h c => ⟨(h c).1.trans (final6 m c), (h c).2.1.trans (final7 m c), (h c).2.2⟩) (run_blocks (F := Ideal) m ρ)
  · refine (θ_run Cert.DkvpostRefIdeal.defs _ _).mono (fun r h c => ⟨(h c).1.trans ?_, (h c).2.1.trans ?_, (h c).2.2⟩) (Cert.DkvpostRefIdeal.Value.run (F := Ideal) m' ρ')
    · rw [Cert.DkvpostRefIdeal.Read.val_main_v47_eq, (hin c).1, (hin c).2.1, (hin c).2.2.1, (hin c).2.2.2.1, (hin c).2.2.2.2.1, (hin c).2.2.2.2.2]
    · rw [Cert.DkvpostRefIdeal.Read.val_main_v44_eq, (hin c).1, (hin c).2.2.1, (hin c).2.2.2.1]

end Cert.Proof.Dkvpost

end
-- ==== Proof.Pr.Loss.lean ====
/- The loss and its gradient: the kernel adds squares down the columns of every tile, then across, and scales the total; the
   reference adds each row, divides it, and adds the rows. -/
module

public import proofs.«01_k».proof.Proof.Gen.LossIdeal.Value
public import proofs.«01_k».proof.Proof.Gen.LossRefIdeal.Read
public import proofs.«01_k».proof.Proof.Gen.LossRefIdeal.Run
public import proofs.«01_k».proof.Defs
public import proofs.«01_k».proof.Proof.Gen.LossIdeal
public import proofs.«01_k».proof.Proof.Gen.LossRefIdeal
public import proofs.«01_k».proof.Proof.Pr.Norm
public import proofs.«01_k».proof.Proof.Pr.Product

@[expose] public section

noncomputable section

namespace Cert.Proof.Loss

open Cert.LossIdeal Cert.LossIdeal.Gen Cert.LossIdeal.Value
open Idealize.ShloMosaic Idealize.ShloMosaic.TcCoe Idealize.ShloMosaic.ValueIdx Idealize.SL.Sem
open Finset Pr

variable (m : (ℓ : Loc nD τ sig) → Buf (Elt Ideal) ℓ)

/-- The programs' numbers. -/
theorem half_eq : Ideal.ofBits .f32 0x3F000000#32 = ((1 / 2 : ℝ) : EReal) := by
  simp [Ideal.ofBits, Ideal.ieee, -EReal.coe_mul]
  norm_num
theorem two_eq : Ideal.ofBits .f32 0x40000000#32 = ((2 : ℝ) : EReal) := by
  simp [Ideal.ofBits, Ideal.ieee, -EReal.coe_mul]
  norm_num
theorem inv_eq : Ideal.ofBits .f32 0x3A800000#32 = ((1 / 1024 : ℝ) : EReal) := by
  simp [Ideal.ofBits, Ideal.ieee, -EReal.coe_mul]
  norm_num
theorem half_inv_eq : Ideal.ofBits .f32 0x3A000000#32 = ((1 / 2048 : ℝ) : EReal) := by
  simp [Ideal.ofBits, Ideal.ieee, -EReal.coe_mul]
  norm_num
theorem one_eq : Ideal.ofBits .f32 0x3F800000#32 = ((1 : ℝ) : EReal) := Pr.one_bits
theorem width_bits : Ideal.ofBits .f32 0x44800000#32 = ((1024 : ℝ) : EReal) := width_eq

/-- The square of an entry's error. -/
def sq {n : ℕ} (X Y : (⟨2, ![n, 1024]⟩ : Shape).Idx → EReal) (p q : ℕ) : EReal := (rd X p q - rd Y p q) * (rd X p q - rd Y p q)

/-- A sum of terms that are not negative, times a number. -/
theorem sum_mul_nonneg {ι : Type} (s : Finset ι) (f : ι → EReal) (h : ∀ i, 0 ≤ f i) (a : EReal) : (∑ i ∈ s, f i * a) = (∑ i ∈ s, f i) * a := by
  classical
  induction s using Finset.induction_on with
  | empty => simp
  | insert i s hi ih => rw [sum_insert hi, sum_insert hi, ih, EReal.right_distrib_of_nonneg (h i) (sum_nonneg fun k _ => h k)]

/-- Half of the sum of the rows' means is the total times the one factor. -/
theorem loss_eq {n : ℕ} (f : Fin n → EReal) (h : ∀ i, 0 ≤ f i) :
    Ideal.ofBits .f32 0x3F000000#32 * (0 + ∑ i, Ideal.div (f i) (Ideal.ofBits .f32 0x44800000#32)) = (∑ i, f i) * Ideal.ofBits .f32 0x3A000000#32 := by
  rw [half_eq, half_inv_eq, width_bits, zero_add]
  simp only [Ideal.div_coe (show (1024 : ℝ) ≠ 0 by norm_num)]
  rw [sum_mul_nonneg univ f h, mul_comm, mul_assoc, ← EReal.coe_mul]
  norm_num
theorem grad_eq (d : EReal) :
    Ideal.div (Ideal.ofBits .f32 0x3F000000#32 * Ideal.ofBits .f32 0x3F800000#32) (Ideal.ofBits .f32 0x44800000#32) * (Ideal.ofBits .f32 0x40000000#32 * d)
      = d * Ideal.ofBits .f32 0x3A800000#32 := by
  rw [half_eq, one_eq, width_bits, two_eq, inv_eq, Ideal.div_coe (show (1024 : ℝ) ≠ 0 by norm_num), ← mul_assoc, mul_comm _ d, ← EReal.coe_mul, ← EReal.coe_mul, ← EReal.coe_mul]
  norm_num

/-- What is added to the columns' totals, and the total. -/
theorem acc_at (v0 v1 : Vec Ideal S512x1024 .f32) (v11 : Vec Ideal S1x1024 .f32) (y : S1x1024.Idx) :
    (k0_pay5 v0 v1 v11 y : EReal) = v11 y + ∑ k : Fin 512, sq v0 v1 k.val (y 1).val := by
  unfold k0_pay5 k0_pay1
  simp only [pointwise, zero_add]
  refine congrArg (v11 y + ·) (sum_congr rfl fun k _ => ?_)
  unfold sq
  rw [rd_of v0 (Idealize.ShloMosaic.ix2 k (y 1)) k.val (y 1).val rfl rfl, rd_of v1 (Idealize.ShloMosaic.ix2 k (y 1)) k.val (y 1).val rfl rfl]
theorem zero_at (y : S1x1024.Idx) : (k0_pay4 (F := Ideal) y : EReal) = 0 := by
  unfold k0_pay4
  simp only [pointwise]
theorem tot_at (v : Vec Ideal S1x1024 .f32) (y : S1x128.Idx) :
    (k0_pay6 v y : EReal) = (∑ q : Fin 1024, (v (Idealize.ShloMosaic.ix2 0 q) : EReal)) * Ideal.ofBits .f32 0x3A000000#32 := by
  unfold k0_pay6
  simp only [pointwise, zero_add, Fin.sum_univ_one]

/-- The outputs after a point. -/
theorem acc_A (c : Dev nD) (t : Fin cfg0.N) (h : t.val % 16 = 0) : (outsAt0 m c t.val t.isLt).2.2.2 = k0_pay5 (iblk m c 0 t) (iblk m c 1 t) (k0_pay4 (F := Ideal)) := by
  rw [outsAt0_A m c t h (by omega)]
  frame_out
theorem acc_BC (c : Dev nD) (t : Fin cfg0.N) (h : ¬t.val % 16 = 0) : (outsAt0 m c t.val t.isLt).2.2.2
    = k0_pay5 (iblk m c 0 t) (iblk m c 1 t) (outsAt0 m c (t.val - 1) (Nat.lt_of_le_of_lt (Nat.sub_le _ _) t.isLt)).2.2.2 := by
  by_cases h1 : t.val % 16 = 15
  · rw [outsAt0_C m c t h h1]
    frame_out
    rw [(Memref.isWhole_whole _).read_unread]
  · rw [outsAt0_B m c t h h1]
    frame_out
    rw [(Memref.isWhole_whole _).read_unread]
theorem out2 (c : Dev nD) (t : Fin cfg0.N) (h : t.val % 16 = 15) : (outsAt0 m c t.val t.isLt).1 = k0_pay6 (outsAt0 m c t.val t.isLt).2.2.2 := by
  rw [acc_BC m c t (by omega), outsAt0_C m c t (by omega) h]
  frame_out
  rw [(Memref.isWhole_whole _).read_unread]
theorem out3 (c : Dev nD) (t : Fin cfg0.N) : (outsAt0 m c t.val t.isLt).2.1 = k0_pay2 (iblk m c 0 t) (iblk m c 1 t) := by
  by_cases h : t.val % 16 = 0
  · rw [outsAt0_A m c t h (by omega)]
    frame_out
  · by_cases h1 : t.val % 16 = 15
    · rw [outsAt0_C m c t h h1]
      frame_out
    · rw [outsAt0_B m c t h h1]
      frame_out
theorem out4 (c : Dev nD) (t : Fin cfg0.N) : (outsAt0 m c t.val t.isLt).2.2.1 = k0_pay3 (iblk m c 0 t) (iblk m c 1 t) := by
  by_cases h : t.val % 16 = 0
  · rw [outsAt0_A m c t h (by omega)]
    frame_out
  · by_cases h1 : t.val % 16 = 15
    · rw [outsAt0_C m c t h h1]
      frame_out
    · rw [outsAt0_B m c t h h1]
      frame_out

/-- Where the tiles lie. -/
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

/-- The arguments, and their tiles. -/
def X (c : Dev nD) : S8192x1024.Idx → EReal := m ((c : Thread nD τ).loc main_arg0)
def Y (c : Dev nD) : S8192x1024.Idx → EReal := m ((c : Thread nD τ).loc main_arg1)
def tileX (c : Dev nD) (t : Fin cfg0.N) : S512x1024.Idx → EReal := iblk m c 0 t
def tileY (c : Dev nD) (t : Fin cfg0.N) : S512x1024.Idx → EReal := iblk m c 1 t

theorem rdX (c : Dev nD) (t : Fin cfg0.N) (p q : ℕ) (hp : p < 512) (hq : q < 1024) : rd (tileX m c t) p q = rd (X m c) (t.val * 512 + p) q := by
  have ht : t.val < 16 := t.isLt
  rw [at_rd (tileX m c t) p q hp hq, at_rd (X m c) (t.val * 512 + p) q (by omega) hq]
  unfold tileX X
  blk_point [iblk, V, idx0 t]
theorem rdY (c : Dev nD) (t : Fin cfg0.N) (p q : ℕ) (hp : p < 512) (hq : q < 1024) : rd (tileY m c t) p q = rd (Y m c) (t.val * 512 + p) q := by
  have ht : t.val < 16 := t.isLt
  rw [at_rd (tileY m c t) p q hp hq, at_rd (Y m c) (t.val * 512 + p) q (by omega) hq]
  unfold tileY Y
  blk_point [iblk, V, idx1 t]

/-- The columns' totals after the last point. -/
theorem acc_last (c : Dev nD) (t : Fin cfg0.N) (h : t.val + 1 = 16) (y : S1x1024.Idx) :
    (outsAt0 m c t.val t.isLt).2.2.2 y = 0 + ∑ s : Fin 16, ∑ k : Fin 512, sq (X m c) (Y m c) (s.val * 512 + k.val) (y 1).val := by
  have y1 := idx2_lt1 y
  rw [Pipeline.eq_sum_fin_of_reset_step_apply_last (fun n h => (outsAt0 m c n h).2.2.2) 16 (fun _ => (0 : EReal))
    (fun t y => ∑ k : Fin 512, sq (tileX m c t) (tileY m c t) k.val (y 1).val)
    (fun t h y => by rw [acc_A m c t h]; exact (acc_at (iblk m c 0 t) (iblk m c 1 t) _ y).trans (congrArg (· + _) (zero_at y)))
    (fun t h y => by rw [acc_BC m c t h]; exact acc_at (iblk m c 0 t) (iblk m c 1 t) _ y) (le_of_eq N_0) t (h.trans N_0.symm) y]
  refine congrArg (0 + ·) (sum_congr rfl fun t _ => sum_congr rfl fun k _ => ?_)
  unfold sq
  rw [rdX m c t _ _ k.isLt y1, rdY m c t _ _ k.isLt y1]

section Ref
open Cert.LossRefIdeal.Read

theorem ref_row (A B : S8192x1024.Idx → EReal) (j : Cert.LossRefIdeal.S8192.Idx) (p : ℕ) (h : (j 0).val = p) :
    (val_main_v4 (F := Ideal) A B j : EReal) = ∑ q : Fin 1024, sq A B p q.val := by
  rw [val_main_v4_apply]
  refine (congrArg (· + _) Ideal.ofBits_zero_f32).trans ((zero_add _).trans (sum_congr rfl fun q _ => ?_))
  rw [val_main_v1_apply, val_main_v0_apply]
  unfold sq
  rw [rd_of A (idx_main_v4 j q) p q.val h rfl, rd_of B (idx_main_v4 j q) p q.val h rfl]
  rfl
theorem ref_loss (A B : S8192x1024.Idx → EReal) (i : S1x128.Idx) :
    (val_main_v15 (F := Ideal) A B i : EReal) = (∑ p : Fin 8192, ∑ q : Fin 1024, sq A B p.val q.val) * Ideal.ofBits .f32 0x3A000000#32 := by
  rw [val_main_v15_apply, val_main_v8_apply, val_main_v7_apply]
  have e : (∑ j : Cert.LossRefIdeal.S8192.Idx, (val_main_v6 (F := Ideal) A B j : EReal))
      = ∑ p : Fin 8192, Ideal.div (∑ q : Fin 1024, sq A B p.val q.val) (Ideal.ofBits .f32 0x44800000#32) :=
    (Idealize.ShloMosaic.sum_idx1 (n0 := 8192) (fun j => (val_main_v6 (F := Ideal) A B j : EReal))).trans
      (sum_congr rfl fun p _ => congrArg₂ Ideal.div (ref_row A B _ p.val rfl) (val_main_v5_apply _))
  refine Eq.trans ?_ (loss_eq (fun p : Fin 8192 => ∑ q : Fin 1024, sq A B p.val q.val) fun p => sum_nonneg fun q _ => sq_nonneg' _)
  exact congrArg (Ideal.ofBits .f32 0x3F000000#32 * ·) (congrArg₂ (· + ·) Ideal.ofBits_zero_f32 e)
theorem ref_grad (A B : S8192x1024.Idx → EReal) (i : S8192x1024.Idx) :
    (val_main_v14 (F := Ideal) A B i : EReal) = (A i - B i) * Ideal.ofBits .f32 0x3A800000#32 := by
  rw [val_main_v14_apply, val_main_v13_apply, val_main_v12_apply, val_main_v10_apply, val_main_v9_apply, val_main_v11_apply, val_main_v3_apply, val_main_v2_apply]
  exact grad_eq (A i - B i)
end Ref

/-- The last point. -/
def last : Fin cfg0.N := ⟨15, Nat.lt_of_lt_of_eq (by decide : 15 < 16) N_0.symm⟩

/-- The kernel's results are the reference's. -/
theorem final2 (c : Dev nD) : (dats m 0 c).arrAt 2 cfg0.N = Cert.LossRefIdeal.Read.val_main_v15 (F := Ideal) (m ((c : Thread nD τ).loc main_arg0)) (m ((c : Thread nD τ).loc main_arg1)) := by
  funext i
  refine ((dats m 0 c).arrAt_emb_eq_after_last 2 last (by decide +kernel) i).trans ?_
  refine (congrFun (after0_2 m c last) _).trans ?_
  rw [out2 m c last rfl]
  refine (tot_at _ _).trans (Eq.trans ?_ (ref_loss _ _ i).symm)
  refine congrArg (· * Ideal.ofBits .f32 0x3A000000#32) (Eq.trans (sum_congr rfl fun q _ => (acc_last m c last rfl _).trans (zero_add _)) ?_)
  refine (sum_congr rfl fun q _ => ?_).trans sum_comm
  exact Fin.sum_mul_add_congr fun s k hl => rfl

theorem grad_tile (c : Dev nD) (t : Fin cfg0.N) (y : S512x1024.Idx) (i : S8192x1024.Idx) (e0 : (i 0).val = t.val * 512 + (y 0).val) (e1 : (i 1).val = (y 1).val) :
    (k0_pay2 (F := Ideal) (tileX m c t) (tileY m c t) y : EReal) = (X m c i - Y m c i) * Ideal.ofBits .f32 0x3A800000#32 := by
  have y0 := idx2_lt0 y
  have y1 := idx2_lt1 y
  have a := (rd_of (tileX m c t) y _ _ rfl rfl).trans ((rdX m c t _ _ y0 y1).trans (rd_of (X m c) i _ _ e0 e1).symm)
  have b := (rd_of (tileY m c t) y _ _ rfl rfl).trans ((rdY m c t _ _ y0 y1).trans (rd_of (Y m c) i _ _ e0 e1).symm)
  exact congrArg (· * Ideal.ofBits .f32 0x3A800000#32) (congrArg₂ (· - ·) a b)

theorem final3 (c : Dev nD) : (dats m 0 c).arrAt 3 cfg0.N = Cert.LossRefIdeal.Read.val_main_v14 (F := Ideal) (m ((c : Thread nD τ).loc main_arg0)) (m ((c : Thread nD τ).loc main_arg1)) := by
  refine (dats m 0 c).arrAt_eq_of_covers 3 _ (by decide +kernel) fun t hf y => ?_
  blk_simp
  rw [after0_3, out3]
  refine (grad_tile m c t y _ ?_ ?_).trans (ref_grad _ _ _).symm
  · blk_simp [idx3 t]
  · blk_simp [idx3 t]

theorem final4 (c : Dev nD) : (dats m 0 c).arrAt 4 cfg0.N = Cert.LossRefIdeal.Read.val_main_v16 (F := Ideal) (m ((c : Thread nD τ).loc main_arg0)) (m ((c : Thread nD τ).loc main_arg1)) := by
  refine (dats m 0 c).arrAt_eq_of_covers 4 _ (by decide +kernel) fun t hf y => ?_
  blk_simp
  rw [after0_4, out4]
  refine (grad_tile m c t y _ ?_ ?_).trans (ref_grad _ _ _).symm
  · blk_simp [idx4 t]
  · blk_simp [idx4 t]

/-- The kernel and the reference agree. -/
theorem same : @Cert.algebraic_LossIdeal_LossRefIdeal Cert.LossIdeal.Gen.facts Cert.LossRefIdeal.Gen.facts := by
  intro m ρ m' ρ' _ hin
  refine ⟨fun c => Cert.LossRefIdeal.Read.val_main_v15 (F := Ideal) (m ((c : Thread nD τ).loc main_arg0)) (m ((c : Thread nD τ).loc main_arg1)),
    fun c => Cert.LossRefIdeal.Read.val_main_v14 (F := Ideal) (m ((c : Thread nD τ).loc main_arg0)) (m ((c : Thread nD τ).loc main_arg1)),
    fun c => Cert.LossRefIdeal.Read.val_main_v16 (F := Ideal) (m ((c : Thread nD τ).loc main_arg0)) (m ((c : Thread nD τ).loc main_arg1)), ?_, ?_⟩
  · exact (θ_run Cert.LossIdeal.defs _ _).mono (fun r h c => ⟨(h c).1.trans (final2 m c), (h c).2.1.trans (final3 m c), (h c).2.2.1.trans (final4 m c), (h c).2.2.2⟩) (run_blocks (F := Ideal) m ρ)
  · refine (θ_run Cert.LossRefIdeal.defs _ _).mono (fun r h c => ⟨(h c).1.trans ?_, (h c).2.1.trans ?_, (h c).2.2.1.trans ?_, (h c).2.2.2⟩) (Cert.LossRefIdeal.Value.run (F := Ideal) m' ρ')
    · rw [Cert.LossRefIdeal.Read.val_main_v15_eq, (hin c).1, (hin c).2]
    · rw [Cert.LossRefIdeal.Read.val_main_v14_eq, (hin c).1, (hin c).2]
    · rw [Cert.LossRefIdeal.Read.val_main_v16_eq, (hin c).1, (hin c).2]

end Cert.Proof.Loss

end
-- ==== Proof.Pr.Gpost.lean ====
/- The head norm of the gated delta rule's output times the gate: the kernel works tiles of rows, a head at a time, the
   reference the whole array by heads. -/
module

public import proofs.«01_k».proof.Proof.Gen.GpostIdeal.Value
public import proofs.«01_k».proof.Proof.Gen.GpostRefIdeal.Read
public import proofs.«01_k».proof.Proof.Gen.GpostRefIdeal.Run
public import proofs.«01_k».proof.Defs
public import proofs.«01_k».proof.Proof.Gen.GpostIdeal
public import proofs.«01_k».proof.Proof.Gen.GpostRefIdeal
public import proofs.«01_k».proof.Proof.Pr.HeadNorm
public import proofs.«01_k».proof.Proof.Pr.Product

@[expose] public section

noncomputable section

namespace Cert.Proof.Gpost

open Cert.GpostIdeal Cert.GpostIdeal.Gen Cert.GpostIdeal.Value
open Idealize.ShloMosaic Idealize.ShloMosaic.TcCoe Idealize.ShloMosaic.ValueIdx Idealize.SL.Sem
open Finset Pr HeadNorm

variable (m : (ℓ : Loc nD τ sig) → Buf (Elt Ideal) ℓ)

/-- Where the tiles lie. -/
theorem idx0 : ∀ t : Fin cfg0.N, win0_0.index t = ![t.val, 0] := (by decide +kernel : ∀ t : Fin grid0.N, _)
theorem idx1 : ∀ t : Fin cfg0.N, win0_1.index t = ![t.val, 3] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- The arguments, and their tiles. -/
def X (c : Dev nD) : S8192x1024.Idx → EReal := m ((c : Thread nD τ).loc main_arg0)
def Z (c : Dev nD) : S8192x4224.Idx → EReal := m ((c : Thread nD τ).loc main_arg1)
def G (c : Dev nD) : S1x128.Idx → EReal := m ((c : Thread nD τ).loc main_arg2)
def tileX (c : Dev nD) (t : Fin cfg0.N) : S512x1024.Idx → EReal := iblk m c 0 t
def tileZ (c : Dev nD) (t : Fin cfg0.N) : S512x1024.Idx → EReal := X0_1 m c t
def tileG (c : Dev nD) (t : Fin cfg0.N) : S1x128.Idx → EReal := iblk m c 2 t

/-- A tile's row is the array's row. -/
theorem rowX (c : Dev nD) (t : Fin cfg0.N) (p q : ℕ) (hp : p < 512) (hq : q < 1024) : rd (tileX m c t) p q = rd (X m c) (t.val * 512 + p) q := by
  have ht : t.val < 16 := t.isLt
  rw [at_rd (tileX m c t) p q hp hq, at_rd (X m c) (t.val * 512 + p) q (by omega) hq]
  unfold tileX X
  blk_point [iblk, V, idx0 t]
theorem rowG (c : Dev nD) (t : Fin cfg0.N) (q : ℕ) (hq : q < 128) : rd (tileG m c t) 0 q = rd (G m c) 0 q := by
  rw [at_rd (tileG m c t) 0 q (by omega) hq, at_rd (G m c) 0 q (by omega) hq]
  unfold tileG G
  blk_point [iblk, V, idx2 t]
theorem rowZ (c : Dev nD) (t : Fin cfg0.N) (p q : ℕ) (hp : p < 512) (hq : q < 1024) : rd (tileZ m c t) p q = rd (Z m c) (t.val * 512 + p) (3072 + q) := by
  have ht : t.val < 16 := t.isLt
  rw [at_rd (tileZ m c t) p q hp hq, at_rd (Z m c) (t.val * 512 + p) (3072 + q) (by omega) (by omega)]
  unfold tileZ Z X0_1
  unfold Pipeline.Window.fill
  rw [dif_pos (moved0_1 t _)]
  blk_point [iblk, V, idx1 t]

/-- What a tile holds after a point. -/
def gTile (P0 P1 : Vec Ideal S512x1024 .f32) (P2 : Vec Ideal S1x128 .f32) : FVec Ideal S512x1024 .bf16 :=
  truncf .bf16 (mulf (concatenate S512x1024 1 (List.ofFn fun n : Fin 8 => (⟨S512x128, Cert.QnormIdeal.Value.Cat2_0 P0 P2 n⟩ : (s : Shape) × (s.Idx → Elt Ideal .f32))) concatenates_S512x128_S512x128_S512x128_S512x128_S512x128_S512x128_S512x128_S512x128_S512x1024_d1)
    (mulf P1 (logistic P1))) bitsLt_bf16_f32

theorem out3 (c : Dev nD) (t : Fin cfg0.N) : (outsAt0 m c t) = gTile (iblk m c 0 t) (X0_1 m c t) (iblk m c 2 t) := by
  unfold outsAt0 out0_A_3
  frame_out
  rfl

theorem gTile_at (P0 P1 : Vec Ideal S512x1024 .f32) (P2 : Vec Ideal S1x128 .f32) (y : S512x1024.Idx) :
    (gTile P0 P1 P2 y : EReal) = HeadNorm.norm P0 P2 (y 0).val ((y 1).val / 128) ((y 1).val % 128) * (rd P1 (y 0).val (y 1).val * Ideal.logistic (rd P1 (y 0).val (y 1).val)) := by
  unfold gTile
  have e : ∀ h, concatenate S512x1024 1 (List.ofFn fun n : Fin 8 => (⟨S512x128, Cert.QnormIdeal.Value.Cat2_0 P0 P2 n⟩ : (s : Shape) × (s.Idx → Elt Ideal .f32))) h y
      = Cert.QnormIdeal.Value.Cat2_0 P0 P2 (Cert.QnormIdeal.Value.csel2_0 y) (Cert.QnormIdeal.Value.ix2_0 y) := fun h =>
    concatenate_ofFn_apply (t := S512x1024) (s₁ := S512x128) (1 : Fin 2) (Cert.QnormIdeal.Value.Cat2_0 P0 P2) _ rfl 128 rfl y (Cert.QnormIdeal.Value.csel2_0 y) rfl (Cert.QnormIdeal.Value.ix2_0 y) rfl
      (fun b hb => by match b with | ⟨0, _⟩ => rfl | ⟨1, _⟩ => exact absurd rfl hb)
  refine congrArg₂ (· * ·) ((e _).trans (HeadNorm.tile_at P0 P2 y)) ?_
  have r := rd_of P1 y (y 0).val (y 1).val rfl rfl
  exact congrArg (fun z => z * Ideal.logistic z) r

section Ref
open Cert.GpostRefIdeal.Read
/-- The reference at an entry. -/
theorem ref_at (A : S8192x1024.Idx → EReal) (B : S8192x4224.Idx → EReal) (C : S1x128.Idx → EReal) (i : S8192x1024.Idx) :
    val_main_v20 (F := Ideal) A B C i = HeadNorm.norm A C (i 0).val ((i 1).val / 128) ((i 1).val % 128)
      * (rd B (i 0).val (3072 + (i 1).val) * Ideal.logistic (rd B (i 0).val (3072 + (i 1).val))) := by
  have h0 : (i 0).val < 8192 := (i 0).isLt
  have h1 : (i 1).val < 1024 := (i 1).isLt
  have z : val_main_v16 (F := Ideal) B (idx_main_v19 i) = rd B (i 0).val (3072 + (i 1).val) := by
    rw [val_main_v16_apply, val_main_v0_apply]
    refine rd_of B _ _ _ ?_ ?_
    · show (((((i 0).val * 1024 + (i 1).val) / 1024) * 8 + ((i 0).val * 1024 + (i 1).val) / 128 % 8) * 128 + ((i 0).val * 1024 + (i 1).val) % 128) / 1024 = _
      omega
    · show 3072 + (((((i 0).val * 1024 + (i 1).val) / 1024) * 8 + ((i 0).val * 1024 + (i 1).val) / 128 % 8) * 128 + ((i 0).val * 1024 + (i 1).val) % 128) % 1024 = _
      omega
  have s : val_main_call0_v5 (F := Ideal) B (idx_main_v19 i) = Ideal.logistic (rd B (i 0).val (3072 + (i 1).val)) := by
    rw [val_main_call0_v5_apply, val_main_call0_v4_apply, val_main_call0_v3_apply, val_main_call0_v2_apply, val_main_call0_v1_apply, val_main_call0_v0_apply, z]
    show Ideal.div (Ideal.ofBits .f32 0x3F800000#32) (Ideal.ofBits .f32 0x3F800000#32 + Ideal.exp (-(rd B (i 0).val (3072 + (i 1).val)))) = _
    rw [show Ideal.ofBits .f32 0x3F800000#32 = 1 from Pr.one_bits]
    rfl
  rw [val_main_v20_apply]
  show val_main_v19 (F := Ideal) A B C i = _
  rw [val_main_v19_apply, val_main_v18_apply, val_main_v17_apply, z, s]
  refine congrArg (· * (rd B (i 0).val (3072 + (i 1).val) * Ideal.logistic (rd B (i 0).val (3072 + (i 1).val)))) ?_
  rw [val_main_v15_apply, val_main_v14_apply, val_main_v13_apply, val_main_v2_apply, val_main_v12_apply, val_main_v11_apply, val_main_v10_apply,
    val_main_v9_apply, val_main_v8_apply, val_main_v7_apply, val_main_v6_apply, val_main_v5_apply, val_main_v4_apply, val_main_v1_apply,
    rd_of C _ 0 ((i 1).val % 128) rfl (by show (((i 0).val * 1024 + (i 1).val) % 128) % 128 = _; omega),
    rd_of A _ (i 0).val (128 * ((i 1).val / 128) + (i 1).val % 128)
      (by show (((((i 0).val * 1024 + (i 1).val) / 1024) * 8 + ((i 0).val * 1024 + (i 1).val) / 128 % 8) * 128 + ((i 0).val * 1024 + (i 1).val) % 128) / 1024 = _; omega)
      (by show (((((i 0).val * 1024 + (i 1).val) / 1024) * 8 + ((i 0).val * 1024 + (i 1).val) / 128 % 8) * 128 + ((i 0).val * 1024 + (i 1).val) % 128) % 1024 = _; omega)]
  show rd A _ _ * Ideal.rsqrt (Ideal.div (Ideal.ofBits .f32 0x00000000#32 + ∑ k : Fin 128, _) (Ideal.ofBits .f32 0x43000000#32) + small) * _ = _
  rw [Ideal.ofBits_zero_f32, zero_add]
  unfold HeadNorm.norm hrs hrow
  refine congrArg (fun z => rd A (i 0).val (128 * ((i 1).val / 128) + (i 1).val % 128) * Ideal.rsqrt (Ideal.div z (Ideal.ofBits .f32 0x43000000#32) + small) * rd C 0 ((i 1).val % 128))
    (sum_congr rfl fun k _ => ?_)
  have hk : k.val < 128 := k.isLt
  rw [val_main_v3_apply, val_main_v1_apply, rd_of A _ (i 0).val (128 * ((i 1).val / 128) + k.val)
      (by show (((((i 0).val * 1024 + (i 1).val) / 1024) * 8 + ((i 0).val * 1024 + (i 1).val) / 128 % 8) * 128 + k.val) / 1024 = _; omega)
      (by show (((((i 0).val * 1024 + (i 1).val) / 1024) * 8 + ((i 0).val * 1024 + (i 1).val) / 128 % 8) * 128 + k.val) % 1024 = _; omega)]
  rfl
end Ref

/-- The kernel's result is the reference's. -/
theorem final (c : Dev nD) : (dats m 0 c).arrAt 3 cfg0.N = Cert.GpostRefIdeal.Read.val_main_v20 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out3]
  have y0 := idx2_lt0 y
  have y1 : (y 1).val < 1024 := (y 1).isLt
  have e0 : (((win0_3.blk t).view.emb y) 0).val = t.val * 512 + (y 0).val := by blk_simp [idx3 t]
  have e1 : (((win0_3.blk t).view.emb y) 1).val = (y 1).val := by blk_simp [idx3 t]
  refine (gTile_at _ _ _ y).trans (Eq.trans ?_ (ref_at _ _ _ _).symm)
  refine congrArg₂ (· * ·) ?_ (congrArg (fun z => z * Ideal.logistic z) ?_)
  · refine (norm_congr (by omega) (fun j hj => rowX m c t _ _ y0 (by omega)) (rowG m c t _ (by omega))).trans ?_
    exact congr (congrArg₂ (HeadNorm.norm (X m c) (G m c)) e0.symm (congrArg (· / 128) e1.symm)) (congrArg (· % 128) e1.symm)
  · refine (rowZ m c t _ _ y0 y1).trans ?_
    exact congrArg₂ (rd (Z m c)) e0.symm (congrArg (3072 + ·) e1.symm)

/-- The kernel and the reference agree. -/
theorem same : @Cert.algebraic_GpostIdeal_GpostRefIdeal Cert.GpostIdeal.Gen.facts Cert.GpostRefIdeal.Gen.facts := fun m ρ m' ρ' _ hin =>
  Pr.agree (run_blocks (F := Ideal) m ρ) (Cert.GpostRefIdeal.Value.run (F := Ideal) m' ρ') fun c => by
    rw [Cert.GpostRefIdeal.Read.val_main_v20_eq, (hin c).1, (hin c).2.1, (hin c).2.2]
    exact final m c

end Cert.Proof.Gpost

end
-- ==== Proof.Pr.Adam.lean ====
/- The optimiser's step on the packed shards: the kernel adds the eight parts one after another, a tile of rows at a time, the
   reference sums them over their axis. -/
module

public import proofs.«01_k».proof.Proof.Gen.AdamIdeal.Value
public import proofs.«01_k».proof.Proof.Gen.AdamRefIdeal.Read
public import proofs.«01_k».proof.Proof.Gen.AdamRefIdeal.Run
public import proofs.«01_k».proof.Defs
public import proofs.«01_k».proof.Proof.Gen.AdamIdeal
public import proofs.«01_k».proof.Proof.Gen.AdamRefIdeal
public import proofs.«01_k».proof.Proof.Pr.Product

@[expose] public section

noncomputable section

namespace Cert.Proof.Adam

open Cert.AdamIdeal Cert.AdamIdeal.Gen Cert.AdamIdeal.Value
open Idealize.ShloMosaic Idealize.ShloMosaic.TcCoe Idealize.ShloMosaic.ValueIdx Idealize.SL.Sem
open Finset Pr

variable (m : (ℓ : Loc nD τ sig) → Buf (Elt Ideal) ℓ)

/-- An entry's new first and second moment and its change, from its gradient. -/
def newm (g μ : EReal) : EReal := Ideal.ofBits .f32 0x3F666666#32 * μ + Ideal.ofBits .f32 0x3DCCCCCD#32 * g
def newv (g ν : EReal) : EReal := Ideal.ofBits .f32 0x3F7FBE77#32 * ν + Ideal.ofBits .f32 0x3A83126F#32 * (g * g)
def change (g ω μ ν : EReal) : EReal :=
  Ideal.ofBits .f32 0xBA83126F#32 * (Ideal.div (Ideal.div (newm g μ) (Ideal.ofBits .f32 0x3F26BD02#32))
    (Ideal.sqrt (Ideal.div (newv g ν) (Ideal.ofBits .f32 0x3C231ACC#32)) + Ideal.ofBits .f32 0x322BCC77#32) + Ideal.ofBits .f32 0x3C23D70A#32 * ω)

/-- Where the tiles lie. -/
theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The arguments, and their tiles. -/
def P (c : Dev nD) : S8x8704x1024.Idx → EReal := m ((c : Thread nD τ).loc main_arg0)
def W (c : Dev nD) : S8704x1024.Idx → EReal := m ((c : Thread nD τ).loc main_arg1)
def M (c : Dev nD) : S8704x1024.Idx → EReal := m ((c : Thread nD τ).loc main_arg2)
def U (c : Dev nD) : S8704x1024.Idx → EReal := m ((c : Thread nD τ).loc main_arg3)

theorem tileP (c : Dev nD) (t : Fin cfg0.N) (y : S8x256x1024.Idx) (i : S8x8704x1024.Idx) (e0 : (i 0).val = (y 0).val) (e1 : (i 1).val = t.val * 256 + (y 1).val)
    (e2 : (i 2).val = (y 2).val) : (iblk m c 0 t y : EReal) = P m c i := by
  unfold P
  blk_point [iblk, V, idx0 t]
theorem tileW (c : Dev nD) (t : Fin cfg0.N) (y : S256x1024.Idx) (i : S8704x1024.Idx) (e0 : (i 0).val = t.val * 256 + (y 0).val) (e1 : (i 1).val = (y 1).val) :
    (iblk m c 1 t y : EReal) = W m c i := by
  unfold W
  blk_point [iblk, V, idx1 t]
theorem tileM (c : Dev nD) (t : Fin cfg0.N) (y : S256x1024.Idx) (i : S8704x1024.Idx) (e0 : (i 0).val = t.val * 256 + (y 0).val) (e1 : (i 1).val = (y 1).val) :
    (iblk m c 2 t y : EReal) = M m c i := by
  unfold M
  blk_point [iblk, V, idx2 t]
theorem tileU (c : Dev nD) (t : Fin cfg0.N) (y : S256x1024.Idx) (i : S8704x1024.Idx) (e0 : (i 0).val = t.val * 256 + (y 0).val) (e1 : (i 1).val = (y 1).val) :
    (iblk m c 3 t y : EReal) = U m c i := by
  unfold U
  blk_point [iblk, V, idx3 t]

section Ref
open Cert.AdamRefIdeal.Read

/-- The sum of the parts at an entry. -/
def total (A : S8x8704x1024.Idx → EReal) (i : S8704x1024.Idx) : EReal := ∑ k : Fin 8, A (idx_main_v0 i k)
theorem ref_g (A : S8x8704x1024.Idx → EReal) (i : S8704x1024.Idx) : (val_main_v0 (F := Ideal) A i : EReal) = total A i := by
  rw [val_main_v0_apply]
  exact (congrArg (· + _) Ideal.ofBits_zero_f32).trans (zero_add _)
theorem ref_m (A : S8x8704x1024.Idx → EReal) (C : S8704x1024.Idx → EReal) (i : S8704x1024.Idx) : (val_main_v5 (F := Ideal) A C i : EReal) = newm (total A i) (C i) := by
  rw [val_main_v5_apply, val_main_v2_apply, val_main_v1_apply, val_main_v4_apply, val_main_v3_apply, ref_g]
  rfl
theorem ref_v (A : S8x8704x1024.Idx → EReal) (E : S8704x1024.Idx → EReal) (i : S8704x1024.Idx) : (val_main_v11 (F := Ideal) A E i : EReal) = newv (total A i) (E i) := by
  rw [val_main_v11_apply, val_main_v7_apply, val_main_v6_apply, val_main_v10_apply, val_main_v9_apply, val_main_v8_apply, ref_g]
  rfl
theorem ref_d (A : S8x8704x1024.Idx → EReal) (B C E : S8704x1024.Idx → EReal) (i : S8704x1024.Idx) :
    (val_main_v24 (F := Ideal) A B C E i : EReal) = change (total A i) (B i) (C i) (E i) := by
  rw [val_main_v24_apply, val_main_v23_apply, val_main_v22_apply, val_main_v21_apply, val_main_v20_apply, val_main_v19_apply, val_main_v18_apply, val_main_v17_apply,
    val_main_v16_apply, val_main_v15_apply, val_main_v14_apply, val_main_v13_apply, val_main_v12_apply, ref_m, ref_v]
  rfl
end Ref

theorem part0 (c : Dev nD) (t : Fin cfg0.N) (y : S256x1024.Idx) (i : S8704x1024.Idx) (e0 : (i 0).val = t.val * 256 + (y 0).val) (e1 : (i 1).val = (y 1).val) :
    (View.ld (iblk m c 0 t) r0_0 (ix4_0 y) : EReal) = P m c (Cert.AdamRefIdeal.Read.idx_main_v0 i 0) :=
  (View.ld_unit_apply_of _ _ _ _ _ (Idealize.ShloMosaic.ix3 (⟨0, by omega⟩ : Fin 8) (⟨(y 0).val, (y 0).isLt⟩ : Fin 256) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part1 (c : Dev nD) (t : Fin cfg0.N) (y : S256x1024.Idx) (i : S8704x1024.Idx) (e0 : (i 0).val = t.val * 256 + (y 0).val) (e1 : (i 1).val = (y 1).val) :
    (View.ld (iblk m c 0 t) r0_1 (ix4_1 y) : EReal) = P m c (Cert.AdamRefIdeal.Read.idx_main_v0 i 1) :=
  (View.ld_unit_apply_of _ _ _ _ _ (Idealize.ShloMosaic.ix3 (⟨1, by omega⟩ : Fin 8) (⟨(y 0).val, (y 0).isLt⟩ : Fin 256) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part2 (c : Dev nD) (t : Fin cfg0.N) (y : S256x1024.Idx) (i : S8704x1024.Idx) (e0 : (i 0).val = t.val * 256 + (y 0).val) (e1 : (i 1).val = (y 1).val) :
    (View.ld (iblk m c 0 t) r0_2 (ix4_2 y) : EReal) = P m c (Cert.AdamRefIdeal.Read.idx_main_v0 i 2) :=
  (View.ld_unit_apply_of _ _ _ _ _ (Idealize.ShloMosaic.ix3 (⟨2, by omega⟩ : Fin 8) (⟨(y 0).val, (y 0).isLt⟩ : Fin 256) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part3 (c : Dev nD) (t : Fin cfg0.N) (y : S256x1024.Idx) (i : S8704x1024.Idx) (e0 : (i 0).val = t.val * 256 + (y 0).val) (e1 : (i 1).val = (y 1).val) :
    (View.ld (iblk m c 0 t) r0_3 (ix4_3 y) : EReal) = P m c (Cert.AdamRefIdeal.Read.idx_main_v0 i 3) :=
  (View.ld_unit_apply_of _ _ _ _ _ (Idealize.ShloMosaic.ix3 (⟨3, by omega⟩ : Fin 8) (⟨(y 0).val, (y 0).isLt⟩ : Fin 256) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part4 (c : Dev nD) (t : Fin cfg0.N) (y : S256x1024.Idx) (i : S8704x1024.Idx) (e0 : (i 0).val = t.val * 256 + (y 0).val) (e1 : (i 1).val = (y 1).val) :
    (View.ld (iblk m c 0 t) r0_4 (ix4_4 y) : EReal) = P m c (Cert.AdamRefIdeal.Read.idx_main_v0 i 4) :=
  (View.ld_unit_apply_of _ _ _ _ _ (Idealize.ShloMosaic.ix3 (⟨4, by omega⟩ : Fin 8) (⟨(y 0).val, (y 0).isLt⟩ : Fin 256) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part5 (c : Dev nD) (t : Fin cfg0.N) (y : S256x1024.Idx) (i : S8704x1024.Idx) (e0 : (i 0).val = t.val * 256 + (y 0).val) (e1 : (i 1).val = (y 1).val) :
    (View.ld (iblk m c 0 t) r0_5 (ix4_5 y) : EReal) = P m c (Cert.AdamRefIdeal.Read.idx_main_v0 i 5) :=
  (View.ld_unit_apply_of _ _ _ _ _ (Idealize.ShloMosaic.ix3 (⟨5, by omega⟩ : Fin 8) (⟨(y 0).val, (y 0).isLt⟩ : Fin 256) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part6 (c : Dev nD) (t : Fin cfg0.N) (y : S256x1024.Idx) (i : S8704x1024.Idx) (e0 : (i 0).val = t.val * 256 + (y 0).val) (e1 : (i 1).val = (y 1).val) :
    (View.ld (iblk m c 0 t) r0_6 (ix4_6 y) : EReal) = P m c (Cert.AdamRefIdeal.Read.idx_main_v0 i 6) :=
  (View.ld_unit_apply_of _ _ _ _ _ (Idealize.ShloMosaic.ix3 (⟨6, by omega⟩ : Fin 8) (⟨(y 0).val, (y 0).isLt⟩ : Fin 256) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part7 (c : Dev nD) (t : Fin cfg0.N) (y : S256x1024.Idx) (i : S8704x1024.Idx) (e0 : (i 0).val = t.val * 256 + (y 0).val) (e1 : (i 1).val = (y 1).val) :
    (View.ld (iblk m c 0 t) r0_7 (ix4_7 y) : EReal) = P m c (Cert.AdamRefIdeal.Read.idx_main_v0 i 7) :=
  (View.ld_unit_apply_of _ _ _ _ _ (Idealize.ShloMosaic.ix3 (⟨7, by omega⟩ : Fin 8) (⟨(y 0).val, (y 0).isLt⟩ : Fin 256) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)

/-- The tile's sum of the parts is the sum over their axis. -/
theorem tileG (c : Dev nD) (t : Fin cfg0.N) (y : S256x1024.Idx) (i : S8704x1024.Idx) (e0 : (i 0).val = t.val * 256 + (y 0).val) (e1 : (i 1).val = (y 1).val) :
    (E4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y : EReal) = total (P m c) i := by
  unfold total
  rw [Fin.sum_univ_eight, ← part0 m c t y i e0 e1, ← part1 m c t y i e0 e1, ← part2 m c t y i e0 e1, ← part3 m c t y i e0 e1, ← part4 m c t y i e0 e1,
    ← part5 m c t y i e0 e1, ← part6 m c t y i e0 e1, ← part7 m c t y i e0 e1]
  rfl

theorem at5 (w μ ν : S256x1024.Idx → EReal) (A0 A1 A2 A3 A4 A5 A6 A7 : S1x256x1024.Idx → EReal) (y : S256x1024.Idx) :
    (E5 (F := Ideal) μ A0 A1 A2 A3 A4 A5 A6 A7 ν w y : EReal) = change (E4 (F := Ideal) A0 A1 A2 A3 A4 A5 A6 A7 y) (w (ix5_26 y)) (μ (ix5_0 y)) (ν (ix5_9 y)) := rfl
theorem at6 (μ : S256x1024.Idx → EReal) (A0 A1 A2 A3 A4 A5 A6 A7 : S1x256x1024.Idx → EReal) (y : S256x1024.Idx) :
    (E6 (F := Ideal) μ A0 A1 A2 A3 A4 A5 A6 A7 y : EReal) = newm (E4 (F := Ideal) A0 A1 A2 A3 A4 A5 A6 A7 y) (μ (ix6_0 y)) := rfl
theorem at7 (ν : S256x1024.Idx → EReal) (A0 A1 A2 A3 A4 A5 A6 A7 : S1x256x1024.Idx → EReal) (y : S256x1024.Idx) :
    (E7 (F := Ideal) ν A0 A1 A2 A3 A4 A5 A6 A7 y : EReal) = newv (E4 (F := Ideal) A0 A1 A2 A3 A4 A5 A6 A7 y) (ν (ix7_0 y)) := rfl

theorem final4 (c : Dev nD) : (dats m 0 c).arrAt 4 cfg0.N = Cert.AdamRefIdeal.Read.val_main_v0 (F := Ideal) (m ((c : Thread nD τ).loc main_arg0)) := by
  refine (dats m 0 c).arrAt_eq_of_covers 4 _ (by decide +kernel) fun t hf y => ?_
  blk_simp
  rw [after0_4]
  unfold out0_4
  refine (canon4_eq _ _ _ _ _ _ _ _ y).trans ?_
  simp (disch := decide) only [View.ld_unit_lit']
  have e0 : (((win0_4.blk t).view.emb y) 0).val = t.val * 256 + (y 0).val := by blk_simp [idx4 t]
  have e1 : (((win0_4.blk t).view.emb y) 1).val = (y 1).val := by blk_simp [idx4 t]
  exact (tileG m c t y _ e0 e1).trans (ref_g _ _).symm

theorem final5 (c : Dev nD) : (dats m 0 c).arrAt 5 cfg0.N = Cert.AdamRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  refine (canon5_eq _ _ _ _ _ _ _ _ _ _ _ y).trans ?_
  simp (disch := decide) only [View.ld_unit_lit']
  have e0 : (((win0_5.blk t).view.emb y) 0).val = t.val * 256 + (y 0).val := by blk_simp [idx5 t]
  have e1 : (((win0_5.blk t).view.emb y) 1).val = (y 1).val := by blk_simp [idx5 t]
  refine (at5 _ _ _ _ _ _ _ _ _ _ _ y).trans (Eq.trans ?_ (ref_d _ _ _ _ _).symm)
  exact congr (congr (congrArg₂ change (tileG m c t y _ e0 e1) (tileW m c t _ _ e0 e1)) (tileM m c t _ _ e0 e1)) (tileU m c t _ _ e0 e1)

theorem final6 (c : Dev nD) : (dats m 0 c).arrAt 6 cfg0.N = Cert.AdamRefIdeal.Read.val_main_v5 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  refine (canon6_eq _ _ _ _ _ _ _ _ _ y).trans ?_
  simp (disch := decide) only [View.ld_unit_lit']
  have e0 : (((win0_6.blk t).view.emb y) 0).val = t.val * 256 + (y 0).val := by blk_simp [idx6 t]
  have e1 : (((win0_6.blk t).view.emb y) 1).val = (y 1).val := by blk_simp [idx6 t]
  refine (at6 _ _ _ _ _ _ _ _ _ y).trans (Eq.trans ?_ (ref_m _ _ _).symm)
  exact congrArg₂ newm (tileG m c t y _ e0 e1) (tileM m c t _ _ e0 e1)

theorem final7 (c : Dev nD) : (dats m 0 c).arrAt 7 cfg0.N = Cert.AdamRefIdeal.Read.val_main_v11 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  refine (canon7_eq _ _ _ _ _ _ _ _ _ y).trans ?_
  simp (disch := decide) only [View.ld_unit_lit']
  have e0 : (((win0_7.blk t).view.emb y) 0).val = t.val * 256 + (y 0).val := by blk_simp [idx7 t]
  have e1 : (((win0_7.blk t).view.emb y) 1).val = (y 1).val := by blk_simp [idx7 t]
  refine (at7 _ _ _ _ _ _ _ _ _ y).trans (Eq.trans ?_ (ref_v _ _ _).symm)
  exact congrArg₂ newv (tileG m c t y _ e0 e1) (tileU m c t _ _ e0 e1)

/-- The kernel and the reference agree. -/
theorem same : @Cert.algebraic_AdamIdeal_AdamRefIdeal Cert.AdamIdeal.Gen.facts Cert.AdamRefIdeal.Gen.facts := by
  intro m ρ m' ρ' _ hin
  refine ⟨fun c => Cert.AdamRefIdeal.Read.val_main_v0 (F := Ideal) (m ((c : Thread nD τ).loc main_arg0)),
    fun c => Cert.AdamRefIdeal.Read.val_main_v24 (F := Ideal) (m ((c : Thread nD τ).loc main_arg0)) (m ((c : Thread nD τ).loc main_arg1)) (m ((c : Thread nD τ).loc main_arg2)) (m ((c : Thread nD τ).loc main_arg3)),
    fun c => Cert.AdamRefIdeal.Read.val_main_v5 (F := Ideal) (m ((c : Thread nD τ).loc main_arg0)) (m ((c : Thread nD τ).loc main_arg2)),
    fun c => Cert.AdamRefIdeal.Read.val_main_v11 (F := Ideal) (m ((c : Thread nD τ).loc main_arg0)) (m ((c : Thread nD τ).loc main_arg3)), ?_, ?_⟩
  · exact (θ_run Cert.AdamIdeal.defs _ _).mono (fun r h c => ⟨(h c).1.trans (final4 m c), (h c).2.1.trans (final5 m c), (h c).2.2.1.trans (final6 m c), (h c).2.2.2.1.trans (final7 m c), (h c).2.2.2.2⟩) (run_blocks (F := Ideal) m ρ)
  · refine (θ_run Cert.AdamRefIdeal.defs _ _).mono (fun r h c => ⟨(h c).1.trans ?_, (h c).2.1.trans ?_, (h c).2.2.1.trans ?_, (h c).2.2.2.1.trans ?_, (h c).2.2.2.2⟩) (Cert.AdamRefIdeal.Value.run (F := Ideal) m' ρ')
    · rw [Cert.AdamRefIdeal.Read.val_main_v0_eq, (hin c).1]
    · rw [Cert.AdamRefIdeal.Read.val_main_v24_eq, (hin c).1, (hin c).2.1, (hin c).2.2.1, (hin c).2.2.2]
    · rw [Cert.AdamRefIdeal.Read.val_main_v5_eq, (hin c).1, (hin c).2.2.1]
    · rw [Cert.AdamRefIdeal.Read.val_main_v11_eq, (hin c).1, (hin c).2.2.2]

end Cert.Proof.Adam

end
-- ==== Proof.Pr.Adamr.lean ====
/- The optimiser's step on the packed replicated weights: the kernel adds the eight parts one after another, the
   reference sums them over their axis. -/
module

public import proofs.«01_k».proof.Proof.Gen.AdamrIdeal.Value
public import proofs.«01_k».proof.Proof.Gen.AdamrRefIdeal.Read
public import proofs.«01_k».proof.Proof.Gen.AdamrRefIdeal.Run
public import proofs.«01_k».proof.Defs
public import proofs.«01_k».proof.Proof.Gen.AdamrIdeal
public import proofs.«01_k».proof.Proof.Gen.AdamrRefIdeal
public import proofs.«01_k».proof.Proof.Pr.Product

@[expose] public section

noncomputable section

namespace Cert.Proof.Adamr

open Cert.AdamrIdeal Cert.AdamrIdeal.Gen Cert.AdamrIdeal.Value
open Idealize.ShloMosaic Idealize.ShloMosaic.TcCoe Idealize.ShloMosaic.ValueIdx Idealize.SL.Sem
open Finset Pr

variable (m : (ℓ : Loc nD τ sig) → Buf (Elt Ideal) ℓ)

/-- An entry's new first and second moment and its change, from its gradient. -/
def newm (g μ : EReal) : EReal := Ideal.ofBits .f32 0x3F666666#32 * μ + Ideal.ofBits .f32 0x3DCCCCCD#32 * g
def newv (g ν : EReal) : EReal := Ideal.ofBits .f32 0x3F7FBE77#32 * ν + Ideal.ofBits .f32 0x3A83126F#32 * (g * g)
def change (g ω μ ν : EReal) : EReal :=
  Ideal.ofBits .f32 0xBA83126F#32 * (Ideal.div (Ideal.div (newm g μ) (Ideal.ofBits .f32 0x3F26BD02#32))
    (Ideal.sqrt (Ideal.div (newv g ν) (Ideal.ofBits .f32 0x3C231ACC#32)) + Ideal.ofBits .f32 0x322BCC77#32) + Ideal.ofBits .f32 0x3C23D70A#32 * ω)

/-- Where the tiles lie. -/
theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The arguments, and their tiles. -/
def P (c : Dev nD) : S8x64x1024.Idx → EReal := m ((c : Thread nD τ).loc main_arg0)
def W (c : Dev nD) : S64x1024.Idx → EReal := m ((c : Thread nD τ).loc main_arg1)
def M (c : Dev nD) : S64x1024.Idx → EReal := m ((c : Thread nD τ).loc main_arg2)
def U (c : Dev nD) : S64x1024.Idx → EReal := m ((c : Thread nD τ).loc main_arg3)

theorem tileP (c : Dev nD) (t : Fin cfg0.N) (y : S8x64x1024.Idx) (i : S8x64x1024.Idx) (e0 : (i 0).val = (y 0).val) (e1 : (i 1).val = t.val * 64 + (y 1).val)
    (e2 : (i 2).val = (y 2).val) : (iblk m c 0 t y : EReal) = P m c i := by
  unfold P
  blk_point [iblk, V, idx0 t]
theorem tileW (c : Dev nD) (t : Fin cfg0.N) (y : S64x1024.Idx) (i : S64x1024.Idx) (e0 : (i 0).val = t.val * 64 + (y 0).val) (e1 : (i 1).val = (y 1).val) :
    (iblk m c 1 t y : EReal) = W m c i := by
  unfold W
  blk_point [iblk, V, idx1 t]
theorem tileM (c : Dev nD) (t : Fin cfg0.N) (y : S64x1024.Idx) (i : S64x1024.Idx) (e0 : (i 0).val = t.val * 64 + (y 0).val) (e1 : (i 1).val = (y 1).val) :
    (iblk m c 2 t y : EReal) = M m c i := by
  unfold M
  blk_point [iblk, V, idx2 t]
theorem tileU (c : Dev nD) (t : Fin cfg0.N) (y : S64x1024.Idx) (i : S64x1024.Idx) (e0 : (i 0).val = t.val * 64 + (y 0).val) (e1 : (i 1).val = (y 1).val) :
    (iblk m c 3 t y : EReal) = U m c i := by
  unfold U
  blk_point [iblk, V, idx3 t]

section Ref
open Cert.AdamrRefIdeal.Read

/-- The sum of the parts at an entry. -/
def total (A : S8x64x1024.Idx → EReal) (i : S64x1024.Idx) : EReal := ∑ k : Fin 8, A (idx_main_v0 i k)
theorem ref_g (A : S8x64x1024.Idx → EReal) (i : S64x1024.Idx) : (val_main_v0 (F := Ideal) A i : EReal) = total A i := by
  rw [val_main_v0_apply]
  exact (congrArg (· + _) Ideal.ofBits_zero_f32).trans (zero_add _)
theorem ref_m (A : S8x64x1024.Idx → EReal) (C : S64x1024.Idx → EReal) (i : S64x1024.Idx) : (val_main_v5 (F := Ideal) A C i : EReal) = newm (total A i) (C i) := by
  rw [val_main_v5_apply, val_main_v2_apply, val_main_v1_apply, val_main_v4_apply, val_main_v3_apply, ref_g]
  rfl
theorem ref_v (A : S8x64x1024.Idx → EReal) (E : S64x1024.Idx → EReal) (i : S64x1024.Idx) : (val_main_v11 (F := Ideal) A E i : EReal) = newv (total A i) (E i) := by
  rw [val_main_v11_apply, val_main_v7_apply, val_main_v6_apply, val_main_v10_apply, val_main_v9_apply, val_main_v8_apply, ref_g]
  rfl
theorem ref_d (A : S8x64x1024.Idx → EReal) (B C E : S64x1024.Idx → EReal) (i : S64x1024.Idx) :
    (val_main_v24 (F := Ideal) A B C E i : EReal) = change (total A i) (B i) (C i) (E i) := by
  rw [val_main_v24_apply, val_main_v23_apply, val_main_v22_apply, val_main_v21_apply, val_main_v20_apply, val_main_v19_apply, val_main_v18_apply, val_main_v17_apply,
    val_main_v16_apply, val_main_v15_apply, val_main_v14_apply, val_main_v13_apply, val_main_v12_apply, ref_m, ref_v]
  rfl
end Ref

theorem part0 (c : Dev nD) (t : Fin cfg0.N) (y : S64x1024.Idx) (i : S64x1024.Idx) (e0 : (i 0).val = t.val * 64 + (y 0).val) (e1 : (i 1).val = (y 1).val) :
    (View.ld (iblk m c 0 t) r0_0 (ix4_0 y) : EReal) = P m c (Cert.AdamrRefIdeal.Read.idx_main_v0 i 0) :=
  (View.ld_unit_apply_of _ _ _ _ _ (Idealize.ShloMosaic.ix3 (⟨0, by omega⟩ : Fin 8) (⟨(y 0).val, (y 0).isLt⟩ : Fin 64) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part1 (c : Dev nD) (t : Fin cfg0.N) (y : S64x1024.Idx) (i : S64x1024.Idx) (e0 : (i 0).val = t.val * 64 + (y 0).val) (e1 : (i 1).val = (y 1).val) :
    (View.ld (iblk m c 0 t) r0_1 (ix4_1 y) : EReal) = P m c (Cert.AdamrRefIdeal.Read.idx_main_v0 i 1) :=
  (View.ld_unit_apply_of _ _ _ _ _ (Idealize.ShloMosaic.ix3 (⟨1, by omega⟩ : Fin 8) (⟨(y 0).val, (y 0).isLt⟩ : Fin 64) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part2 (c : Dev nD) (t : Fin cfg0.N) (y : S64x1024.Idx) (i : S64x1024.Idx) (e0 : (i 0).val = t.val * 64 + (y 0).val) (e1 : (i 1).val = (y 1).val) :
    (View.ld (iblk m c 0 t) r0_2 (ix4_2 y) : EReal) = P m c (Cert.AdamrRefIdeal.Read.idx_main_v0 i 2) :=
  (View.ld_unit_apply_of _ _ _ _ _ (Idealize.ShloMosaic.ix3 (⟨2, by omega⟩ : Fin 8) (⟨(y 0).val, (y 0).isLt⟩ : Fin 64) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part3 (c : Dev nD) (t : Fin cfg0.N) (y : S64x1024.Idx) (i : S64x1024.Idx) (e0 : (i 0).val = t.val * 64 + (y 0).val) (e1 : (i 1).val = (y 1).val) :
    (View.ld (iblk m c 0 t) r0_3 (ix4_3 y) : EReal) = P m c (Cert.AdamrRefIdeal.Read.idx_main_v0 i 3) :=
  (View.ld_unit_apply_of _ _ _ _ _ (Idealize.ShloMosaic.ix3 (⟨3, by omega⟩ : Fin 8) (⟨(y 0).val, (y 0).isLt⟩ : Fin 64) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part4 (c : Dev nD) (t : Fin cfg0.N) (y : S64x1024.Idx) (i : S64x1024.Idx) (e0 : (i 0).val = t.val * 64 + (y 0).val) (e1 : (i 1).val = (y 1).val) :
    (View.ld (iblk m c 0 t) r0_4 (ix4_4 y) : EReal) = P m c (Cert.AdamrRefIdeal.Read.idx_main_v0 i 4) :=
  (View.ld_unit_apply_of _ _ _ _ _ (Idealize.ShloMosaic.ix3 (⟨4, by omega⟩ : Fin 8) (⟨(y 0).val, (y 0).isLt⟩ : Fin 64) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part5 (c : Dev nD) (t : Fin cfg0.N) (y : S64x1024.Idx) (i : S64x1024.Idx) (e0 : (i 0).val = t.val * 64 + (y 0).val) (e1 : (i 1).val = (y 1).val) :
    (View.ld (iblk m c 0 t) r0_5 (ix4_5 y) : EReal) = P m c (Cert.AdamrRefIdeal.Read.idx_main_v0 i 5) :=
  (View.ld_unit_apply_of _ _ _ _ _ (Idealize.ShloMosaic.ix3 (⟨5, by omega⟩ : Fin 8) (⟨(y 0).val, (y 0).isLt⟩ : Fin 64) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part6 (c : Dev nD) (t : Fin cfg0.N) (y : S64x1024.Idx) (i : S64x1024.Idx) (e0 : (i 0).val = t.val * 64 + (y 0).val) (e1 : (i 1).val = (y 1).val) :
    (View.ld (iblk m c 0 t) r0_6 (ix4_6 y) : EReal) = P m c (Cert.AdamrRefIdeal.Read.idx_main_v0 i 6) :=
  (View.ld_unit_apply_of _ _ _ _ _ (Idealize.ShloMosaic.ix3 (⟨6, by omega⟩ : Fin 8) (⟨(y 0).val, (y 0).isLt⟩ : Fin 64) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)
theorem part7 (c : Dev nD) (t : Fin cfg0.N) (y : S64x1024.Idx) (i : S64x1024.Idx) (e0 : (i 0).val = t.val * 64 + (y 0).val) (e1 : (i 1).val = (y 1).val) :
    (View.ld (iblk m c 0 t) r0_7 (ix4_7 y) : EReal) = P m c (Cert.AdamrRefIdeal.Read.idx_main_v0 i 7) :=
  (View.ld_unit_apply_of _ _ _ _ _ (Idealize.ShloMosaic.ix3 (⟨7, by omega⟩ : Fin 8) (⟨(y 0).val, (y 0).isLt⟩ : Fin 64) (⟨(y 1).val, (y 1).isLt⟩ : Fin 1024)) fun a => by match a with | ⟨0, _⟩ => rfl | ⟨1, _⟩ => exact (Nat.zero_add _).symm | ⟨2, _⟩ => exact (Nat.zero_add _).symm).trans
    (tileP m c t _ _ rfl e0 e1)

/-- The tile's sum of the parts is the sum over their axis. -/
theorem tileG (c : Dev nD) (t : Fin cfg0.N) (y : S64x1024.Idx) (i : S64x1024.Idx) (e0 : (i 0).val = t.val * 64 + (y 0).val) (e1 : (i 1).val = (y 1).val) :
    (E4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y : EReal) = total (P m c) i := by
  unfold total
  rw [Fin.sum_univ_eight, ← part0 m c t y i e0 e1, ← part1 m c t y i e0 e1, ← part2 m c t y i e0 e1, ← part3 m c t y i e0 e1, ← part4 m c t y i e0 e1,
    ← part5 m c t y i e0 e1, ← part6 m c t y i e0 e1, ← part7 m c t y i e0 e1]
  rfl

theorem at5 (w μ ν : S64x1024.Idx → EReal) (A0 A1 A2 A3 A4 A5 A6 A7 : S1x64x1024.Idx → EReal) (y : S64x1024.Idx) :
    (E5 (F := Ideal) μ A0 A1 A2 A3 A4 A5 A6 A7 ν w y : EReal) = change (E4 (F := Ideal) A0 A1 A2 A3 A4 A5 A6 A7 y) (w (ix5_26 y)) (μ (ix5_0 y)) (ν (ix5_9 y)) := rfl
theorem at6 (μ : S64x1024.Idx → EReal) (A0 A1 A2 A3 A4 A5 A6 A7 : S1x64x1024.Idx → EReal) (y : S64x1024.Idx) :
    (E6 (F := Ideal) μ A0 A1 A2 A3 A4 A5 A6 A7 y : EReal) = newm (E4 (F := Ideal) A0 A1 A2 A3 A4 A5 A6 A7 y) (μ (ix6_0 y)) := rfl
theorem at7 (ν : S64x1024.Idx → EReal) (A0 A1 A2 A3 A4 A5 A6 A7 : S1x64x1024.Idx → EReal) (y : S64x1024.Idx) :
    (E7 (F := Ideal) ν A0 A1 A2 A3 A4 A5 A6 A7 y : EReal) = newv (E4 (F := Ideal) A0 A1 A2 A3 A4 A5 A6 A7 y) (ν (ix7_0 y)) := rfl

theorem final4 (c : Dev nD) : (dats m 0 c).arrAt 4 cfg0.N = Cert.AdamrRefIdeal.Read.val_main_v0 (F := Ideal) (m ((c : Thread nD τ).loc main_arg0)) := by
  refine (dats m 0 c).arrAt_eq_of_covers 4 _ (by decide +kernel) fun t hf y => ?_
  blk_simp
  rw [after0_4]
  unfold out0_4
  refine (canon4_eq _ _ _ _ _ _ _ _ y).trans ?_
  simp (disch := decide) only [View.ld_unit_lit']
  have e0 : (((win0_4.blk t).view.emb y) 0).val = t.val * 64 + (y 0).val := by blk_simp [idx4 t]
  have e1 : (((win0_4.blk t).view.emb y) 1).val = (y 1).val := by blk_simp [idx4 t]
  exact (tileG m c t y _ e0 e1).trans (ref_g _ _).symm

theorem final5 (c : Dev nD) : (dats m 0 c).arrAt 5 cfg0.N = Cert.AdamrRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  refine (canon5_eq _ _ _ _ _ _ _ _ _ _ _ y).trans ?_
  simp (disch := decide) only [View.ld_unit_lit']
  have e0 : (((win0_5.blk t).view.emb y) 0).val = t.val * 64 + (y 0).val := by blk_simp [idx5 t]
  have e1 : (((win0_5.blk t).view.emb y) 1).val = (y 1).val := by blk_simp [idx5 t]
  refine (at5 _ _ _ _ _ _ _ _ _ _ _ y).trans (Eq.trans ?_ (ref_d _ _ _ _ _).symm)
  exact congr (congr (congrArg₂ change (tileG m c t y _ e0 e1) (tileW m c t _ _ e0 e1)) (tileM m c t _ _ e0 e1)) (tileU m c t _ _ e0 e1)

theorem final6 (c : Dev nD) : (dats m 0 c).arrAt 6 cfg0.N = Cert.AdamrRefIdeal.Read.val_main_v5 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  refine (canon6_eq _ _ _ _ _ _ _ _ _ y).trans ?_
  simp (disch := decide) only [View.ld_unit_lit']
  have e0 : (((win0_6.blk t).view.emb y) 0).val = t.val * 64 + (y 0).val := by blk_simp [idx6 t]
  have e1 : (((win0_6.blk t).view.emb y) 1).val = (y 1).val := by blk_simp [idx6 t]
  refine (at6 _ _ _ _ _ _ _ _ _ y).trans (Eq.trans ?_ (ref_m _ _ _).symm)
  exact congrArg₂ newm (tileG m c t y _ e0 e1) (tileM m c t _ _ e0 e1)

theorem final7 (c : Dev nD) : (dats m 0 c).arrAt 7 cfg0.N = Cert.AdamrRefIdeal.Read.val_main_v11 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  refine (canon7_eq _ _ _ _ _ _ _ _ _ y).trans ?_
  simp (disch := decide) only [View.ld_unit_lit']
  have e0 : (((win0_7.blk t).view.emb y) 0).val = t.val * 64 + (y 0).val := by blk_simp [idx7 t]
  have e1 : (((win0_7.blk t).view.emb y) 1).val = (y 1).val := by blk_simp [idx7 t]
  refine (at7 _ _ _ _ _ _ _ _ _ y).trans (Eq.trans ?_ (ref_v _ _ _).symm)
  exact congrArg₂ newv (tileG m c t y _ e0 e1) (tileU m c t _ _ e0 e1)

/-- The kernel and the reference agree. -/
theorem same : @Cert.algebraic_AdamrIdeal_AdamrRefIdeal Cert.AdamrIdeal.Gen.facts Cert.AdamrRefIdeal.Gen.facts := by
  intro m ρ m' ρ' _ hin
  refine ⟨fun c => Cert.AdamrRefIdeal.Read.val_main_v0 (F := Ideal) (m ((c : Thread nD τ).loc main_arg0)),
    fun c => Cert.AdamrRefIdeal.Read.val_main_v24 (F := Ideal) (m ((c : Thread nD τ).loc main_arg0)) (m ((c : Thread nD τ).loc main_arg1)) (m ((c : Thread nD τ).loc main_arg2)) (m ((c : Thread nD τ).loc main_arg3)),
    fun c => Cert.AdamrRefIdeal.Read.val_main_v5 (F := Ideal) (m ((c : Thread nD τ).loc main_arg0)) (m ((c : Thread nD τ).loc main_arg2)),
    fun c => Cert.AdamrRefIdeal.Read.val_main_v11 (F := Ideal) (m ((c : Thread nD τ).loc main_arg0)) (m ((c : Thread nD τ).loc main_arg3)), ?_, ?_⟩
  · exact (θ_run Cert.AdamrIdeal.defs _ _).mono (fun r h c => ⟨(h c).1.trans (final4 m c), (h c).2.1.trans (final5 m c), (h c).2.2.1.trans (final6 m c), (h c).2.2.2.1.trans (final7 m c), (h c).2.2.2.2⟩) (run_blocks (F := Ideal) m ρ)
  · refine (θ_run Cert.AdamrRefIdeal.defs _ _).mono (fun r h c => ⟨(h c).1.trans ?_, (h c).2.1.trans ?_, (h c).2.2.1.trans ?_, (h c).2.2.2.1.trans ?_, (h c).2.2.2.2⟩) (Cert.AdamrRefIdeal.Value.run (F := Ideal) m' ρ')
    · rw [Cert.AdamrRefIdeal.Read.val_main_v0_eq, (hin c).1]
    · rw [Cert.AdamrRefIdeal.Read.val_main_v24_eq, (hin c).1, (hin c).2.1, (hin c).2.2.1, (hin c).2.2.2]
    · rw [Cert.AdamrRefIdeal.Read.val_main_v5_eq, (hin c).1, (hin c).2.2.1]
    · rw [Cert.AdamrRefIdeal.Read.val_main_v11_eq, (hin c).1, (hin c).2.2.2]

end Cert.Proof.Adamr

end
-- ==== Proof.Pr.Mid.lean ====
/- A feed-forward block's middle: the kernel works tiles of both halves with the eight rows before each, the reference
   shifts the whole array. -/
module

public import proofs.«01_k».proof.Proof.Gen.MidIdeal.Value
public import proofs.«01_k».proof.Proof.Gen.MidRefIdeal.Read
public import proofs.«01_k».proof.Defs
public import proofs.«01_k».proof.Proof.Gen.MidIdeal
public import proofs.«01_k».proof.Proof.Gen.MidRefIdeal
public import proofs.«01_k».proof.Proof.Pr.Dmid
public import Idealize.ShloMosaic.Lib.Pipeline.ValueKit
public import proofs.«01_k».proof.Proof.Pr.Product

@[expose] public section

noncomputable section

namespace Cert.Proof.Mid

open Cert.MidIdeal Cert.MidIdeal.Gen Cert.MidIdeal.Value
open Idealize.ShloMosaic Idealize.ShloMosaic.TcCoe Idealize.ShloMosaic.ValueIdx Idealize.SL.Sem
open Finset Pr Dmid

variable (m : (ℓ : Loc nD τ sig) → Buf (Elt Ideal) ℓ)

/-- This reference's convolution is the one of the backward call's reference. -/
theorem ref_conv (X : S8192x5632.Idx → EReal) (W : S3x5632.Idx → EReal) (i : S8192x5632.Idx) :
    Cert.MidRefIdeal.Read.val_main_v23 (F := Ideal) X W i = conv X W (i 0).val (i 1).val :=
  (show Cert.MidRefIdeal.Read.val_main_v23 (F := Ideal) X W i = Cert.DmidRefIdeal.Read.val_main_v23 (F := Ideal) X W i from rfl).trans (Dmid.ref_conv X W i)

/-- The gated product of two numbers. -/
def gated (g u : EReal) : EReal := g * Ideal.logistic g * u

/-- The reference at an entry. -/
theorem ref_at (X : S8192x5632.Idx → EReal) (W : S3x5632.Idx → EReal) (k : S8192x2816.Idx) :
    Cert.MidRefIdeal.Read.val_main_v28 (F := Ideal) X W k = gated (conv X W (k 0).val (k 1).val) (conv X W (k 0).val (2816 + (k 1).val)) := by
  have eg : Cert.MidRefIdeal.Read.val_main_v24 (F := Ideal) X W k = conv X W (k 0).val (k 1).val := by
    rw [Cert.MidRefIdeal.Read.val_main_v24_apply, ref_conv]
  have eu : Cert.MidRefIdeal.Read.val_main_v25 (F := Ideal) X W k = conv X W (k 0).val (2816 + (k 1).val) := by
    rw [Cert.MidRefIdeal.Read.val_main_v25_apply, ref_conv]
  rw [Cert.MidRefIdeal.Read.val_main_v28_apply, Cert.MidRefIdeal.Read.val_main_v27_apply, Cert.MidRefIdeal.Read.val_main_v26_apply,
    Cert.MidRefIdeal.Read.val_main_call0_v5_apply, Cert.MidRefIdeal.Read.val_main_call0_v4_apply, Cert.MidRefIdeal.Read.val_main_call0_cst_0_apply,
    Cert.MidRefIdeal.Read.val_main_call0_v3_apply, Cert.MidRefIdeal.Read.val_main_call0_v2_apply, Cert.MidRefIdeal.Read.val_main_call0_cst_apply,
    Cert.MidRefIdeal.Read.val_main_call0_v1_apply, Cert.MidRefIdeal.Read.val_main_call0_v0_apply, eg, eu, one_bits]
  rfl

/-- A choice by whether the tile is the first of its columns. -/
theorem first_tile (i : grid0.Coords) (a b : EReal) :
    Scalar.select (Scalar.cmpi .eq (BitVec.ofNat 32 (i 1).val) 0#32) a b = if (i 1).val = 0 then a else b := by
  have h : ∀ k : Fin 32, (Scalar.cmpi .eq (BitVec.ofNat 32 k.val) 0#32 = 1#1) ↔ k.val = 0 := by decide
  unfold Scalar.select
  exact if_congr (h ⟨(i 1).val, (i 1).isLt⟩) rfl rfl

/-- The row `d` before row `p` of a tile with the eight rows before it. -/
def back (i : grid0.Coords) (H : S8x256.Idx → EReal) (A : S256x256.Idx → EReal) (d p q : ℕ) : EReal :=
  if p < d then (if (i 1).val = 0 then 0 else rd H (p + 8 - d) q) else rd A (p - d) q

/-- A tile under the eight rows before it, at an entry. -/
theorem part_at (i : grid0.Coords) (H : Vec Ideal S8x256 .f32) (A : Vec Ideal S256x256 .f32) (z : S264x256.Idx) (d p q : ℕ) (hd : d ≤ 8)
    (h0 : (z 0).val = p + 8 - d) (h1 : (z 1).val = q) : k0_pay3 (F := Ideal) i H A z = back i H A d p q := by
  unfold k0_pay3 back
  simp only [pointwise]
  by_cases hp : p < d
  · rw [if_pos hp]
    refine (dif_pos ?_).trans ((first_tile i _ _).trans (if_congr Iff.rfl rfl (rd_of H _ (p + 8 - d) q h0 h1)))
    show (z 0).val < 8
    omega
  · rw [if_neg hp]
    refine (dif_neg ?_).trans (rd_of A _ (p - d) q ?_ h1)
    · show ¬ (z 0).val < 8
      omega
    · show (z 0).val - 8 = p - d
      omega

/-- The kernel's convolution of a tile, its two sums apart. -/
theorem outer_at (i : grid0.Coords) (H : Vec Ideal S8x256 .f32) (A : Vec Ideal S256x256 .f32) (W : Vec Ideal S3x256 .f32) (y : S256x256.Idx) :
    k0_pay4 (F := Ideal) i H A W y = rd A (y 0).val (y 1).val * rd W 2 (y 1).val + back i H A 2 (y 0).val (y 1).val * rd W 0 (y 1).val := by
  have h0 := idx2_lt0 y
  unfold k0_pay4
  simp only [pointwise]
  refine congrArg₂ (· + ·) (congrArg₂ (· * ·) (rd_of A y _ _ rfl rfl) (rd_of W _ _ _ rfl (by simp)))
    (congrArg₂ (· * ·) (part_at i H A _ 2 _ _ (by decide) ?_ ?_) (rd_of W _ _ _ rfl (by simp)))
  · show (8 + (y 0).val + 264 - 2) % 264 = (y 0).val + 8 - 2
    omega
  · show 0 + (y 1).val = (y 1).val
    omega
theorem inner_at (i : grid0.Coords) (H : Vec Ideal S8x256 .f32) (A : Vec Ideal S256x256 .f32) (y : S256x256.Idx) :
    k0_pay5 (F := Ideal) i H A y = back i H A 1 (y 0).val (y 1).val := by
  have h0 := idx2_lt0 y
  unfold k0_pay5
  simp only [pointwise]
  refine part_at i H A _ 1 _ _ (by decide) ?_ ?_
  · show (8 + (y 0).val + 264 - 1) % 264 = (y 0).val + 8 - 1
    omega
  · show 0 + (y 1).val = (y 1).val
    omega

/-- The kernel's convolution of a tile. -/
def tiled (i : grid0.Coords) (H : S8x256.Idx → EReal) (A : S256x256.Idx → EReal) (W : S3x256.Idx → EReal) (p q : ℕ) : EReal :=
  rd A p q * rd W 2 q + back i H A 2 p q * rd W 0 q + back i H A 1 p q * rd W 1 q

/-- The kernel's result at an entry of a tile. -/
theorem tile_at (i : grid0.Coords) (H H' : Vec Ideal S8x256 .f32) (A A' : Vec Ideal S256x256 .f32) (W W' : Vec Ideal S3x256 .f32) (y : S256x256.Idx) :
    k0_pay1 (F := Ideal) (k0_pay2 i H A W) W' (k0_pay4 i H' A' W') (k0_pay5 i H' A') y
      = gated (tiled i H A W (y 0).val (y 1).val) (tiled i H' A' W' (y 0).val (y 1).val) := by
  have e (V : Vec Ideal S3x256 .f32) : broadcastTo S256x256 (extractStridedSlice S1x256 ![1, 0] V slices_S3x256_o1_0_S1x256) broadcasts_S1x256_S256x256 y = rd V 1 (y 1).val := by
    simp only [pointwise]
    exact rd_of V _ _ _ rfl (by simp)
  have e1 : k0_pay2 (F := Ideal) i H A W y = tiled i H A W (y 0).val (y 1).val := by
    refine (show k0_pay2 (F := Ideal) i H A W y = k0_pay4 i H A W y + k0_pay5 i H A y * broadcastTo S256x256 (extractStridedSlice S1x256 ![1, 0] W slices_S3x256_o1_0_S1x256) broadcasts_S1x256_S256x256 y from rfl).trans ?_
    rw [e, outer_at, inner_at]
    rfl
  refine (show _ = gated (k0_pay2 i H A W y) (k0_pay4 i H' A' W' y + k0_pay5 i H' A' y * broadcastTo S256x256 (extractStridedSlice S1x256 ![1, 0] W' slices_S3x256_o1_0_S1x256) broadcasts_S1x256_S256x256 y) from rfl).trans ?_
  rw [e, e1, outer_at, inner_at]
  rfl

/-- Where the tiles lie. -/
theorem idx0 : ∀ t : Fin cfg0.N, win0_0.index t = ![t.val % 32, t.val / 32] := (by decide +kernel : ∀ t : Fin grid0.N, _)
theorem idx1 : ∀ t : Fin cfg0.N, win0_1.index t = ![32 * (t.val % 32) - 1, t.val / 32] := (by decide +kernel : ∀ t : Fin grid0.N, _)
theorem idx2 : ∀ t : Fin cfg0.N, win0_2.index t = ![t.val % 32, 11 + t.val / 32] := (by decide +kernel : ∀ t : Fin grid0.N, _)
theorem idx3 : ∀ t : Fin cfg0.N, win0_3.index t = ![32 * (t.val % 32) - 1, 11 + t.val / 32] := (by decide +kernel : ∀ t : Fin grid0.N, _)
theorem idx4 : ∀ t : Fin cfg0.N, win0_4.index t = ![0, t.val / 32] := (by decide +kernel : ∀ t : Fin grid0.N, _)
theorem idx5 : ∀ t : Fin cfg0.N, win0_5.index t = ![0, 11 + t.val / 32] := (by decide +kernel : ∀ t : Fin grid0.N, _)
theorem idx6 : ∀ t : Fin cfg0.N, win0_6.index t = ![t.val % 32, t.val / 32] := (by decide +kernel : ∀ t : Fin grid0.N, _)
theorem crd : ∀ t : Fin cfg0.N, (grid0.coords t 1).val = t.val % 32 := (by decide +kernel : ∀ t : Fin grid0.N, _)

/-- A tile whose entries are the array's at an offset has the array's convolution. -/
theorem tiled_eq (t : Fin cfg0.N) (X : S8192x5632.Idx → EReal) (W : S3x5632.Idx → EReal) (H : S8x256.Idx → EReal) (A : S256x256.Idx → EReal) (V : S3x256.Idx → EReal) (o : ℕ)
    (hA : ∀ p q, p < 256 → q < 256 → rd A p q = rd X (256 * (t.val % 32) + p) (o + q))
    (hH : ∀ p q, p < 8 → q < 256 → rd H p q = rd X (8 * (32 * (t.val % 32) - 1) + p) (o + q))
    (hV : ∀ p q, p < 3 → q < 256 → rd V p q = rd W p (o + q)) (p q : ℕ) (hp : p < 256) (hq : q < 256) :
    tiled (grid0.coords t) H A V p q = conv X W (256 * (t.val % 32) + p) (o + q) := by
  have past (d : ℕ) (h1 : 1 ≤ d) (hd : d ≤ 8) : back (grid0.coords t) H A d p q = before X d (256 * (t.val % 32) + p) (o + q) := by
    unfold back before
    rw [crd t]
    by_cases hy : p < d
    · rw [if_pos hy]
      by_cases ht : t.val % 32 = 0
      · rw [if_pos ht, if_neg (by omega)]
      · rw [if_neg ht, if_pos (by omega), hH _ _ (by omega) hq]
        exact congrArg₂ (rd _) (by omega) rfl
    · rw [if_neg hy, if_pos (by omega), hA _ _ (by omega) hq]
      exact congrArg₂ (rd _) (by omega) rfl
  unfold tiled conv
  rw [past 2 (by decide) (by decide), past 1 (by decide) (by decide), hA p q hp hq, hV 0 q (by decide) hq, hV 1 q (by decide) hq, hV 2 q (by decide) hq, add_assoc, add_comm]

/-- The windows' tiles at a point, as arrays. -/
def tile0 (c : Dev nD) (t : Fin cfg0.N) : S256x256.Idx → EReal := iblk m c 0 t
def tile1 (c : Dev nD) (t : Fin cfg0.N) : S8x256.Idx → EReal := iblk m c 1 t
def tile2 (c : Dev nD) (t : Fin cfg0.N) : S256x256.Idx → EReal := iblk m c 2 t
def tile3 (c : Dev nD) (t : Fin cfg0.N) : S8x256.Idx → EReal := iblk m c 3 t
def tile4 (c : Dev nD) (t : Fin cfg0.N) : S3x256.Idx → EReal := iblk m c 4 t
def tile5 (c : Dev nD) (t : Fin cfg0.N) : S3x256.Idx → EReal := iblk m c 5 t

/-- The gate's convolution of a tile is the array's. -/
theorem gate_tile (c : Dev nD) (t : Fin cfg0.N) (p q : ℕ) (hp : p < 256) (hq : q < 256) :
    tiled (grid0.coords t) (tile1 m c t) (tile0 m c t) (tile4 m c t) p q
      = conv (m ((c : Thread nD τ).loc main_arg0)) (m ((c : Thread nD τ).loc main_arg1)) (256 * (t.val % 32) + p) (256 * (t.val / 32) + q) := by
  have ht : t.val < 352 := t.isLt
  refine tiled_eq t _ _ _ _ _ _ (fun p q hp hq => ?_) (fun p q hp hq => ?_) (fun p q hp hq => ?_) p q hp hq
  · unfold rd
    rw [dif_pos ⟨hp, hq⟩, dif_pos ⟨by omega, by omega⟩]
    unfold tile0
    blk_point [iblk, V, idx0 t]
  · unfold rd
    rw [dif_pos ⟨hp, hq⟩, dif_pos ⟨by omega, by omega⟩]
    unfold tile1
    blk_point [iblk, V, idx1 t]
  · unfold rd
    rw [dif_pos ⟨hp, hq⟩, dif_pos ⟨hp, by omega⟩]
    unfold tile4
    blk_point [iblk, V, idx4 t]

/-- The other half's convolution of a tile is the array's. -/
theorem up_tile (c : Dev nD) (t : Fin cfg0.N) (p q : ℕ) (hp : p < 256) (hq : q < 256) :
    tiled (grid0.coords t) (tile3 m c t) (tile2 m c t) (tile5 m c t) p q
      = conv (m ((c : Thread nD τ).loc main_arg0)) (m ((c : Thread nD τ).loc main_arg1)) (256 * (t.val % 32) + p) (256 * (11 + t.val / 32) + q) := by
  have ht : t.val < 352 := t.isLt
  refine tiled_eq t _ _ _ _ _ _ (fun p q hp hq => ?_) (fun p q hp hq => ?_) (fun p q hp hq => ?_) p q hp hq
  · unfold rd
    rw [dif_pos ⟨hp, hq⟩, dif_pos ⟨by omega, by omega⟩]
    unfold tile2
    blk_point [iblk, V, idx2 t]
  · unfold rd
    rw [dif_pos ⟨hp, hq⟩, dif_pos ⟨by omega, by omega⟩]
    unfold tile3
    blk_point [iblk, V, idx3 t]
  · unfold rd
    rw [dif_pos ⟨hp, hq⟩, dif_pos ⟨hp, by omega⟩]
    unfold tile5
    blk_point [iblk, V, idx5 t]

/-- The kernel's result at an entry of a tile, from the whole arrays. -/
theorem tile_whole (c : Dev nD) (t : Fin cfg0.N) (y : S256x256.Idx) (i : S8192x2816.Idx) (e0 : (i 0).val = t.val % 32 * 256 + (y 0).val) (e1 : (i 1).val = t.val / 32 * 256 + (y 1).val) :
    (k0_pay1 (F := Ideal) (k0_pay2 (grid0.coords t) (tile1 m c t) (tile0 m c t) (tile4 m c t)) (tile5 m c t) (k0_pay4 (grid0.coords t) (tile3 m c t) (tile2 m c t) (tile5 m c t))
      (k0_pay5 (grid0.coords t) (tile3 m c t) (tile2 m c t)) y : EReal)
      = gated (conv (m ((c : Thread nD τ).loc main_arg0)) (m ((c : Thread nD τ).loc main_arg1)) (i 0).val (i 1).val)
          (conv (m ((c : Thread nD τ).loc main_arg0)) (m ((c : Thread nD τ).loc main_arg1)) (i 0).val (2816 + (i 1).val)) := by
  have y0 := idx2_lt0 y
  have y1 := idx2_lt1 y
  rw [tile_at, gate_tile m c t _ _ y0 y1, up_tile m c t _ _ y0 y1]
  exact congrArg₂ gated (congrArg₂ (conv _ _) (by omega) (by omega)) (congrArg₂ (conv _ _) (by omega) (by omega))

/-- The kernel's result is the reference's. -/
theorem final (c : Dev nD) : (dats m 0 c).arrAt 6 cfg0.N = Cert.MidRefIdeal.Read.val_main_v28 (F := Ideal) (m ((c : Thread nD τ).loc main_arg0)) (m ((c : Thread nD τ).loc main_arg1)) := by
  refine (dats m 0 c).arrAt_eq_of_covers 6 _ (by decide +kernel) fun t hf y => ?_
  blk_simp
  rw [after0_6]
  unfold out0_6
  frame_out
  refine (tile_whole m c t y _ ?_ ?_).trans (ref_at _ _ _).symm
  · blk_simp [idx6 t]
  · blk_simp [idx6 t]

/-- The kernel and the reference agree. -/
theorem same : @Cert.algebraic_MidIdeal_MidRefIdeal Cert.MidIdeal.Gen.facts Cert.MidRefIdeal.Gen.facts := fun m ρ m' ρ' _ hin =>
  Pr.agree (run_blocks (F := Ideal) m ρ) (Cert.MidRefIdeal.Value.run (F := Ideal) m' ρ') fun c => by
    rw [Cert.MidRefIdeal.Read.val_main_v28_eq, (hin c).1, (hin c).2]
    exact final m c

end Cert.Proof.Mid

end
-- ==== Proof.Fi.Loop.lean ====
/- The loop of the attention's forward kernel: from the diagonal's key block down, each block adds its weighted values to
   the sum and its log-probabilities to the running ones, until no row carries weight any more. Its label is answered
   through a specification that holds the keys and the values and returns the sum. -/
module

public import proofs.«01_k».proof.Proof.Gen.AttnIdeal.Skeleton
public import proofs.«01_k».proof.Proof.Sb.Tile
public import Idealize.ShloMosaic.Lib.Tactic
public import Idealize.ShloMosaic.Lib.Pipeline.Frame
public import Idealize.ShloMosaic.Lib.Pipeline.TableIdle

@[expose] public section

noncomputable section

namespace Cert.Proof.Fi

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Sb (getT window_getT)

variable {F : FTy → Type} [FloatOps F] [Named F]

local notation "𝕄" => MT nD τ sig Unit (Elt F) ℕ (UR sig nD τ) ℕ

/-- The masked log-probabilities of passing the keys of block `j`, for query block `ib`. -/
def failT (ib : BitVec 32) (q : FVec F S256x128 .bf16) (K : S8192x128.Idx → Elt F .bf16) (j : ℕ) : FVec F S256x128 .f32 :=
  k0_pay11 q (BitVec.ofNat 32 j) ib (getT K j)

/-- The running log-probability once key block `j` is added. -/
def seenT (ib : BitVec 32) (q : FVec F S256x128 .bf16) (K : S8192x128.Idx → Elt F .bf16) (j : ℕ) (r : FVec F S256x1 .f32) : FVec F S256x1 .f32 :=
  k0_pay6 r (failT ib q K j)

/-- Whether some row still carries weight below key block `j`. -/
def liveT (ib : BitVec 32) (q : FVec F S256x128 .bf16) (K : S8192x128.Idx → Elt F .bf16) (j : ℕ) (r : FVec F S256x1 .f32) : BitVec 1 :=
  Scalar.cmpf .oge (k0_pay7 r (failT ib q K j)) (Named.named κ "exp_underflow" 0xC2D00000#32)

/-- The sum once key block `j` is added. -/
def sumT (ib : BitVec 32) (q : FVec F S256x128 .bf16) (K V : S8192x128.Idx → Elt F .bf16) (j : ℕ) (r : FVec F S256x1 .f32) (a : FVec F S256x128 .f32) : FVec F S256x128 .f32 :=
  k0_pay5 a (k0_pay9 (BitVec.ofNat 32 j) ib) (k0_pay12 q k0_pay1 (BitVec.ofNat 32 j) ib (getT K j)) (k0_pay13 r) (getT V j)

/-- What the loop entered at key block `j` returns as its sum. -/
def loopT (ib : BitVec 32) (q : FVec F S256x128 .bf16) (K V : S8192x128.Idx → Elt F .bf16) : ℕ → FVec F S256x1 .f32 → FVec F S256x128 .f32 → FVec F S256x128 .f32
  | 0, r, a => sumT ib q K V 0 r a
  | j + 1, r, a => if liveT ib q K (j + 1) r = 1#1 then loopT ib q K V j (seenT ib q K (j + 1) r) (sumT ib q K V (j + 1) r a)
    else sumT ib q K V (j + 1) r a

/-- A whole grid step. -/
def stepT (ib : ℕ) (q : FVec F S256x128 .bf16) (K V : S8192x128.Idx → Elt F .bf16) : FVec F S256x128 .bf16 :=
  k0_pay4 (loopT (BitVec.ofNat 32 ib) q K V (2 * ib + 1) k0_pay2 k0_pay3)

/-- The measure the loop's calls go down in. -/
abbrev 𝒱₀ : Variants := Variants.nat

/-- A buffer held at the values `X`. -/
abbrev held {s : Shape} {e : EltTy} (c : Dev nD) (M : Memref sig .tc .vmem s e) (X : s.Idx → Elt F e) : sProp 𝕄 :=
  iprop(M.view.loc (c : Thread nD τ) ↦[M.view.set]{fullShare} M.view.rep X)

/-- What the loop returns: a word, the running log-probability, the sum, a flag. -/
abbrev Out (F : FTy → Type) : Type := BitVec 32 × FVec F S256x1 .f32 × FVec F S256x128 .f32 × BitVec 1

/-- The loop's specification: holding the keys and the values, it returns the sum `a`. -/
def spec (c : Dev nD) (M N : Memref sig .tc .vmem S8192x128 .bf16) (K V : S8192x128.Idx → Elt F .bf16) (a : FVec F S256x128 .f32) : sWPT 𝕄 (Out F) := do
  sWPT.consume (iprop(held c M K ∗ held c N V))
  let r ← sWPT.arbitrary
  sWPT.assume (r.2.2.1 = a)
  sWPT.produce (iprop(held c M K ∗ held c N V))
  pure r

/-- The specification at a continuation. -/
theorem spec_apply (c : Dev nD) (M N : Memref sig .tc .vmem S8192x128 .bf16) (K V : S8192x128.Idx → Elt F .bf16) (a : FVec F S256x128 .f32) (Q : Out F → sProp 𝕄) :
    spec c M N K V a Q = iprop((held c M K ∗ held c N V) ∗ ∀ r : Out F, ⌜r.2.2.1 = a⌝ -∗ ((held c M K ∗ held c N V) -∗ Q r)) := rfl

/-- The block's rows as the program computes them. -/
theorem off1_eq (j : ℕ) (hj : j < 64) : k0_off1 (BitVec.ofNat 32 j) = ![j * 128, 0] := by
  unfold k0_off1
  have : (Scalar.indexCast (Scalar.muli (BitVec.ofNat 32 j) 128#32) : Index).toNat = j * 128 := by
    show (BitVec.ofNat 32 j * 128#32).toNat = j * 128
    simp only [BitVec.toNat_mul, BitVec.toNat_ofNat]; omega
  show ![(Scalar.indexCast (Scalar.muli (BitVec.ofNat 32 j) 128#32) : Index).toNat, 0] = _
  rw [this]

/-- A block's rows lie inside the column block. -/
theorem inbT (j : ℕ) (hj : j < 64) : ∀ a, (![j * 128, 0] : Fin 2 → ℕ) a + S128x128.size a ≤ S8192x128.size a := by
  intro a; fin_cases a
  · show j * 128 + 128 ≤ 8192; omega
  · show 0 + 128 ≤ 128; omega

/-- The loop's check holds at every block. -/
theorem chk1 (j : ℕ) (hj : j < 64) : k0_chk1 (BitVec.ofNat 32 j) := by
  have h : 128 ∣ (BitVec.ofNat 32 j * 128#32).toNat := by
    have : (BitVec.ofNat 32 j * 128#32).toNat = j * 128 := by
      simp only [BitVec.toNat_mul, BitVec.toNat_ofNat]; omega
    rw [this]; exact ⟨j, by omega⟩
  exact ⟨h, by rw [off1_eq j hj]; exact inbT j hj, h⟩

/-- With its flag down the loop returns what it was called on. -/
theorem spec_done (c : Dev nD) (i : grid0.Coords) (M : Memref sig .tc .vmem S8192x128 .bf16) (hM : M.IsWhole) (N : Memref sig .tc .vmem S8192x128 .bf16) (hN : N.IsWhole)
    (q : FVec F S256x128 .bf16) (u : FVec F S128x128 .bf16)
    (K V : S8192x128.Idx → Elt F .bf16) (E : Set ℕ) (w : BitVec 32) (r : FVec F S256x1 .f32) (a : FVec F S256x128 .f32) (b : BitVec 1) (hb : ¬ b = 1#1) (Q : Out F → sProp 𝕄) :
    spec c M N K V a Q ⊢ wp frame (wpE (defs₀ (F := F)) 𝒱₀ (c : Thread nD τ) (some 0)) E (defs₀ (F := F) .tc 1 ⟨i, M, hM, q, u, N, hN, w, r, a, b⟩) Q := by
  rw [spec_apply]
  show _ ⊢ wp frame (wpE (defs₀ (F := F)) 𝒱₀ (c : Thread nD τ) (some 0)) E (cc0_while1 i M hM q u N hN w r a b) Q
  simp only [cc0_while1_eq_skeleton]; unfold cc0_while1_skel
  simp only [hb, ↓reduceIte, Prog.pure_eq_ret]
  iintro ⟨H, Hk⟩
  rw [wp_ret]; imodintro
  iapply Hk
  · ipureintro; rfl
  · iexact H

/-- The loop's guard at block `j`: the block is not the first and some row is live. -/
theorem guard_eq (j : ℕ) (hj : j < 64) (b : BitVec 1) :
    Scalar.andi (Scalar.cmpi .sgt (BitVec.ofNat 32 j) 0#32) b = 1#1 ↔ 0 < j ∧ b = 1#1 := by
  have hs : Scalar.cmpi .sgt (BitVec.ofNat 32 j) 0#32 = if 0 < j then 1#1 else 0#1 := by
    by_cases h : 0 < j
    · rw [if_pos h]
      interval_cases j <;> decide
    · rw [if_neg h]; have : j = 0 := by omega
      subst this; decide
  rw [hs]
  by_cases h : 0 < j
  · simp only [h, ↓reduceIte, true_and]
    have : ∀ b : BitVec 1, Scalar.andi 1#1 b = 1#1 ↔ b = 1#1 := by decide
    exact this b
  · simp only [h, ↓reduceIte, false_and, iff_false]
    have : ∀ b : BitVec 1, ¬ Scalar.andi 0#1 b = 1#1 := by decide
    exact this b

/-- One turn of the loop at block `j`: what the loop returns from there is what its next turn, or its end, returns. -/
theorem turn (c : Dev nD) (i : grid0.Coords) (M : Memref sig .tc .vmem S8192x128 .bf16) (hM : M.IsWhole) (N : Memref sig .tc .vmem S8192x128 .bf16) (hN : N.IsWhole)
    (q : FVec F S256x128 .bf16) (K V : S8192x128.Idx → Elt F .bf16) (E : Set ℕ) (j : ℕ) (hj : j < 64) (r : FVec F S256x1 .f32) (a out : FVec F S256x128 .f32) (n : ℕ) (hn : n < j + 1)
    (hnext : ∀ Q' : Out F → sProp 𝕄, spec c M N K V out Q' ⊢ wp frame (wpE (defs₀ (F := F)) 𝒱₀ (c : Thread nD τ) (some n)) E
      (defs₀ (F := F) .tc 1 ⟨i, M, hM, q, k0_pay1, N, hN, Scalar.subi (BitVec.ofNat 32 j) 1#32, seenT (BitVec.ofNat 32 (i 1).val) q K j r,
        sumT (BitVec.ofNat 32 (i 1).val) q K V j r a, Scalar.andi (Scalar.cmpi .sgt (BitVec.ofNat 32 j) 0#32) (liveT (BitVec.ofNat 32 (i 1).val) q K j r)⟩) Q')
    (Q : Out F → sProp 𝕄) :
    spec c M N K V out Q ⊢ wp frame (wpE (defs₀ (F := F)) 𝒱₀ (c : Thread nD τ) (some (j + 1))) E
      (defs₀ (F := F) .tc 1 ⟨i, M, hM, q, k0_pay1, N, hN, BitVec.ofNat 32 j, r, a, 1#1⟩) Q := by
  rw [spec_apply]
  show _ ⊢ wp frame (wpE (defs₀ (F := F)) 𝒱₀ (c : Thread nD τ) (some (j + 1))) E (cc0_while1 i M hM q k0_pay1 N hN (BitVec.ofNat 32 j) r a 1#1) Q
  simp only [cc0_while1_eq_skeleton]; unfold cc0_while1_skel
  simp only [↓reduceIte, k0_part1_eq_skeleton]; unfold k0_part1_skel
  simp only [Prog.lift, Prog.bind_op, Prog.bind_ret, Prog.pure_eq_ret]
  iintro ⟨⟨HK, HV⟩, Hk⟩
  iapply (wp_assume 𝒱₀ (c : Thread nD τ) (some (j + 1)) E (chk1 j hj))
  iapply (wp_load 𝒱₀ (c : Thread nD τ) (some (j + 1)) E (m := M) (View.setOn_subset_set _ _)) $$ HK; iintro HK
  rw [View.readAt_rep_unit M.view K _ (off1_eq j hj) (inbT j hj), window_getT K j hj]
  iapply (wp_load 𝒱₀ (c : Thread nD τ) (some (j + 1)) E (m := N) (View.setOn_subset_set _ _)) $$ HV; iintro HV
  rw [View.readAt_rep_unit N.view V _ (off1_eq j hj) (inbT j hj), window_getT V j hj]
  iapply (wp_call_spec 𝒱₀ (c : Thread nD τ) (some (j + 1)) E (spec c M N K V out) n (fun u hu => by cases hu; exact hn) hnext)
  rw [spec_apply]
  isplitl [HK HV]
  · isplitl [HK]; · iexact HK
    iexact HV
  iintro %s %hs H
  rw [wp_ret]; imodintro
  iapply Hk
  · ipureintro; exact hs
  · iexact H

/-- The specification from block `j` is met by the loop's body entered there. -/
theorem spec_le (c : Dev nD) (i : grid0.Coords) (M : Memref sig .tc .vmem S8192x128 .bf16) (hM : M.IsWhole) (N : Memref sig .tc .vmem S8192x128 .bf16) (hN : N.IsWhole)
    (q : FVec F S256x128 .bf16) (K V : S8192x128.Idx → Elt F .bf16) (E : Set ℕ) (j : ℕ) (hj : j < 64) (r : FVec F S256x1 .f32) (a : FVec F S256x128 .f32) (Q : Out F → sProp 𝕄) :
    spec c M N K V (loopT (BitVec.ofNat 32 (i 1).val) q K V j r a) Q
      ⊢ wp frame (wpE (defs₀ (F := F)) 𝒱₀ (c : Thread nD τ) (some (j + 1))) E (defs₀ (F := F) .tc 1 ⟨i, M, hM, q, k0_pay1, N, hN, BitVec.ofNat 32 j, r, a, 1#1⟩) Q := by
  induction j generalizing r a Q with
  | zero =>
    exact turn c i M hM N hN q K V E 0 hj r a _ 0 Nat.one_pos
      (spec_done c i M hM N hN q k0_pay1 K V E _ _ _ _ fun h => absurd ((guard_eq 0 hj _).1 h).1 (lt_irrefl 0)) Q
  | succ j ih =>
    have hsub : Scalar.subi (BitVec.ofNat 32 (j + 1)) 1#32 = BitVec.ofNat 32 j := by
      show BitVec.ofNat 32 (j + 1) - 1#32 = BitVec.ofNat 32 j
      apply BitVec.eq_of_toNat_eq
      simp only [BitVec.toNat_sub, BitVec.toNat_ofNat]; omega
    by_cases hl : liveT (BitVec.ofNat 32 (i 1).val) q K (j + 1) r = 1#1
    · have hf : loopT (BitVec.ofNat 32 (i 1).val) q K V (j + 1) r a
          = loopT (BitVec.ofNat 32 (i 1).val) q K V j (seenT (BitVec.ofNat 32 (i 1).val) q K (j + 1) r) (sumT (BitVec.ofNat 32 (i 1).val) q K V (j + 1) r a) := by
        rw [loopT, if_pos hl]
      rw [hf]
      refine turn c i M hM N hN q K V E (j + 1) hj r a _ (j + 1) (Nat.lt_succ_self _) (fun Q' => ?_) Q
      rw [(guard_eq (j + 1) hj _).2 ⟨Nat.succ_pos j, hl⟩, hsub]
      exact ih (by omega) _ _ Q'
    · have hf : loopT (BitVec.ofNat 32 (i 1).val) q K V (j + 1) r a = sumT (BitVec.ofNat 32 (i 1).val) q K V (j + 1) r a := by
        rw [loopT, if_neg hl]
      rw [hf]
      exact turn c i M hM N hN q K V E (j + 1) hj r a _ 0 (Nat.succ_pos _)
        (spec_done c i M hM N hN q k0_pay1 K V E _ _ _ _ fun h => hl ((guard_eq (j + 1) hj _).1 h).2) Q

end Cert.Proof.Fi

end
-- ==== Proof.Fi.Run.lean ====
/- The attention's forward kernel over its grid: its body, what each window holds at every grid point, the body's
   obligation at a generic point, and the run of the whole program, for any float values. -/
module

public import proofs.«01_k».proof.Proof.Fi.Loop
public import proofs.«01_k».proof.Proof.Gen.AttnIdeal.Launch
public import proofs.«01_k».proof.Proof.Gen.AttnIdeal.Points
public import Idealize.ShloMosaic.Lib.Pipeline.FrameBody

@[expose] public section

noncomputable section

namespace Cert.Proof.Fi

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

local notation "𝕄" => MT nD τ sig Unit (Elt F) ℕ (UR sig nD τ) ℕ

/-- What a store through a memref touches is the memref's. -/
theorem store_sub {s : Shape} {e : EltTy} (M : Memref sig .tc .vmem s e) (r : Rect s) (Mk : Finset r.shape.Idx) : (M.access r).setOn Mk ⊆ M.view.set :=
  (View.setOn_subset_set _ _).trans (by
    have h : (M.access r).set = M.view.setOn r.set := View.set_slice _ _
    rw [h]; exact View.setOn_subset_set _ _)

/-- A store over the whole of a buffer, at the head of a program. -/
theorem wp_putAll {α : Type} {s : Shape} {e : EltTy} (c : Dev nD) (bd : Option 𝒱₀.V) (E : Set ℕ) (M : Memref sig .tc .vmem s e) (X : s.Idx → Elt F e) (off : Fin s.rank → ℕ)
    (inb : ∀ a, off a + s.size a ≤ s.size a) (w : (Rect.unit off s.size inb).shape.Idx → Elt F e)
    (hx : (M.access (Rect.unit off s.size inb)).Stores Finset.univ)
    (hm : (Finset.univ : Finset (Rect.unit off s.size inb).shape.Idx) = Finset.univ ∨ ∀ a, (Rect.unit off s.size inb).stride a = 1)
    (kk : PUnit → Prog (TpuEff nD τ sig (Elt F) (Λ₀ F) .tc) α) (Q : α → sProp 𝕄) :
    held c M X ⊢ iprop((held c M w -∗ wp frame (wpE (defs₀ (F := F)) 𝒱₀ (c : Thread nD τ) bd) E (kk ⟨⟩) Q)
      -∗ wp frame (wpE (defs₀ (F := F)) 𝒱₀ (c : Thread nD τ) bd) E (.op (.store M (Rect.unit off s.size inb) w Finset.univ hx hm) kk) Q) := by
  have e : (M.access (Rect.unit off s.size inb)).write (Elt F) (M.view.rep X) w Finset.univ
      = M.view.writes (Elt F) (M.view.rep X) [⟨Rect.unit off s.size inb, w⟩] := (View.writes_singleton M.view (M.view.rep X) _ w).symm
  have hp : (M.view.loc (c : Thread nD τ) ↦[M.view.set]{fullShare} ((M.access (Rect.unit off s.size inb)).write (Elt F) (M.view.rep X) w Finset.univ) : sProp 𝕄)
      ⊢ held c M w := by
    rw [e]
    exact pointsTo_rep_of_read (c : Thread nD τ) M _ fullShare _ (View.read_writes_full M.view _ inb w [])
  iintro H Hk
  iapply (wp_store 𝒱₀ (c : Thread nD τ) bd E (m := M) (r := Rect.unit off s.size inb) (Mk := Finset.univ) (store_sub M _ _)) $$ H
  iintro H
  iapply Hk
  iapply hp
  iexact H

/-- A load of the whole of a buffer, at the head of a program. -/
theorem wp_getAll {α : Type} {s : Shape} {e : EltTy} (c : Dev nD) (bd : Option 𝒱₀.V) (E : Set ℕ) (M : Memref sig .tc .vmem s e) (X : s.Idx → Elt F e) (off : Fin s.rank → ℕ)
    (inb : ∀ a, off a + s.size a ≤ s.size a) (hx : M.view.LoadsAt (Rect.unit off s.size inb).toLoadRect)
    (kk : (s.Idx → Elt F e) → Prog (TpuEff nD τ sig (Elt F) (Λ₀ F) .tc) α) (Q : α → sProp 𝕄) :
    held c M X ⊢ iprop((held c M X -∗ wp frame (wpE (defs₀ (F := F)) 𝒱₀ (c : Thread nD τ) bd) E (kk X) Q)
      -∗ wp frame (wpE (defs₀ (F := F)) 𝒱₀ (c : Thread nD τ) bd) E (.op (.load M (Rect.unit off s.size inb).toLoadRect hx) kk) Q) := by
  iintro H Hk
  iapply (wp_load 𝒱₀ (c : Thread nD τ) bd E (m := M) (View.setOn_subset_set _ _)) $$ H; iintro H
  rw [View.readAt_rep_full M.view X]
  iapply Hk
  iexact H

/-- The block the loop starts at is the later of the diagonal's two. -/
theorem top_eq (i : grid0.Coords) : Scalar.subi (Scalar.muli (Scalar.addi (BitVec.ofNat 32 (i 1).val) 1#32) 2#32) 1#32 = BitVec.ofNat 32 (2 * (i 1).val + 1) := by
  have hi : (i 1).val < 32 := (i 1).isLt
  show (BitVec.ofNat 32 (i 1).val + 1#32) * 2#32 - 1#32 = _
  apply BitVec.eq_of_toNat_eq
  simp only [BitVec.toNat_mul, BitVec.toNat_add, BitVec.toNat_sub, BitVec.toNat_ofNat]
  omega

/-- The kernel's body. -/
theorem body_tail (c : Dev nD) (i : grid0.Coords)
    (M2 : Memref sig .tc .vmem S256x128 .bf16) (h2 : M2.IsWhole) (M3 : Memref sig .tc .vmem S8192x128 .bf16) (h3 : M3.IsWhole)
    (M4 : Memref sig .tc .vmem S8192x128 .bf16) (h4 : M4.IsWhole) (M5 : Memref sig .tc .vmem S256x128 .bf16) (h5 : M5.IsWhole)
    (q : FVec F S256x128 .bf16) (K V : S8192x128.Idx → Elt F .bf16) (X5 : S256x128.Idx → Elt F .bf16) (Q : PUnit → sProp 𝕄) :
    iprop((held c M2 q ∗ held c M3 K ∗ held c M4 V ∗ held c M5 X5)
        ∗ ((held c M2 q ∗ held c M3 K ∗ held c M4 V ∗ held c M5 (stepT (i 1).val q K V)) -∗ Q ⟨⟩))
      ⊢ wp frame (wpE (defs₀ (F := F)) 𝒱₀ (c : Thread nD τ) none) Set.univ (cc0_sb_attn i M2 h2 M3 h3 M4 h4 M5 h5) Q := by
  have hi : (i 1).val < 32 := (i 1).isLt
  simp only [cc0_sb_attn_eq_skeleton]; unfold cc0_sb_attn_skel
  simp only [Prog.lift, Prog.bind_op, Prog.bind_ret, Prog.pure_eq_ret]
  iintro ⟨⟨H2, H3, H4, H5⟩, Hk⟩
  have hsp := spec_le c i M3 h3 M4 h4 q K V Set.univ (2 * (i 1).val + 1) (by omega) k0_pay2 k0_pay3
  iapply (wp_getAll c none Set.univ M2 q _ _) $$ H2; iintro H2
  rw [top_eq i]
  iapply (wp_call_spec 𝒱₀ (c : Thread nD τ) none Set.univ (spec c M3 M4 K V (loopT (BitVec.ofNat 32 (i 1).val) q K V (2 * (i 1).val + 1) k0_pay2 k0_pay3)) (2 * (i 1).val + 1 + 1) (fun u hu => nomatch hu) hsp)
  rw [spec_apply]
  isplitl [H3 H4]
  · isplitl [H3]; · iexact H3
    iexact H4
  iintro %r %hr ⟨H3, H4⟩
  obtain ⟨r1, r2, r3, r4⟩ := r
  simp only at hr
  subst hr
  iapply (wp_getAll c none Set.univ M5 X5 _ _) $$ H5; iintro H5
  iapply (wp_putAll c none Set.univ M5 X5 _ _ _) $$ H5; iintro H5
  rw [wp_ret]; imodintro
  iapply Hk
  isplitl [H2]; · iexact H2
  isplitl [H3]; · iexact H3
  isplitl [H4]; · iexact H4
  iexact H5

variable (m : (ℓ : Loc nD τ sig) → Buf (Elt F) ℓ) (ρ : Dev nD → PrngReg)

/-- The buffers' contents at the launch. -/
def entry (c : Dev nD) (b : Ref sig .tc) : Buf (Elt F) ((c : Thread nD τ).loc b) := m ((c : Thread nD τ).loc b)

/-- A window's block of its array at a grid point. -/
def blockAt (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (entry m c (Pipeline.arrRef spec0 w))

/-- The second coordinate of a grid point is the query block. -/
theorem coord1 : ∀ t : Fin grid0.N, ((grid0.coords t) 1).val = t.val % 32 := by decide +kernel

/-- The first coordinate of a grid point is the head. -/
theorem coord0 : ∀ t : Fin grid0.N, ((grid0.coords t) 0).val = t.val / 32 := by decide +kernel

/-- What a grid point leaves in its result block. -/
def pointT (c : Dev nD) (t : Fin (cfg0 (F := F)).N) : FVec F S256x128 .bf16 :=
  stepT ((grid0.coords t) 1).val (blockAt m c 0 t) (blockAt m c 1 t) (blockAt m c 2 t)

/-- The proof data of the one pipeline. -/
def dats (_ : Fin 1) (c : Dev nD) : Dat τ (Elt F) Unit ℕ (UR sig nD τ) ℕ (cfg0 (F := F)) c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => pointT m c t
  Φ _ := Pipeline.ΦA spec0 c
  q _ := fullShare
  owed _ := 0

/-- A point leaves the three read windows at their blocks and the written one at the point's result. -/
theorem after0 (c : Dev nD) (t : Fin (cfg0 (F := F)).N) : (dats m 0 c).after 0 t = blockAt m c 0 t := by dsimp only [dats]; rfl
theorem after1 (c : Dev nD) (t : Fin (cfg0 (F := F)).N) : (dats m 0 c).after 1 t = blockAt m c 1 t := by dsimp only [dats]; rfl
theorem after2 (c : Dev nD) (t : Fin (cfg0 (F := F)).N) : (dats m 0 c).after 2 t = blockAt m c 2 t := by dsimp only [dats]; rfl
theorem after3 (c : Dev nD) (t : Fin (cfg0 (F := F)).N) : (dats m 0 c).after 3 t = pointT m c t := by dsimp only [dats]; rfl

theorem A_eq (c : Dev nD) (w : Fin (cfg0 (F := F)).W) : (dats m 0 c).A w = entry m c (Pipeline.arrRef spec0 w) := by dsimp only [dats]

/-- A point finds its three read windows at their blocks. -/
theorem before0 (c : Dev nD) (t : Fin (cfg0 (F := F)).N) (d) : (dats m 0 c).before 0 t d = blockAt m c 0 t :=
  ((dats m 0 c).before_in_eq_fetched 0 rfl (fun _ => rfl) (fun _ _ _ => rfl) (fun t => by rw [after0]; unfold Dat.blockOf blockAt; rw [A_eq]; try rfl) t d).trans
    (by unfold Dat.fetched Dat.blockOf blockAt; rw [A_eq]; try rfl)
theorem before1 (c : Dev nD) (t : Fin (cfg0 (F := F)).N) (d) : (dats m 0 c).before 1 t d = blockAt m c 1 t :=
  ((dats m 0 c).before_in_eq_fetched 1 rfl (fun _ => rfl) (fun _ _ _ => rfl) (fun t => by rw [after1]; unfold Dat.blockOf blockAt; rw [A_eq]; try rfl) t d).trans
    (by unfold Dat.fetched Dat.blockOf blockAt; rw [A_eq]; try rfl)
theorem before2 (c : Dev nD) (t : Fin (cfg0 (F := F)).N) (d) : (dats m 0 c).before 2 t d = blockAt m c 2 t :=
  ((dats m 0 c).before_in_eq_fetched 2 rfl (fun _ => rfl) (fun _ _ _ => rfl) (fun t => by rw [after2]; unfold Dat.blockOf blockAt; rw [A_eq]; try rfl) t d).trans
    (by unfold Dat.fetched Dat.blockOf blockAt; rw [A_eq]; try rfl)

theorem share_eq (c : Dev nD) (w : Fin (cfg0 (F := F)).W) : (dats m 0 c).share w = fullShare := by
  unfold Dat.share; split <;> rfl

/-- The kernel's body on owned buffers. -/
theorem body_owns (c : Dev nD) (i : grid0.Coords)
    (M2 : Memref sig .tc .vmem S256x128 .bf16) (h2 : M2.IsWhole) (M3 : Memref sig .tc .vmem S8192x128 .bf16) (h3 : M3.IsWhole)
    (M4 : Memref sig .tc .vmem S8192x128 .bf16) (h4 : M4.IsWhole) (M5 : Memref sig .tc .vmem S256x128 .bf16) (h5 : M5.IsWhole)
    (q : FVec F S256x128 .bf16) (K V : S8192x128.Idx → Elt F .bf16) (X5 : S256x128.Idx → Elt F .bf16) (Q : PUnit → sProp 𝕄) :
    iprop((owns (c : Thread nD τ) M2 fullShare q ∗ owns (c : Thread nD τ) M3 fullShare K ∗ owns (c : Thread nD τ) M4 fullShare V ∗ owns (c : Thread nD τ) M5 fullShare X5)
        ∗ ((owns (c : Thread nD τ) M2 fullShare q ∗ owns (c : Thread nD τ) M3 fullShare K ∗ owns (c : Thread nD τ) M4 fullShare V ∗ owns (c : Thread nD τ) M5 fullShare (stepT (i 1).val q K V)) -∗ Q ⟨⟩))
      ⊢ wp frame (wpE (defs₀ (F := F)) 𝒱₀ (c : Thread nD τ) none) Set.univ (cc0_sb_attn i M2 h2 M3 h3 M4 h4 M5 h5) Q := by
  simp only [owns_eq_rep]
  exact body_tail c i M2 h2 M3 h3 M4 h4 M5 h5 q K V X5 Q

/-- What the body is given at a point. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body gives back at a point. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at a generic point. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  unfold pointT
  iapply (body_owns c (grid0.coords t) _ _ _ _ _ _ _ _ (blockAt m c 0 t) (blockAt m c 1 t) (blockAt m c 2 t) ((dats m 0 c).before 3 t d3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at a point is the body there. -/
theorem defs₀_row (t : Fin (cfg0 (F := F)).N) :
    (defs₀ (F := F)) .tc (cfg0 (F := F)).body ((cfg0 (F := F)).bodyArgs t ((cfg0 (F := F)).slots t)) = bodyAt0 t := by
  unfold defs₀; rw [Defs.onTc_tc]

theorem body_obligation (c : Dev nD) : Pipeline.BodyObligation (dats (F := F) m 0 c) (defs₀ (F := F)) 𝒱₀ () Set.univ := fun t => by
  rw [bigSep_W0, bigSep_W0, defs₀_row]
  exact triple_restated (sound_body m c t) rfl .rfl fun _ => .rfl

/-- The run of the whole program. -/
theorem run_main : θ_run (defs (F := F)) (onTc (τ := τ) (main (F := F))) ⟨m, fun _ => 0, ρ⟩
    (fun r => Pipeline.FramePost (cfgs (F := F)) (dats m) 0 (entry m) r ∧ r.2.sem = fun _ => 0) :=
  Pipeline.θ_run_frame (Q' := _) (cfgs (F := F)) (dats m) (0 : Fin 1) launch0 (defs₀ (F := F)) 𝒱₀ m ρ (main (F := F))
    (hbody := fun c => (body_obligation m c).loose) (hshare := share_eq m) (howed := fun _ _ => rfl) (V := entry m)
    (hmain := Pipeline.hmain_region (cfgs (F := F)) 0 (defs₀ (F := F)) 𝒱₀ m (main (F := F)) fun _ => rfl)
    (hA := fun c w => A_eq m c w) (hΦ := fun _ _ => rfl)

/-- The read windows' arrays end as they began. -/
theorem final0 (c : Dev nD) : (dats m 0 c).arrAt 0 (cfg0 (F := F)).N = entry m c (Pipeline.arrRef spec0 0) := ((dats m 0 c).arrAt_in 0 rfl _).trans (A_eq m c 0)
theorem final1 (c : Dev nD) : (dats m 0 c).arrAt 1 (cfg0 (F := F)).N = entry m c (Pipeline.arrRef spec0 1) := ((dats m 0 c).arrAt_in 1 rfl _).trans (A_eq m c 1)
theorem final2 (c : Dev nD) : (dats m 0 c).arrAt 2 (cfg0 (F := F)).N = entry m c (Pipeline.arrRef spec0 2) := ((dats m 0 c).arrAt_in 2 rfl _).trans (A_eq m c 2)

end Cert.Proof.Fi

end
-- ==== Proof.Fi.Frames.lean ====
/- The frames of the attention's three forward programs, and the named constant's claim. -/
module

public import proofs.«01_k».proof.Defs
public import proofs.«01_k».proof.Proof.Gen.Attn
public import proofs.«01_k».proof.Proof.Gen.AttnRefIdeal.Run
public import proofs.«01_k».proof.Proof.Fi.Run
public import proofs.«01_k».proof.Proof.Fk.Run

@[expose] public section

noncomputable section

namespace Cert.Proof.Fi

open Idealize.ShloMosaic Idealize.ShloMosaic.TcCoe Idealize.SL.Sem

/-- What a launch leaves in the three argument arrays. -/
theorem args_kept {F : FTy → Type} [FloatOps F] [Named F] (m : (ℓ : Loc AttnIdeal.nD AttnIdeal.τ AttnIdeal.sig) → Buf (Elt F) ℓ)
    (r : _ × _) (h : Pipeline.FramePost (AttnIdeal.cfgs (F := F)) (dats m) 0 (entry m) r) (c : Dev AttnIdeal.nD) :
    r.2.mem ((c.tc : Thread AttnIdeal.nD AttnIdeal.τ).loc AttnIdeal.main_arg0) = m ((c.tc : Thread AttnIdeal.nD AttnIdeal.τ).loc AttnIdeal.main_arg0)
      ∧ r.2.mem ((c.tc : Thread AttnIdeal.nD AttnIdeal.τ).loc AttnIdeal.main_arg1) = m ((c.tc : Thread AttnIdeal.nD AttnIdeal.τ).loc AttnIdeal.main_arg1)
      ∧ r.2.mem ((c.tc : Thread AttnIdeal.nD AttnIdeal.τ).loc AttnIdeal.main_arg2) = m ((c.tc : Thread AttnIdeal.nD AttnIdeal.τ).loc AttnIdeal.main_arg2) :=
  ⟨((h c).1 0).trans (final0 m c), ((h c).1 1).trans (final1 m c), ((h c).1 2).trans (final2 m c)⟩

/-- The ideal program's frame. -/
theorem frame_ideal : @Cert.quiescent_AttnIdeal Cert.AttnIdeal.Gen.facts := fun m ρ _ =>
  (θ_run Cert.AttnIdeal.defs _ _).mono (fun r h => ⟨fun c => args_kept m r h.1 c, h.2⟩) (run_main (F := Ideal) m ρ)

/-- The kernel's frame: the same run of the program as printed, at the bit-exact values. -/
theorem frame_kernel : @Cert.quiescent_Attn Cert.Attn.Gen.facts := fun m ρ _ =>
  (θ_run Cert.Attn.defs _ _).mono (fun r h => ⟨fun c => ⟨((h.1 c).1 0).trans (Fk.final0 m c), ((h.1 c).1 1).trans (Fk.final1 m c),
    ((h.1 c).1 2).trans (Fk.final2 m c)⟩, h.2⟩) (Fk.run_main (F := Bits) m ρ)

/-- The reference's frame. -/
theorem frame_reference : @Cert.quiescent_AttnRefIdeal Cert.AttnRefIdeal.Gen.facts := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The named constant stands for the printed word. -/
theorem keeps : Cert.preserves_Attn_AttnIdeal :=
  IdealRules.named_const.statement Cert.AttnIdeal.κ "exp_underflow" .f32 0xC2D00000#32 ⊥ rfl

end Cert.Proof.Fi

end
-- ==== Proof.Va.Fwd.lean ====
/- The attention's forward loop on any arguments, in closed form: the sum of the weighted values. Nothing is taken to be
   finite: a log-probability may be minus infinity, but never plus infinity, and that is all the running sums need. -/
module

public import proofs.«01_k».proof.Proof.Va.State
public import proofs.«01_k».proof.Proof.Fi.Run

@[expose] public section

noncomputable section

namespace Cert.Proof.Va

open Cert.KernelIdeal Cert.KernelIdeal.Gen
open Idealize.ShloMosaic Idealize.ShloMosaic.TcCoe Idealize.ShloMosaic.ValueIdx
open Finset

/-- The softplus of an extended real. -/
def spE (x : EReal) : EReal := max x 0 + Ideal.log (1 + Ideal.exp (-(max x (-x))))

/-- At a real number it is the softplus there. -/
theorem spE_coe (x : ℝ) : spE (x : EReal) = ((sp x : ℝ) : EReal) := by
  unfold spE
  have e2 : max (x : EReal) (-(x : EReal)) = ((|x| : ℝ) : EReal) := by
    rw [abs_eq_max_neg, ← EReal.coe_neg]; exact (EReal.coe_strictMono.monotone.map_max).symm
  have e3 : max (x : EReal) 0 = ((max x 0 : ℝ) : EReal) := (EReal.coe_strictMono.monotone.map_max).symm
  rw [e2, e3, ← EReal.coe_neg, Ideal.exp_coe, ← EReal.coe_one, ← EReal.coe_add, Ideal.log_coe, if_neg (not_le.2 (by positivity)), ← EReal.coe_add]
  rfl

/-- What the softplus adds to its argument's positive part vanishes at both infinities. -/
theorem log_one : Ideal.log (1 + Ideal.exp ⊥) = 0 := by
  rw [Ideal.exp_bot, add_zero, ← EReal.coe_one, Ideal.log_coe, if_neg (not_le.2 one_pos), Real.log_one, EReal.coe_zero]

theorem spE_top : spE ⊤ = ⊤ := by
  unfold spE
  rw [max_eq_left le_top, max_eq_left le_top, EReal.neg_top, log_one, add_zero]

theorem spE_bot : spE ⊥ = 0 := by
  unfold spE
  rw [max_eq_right bot_le, max_eq_right bot_le, EReal.neg_bot, EReal.neg_top, log_one, add_zero]

/-- A log-probability is never plus infinity. -/
theorem neg_spE_ne (x : EReal) : -spE x ≠ ⊤ := by
  induction x with
  | bot => rw [spE_bot]; simp
  | coe x => rw [spE_coe, ← EReal.coe_neg]; exact EReal.coe_ne_top _
  | top => rw [spE_top]; simp

/-- The two ways of writing a weight's exponent: the score less its softplus, and the later keys' sum; the softplus of the
    reflected score, and the sum from the key on less the key's own term. At an infinite score both are minus infinity. -/
theorem exponent_eq (z L : EReal) : -spE (-z) + ((-spE z + L) - -spE z) = (z + -spE z) + L := by
  induction z with
  | bot => rw [EReal.neg_bot, spE_top, EReal.neg_top, EReal.bot_add, EReal.bot_add, EReal.bot_add]
  | top => rw [EReal.neg_top, spE_bot, spE_top, EReal.neg_top, EReal.bot_add, EReal.bot_sub, EReal.add_bot, EReal.add_bot, EReal.bot_add]
  | coe z =>
    rw [← EReal.coe_neg, spE_coe, spE_coe, sp_neg]
    induction L with
    | bot => rw [EReal.add_bot, EReal.bot_sub, EReal.add_bot, EReal.add_bot]
    | top =>
      rw [← EReal.coe_neg, ← EReal.coe_neg, ← EReal.coe_add, EReal.coe_add_top, EReal.coe_add_top, EReal.top_sub_coe, EReal.coe_add_top]
    | coe L =>
      rw [← EReal.coe_neg, ← EReal.coe_neg, ← EReal.coe_add, ← EReal.coe_add, ← EReal.coe_add, ← EReal.coe_sub, ← EReal.coe_add]
      exact congrArg Real.toEReal (by ring)

/-- A number that is not plus infinity is its leading part and the two rests after it, though a rest of minus infinity is
    minus infinity again. -/
theorem parts_eq (x : EReal) (h : x ≠ ⊤) : x + (x - x) + ((x - x) - (x - x)) = x := by
  induction x with
  | bot => rfl
  | top => exact absurd rfl h
  | coe x => rw [← EReal.coe_sub, ← EReal.coe_sub, ← EReal.coe_add, ← EReal.coe_add]; exact congrArg Real.toEReal (by ring)

/-- The rank-two block holding the entries `a`. -/
def ar2 {n m : ℕ} (a : ℕ → ℕ → EReal) : (⟨2, ![n, m]⟩ : Shape).Idx → EReal := fun y => a (y 0).val (y 1).val

/-- Blocks agree where their entries in range do. -/
theorem ar2_congr {n m : ℕ} {a b : ℕ → ℕ → EReal} (h : ∀ p < n, ∀ r < m, a p r = b p r) : (ar2 a : (⟨2, ![n, m]⟩ : Shape).Idx → EReal) = ar2 b :=
  funext fun y => h _ (idx2_lt0 y) _ (idx2_lt1 y)

section Blocks
variable {φ₁ φ₂ : FTy} (a b : ℕ → ℕ → EReal)

/-- Rows times columns. -/
theorem ar_mm10 : (matmul (F := Ideal) (φ₁ := φ₁) (φ₂ := φ₂) dot_S256x128_S128x128_S256x128_1_0_0_1_n_n none (ar2 a) (ar2 b)
    (constant S256x128 .f32 0x00000000#32) : FVec Ideal S256x128 .f32) = ar2 fun p r => ∑ k ∈ range 128, a p k * b k r := by
  funext y
  simp only [pointwise]
  exact (zero_add _).trans (sum_range fun k => a (y 0).val k * b k (y 1).val).symm

/-- Rows times rows. -/
theorem ar_mm11 : (matmul (F := Ideal) (φ₁ := φ₁) (φ₂ := φ₂) dot_S256x128_S128x128_S256x128_1_1_0_0_n_n none (ar2 a) (ar2 b)
    (constant S256x128 .f32 0x00000000#32) : FVec Ideal S256x128 .f32) = ar2 fun p r => ∑ k ∈ range 128, a p k * b r k := by
  funext y
  simp only [pointwise]
  exact (zero_add _).trans (sum_range fun k => a (y 0).val k * b (y 1).val k).symm

/-- Sums along the rows. -/
theorem ar_rows : (Sb.rowsT (F := Ideal) (ar2 a) : FVec Ideal S256x1 .f32) = ar2 fun p _ => ∑ r ∈ range 128, a p r := by
  funext y
  unfold Sb.rowsT
  simp only [pointwise]
  exact (sum_range fun r => a (y 0).val r).symm

/-- A column over the columns of a block. -/
theorem ar_spread : (broadcastTo (s := S256x1) S256x128 (ar2 a) broadcasts_S256x1_S256x128 : FVec Ideal S256x128 .f32) = ar2 fun p _ => a p 0 := by
  funext y
  simp only [pointwise]
  unfold ar2
  simp

/-- Choosing by the block's mask. -/
theorem ar_select (i j : ℕ) (hi : i < 32) (hj : j < 64) :
    (select (Sb.maskT (BitVec.ofNat 32 i) (BitVec.ofNat 32 j)) (ar2 a) (broadcast S256x128 (Scalar.ofBits .f32 0x00000000#32 : Ideal .f32)) : FVec Ideal S256x128 .f32)
      = ar2 fun p r => if 128 * j + r < 256 * i + p then a p r else 0 :=
  funext fun y => by
    show (if Sb.maskT (BitVec.ofNat 32 i) (BitVec.ofNat 32 j) y = 1#1 then _ else Ideal.ofBits .f32 0x00000000#32) = _
    rw [Ideal.ofBits_zero_f32]
    exact if_congr (mask_iff i j hi hj y) rfl rfl

/-- A key block of a column block. -/
theorem getT_ar (j : ℕ) (hj : j < 64) : Sb.getT (ar2 a : S8192x128.Idx → EReal) j = ar2 fun r d => a (128 * j + r) d := by
  funext y
  have h0 := idx2_lt0 y
  show a ((j * 128 + (y 0).val) % 8192) (y 1).val = a (128 * j + (y 0).val) (y 1).val
  rw [Nat.mod_eq_of_lt (by omega), Nat.mul_comm j]

end Blocks

section Closed
variable (Q K V : ℕ → ℕ → EReal)

/-- The scaled score of row `t` at key `s`. -/
def scoreE (t s : ℕ) : EReal := (∑ d ∈ range 128, Q t d * K s d) * Ideal.ofBits .f32 0x3DB504F3#32

/-- The log-probability of passing key `s`, where row `t` sees it. -/
def failE (t s : ℕ) : EReal := if s < t then -spE (scoreE Q K t s) else 0

/-- The attention weight. -/
def probE (t s : ℕ) : EReal :=
  if s < t then Ideal.exp ((scoreE Q K t s + -spE (scoreE Q K t s)) + ∑ u ∈ Ico (s + 1) 8192, failE Q K t u) else 0

theorem failE_ne (t s : ℕ) : failE Q K t s ≠ ⊤ := by
  unfold failE
  split_ifs
  · exact neg_spE_ne _
  · exact EReal.zero_ne_top

theorem failE_zero {t s : ℕ} (h : t ≤ s) : failE Q K t s = 0 := if_neg (by omega)
theorem probE_zero {t s : ℕ} (h : t ≤ s) : probE Q K t s = 0 := if_neg (by omega)

/-- The later keys' log-probabilities, inside a block of 128 keys: the block's later keys, in three parts, and the later blocks'. -/
theorem late_block (t j b N : ℕ) (hb : b < 128) (ht : t ≤ N) (hs : 128 * j + 128 ≤ N) (hN : N ≤ 8192) :
    ((∑ r ∈ range 128, failE Q K t (128 * j + r) * (if b < r then 1 else 0))
      + (∑ r ∈ range 128, (failE Q K t (128 * j + r) - failE Q K t (128 * j + r)) * (if b < r then 1 else 0))
      + (∑ r ∈ range 128, ((failE Q K t (128 * j + r) - failE Q K t (128 * j + r)) - (failE Q K t (128 * j + r) - failE Q K t (128 * j + r))) * (if b < r then 1 else 0)))
      + (∑ u ∈ Ico (128 * (j + 1)) N, failE Q K t u) = ∑ u ∈ Ico (128 * j + b + 1) 8192, failE Q K t u := by
  rw [← sum_add_distrib, ← sum_add_distrib, ← sum_Ico_consecutive _ (show 128 * j + b + 1 ≤ N by omega) hN,
    sum_eq_zero (s := Ico N 8192) fun u hu => failE_zero Q K (ht.trans (mem_Ico.1 hu).1), add_zero,
    ← sum_Ico_consecutive _ (show 128 * j + b + 1 ≤ 128 * (j + 1) by omega) (show 128 * (j + 1) ≤ N by omega)]
  refine congrArg (· + _) ?_
  rw [← sum_range_add_sum_Ico _ (show b + 1 ≤ 128 by omega), sum_eq_zero fun r hr => ?_, zero_add, sum_Ico_eq_sum_range, sum_Ico_eq_sum_range,
    show 128 * (j + 1) - (128 * j + b + 1) = 128 - (b + 1) by omega]
  · refine sum_congr rfl fun r _ => ?_
    rw [if_pos (show b < b + 1 + r by omega), mul_one, mul_one, mul_one, parts_eq _ (failE_ne Q K _ _)]
    exact congrArg _ (by omega)
  · rw [if_neg (by have := mem_range.1 hr; omega), mul_zero, mul_zero, mul_zero, add_zero, add_zero]

/-- The scores of a block. -/
theorem pay18_ar (i j : ℕ) : k0_pay18 (F := Ideal) (ar2 fun p d => Q (256 * i + p) d) (ar2 fun r d => K (128 * j + r) d)
    = ar2 fun p r => scoreE Q K (256 * i + p) (128 * j + r) := by
  simp only [k0_pay18]
  rw [ar_mm11 (φ₁ := .bf16) (φ₂ := .bf16)]
  rfl

/-- The log-probabilities of passing a block's keys. -/
theorem pay20_ar (i j : ℕ) : k0_pay20 (F := Ideal) (ar2 fun p d => Q (256 * i + p) d) (ar2 fun r d => K (128 * j + r) d)
    = ar2 fun p r => -spE (scoreE Q K (256 * i + p) (128 * j + r)) := by
  simp only [k0_pay20]
  rw [pay18_ar]
  funext y
  show Ideal.ofBits .f32 0x00000000#32 - (max (scoreE Q K (256 * i + (y 0).val) (128 * j + (y 1).val)) (Ideal.ofBits .f32 0x00000000#32)
    + Ideal.log (Ideal.ofBits .f32 0x3F800000#32 + Ideal.exp (Ideal.ofBits .f32 0x00000000#32
      - max (scoreE Q K (256 * i + (y 0).val) (128 * j + (y 1).val)) (-(scoreE Q K (256 * i + (y 0).val) (128 * j + (y 1).val)))))) = _
  rw [Ideal.ofBits_zero_f32, ofBits_one, EReal.coe_one, sub_eq_add_neg, zero_add, sub_eq_add_neg 0, zero_add]
  rfl

/-- The masked log-probabilities of a block. -/
theorem failT_ar (i j : ℕ) (hi : i < 32) (hj : j < 64) :
    Sb.failT (F := Ideal) (BitVec.ofNat 32 i) (BitVec.ofNat 32 j) (ar2 fun p d => Q (256 * i + p) d) (ar2 fun r d => K (128 * j + r) d)
      = ar2 fun p r => failE Q K (256 * i + p) (128 * j + r) := by
  unfold Sb.failT
  rw [pay20_ar]
  exact ar_select _ i j hi hj

/-- The weights of a block as the forward loop computes them, from the block's scores and the running log-probability. -/
def fwdT (ib w : BitVec 32) (q : FVec Ideal S256x128 .bf16) (kt : FVec Ideal S128x128 .bf16) (r : FVec Ideal S256x1 .f32) : FVec Ideal S256x128 .f32 :=
  select (Sb.maskT ib w) (exp (addf (addf (addf (k0_pay18 q kt) (k0_pay20 q kt))
    (addf (Sb.scan2T (Sb.failT ib w q kt) k0_pay3)
      (matmul dot_S256x128_S128x128_S256x128_1_0_0_1_n_n none (Sb.hiT (Sb.restT (Sb.restT (Sb.failT ib w q kt)))) k0_pay3 (constant S256x128 .f32 0x00000000#32))))
    (broadcastTo (s := S256x1) S256x128 r broadcasts_S256x1_S256x128))) (broadcast S256x128 (Scalar.ofBits .f32 0x00000000#32))

/-- One turn's sum through those weights. -/
theorem sum_fwd (ib : BitVec 32) (q : FVec Ideal S256x128 .bf16) (X Y : S8192x128.Idx → EReal) (j : ℕ) (r : FVec Ideal S256x1 .f32) (a : FVec Ideal S256x128 .f32) :
    Fi.sumT (F := Ideal) ib q X Y j r a = addf (F := Ideal) (φ := .f32) a
      (matmul (F := Ideal) (φ₁ := .bf16) (φ₂ := .bf16) dot_S256x128_S128x128_S256x128_1_0_0_1_n_n none (fwdT ib (BitVec.ofNat 32 j) q (Sb.getT X j) r) (Sb.getT Y j)
        (constant S256x128 .f32 0x00000000#32)) := rfl

/-- One turn's running log-probability. -/
theorem seen_fwd (ib : BitVec 32) (q : FVec Ideal S256x128 .bf16) (X : S8192x128.Idx → EReal) (j : ℕ) (r : FVec Ideal S256x1 .f32) :
    Fi.seenT (F := Ideal) ib q X j r = addf (F := Ideal) (φ := .f32) r (Sb.rowsT (F := Ideal) (Sb.failT (F := Ideal) ib (BitVec.ofNat 32 j) q (Sb.getT X j))) := rfl

/-- Every row passes the threshold that stands for minus infinity. -/
theorem live_fwd (ib : BitVec 32) (q : FVec Ideal S256x128 .bf16) (X : S8192x128.Idx → EReal) (j : ℕ) (r : FVec Ideal S256x1 .f32) :
    Fi.liveT (F := Ideal) ib q X j r = 1#1 := by
  unfold Fi.liveT
  show BitVec.ofBool (decide ((⊥ : EReal) ≤ (Cert.AttnIdeal.Gen.k0_pay7 (F := Ideal) r (Fi.failT ib q X j) : EReal))) = 1#1
  rw [decide_eq_true bot_le]
  rfl

variable (i : ℕ) (hi : i < 32)

/-- The log-probabilities of the keys from `lo` up to the query block's last row. -/
def passedE (lo : ℕ) : S256x1.Idx → EReal := ar2 fun p _ => ∑ u ∈ Ico lo (256 * i + 256), failE Q K (256 * i + p) u

/-- The weighted values of the keys from `lo` up to the query block's last row. -/
def valueE (lo : ℕ) : S256x128.Idx → EReal := ar2 fun p d => ∑ u ∈ Ico lo (256 * i + 256), probE Q K (256 * i + p) u * V u d

/-- The matrix whose entry is one where the row comes later. -/
theorem pay3_ar : k0_pay3 (F := Ideal) = ar2 fun p r => if r < p then 1 else 0 := by
  rw [pay3_eq]
  funext y
  show (((if (y 1).val < (y 0).val then 1 else 0 : ℝ)) : EReal) = if (y 1).val < (y 0).val then 1 else 0
  split_ifs <;> rfl

include hi in
/-- The weights of a block, once the later blocks' log-probabilities are added up. -/
theorem fwdT_eq (j : ℕ) (hj : j < 2 * i + 2) :
    fwdT (BitVec.ofNat 32 i) (BitVec.ofNat 32 j) (ar2 fun p d => Q (256 * i + p) d) (ar2 fun r d => K (128 * j + r) d) (passedE Q K i (128 * (j + 1)))
      = ar2 fun p r => probE Q K (256 * i + p) (128 * j + r) := by
  have rest : ∀ a : ℕ → ℕ → EReal, Sb.hiT (F := Ideal) (Sb.restT (F := Ideal) (ar2 a)) = ar2 fun p r => a p r - a p r := fun _ => rfl
  have rest2 : ∀ a : ℕ → ℕ → EReal, Sb.hiT (F := Ideal) (Sb.restT (F := Ideal) (Sb.restT (F := Ideal) (ar2 a))) = ar2 fun p r => (a p r - a p r) - (a p r - a p r) := fun _ => rfl
  have lead : ∀ a : ℕ → ℕ → EReal, Sb.hiT (F := Ideal) (ar2 a) = ar2 a := fun _ => rfl
  unfold fwdT Sb.scan2T passedE
  rw [failT_ar Q K i j hi (by omega), pay18_ar, pay20_ar, pay3_ar, rest, rest2, lead, ar_mm10 (φ₁ := .bf16) (φ₂ := .bf16), ar_mm10 (φ₁ := .bf16) (φ₂ := .bf16),
    ar_mm10 (φ₁ := .bf16) (φ₂ := .bf16), ar_spread]
  refine (ar_select (fun p r => Ideal.exp (((scoreE Q K (256 * i + p) (128 * j + r) + -spE (scoreE Q K (256 * i + p) (128 * j + r)))
    + ((∑ k ∈ range 128, failE Q K (256 * i + p) (128 * j + k) * (if r < k then 1 else 0))
      + (∑ k ∈ range 128, (failE Q K (256 * i + p) (128 * j + k) - failE Q K (256 * i + p) (128 * j + k)) * (if r < k then 1 else 0))
      + (∑ k ∈ range 128, ((failE Q K (256 * i + p) (128 * j + k) - failE Q K (256 * i + p) (128 * j + k))
        - (failE Q K (256 * i + p) (128 * j + k) - failE Q K (256 * i + p) (128 * j + k))) * (if r < k then 1 else 0))))
    + ∑ u ∈ Ico (128 * (j + 1)) (256 * i + 256), failE Q K (256 * i + p) u)) i j hi (by omega)).trans ?_
  refine ar2_congr fun p hp r hr => ?_
  unfold probE
  rw [← late_block Q K (256 * i + p) j r (256 * i + 256) hr (by omega) (by omega) (by omega),
    add_assoc (scoreE Q K (256 * i + p) (128 * j + r) + -spE (scoreE Q K (256 * i + p) (128 * j + r)))]

include hi in
/-- One turn adds its block's weighted values. -/
theorem sumT_eq (j : ℕ) (hj : j < 2 * i + 2) :
    Fi.sumT (F := Ideal) (BitVec.ofNat 32 i) (ar2 fun p d => Q (256 * i + p) d) (ar2 K) (ar2 V) j (passedE Q K i (128 * (j + 1))) (valueE Q K V i (128 * (j + 1)))
      = valueE Q K V i (128 * j) := by
  rw [sum_fwd, getT_ar _ _ (by omega), getT_ar _ _ (by omega), fwdT_eq Q K i hi j hj, ar_mm10 (φ₁ := .bf16) (φ₂ := .bf16)]
  unfold valueE
  refine ar2_congr (a := fun p d => (∑ u ∈ Ico (128 * (j + 1)) (256 * i + 256), probE Q K (256 * i + p) u * V u d)
    + ∑ b ∈ range 128, probE Q K (256 * i + p) (128 * j + b) * V (128 * j + b) d) fun p _ d _ => ?_
  rw [← sum_Ico_consecutive _ (show 128 * j ≤ 128 * (j + 1) by omega) (show 128 * (j + 1) ≤ 256 * i + 256 by omega), add_comm,
    sum_Ico_eq_sum_range _ (128 * j), show 128 * (j + 1) - 128 * j = 128 by omega]

include hi in
/-- One turn adds its block's log-probabilities. -/
theorem seenT_eq (j : ℕ) (hj : j < 2 * i + 2) :
    Fi.seenT (F := Ideal) (BitVec.ofNat 32 i) (ar2 fun p d => Q (256 * i + p) d) (ar2 K) j (passedE Q K i (128 * (j + 1))) = passedE Q K i (128 * j) := by
  rw [seen_fwd, getT_ar _ _ (by omega), failT_ar Q K i j hi (by omega), ar_rows]
  unfold passedE
  refine ar2_congr (a := fun p _ => (∑ u ∈ Ico (128 * (j + 1)) (256 * i + 256), failE Q K (256 * i + p) u)
    + ∑ b ∈ range 128, failE Q K (256 * i + p) (128 * j + b)) fun p _ d _ => ?_
  rw [← sum_Ico_consecutive _ (show 128 * j ≤ 128 * (j + 1) by omega) (show 128 * (j + 1) ≤ 256 * i + 256 by omega), add_comm,
    sum_Ico_eq_sum_range _ (128 * j), show 128 * (j + 1) - 128 * j = 128 by omega]

include hi in
/-- The loop goes down to the first key block. -/
theorem loopT_eq (j : ℕ) (hj : j < 2 * i + 2) :
    Fi.loopT (F := Ideal) (BitVec.ofNat 32 i) (ar2 fun p d => Q (256 * i + p) d) (ar2 K) (ar2 V) j (passedE Q K i (128 * (j + 1))) (valueE Q K V i (128 * (j + 1)))
      = valueE Q K V i 0 := by
  induction j with
  | zero => exact sumT_eq Q K V i hi 0 hj
  | succ j ih =>
    unfold Fi.loopT
    rw [if_pos (live_fwd _ _ _ _ _), seenT_eq Q K i hi (j + 1) hj, sumT_eq Q K V i hi (j + 1) hj]
    exact ih (by omega)

include hi in
/-- A grid point's result. -/
theorem point_fwd : Fi.stepT (F := Ideal) i (ar2 fun p d => Q (256 * i + p) d) (ar2 K) (ar2 V) = valueE Q K V i 0 := by
  have e := loopT_eq Q K V i hi (2 * i + 1) (by omega)
  have e2 : Cert.AttnIdeal.Gen.k0_pay2 (F := Ideal) = passedE Q K i (128 * (2 * i + 1 + 1)) := by
    funext y
    show Ideal.ofBits .f32 0x00000000#32 = ∑ u ∈ Ico (128 * (2 * i + 1 + 1)) (256 * i + 256), failE Q K (256 * i + (y 0).val) u
    rw [Ico_eq_empty (by omega), sum_empty]
    exact Ideal.ofBits_zero_f32
  have e3 : Cert.AttnIdeal.Gen.k0_pay3 (F := Ideal) = valueE Q K V i (128 * (2 * i + 1 + 1)) := by
    funext y
    show Ideal.ofBits .f32 0x00000000#32
      = ∑ u ∈ Ico (128 * (2 * i + 1 + 1)) (256 * i + 256), probE Q K (256 * i + (y 0).val) u * V u (y 1).val
    rw [Ico_eq_empty (by omega), sum_empty]
    exact Ideal.ofBits_zero_f32
  rw [← e2, ← e3] at e
  exact e

include hi in
/-- Keys after the query block's last row carry no weight. -/
theorem valueE_all (p d : ℕ) (hp : p < 256) : (∑ u ∈ Ico 0 (256 * i + 256), probE Q K (256 * i + p) u * V u d)
    = ∑ u : Fin 8192, probE Q K (256 * i + p) u.val * V u.val d := by
  rw [← sum_range fun u => probE Q K (256 * i + p) u * V u d, range_eq_Ico,
    ← sum_Ico_consecutive _ (Nat.zero_le (256 * i + 256)) (show 256 * i + 256 ≤ 8192 by omega),
    sum_eq_zero (s := Ico (256 * i + 256) 8192) fun u hu => by
      have := mem_Ico.1 hu
      rw [probE_zero Q K (by omega), zero_mul], add_zero]

end Closed

end Cert.Proof.Va

end
-- ==== Proof.Va.FwdSame.lean ====
/- The attention's forward call: on any arguments the kernel and the reference end with the same array. -/
module

public import proofs.«01_k».proof.Proof.Va.Fwd
public import proofs.«01_k».proof.Proof.Va.Final
public import proofs.«01_k».proof.Proof.Fi.Frames
public import proofs.«01_k».proof.Proof.Gen.AttnRefIdeal.Read

@[expose] public section

noncomputable section

namespace Cert.Proof.Va

open Idealize.ShloMosaic Idealize.ShloMosaic.TcCoe Idealize.ShloMosaic.ValueIdx Idealize.SL.Sem
open Finset

/-- An array of eight heads side by side. -/
abbrev Arr : Shape := ⟨2, ![8192, 1024]⟩

/-- Two indices of an array are the same where their coordinates are. -/
theorem arr_ext {a b : Arr.Idx} (h0 : (a 0).val = (b 0).val) (h1 : (a 1).val = (b 1).val) : a = b := funext fun x => by
  match x with
  | ⟨0, _⟩ => exact Fin.ext h0
  | ⟨1, _⟩ => exact Fin.ext h1

/-- One head of an array. -/
def headE (X : Arr.Idx → EReal) (h : ℕ) : ℕ → ℕ → EReal := fun t d => X (ValueIdx.ix2 (Fin.ofNat 8192 t) (Fin.ofNat 1024 (128 * h + d)))

/-- An entry of an array as an entry of its head. -/
theorem headE_eq (X : Arr.Idx → EReal) (y : Arr.Idx) (h t d : ℕ) (ht : (y 0).val = t) (hd : (y 1).val = 128 * h + d) : X y = headE X h t d :=
  congrArg X (arr_ext (by
    show (y 0).val = t % 8192
    rw [Nat.mod_eq_of_lt (ht ▸ idx2_lt0 y), ht]) (by
    show (y 1).val = (128 * h + d) % 1024
    rw [Nat.mod_eq_of_lt (hd ▸ idx2_lt1 y), hd]))

/-- The attention's result: each head's values, weighted. -/
def outF (X0 X1 X2 : Arr.Idx → EReal) : Arr.Idx → EReal :=
  fun i => ∑ u : Fin 8192, probE (headE X0 ((i 1).val / 128)) (headE X1 ((i 1).val / 128)) (i 0).val u.val * headE X2 ((i 1).val / 128) u.val ((i 1).val % 128)

section Kernel

open Cert.AttnIdeal Cert.AttnIdeal.Gen

theorem fidx0 : ∀ t : Fin grid0.N, win0_0.index t = ![t.val % 32, t.val / 32] := by decide +kernel
theorem fidx1 : ∀ t : Fin grid0.N, win0_1.index t = ![0, t.val / 32] := by decide +kernel
theorem fidx2 : ∀ t : Fin grid0.N, win0_2.index t = ![0, t.val / 32] := by decide +kernel
theorem fidx3 : ∀ t : Fin grid0.N, win0_3.index t = ![t.val % 32, t.val / 32] := by decide +kernel

variable (m : (ℓ : Loc nD τ Cert.AttnIdeal.sig) → Buf (Elt Ideal) ℓ) (c : Dev nD)

/-- The query block of a grid point. -/
theorem fblock0 (X : Arr.Idx → EReal) (h : Fi.entry m c main_arg0 = X) (t : Fin grid0.N) :
    (Fi.blockAt (F := Ideal) m c 0 t : S256x128.Idx → EReal) = ar2 fun p d => headE X (t.val / 32) (256 * (t.val % 32) + p) d := by
  funext y
  show Fi.entry m c main_arg0 (((cfg0.win 0).blk t).view.emb y) = _
  rw [h]
  exact headE_eq X _ _ _ _ (by blk_simp [fidx0]; omega) (by blk_simp [fidx0]; omega)

/-- The head's keys. -/
theorem fblock1 (X : Arr.Idx → EReal) (h : Fi.entry m c main_arg1 = X) (t : Fin grid0.N) :
    (Fi.blockAt (F := Ideal) m c 1 t : S8192x128.Idx → EReal) = ar2 (headE X (t.val / 32)) := by
  funext y
  show Fi.entry m c main_arg1 (((cfg0.win 1).blk t).view.emb y) = _
  rw [h]
  exact headE_eq X _ _ _ _ (by blk_simp [fidx1]) (by blk_simp [fidx1]; omega)

/-- The head's values. -/
theorem fblock2 (X : Arr.Idx → EReal) (h : Fi.entry m c main_arg2 = X) (t : Fin grid0.N) :
    (Fi.blockAt (F := Ideal) m c 2 t : S8192x128.Idx → EReal) = ar2 (headE X (t.val / 32)) := by
  funext y
  show Fi.entry m c main_arg2 (((cfg0.win 2).blk t).view.emb y) = _
  rw [h]
  exact headE_eq X _ _ _ _ (by blk_simp [fidx2]) (by blk_simp [fidx2]; omega)

/-- The result's array. -/
theorem ffinal3 : (Fi.dats (F := Ideal) m 0 c).arrAt 3 (cfg0 (F := Ideal)).N
    = outF (Fi.entry m c main_arg0) (Fi.entry m c main_arg1) (Fi.entry m c main_arg2) := by
  refine (Fi.dats m 0 c).arrAt_eq_of_covers 3 _ (by decide +kernel) fun t hf y => ?_
  blk_simp
  rw [Fi.after3]
  unfold Fi.pointT
  rw [Fi.coord1, fblock0 m c _ rfl, fblock1 m c _ rfl, fblock2 m c _ rfl, point_fwd _ _ _ _ (Nat.mod_lt _ (by decide))]
  have h0 : (y 0).val < 256 := (y 0).isLt
  have h1 : (y 1).val < 128 := (y 1).isLt
  have e0 : ((((cfg0 (F := Ideal)).win 3).blk t).view.emb y 0).val = 256 * (t.val % 32) + (y 0).val := by blk_simp [fidx3]; omega
  have e1 : ((((cfg0 (F := Ideal)).win 3).blk t).view.emb y 1).val = 128 * (t.val / 32) + (y 1).val := by blk_simp [fidx3]; omega
  unfold outF
  rw [e0, e1, show (128 * (t.val / 32) + (y 1).val) / 128 = t.val / 32 by omega, show (128 * (t.val / 32) + (y 1).val) % 128 = (y 1).val by omega]
  exact valueE_all _ _ _ _ (Nat.mod_lt _ (by decide)) _ _ h0

end Kernel

section Weights

open Cert.ReferenceIdeal Cert.ReferenceIdeal.Gen Cert.ReferenceIdeal.Read

variable (X0 X1 : Arr.Idx → EReal)

/-- The softplus of any argument, as the reference computes it. -/
theorem soft_any (x X Z : EReal) (hX : X = x) (hZ : Z = 0) :
    (Scalar.select (FloatOps.cmpf (F := Ideal) (φ := .f32) .une (FloatOps.subf (F := Ideal) (φ := .f32) X Z) (FloatOps.subf (F := Ideal) (φ := .f32) X Z))
      (FloatOps.addf (F := Ideal) (φ := .f32) X Z)
      (FloatOps.addf (F := Ideal) (φ := .f32) (FloatOps.maximumf (F := Ideal) (φ := .f32) X Z)
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) X Z)))))) : EReal)
      = spE x := by
  subst hX hZ
  have hc : FloatOps.cmpf (F := Ideal) (φ := .f32) .une (FloatOps.subf (F := Ideal) (φ := .f32) X (0 : EReal))
      (FloatOps.subf (F := Ideal) (φ := .f32) X (0 : EReal)) = 0#1 := by
    show BitVec.ofBool (decide (_ ≠ _)) = 0#1
    simp
  rw [hc]
  show max X 0 + Ideal.log (1 + Ideal.exp (-(max (X - 0) (-(X - 0))))) = _
  rw [sub_eq_add_neg, neg_zero, add_zero]
  rfl

/-- The reference's zero. -/
theorem ofBits_zero_any : (FloatOps.ofBits (F := Ideal) .f32 0x00000000#32 : EReal) = 0 := ofBits_zero.trans EReal.coe_zero

/-- The scores. -/
theorem score_any : val_main_v11 (F := Ideal) X0 X1 = ar3 fun h t s => scoreE (headE X0 h) (headE X1 h) t s := by
  funext i
  have h0 : (i 0).val < 8 := (i 0).isLt
  rw [val_main_v11_apply, val_main_v10_apply, val_main_cst_apply, val_main_v9_apply]
  unfold ar3 scoreE
  dsimp only
  rw [sum_range]
  refine congrArg (· * Ideal.ofBits .f32 0x3DB504F3#32) (sum_congr rfl fun d _ => ?_)
  have hd : d.val < 128 := d.isLt
  rw [val_main_v4_apply, val_main_v3_apply, val_main_v0_apply, val_main_v6_apply, val_main_v5_apply, val_main_v1_apply]
  refine congrArg₂ (· * ·) (headE_eq X0 _ _ _ _ ?_ ?_) (headE_eq X1 _ _ _ _ ?_ ?_)
  · show (((i 1).val * 8 + (i 0).val) * 128 + d.val) / 1024 = (i 1).val
    omega
  · show (((i 1).val * 8 + (i 0).val) * 128 + d.val) % 1024 = 128 * (i 0).val + d.val
    omega
  · show (((i 2).val * 8 + (i 0).val) * 128 + d.val) / 1024 = (i 2).val
    omega
  · show (((i 2).val * 8 + (i 0).val) * 128 + d.val) % 1024 = 128 * (i 0).val + d.val
    omega

/-- The softplus of the scores. -/
theorem soft_score (i : S8x8192x8192.Idx) : val_main_call0_v1_0 (F := Ideal) X0 X1 i = spE (scoreE (headE X0 (i 0).val) (headE X1 (i 0).val) (i 1).val (i 2).val) := by
  rw [val_main_call0_v1_0_apply, val_main_call0_call0_v4_apply, val_main_call0_call0_v6_apply, val_main_call0_call0_v11_apply, val_main_call0_call0_v1_apply,
    val_main_call0_call0_v10_apply, val_main_call0_call0_v9_apply, val_main_call0_call0_v8_apply, val_main_call0_call0_v7_apply, val_main_call0_call0_v3_apply,
    val_main_call0_call0_v0_apply, val_main_call0_call0_v2_apply, val_main_call0_call0_v5_apply]
  refine soft_any _ _ _ ?_ ofBits_zero_any
  rw [val_main_call0_v0_apply, val_main_v19_apply, score_any]
  exact neg_neg _

/-- The softplus of the reflected scores. -/
theorem soft_reflected (i : S8x8192x8192.Idx) :
    val_main_call3_v1_0 (F := Ideal) X0 X1 i = spE (-scoreE (headE X0 (i 0).val) (headE X1 (i 0).val) (i 1).val (i 2).val) := by
  rw [val_main_call3_v1_0_apply, val_main_call3_call0_v4_apply, val_main_call3_call0_v6_apply, val_main_call3_call0_v11_apply, val_main_call3_call0_v1_apply,
    val_main_call3_call0_v10_apply, val_main_call3_call0_v9_apply, val_main_call3_call0_v8_apply, val_main_call3_call0_v7_apply, val_main_call3_call0_v3_apply,
    val_main_call3_call0_v0_apply, val_main_call3_call0_v2_apply, val_main_call3_call0_v5_apply]
  refine soft_any _ _ _ ?_ ofBits_zero_any
  rw [val_main_call3_v0_apply, score_any]
  rfl

/-- Choosing between extended reals by a mask. -/
theorem sel_any (P : Prop) [Decidable P] (b : BitVec 1) (h : b = 1#1 ↔ P) (X Y x : EReal) (hX : X = x) (hY : Y = 0) :
    Scalar.select b X Y = if P then x else 0 := by
  subst hX hY
  exact if_congr h rfl rfl

/-- The log-probabilities of passing. -/
theorem fail_any : val_main_v21_0 (F := Ideal) X0 X1 = ar3 fun h t s => failE (headE X0 h) (headE X1 h) t s := by
  funext i
  rw [val_main_v21_0_apply, val_main_call1_v2_apply, val_main_v20_0_apply, soft_score]
  exact sel_any _ _ (mask_ref1 i) _ _ _ rfl ofBits_zero_any

/-- Their sums from each key on. -/
theorem from_any : val_main_v22 (F := Ideal) X0 X1 = ar3 fun h t s => ∑ u ∈ Ico s 8192, failE (headE X0 h) (headE X1 h) t u := by
  unfold val_main_v22
  rw [fail_any]
  exact sum_from_any (fun h t s => failE (headE X0 h) (headE X1 h) t s) _ fun _ => ofBits_zero_any

/-- The weights. -/
theorem prob_any : val_main_v27_0 (F := Ideal) X0 X1 = ar3 fun h t s => probE (headE X0 h) (headE X1 h) t s := by
  funext i
  have h2 : (i 2).val < 8192 := (i 2).isLt
  rw [val_main_v27_0_apply, val_main_call4_v2_apply, val_main_v26_apply, val_main_v25_apply, val_main_v24_0_apply, soft_reflected, val_main_v23_apply, from_any, fail_any]
  refine (sel_any _ _ (mask_ref2 i) _ _ _ rfl ofBits_zero_any).trans ?_
  unfold ar3 probE
  refine if_ctx_congr Iff.rfl (fun hs => ?_) fun _ => rfl
  refine congrArg Ideal.exp (Eq.trans ?_ (exponent_eq _ _))
  have e : failE (headE X0 (i 0).val) (headE X1 (i 0).val) (i 1).val (i 2).val = -spE (scoreE (headE X0 (i 0).val) (headE X1 (i 0).val) (i 1).val (i 2).val) := if_pos hs
  dsimp only
  rw [sum_eq_sum_Ico_succ_bot h2, e]
  rfl

end Weights

section Reference

open Cert.AttnRefIdeal Cert.AttnRefIdeal.Gen Cert.AttnRefIdeal.Read

/-- The forward reference's weights are the gradient reference's. -/
theorem weights_same : @val_main_v27 Ideal _ = @Cert.ReferenceIdeal.Read.val_main_v27_0 Ideal _ := rfl

/-- The reference's result. -/
theorem outF_ref (X0 X1 X2 : Arr.Idx → EReal) : val_main_v31 (F := Ideal) X0 X1 X2 = outF X0 X1 X2 := by
  funext i
  have h0 : (i 0).val < 8192 := (i 0).isLt
  have h1 : (i 1).val < 1024 := (i 1).isLt
  have e0 : ((i 0).val * 1024 + (i 1).val) / 1024 = (i 0).val := by omega
  have e1 : ((i 0).val * 1024 + (i 1).val) / 128 % 8 = (i 1).val / 128 := by omega
  rw [val_main_v31_apply]
  show val_main_v30 (F := Ideal) X0 X1 X2 i = _
  rw [val_main_v30_apply, val_main_v29_apply, val_main_v28_apply, weights_same, prob_any]
  unfold outF
  refine sum_congr rfl fun u _ => ?_
  have hu : u.val < 8192 := u.isLt
  rw [val_main_v8_apply, val_main_v7_apply, val_main_v2_apply]
  refine congrArg₂ (· * ·) ?_ (headE_eq X2 _ _ _ _ ?_ ?_)
  · show probE (headE X0 (((i 0).val * 1024 + (i 1).val) / 128 % 8)) (headE X1 (((i 0).val * 1024 + (i 1).val) / 128 % 8)) (((i 0).val * 1024 + (i 1).val) / 1024) u.val = _
    rw [e0, e1]
  · show ((u.val * 8 + ((i 0).val * 1024 + (i 1).val) / 128 % 8) * 128 + ((i 0).val * 1024 + (i 1).val) % 128) / 1024 = u.val
    omega
  · show ((u.val * 8 + ((i 0).val * 1024 + (i 1).val) / 128 % 8) * 128 + ((i 0).val * 1024 + (i 1).val) % 128) % 1024 = 128 * ((i 1).val / 128) + (i 1).val % 128
    omega

end Reference

/-- The ideal kernel and the ideal reference return the same attention, on any arguments. -/
theorem same_fwd : @Cert.algebraic_AttnIdeal_AttnRefIdeal Cert.AttnIdeal.Gen.facts Cert.AttnRefIdeal.Gen.facts := by
  intro m ρ m' ρ' _ hin
  refine ⟨fun c => outF (m ((c.tc : Thread Cert.AttnIdeal.nD Cert.AttnIdeal.τ).loc Cert.AttnIdeal.main_arg0))
    (m ((c.tc : Thread Cert.AttnIdeal.nD Cert.AttnIdeal.τ).loc Cert.AttnIdeal.main_arg1))
    (m ((c.tc : Thread Cert.AttnIdeal.nD Cert.AttnIdeal.τ).loc Cert.AttnIdeal.main_arg2)), ?_, ?_⟩
  · refine (θ_run Cert.AttnIdeal.defs _ _).mono (fun r h c => ?_) (Fi.run_main (F := Ideal) m ρ)
    exact ⟨((h.1 c).1 3).trans (ffinal3 m c), Fi.args_kept m r h.1 c⟩
  · refine (θ_run Cert.AttnRefIdeal.defs _ _).mono (fun r h c => ?_) (Cert.AttnRefIdeal.Value.run (F := Ideal) m' ρ')
    obtain ⟨e1, hargs⟩ := h c
    obtain ⟨a0, a1, a2⟩ := hin c
    refine ⟨e1.trans ?_, hargs⟩
    rw [Cert.AttnRefIdeal.Read.val_main_v31_eq, a0, a1, a2]
    exact outF_ref _ _ _

end Cert.Proof.Va

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Dwdown
public import proofs.«01_k».proof.Proof.Gen.Dwdown.Skeleton
public import proofs.«01_k».proof.Proof.Gen.Dwdown.Launch
public import proofs.«01_k».proof.Proof.Gen.Dwdown.Points
public import proofs.«01_k».proof.Proof.Gen.Dwdown.Frame
public import proofs.«01_k».proof.Proof.Gen.DwdownIdeal
public import proofs.«01_k».proof.Proof.Gen.DwdownIdeal.Skeleton
public import proofs.«01_k».proof.Proof.Gen.DwdownIdeal.Launch
public import proofs.«01_k».proof.Proof.Gen.DwdownIdeal.Points
public import proofs.«01_k».proof.Proof.Gen.DwdownIdeal.Frame
public import proofs.«01_k».proof.Proof.Gen.DwdownRefIdeal
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactRefIdeal
public import proofs.«01_k».proof.Proof.Gen.Dmid
public import proofs.«01_k».proof.Proof.Gen.Dmid.Skeleton
public import proofs.«01_k».proof.Proof.Gen.Dmid.Launch
public import proofs.«01_k».proof.Proof.Gen.Dmid.Points
public import proofs.«01_k».proof.Proof.Gen.Dmid.Frame
public import proofs.«01_k».proof.Proof.Gen.DmidIdeal
public import proofs.«01_k».proof.Proof.Gen.DmidIdeal.Skeleton
public import proofs.«01_k».proof.Proof.Gen.DmidIdeal.Launch
public import proofs.«01_k».proof.Proof.Gen.DmidIdeal.Points
public import proofs.«01_k».proof.Proof.Gen.DmidIdeal.Frame
public import proofs.«01_k».proof.Proof.Gen.DmidRefIdeal
public import proofs.«01_k».proof.Proof.Gen.Dconv
public import proofs.«01_k».proof.Proof.Gen.Dconv.Skeleton
public import proofs.«01_k».proof.Proof.Gen.Dconv.Launch
public import proofs.«01_k».proof.Proof.Gen.Dconv.Points
public import proofs.«01_k».proof.Proof.Gen.Dconv.Frame
public import proofs.«01_k».proof.Proof.Gen.DconvIdeal
public import proofs.«01_k».proof.Proof.Gen.DconvIdeal.Skeleton
public import proofs.«01_k».proof.Proof.Gen.DconvIdeal.Launch
public import proofs.«01_k».proof.Proof.Gen.DconvIdeal.Points
public import proofs.«01_k».proof.Proof.Gen.DconvIdeal.Frame
public import proofs.«01_k».proof.Proof.Gen.DconvRefIdeal
public import proofs.«01_k».proof.Proof.Gen.Dwup
public import proofs.«01_k».proof.Proof.Gen.Dwup.Skeleton
public import proofs.«01_k».proof.Proof.Gen.Dwup.Launch
public import proofs.«01_k».proof.Proof.Gen.Dwup.Points
public import proofs.«01_k».proof.Proof.Gen.Dwup.Frame
public import proofs.«01_k».proof.Proof.Gen.DwupIdeal
public import proofs.«01_k».proof.Proof.Gen.DwupIdeal.Skeleton
public import proofs.«01_k».proof.Proof.Gen.DwupIdeal.Launch
public import proofs.«01_k».proof.Proof.Gen.DwupIdeal.Points
public import proofs.«01_k».proof.Proof.Gen.DwupIdeal.Frame
public import proofs.«01_k».proof.Proof.Gen.DwupRefIdeal
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhRefIdeal
public import proofs.«01_k».proof.Proof.Gen.Dnorm
public import proofs.«01_k».proof.Proof.Gen.Dnorm.Skeleton
public import proofs.«01_k».proof.Proof.Gen.Dnorm.Launch
public import proofs.«01_k».proof.Proof.Gen.Dnorm.Points
public import proofs.«01_k».proof.Proof.Gen.Dnorm.Frame
public import proofs.«01_k».proof.Proof.Gen.DnormIdeal
public import proofs.«01_k».proof.Proof.Gen.DnormIdeal.Skeleton
public import proofs.«01_k».proof.Proof.Gen.DnormIdeal.Launch
public import proofs.«01_k».proof.Proof.Gen.DnormIdeal.Points
public import proofs.«01_k».proof.Proof.Gen.DnormIdeal.Frame
public import proofs.«01_k».proof.Proof.Gen.DnormRefIdeal
public import proofs.«01_k».proof.Proof.Gen.Pre_finite
public import proofs.«01_k».proof.Proof.Gen.DwdownIdeal.Value
public import proofs.«01_k».proof.Proof.Gen.DwdownRefIdeal.Run
public import proofs.«01_k».proof.Proof.Gen.DwdownRefIdeal.Read
public import proofs.«01_k».proof.Proof.Gen.DactIdeal.Value
public import proofs.«01_k».proof.Proof.Gen.DactRefIdeal.Run
public import proofs.«01_k».proof.Proof.Gen.DactRefIdeal.Read
public import proofs.«01_k».proof.Proof.Gen.DmidIdeal.Value
public import proofs.«01_k».proof.Proof.Gen.DmidRefIdeal.Run
public import proofs.«01_k».proof.Proof.Gen.DmidRefIdeal.Read
public import proofs.«01_k».proof.Proof.Gen.DconvIdeal.Value
public import proofs.«01_k».proof.Proof.Gen.DconvRefIdeal.Run
public import proofs.«01_k».proof.Proof.Gen.DconvRefIdeal.Read
public import proofs.«01_k».proof.Proof.Gen.DwupIdeal.Value
public import proofs.«01_k».proof.Proof.Gen.DwupRefIdeal.Run
public import proofs.«01_k».proof.Proof.Gen.DwupRefIdeal.Read
public import proofs.«01_k».proof.Proof.Gen.DhIdeal.Value
public import proofs.«01_k».proof.Proof.Gen.DhRefIdeal.Run
public import proofs.«01_k».proof.Proof.Gen.DhRefIdeal.Read
public import proofs.«01_k».proof.Proof.Gen.DnormIdeal.Value
public import proofs.«01_k».proof.Proof.Gen.DnormRefIdeal.Run
public import proofs.«01_k».proof.Proof.Gen.DnormRefIdeal.Read
public import proofs.«01_k».proof.Proof.Gen.ReferenceIdeal.Run
public import proofs.«01_k».proof.Proof.Gen.ReferenceIdeal.Read
public import proofs.«01_k».proof.Proof.Sb.Frames
public import proofs.«01_k».proof.Proof.Va.Final
public import proofs.«01_k».proof.Proof.Pr.Dwdown
public import proofs.«01_k».proof.Proof.Pr.Dact
public import proofs.«01_k».proof.Proof.Pr.Dmid
public import proofs.«01_k».proof.Proof.Pr.Dconv
public import proofs.«01_k».proof.Proof.Pr.Dwup
public import proofs.«01_k».proof.Proof.Pr.Dh
public import proofs.«01_k».proof.Proof.Pr.Dnorm
public import proofs.«01_k».proof.Proof.Gen.Dwout
public import proofs.«01_k».proof.Proof.Gen.DwoutIdeal
public import proofs.«01_k».proof.Proof.Gen.DwoutRefIdeal
public import proofs.«01_k».proof.Proof.Gen.DwoutIdeal.Value
public import proofs.«01_k».proof.Proof.Gen.DwoutRefIdeal.Run
public import proofs.«01_k».proof.Proof.Gen.DwoutRefIdeal.Read
public import proofs.«01_k».proof.Proof.Gen.Dyout
public import proofs.«01_k».proof.Proof.Gen.DyoutIdeal
public import proofs.«01_k».proof.Proof.Gen.DyoutRefIdeal
public import proofs.«01_k».proof.Proof.Gen.DyoutIdeal.Value
public import proofs.«01_k».proof.Proof.Gen.DyoutRefIdeal.Run
public import proofs.«01_k».proof.Proof.Gen.DyoutRefIdeal.Read
public import proofs.«01_k».proof.Proof.Gen.Dosb
public import proofs.«01_k».proof.Proof.Gen.DosbIdeal
public import proofs.«01_k».proof.Proof.Gen.DosbRefIdeal
public import proofs.«01_k».proof.Proof.Gen.DosbIdeal.Value
public import proofs.«01_k».proof.Proof.Gen.DosbRefIdeal.Run
public import proofs.«01_k».proof.Proof.Gen.DosbRefIdeal.Read
public import proofs.«01_k».proof.Proof.Gen.Dwin
public import proofs.«01_k».proof.Proof.Gen.DwinIdeal
public import proofs.«01_k».proof.Proof.Gen.DwinRefIdeal
public import proofs.«01_k».proof.Proof.Gen.DwinIdeal.Value
public import proofs.«01_k».proof.Proof.Gen.DwinRefIdeal.Run
public import proofs.«01_k».proof.Proof.Gen.DwinRefIdeal.Read
public import proofs.«01_k».proof.Proof.Gen.Dhin
public import proofs.«01_k».proof.Proof.Gen.DhinIdeal
public import proofs.«01_k».proof.Proof.Gen.DhinRefIdeal
public import proofs.«01_k».proof.Proof.Gen.DhinIdeal.Value
public import proofs.«01_k».proof.Proof.Gen.DhinRefIdeal.Run
public import proofs.«01_k».proof.Proof.Gen.DhinRefIdeal.Read
public import proofs.«01_k».proof.Proof.Gen.Dwkv
public import proofs.«01_k».proof.Proof.Gen.DwkvIdeal
public import proofs.«01_k».proof.Proof.Gen.DwkvRefIdeal
public import proofs.«01_k».proof.Proof.Gen.DwkvIdeal.Value
public import proofs.«01_k».proof.Proof.Gen.DwkvRefIdeal.Run
public import proofs.«01_k».proof.Proof.Gen.DwkvRefIdeal.Read
public import proofs.«01_k».proof.Proof.Gen.Dhkv
public import proofs.«01_k».proof.Proof.Gen.DhkvIdeal
public import proofs.«01_k».proof.Proof.Gen.DhkvRefIdeal
public import proofs.«01_k».proof.Proof.Gen.DhkvIdeal.Value
public import proofs.«01_k».proof.Proof.Gen.DhkvRefIdeal.Run
public import proofs.«01_k».proof.Proof.Gen.DhkvRefIdeal.Read
public import proofs.«01_k».proof.Proof.Gen.Up
public import proofs.«01_k».proof.Proof.Gen.UpIdeal
public import proofs.«01_k».proof.Proof.Gen.UpRefIdeal
public import proofs.«01_k».proof.Proof.Gen.UpIdeal.Value
public import proofs.«01_k».proof.Proof.Gen.UpRefIdeal.Run
public import proofs.«01_k».proof.Proof.Gen.UpRefIdeal.Read
public import proofs.«01_k».proof.Proof.Gen.Down
public import proofs.«01_k».proof.Proof.Gen.DownIdeal
public import proofs.«01_k».proof.Proof.Gen.DownRefIdeal
public import proofs.«01_k».proof.Proof.Gen.DownIdeal.Value
public import proofs.«01_k».proof.Proof.Gen.DownRefIdeal.Run
public import proofs.«01_k».proof.Proof.Gen.DownRefIdeal.Read
public import proofs.«01_k».proof.Proof.Gen.Inp
public import proofs.«01_k».proof.Proof.Gen.InpIdeal
public import proofs.«01_k».proof.Proof.Gen.InpRefIdeal
public import proofs.«01_k».proof.Proof.Gen.InpIdeal.Value
public import proofs.«01_k».proof.Proof.Gen.InpRefIdeal.Run
public import proofs.«01_k».proof.Proof.Gen.InpRefIdeal.Read
public import proofs.«01_k».proof.Proof.Gen.Outp
public import proofs.«01_k».proof.Proof.Gen.OutpIdeal
public import proofs.«01_k».proof.Proof.Gen.OutpRefIdeal
public import proofs.«01_k».proof.Proof.Gen.OutpIdeal.Value
public import proofs.«01_k».proof.Proof.Gen.OutpRefIdeal.Run
public import proofs.«01_k».proof.Proof.Gen.OutpRefIdeal.Read
public import proofs.«01_k».proof.Proof.Gen.Qp
public import proofs.«01_k».proof.Proof.Gen.QpIdeal
public import proofs.«01_k».proof.Proof.Gen.QpRefIdeal
public import proofs.«01_k».proof.Proof.Gen.QpIdeal.Value
public import proofs.«01_k».proof.Proof.Gen.QpRefIdeal.Run
public import proofs.«01_k».proof.Proof.Gen.QpRefIdeal.Read
public import proofs.«01_k».proof.Proof.Gen.Kvp
public import proofs.«01_k».proof.Proof.Gen.KvpIdeal
public import proofs.«01_k».proof.Proof.Gen.KvpRefIdeal
public import proofs.«01_k».proof.Proof.Gen.KvpIdeal.Value
public import proofs.«01_k».proof.Proof.Gen.KvpRefIdeal.Run
public import proofs.«01_k».proof.Proof.Gen.KvpRefIdeal.Read
public import proofs.«01_k».proof.Proof.Gen.Rnorm
public import proofs.«01_k».proof.Proof.Gen.RnormIdeal
public import proofs.«01_k».proof.Proof.Gen.RnormRefIdeal
public import proofs.«01_k».proof.Proof.Gen.RnormIdeal.Value
public import proofs.«01_k».proof.Proof.Gen.RnormRefIdeal.Run
public import proofs.«01_k».proof.Proof.Gen.RnormRefIdeal.Read
public import proofs.«01_k».proof.Proof.Gen.Mid
public import proofs.«01_k».proof.Proof.Gen.MidIdeal
public import proofs.«01_k».proof.Proof.Gen.MidRefIdeal
public import proofs.«01_k».proof.Proof.Gen.MidIdeal.Value
public import proofs.«01_k».proof.Proof.Gen.MidRefIdeal.Run
public import proofs.«01_k».proof.Proof.Gen.MidRefIdeal.Read
public import proofs.«01_k».proof.Proof.Gen.Dwout.Frame
public import proofs.«01_k».proof.Proof.Gen.DwoutIdeal.Frame
public import proofs.«01_k».proof.Proof.Gen.Dyout.Frame
public import proofs.«01_k».proof.Proof.Gen.DyoutIdeal.Frame
public import proofs.«01_k».proof.Proof.Gen.Dosb.Frame
public import proofs.«01_k».proof.Proof.Gen.DosbIdeal.Frame
public import proofs.«01_k».proof.Proof.Gen.Dwin.Frame
public import proofs.«01_k».proof.Proof.Gen.DwinIdeal.Frame
public import proofs.«01_k».proof.Proof.Gen.Dhin.Frame
public import proofs.«01_k».proof.Proof.Gen.DhinIdeal.Frame
public import proofs.«01_k».proof.Proof.Gen.Dwkv.Frame
public import proofs.«01_k».proof.Proof.Gen.DwkvIdeal.Frame
public import proofs.«01_k».proof.Proof.Gen.Dhkv.Frame
public import proofs.«01_k».proof.Proof.Gen.DhkvIdeal.Frame
public import proofs.«01_k».proof.Proof.Gen.Up.Frame
public import proofs.«01_k».proof.Proof.Gen.UpIdeal.Frame
public import proofs.«01_k».proof.Proof.Gen.Down.Frame
public import proofs.«01_k».proof.Proof.Gen.DownIdeal.Frame
public import proofs.«01_k».proof.Proof.Gen.Inp.Frame
public import proofs.«01_k».proof.Proof.Gen.InpIdeal.Frame
public import proofs.«01_k».proof.Proof.Gen.Outp.Frame
public import proofs.«01_k».proof.Proof.Gen.OutpIdeal.Frame
public import proofs.«01_k».proof.Proof.Gen.Qp.Frame
public import proofs.«01_k».proof.Proof.Gen.QpIdeal.Frame
public import proofs.«01_k».proof.Proof.Gen.Kvp.Frame
public import proofs.«01_k».proof.Proof.Gen.KvpIdeal.Frame
public import proofs.«01_k».proof.Proof.Gen.Rnorm.Frame
public import proofs.«01_k».proof.Proof.Gen.RnormIdeal.Frame
public import proofs.«01_k».proof.Proof.Gen.Mid.Frame
public import proofs.«01_k».proof.Proof.Gen.MidIdeal.Frame
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnRefIdeal
public import proofs.«01_k».proof.Proof.Gen.AttnRefIdeal.Read
public import proofs.«01_k».proof.Proof.Gen.AttnRefIdeal.Run
public import proofs.«01_k».proof.Proof.Pr.Dwout
public import proofs.«01_k».proof.Proof.Pr.Dyout
public import proofs.«01_k».proof.Proof.Pr.Dosb
public import proofs.«01_k».proof.Proof.Pr.Dwin
public import proofs.«01_k».proof.Proof.Pr.Dhin
public import proofs.«01_k».proof.Proof.Pr.Dwkv
public import proofs.«01_k».proof.Proof.Pr.Dhkv
public import proofs.«01_k».proof.Proof.Pr.Up
public import proofs.«01_k».proof.Proof.Pr.Down
public import proofs.«01_k».proof.Proof.Pr.Inp
public import proofs.«01_k».proof.Proof.Pr.Outp
public import proofs.«01_k».proof.Proof.Pr.Qp
public import proofs.«01_k».proof.Proof.Pr.Kvp
public import proofs.«01_k».proof.Proof.Pr.Rnorm
public import proofs.«01_k».proof.Proof.Pr.Qnorm
public import proofs.«01_k».proof.Proof.Pr.Kvpost
public import proofs.«01_k».proof.Proof.Pr.Dqnorm
public import proofs.«01_k».proof.Proof.Pr.Dkvpost
public import proofs.«01_k».proof.Proof.Pr.Loss
public import proofs.«01_k».proof.Proof.Pr.Gpost
public import proofs.«01_k».proof.Proof.Pr.Adam
public import proofs.«01_k».proof.Proof.Pr.Adamr
public import proofs.«01_k».proof.Proof.Pr.Mid
public import proofs.«01_k».proof.Proof.Fi.Frames
public import proofs.«01_k».proof.Proof.Va.FwdSame
public import Idealize.ShloMosaic.Adequacy
public import Idealize.ShloMosaic.Init
public import proofs.«01_k».proof.Proof.Gen.Qnorm
public import proofs.«01_k».proof.Proof.Gen.QnormIdeal
public import proofs.«01_k».proof.Proof.Gen.QnormRefIdeal
public import proofs.«01_k».proof.Proof.Gen.QnormIdeal.Value
public import proofs.«01_k».proof.Proof.Gen.QnormRefIdeal.Run
public import proofs.«01_k».proof.Proof.Gen.QnormRefIdeal.Read
public import proofs.«01_k».proof.Proof.Gen.Qnorm.Frame
public import proofs.«01_k».proof.Proof.Gen.QnormIdeal.Frame
public import proofs.«01_k».proof.Proof.Gen.Kvpost
public import proofs.«01_k».proof.Proof.Gen.KvpostIdeal
public import proofs.«01_k».proof.Proof.Gen.KvpostRefIdeal
public import proofs.«01_k».proof.Proof.Gen.KvpostIdeal.Value
public import proofs.«01_k».proof.Proof.Gen.KvpostRefIdeal.Run
public import proofs.«01_k».proof.Proof.Gen.KvpostRefIdeal.Read
public import proofs.«01_k».proof.Proof.Gen.Kvpost.Frame
public import proofs.«01_k».proof.Proof.Gen.KvpostIdeal.Frame
public import proofs.«01_k».proof.Proof.Gen.Dqnorm
public import proofs.«01_k».proof.Proof.Gen.Dqnorm.Skeleton
public import proofs.«01_k».proof.Proof.Gen.Dqnorm.Launch
public import proofs.«01_k».proof.Proof.Gen.Dqnorm.Points
public import proofs.«01_k».proof.Proof.Gen.Dqnorm.Frame
public import proofs.«01_k».proof.Proof.Gen.DqnormIdeal
public import proofs.«01_k».proof.Proof.Gen.DqnormIdeal.Skeleton
public import proofs.«01_k».proof.Proof.Gen.DqnormIdeal.Launch
public import proofs.«01_k».proof.Proof.Gen.DqnormIdeal.Points
public import proofs.«01_k».proof.Proof.Gen.DqnormIdeal.Frame
public import proofs.«01_k».proof.Proof.Gen.DqnormRefIdeal
public import proofs.«01_k».proof.Proof.Gen.DqnormIdeal.Value
public import proofs.«01_k».proof.Proof.Gen.DqnormRefIdeal.Run
public import proofs.«01_k».proof.Proof.Gen.DqnormRefIdeal.Read
public import proofs.«01_k».proof.Proof.Gen.Dkvpost
public import proofs.«01_k».proof.Proof.Gen.Dkvpost.Skeleton
public import proofs.«01_k».proof.Proof.Gen.Dkvpost.Launch
public import proofs.«01_k».proof.Proof.Gen.Dkvpost.Points
public import proofs.«01_k».proof.Proof.Gen.Dkvpost.Frame
public import proofs.«01_k».proof.Proof.Gen.DkvpostIdeal
public import proofs.«01_k».proof.Proof.Gen.DkvpostIdeal.Skeleton
public import proofs.«01_k».proof.Proof.Gen.DkvpostIdeal.Launch
public import proofs.«01_k».proof.Proof.Gen.DkvpostIdeal.Points
public import proofs.«01_k».proof.Proof.Gen.DkvpostIdeal.Frame
public import proofs.«01_k».proof.Proof.Gen.DkvpostRefIdeal
public import proofs.«01_k».proof.Proof.Gen.DkvpostIdeal.Value
public import proofs.«01_k».proof.Proof.Gen.DkvpostRefIdeal.Run
public import proofs.«01_k».proof.Proof.Gen.DkvpostRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossIdeal.Value
public import proofs.«01_k».proof.Proof.Gen.LossRefIdeal.Run
public import proofs.«01_k».proof.Proof.Gen.LossRefIdeal.Read
public import proofs.«01_k».proof.Proof.Gen.Gpost
public import proofs.«01_k».proof.Proof.Gen.Gpost.Skeleton
public import proofs.«01_k».proof.Proof.Gen.Gpost.Launch
public import proofs.«01_k».proof.Proof.Gen.Gpost.Points
public import proofs.«01_k».proof.Proof.Gen.Gpost.Frame
public import proofs.«01_k».proof.Proof.Gen.GpostIdeal
public import proofs.«01_k».proof.Proof.Gen.GpostIdeal.Skeleton
public import proofs.«01_k».proof.Proof.Gen.GpostIdeal.Launch
public import proofs.«01_k».proof.Proof.Gen.GpostIdeal.Points
public import proofs.«01_k».proof.Proof.Gen.GpostIdeal.Frame
public import proofs.«01_k».proof.Proof.Gen.GpostRefIdeal
public import proofs.«01_k».proof.Proof.Gen.GpostIdeal.Value
public import proofs.«01_k».proof.Proof.Gen.GpostRefIdeal.Run
public import proofs.«01_k».proof.Proof.Gen.GpostRefIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamIdeal.Value
public import proofs.«01_k».proof.Proof.Gen.AdamRefIdeal.Run
public import proofs.«01_k».proof.Proof.Gen.AdamRefIdeal.Read
public import proofs.«01_k».proof.Proof.Gen.Adamr
public import proofs.«01_k».proof.Proof.Gen.Adamr.Skeleton
public import proofs.«01_k».proof.Proof.Gen.Adamr.Launch
public import proofs.«01_k».proof.Proof.Gen.Adamr.Points
public import proofs.«01_k».proof.Proof.Gen.Adamr.Frame
public import proofs.«01_k».proof.Proof.Gen.AdamrIdeal
public import proofs.«01_k».proof.Proof.Gen.AdamrIdeal.Skeleton
public import proofs.«01_k».proof.Proof.Gen.AdamrIdeal.Launch
public import proofs.«01_k».proof.Proof.Gen.AdamrIdeal.Points
public import proofs.«01_k».proof.Proof.Gen.AdamrIdeal.Frame
public import proofs.«01_k».proof.Proof.Gen.AdamrRefIdeal
public import proofs.«01_k».proof.Proof.Gen.AdamrIdeal.Value
public import proofs.«01_k».proof.Proof.Gen.AdamrRefIdeal.Run
public import proofs.«01_k».proof.Proof.Gen.AdamrRefIdeal.Read

@[expose] public section

noncomputable section

namespace Cert.Proof

open Idealize.ShloMosaic Idealize.SL.Sem

/-- A program that has no semaphores, and whose results and arguments end as `Q` says, ends with its arguments as they
    began and no counter raised. -/
theorem quiet {nD : Nat} {τ : Topo} {sig : RefSig} {Λ : Labels} {D : Defs nD τ sig (Elt Ideal) Λ} {M s} {Q A : (PUnit × MemSt nD τ sig (Elt Ideal)) → Dev nD → Prop}
    (h : θ_run D M s fun r => ∀ c, Q r c) (none : sig.nSem + sig.nDmaSem = 0) (hQ : ∀ {r c}, Q r c → A r c) :
    θ_run D M s fun r => (∀ c, A r c) ∧ r.2.sem = fun _ => 0 :=
  (θ_run D M s).mono (fun r h => ⟨fun c => hQ (h c), sem_eq_zero_of_no_sems none r.2⟩) h

theorem claim : Cert.Claim := ⟨Cert.Kernel.Gen.facts,
  Cert.KernelIdeal.Gen.facts,
  Cert.ReferenceIdeal.Gen.facts,
  Cert.Dwdown.Gen.facts,
  Cert.DwdownIdeal.Gen.facts,
  Cert.DwdownRefIdeal.Gen.facts,
  Cert.Dact.Gen.facts,
  Cert.DactIdeal.Gen.facts,
  Cert.DactRefIdeal.Gen.facts,
  Cert.Dmid.Gen.facts,
  Cert.DmidIdeal.Gen.facts,
  Cert.DmidRefIdeal.Gen.facts,
  Cert.Dconv.Gen.facts,
  Cert.DconvIdeal.Gen.facts,
  Cert.DconvRefIdeal.Gen.facts,
  Cert.Dwup.Gen.facts,
  Cert.DwupIdeal.Gen.facts,
  Cert.DwupRefIdeal.Gen.facts,
  Cert.Dh.Gen.facts,
  Cert.DhIdeal.Gen.facts,
  Cert.DhRefIdeal.Gen.facts,
  Cert.Dnorm.Gen.facts,
  Cert.DnormIdeal.Gen.facts,
  Cert.DnormRefIdeal.Gen.facts,
  Cert.Dwout.Gen.facts,
  Cert.DwoutIdeal.Gen.facts,
  Cert.DwoutRefIdeal.Gen.facts,
  Cert.Dyout.Gen.facts,
  Cert.DyoutIdeal.Gen.facts,
  Cert.DyoutRefIdeal.Gen.facts,
  Cert.Dosb.Gen.facts,
  Cert.DosbIdeal.Gen.facts,
  Cert.DosbRefIdeal.Gen.facts,
  Cert.Dwin.Gen.facts,
  Cert.DwinIdeal.Gen.facts,
  Cert.DwinRefIdeal.Gen.facts,
  Cert.Dhin.Gen.facts,
  Cert.DhinIdeal.Gen.facts,
  Cert.DhinRefIdeal.Gen.facts,
  Cert.Dwkv.Gen.facts,
  Cert.DwkvIdeal.Gen.facts,
  Cert.DwkvRefIdeal.Gen.facts,
  Cert.Dhkv.Gen.facts,
  Cert.DhkvIdeal.Gen.facts,
  Cert.DhkvRefIdeal.Gen.facts,
  Cert.Up.Gen.facts,
  Cert.UpIdeal.Gen.facts,
  Cert.UpRefIdeal.Gen.facts,
  Cert.Down.Gen.facts,
  Cert.DownIdeal.Gen.facts,
  Cert.DownRefIdeal.Gen.facts,
  Cert.Inp.Gen.facts,
  Cert.InpIdeal.Gen.facts,
  Cert.InpRefIdeal.Gen.facts,
  Cert.Outp.Gen.facts,
  Cert.OutpIdeal.Gen.facts,
  Cert.OutpRefIdeal.Gen.facts,
  Cert.Qp.Gen.facts,
  Cert.QpIdeal.Gen.facts,
  Cert.QpRefIdeal.Gen.facts,
  Cert.Kvp.Gen.facts,
  Cert.KvpIdeal.Gen.facts,
  Cert.KvpRefIdeal.Gen.facts,
  Cert.Rnorm.Gen.facts,
  Cert.RnormIdeal.Gen.facts,
  Cert.RnormRefIdeal.Gen.facts,
  Cert.Mid.Gen.facts,
  Cert.MidIdeal.Gen.facts,
  Cert.MidRefIdeal.Gen.facts,
  Cert.Attn.Gen.facts,
  Cert.AttnIdeal.Gen.facts,
  Cert.AttnRefIdeal.Gen.facts,
  Cert.Qnorm.Gen.facts,
  Cert.QnormIdeal.Gen.facts,
  Cert.QnormRefIdeal.Gen.facts,
  Cert.Kvpost.Gen.facts,
  Cert.KvpostIdeal.Gen.facts,
  Cert.KvpostRefIdeal.Gen.facts,
  Cert.Dqnorm.Gen.facts,
  Cert.DqnormIdeal.Gen.facts,
  Cert.DqnormRefIdeal.Gen.facts,
  Cert.Dkvpost.Gen.facts,
  Cert.DkvpostIdeal.Gen.facts,
  Cert.DkvpostRefIdeal.Gen.facts,
  Cert.Loss.Gen.facts,
  Cert.LossIdeal.Gen.facts,
  Cert.LossRefIdeal.Gen.facts,
  Cert.Gpost.Gen.facts,
  Cert.GpostIdeal.Gen.facts,
  Cert.GpostRefIdeal.Gen.facts,
  Cert.Adam.Gen.facts,
  Cert.AdamIdeal.Gen.facts,
  Cert.AdamRefIdeal.Gen.facts,
  Cert.Adamr.Gen.facts,
  Cert.AdamrIdeal.Gen.facts,
  Cert.AdamrRefIdeal.Gen.facts,
  Sb.finite_facts,
  Dmid.finite_facts,
  Sb.frame_kernel,
  Sb.frame_ideal,
  Va.frame_ideal_finite,
  Sb.frame_reference,
  Va.frame_reference_finite,
  fun m g _ => Cert.Dwdown.Gen.frame m g,
  fun m g _ => Cert.DwdownIdeal.Gen.frame m g,
  fun m g _ => quiet (Cert.DwdownRefIdeal.Value.run m g) (by decide) fun h => h.2,
  fun m g _ => Cert.Dact.Gen.frame m g,
  fun m g _ => Cert.DactIdeal.Gen.frame m g,
  fun m g _ => quiet (Cert.DactRefIdeal.Value.run m g) (by decide) fun h => h.2,
  fun m g _ => Cert.Dmid.Gen.frame m g,
  fun m g _ => Cert.DmidIdeal.Gen.frame m g,
  fun m g _ => Cert.DmidIdeal.Gen.frame m g,
  fun m g _ => quiet (Cert.DmidRefIdeal.Value.run m g) (by decide) fun h => h.2,
  fun m g _ => quiet (Cert.DmidRefIdeal.Value.run m g) (by decide) fun h => h.2,
  fun m g _ => Cert.Dconv.Gen.frame m g,
  fun m g _ => Cert.DconvIdeal.Gen.frame m g,
  fun m g _ => quiet (Cert.DconvRefIdeal.Value.run m g) (by decide) fun h => h.2.2,
  fun m g _ => Cert.Dwup.Gen.frame m g,
  fun m g _ => Cert.DwupIdeal.Gen.frame m g,
  fun m g _ => quiet (Cert.DwupRefIdeal.Value.run m g) (by decide) fun h => h.2,
  fun m g _ => Cert.Dh.Gen.frame m g,
  fun m g _ => Cert.DhIdeal.Gen.frame m g,
  fun m g _ => quiet (Cert.DhRefIdeal.Value.run m g) (by decide) fun h => h.2,
  fun m g _ => Cert.Dnorm.Gen.frame m g,
  fun m g _ => Cert.DnormIdeal.Gen.frame m g,
  fun m g _ => quiet (Cert.DnormRefIdeal.Value.run m g) (by decide) fun h => h.2.2.2,
  fun m g _ => Cert.Dwout.Gen.frame m g,
  fun m g _ => Cert.DwoutIdeal.Gen.frame m g,
  fun m g _ => quiet (Cert.DwoutRefIdeal.Value.run m g) (by decide) fun h => h.2,
  fun m g _ => Cert.Dyout.Gen.frame m g,
  fun m g _ => Cert.DyoutIdeal.Gen.frame m g,
  fun m g _ => quiet (Cert.DyoutRefIdeal.Value.run m g) (by decide) fun h => h.2,
  fun m g _ => Cert.Dosb.Gen.frame m g,
  fun m g _ => Cert.DosbIdeal.Gen.frame m g,
  fun m g _ => quiet (Cert.DosbRefIdeal.Value.run m g) (by decide) fun h => h.2,
  fun m g _ => Cert.Dwin.Gen.frame m g,
  fun m g _ => Cert.DwinIdeal.Gen.frame m g,
  fun m g _ => quiet (Cert.DwinRefIdeal.Value.run m g) (by decide) fun h => h.2,
  fun m g _ => Cert.Dhin.Gen.frame m g,
  fun m g _ => Cert.DhinIdeal.Gen.frame m g,
  fun m g _ => quiet (Cert.DhinRefIdeal.Value.run m g) (by decide) fun h => h.2,
  fun m g _ => Cert.Dwkv.Gen.frame m g,
  fun m g _ => Cert.DwkvIdeal.Gen.frame m g,
  fun m g _ => quiet (Cert.DwkvRefIdeal.Value.run m g) (by decide) fun h => h.2,
  fun m g _ => Cert.Dhkv.Gen.frame m g,
  fun m g _ => Cert.DhkvIdeal.Gen.frame m g,
  fun m g _ => quiet (Cert.DhkvRefIdeal.Value.run m g) (by decide) fun h => h.2,
  fun m g _ => Cert.Up.Gen.frame m g,
  fun m g _ => Cert.UpIdeal.Gen.frame m g,
  fun m g _ => quiet (Cert.UpRefIdeal.Value.run m g) (by decide) fun h => h.2,
  fun m g _ => Cert.Down.Gen.frame m g,
  fun m g _ => Cert.DownIdeal.Gen.frame m g,
  fun m g _ => quiet (Cert.DownRefIdeal.Value.run m g) (by decide) fun h => h.2,
  fun m g _ => Cert.Inp.Gen.frame m g,
  fun m g _ => Cert.InpIdeal.Gen.frame m g,
  fun m g _ => quiet (Cert.InpRefIdeal.Value.run m g) (by decide) fun h => h.2,
  fun m g _ => Cert.Outp.Gen.frame m g,
  fun m g _ => Cert.OutpIdeal.Gen.frame m g,
  fun m g _ => quiet (Cert.OutpRefIdeal.Value.run m g) (by decide) fun h => h.2,
  fun m g _ => Cert.Qp.Gen.frame m g,
  fun m g _ => Cert.QpIdeal.Gen.frame m g,
  fun m g _ => quiet (Cert.QpRefIdeal.Value.run m g) (by decide) fun h => h.2,
  fun m g _ => Cert.Kvp.Gen.frame m g,
  fun m g _ => Cert.KvpIdeal.Gen.frame m g,
  fun m g _ => quiet (Cert.KvpRefIdeal.Value.run m g) (by decide) fun h => h.2,
  fun m g _ => Cert.Rnorm.Gen.frame m g,
  fun m g _ => Cert.RnormIdeal.Gen.frame m g,
  fun m g _ => quiet (Cert.RnormRefIdeal.Value.run m g) (by decide) fun h => h.2,
  fun m g _ => Cert.Mid.Gen.frame m g,
  fun m g _ => Cert.MidIdeal.Gen.frame m g,
  fun m g _ => quiet (Cert.MidRefIdeal.Value.run m g) (by decide) fun h => h.2,
  Fi.frame_kernel,
  Fi.frame_ideal,
  Fi.frame_reference,
  fun m g _ => Cert.Qnorm.Gen.frame m g,
  fun m g _ => Cert.QnormIdeal.Gen.frame m g,
  fun m g _ => quiet (Cert.QnormRefIdeal.Value.run m g) (by decide) fun h => h.2,
  fun m g _ => Cert.Kvpost.Gen.frame m g,
  fun m g _ => Cert.KvpostIdeal.Gen.frame m g,
  fun m g _ => quiet (Cert.KvpostRefIdeal.Value.run m g) (by decide) fun h => h.2.2,
  fun m g _ => Cert.Dqnorm.Gen.frame m g,
  fun m g _ => Cert.DqnormIdeal.Gen.frame m g,
  fun m g _ => quiet (Cert.DqnormRefIdeal.Value.run m g) (by decide) fun h => h.2.2,
  fun m g _ => Cert.Dkvpost.Gen.frame m g,
  fun m g _ => Cert.DkvpostIdeal.Gen.frame m g,
  fun m g _ => quiet (Cert.DkvpostRefIdeal.Value.run m g) (by decide) fun h => h.2.2,
  fun m g _ => Cert.Loss.Gen.frame m g,
  fun m g _ => Cert.LossIdeal.Gen.frame m g,
  fun m g _ => quiet (Cert.LossRefIdeal.Value.run m g) (by decide) fun h => h.2.2.2,
  fun m g _ => Cert.Gpost.Gen.frame m g,
  fun m g _ => Cert.GpostIdeal.Gen.frame m g,
  fun m g _ => quiet (Cert.GpostRefIdeal.Value.run m g) (by decide) fun h => h.2,
  fun m g _ => Cert.Adam.Gen.frame m g,
  fun m g _ => Cert.AdamIdeal.Gen.frame m g,
  fun m g _ => quiet (Cert.AdamRefIdeal.Value.run m g) (by decide) fun h => h.2.2.2.2,
  fun m g _ => Cert.Adamr.Gen.frame m g,
  fun m g _ => Cert.AdamrIdeal.Gen.frame m g,
  fun m g _ => quiet (Cert.AdamrRefIdeal.Value.run m g) (by decide) fun h => h.2.2.2.2,
  Sb.keeps,
  Va.same,
  trivial,
  Dwdown.same,
  trivial,
  Dact.same,
  trivial,
  Dmid.same,
  trivial,
  Dconv.same,
  trivial,
  Dwup.same,
  trivial,
  Dh.same,
  trivial,
  Dnorm.same,
  trivial,
  Dwout.same,
  trivial,
  Dyout.same,
  trivial,
  Dosb.same,
  trivial,
  Dwin.same,
  trivial,
  Dhin.same,
  trivial,
  Dwkv.same,
  trivial,
  Dhkv.same,
  trivial,
  Up.same,
  trivial,
  Down.same,
  trivial,
  Inp.same,
  trivial,
  Outp.same,
  trivial,
  Qp.same,
  trivial,
  Kvp.same,
  trivial,
  Rnorm.same,
  trivial,
  Mid.same,
  Fi.keeps,
  Va.same_fwd,
  trivial,
  Qnorm.same,
  trivial,
  Kvpost.same,
  trivial,
  Dqnorm.same,
  trivial,
  Dkvpost.same,
  trivial,
  Loss.same,
  trivial,
  Gpost.same,
  trivial,
  Adam.same,
  trivial,
  Adamr.same⟩

end Cert.Proof

end
